-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InD (m : (ℓ : Loc Cert.InD.nD Cert.InD.τ Cert.InD.sig) → Buf (Elt Bits) ℓ) : Prop :=
  True

def Pre_InDIdeal (m : (ℓ : Loc Cert.InDIdeal.nD Cert.InDIdeal.τ Cert.InDIdeal.sig) → Buf (Elt Ideal) ℓ) : Prop :=
  True

def Pre_InDRefIdeal (m : (ℓ : Loc Cert.InDRefIdeal.nD Cert.InDRefIdeal.τ Cert.InDRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutD (m : (ℓ : Loc Cert.OutD.nD Cert.OutD.τ Cert.OutD.sig) → Buf (Elt Bits) ℓ) : Prop :=
  True

def Pre_OutDIdeal (m : (ℓ : Loc Cert.OutDIdeal.nD Cert.OutDIdeal.τ Cert.OutDIdeal.sig) → Buf (Elt Ideal) ℓ) : Prop :=
  True

def Pre_OutDRefIdeal (m : (ℓ : Loc Cert.OutDRefIdeal.nD Cert.OutDRefIdeal.τ Cert.OutDRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qkv [hPre_finite_qkv : Cert.Pre_finite_qkv.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qkv.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_qkv [hPre_finite_qkv : Cert.Pre_finite_qkv.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_qkv.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1))) = (fun _ => 1#1)

def Pre_InW0 (m : (ℓ : Loc Cert.InW0.nD Cert.InW0.τ Cert.InW0.sig) → Buf (Elt Bits) ℓ) : Prop :=
  True

def Pre_InW0Ideal (m : (ℓ : Loc Cert.InW0Ideal.nD Cert.InW0Ideal.τ Cert.InW0Ideal.sig) → Buf (Elt Ideal) ℓ) : Prop :=
  True

def Pre_InW0RefIdeal (m : (ℓ : Loc Cert.InW0RefIdeal.nD Cert.InW0RefIdeal.τ Cert.InW0RefIdeal.sig) → Buf (Elt Ideal) ℓ) : Prop :=
  True

def Pre_OutW0 (m : (ℓ : Loc Cert.OutW0.nD Cert.OutW0.τ Cert.OutW0.sig) → Buf (Elt Bits) ℓ) : Prop :=
  True

def Pre_OutW0Ideal (m : (ℓ : Loc Cert.OutW0Ideal.nD Cert.OutW0Ideal.τ Cert.OutW0Ideal.sig) → Buf (Elt Ideal) ℓ) : Prop :=
  True

def Pre_OutW0RefIdeal (m : (ℓ : Loc Cert.OutW0RefIdeal.nD Cert.OutW0RefIdeal.τ Cert.OutW0RefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_AdMod (m : (ℓ : Loc Cert.AdMod.nD Cert.AdMod.τ Cert.AdMod.sig) → Buf (Elt Bits) ℓ) : Prop :=
  True

def Pre_AdModIdeal (m : (ℓ : Loc Cert.AdModIdeal.nD Cert.AdModIdeal.τ Cert.AdModIdeal.sig) → Buf (Elt Ideal) ℓ) : Prop :=
  True

def Pre_AdModRefIdeal (m : (ℓ : Loc Cert.AdModRefIdeal.nD Cert.AdModRefIdeal.τ Cert.AdModRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdGlu (m : (ℓ : Loc Cert.AdGlu.nD Cert.AdGlu.τ Cert.AdGlu.sig) → Buf (Elt Bits) ℓ) : Prop :=
  True

def Pre_AdGluIdeal (m : (ℓ : Loc Cert.AdGluIdeal.nD Cert.AdGluIdeal.τ Cert.AdGluIdeal.sig) → Buf (Elt Ideal) ℓ) : Prop :=
  True

def Pre_AdGluRefIdeal (m : (ℓ : Loc Cert.AdGluRefIdeal.nD Cert.AdGluRefIdeal.τ Cert.AdGluRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite_ada [hPre_finite_ada : Cert.Pre_finite_ada.Facts] (m : (ℓ : Loc Cert.AdaIdeal.nD Cert.AdaIdeal.τ Cert.AdaIdeal.sig) → Buf (Elt Ideal) ℓ) : Prop :=
  ∀ c : Dev Cert.AdaIdeal.nD,
    (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))) = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_finite_ada [hPre_finite_ada : Cert.Pre_finite_ada.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))) = (fun _ => 1#1)

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InD [hInD : Cert.InD.Facts] : Prop :=
  ∀ (m : (ℓ : Loc Cert.InD.nD Cert.InD.τ Cert.InD.sig) → Buf (Elt Bits) ℓ) (g : Dev Cert.InD.nD → PrngReg), Pre_InD m →
    θ_run (Cert.InD.defs (F := Bits)) (onTc (τ := Cert.InD.τ) (Cert.InD.main (F := Bits))) ⟨m, fun _ => 0, g⟩ (fun r => (∀ c : Dev Cert.InD.nD,
      r.2.mem ((c.tc : Thread Cert.InD.nD Cert.InD.τ).loc Cert.InD.main_arg0) = m ((c.tc : Thread Cert.InD.nD Cert.InD.τ).loc Cert.InD.main_arg0)
      ∧ r.2.mem ((c.tc : Thread Cert.InD.nD Cert.InD.τ).loc Cert.InD.main_arg1) = m ((c.tc : Thread Cert.InD.nD Cert.InD.τ).loc Cert.InD.main_arg1))
      ∧ r.2.sem = fun _ => 0)

def quiescent_InDIdeal [hInDIdeal : Cert.InDIdeal.Facts] : Prop :=
  ∀ (m : (ℓ : Loc Cert.InDIdeal.nD Cert.InDIdeal.τ Cert.InDIdeal.sig) → Buf (Elt Ideal) ℓ) (g : Dev Cert.InDIdeal.nD → PrngReg), Pre_InDIdeal m →
    θ_run (Cert.InDIdeal.defs (F := Ideal)) (onTc (τ := Cert.InDIdeal.τ) (Cert.InDIdeal.main (F := Ideal))) ⟨m, fun _ => 0, g⟩ (fun r => (∀ c : Dev Cert.InDIdeal.nD,
      r.2.mem ((c.tc : Thread Cert.InDIdeal.nD Cert.InDIdeal.τ).loc Cert.InDIdeal.main_arg0) = m ((c.tc : Thread Cert.InDIdeal.nD Cert.InDIdeal.τ).loc Cert.InDIdeal.main_arg0)
      ∧ r.2.mem ((c.tc : Thread Cert.InDIdeal.nD Cert.InDIdeal.τ).loc Cert.InDIdeal.main_arg1) = m ((c.tc : Thread Cert.InDIdeal.nD Cert.InDIdeal.τ).loc Cert.InDIdeal.main_arg1))
      ∧ r.2.sem = fun _ => 0)

def quiescent_InDRefIdeal [hInDRefIdeal : Cert.InDRefIdeal.Facts] : Prop :=
  ∀ (m : (ℓ : Loc Cert.InDRefIdeal.nD Cert.InDRefIdeal.τ Cert.InDRefIdeal.sig) → Buf (Elt Ideal) ℓ) (g : Dev Cert.InDRefIdeal.nD → PrngReg), Pre_InDRefIdeal m →
    θ_run (Cert.InDRefIdeal.defs (F := Ideal)) (onTc (τ := Cert.InDRefIdeal.τ) (Cert.InDRefIdeal.main (F := Ideal))) ⟨m, fun _ => 0, g⟩ (fun r => (∀ c : Dev Cert.InDRefIdeal.nD,
      r.2.mem ((c.tc : Thread Cert.InDRefIdeal.nD Cert.InDRefIdeal.τ).loc Cert.InDRefIdeal.main_arg0) = m ((c.tc : Thread Cert.InDRefIdeal.nD Cert.InDRefIdeal.τ).loc Cert.InDRefIdeal.main_arg0)
      ∧ r.2.mem ((c.tc : Thread Cert.InDRefIdeal.nD Cert.InDRefIdeal.τ).loc Cert.InDRefIdeal.main_arg1) = m ((c.tc : Thread Cert.InDRefIdeal.nD Cert.InDRefIdeal.τ).loc Cert.InDRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutD [hOutD : Cert.OutD.Facts] : Prop :=
  ∀ (m : (ℓ : Loc Cert.OutD.nD Cert.OutD.τ Cert.OutD.sig) → Buf (Elt Bits) ℓ) (g : Dev Cert.OutD.nD → PrngReg), Pre_OutD m →
    θ_run (Cert.OutD.defs (F := Bits)) (onTc (τ := Cert.OutD.τ) (Cert.OutD.main (F := Bits))) ⟨m, fun _ => 0, g⟩ (fun r => (∀ c : Dev Cert.OutD.nD,
      r.2.mem ((c.tc : Thread Cert.OutD.nD Cert.OutD.τ).loc Cert.OutD.main_arg0) = m ((c.tc : Thread Cert.OutD.nD Cert.OutD.τ).loc Cert.OutD.main_arg0)
      ∧ r.2.mem ((c.tc : Thread Cert.OutD.nD Cert.OutD.τ).loc Cert.OutD.main_arg1) = m ((c.tc : Thread Cert.OutD.nD Cert.OutD.τ).loc Cert.OutD.main_arg1))
      ∧ r.2.sem = fun _ => 0)

def quiescent_OutDIdeal [hOutDIdeal : Cert.OutDIdeal.Facts] : Prop :=
  ∀ (m : (ℓ : Loc Cert.OutDIdeal.nD Cert.OutDIdeal.τ Cert.OutDIdeal.sig) → Buf (Elt Ideal) ℓ) (g : Dev Cert.OutDIdeal.nD → PrngReg), Pre_OutDIdeal m →
    θ_run (Cert.OutDIdeal.defs (F := Ideal)) (onTc (τ := Cert.OutDIdeal.τ) (Cert.OutDIdeal.main (F := Ideal))) ⟨m, fun _ => 0, g⟩ (fun r => (∀ c : Dev Cert.OutDIdeal.nD,
      r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
      ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1))
      ∧ r.2.sem = fun _ => 0)

def quiescent_OutDRefIdeal [hOutDRefIdeal : Cert.OutDRefIdeal.Facts] : Prop :=
  ∀ (m : (ℓ : Loc Cert.OutDRefIdeal.nD Cert.OutDRefIdeal.τ Cert.OutDRefIdeal.sig) → Buf (Elt Ideal) ℓ) (g : Dev Cert.OutDRefIdeal.nD → PrngReg), Pre_OutDRefIdeal m →
    θ_run (Cert.OutDRefIdeal.defs (F := Ideal)) (onTc (τ := Cert.OutDRefIdeal.τ) (Cert.OutDRefIdeal.main (F := Ideal))) ⟨m, fun _ => 0, g⟩ (fun r => (∀ c : Dev Cert.OutDRefIdeal.nD,
      r.2.mem ((c.tc : Thread Cert.OutDRefIdeal.nD Cert.OutDRefIdeal.τ).loc Cert.OutDRefIdeal.main_arg0) = m ((c.tc : Thread Cert.OutDRefIdeal.nD Cert.OutDRefIdeal.τ).loc Cert.OutDRefIdeal.main_arg0)
      ∧ r.2.mem ((c.tc : Thread Cert.OutDRefIdeal.nD Cert.OutDRefIdeal.τ).loc Cert.OutDRefIdeal.main_arg1) = m ((c.tc : Thread Cert.OutDRefIdeal.nD Cert.OutDRefIdeal.τ).loc Cert.OutDRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdIdeal_pre_finite_qkv [hFwdIdeal : Cert.FwdIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qkv m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_FwdRefIdeal_pre_finite_qkv [hFwdRefIdeal : Cert.FwdRefIdeal.Facts] [hPre_finite_qkv : Cert.Pre_finite_qkv.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_qkv m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_InW0 [hInW0 : Cert.InW0.Facts] : Prop :=
  ∀ (m : (ℓ : Loc Cert.InW0.nD Cert.InW0.τ Cert.InW0.sig) → Buf (Elt Bits) ℓ) (g : Dev Cert.InW0.nD → PrngReg), Pre_InW0 m →
    θ_run (Cert.InW0.defs (F := Bits)) (onTc (τ := Cert.InW0.τ) (Cert.InW0.main (F := Bits))) ⟨m, fun _ => 0, g⟩ (fun r => (∀ c : Dev Cert.InW0.nD,
      r.2.mem ((c.tc : Thread Cert.InW0.nD Cert.InW0.τ).loc Cert.InW0.main_arg0) = m ((c.tc : Thread Cert.InW0.nD Cert.InW0.τ).loc Cert.InW0.main_arg0)
      ∧ r.2.mem ((c.tc : Thread Cert.InW0.nD Cert.InW0.τ).loc Cert.InW0.main_arg1) = m ((c.tc : Thread Cert.InW0.nD Cert.InW0.τ).loc Cert.InW0.main_arg1)
      ∧ r.2.mem ((c.tc : Thread Cert.InW0.nD Cert.InW0.τ).loc Cert.InW0.main_arg2) = m ((c.tc : Thread Cert.InW0.nD Cert.InW0.τ).loc Cert.InW0.main_arg2))
      ∧ r.2.sem = fun _ => 0)

def quiescent_InW0Ideal [hInW0Ideal : Cert.InW0Ideal.Facts] : Prop :=
  ∀ (m : (ℓ : Loc Cert.InW0Ideal.nD Cert.InW0Ideal.τ Cert.InW0Ideal.sig) → Buf (Elt Ideal) ℓ) (g : Dev Cert.InW0Ideal.nD → PrngReg), Pre_InW0Ideal m →
    θ_run (Cert.InW0Ideal.defs (F := Ideal)) (onTc (τ := Cert.InW0Ideal.τ) (Cert.InW0Ideal.main (F := Ideal))) ⟨m, fun _ => 0, g⟩ (fun r => (∀ c : Dev Cert.InW0Ideal.nD,
      r.2.mem ((c.tc : Thread Cert.InW0Ideal.nD Cert.InW0Ideal.τ).loc Cert.InW0Ideal.main_arg0) = m ((c.tc : Thread Cert.InW0Ideal.nD Cert.InW0Ideal.τ).loc Cert.InW0Ideal.main_arg0)
      ∧ r.2.mem ((c.tc : Thread Cert.InW0Ideal.nD Cert.InW0Ideal.τ).loc Cert.InW0Ideal.main_arg1) = m ((c.tc : Thread Cert.InW0Ideal.nD Cert.InW0Ideal.τ).loc Cert.InW0Ideal.main_arg1)
      ∧ r.2.mem ((c.tc : Thread Cert.InW0Ideal.nD Cert.InW0Ideal.τ).loc Cert.InW0Ideal.main_arg2) = m ((c.tc : Thread Cert.InW0Ideal.nD Cert.InW0Ideal.τ).loc Cert.InW0Ideal.main_arg2))
      ∧ r.2.sem = fun _ => 0)

def quiescent_InW0RefIdeal [hInW0RefIdeal : Cert.InW0RefIdeal.Facts] : Prop :=
  ∀ (m : (ℓ : Loc Cert.InW0RefIdeal.nD Cert.InW0RefIdeal.τ Cert.InW0RefIdeal.sig) → Buf (Elt Ideal) ℓ) (g : Dev Cert.InW0RefIdeal.nD → PrngReg), Pre_InW0RefIdeal m →
    θ_run (Cert.InW0RefIdeal.defs (F := Ideal)) (onTc (τ := Cert.InW0RefIdeal.τ) (Cert.InW0RefIdeal.main (F := Ideal))) ⟨m, fun _ => 0, g⟩ (fun r => (∀ c : Dev Cert.InW0RefIdeal.nD,
      r.2.mem ((c.tc : Thread Cert.InW0RefIdeal.nD Cert.InW0RefIdeal.τ).loc Cert.InW0RefIdeal.main_arg0) = m ((c.tc : Thread Cert.InW0RefIdeal.nD Cert.InW0RefIdeal.τ).loc Cert.InW0RefIdeal.main_arg0)
      ∧ r.2.mem ((c.tc : Thread Cert.InW0RefIdeal.nD Cert.InW0RefIdeal.τ).loc Cert.InW0RefIdeal.main_arg1) = m ((c.tc : Thread Cert.InW0RefIdeal.nD Cert.InW0RefIdeal.τ).loc Cert.InW0RefIdeal.main_arg1)
      ∧ r.2.mem ((c.tc : Thread Cert.InW0RefIdeal.nD Cert.InW0RefIdeal.τ).loc Cert.InW0RefIdeal.main_arg2) = m ((c.tc : Thread Cert.InW0RefIdeal.nD Cert.InW0RefIdeal.τ).loc Cert.InW0RefIdeal.main_arg2))
      ∧ r.2.sem = fun _ => 0)

def quiescent_OutW0 [hOutW0 : Cert.OutW0.Facts] : Prop :=
  ∀ (m : (ℓ : Loc Cert.OutW0.nD Cert.OutW0.τ Cert.OutW0.sig) → Buf (Elt Bits) ℓ) (g : Dev Cert.OutW0.nD → PrngReg), Pre_OutW0 m →
    θ_run (Cert.OutW0.defs (F := Bits)) (onTc (τ := Cert.OutW0.τ) (Cert.OutW0.main (F := Bits))) ⟨m, fun _ => 0, g⟩ (fun r => (∀ c : Dev Cert.OutW0.nD,
      r.2.mem ((c.tc : Thread Cert.OutW0.nD Cert.OutW0.τ).loc Cert.OutW0.main_arg0) = m ((c.tc : Thread Cert.OutW0.nD Cert.OutW0.τ).loc Cert.OutW0.main_arg0)
      ∧ r.2.mem ((c.tc : Thread Cert.OutW0.nD Cert.OutW0.τ).loc Cert.OutW0.main_arg1) = m ((c.tc : Thread Cert.OutW0.nD Cert.OutW0.τ).loc Cert.OutW0.main_arg1)
      ∧ r.2.mem ((c.tc : Thread Cert.OutW0.nD Cert.OutW0.τ).loc Cert.OutW0.main_arg2) = m ((c.tc : Thread Cert.OutW0.nD Cert.OutW0.τ).loc Cert.OutW0.main_arg2))
      ∧ r.2.sem = fun _ => 0)

def quiescent_OutW0Ideal [hOutW0Ideal : Cert.OutW0Ideal.Facts] : Prop :=
  ∀ (m : (ℓ : Loc Cert.OutW0Ideal.nD Cert.OutW0Ideal.τ Cert.OutW0Ideal.sig) → Buf (Elt Ideal) ℓ) (g : Dev Cert.OutW0Ideal.nD → PrngReg), Pre_OutW0Ideal m →
    θ_run (Cert.OutW0Ideal.defs (F := Ideal)) (onTc (τ := Cert.OutW0Ideal.τ) (Cert.OutW0Ideal.main (F := Ideal))) ⟨m, fun _ => 0, g⟩ (fun r => (∀ c : Dev Cert.OutW0Ideal.nD,
      r.2.mem ((c.tc : Thread Cert.OutW0Ideal.nD Cert.OutW0Ideal.τ).loc Cert.OutW0Ideal.main_arg0) = m ((c.tc : Thread Cert.OutW0Ideal.nD Cert.OutW0Ideal.τ).loc Cert.OutW0Ideal.main_arg0)
      ∧ r.2.mem ((c.tc : Thread Cert.OutW0Ideal.nD Cert.OutW0Ideal.τ).loc Cert.OutW0Ideal.main_arg1) = m ((c.tc : Thread Cert.OutW0Ideal.nD Cert.OutW0Ideal.τ).loc Cert.OutW0Ideal.main_arg1)
      ∧ r.2.mem ((c.tc : Thread Cert.OutW0Ideal.nD Cert.OutW0Ideal.τ).loc Cert.OutW0Ideal.main_arg2) = m ((c.tc : Thread Cert.OutW0Ideal.nD Cert.OutW0Ideal.τ).loc Cert.OutW0Ideal.main_arg2))
      ∧ r.2.sem = fun _ => 0)

def quiescent_OutW0RefIdeal [hOutW0RefIdeal : Cert.OutW0RefIdeal.Facts] : Prop :=
  ∀ (m : (ℓ : Loc Cert.OutW0RefIdeal.nD Cert.OutW0RefIdeal.τ Cert.OutW0RefIdeal.sig) → Buf (Elt Ideal) ℓ) (g : Dev Cert.OutW0RefIdeal.nD → PrngReg), Pre_OutW0RefIdeal m →
    θ_run (Cert.OutW0RefIdeal.defs (F := Ideal)) (onTc (τ := Cert.OutW0RefIdeal.τ) (Cert.OutW0RefIdeal.main (F := Ideal))) ⟨m, fun _ => 0, g⟩ (fun r => (∀ c : Dev Cert.OutW0RefIdeal.nD,
      r.2.mem ((c.tc : Thread Cert.OutW0RefIdeal.nD Cert.OutW0RefIdeal.τ).loc Cert.OutW0RefIdeal.main_arg0) = m ((c.tc : Thread Cert.OutW0RefIdeal.nD Cert.OutW0RefIdeal.τ).loc Cert.OutW0RefIdeal.main_arg0)
      ∧ r.2.mem ((c.tc : Thread Cert.OutW0RefIdeal.nD Cert.OutW0RefIdeal.τ).loc Cert.OutW0RefIdeal.main_arg1) = m ((c.tc : Thread Cert.OutW0RefIdeal.nD Cert.OutW0RefIdeal.τ).loc Cert.OutW0RefIdeal.main_arg1)
      ∧ r.2.mem ((c.tc : Thread Cert.OutW0RefIdeal.nD Cert.OutW0RefIdeal.τ).loc Cert.OutW0RefIdeal.main_arg2) = m ((c.tc : Thread Cert.OutW0RefIdeal.nD Cert.OutW0RefIdeal.τ).loc Cert.OutW0RefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_AdMod [hAdMod : Cert.AdMod.Facts] : Prop :=
  ∀ (m : (ℓ : Loc Cert.AdMod.nD Cert.AdMod.τ Cert.AdMod.sig) → Buf (Elt Bits) ℓ) (g : Dev Cert.AdMod.nD → PrngReg), Pre_AdMod m →
    θ_run (Cert.AdMod.defs (F := Bits)) (onTc (τ := Cert.AdMod.τ) (Cert.AdMod.main (F := Bits))) ⟨m, fun _ => 0, g⟩ (fun r => (∀ c : Dev Cert.AdMod.nD,
      r.2.mem ((c.tc : Thread Cert.AdMod.nD Cert.AdMod.τ).loc Cert.AdMod.main_arg0) = m ((c.tc : Thread Cert.AdMod.nD Cert.AdMod.τ).loc Cert.AdMod.main_arg0)
      ∧ r.2.mem ((c.tc : Thread Cert.AdMod.nD Cert.AdMod.τ).loc Cert.AdMod.main_arg1) = m ((c.tc : Thread Cert.AdMod.nD Cert.AdMod.τ).loc Cert.AdMod.main_arg1)
      ∧ r.2.mem ((c.tc : Thread Cert.AdMod.nD Cert.AdMod.τ).loc Cert.AdMod.main_arg2) = m ((c.tc : Thread Cert.AdMod.nD Cert.AdMod.τ).loc Cert.AdMod.main_arg2)
      ∧ r.2.mem ((c.tc : Thread Cert.AdMod.nD Cert.AdMod.τ).loc Cert.AdMod.main_arg3) = m ((c.tc : Thread Cert.AdMod.nD Cert.AdMod.τ).loc Cert.AdMod.main_arg3))
      ∧ r.2.sem = fun _ => 0)

def quiescent_AdModIdeal [hAdModIdeal : Cert.AdModIdeal.Facts] : Prop :=
  ∀ (m : (ℓ : Loc Cert.AdModIdeal.nD Cert.AdModIdeal.τ Cert.AdModIdeal.sig) → Buf (Elt Ideal) ℓ) (g : Dev Cert.AdModIdeal.nD → PrngReg), Pre_AdModIdeal m →
    θ_run (Cert.AdModIdeal.defs (F := Ideal)) (onTc (τ := Cert.AdModIdeal.τ) (Cert.AdModIdeal.main (F := Ideal))) ⟨m, fun _ => 0, g⟩ (fun r => (∀ c : Dev Cert.AdModIdeal.nD,
      r.2.mem ((c.tc : Thread Cert.AdModIdeal.nD Cert.AdModIdeal.τ).loc Cert.AdModIdeal.main_arg0) = m ((c.tc : Thread Cert.AdModIdeal.nD Cert.AdModIdeal.τ).loc Cert.AdModIdeal.main_arg0)
      ∧ r.2.mem ((c.tc : Thread Cert.AdModIdeal.nD Cert.AdModIdeal.τ).loc Cert.AdModIdeal.main_arg1) = m ((c.tc : Thread Cert.AdModIdeal.nD Cert.AdModIdeal.τ).loc Cert.AdModIdeal.main_arg1)
      ∧ r.2.mem ((c.tc : Thread Cert.AdModIdeal.nD Cert.AdModIdeal.τ).loc Cert.AdModIdeal.main_arg2) = m ((c.tc : Thread Cert.AdModIdeal.nD Cert.AdModIdeal.τ).loc Cert.AdModIdeal.main_arg2)
      ∧ r.2.mem ((c.tc : Thread Cert.AdModIdeal.nD Cert.AdModIdeal.τ).loc Cert.AdModIdeal.main_arg3) = m ((c.tc : Thread Cert.AdModIdeal.nD Cert.AdModIdeal.τ).loc Cert.AdModIdeal.main_arg3))
      ∧ r.2.sem = fun _ => 0)

def quiescent_AdModRefIdeal [hAdModRefIdeal : Cert.AdModRefIdeal.Facts] : Prop :=
  ∀ (m : (ℓ : Loc Cert.AdModRefIdeal.nD Cert.AdModRefIdeal.τ Cert.AdModRefIdeal.sig) → Buf (Elt Ideal) ℓ) (g : Dev Cert.AdModRefIdeal.nD → PrngReg), Pre_AdModRefIdeal m →
    θ_run (Cert.AdModRefIdeal.defs (F := Ideal)) (onTc (τ := Cert.AdModRefIdeal.τ) (Cert.AdModRefIdeal.main (F := Ideal))) ⟨m, fun _ => 0, g⟩ (fun r => (∀ c : Dev Cert.AdModRefIdeal.nD,
      r.2.mem ((c.tc : Thread Cert.AdModRefIdeal.nD Cert.AdModRefIdeal.τ).loc Cert.AdModRefIdeal.main_arg0) = m ((c.tc : Thread Cert.AdModRefIdeal.nD Cert.AdModRefIdeal.τ).loc Cert.AdModRefIdeal.main_arg0)
      ∧ r.2.mem ((c.tc : Thread Cert.AdModRefIdeal.nD Cert.AdModRefIdeal.τ).loc Cert.AdModRefIdeal.main_arg1) = m ((c.tc : Thread Cert.AdModRefIdeal.nD Cert.AdModRefIdeal.τ).loc Cert.AdModRefIdeal.main_arg1)
      ∧ r.2.mem ((c.tc : Thread Cert.AdModRefIdeal.nD Cert.AdModRefIdeal.τ).loc Cert.AdModRefIdeal.main_arg2) = m ((c.tc : Thread Cert.AdModRefIdeal.nD Cert.AdModRefIdeal.τ).loc Cert.AdModRefIdeal.main_arg2)
      ∧ r.2.mem ((c.tc : Thread Cert.AdModRefIdeal.nD Cert.AdModRefIdeal.τ).loc Cert.AdModRefIdeal.main_arg3) = m ((c.tc : Thread Cert.AdModRefIdeal.nD Cert.AdModRefIdeal.τ).loc Cert.AdModRefIdeal.main_arg3))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3))
      ∧ r.2.sem = fun _ => 0)

def quiescent_AdGlu [hAdGlu : Cert.AdGlu.Facts] : Prop :=
  ∀ (m : (ℓ : Loc Cert.AdGlu.nD Cert.AdGlu.τ Cert.AdGlu.sig) → Buf (Elt Bits) ℓ) (g : Dev Cert.AdGlu.nD → PrngReg), Pre_AdGlu m →
    θ_run (Cert.AdGlu.defs (F := Bits)) (onTc (τ := Cert.AdGlu.τ) (Cert.AdGlu.main (F := Bits))) ⟨m, fun _ => 0, g⟩ (fun r => (∀ c : Dev Cert.AdGlu.nD,
      r.2.mem ((c.tc : Thread Cert.AdGlu.nD Cert.AdGlu.τ).loc Cert.AdGlu.main_arg0) = m ((c.tc : Thread Cert.AdGlu.nD Cert.AdGlu.τ).loc Cert.AdGlu.main_arg0)
      ∧ r.2.mem ((c.tc : Thread Cert.AdGlu.nD Cert.AdGlu.τ).loc Cert.AdGlu.main_arg1) = m ((c.tc : Thread Cert.AdGlu.nD Cert.AdGlu.τ).loc Cert.AdGlu.main_arg1)
      ∧ r.2.mem ((c.tc : Thread Cert.AdGlu.nD Cert.AdGlu.τ).loc Cert.AdGlu.main_arg2) = m ((c.tc : Thread Cert.AdGlu.nD Cert.AdGlu.τ).loc Cert.AdGlu.main_arg2)
      ∧ r.2.mem ((c.tc : Thread Cert.AdGlu.nD Cert.AdGlu.τ).loc Cert.AdGlu.main_arg3) = m ((c.tc : Thread Cert.AdGlu.nD Cert.AdGlu.τ).loc Cert.AdGlu.main_arg3))
      ∧ r.2.sem = fun _ => 0)

def quiescent_AdGluIdeal [hAdGluIdeal : Cert.AdGluIdeal.Facts] : Prop :=
  ∀ (m : (ℓ : Loc Cert.AdGluIdeal.nD Cert.AdGluIdeal.τ Cert.AdGluIdeal.sig) → Buf (Elt Ideal) ℓ) (g : Dev Cert.AdGluIdeal.nD → PrngReg), Pre_AdGluIdeal m →
    θ_run (Cert.AdGluIdeal.defs (F := Ideal)) (onTc (τ := Cert.AdGluIdeal.τ) (Cert.AdGluIdeal.main (F := Ideal))) ⟨m, fun _ => 0, g⟩ (fun r => (∀ c : Dev Cert.AdGluIdeal.nD,
      r.2.mem ((c.tc : Thread Cert.AdGluIdeal.nD Cert.AdGluIdeal.τ).loc Cert.AdGluIdeal.main_arg0) = m ((c.tc : Thread Cert.AdGluIdeal.nD Cert.AdGluIdeal.τ).loc Cert.AdGluIdeal.main_arg0)
      ∧ r.2.mem ((c.tc : Thread Cert.AdGluIdeal.nD Cert.AdGluIdeal.τ).loc Cert.AdGluIdeal.main_arg1) = m ((c.tc : Thread Cert.AdGluIdeal.nD Cert.AdGluIdeal.τ).loc Cert.AdGluIdeal.main_arg1)
      ∧ r.2.mem ((c.tc : Thread Cert.AdGluIdeal.nD Cert.AdGluIdeal.τ).loc Cert.AdGluIdeal.main_arg2) = m ((c.tc : Thread Cert.AdGluIdeal.nD Cert.AdGluIdeal.τ).loc Cert.AdGluIdeal.main_arg2)
      ∧ r.2.mem ((c.tc : Thread Cert.AdGluIdeal.nD Cert.AdGluIdeal.τ).loc Cert.AdGluIdeal.main_arg3) = m ((c.tc : Thread Cert.AdGluIdeal.nD Cert.AdGluIdeal.τ).loc Cert.AdGluIdeal.main_arg3))
      ∧ r.2.sem = fun _ => 0)

def quiescent_AdGluRefIdeal [hAdGluRefIdeal : Cert.AdGluRefIdeal.Facts] : Prop :=
  ∀ (m : (ℓ : Loc Cert.AdGluRefIdeal.nD Cert.AdGluRefIdeal.τ Cert.AdGluRefIdeal.sig) → Buf (Elt Ideal) ℓ) (g : Dev Cert.AdGluRefIdeal.nD → PrngReg), Pre_AdGluRefIdeal m →
    θ_run (Cert.AdGluRefIdeal.defs (F := Ideal)) (onTc (τ := Cert.AdGluRefIdeal.τ) (Cert.AdGluRefIdeal.main (F := Ideal))) ⟨m, fun _ => 0, g⟩ (fun r => (∀ c : Dev Cert.AdGluRefIdeal.nD,
      r.2.mem ((c.tc : Thread Cert.AdGluRefIdeal.nD Cert.AdGluRefIdeal.τ).loc Cert.AdGluRefIdeal.main_arg0) = m ((c.tc : Thread Cert.AdGluRefIdeal.nD Cert.AdGluRefIdeal.τ).loc Cert.AdGluRefIdeal.main_arg0)
      ∧ r.2.mem ((c.tc : Thread Cert.AdGluRefIdeal.nD Cert.AdGluRefIdeal.τ).loc Cert.AdGluRefIdeal.main_arg1) = m ((c.tc : Thread Cert.AdGluRefIdeal.nD Cert.AdGluRefIdeal.τ).loc Cert.AdGluRefIdeal.main_arg1)
      ∧ r.2.mem ((c.tc : Thread Cert.AdGluRefIdeal.nD Cert.AdGluRefIdeal.τ).loc Cert.AdGluRefIdeal.main_arg2) = m ((c.tc : Thread Cert.AdGluRefIdeal.nD Cert.AdGluRefIdeal.τ).loc Cert.AdGluRefIdeal.main_arg2)
      ∧ r.2.mem ((c.tc : Thread Cert.AdGluRefIdeal.nD Cert.AdGluRefIdeal.τ).loc Cert.AdGluRefIdeal.main_arg3) = m ((c.tc : Thread Cert.AdGluRefIdeal.nD Cert.AdGluRefIdeal.τ).loc Cert.AdGluRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_finite_ada [hAdaIdeal : Cert.AdaIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite_ada m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaRefIdeal_pre_finite_ada [hAdaRefIdeal : Cert.AdaRefIdeal.Facts] [hPre_finite_ada : Cert.Pre_finite_ada.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_finite_ada m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3)
      ∧ r.2.mem ((c.tc : Thread Cert.Res.nD Cert.Res.τ).loc Cert.Res.main_arg4) = m ((c.tc : Thread Cert.Res.nD Cert.Res.τ).loc Cert.Res.main_arg4))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
      ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3)
      ∧ r.2.mem ((c.tc : Thread Cert.ResRefIdeal.nD Cert.ResRefIdeal.τ).loc Cert.ResRefIdeal.main_arg4) = m ((c.tc : Thread Cert.ResRefIdeal.nD Cert.ResRefIdeal.τ).loc Cert.ResRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def preserves_Kernel_KernelIdeal : Prop :=
  True

def algebraic_KernelIdeal_ReferenceIdeal_on_gate_columns_pre_finite [hKernelIdeal : Cert.KernelIdeal.Facts] [hReferenceIdeal : Cert.ReferenceIdeal.Facts] [hPre_finite : Cert.Pre_finite.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v76_2)) (v3 : (c : Dev Cert.KernelIdeal.nD) → Buf (Elt Ideal) ((c.tc : Thread Cert.KernelIdeal.nD Cert.KernelIdeal.τ).loc Cert.KernelIdeal.main_v76_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4352, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v76_0) i = v0 c i)
          ∧ (∀ i : (⟨2, ![4352, 2560]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v76_1) i = v1 c i)
          ∧ (∀ i : (⟨2, ![4352, 256]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v76_2) i = v2 c i)
          ∧ (∀ i : (⟨2, ![4352, 256]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.KernelIdeal.nD Cert.KernelIdeal.τ).loc Cert.KernelIdeal.main_v76_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4352, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v140) i = v0 c i)
          ∧ (∀ i : (⟨2, ![4352, 2560]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v139) i = v1 c i)
          ∧ (∀ i : (⟨2, ![4352, 256]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v141) i = v2 c i)
          ∧ (∀ i : (⟨2, ![4352, 256]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.ReferenceIdeal.nD Cert.ReferenceIdeal.τ).loc Cert.ReferenceIdeal.main_v142) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InD_InDIdeal : Prop :=
  True

def algebraic_InDIdeal_InDRefIdeal [hInDIdeal : Cert.InDIdeal.Facts] [hInDRefIdeal : Cert.InDRefIdeal.Facts] : Prop :=
  ∀ (m : (ℓ : Loc Cert.InDIdeal.nD Cert.InDIdeal.τ Cert.InDIdeal.sig) → Buf (Elt Ideal) ℓ) (g : Dev Cert.InDIdeal.nD → PrngReg)
    (m' : (ℓ : Loc Cert.InDRefIdeal.nD Cert.InDRefIdeal.τ Cert.InDRefIdeal.sig) → Buf (Elt Ideal) ℓ) (g' : Dev Cert.InDRefIdeal.nD → PrngReg), Pre_InDIdeal m →
    (∀ c : Dev Cert.InDIdeal.nD,
      m' ((c.tc : Thread Cert.InDRefIdeal.nD Cert.InDRefIdeal.τ).loc Cert.InDRefIdeal.main_arg0) = m ((c.tc : Thread Cert.InDIdeal.nD Cert.InDIdeal.τ).loc Cert.InDIdeal.main_arg0)
      ∧ m' ((c.tc : Thread Cert.InDRefIdeal.nD Cert.InDRefIdeal.τ).loc Cert.InDRefIdeal.main_arg1) = m ((c.tc : Thread Cert.InDIdeal.nD Cert.InDIdeal.τ).loc Cert.InDIdeal.main_arg1)) →
    ∃ (v0 : (c : Dev Cert.InDIdeal.nD) → Buf (Elt Ideal) ((c.tc : Thread Cert.InDIdeal.nD Cert.InDIdeal.τ).loc Cert.InDIdeal.main_v3)),
      θ_run (Cert.InDIdeal.defs (F := Ideal)) (onTc (τ := Cert.InDIdeal.τ) (Cert.InDIdeal.main (F := Ideal))) ⟨m, fun _ => 0, g⟩ (fun r => ∀ c : Dev Cert.InDIdeal.nD,
          r.2.mem ((c.tc : Thread Cert.InDIdeal.nD Cert.InDIdeal.τ).loc Cert.InDIdeal.main_v3) = v0 c
          ∧ r.2.mem ((c.tc : Thread Cert.InDIdeal.nD Cert.InDIdeal.τ).loc Cert.InDIdeal.main_arg0) = m ((c.tc : Thread Cert.InDIdeal.nD Cert.InDIdeal.τ).loc Cert.InDIdeal.main_arg0)
          ∧ r.2.mem ((c.tc : Thread Cert.InDIdeal.nD Cert.InDIdeal.τ).loc Cert.InDIdeal.main_arg1) = m ((c.tc : Thread Cert.InDIdeal.nD Cert.InDIdeal.τ).loc Cert.InDIdeal.main_arg1))
      ∧ θ_run (Cert.InDRefIdeal.defs (F := Ideal)) (onTc (τ := Cert.InDRefIdeal.τ) (Cert.InDRefIdeal.main (F := Ideal))) ⟨m', fun _ => 0, g'⟩ (fun r => ∀ c : Dev Cert.InDRefIdeal.nD,
          r.2.mem ((c.tc : Thread Cert.InDRefIdeal.nD Cert.InDRefIdeal.τ).loc Cert.InDRefIdeal.main_v5) = v0 c
          ∧ r.2.mem ((c.tc : Thread Cert.InDRefIdeal.nD Cert.InDRefIdeal.τ).loc Cert.InDRefIdeal.main_arg0) = m' ((c.tc : Thread Cert.InDRefIdeal.nD Cert.InDRefIdeal.τ).loc Cert.InDRefIdeal.main_arg0)
          ∧ r.2.mem ((c.tc : Thread Cert.InDRefIdeal.nD Cert.InDRefIdeal.τ).loc Cert.InDRefIdeal.main_arg1) = m' ((c.tc : Thread Cert.InDRefIdeal.nD Cert.InDRefIdeal.τ).loc Cert.InDRefIdeal.main_arg1))

def preserves_InW_InWIdeal : Prop :=
  True

def algebraic_InWIdeal_InWRefIdeal_on_in_layer [hInWIdeal : Cert.InWIdeal.Facts] [hInWRefIdeal : Cert.InWRefIdeal.Facts] [hOn_in_layer : Cert.On_in_layer.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          (∀ i : (⟨4, ![2, 4, 1024, 640]⟩ : Shape).Idx, (Cert.On_in_layer.fn (F := Ideal) (m ((c.tc : Thread Cert.InWIdeal.nD Cert.InWIdeal.τ).loc Cert.InWIdeal.main_arg0)) (m ((c.tc : Thread Cert.InWIdeal.nD Cert.InWIdeal.τ).loc Cert.InWIdeal.main_arg1))) i = 1#1 → r.2.mem ((c.tc : Thread Cert.InWIdeal.nD Cert.InWIdeal.τ).loc Cert.InWIdeal.main_v0) i = v0 c i)
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          (∀ i : (⟨4, ![2, 4, 1024, 640]⟩ : Shape).Idx, (Cert.On_in_layer.fn (F := Ideal) (m ((c.tc : Thread Cert.InWIdeal.nD Cert.InWIdeal.τ).loc Cert.InWIdeal.main_arg0)) (m ((c.tc : Thread Cert.InWIdeal.nD Cert.InWIdeal.τ).loc Cert.InWIdeal.main_arg1))) i = 1#1 → r.2.mem ((c.tc : Thread Cert.InWRefIdeal.nD Cert.InWRefIdeal.τ).loc Cert.InWRefIdeal.main_v8) i = v0 c i)
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutD_OutDIdeal : Prop :=
  True

def algebraic_OutDIdeal_OutDRefIdeal [hOutDIdeal : Cert.OutDIdeal.Facts] [hOutDRefIdeal : Cert.OutDRefIdeal.Facts] : Prop :=
  ∀ (m : (ℓ : Loc Cert.OutDIdeal.nD Cert.OutDIdeal.τ Cert.OutDIdeal.sig) → Buf (Elt Ideal) ℓ) (g : Dev Cert.OutDIdeal.nD → PrngReg)
    (m' : (ℓ : Loc Cert.OutDRefIdeal.nD Cert.OutDRefIdeal.τ Cert.OutDRefIdeal.sig) → Buf (Elt Ideal) ℓ) (g' : Dev Cert.OutDRefIdeal.nD → PrngReg), Pre_OutDIdeal m →
    (∀ c : Dev Cert.OutDIdeal.nD,
      m' ((c.tc : Thread Cert.OutDRefIdeal.nD Cert.OutDRefIdeal.τ).loc Cert.OutDRefIdeal.main_arg0) = m ((c.tc : Thread Cert.OutDIdeal.nD Cert.OutDIdeal.τ).loc Cert.OutDIdeal.main_arg0)
      ∧ m' ((c.tc : Thread Cert.OutDRefIdeal.nD Cert.OutDRefIdeal.τ).loc Cert.OutDRefIdeal.main_arg1) = m ((c.tc : Thread Cert.OutDIdeal.nD Cert.OutDIdeal.τ).loc Cert.OutDIdeal.main_arg1)) →
    ∃ (v0 : (c : Dev Cert.OutDIdeal.nD) → Buf (Elt Ideal) ((c.tc : Thread Cert.OutDIdeal.nD Cert.OutDIdeal.τ).loc Cert.OutDIdeal.main_v2)),
      θ_run (Cert.OutDIdeal.defs (F := Ideal)) (onTc (τ := Cert.OutDIdeal.τ) (Cert.OutDIdeal.main (F := Ideal))) ⟨m, fun _ => 0, g⟩ (fun r => ∀ c : Dev Cert.OutDIdeal.nD,
          r.2.mem ((c.tc : Thread Cert.OutDIdeal.nD Cert.OutDIdeal.τ).loc Cert.OutDIdeal.main_v2) = v0 c
          ∧ r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
          ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1))
      ∧ θ_run (Cert.OutDRefIdeal.defs (F := Ideal)) (onTc (τ := Cert.OutDRefIdeal.τ) (Cert.OutDRefIdeal.main (F := Ideal))) ⟨m', fun _ => 0, g'⟩ (fun r => ∀ c : Dev Cert.OutDRefIdeal.nD,
          r.2.mem ((c.tc : Thread Cert.OutDRefIdeal.nD Cert.OutDRefIdeal.τ).loc Cert.OutDRefIdeal.main_v5) = v0 c
          ∧ r.2.mem ((c.tc : Thread Cert.OutDRefIdeal.nD Cert.OutDRefIdeal.τ).loc Cert.OutDRefIdeal.main_arg0) = m' ((c.tc : Thread Cert.OutDRefIdeal.nD Cert.OutDRefIdeal.τ).loc Cert.OutDRefIdeal.main_arg0)
          ∧ r.2.mem ((c.tc : Thread Cert.OutDRefIdeal.nD Cert.OutDRefIdeal.τ).loc Cert.OutDRefIdeal.main_arg1) = m' ((c.tc : Thread Cert.OutDRefIdeal.nD Cert.OutDRefIdeal.τ).loc Cert.OutDRefIdeal.main_arg1))

def preserves_OutW_OutWIdeal : Prop :=
  True

def algebraic_OutWIdeal_OutWRefIdeal_on_out_layer [hOutWIdeal : Cert.OutWIdeal.Facts] [hOutWRefIdeal : Cert.OutWRefIdeal.Facts] [hOn_out_layer : Cert.On_out_layer.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          (∀ i : (⟨4, ![2, 1, 1024, 1024]⟩ : Shape).Idx, (Cert.On_out_layer.fn (F := Ideal) (m ((c.tc : Thread Cert.OutWIdeal.nD Cert.OutWIdeal.τ).loc Cert.OutWIdeal.main_arg0)) (m ((c.tc : Thread Cert.OutWIdeal.nD Cert.OutWIdeal.τ).loc Cert.OutWIdeal.main_arg1))) i = 1#1 → r.2.mem ((c.tc : Thread Cert.OutWIdeal.nD Cert.OutWIdeal.τ).loc Cert.OutWIdeal.main_v0) i = v0 c i)
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          (∀ i : (⟨4, ![2, 1, 1024, 1024]⟩ : Shape).Idx, (Cert.On_out_layer.fn (F := Ideal) (m ((c.tc : Thread Cert.OutWIdeal.nD Cert.OutWIdeal.τ).loc Cert.OutWIdeal.main_arg0)) (m ((c.tc : Thread Cert.OutWIdeal.nD Cert.OutWIdeal.τ).loc Cert.OutWIdeal.main_arg1))) i = 1#1 → r.2.mem ((c.tc : Thread Cert.OutWRefIdeal.nD Cert.OutWRefIdeal.τ).loc Cert.OutWRefIdeal.main_v6) i = v0 c i)
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_Fwd_FwdIdeal : Prop :=
  True

def algebraic_FwdIdeal_FwdRefIdeal_pre_finite_qkv [hFwdIdeal : Cert.FwdIdeal.Facts] [hFwdRefIdeal : Cert.FwdRefIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_qkv m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_v0_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v43) = v0 c
          ∧ r.2.mem ((c.tc : Thread Cert.FwdRefIdeal.nD Cert.FwdRefIdeal.τ).loc Cert.FwdRefIdeal.main_v79) = v1 c
          ∧ r.2.mem ((c.tc : Thread Cert.FwdRefIdeal.nD Cert.FwdRefIdeal.τ).loc Cert.FwdRefIdeal.main_v75) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1))

def preserves_InW0_InW0Ideal : Prop :=
  True

def algebraic_InW0Ideal_InW0RefIdeal [hInW0Ideal : Cert.InW0Ideal.Facts] [hInW0RefIdeal : Cert.InW0RefIdeal.Facts] : Prop :=
  ∀ (m : (ℓ : Loc Cert.InW0Ideal.nD Cert.InW0Ideal.τ Cert.InW0Ideal.sig) → Buf (Elt Ideal) ℓ) (g : Dev Cert.InW0Ideal.nD → PrngReg)
    (m' : (ℓ : Loc Cert.InW0RefIdeal.nD Cert.InW0RefIdeal.τ Cert.InW0RefIdeal.sig) → Buf (Elt Ideal) ℓ) (g' : Dev Cert.InW0RefIdeal.nD → PrngReg), Pre_InW0Ideal m →
    (∀ c : Dev Cert.InW0Ideal.nD,
      m' ((c.tc : Thread Cert.InW0RefIdeal.nD Cert.InW0RefIdeal.τ).loc Cert.InW0RefIdeal.main_arg0) = m ((c.tc : Thread Cert.InW0Ideal.nD Cert.InW0Ideal.τ).loc Cert.InW0Ideal.main_arg0)
      ∧ m' ((c.tc : Thread Cert.InW0RefIdeal.nD Cert.InW0RefIdeal.τ).loc Cert.InW0RefIdeal.main_arg1) = m ((c.tc : Thread Cert.InW0Ideal.nD Cert.InW0Ideal.τ).loc Cert.InW0Ideal.main_arg1)
      ∧ m' ((c.tc : Thread Cert.InW0RefIdeal.nD Cert.InW0RefIdeal.τ).loc Cert.InW0RefIdeal.main_arg2) = m ((c.tc : Thread Cert.InW0Ideal.nD Cert.InW0Ideal.τ).loc Cert.InW0Ideal.main_arg2)) →
    ∃ (v0 : (c : Dev Cert.InW0Ideal.nD) → Buf (Elt Ideal) ((c.tc : Thread Cert.InW0Ideal.nD Cert.InW0Ideal.τ).loc Cert.InW0Ideal.main_v0)),
      θ_run (Cert.InW0Ideal.defs (F := Ideal)) (onTc (τ := Cert.InW0Ideal.τ) (Cert.InW0Ideal.main (F := Ideal))) ⟨m, fun _ => 0, g⟩ (fun r => ∀ c : Dev Cert.InW0Ideal.nD,
          r.2.mem ((c.tc : Thread Cert.InW0Ideal.nD Cert.InW0Ideal.τ).loc Cert.InW0Ideal.main_v0) = v0 c
          ∧ r.2.mem ((c.tc : Thread Cert.InW0Ideal.nD Cert.InW0Ideal.τ).loc Cert.InW0Ideal.main_arg0) = m ((c.tc : Thread Cert.InW0Ideal.nD Cert.InW0Ideal.τ).loc Cert.InW0Ideal.main_arg0)
          ∧ r.2.mem ((c.tc : Thread Cert.InW0Ideal.nD Cert.InW0Ideal.τ).loc Cert.InW0Ideal.main_arg1) = m ((c.tc : Thread Cert.InW0Ideal.nD Cert.InW0Ideal.τ).loc Cert.InW0Ideal.main_arg1)
          ∧ r.2.mem ((c.tc : Thread Cert.InW0Ideal.nD Cert.InW0Ideal.τ).loc Cert.InW0Ideal.main_arg2) = m ((c.tc : Thread Cert.InW0Ideal.nD Cert.InW0Ideal.τ).loc Cert.InW0Ideal.main_arg2))
      ∧ θ_run (Cert.InW0RefIdeal.defs (F := Ideal)) (onTc (τ := Cert.InW0RefIdeal.τ) (Cert.InW0RefIdeal.main (F := Ideal))) ⟨m', fun _ => 0, g'⟩ (fun r => ∀ c : Dev Cert.InW0RefIdeal.nD,
          r.2.mem ((c.tc : Thread Cert.InW0RefIdeal.nD Cert.InW0RefIdeal.τ).loc Cert.InW0RefIdeal.main_v11) = v0 c
          ∧ r.2.mem ((c.tc : Thread Cert.InW0RefIdeal.nD Cert.InW0RefIdeal.τ).loc Cert.InW0RefIdeal.main_arg0) = m' ((c.tc : Thread Cert.InW0RefIdeal.nD Cert.InW0RefIdeal.τ).loc Cert.InW0RefIdeal.main_arg0)
          ∧ r.2.mem ((c.tc : Thread Cert.InW0RefIdeal.nD Cert.InW0RefIdeal.τ).loc Cert.InW0RefIdeal.main_arg1) = m' ((c.tc : Thread Cert.InW0RefIdeal.nD Cert.InW0RefIdeal.τ).loc Cert.InW0RefIdeal.main_arg1)
          ∧ r.2.mem ((c.tc : Thread Cert.InW0RefIdeal.nD Cert.InW0RefIdeal.τ).loc Cert.InW0RefIdeal.main_arg2) = m' ((c.tc : Thread Cert.InW0RefIdeal.nD Cert.InW0RefIdeal.τ).loc Cert.InW0RefIdeal.main_arg2))

def preserves_OutW0_OutW0Ideal : Prop :=
  True

def algebraic_OutW0Ideal_OutW0RefIdeal [hOutW0Ideal : Cert.OutW0Ideal.Facts] [hOutW0RefIdeal : Cert.OutW0RefIdeal.Facts] : Prop :=
  ∀ (m : (ℓ : Loc Cert.OutW0Ideal.nD Cert.OutW0Ideal.τ Cert.OutW0Ideal.sig) → Buf (Elt Ideal) ℓ) (g : Dev Cert.OutW0Ideal.nD → PrngReg)
    (m' : (ℓ : Loc Cert.OutW0RefIdeal.nD Cert.OutW0RefIdeal.τ Cert.OutW0RefIdeal.sig) → Buf (Elt Ideal) ℓ) (g' : Dev Cert.OutW0RefIdeal.nD → PrngReg), Pre_OutW0Ideal m →
    (∀ c : Dev Cert.OutW0Ideal.nD,
      m' ((c.tc : Thread Cert.OutW0RefIdeal.nD Cert.OutW0RefIdeal.τ).loc Cert.OutW0RefIdeal.main_arg0) = m ((c.tc : Thread Cert.OutW0Ideal.nD Cert.OutW0Ideal.τ).loc Cert.OutW0Ideal.main_arg0)
      ∧ m' ((c.tc : Thread Cert.OutW0RefIdeal.nD Cert.OutW0RefIdeal.τ).loc Cert.OutW0RefIdeal.main_arg1) = m ((c.tc : Thread Cert.OutW0Ideal.nD Cert.OutW0Ideal.τ).loc Cert.OutW0Ideal.main_arg1)
      ∧ m' ((c.tc : Thread Cert.OutW0RefIdeal.nD Cert.OutW0RefIdeal.τ).loc Cert.OutW0RefIdeal.main_arg2) = m ((c.tc : Thread Cert.OutW0Ideal.nD Cert.OutW0Ideal.τ).loc Cert.OutW0Ideal.main_arg2)) →
    ∃ (v0 : (c : Dev Cert.OutW0Ideal.nD) → Buf (Elt Ideal) ((c.tc : Thread Cert.OutW0Ideal.nD Cert.OutW0Ideal.τ).loc Cert.OutW0Ideal.main_v0)),
      θ_run (Cert.OutW0Ideal.defs (F := Ideal)) (onTc (τ := Cert.OutW0Ideal.τ) (Cert.OutW0Ideal.main (F := Ideal))) ⟨m, fun _ => 0, g⟩ (fun r => ∀ c : Dev Cert.OutW0Ideal.nD,
          r.2.mem ((c.tc : Thread Cert.OutW0Ideal.nD Cert.OutW0Ideal.τ).loc Cert.OutW0Ideal.main_v0) = v0 c
          ∧ r.2.mem ((c.tc : Thread Cert.OutW0Ideal.nD Cert.OutW0Ideal.τ).loc Cert.OutW0Ideal.main_arg0) = m ((c.tc : Thread Cert.OutW0Ideal.nD Cert.OutW0Ideal.τ).loc Cert.OutW0Ideal.main_arg0)
          ∧ r.2.mem ((c.tc : Thread Cert.OutW0Ideal.nD Cert.OutW0Ideal.τ).loc Cert.OutW0Ideal.main_arg1) = m ((c.tc : Thread Cert.OutW0Ideal.nD Cert.OutW0Ideal.τ).loc Cert.OutW0Ideal.main_arg1)
          ∧ r.2.mem ((c.tc : Thread Cert.OutW0Ideal.nD Cert.OutW0Ideal.τ).loc Cert.OutW0Ideal.main_arg2) = m ((c.tc : Thread Cert.OutW0Ideal.nD Cert.OutW0Ideal.τ).loc Cert.OutW0Ideal.main_arg2))
      ∧ θ_run (Cert.OutW0RefIdeal.defs (F := Ideal)) (onTc (τ := Cert.OutW0RefIdeal.τ) (Cert.OutW0RefIdeal.main (F := Ideal))) ⟨m', fun _ => 0, g'⟩ (fun r => ∀ c : Dev Cert.OutW0RefIdeal.nD,
          r.2.mem ((c.tc : Thread Cert.OutW0RefIdeal.nD Cert.OutW0RefIdeal.τ).loc Cert.OutW0RefIdeal.main_v9) = v0 c
          ∧ r.2.mem ((c.tc : Thread Cert.OutW0RefIdeal.nD Cert.OutW0RefIdeal.τ).loc Cert.OutW0RefIdeal.main_arg0) = m' ((c.tc : Thread Cert.OutW0RefIdeal.nD Cert.OutW0RefIdeal.τ).loc Cert.OutW0RefIdeal.main_arg0)
          ∧ r.2.mem ((c.tc : Thread Cert.OutW0RefIdeal.nD Cert.OutW0RefIdeal.τ).loc Cert.OutW0RefIdeal.main_arg1) = m' ((c.tc : Thread Cert.OutW0RefIdeal.nD Cert.OutW0RefIdeal.τ).loc Cert.OutW0RefIdeal.main_arg1)
          ∧ r.2.mem ((c.tc : Thread Cert.OutW0RefIdeal.nD Cert.OutW0RefIdeal.τ).loc Cert.OutW0RefIdeal.main_arg2) = m' ((c.tc : Thread Cert.OutW0RefIdeal.nD Cert.OutW0RefIdeal.τ).loc Cert.OutW0RefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v49) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_AdMod_AdModIdeal : Prop :=
  True

def algebraic_AdModIdeal_AdModRefIdeal [hAdModIdeal : Cert.AdModIdeal.Facts] [hAdModRefIdeal : Cert.AdModRefIdeal.Facts] : Prop :=
  ∀ (m : (ℓ : Loc Cert.AdModIdeal.nD Cert.AdModIdeal.τ Cert.AdModIdeal.sig) → Buf (Elt Ideal) ℓ) (g : Dev Cert.AdModIdeal.nD → PrngReg)
    (m' : (ℓ : Loc Cert.AdModRefIdeal.nD Cert.AdModRefIdeal.τ Cert.AdModRefIdeal.sig) → Buf (Elt Ideal) ℓ) (g' : Dev Cert.AdModRefIdeal.nD → PrngReg), Pre_AdModIdeal m →
    (∀ c : Dev Cert.AdModIdeal.nD,
      m' ((c.tc : Thread Cert.AdModRefIdeal.nD Cert.AdModRefIdeal.τ).loc Cert.AdModRefIdeal.main_arg0) = m ((c.tc : Thread Cert.AdModIdeal.nD Cert.AdModIdeal.τ).loc Cert.AdModIdeal.main_arg0)
      ∧ m' ((c.tc : Thread Cert.AdModRefIdeal.nD Cert.AdModRefIdeal.τ).loc Cert.AdModRefIdeal.main_arg1) = m ((c.tc : Thread Cert.AdModIdeal.nD Cert.AdModIdeal.τ).loc Cert.AdModIdeal.main_arg1)
      ∧ m' ((c.tc : Thread Cert.AdModRefIdeal.nD Cert.AdModRefIdeal.τ).loc Cert.AdModRefIdeal.main_arg2) = m ((c.tc : Thread Cert.AdModIdeal.nD Cert.AdModIdeal.τ).loc Cert.AdModIdeal.main_arg2)
      ∧ m' ((c.tc : Thread Cert.AdModRefIdeal.nD Cert.AdModRefIdeal.τ).loc Cert.AdModRefIdeal.main_arg3) = m ((c.tc : Thread Cert.AdModIdeal.nD Cert.AdModIdeal.τ).loc Cert.AdModIdeal.main_arg3)) →
    ∃ (v0 : (c : Dev Cert.AdModIdeal.nD) → Buf (Elt Ideal) ((c.tc : Thread Cert.AdModIdeal.nD Cert.AdModIdeal.τ).loc Cert.AdModIdeal.main_v0_0)) (v1 : (c : Dev Cert.AdModIdeal.nD) → Buf (Elt Ideal) ((c.tc : Thread Cert.AdModIdeal.nD Cert.AdModIdeal.τ).loc Cert.AdModIdeal.main_v0_1)) (v2 : (c : Dev Cert.AdModIdeal.nD) → Buf (Elt Ideal) ((c.tc : Thread Cert.AdModIdeal.nD Cert.AdModIdeal.τ).loc Cert.AdModIdeal.main_v0_2)),
      θ_run (Cert.AdModIdeal.defs (F := Ideal)) (onTc (τ := Cert.AdModIdeal.τ) (Cert.AdModIdeal.main (F := Ideal))) ⟨m, fun _ => 0, g⟩ (fun r => ∀ c : Dev Cert.AdModIdeal.nD,
          r.2.mem ((c.tc : Thread Cert.AdModIdeal.nD Cert.AdModIdeal.τ).loc Cert.AdModIdeal.main_v0_0) = v0 c
          ∧ r.2.mem ((c.tc : Thread Cert.AdModIdeal.nD Cert.AdModIdeal.τ).loc Cert.AdModIdeal.main_v0_1) = v1 c
          ∧ r.2.mem ((c.tc : Thread Cert.AdModIdeal.nD Cert.AdModIdeal.τ).loc Cert.AdModIdeal.main_v0_2) = v2 c
          ∧ r.2.mem ((c.tc : Thread Cert.AdModIdeal.nD Cert.AdModIdeal.τ).loc Cert.AdModIdeal.main_arg0) = m ((c.tc : Thread Cert.AdModIdeal.nD Cert.AdModIdeal.τ).loc Cert.AdModIdeal.main_arg0)
          ∧ r.2.mem ((c.tc : Thread Cert.AdModIdeal.nD Cert.AdModIdeal.τ).loc Cert.AdModIdeal.main_arg1) = m ((c.tc : Thread Cert.AdModIdeal.nD Cert.AdModIdeal.τ).loc Cert.AdModIdeal.main_arg1)
          ∧ r.2.mem ((c.tc : Thread Cert.AdModIdeal.nD Cert.AdModIdeal.τ).loc Cert.AdModIdeal.main_arg2) = m ((c.tc : Thread Cert.AdModIdeal.nD Cert.AdModIdeal.τ).loc Cert.AdModIdeal.main_arg2)
          ∧ r.2.mem ((c.tc : Thread Cert.AdModIdeal.nD Cert.AdModIdeal.τ).loc Cert.AdModIdeal.main_arg3) = m ((c.tc : Thread Cert.AdModIdeal.nD Cert.AdModIdeal.τ).loc Cert.AdModIdeal.main_arg3))
      ∧ θ_run (Cert.AdModRefIdeal.defs (F := Ideal)) (onTc (τ := Cert.AdModRefIdeal.τ) (Cert.AdModRefIdeal.main (F := Ideal))) ⟨m', fun _ => 0, g'⟩ (fun r => ∀ c : Dev Cert.AdModRefIdeal.nD,
          r.2.mem ((c.tc : Thread Cert.AdModRefIdeal.nD Cert.AdModRefIdeal.τ).loc Cert.AdModRefIdeal.main_v23) = v0 c
          ∧ r.2.mem ((c.tc : Thread Cert.AdModRefIdeal.nD Cert.AdModRefIdeal.τ).loc Cert.AdModRefIdeal.main_v4) = v1 c
          ∧ r.2.mem ((c.tc : Thread Cert.AdModRefIdeal.nD Cert.AdModRefIdeal.τ).loc Cert.AdModRefIdeal.main_v10) = v2 c
          ∧ r.2.mem ((c.tc : Thread Cert.AdModRefIdeal.nD Cert.AdModRefIdeal.τ).loc Cert.AdModRefIdeal.main_arg0) = m' ((c.tc : Thread Cert.AdModRefIdeal.nD Cert.AdModRefIdeal.τ).loc Cert.AdModRefIdeal.main_arg0)
          ∧ r.2.mem ((c.tc : Thread Cert.AdModRefIdeal.nD Cert.AdModRefIdeal.τ).loc Cert.AdModRefIdeal.main_arg1) = m' ((c.tc : Thread Cert.AdModRefIdeal.nD Cert.AdModRefIdeal.τ).loc Cert.AdModRefIdeal.main_arg1)
          ∧ r.2.mem ((c.tc : Thread Cert.AdModRefIdeal.nD Cert.AdModRefIdeal.τ).loc Cert.AdModRefIdeal.main_arg2) = m' ((c.tc : Thread Cert.AdModRefIdeal.nD Cert.AdModRefIdeal.τ).loc Cert.AdModRefIdeal.main_arg2)
          ∧ r.2.mem ((c.tc : Thread Cert.AdModRefIdeal.nD Cert.AdModRefIdeal.τ).loc Cert.AdModRefIdeal.main_arg3) = m' ((c.tc : Thread Cert.AdModRefIdeal.nD Cert.AdModRefIdeal.τ).loc Cert.AdModRefIdeal.main_arg3))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v23) = v0 c
          ∧ r.2.mem ((c.tc : Thread Cert.AdInRefIdeal.nD Cert.AdInRefIdeal.τ).loc Cert.AdInRefIdeal.main_v4) = v1 c
          ∧ r.2.mem ((c.tc : Thread Cert.AdInRefIdeal.nD Cert.AdInRefIdeal.τ).loc Cert.AdInRefIdeal.main_v10) = v2 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v23) = v0 c
          ∧ r.2.mem ((c.tc : Thread Cert.AdOutRefIdeal.nD Cert.AdOutRefIdeal.τ).loc Cert.AdOutRefIdeal.main_v4) = v1 c
          ∧ r.2.mem ((c.tc : Thread Cert.AdOutRefIdeal.nD Cert.AdOutRefIdeal.τ).loc Cert.AdOutRefIdeal.main_v10) = v2 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3))

def preserves_AdGlu_AdGluIdeal : Prop :=
  True

def algebraic_AdGluIdeal_AdGluRefIdeal [hAdGluIdeal : Cert.AdGluIdeal.Facts] [hAdGluRefIdeal : Cert.AdGluRefIdeal.Facts] : Prop :=
  ∀ (m : (ℓ : Loc Cert.AdGluIdeal.nD Cert.AdGluIdeal.τ Cert.AdGluIdeal.sig) → Buf (Elt Ideal) ℓ) (g : Dev Cert.AdGluIdeal.nD → PrngReg)
    (m' : (ℓ : Loc Cert.AdGluRefIdeal.nD Cert.AdGluRefIdeal.τ Cert.AdGluRefIdeal.sig) → Buf (Elt Ideal) ℓ) (g' : Dev Cert.AdGluRefIdeal.nD → PrngReg), Pre_AdGluIdeal m →
    (∀ c : Dev Cert.AdGluIdeal.nD,
      m' ((c.tc : Thread Cert.AdGluRefIdeal.nD Cert.AdGluRefIdeal.τ).loc Cert.AdGluRefIdeal.main_arg0) = m ((c.tc : Thread Cert.AdGluIdeal.nD Cert.AdGluIdeal.τ).loc Cert.AdGluIdeal.main_arg0)
      ∧ m' ((c.tc : Thread Cert.AdGluRefIdeal.nD Cert.AdGluRefIdeal.τ).loc Cert.AdGluRefIdeal.main_arg1) = m ((c.tc : Thread Cert.AdGluIdeal.nD Cert.AdGluIdeal.τ).loc Cert.AdGluIdeal.main_arg1)
      ∧ m' ((c.tc : Thread Cert.AdGluRefIdeal.nD Cert.AdGluRefIdeal.τ).loc Cert.AdGluRefIdeal.main_arg2) = m ((c.tc : Thread Cert.AdGluIdeal.nD Cert.AdGluIdeal.τ).loc Cert.AdGluIdeal.main_arg2)
      ∧ m' ((c.tc : Thread Cert.AdGluRefIdeal.nD Cert.AdGluRefIdeal.τ).loc Cert.AdGluRefIdeal.main_arg3) = m ((c.tc : Thread Cert.AdGluIdeal.nD Cert.AdGluIdeal.τ).loc Cert.AdGluIdeal.main_arg3)) →
    ∃ (v0 : (c : Dev Cert.AdGluIdeal.nD) → Buf (Elt Ideal) ((c.tc : Thread Cert.AdGluIdeal.nD Cert.AdGluIdeal.τ).loc Cert.AdGluIdeal.main_v0_0)) (v1 : (c : Dev Cert.AdGluIdeal.nD) → Buf (Elt Ideal) ((c.tc : Thread Cert.AdGluIdeal.nD Cert.AdGluIdeal.τ).loc Cert.AdGluIdeal.main_v0_1)) (v2 : (c : Dev Cert.AdGluIdeal.nD) → Buf (Elt Ideal) ((c.tc : Thread Cert.AdGluIdeal.nD Cert.AdGluIdeal.τ).loc Cert.AdGluIdeal.main_v0_2)),
      θ_run (Cert.AdGluIdeal.defs (F := Ideal)) (onTc (τ := Cert.AdGluIdeal.τ) (Cert.AdGluIdeal.main (F := Ideal))) ⟨m, fun _ => 0, g⟩ (fun r => ∀ c : Dev Cert.AdGluIdeal.nD,
          r.2.mem ((c.tc : Thread Cert.AdGluIdeal.nD Cert.AdGluIdeal.τ).loc Cert.AdGluIdeal.main_v0_0) = v0 c
          ∧ r.2.mem ((c.tc : Thread Cert.AdGluIdeal.nD Cert.AdGluIdeal.τ).loc Cert.AdGluIdeal.main_v0_1) = v1 c
          ∧ r.2.mem ((c.tc : Thread Cert.AdGluIdeal.nD Cert.AdGluIdeal.τ).loc Cert.AdGluIdeal.main_v0_2) = v2 c
          ∧ r.2.mem ((c.tc : Thread Cert.AdGluIdeal.nD Cert.AdGluIdeal.τ).loc Cert.AdGluIdeal.main_arg0) = m ((c.tc : Thread Cert.AdGluIdeal.nD Cert.AdGluIdeal.τ).loc Cert.AdGluIdeal.main_arg0)
          ∧ r.2.mem ((c.tc : Thread Cert.AdGluIdeal.nD Cert.AdGluIdeal.τ).loc Cert.AdGluIdeal.main_arg1) = m ((c.tc : Thread Cert.AdGluIdeal.nD Cert.AdGluIdeal.τ).loc Cert.AdGluIdeal.main_arg1)
          ∧ r.2.mem ((c.tc : Thread Cert.AdGluIdeal.nD Cert.AdGluIdeal.τ).loc Cert.AdGluIdeal.main_arg2) = m ((c.tc : Thread Cert.AdGluIdeal.nD Cert.AdGluIdeal.τ).loc Cert.AdGluIdeal.main_arg2)
          ∧ r.2.mem ((c.tc : Thread Cert.AdGluIdeal.nD Cert.AdGluIdeal.τ).loc Cert.AdGluIdeal.main_arg3) = m ((c.tc : Thread Cert.AdGluIdeal.nD Cert.AdGluIdeal.τ).loc Cert.AdGluIdeal.main_arg3))
      ∧ θ_run (Cert.AdGluRefIdeal.defs (F := Ideal)) (onTc (τ := Cert.AdGluRefIdeal.τ) (Cert.AdGluRefIdeal.main (F := Ideal))) ⟨m', fun _ => 0, g'⟩ (fun r => ∀ c : Dev Cert.AdGluRefIdeal.nD,
          r.2.mem ((c.tc : Thread Cert.AdGluRefIdeal.nD Cert.AdGluRefIdeal.τ).loc Cert.AdGluRefIdeal.main_v23) = v0 c
          ∧ r.2.mem ((c.tc : Thread Cert.AdGluRefIdeal.nD Cert.AdGluRefIdeal.τ).loc Cert.AdGluRefIdeal.main_v4) = v1 c
          ∧ r.2.mem ((c.tc : Thread Cert.AdGluRefIdeal.nD Cert.AdGluRefIdeal.τ).loc Cert.AdGluRefIdeal.main_v10) = v2 c
          ∧ r.2.mem ((c.tc : Thread Cert.AdGluRefIdeal.nD Cert.AdGluRefIdeal.τ).loc Cert.AdGluRefIdeal.main_arg0) = m' ((c.tc : Thread Cert.AdGluRefIdeal.nD Cert.AdGluRefIdeal.τ).loc Cert.AdGluRefIdeal.main_arg0)
          ∧ r.2.mem ((c.tc : Thread Cert.AdGluRefIdeal.nD Cert.AdGluRefIdeal.τ).loc Cert.AdGluRefIdeal.main_arg1) = m' ((c.tc : Thread Cert.AdGluRefIdeal.nD Cert.AdGluRefIdeal.τ).loc Cert.AdGluRefIdeal.main_arg1)
          ∧ r.2.mem ((c.tc : Thread Cert.AdGluRefIdeal.nD Cert.AdGluRefIdeal.τ).loc Cert.AdGluRefIdeal.main_arg2) = m' ((c.tc : Thread Cert.AdGluRefIdeal.nD Cert.AdGluRefIdeal.τ).loc Cert.AdGluRefIdeal.main_arg2)
          ∧ r.2.mem ((c.tc : Thread Cert.AdGluRefIdeal.nD Cert.AdGluRefIdeal.τ).loc Cert.AdGluRefIdeal.main_arg3) = m' ((c.tc : Thread Cert.AdGluRefIdeal.nD Cert.AdGluRefIdeal.τ).loc Cert.AdGluRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_2) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v38) = v0 c
          ∧ r.2.mem ((c.tc : Thread Cert.LossRefIdeal.nD Cert.LossRefIdeal.τ).loc Cert.LossRefIdeal.main_v37) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Ada_AdaIdeal : Prop :=
  True

def algebraic_AdaIdeal_AdaRefIdeal_pre_finite_ada [hAdaIdeal : Cert.AdaIdeal.Facts] [hAdaRefIdeal : Cert.AdaRefIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_finite_ada m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_v10) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)
      ∧ m' ((c.tc : Thread Cert.ResRefIdeal.nD Cert.ResRefIdeal.τ).loc Cert.ResRefIdeal.main_arg4) = m ((c.tc : Thread Cert.ResIdeal.nD Cert.ResIdeal.τ).loc Cert.ResIdeal.main_arg4)) →
    ∃ (v0 : (c : Dev Cert.ResIdeal.nD) → Buf (Elt Ideal) ((c.tc : Thread Cert.ResIdeal.nD Cert.ResIdeal.τ).loc Cert.ResIdeal.main_v0_0)) (v1 : (c : Dev Cert.ResIdeal.nD) → Buf (Elt Ideal) ((c.tc : Thread Cert.ResIdeal.nD Cert.ResIdeal.τ).loc Cert.ResIdeal.main_v0_1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v0_0) = v0 c
          ∧ r.2.mem ((c.tc : Thread Cert.ResIdeal.nD Cert.ResIdeal.τ).loc Cert.ResIdeal.main_v0_1) = v1 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
          ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v16) = v0 c
          ∧ r.2.mem ((c.tc : Thread Cert.ResRefIdeal.nD Cert.ResRefIdeal.τ).loc Cert.ResRefIdeal.main_v66) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3)
          ∧ r.2.mem ((c.tc : Thread Cert.ResRefIdeal.nD Cert.ResRefIdeal.τ).loc Cert.ResRefIdeal.main_arg4) = m' ((c.tc : Thread Cert.ResRefIdeal.nD Cert.ResRefIdeal.τ).loc Cert.ResRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v4) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v1) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hInD : Cert.InD.Facts) (hInDIdeal : Cert.InDIdeal.Facts) (hInDRefIdeal : Cert.InDRefIdeal.Facts) (hInW : Cert.InW.Facts) (hInWIdeal : Cert.InWIdeal.Facts) (hInWRefIdeal : Cert.InWRefIdeal.Facts) (hOut : Cert.Out.Facts) (hOutIdeal : Cert.OutIdeal.Facts) (hOutRefIdeal : Cert.OutRefIdeal.Facts) (hOutD : Cert.OutD.Facts) (hOutDIdeal : Cert.OutDIdeal.Facts) (hOutDRefIdeal : Cert.OutDRefIdeal.Facts) (hOutW : Cert.OutW.Facts) (hOutWIdeal : Cert.OutWIdeal.Facts) (hOutWRefIdeal : Cert.OutWRefIdeal.Facts) (hFwd : Cert.Fwd.Facts) (hFwdIdeal : Cert.FwdIdeal.Facts) (hFwdRefIdeal : Cert.FwdRefIdeal.Facts) (hInW0 : Cert.InW0.Facts) (hInW0Ideal : Cert.InW0Ideal.Facts) (hInW0RefIdeal : Cert.InW0RefIdeal.Facts) (hOutW0 : Cert.OutW0.Facts) (hOutW0Ideal : Cert.OutW0Ideal.Facts) (hOutW0RefIdeal : Cert.OutW0RefIdeal.Facts) (hNorm : Cert.Norm.Facts) (hNormIdeal : Cert.NormIdeal.Facts) (hNormRefIdeal : Cert.NormRefIdeal.Facts) (hAdMod : Cert.AdMod.Facts) (hAdModIdeal : Cert.AdModIdeal.Facts) (hAdModRefIdeal : Cert.AdModRefIdeal.Facts) (hAdIn : Cert.AdIn.Facts) (hAdInIdeal : Cert.AdInIdeal.Facts) (hAdInRefIdeal : Cert.AdInRefIdeal.Facts) (hAdOut : Cert.AdOut.Facts) (hAdOutIdeal : Cert.AdOutIdeal.Facts) (hAdOutRefIdeal : Cert.AdOutRefIdeal.Facts) (hAdGlu : Cert.AdGlu.Facts) (hAdGluIdeal : Cert.AdGluIdeal.Facts) (hAdGluRefIdeal : Cert.AdGluRefIdeal.Facts) (hLoss : Cert.Loss.Facts) (hLossIdeal : Cert.LossIdeal.Facts) (hLossRefIdeal : Cert.LossRefIdeal.Facts) (hAda : Cert.Ada.Facts) (hAdaIdeal : Cert.AdaIdeal.Facts) (hAdaRefIdeal : Cert.AdaRefIdeal.Facts) (hRes : Cert.Res.Facts) (hResIdeal : Cert.ResIdeal.Facts) (hResRefIdeal : Cert.ResRefIdeal.Facts) (hMod : Cert.Mod.Facts) (hModIdeal : Cert.ModIdeal.Facts) (hModRefIdeal : Cert.ModRefIdeal.Facts) (hBias : Cert.Bias.Facts) (hBiasIdeal : Cert.BiasIdeal.Facts) (hBiasRefIdeal : Cert.BiasRefIdeal.Facts) (hPre_finite : Cert.Pre_finite.Facts) (hPre_finite_qkv : Cert.Pre_finite_qkv.Facts) (hPre_finite_ada : Cert.Pre_finite_ada.Facts) (hOn_gate_columns : Cert.On_gate_columns.Facts) (hOn_in_layer : Cert.On_in_layer.Facts) (hOn_out_layer : Cert.On_out_layer.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_In (hIn := hIn)
    ∧ quiescent_InIdeal (hInIdeal := hInIdeal)
    ∧ quiescent_InRefIdeal (hInRefIdeal := hInRefIdeal)
    ∧ quiescent_InD (hInD := hInD)
    ∧ quiescent_InDIdeal (hInDIdeal := hInDIdeal)
    ∧ quiescent_InDRefIdeal (hInDRefIdeal := hInDRefIdeal)
    ∧ quiescent_InW (hInW := hInW)
    ∧ quiescent_InWIdeal (hInWIdeal := hInWIdeal)
    ∧ quiescent_InWRefIdeal (hInWRefIdeal := hInWRefIdeal)
    ∧ quiescent_Out (hOut := hOut)
    ∧ quiescent_OutIdeal (hOutIdeal := hOutIdeal)
    ∧ quiescent_OutRefIdeal (hOutRefIdeal := hOutRefIdeal)
    ∧ quiescent_OutD (hOutD := hOutD)
    ∧ quiescent_OutDIdeal (hOutDIdeal := hOutDIdeal)
    ∧ quiescent_OutDRefIdeal (hOutDRefIdeal := hOutDRefIdeal)
    ∧ quiescent_OutW (hOutW := hOutW)
    ∧ quiescent_OutWIdeal (hOutWIdeal := hOutWIdeal)
    ∧ quiescent_OutWRefIdeal (hOutWRefIdeal := hOutWRefIdeal)
    ∧ quiescent_Fwd (hFwd := hFwd)
    ∧ quiescent_FwdIdeal (hFwdIdeal := hFwdIdeal)
    ∧ quiescent_FwdIdeal_pre_finite_qkv (hFwdIdeal := hFwdIdeal) (hPre_finite_qkv := hPre_finite_qkv)
    ∧ quiescent_FwdRefIdeal (hFwdRefIdeal := hFwdRefIdeal)
    ∧ quiescent_FwdRefIdeal_pre_finite_qkv (hFwdRefIdeal := hFwdRefIdeal) (hPre_finite_qkv := hPre_finite_qkv)
    ∧ quiescent_InW0 (hInW0 := hInW0)
    ∧ quiescent_InW0Ideal (hInW0Ideal := hInW0Ideal)
    ∧ quiescent_InW0RefIdeal (hInW0RefIdeal := hInW0RefIdeal)
    ∧ quiescent_OutW0 (hOutW0 := hOutW0)
    ∧ quiescent_OutW0Ideal (hOutW0Ideal := hOutW0Ideal)
    ∧ quiescent_OutW0RefIdeal (hOutW0RefIdeal := hOutW0RefIdeal)
    ∧ quiescent_Norm (hNorm := hNorm)
    ∧ quiescent_NormIdeal (hNormIdeal := hNormIdeal)
    ∧ quiescent_NormRefIdeal (hNormRefIdeal := hNormRefIdeal)
    ∧ quiescent_AdMod (hAdMod := hAdMod)
    ∧ quiescent_AdModIdeal (hAdModIdeal := hAdModIdeal)
    ∧ quiescent_AdModRefIdeal (hAdModRefIdeal := hAdModRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdGlu (hAdGlu := hAdGlu)
    ∧ quiescent_AdGluIdeal (hAdGluIdeal := hAdGluIdeal)
    ∧ quiescent_AdGluRefIdeal (hAdGluRefIdeal := hAdGluRefIdeal)
    ∧ quiescent_Loss (hLoss := hLoss)
    ∧ quiescent_LossIdeal (hLossIdeal := hLossIdeal)
    ∧ quiescent_LossRefIdeal (hLossRefIdeal := hLossRefIdeal)
    ∧ quiescent_Ada (hAda := hAda)
    ∧ quiescent_AdaIdeal (hAdaIdeal := hAdaIdeal)
    ∧ quiescent_AdaIdeal_pre_finite_ada (hAdaIdeal := hAdaIdeal) (hPre_finite_ada := hPre_finite_ada)
    ∧ quiescent_AdaRefIdeal (hAdaRefIdeal := hAdaRefIdeal)
    ∧ quiescent_AdaRefIdeal_pre_finite_ada (hAdaRefIdeal := hAdaRefIdeal) (hPre_finite_ada := hPre_finite_ada)
    ∧ quiescent_Res (hRes := hRes)
    ∧ quiescent_ResIdeal (hResIdeal := hResIdeal)
    ∧ quiescent_ResRefIdeal (hResRefIdeal := hResRefIdeal)
    ∧ quiescent_Mod (hMod := hMod)
    ∧ quiescent_ModIdeal (hModIdeal := hModIdeal)
    ∧ quiescent_ModRefIdeal (hModRefIdeal := hModRefIdeal)
    ∧ quiescent_Bias (hBias := hBias)
    ∧ quiescent_BiasIdeal (hBiasIdeal := hBiasIdeal)
    ∧ quiescent_BiasRefIdeal (hBiasRefIdeal := hBiasRefIdeal)
    ∧ preserves_Kernel_KernelIdeal
    ∧ algebraic_KernelIdeal_ReferenceIdeal_on_gate_columns_pre_finite (hKernelIdeal := hKernelIdeal) (hReferenceIdeal := hReferenceIdeal) (hPre_finite := hPre_finite) (hOn_gate_columns := hOn_gate_columns)
    ∧ preserves_In_InIdeal
    ∧ algebraic_InIdeal_InRefIdeal (hInIdeal := hInIdeal) (hInRefIdeal := hInRefIdeal)
    ∧ preserves_InD_InDIdeal
    ∧ algebraic_InDIdeal_InDRefIdeal (hInDIdeal := hInDIdeal) (hInDRefIdeal := hInDRefIdeal)
    ∧ preserves_InW_InWIdeal
    ∧ algebraic_InWIdeal_InWRefIdeal_on_in_layer (hInWIdeal := hInWIdeal) (hInWRefIdeal := hInWRefIdeal) (hOn_in_layer := hOn_in_layer)
    ∧ preserves_Out_OutIdeal
    ∧ algebraic_OutIdeal_OutRefIdeal (hOutIdeal := hOutIdeal) (hOutRefIdeal := hOutRefIdeal)
    ∧ preserves_OutD_OutDIdeal
    ∧ algebraic_OutDIdeal_OutDRefIdeal (hOutDIdeal := hOutDIdeal) (hOutDRefIdeal := hOutDRefIdeal)
    ∧ preserves_OutW_OutWIdeal
    ∧ algebraic_OutWIdeal_OutWRefIdeal_on_out_layer (hOutWIdeal := hOutWIdeal) (hOutWRefIdeal := hOutWRefIdeal) (hOn_out_layer := hOn_out_layer)
    ∧ preserves_Fwd_FwdIdeal
    ∧ algebraic_FwdIdeal_FwdRefIdeal_pre_finite_qkv (hFwdIdeal := hFwdIdeal) (hFwdRefIdeal := hFwdRefIdeal) (hPre_finite_qkv := hPre_finite_qkv)
    ∧ preserves_InW0_InW0Ideal
    ∧ algebraic_InW0Ideal_InW0RefIdeal (hInW0Ideal := hInW0Ideal) (hInW0RefIdeal := hInW0RefIdeal)
    ∧ preserves_OutW0_OutW0Ideal
    ∧ algebraic_OutW0Ideal_OutW0RefIdeal (hOutW0Ideal := hOutW0Ideal) (hOutW0RefIdeal := hOutW0RefIdeal)
    ∧ preserves_Norm_NormIdeal
    ∧ algebraic_NormIdeal_NormRefIdeal (hNormIdeal := hNormIdeal) (hNormRefIdeal := hNormRefIdeal)
    ∧ preserves_AdMod_AdModIdeal
    ∧ algebraic_AdModIdeal_AdModRefIdeal (hAdModIdeal := hAdModIdeal) (hAdModRefIdeal := hAdModRefIdeal)
    ∧ preserves_AdIn_AdInIdeal
    ∧ algebraic_AdInIdeal_AdInRefIdeal (hAdInIdeal := hAdInIdeal) (hAdInRefIdeal := hAdInRefIdeal)
    ∧ preserves_AdOut_AdOutIdeal
    ∧ algebraic_AdOutIdeal_AdOutRefIdeal (hAdOutIdeal := hAdOutIdeal) (hAdOutRefIdeal := hAdOutRefIdeal)
    ∧ preserves_AdGlu_AdGluIdeal
    ∧ algebraic_AdGluIdeal_AdGluRefIdeal (hAdGluIdeal := hAdGluIdeal) (hAdGluRefIdeal := hAdGluRefIdeal)
    ∧ preserves_Loss_LossIdeal
    ∧ algebraic_LossIdeal_LossRefIdeal (hLossIdeal := hLossIdeal) (hLossRefIdeal := hLossRefIdeal)
    ∧ preserves_Ada_AdaIdeal
    ∧ algebraic_AdaIdeal_AdaRefIdeal_pre_finite_ada (hAdaIdeal := hAdaIdeal) (hAdaRefIdeal := hAdaRefIdeal) (hPre_finite_ada := hPre_finite_ada)
    ∧ preserves_Res_ResIdeal
    ∧ algebraic_ResIdeal_ResRefIdeal (hResIdeal := hResIdeal) (hResRefIdeal := hResRefIdeal)
    ∧ preserves_Mod_ModIdeal
    ∧ algebraic_ModIdeal_ModRefIdeal (hModIdeal := hModIdeal) (hModRefIdeal := hModRefIdeal)
    ∧ preserves_Bias_BiasIdeal
    ∧ algebraic_BiasIdeal_BiasRefIdeal (hBiasIdeal := hBiasIdeal) (hBiasRefIdeal := hBiasRefIdeal)
-- ==== On_gate_columns.lean ====
abbrev S4352x1536 : Shape := ⟨2, ![4352, 1536]⟩
abbrev S4352x2560 : Shape := ⟨2, ![4352, 2560]⟩
abbrev S4352x1024 : Shape := ⟨2, ![4352, 1024]⟩
abbrev S_ : Shape := ⟨0, ![]⟩
abbrev S4352x256 : Shape := ⟨2, ![4352, 256]⟩

class Facts : Prop where
  bcast_S_S4352x1024 : S_.BroadcastsInDim S4352x1024 (![] : Fin 0 → Fin S4352x1024.rank)
  bcast_S_S4352x2560 : S_.BroadcastsInDim S4352x2560 (![] : Fin 0 → Fin S4352x2560.rank)
  bcast_S_S4352x256 : S_.BroadcastsInDim S4352x256 (![] : Fin 0 → Fin S4352x256.rank)

variable [Facts]

def fn {F : FTy → Type} [FloatOps F] (main_arg0 : FVec F S4352x1536 .bf16) (main_arg1 : FVec F S4352x2560 .f32) (main_arg2 : FVec F S4352x1024 .f32) : IVec S4352x1024 1 × IVec S4352x2560 1 × IVec S4352x256 1 × IVec S4352x256 1 :=
  let main_v0 : IVec S4352x2560 32 := iotaInDim S4352x2560 32 1
  let main_c : IVec S_ 1 := constantI S_ 1 1#1
  let main_v1 : IVec S4352x1024 1 := broadcastInDim S4352x1024 ![] bcast_S_S4352x1024 main_c
  let main_c_0 : IVec S_ 32 := constantI S_ 32 1536#32
  let main_v2 : IVec S4352x2560 32 := broadcastInDim S4352x2560 ![] bcast_S_S4352x2560 main_c_0
  let main_v3 : IVec S4352x2560 1 := cmpi .sge main_v0 main_v2
  let main_c_1 : IVec S_ 1 := constantI S_ 1 1#1
  let main_v4 : IVec S4352x256 1 := broadcastInDim S4352x256 ![] bcast_S_S4352x256 main_c_1
  let main_c_2 : IVec S_ 1 := constantI S_ 1 1#1
  let main_v5 : IVec S4352x256 1 := broadcastInDim S4352x256 ![] bcast_S_S4352x256 main_c_2
  (main_v1, main_v3, main_v4, main_v5)
-- ==== On_in_layer.lean ====
abbrev S4352x1024 : Shape := ⟨2, ![4352, 1024]⟩
abbrev S4352x2560 : Shape := ⟨2, ![4352, 2560]⟩
abbrev S2x4x1024x640 : Shape := ⟨4, ![2, 4, 1024, 640]⟩
abbrev S_ : Shape := ⟨0, ![]⟩

class Facts : Prop where
  bcast_S_S2x4x1024x640 : S_.BroadcastsInDim S2x4x1024x640 (![] : Fin 0 → Fin S2x4x1024x640.rank)

variable [Facts]

def fn {F : FTy → Type} [FloatOps F] (main_arg0 : FVec F S4352x1024 .bf16) (main_arg1 : FVec F S4352x2560 .bf16) : IVec S2x4x1024x640 1 :=
  let main_v0 : IVec S2x4x1024x640 32 := iotaInDim S2x4x1024x640 32 0
  let main_c : IVec S_ 32 := constantI S_ 32 1#32
  let main_v1 : IVec S2x4x1024x640 32 := broadcastInDim S2x4x1024x640 ![] bcast_S_S2x4x1024x640 main_c
  let main_v2 : IVec S2x4x1024x640 1 := cmpi .eq main_v0 main_v1
  main_v2
-- ==== On_out_layer.lean ====
abbrev S4352x1024 : Shape := ⟨2, ![4352, 1024]⟩
abbrev S2x1x1024x1024 : Shape := ⟨4, ![2, 1, 1024, 1024]⟩
abbrev S_ : Shape := ⟨0, ![]⟩

class Facts : Prop where
  bcast_S_S2x1x1024x1024 : S_.BroadcastsInDim S2x1x1024x1024 (![] : Fin 0 → Fin S2x1x1024x1024.rank)

variable [Facts]

def fn {F : FTy → Type} [FloatOps F] (main_arg0 : FVec F S4352x1024 .bf16) (main_arg1 : FVec F S4352x1024 .bf16) : IVec S2x1x1024x1024 1 :=
  let main_v0 : IVec S2x1x1024x1024 32 := iotaInDim S2x1x1024x1024 32 0
  let main_c : IVec S_ 32 := constantI S_ 32 1#32
  let main_v1 : IVec S2x1x1024x1024 32 := broadcastInDim S2x1x1024x1024 ![] bcast_S_S2x1x1024x1024 main_c
  let main_v2 : IVec S2x1x1024x1024 1 := cmpi .eq main_v0 main_v1
  main_v2
-- ==== Pre_finite.lean ====
abbrev S4352x1536 : Shape := ⟨2, ![4352, 1536]⟩
abbrev S4352x2560 : Shape := ⟨2, ![4352, 2560]⟩
abbrev S4352x1024 : Shape := ⟨2, ![4352, 1024]⟩
abbrev S_ : Shape := ⟨0, ![]⟩

class Facts : Prop where
  bitsLt_bf16_f32 : FTy.bits .bf16 < FTy.bits .f32
  bcast_S_S4352x1536 : S_.BroadcastsInDim S4352x1536 (![] : Fin 0 → Fin S4352x1536.rank)
  reducesTo_S4352x1536_S_d0_1 : S4352x1536.ReducesTo [0, 1] S_
  h_S_ : 0 < S_.numel
  bcast_S_S4352x2560 : S_.BroadcastsInDim S4352x2560 (![] : Fin 0 → Fin S4352x2560.rank)
  reducesTo_S4352x2560_S_d0_1 : S4352x2560.ReducesTo [0, 1] S_
  bcast_S_S4352x1024 : S_.BroadcastsInDim S4352x1024 (![] : Fin 0 → Fin S4352x1024.rank)
  reducesTo_S4352x1024_S_d0_1 : S4352x1024.ReducesTo [0, 1] S_

variable [Facts]

def fn {F : FTy → Type} [FloatOps F] (main_arg0 : FVec F S4352x1536 .bf16) (main_arg1 : FVec F S4352x2560 .f32) (main_arg2 : FVec F S4352x1024 .f32) : IVec S_ 1 :=
  let main_v0 : FVec F S4352x1536 .f32 := (extf .f32 · bitsLt_bf16_f32) main_arg0
  let main_v1 : FVec F S4352x1536 .f32 := Host.absf main_v0
  let main_cst : FVec F S_ .f32 := constant S_ .f32 0x7F800000#32
  let main_v2 : FVec F S4352x1536 .f32 := broadcastInDim S4352x1536 ![] bcast_S_S4352x1536 main_cst
  let main_v3 : IVec S4352x1536 1 := cmpf .olt main_v1 main_v2
  let main_c : IVec S_ 1 := constantI S_ 1 1#1
  let main_v4 : IVec S_ 1 := (fun x v => Host.reduce IntOp.andi x v reducesTo_S4352x1536_S_d0_1 h_S_) main_v3 main_c
  let main_v5 : FVec F S4352x2560 .f32 := Host.absf main_arg1
  let main_cst_0 : FVec F S_ .f32 := constant S_ .f32 0x7F800000#32
  let main_v6 : FVec F S4352x2560 .f32 := broadcastInDim S4352x2560 ![] bcast_S_S4352x2560 main_cst_0
  let main_v7 : IVec S4352x2560 1 := cmpf .olt main_v5 main_v6
  let main_c_1 : IVec S_ 1 := constantI S_ 1 1#1
  let main_v8 : IVec S_ 1 := (fun x v => Host.reduce IntOp.andi x v reducesTo_S4352x2560_S_d0_1 h_S_) main_v7 main_c_1
  let main_v9 : IVec S_ 1 := andi main_v4 main_v8
  let main_v10 : FVec F S4352x1024 .f32 := Host.absf main_arg2
  let main_cst_2 : FVec F S_ .f32 := constant S_ .f32 0x7F800000#32
  let main_v11 : FVec F S4352x1024 .f32 := broadcastInDim S4352x1024 ![] bcast_S_S4352x1024 main_cst_2
  let main_v12 : IVec S4352x1024 1 := cmpf .olt main_v10 main_v11
  let main_c_3 : IVec S_ 1 := constantI S_ 1 1#1
  let main_v13 : IVec S_ 1 := (fun x v => Host.reduce IntOp.andi x v reducesTo_S4352x1024_S_d0_1 h_S_) main_v12 main_c_3
  let main_v14 : IVec S_ 1 := andi main_v9 main_v13
  main_v14
-- ==== Pre_finite_ada.lean ====
abbrev S8x1024 : Shape := ⟨2, ![8, 1024]⟩
abbrev S4x8x768 : Shape := ⟨3, ![4, 8, 768]⟩
abbrev S4x1024x768 : Shape := ⟨3, ![4, 1024, 768]⟩
abbrev S_ : Shape := ⟨0, ![]⟩

class Facts : Prop where
  bcast_S_S4x8x768 : S_.BroadcastsInDim S4x8x768 (![] : Fin 0 → Fin S4x8x768.rank)
  reducesTo_S4x8x768_S_d0_1_2 : S4x8x768.ReducesTo [0, 1, 2] S_
  h_S_ : 0 < S_.numel
  bcast_S_S4x1024x768 : S_.BroadcastsInDim S4x1024x768 (![] : Fin 0 → Fin S4x1024x768.rank)
  reducesTo_S4x1024x768_S_d0_1_2 : S4x1024x768.ReducesTo [0, 1, 2] S_

variable [Facts]

def fn {F : FTy → Type} [FloatOps F] (main_arg0 : FVec F S8x1024 .f32) (main_arg1 : FVec F S4x8x768 .f32) (main_arg2 : FVec F S4x1024x768 .f32) : IVec S_ 1 :=
  let main_v0 : FVec F S4x8x768 .f32 := Host.absf main_arg1
  let main_cst : FVec F S_ .f32 := constant S_ .f32 0x7F800000#32
  let main_v1 : FVec F S4x8x768 .f32 := broadcastInDim S4x8x768 ![] bcast_S_S4x8x768 main_cst
  let main_v2 : IVec S4x8x768 1 := cmpf .olt main_v0 main_v1
  let main_c : IVec S_ 1 := constantI S_ 1 1#1
  let main_v3 : IVec S_ 1 := (fun x v => Host.reduce IntOp.andi x v reducesTo_S4x8x768_S_d0_1_2 h_S_) main_v2 main_c
  let main_v4 : FVec F S4x1024x768 .f32 := Host.absf main_arg2
  let main_cst_0 : FVec F S_ .f32 := constant S_ .f32 0x7F800000#32
  let main_v5 : FVec F S4x1024x768 .f32 := broadcastInDim S4x1024x768 ![] bcast_S_S4x1024x768 main_cst_0
  let main_v6 : IVec S4x1024x768 1 := cmpf .olt main_v4 main_v5
  let main_c_1 : IVec S_ 1 := constantI S_ 1 1#1
  let main_v7 : IVec S_ 1 := (fun x v => Host.reduce IntOp.andi x v reducesTo_S4x1024x768_S_d0_1_2 h_S_) main_v6 main_c_1
  let main_v8 : IVec S_ 1 := andi main_v3 main_v7
  main_v8
-- ==== Pre_finite_qkv.lean ====
abbrev S4352x1536 : Shape := ⟨2, ![4352, 1536]⟩
abbrev S4352x2560 : Shape := ⟨2, ![4352, 2560]⟩
abbrev S_ : Shape := ⟨0, ![]⟩

class Facts : Prop where
  bitsLt_bf16_f32 : FTy.bits .bf16 < FTy.bits .f32
  bcast_S_S4352x1536 : S_.BroadcastsInDim S4352x1536 (![] : Fin 0 → Fin S4352x1536.rank)
  reducesTo_S4352x1536_S_d0_1 : S4352x1536.ReducesTo [0, 1] S_
  h_S_ : 0 < S_.numel

variable [Facts]

def fn {F : FTy → Type} [FloatOps F] (main_arg0 : FVec F S4352x1536 .bf16) (main_arg1 : FVec F S4352x2560 .f32) : IVec S_ 1 :=
  let main_v0 : FVec F S4352x1536 .f32 := (extf .f32 · bitsLt_bf16_f32) main_arg0
  let main_v1 : FVec F S4352x1536 .f32 := Host.absf main_v0
  let main_cst : FVec F S_ .f32 := constant S_ .f32 0x7F800000#32
  let main_v2 : FVec F S4352x1536 .f32 := broadcastInDim S4352x1536 ![] bcast_S_S4352x1536 main_cst
  let main_v3 : IVec S4352x1536 1 := cmpf .olt main_v1 main_v2
  let main_c : IVec S_ 1 := constantI S_ 1 1#1
  let main_v4 : IVec S_ 1 := (fun x v => Host.reduce IntOp.andi x v reducesTo_S4352x1536_S_d0_1 h_S_) main_v3 main_c
  main_v4
-- ==== Kernel.lean ====
abbrev S4352x1536 : Shape := ⟨2, ![4352, 1536]⟩
abbrev S4352x2560 : Shape := ⟨2, ![4352, 2560]⟩
abbrev S4352x1024 : Shape := ⟨2, ![4352, 1024]⟩
abbrev S4352x256 : Shape := ⟨2, ![4352, 256]⟩
abbrev S4352x2x4x128 : Shape := ⟨4, ![4352, 2, 4, 128]⟩
abbrev S4352x2x128 : Shape := ⟨3, ![4352, 2, 128]⟩
abbrev S4096x2x4x128 : Shape := ⟨4, ![4096, 2, 4, 128]⟩
abbrev S2x4352x4096x4 : Shape := ⟨4, ![2, 4352, 4096, 4]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S4096x1024 : Shape := ⟨2, ![4096, 1024]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S256x1024 : Shape := ⟨2, ![256, 1024]⟩
abbrev S256x2x4 : Shape := ⟨3, ![256, 2, 4]⟩
abbrev S256x2x4x1 : Shape := ⟨4, ![256, 2, 4, 1]⟩
abbrev S4096x2x4 : Shape := ⟨3, ![4096, 2, 4]⟩
abbrev S4096x2x4x1 : Shape := ⟨4, ![4096, 2, 4, 1]⟩
abbrev S256x512 : Shape := ⟨2, ![256, 512]⟩
abbrev S4352x128 : Shape := ⟨2, ![4352, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S512x128 : Shape := ⟨2, ![512, 128]⟩

abbrev nBuf : Space → Nat
  | .hbm => 93
  | .vmem => 22
  | .smem => 0
  | _ => 0

abbrev bufTy : (tb : Table) → Fin (tcTables nBuf tb) → BufTy
  | .hbm, ⟨0, _⟩ => ⟨S4352x1536, .bf16⟩
  | .hbm, ⟨1, _⟩ => ⟨S4352x2560, .f32⟩
  | .hbm, ⟨2, _⟩ => ⟨S4352x1024, .f32⟩
  | .hbm, ⟨3, _⟩ => ⟨S4352x1536, .f32⟩
  | .hbm, ⟨4, _⟩ => ⟨S4352x1024, .f32⟩
  | .hbm, ⟨5, _⟩ => ⟨S4352x256, .f32⟩
  | .hbm, ⟨6, _⟩ => ⟨S4352x256, .f32⟩
  | .hbm, ⟨7, _⟩ => ⟨S4352x2x4x128, .f32⟩
  | .hbm, ⟨8, _⟩ => ⟨S4352x2x128, .f32⟩
  | .hbm, ⟨9, _⟩ => ⟨S4352x2x128, .f32⟩
  | .hbm, ⟨10, _⟩ => ⟨S4096x2x4x128, .f32⟩
  | .hbm, ⟨11, _⟩ => ⟨S2x4352x4096x4, .f32⟩
  | .hbm, ⟨12, _⟩ => ⟨S2x4x4096x4352, .f32⟩
  | .hbm, ⟨13, _⟩ => ⟨S_, .f32⟩
  | .hbm, ⟨14, _⟩ => ⟨S2x4x4096, .f32⟩
  | .hbm, ⟨15, _⟩ => ⟨S_, .f32⟩
  | .hbm, ⟨16, _⟩ => ⟨S2x4x4096, .f32⟩
  | .hbm, ⟨17, _⟩ => ⟨S2x4x4096, .f32⟩
  | .hbm, ⟨18, _⟩ => ⟨S2x4x4096x1, .f32⟩
  | .hbm, ⟨19, _⟩ => ⟨S2x4x4096x4352, .f32⟩
  | .hbm, ⟨20, _⟩ => ⟨S2x4x4096x4352, .f32⟩
  | .hbm, ⟨21, _⟩ => ⟨S2x4x4096x4352, .f32⟩
  | .hbm, ⟨22, _⟩ => ⟨S_, .f32⟩
  | .hbm, ⟨23, _⟩ => ⟨S2x4x4096, .f32⟩
  | .hbm, ⟨24, _⟩ => ⟨S2x4x4096x1, .f32⟩
  | .hbm, ⟨25, _⟩ => ⟨S2x4x4096x4352, .f32⟩
  | .hbm, ⟨26, _⟩ => ⟨S2x4x4096x4352, .f32⟩
  | .hbm, ⟨27, _⟩ => ⟨S2x128x4x4096, .f32⟩
  | .hbm, ⟨28, _⟩ => ⟨S4096x2x4x128, .f32⟩
  | .hbm, ⟨29, _⟩ => ⟨S4096x1024, .f32⟩
  | .hbm, ⟨30, _⟩ => ⟨S256x2x4x128, .f32⟩
  | .hbm, ⟨31, _⟩ => ⟨S256x2x128, .f32⟩
  | .hbm, ⟨32, _⟩ => ⟨S256x2x128, .f32⟩
  | .hbm, ⟨33, _⟩ => ⟨S2x256x256x4, .f32⟩
  | .hbm, ⟨34, _⟩ => ⟨S2x4x256x256, .f32⟩
  | .hbm, ⟨35, _⟩ => ⟨S_, .f32⟩
  | .hbm, ⟨36, _⟩ => ⟨S2x4x256, .f32⟩
  | .hbm, ⟨37, _⟩ => ⟨S_, .f32⟩
  | .hbm, ⟨38, _⟩ => ⟨S2x4x256, .f32⟩
  | .hbm, ⟨39, _⟩ => ⟨S2x4x256, .f32⟩
  | .hbm, ⟨40, _⟩ => ⟨S2x4x256x1, .f32⟩
  | .hbm, ⟨41, _⟩ => ⟨S2x4x256x256, .f32⟩
  | .hbm, ⟨42, _⟩ => ⟨S2x4x256x256, .f32⟩
  | .hbm, ⟨43, _⟩ => ⟨S2x4x256x256, .f32⟩
  | .hbm, ⟨44, _⟩ => ⟨S_, .f32⟩
  | .hbm, ⟨45, _⟩ => ⟨S2x4x256, .f32⟩
  | .hbm, ⟨46, _⟩ => ⟨S2x4x256x1, .f32⟩
  | .hbm, ⟨47, _⟩ => ⟨S2x4x256x256, .f32⟩
  | .hbm, ⟨48, _⟩ => ⟨S2x4x256x256, .f32⟩
  | .hbm, ⟨49, _⟩ => ⟨S2x128x4x256, .f32⟩
  | .hbm, ⟨50, _⟩ => ⟨S256x2x4x128, .f32⟩
  | .hbm, ⟨51, _⟩ => ⟨S256x1024, .f32⟩
  | .hbm, ⟨52, _⟩ => ⟨S4352x1024, .f32⟩
  | .hbm, ⟨53, _⟩ => ⟨S256x2x4x128, .f32⟩
  | .hbm, ⟨54, _⟩ => ⟨S256x2x128, .f32⟩
  | .hbm, ⟨55, _⟩ => ⟨S2x256x256x4, .f32⟩
  | .hbm, ⟨56, _⟩ => ⟨S2x4x256x256, .f32⟩
  | .hbm, ⟨57, _⟩ => ⟨S_, .f32⟩
  | .hbm, ⟨58, _⟩ => ⟨S2x4x256, .f32⟩
  | .hbm, ⟨59, _⟩ => ⟨S2x4x256x1, .f32⟩
  | .hbm, ⟨60, _⟩ => ⟨S2x4x256x256, .f32⟩
  | .hbm, ⟨61, _⟩ => ⟨S2x4x256x256, .f32⟩
  | .hbm, ⟨62, _⟩ => ⟨S2x4x256x256, .f32⟩
  | .hbm, ⟨63, _⟩ => ⟨S_, .f32⟩
  | .hbm, ⟨64, _⟩ => ⟨S2x4x256, .f32⟩
  | .hbm, ⟨65, _⟩ => ⟨S2x4x256, .f32⟩
  | .hbm, ⟨66, _⟩ => ⟨S2x4x256, .f32⟩
  | .hbm, ⟨67, _⟩ => ⟨S256x2x4, .f32⟩
  | .hbm, ⟨68, _⟩ => ⟨S256x2x4x1, .f32⟩
  | .hbm, ⟨69, _⟩ => ⟨S256x2x4x128, .f32⟩
  | .hbm, ⟨70, _⟩ => ⟨S256x1024, .f32⟩
  | .hbm, ⟨71, _⟩ => ⟨S4096x2x4x128, .f32⟩
  | .hbm, ⟨72, _⟩ => ⟨S2x4352x4096x4, .f32⟩
  | .hbm, ⟨73, _⟩ => ⟨S2x4x4096x4352, .f32⟩
  | .hbm, ⟨74, _⟩ => ⟨S_, .f32⟩
  | .hbm, ⟨75, _⟩ => ⟨S2x4x4096, .f32⟩
  | .hbm, ⟨76, _⟩ => ⟨S2x4x4096x1, .f32⟩
  | .hbm, ⟨77, _⟩ => ⟨S2x4x4096x4352, .f32⟩
  | .hbm, ⟨78, _⟩ => ⟨S2x4x4096x4352, .f32⟩
  | .hbm, ⟨79, _⟩ => ⟨S2x4x4096x4352, .f32⟩
  | .hbm, ⟨80, _⟩ => ⟨S_, .f32⟩
  | .hbm, ⟨81, _⟩ => ⟨S2x4x4096, .f32⟩
  | .hbm, ⟨82, _⟩ => ⟨S2x4x4096, .f32⟩
  | .hbm, ⟨83, _⟩ => ⟨S2x4x4096, .f32⟩
  | .hbm, ⟨84, _⟩ => ⟨S4096x2x4, .f32⟩
  | .hbm, ⟨85, _⟩ => ⟨S4096x2x4x1, .f32⟩
  | .hbm, ⟨86, _⟩ => ⟨S4096x2x4x128, .f32⟩
  | .hbm, ⟨87, _⟩ => ⟨S4096x1024, .f32⟩
  | .hbm, ⟨88, _⟩ => ⟨S4352x1024, .f32⟩
  | .hbm, ⟨89, _⟩ => ⟨S4352x1024, .f32⟩
  | .hbm, ⟨90, _⟩ => ⟨S4352x2560, .bf16⟩
  | .hbm, ⟨91, _⟩ => ⟨S4352x256, .f32⟩
  | .hbm, ⟨92, _⟩ => ⟨S4352x256, .f32⟩
  | .local _ .vmem, ⟨0, _⟩ => ⟨S256x512, .bf16⟩
  | .local _ .vmem, ⟨1, _⟩ => ⟨S256x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S4352x128, .f32⟩
  | .local _ .vmem, ⟨19, _⟩ => ⟨S4352x128, .f32⟩
  | .local _ .vmem, ⟨20, _⟩ => ⟨S4352x128, .f32⟩
  | .local _ .vmem, ⟨21, _⟩ => ⟨S4352x128, .f32⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_7 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_8 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76_0 : Ref sig .tc := ⟨.hbm, 89, rfl⟩
abbrev main_v76_1 : Ref sig .tc := ⟨.hbm, 90, rfl⟩
abbrev main_v76_2 : Ref sig .tc := ⟨.hbm, 91, rfl⟩
abbrev main_v76_3 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let v7 : BitVec 32 := Scalar.extui v6
  let c0_i32_4 : BitVec 32 := 0#32
  let v8 : BitVec 1 := Scalar.cmpi .ne v7 c0_i32_4
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4352x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4352x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4352x1536 : Shape := ⟨2, ![4352, 1536]⟩
abbrev S4352x2560 : Shape := ⟨2, ![4352, 2560]⟩
abbrev S4352x1024 : Shape := ⟨2, ![4352, 1024]⟩
abbrev S4352x256 : Shape := ⟨2, ![4352, 256]⟩
abbrev S4352x2x4x128 : Shape := ⟨4, ![4352, 2, 4, 128]⟩
abbrev S4352x2x128 : Shape := ⟨3, ![4352, 2, 128]⟩
abbrev S4096x2x4x128 : Shape := ⟨4, ![4096, 2, 4, 128]⟩
abbrev S2x4352x4096x4 : Shape := ⟨4, ![2, 4352, 4096, 4]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S4096x1024 : Shape := ⟨2, ![4096, 1024]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S256x1024 : Shape := ⟨2, ![256, 1024]⟩
abbrev S2x128x256 : Shape := ⟨3, ![2, 128, 256]⟩
abbrev S2x256x4x128 : Shape := ⟨4, ![2, 256, 4, 128]⟩
abbrev S2x256x128 : Shape := ⟨3, ![2, 256, 128]⟩
abbrev S2x128x4352 : Shape := ⟨3, ![2, 128, 4352]⟩
abbrev S2x4096x4x128 : Shape := ⟨4, ![2, 4096, 4, 128]⟩
abbrev S2x4352x128 : Shape := ⟨3, ![2, 4352, 128]⟩

abbrev nBuf : Space → Nat
  | .hbm => 190
  | .vmem => 0
  | .smem => 0
  | _ => 0

abbrev hbmTy0_0 (i : Nat) : BufTy := match i % 128 with
  | 0 => ⟨S4352x1536, .bf16⟩
  | 1 => ⟨S4352x2560, .f32⟩
  | 2 => ⟨S4352x1024, .f32⟩
  | 3 => ⟨S4352x1024, .f32⟩
  | 4 => ⟨S4352x1536, .f32⟩
  | 5 => ⟨S4352x1024, .f32⟩
  | 6 => ⟨S4352x256, .f32⟩
  | 7 => ⟨S4352x256, .f32⟩
  | 8 => ⟨S4352x2x4x128, .f32⟩
  | 9 => ⟨S4352x2x128, .f32⟩
  | 10 => ⟨S4352x2x128, .f32⟩
  | 11 => ⟨S4096x2x4x128, .f32⟩
  | 12 => ⟨S2x4352x4096x4, .f32⟩
  | 13 => ⟨S2x4x4096x4352, .f32⟩
  | 14 => ⟨S_, .f32⟩
  | 15 => ⟨S2x4x4096, .f32⟩
  | 16 => ⟨S2x4x4096x1, .f32⟩
  | 17 => ⟨S2x4x4096x4352, .f32⟩
  | 18 => ⟨S2x4x4096x4352, .i1⟩
  | 19 => ⟨S2x4x4096x4352, .f32⟩
  | 20 => ⟨S_, .f32⟩
  | 21 => ⟨S2x4x4096, .f32⟩
  | 22 => ⟨S_, .f32⟩
  | 23 => ⟨S2x4x4096, .f32⟩
  | 24 => ⟨S2x4x4096, .f32⟩
  | 25 => ⟨S_, .f32⟩
  | 26 => ⟨S2x4x4096, .f32⟩
  | 27 => ⟨S2x4x4096, .i1⟩
  | 28 => ⟨S_, .f32⟩
  | 29 => ⟨S2x4x4096, .f32⟩
  | 30 => ⟨S2x4x4096, .i1⟩
  | 31 => ⟨S_, .f32⟩
  | 32 => ⟨S2x4x4096, .f32⟩
  | 33 => ⟨S_, .f32⟩
  | 34 => ⟨S2x4x4096, .f32⟩
  | 35 => ⟨S_, .f32⟩
  | 36 => ⟨S2x4x4096, .f32⟩
  | 37 => ⟨S2x4x4096, .f32⟩
  | 38 => ⟨S2x4x4096, .f32⟩
  | 39 => ⟨S2x4x4096x1, .f32⟩
  | 40 => ⟨S2x4x4096x4352, .f32⟩
  | 41 => ⟨S2x4x4096x4352, .f32⟩
  | 42 => ⟨S2x4x4096x4352, .f32⟩
  | 43 => ⟨S_, .f32⟩
  | 44 => ⟨S2x4x4096, .f32⟩
  | 45 => ⟨S2x4x4096x1, .f32⟩
  | 46 => ⟨S2x4x4096x4352, .f32⟩
  | 47 => ⟨S2x4x4096x4352, .f32⟩
  | 48 => ⟨S2x4x4096x1, .f32⟩
  | 49 => ⟨S_, .f32⟩
  | 50 => ⟨S2x4x4096x1, .f32⟩
  | 51 => ⟨S2x4x4096x1, .f32⟩
  | 52 => ⟨S2x128x4x4096, .f32⟩
  | 53 => ⟨S4096x2x4x128, .f32⟩
  | 54 => ⟨S4096x1024, .f32⟩
  | 55 => ⟨S256x2x4x128, .f32⟩
  | 56 => ⟨S256x2x128, .f32⟩
  | 57 => ⟨S256x2x128, .f32⟩
  | 58 => ⟨S2x256x256x4, .f32⟩
  | 59 => ⟨S2x4x256x256, .f32⟩
  | 60 => ⟨S_, .f32⟩
  | 61 => ⟨S2x4x256, .f32⟩
  | 62 => ⟨S2x4x256x1, .f32⟩
  | 63 => ⟨S2x4x256x256, .f32⟩
  | 64 => ⟨S2x4x256x256, .i1⟩
  | 65 => ⟨S2x4x256x256, .f32⟩
  | 66 => ⟨S_, .f32⟩
  | 67 => ⟨S2x4x256, .f32⟩
  | 68 => ⟨S_, .f32⟩
  | 69 => ⟨S2x4x256, .f32⟩
  | 70 => ⟨S2x4x256, .f32⟩
  | 71 => ⟨S_, .f32⟩
  | 72 => ⟨S2x4x256, .f32⟩
  | 73 => ⟨S2x4x256, .i1⟩
  | 74 => ⟨S_, .f32⟩
  | 75 => ⟨S2x4x256, .f32⟩
  | 76 => ⟨S2x4x256, .i1⟩
  | 77 => ⟨S_, .f32⟩
  | 78 => ⟨S2x4x256, .f32⟩
  | 79 => ⟨S_, .f32⟩
  | 80 => ⟨S2x4x256, .f32⟩
  | 81 => ⟨S_, .f32⟩
  | 82 => ⟨S2x4x256, .f32⟩
  | 83 => ⟨S2x4x256, .f32⟩
  | 84 => ⟨S2x4x256, .f32⟩
  | 85 => ⟨S2x4x256x1, .f32⟩
  | 86 => ⟨S2x4x256x256, .f32⟩
  | 87 => ⟨S2x4x256x256, .f32⟩
  | 88 => ⟨S2x4x256x256, .f32⟩
  | 89 => ⟨S_, .f32⟩
  | 90 => ⟨S2x4x256, .f32⟩
  | 91 => ⟨S2x4x256x1, .f32⟩
  | 92 => ⟨S2x4x256x256, .f32⟩
  | 93 => ⟨S2x4x256x256, .f32⟩
  | 94 => ⟨S2x4x256x1, .f32⟩
  | 95 => ⟨S_, .f32⟩
  | 96 => ⟨S2x4x256x1, .f32⟩
  | 97 => ⟨S2x4x256x1, .f32⟩
  | 98 => ⟨S2x128x4x256, .f32⟩
  | 99 => ⟨S256x2x4x128, .f32⟩
  | 100 => ⟨S256x1024, .f32⟩
  | 101 => ⟨S4352x1024, .f32⟩
  | 102 => ⟨S4352x1024, .f32⟩
  | 103 => ⟨S4352x1024, .f32⟩
  | 104 => ⟨S_, .f32⟩
  | 105 => ⟨S4352x1024, .f32⟩
  | 106 => ⟨S4352x1024, .f32⟩
  | 107 => ⟨S_, .f32⟩
  | 108 => ⟨S4352x1024, .f32⟩
  | 109 => ⟨S4352x1024, .f32⟩
  | 110 => ⟨S_, .f32⟩
  | 111 => ⟨S4352x1024, .f32⟩
  | 112 => ⟨S4352x1024, .f32⟩
  | 113 => ⟨S4352x1024, .f32⟩
  | 114 => ⟨S4352x1024, .f32⟩
  | 115 => ⟨S4352x1024, .f32⟩
  | 116 => ⟨S4352x1024, .f32⟩
  | 117 => ⟨S4352x1024, .f32⟩
  | 118 => ⟨S4352x1024, .f32⟩
  | 119 => ⟨S4352x1024, .f32⟩
  | 120 => ⟨S4352x1024, .f32⟩
  | 121 => ⟨S4352x1024, .f32⟩
  | 122 => ⟨S256x1024, .f32⟩
  | 123 => ⟨S4096x1024, .f32⟩
  | 124 => ⟨S256x2x4x128, .f32⟩
  | 125 => ⟨S2x128x4x256, .f32⟩
  | 126 => ⟨S2x4x256x256, .f32⟩
  | 127 => ⟨S2x128x256, .f32⟩
  | _ => ⟨S4352x1536, .bf16⟩

abbrev hbmTy0_1 (i : Nat) : BufTy := match i % 128 with
  | 0 => ⟨S256x2x128, .f32⟩
  | 1 => ⟨S2x4x256x256, .f32⟩
  | 2 => ⟨S2x4x256x256, .f32⟩
  | 3 => ⟨S2x4x256x256, .f32⟩
  | 4 => ⟨S_, .f32⟩
  | 5 => ⟨S2x4x256, .f32⟩
  | 6 => ⟨S2x4x256x1, .f32⟩
  | 7 => ⟨S2x4x256x1, .f32⟩
  | 8 => ⟨S2x4x256x256, .f32⟩
  | 9 => ⟨S2x4x256x256, .f32⟩
  | 10 => ⟨S_, .f32⟩
  | 11 => ⟨S2x4x256, .f32⟩
  | 12 => ⟨S2x4x256x256, .f32⟩
  | 13 => ⟨S2x4x256x256, .f32⟩
  | 14 => ⟨S2x4x256x256, .f32⟩
  | 15 => ⟨S2x256x256x4, .f32⟩
  | 16 => ⟨S2x256x4x128, .f32⟩
  | 17 => ⟨S256x2x4x128, .f32⟩
  | 18 => ⟨S2x256x128, .f32⟩
  | 19 => ⟨S256x2x128, .f32⟩
  | 20 => ⟨S_, .f32⟩
  | 21 => ⟨S4352x2x128, .f32⟩
  | 22 => ⟨S_, .f32⟩
  | 23 => ⟨S4352x2x128, .f32⟩
  | 24 => ⟨S_, .f32⟩
  | 25 => ⟨S4352x2x4x128, .f32⟩
  | 26 => ⟨S4096x2x4x128, .f32⟩
  | 27 => ⟨S2x128x4x4096, .f32⟩
  | 28 => ⟨S2x4x4096x4352, .f32⟩
  | 29 => ⟨S2x128x4352, .f32⟩
  | 30 => ⟨S4352x2x128, .f32⟩
  | 31 => ⟨S4352x2x128, .f32⟩
  | 32 => ⟨S2x4x4096x4352, .f32⟩
  | 33 => ⟨S2x4x4096x4352, .f32⟩
  | 34 => ⟨S2x4x4096x4352, .f32⟩
  | 35 => ⟨S_, .f32⟩
  | 36 => ⟨S2x4x4096, .f32⟩
  | 37 => ⟨S2x4x4096x1, .f32⟩
  | 38 => ⟨S2x4x4096x1, .f32⟩
  | 39 => ⟨S2x4x4096x4352, .f32⟩
  | 40 => ⟨S2x4x4096x4352, .f32⟩
  | 41 => ⟨S_, .f32⟩
  | 42 => ⟨S2x4x4096, .f32⟩
  | 43 => ⟨S2x4x4096x4352, .f32⟩
  | 44 => ⟨S2x4x4096x4352, .f32⟩
  | 45 => ⟨S2x4x4096x4352, .f32⟩
  | 46 => ⟨S2x4352x4096x4, .f32⟩
  | 47 => ⟨S2x4096x4x128, .f32⟩
  | 48 => ⟨S4096x2x4x128, .f32⟩
  | 49 => ⟨S2x4352x128, .f32⟩
  | 50 => ⟨S4352x2x128, .f32⟩
  | 51 => ⟨S4352x2x128, .f32⟩
  | 52 => ⟨S_, .f32⟩
  | 53 => ⟨S4352x2x4x128, .f32⟩
  | 54 => ⟨S4352x2x4x128, .f32⟩
  | 55 => ⟨S_, .f32⟩
  | 56 => ⟨S4352x1536, .f32⟩
  | 57 => ⟨S4352x2560, .f32⟩
  | 58 => ⟨S4352x2560, .bf16⟩
  | 59 => ⟨S4352x1024, .f32⟩
  | 60 => ⟨S4352x256, .f32⟩
  | 61 => ⟨S4352x256, .f32⟩
  | _ => ⟨S4352x1536, .bf16⟩

abbrev hbmTy (i : Nat) : BufTy := match i / 128 with
  | 0 => hbmTy0_0 i
  | 1 => hbmTy0_1 i
  | _ => ⟨S4352x1536, .bf16⟩

abbrev bufTy : (tb : Table) → Fin (tcTables nBuf tb) → BufTy
  | .hbm, ⟨i, _⟩ => hbmTy i
  | _, _ => ⟨S4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_cst_13 : Ref sig .tc := ⟨.hbm, 74, rfl⟩
abbrev main_v57 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_cst_15 : Ref sig .tc := ⟨.hbm, 79, rfl⟩
abbrev main_v60 : Ref sig .tc := ⟨.hbm, 80, rfl⟩
abbrev main_cst_16 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_17 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_18 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_v79_2 : Ref sig .tc := ⟨.hbm, 109, rfl⟩
abbrev main_call0_cst_1 : Ref sig .tc := ⟨.hbm, 110, rfl⟩
abbrev main_call0_v6 : Ref sig .tc := ⟨.hbm, 111, rfl⟩
abbrev main_call0_v7 : Ref sig .tc := ⟨.hbm, 112, rfl⟩
abbrev main_v79_1 : Ref sig .tc := ⟨.hbm, 113, rfl⟩
abbrev main_v79_0 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_20 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_21 : Ref sig .tc := ⟨.hbm, 148, rfl⟩
abbrev main_v108 : Ref sig .tc := ⟨.hbm, 149, rfl⟩
abbrev main_cst_22 : Ref sig .tc := ⟨.hbm, 150, rfl⟩
abbrev main_v109 : Ref sig .tc := ⟨.hbm, 151, rfl⟩
abbrev main_cst_23 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_24 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_25 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_26 : Ref sig .tc := ⟨.hbm, 180, rfl⟩
abbrev main_v135 : Ref sig .tc := ⟨.hbm, 181, rfl⟩
abbrev main_v136 : Ref sig .tc := ⟨.hbm, 182, rfl⟩
abbrev main_cst_27 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩

abbrev nD : Nat := 1
abbrev τ : Topo := Topo.v7x

variable {F : FTy → Type} [FloatOps F]
-- ==== In.lean ====
abbrev S4352x1024 : Shape := ⟨2, ![4352, 1024]⟩
abbrev S2x1024x2560 : Shape := ⟨3, ![2, 1024, 2560]⟩
abbrev S2x1024x4x640 : Shape := ⟨4, ![2, 1024, 4, 640]⟩
abbrev S2x4x1024x640 : Shape := ⟨4, ![2, 4, 1024, 640]⟩
abbrev S4352x2560 : Shape := ⟨2, ![4352, 2560]⟩
abbrev S2176x1024 : Shape := ⟨2, ![2176, 1024]⟩
abbrev S1x1x1024x640 : Shape := ⟨4, ![1, 1, 1024, 640]⟩
abbrev S2176x640 : Shape := ⟨2, ![2176, 640]⟩
abbrev S1024x640 : Shape := ⟨2, ![1024, 640]⟩

abbrev nBuf : Space → Nat
  | .hbm => 6
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S2x1024x2560, .f32⟩
  | .hbm, ⟨2, _⟩ => ⟨S2x1024x4x640, .f32⟩
  | .hbm, ⟨3, _⟩ => ⟨S2x4x1024x640, .f32⟩
  | .hbm, ⟨4, _⟩ => ⟨S2x4x1024x640, .bf16⟩
  | .hbm, ⟨5, _⟩ => ⟨S4352x2560, .f32⟩
  | .local _ .vmem, ⟨0, _⟩ => ⟨S2176x1024, .bf16⟩
  | .local _ .vmem, ⟨1, _⟩ => ⟨S2176x1024, .bf16⟩
  | .local _ .vmem, ⟨2, _⟩ => ⟨S1x1x1024x640, .bf16⟩
  | .local _ .vmem, ⟨3, _⟩ => ⟨S1x1x1024x640, .bf16⟩
  | .local _ .vmem, ⟨4, _⟩ => ⟨S2176x640, .f32⟩
  | .local _ .vmem, ⟨5, _⟩ => ⟨S2176x640, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S4352x1024 : Shape := ⟨2, ![4352, 1024]⟩
abbrev S2x1024x2560 : Shape := ⟨3, ![2, 1024, 2560]⟩
abbrev S1x1024x2560 : Shape := ⟨3, ![1, 1024, 2560]⟩
abbrev S1024x2560 : Shape := ⟨2, ![1024, 2560]⟩
abbrev S4352x2560 : Shape := ⟨2, ![4352, 2560]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2x1024x2560, .f32⟩
  | .hbm, ⟨2, _⟩ => ⟨S4352x1024, .f32⟩
  | .hbm, ⟨3, _⟩ => ⟨S1x1024x2560, .f32⟩
  | .hbm, ⟨4, _⟩ => ⟨S1024x2560, .f32⟩
  | .hbm, ⟨5, _⟩ => ⟨S4352x2560, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InD.lean ====
abbrev S4352x2560 : Shape := ⟨2, ![4352, 2560]⟩
abbrev S2x1024x2560 : Shape := ⟨3, ![2, 1024, 2560]⟩
abbrev S2x1024x4x640 : Shape := ⟨4, ![2, 1024, 4, 640]⟩
abbrev S2x4x1024x640 : Shape := ⟨4, ![2, 4, 1024, 640]⟩
abbrev S4352x1024 : Shape := ⟨2, ![4352, 1024]⟩
abbrev S1088x2560 : Shape := ⟨2, ![1088, 2560]⟩
abbrev S1x4x1024x640 : Shape := ⟨4, ![1, 4, 1024, 640]⟩
abbrev S1088x1024 : Shape := ⟨2, ![1088, 1024]⟩
abbrev S1088x640 : Shape := ⟨2, ![1088, 640]⟩
abbrev S1x1x1024x640 : Shape := ⟨4, ![1, 1, 1024, 640]⟩
abbrev S1024x640 : Shape := ⟨2, ![1024, 640]⟩

abbrev nBuf : Space → Nat
  | .hbm => 6
  | .vmem => 5
  | .smem => 0
  | _ => 0

abbrev bufTy : (tb : Table) → Fin (tcTables nBuf tb) → BufTy
  | .hbm, ⟨0, _⟩ => ⟨S4352x2560, .bf16⟩
  | .hbm, ⟨1, _⟩ => ⟨S2x1024x2560, .f32⟩
  | .hbm, ⟨2, _⟩ => ⟨S2x1024x4x640, .f32⟩
  | .hbm, ⟨3, _⟩ => ⟨S2x4x1024x640, .f32⟩
  | .hbm, ⟨4, _⟩ => ⟨S2x4x1024x640, .bf16⟩
  | .hbm, ⟨5, _⟩ => ⟨S4352x1024, .f32⟩
  | .local _ .vmem, ⟨0, _⟩ => ⟨S1088x2560, .bf16⟩
  | .local _ .vmem, ⟨1, _⟩ => ⟨S1088x2560, .bf16⟩
  | .local _ .vmem, ⟨2, _⟩ => ⟨S1x4x1024x640, .bf16⟩
  | .local _ .vmem, ⟨3, _⟩ => ⟨S1088x1024, .f32⟩
  | .local _ .vmem, ⟨4, _⟩ => ⟨S1088x1024, .f32⟩
  | _, _ => ⟨S4352x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InDRefIdeal.lean ====
abbrev S4352x2560 : Shape := ⟨2, ![4352, 2560]⟩
abbrev S2x1024x2560 : Shape := ⟨3, ![2, 1024, 2560]⟩
abbrev S_ : Shape := ⟨0, ![]⟩
abbrev S4352x1024 : Shape := ⟨2, ![4352, 1024]⟩
abbrev S1x1024x2560 : Shape := ⟨3, ![1, 1024, 2560]⟩
abbrev S1024x2560 : Shape := ⟨2, ![1024, 2560]⟩

abbrev nBuf : Space → Nat
  | .hbm => 9
  | .vmem => 0
  | .smem => 0
  | _ => 0

abbrev bufTy : (tb : Table) → Fin (tcTables nBuf tb) → BufTy
  | .hbm, ⟨0, _⟩ => ⟨S4352x2560, .bf16⟩
  | .hbm, ⟨1, _⟩ => ⟨S2x1024x2560, .f32⟩
  | .hbm, ⟨2, _⟩ => ⟨S_, .f32⟩
  | .hbm, ⟨3, _⟩ => ⟨S4352x1024, .f32⟩
  | .hbm, ⟨4, _⟩ => ⟨S1x1024x2560, .f32⟩
  | .hbm, ⟨5, _⟩ => ⟨S1024x2560, .f32⟩
  | .hbm, ⟨6, _⟩ => ⟨S4352x2560, .f32⟩
  | .hbm, ⟨7, _⟩ => ⟨S4352x2560, .f32⟩
  | .hbm, ⟨8, _⟩ => ⟨S4352x1024, .f32⟩
  | _, _ => ⟨S4352x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InW.lean ====
abbrev S4352x1024 : Shape := ⟨2, ![4352, 1024]⟩
abbrev S4352x2560 : Shape := ⟨2, ![4352, 2560]⟩
abbrev S2x4x1024x640 : Shape := ⟨4, ![2, 4, 1024, 640]⟩
abbrev S2176x1024 : Shape := ⟨2, ![2176, 1024]⟩
abbrev S2176x640 : Shape := ⟨2, ![2176, 640]⟩
abbrev S1x1x1024x640 : Shape := ⟨4, ![1, 1, 1024, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x2560, .bf16⟩
  | .hbm, ⟨2, _⟩ => ⟨S2x4x1024x640, .f32⟩
  | .local _ .vmem, ⟨0, _⟩ => ⟨S2176x1024, .bf16⟩
  | .local _ .vmem, ⟨1, _⟩ => ⟨S2176x1024, .bf16⟩
  | .local _ .vmem, ⟨2, _⟩ => ⟨S2176x640, .bf16⟩
  | .local _ .vmem, ⟨3, _⟩ => ⟨S2176x640, .bf16⟩
  | .local _ .vmem, ⟨4, _⟩ => ⟨S1x1x1024x640, .f32⟩
  | .local _ .vmem, ⟨5, _⟩ => ⟨S1x1x1024x640, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InWRefIdeal.lean ====
abbrev S4352x1024 : Shape := ⟨2, ![4352, 1024]⟩
abbrev S4352x2560 : Shape := ⟨2, ![4352, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩
abbrev S2x4x1024x640 : Shape := ⟨4, ![2, 4, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2560, .bf16⟩
  | .hbm, ⟨2, _⟩ => ⟨S_, .f32⟩
  | .hbm, ⟨3, _⟩ => ⟨S1024x2560, .f32⟩
  | .hbm, ⟨4, _⟩ => ⟨S4352x1024, .f32⟩
  | .hbm, ⟨5, _⟩ => ⟨S4352x2560, .f32⟩
  | .hbm, ⟨6, _⟩ => ⟨S4352x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | .hbm, ⟨11, _⟩ => ⟨S2x4x1024x640, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S4352x1024 : Shape := ⟨2, ![4352, 1024]⟩
abbrev S2x1024x1024 : Shape := ⟨3, ![2, 1024, 1024]⟩
abbrev S2x1x1024x1024 : Shape := ⟨4, ![2, 1, 1024, 1024]⟩
abbrev S2176x1024 : Shape := ⟨2, ![2176, 1024]⟩
abbrev S1x1x1024x1024 : Shape := ⟨4, ![1, 1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S2x1024x1024, .f32⟩
  | .hbm, ⟨2, _⟩ => ⟨S2x1024x1024, .bf16⟩
  | .hbm, ⟨3, _⟩ => ⟨S2x1x1024x1024, .bf16⟩
  | .hbm, ⟨4, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S1x1x1024x1024, .bf16⟩
  | .local _ .vmem, ⟨3, _⟩ => ⟨S2176x1024, .f32⟩
  | .local _ .vmem, ⟨4, _⟩ => ⟨S2176x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S4352x1024 : Shape := ⟨2, ![4352, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2x1024x1024, .f32⟩
  | .hbm, ⟨2, _⟩ => ⟨S4352x1024, .f32⟩
  | .hbm, ⟨3, _⟩ => ⟨S1x1024x1024, .f32⟩
  | .hbm, ⟨4, _⟩ => ⟨S1024x1024, .f32⟩
  | .hbm, ⟨5, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutD.lean ====
abbrev S4352x1024 : Shape := ⟨2, ![4352, 1024]⟩
abbrev S2x1024x1024 : Shape := ⟨3, ![2, 1024, 1024]⟩
abbrev S2x1x1024x1024 : Shape := ⟨4, ![2, 1, 1024, 1024]⟩
abbrev S2176x1024 : Shape := ⟨2, ![2176, 1024]⟩
abbrev S1x1x1024x1024 : Shape := ⟨4, ![1, 1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S2x1024x1024, .f32⟩
  | .hbm, ⟨2, _⟩ => ⟨S2x1024x1024, .bf16⟩
  | .hbm, ⟨3, _⟩ => ⟨S2x1x1024x1024, .bf16⟩
  | .hbm, ⟨4, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S1x1x1024x1024, .bf16⟩
  | .local _ .vmem, ⟨3, _⟩ => ⟨S2176x1024, .f32⟩
  | .local _ .vmem, ⟨4, _⟩ => ⟨S2176x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDRefIdeal.lean ====
abbrev S4352x1024 : Shape := ⟨2, ![4352, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2x1024x1024, .f32⟩
  | .hbm, ⟨2, _⟩ => ⟨S_, .f32⟩
  | .hbm, ⟨3, _⟩ => ⟨S4352x1024, .f32⟩
  | .hbm, ⟨4, _⟩ => ⟨S1x1024x1024, .f32⟩
  | .hbm, ⟨5, _⟩ => ⟨S1024x1024, .f32⟩
  | .hbm, ⟨6, _⟩ => ⟨S4352x1024, .f32⟩
  | .hbm, ⟨7, _⟩ => ⟨S4352x1024, .f32⟩
  | .hbm, ⟨8, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutW.lean ====
abbrev S4352x1024 : Shape := ⟨2, ![4352, 1024]⟩
abbrev S2x1x1024x1024 : Shape := ⟨4, ![2, 1, 1024, 1024]⟩
abbrev S2176x1024 : Shape := ⟨2, ![2176, 1024]⟩
abbrev S1x1x1024x1024 : Shape := ⟨4, ![1, 1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S2x1x1024x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1x1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutWRefIdeal.lean ====
abbrev S4352x1024 : Shape := ⟨2, ![4352, 1024]⟩
abbrev S_ : Shape := ⟨0, ![]⟩
abbrev S1024x1024 : Shape := ⟨2, ![1024, 1024]⟩
abbrev S2x1x1024x1024 : Shape := ⟨4, ![2, 1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S2x1x1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Fwd.lean ====
abbrev S4352x1536 : Shape := ⟨2, ![4352, 1536]⟩
abbrev S4352x2560 : Shape := ⟨2, ![4352, 2560]⟩
abbrev S4352x1024 : Shape := ⟨2, ![4352, 1024]⟩
abbrev S256x512 : Shape := ⟨2, ![256, 512]⟩
abbrev S4352x128 : Shape := ⟨2, ![4352, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1024x128 : Shape := ⟨2, ![1024, 128]⟩
abbrev S256x1024 : Shape := ⟨2, ![256, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4352x1536, .bf16⟩
  | .hbm, ⟨1, _⟩ => ⟨S4352x2560, .f32⟩
  | .hbm, ⟨2, _⟩ => ⟨S4352x1024, .f32⟩
  | .hbm, ⟨3, _⟩ => ⟨S4352x1024, .bf16⟩
  | .hbm, ⟨4, _⟩ => ⟨S4352x1024, .f32⟩
  | .local _ .vmem, ⟨0, _⟩ => ⟨S256x512, .bf16⟩
  | .local _ .vmem, ⟨1, _⟩ => ⟨S256x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FwdRefIdeal.lean ====
abbrev S4352x1536 : Shape := ⟨2, ![4352, 1536]⟩
abbrev S4352x2560 : Shape := ⟨2, ![4352, 2560]⟩
abbrev S4352x1024 : Shape := ⟨2, ![4352, 1024]⟩
abbrev S4352x256 : Shape := ⟨2, ![4352, 256]⟩
abbrev S4352x2x4x128 : Shape := ⟨4, ![4352, 2, 4, 128]⟩
abbrev S4352x2x128 : Shape := ⟨3, ![4352, 2, 128]⟩
abbrev S4096x2x4x128 : Shape := ⟨4, ![4096, 2, 4, 128]⟩
abbrev S2x4352x4096x4 : Shape := ⟨4, ![2, 4352, 4096, 4]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S4096x1024 : Shape := ⟨2, ![4096, 1024]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S256x1024 : Shape := ⟨2, ![256, 1024]⟩
abbrev S256x2x4 : Shape := ⟨3, ![256, 2, 4]⟩
abbrev S256x2x4x1 : Shape := ⟨4, ![256, 2, 4, 1]⟩
abbrev S4096x2x4 : Shape := ⟨3, ![4096, 2, 4]⟩
abbrev S4096x2x4x1 : Shape := ⟨4, ![4096, 2, 4, 1]⟩

abbrev nBuf : Space → Nat
  | .hbm => 100
  | .vmem => 0
  | .smem => 0
  | _ => 0

abbrev bufTy : (tb : Table) → Fin (tcTables nBuf tb) → BufTy
  | .hbm, ⟨0, _⟩ => ⟨S4352x1536, .bf16⟩
  | .hbm, ⟨1, _⟩ => ⟨S4352x2560, .f32⟩
  | .hbm, ⟨2, _⟩ => ⟨S4352x1536, .f32⟩
  | .hbm, ⟨3, _⟩ => ⟨S4352x1024, .f32⟩
  | .hbm, ⟨4, _⟩ => ⟨S4352x256, .f32⟩
  | .hbm, ⟨5, _⟩ => ⟨S4352x256, .f32⟩
  | .hbm, ⟨6, _⟩ => ⟨S4352x2x4x128, .f32⟩
  | .hbm, ⟨7, _⟩ => ⟨S4352x2x128, .f32⟩
  | .hbm, ⟨8, _⟩ => ⟨S4352x2x128, .f32⟩
  | .hbm, ⟨9, _⟩ => ⟨S4096x2x4x128, .f32⟩
  | .hbm, ⟨10, _⟩ => ⟨S2x4352x4096x4, .f32⟩
  | .hbm, ⟨11, _⟩ => ⟨S2x4x4096x4352, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x4352, .f32⟩
  | .hbm, ⟨19, _⟩ => ⟨S2x4x4096x4352, .f32⟩
  | .hbm, ⟨20, _⟩ => ⟨S2x4x4096x4352, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x4352, .f32⟩
  | .hbm, ⟨25, _⟩ => ⟨S2x4x4096x4352, .f32⟩
  | .hbm, ⟨26, _⟩ => ⟨S2x128x4x4096, .f32⟩
  | .hbm, ⟨27, _⟩ => ⟨S4096x2x4x128, .f32⟩
  | .hbm, ⟨28, _⟩ => ⟨S4096x1024, .f32⟩
  | .hbm, ⟨29, _⟩ => ⟨S256x2x4x128, .f32⟩
  | .hbm, ⟨30, _⟩ => ⟨S256x2x128, .f32⟩
  | .hbm, ⟨31, _⟩ => ⟨S256x2x128, .f32⟩
  | .hbm, ⟨32, _⟩ => ⟨S2x256x256x4, .f32⟩
  | .hbm, ⟨33, _⟩ => ⟨S2x4x256x256, .f32⟩
  | .hbm, ⟨34, _⟩ => ⟨S_, .f32⟩
  | .hbm, ⟨35, _⟩ => ⟨S2x4x256, .f32⟩
  | .hbm, ⟨36, _⟩ => ⟨S_, .f32⟩
  | .hbm, ⟨37, _⟩ => ⟨S2x4x256, .f32⟩
  | .hbm, ⟨38, _⟩ => ⟨S2x4x256, .f32⟩
  | .hbm, ⟨39, _⟩ => ⟨S2x4x256x1, .f32⟩
  | .hbm, ⟨40, _⟩ => ⟨S2x4x256x256, .f32⟩
  | .hbm, ⟨41, _⟩ => ⟨S2x4x256x256, .f32⟩
  | .hbm, ⟨42, _⟩ => ⟨S2x4x256x256, .f32⟩
  | .hbm, ⟨43, _⟩ => ⟨S_, .f32⟩
  | .hbm, ⟨44, _⟩ => ⟨S2x4x256, .f32⟩
  | .hbm, ⟨45, _⟩ => ⟨S2x4x256x1, .f32⟩
  | .hbm, ⟨46, _⟩ => ⟨S2x4x256x256, .f32⟩
  | .hbm, ⟨47, _⟩ => ⟨S2x4x256x256, .f32⟩
  | .hbm, ⟨48, _⟩ => ⟨S2x128x4x256, .f32⟩
  | .hbm, ⟨49, _⟩ => ⟨S256x2x4x128, .f32⟩
  | .hbm, ⟨50, _⟩ => ⟨S256x1024, .f32⟩
  | .hbm, ⟨51, _⟩ => ⟨S4352x1024, .f32⟩
  | .hbm, ⟨52, _⟩ => ⟨S256x2x4x128, .f32⟩
  | .hbm, ⟨53, _⟩ => ⟨S256x2x128, .f32⟩
  | .hbm, ⟨54, _⟩ => ⟨S2x256x256x4, .f32⟩
  | .hbm, ⟨55, _⟩ => ⟨S2x4x256x256, .f32⟩
  | .hbm, ⟨56, _⟩ => ⟨S_, .f32⟩
  | .hbm, ⟨57, _⟩ => ⟨S2x4x256, .f32⟩
  | .hbm, ⟨58, _⟩ => ⟨S2x4x256x1, .f32⟩
  | .hbm, ⟨59, _⟩ => ⟨S2x4x256x256, .f32⟩
  | .hbm, ⟨60, _⟩ => ⟨S2x4x256x256, .f32⟩
  | .hbm, ⟨61, _⟩ => ⟨S2x4x256x256, .f32⟩
  | .hbm, ⟨62, _⟩ => ⟨S_, .f32⟩
  | .hbm, ⟨63, _⟩ => ⟨S2x4x256, .f32⟩
  | .hbm, ⟨64, _⟩ => ⟨S2x4x256, .f32⟩
  | .hbm, ⟨65, _⟩ => ⟨S2x4x256, .f32⟩
  | .hbm, ⟨66, _⟩ => ⟨S256x2x4, .f32⟩
  | .hbm, ⟨67, _⟩ => ⟨S256x2x4x1, .f32⟩
  | .hbm, ⟨68, _⟩ => ⟨S256x2x4x128, .f32⟩
  | .hbm, ⟨69, _⟩ => ⟨S256x1024, .f32⟩
  | .hbm, ⟨70, _⟩ => ⟨S4096x2x4x128, .f32⟩
  | .hbm, ⟨71, _⟩ => ⟨S2x4352x4096x4, .f32⟩
  | .hbm, ⟨72, _⟩ => ⟨S2x4x4096x4352, .f32⟩
  | .hbm, ⟨73, _⟩ => ⟨S_, .f32⟩
  | .hbm, ⟨74, _⟩ => ⟨S2x4x4096, .f32⟩
  | .hbm, ⟨75, _⟩ => ⟨S2x4x4096x1, .f32⟩
  | .hbm, ⟨76, _⟩ => ⟨S2x4x4096x4352, .f32⟩
  | .hbm, ⟨77, _⟩ => ⟨S2x4x4096x4352, .f32⟩
  | .hbm, ⟨78, _⟩ => ⟨S2x4x4096x4352, .f32⟩
  | .hbm, ⟨79, _⟩ => ⟨S_, .f32⟩
  | .hbm, ⟨80, _⟩ => ⟨S2x4x4096, .f32⟩
  | .hbm, ⟨81, _⟩ => ⟨S2x4x4096, .f32⟩
  | .hbm, ⟨82, _⟩ => ⟨S2x4x4096, .f32⟩
  | .hbm, ⟨83, _⟩ => ⟨S4096x2x4, .f32⟩
  | .hbm, ⟨84, _⟩ => ⟨S4096x2x4x1, .f32⟩
  | .hbm, ⟨85, _⟩ => ⟨S4096x2x4x128, .f32⟩
  | .hbm, ⟨86, _⟩ => ⟨S4096x1024, .f32⟩
  | .hbm, ⟨87, _⟩ => ⟨S4352x1024, .f32⟩
  | .hbm, ⟨88, _⟩ => ⟨S4352x1024, .f32⟩
  | .hbm, ⟨89, _⟩ => ⟨S4352x1024, .f32⟩
  | .hbm, ⟨90, _⟩ => ⟨S4352x1024, .f32⟩
  | .hbm, ⟨91, _⟩ => ⟨S_, .f32⟩
  | .hbm, ⟨92, _⟩ => ⟨S4352x1024, .f32⟩
  | .hbm, ⟨93, _⟩ => ⟨S4352x1024, .f32⟩
  | .hbm, ⟨94, _⟩ => ⟨S_, .f32⟩
  | .hbm, ⟨95, _⟩ => ⟨S4352x1024, .f32⟩
  | .hbm, ⟨96, _⟩ => ⟨S4352x1024, .f32⟩
  | .hbm, ⟨97, _⟩ => ⟨S4352x1024, .f32⟩
  | .hbm, ⟨98, _⟩ => ⟨S4352x1024, .f32⟩
  | .hbm, ⟨99, _⟩ => ⟨S4352x1024, .bf16⟩
  | _, _ => ⟨S4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_6 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_7 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_8 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== InW0.lean ====
abbrev S4352x1024 : Shape := ⟨2, ![4352, 1024]⟩
abbrev S4352x2560 : Shape := ⟨2, ![4352, 2560]⟩
abbrev S2x4x1024x640 : Shape := ⟨4, ![2, 4, 1024, 640]⟩
abbrev S2176x1024 : Shape := ⟨2, ![2176, 1024]⟩
abbrev S2176x640 : Shape := ⟨2, ![2176, 640]⟩
abbrev S1x1x1024x640 : Shape := ⟨4, ![1, 1, 1024, 640]⟩
abbrev S1024x640 : Shape := ⟨2, ![1024, 640]⟩

abbrev nBuf : Space → Nat
  | .hbm => 4
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x2560, .bf16⟩
  | .hbm, ⟨2, _⟩ => ⟨S2x4x1024x640, .f32⟩
  | .hbm, ⟨3, _⟩ => ⟨S2x4x1024x640, .f32⟩
  | .local _ .vmem, ⟨0, _⟩ => ⟨S2176x1024, .bf16⟩
  | .local _ .vmem, ⟨1, _⟩ => ⟨S2176x1024, .bf16⟩
  | .local _ .vmem, ⟨2, _⟩ => ⟨S2176x640, .bf16⟩
  | .local _ .vmem, ⟨3, _⟩ => ⟨S2176x640, .bf16⟩
  | .local _ .vmem, ⟨4, _⟩ => ⟨S1x1x1024x640, .f32⟩
  | .local _ .vmem, ⟨5, _⟩ => ⟨S1x1x1024x640, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InW0RefIdeal.lean ====
abbrev S4352x1024 : Shape := ⟨2, ![4352, 1024]⟩
abbrev S4352x2560 : Shape := ⟨2, ![4352, 2560]⟩
abbrev S2x4x1024x640 : Shape := ⟨4, ![2, 4, 1024, 640]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩
abbrev S1x4x1024x640 : Shape := ⟨4, ![1, 4, 1024, 640]⟩

abbrev nBuf : Space → Nat
  | .hbm => 16
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2560, .bf16⟩
  | .hbm, ⟨2, _⟩ => ⟨S2x4x1024x640, .f32⟩
  | .hbm, ⟨3, _⟩ => ⟨S_, .f32⟩
  | .hbm, ⟨4, _⟩ => ⟨S1024x2560, .f32⟩
  | .hbm, ⟨5, _⟩ => ⟨S4352x1024, .f32⟩
  | .hbm, ⟨6, _⟩ => ⟨S4352x2560, .f32⟩
  | .hbm, ⟨7, _⟩ => ⟨S4352x2560, .f32⟩
  | .hbm, ⟨8, _⟩ => ⟨S2560x1024, .f32⟩
  | .hbm, ⟨9, _⟩ => ⟨S1024x2560, .f32⟩
  | .hbm, ⟨10, _⟩ => ⟨S1024x4x640, .f32⟩
  | .hbm, ⟨11, _⟩ => ⟨S4x1024x640, .f32⟩
  | .hbm, ⟨12, _⟩ => ⟨S2x4x1024x640, .f32⟩
  | .hbm, ⟨13, _⟩ => ⟨S1x4x1024x640, .f32⟩
  | .hbm, ⟨14, _⟩ => ⟨S1x4x1024x640, .f32⟩
  | .hbm, ⟨15, _⟩ => ⟨S2x4x1024x640, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== OutW0.lean ====
abbrev S4352x1024 : Shape := ⟨2, ![4352, 1024]⟩
abbrev S2x1x1024x1024 : Shape := ⟨4, ![2, 1, 1024, 1024]⟩
abbrev S2176x1024 : Shape := ⟨2, ![2176, 1024]⟩
abbrev S1x1x1024x1024 : Shape := ⟨4, ![1, 1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S2x1x1024x1024, .f32⟩
  | .hbm, ⟨3, _⟩ => ⟨S2x1x1024x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1x1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutW0RefIdeal.lean ====
abbrev S4352x1024 : Shape := ⟨2, ![4352, 1024]⟩
abbrev S2x1x1024x1024 : Shape := ⟨4, ![2, 1, 1024, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S2x1x1024x1024, .f32⟩
  | .hbm, ⟨3, _⟩ => ⟨S_, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S1024x1024, .f32⟩
  | .hbm, ⟨9, _⟩ => ⟨S1024x1024, .f32⟩
  | .hbm, ⟨10, _⟩ => ⟨S2x1x1024x1024, .f32⟩
  | .hbm, ⟨11, _⟩ => ⟨S1x1x1024x1024, .f32⟩
  | .hbm, ⟨12, _⟩ => ⟨S1x1x1024x1024, .f32⟩
  | .hbm, ⟨13, _⟩ => ⟨S2x1x1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Norm.lean ====
abbrev S256x1024 : Shape := ⟨2, ![256, 1024]⟩
abbrev S4096x1024 : Shape := ⟨2, ![4096, 1024]⟩
abbrev S1x1024 : Shape := ⟨2, ![1, 1024]⟩
abbrev S2x3x1024 : Shape := ⟨3, ![2, 3, 1024]⟩
abbrev S4352x1024 : Shape := ⟨2, ![4352, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S1x1024, .f32⟩
  | .hbm, ⟨3, _⟩ => ⟨S2x3x1024, .f32⟩
  | .hbm, ⟨4, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S2x3x1024, .f32⟩
  | .local _ .vmem, ⟨5, _⟩ => ⟨S256x1024, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S256x1024 : Shape := ⟨2, ![256, 1024]⟩
abbrev S4096x1024 : Shape := ⟨2, ![4096, 1024]⟩
abbrev S1x1024 : Shape := ⟨2, ![1, 1024]⟩
abbrev S2x3x1024 : Shape := ⟨3, ![2, 3, 1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S1024 : Shape := ⟨1, ![1024]⟩
abbrev S256 : Shape := ⟨1, ![256]⟩
abbrev S256x1 : Shape := ⟨2, ![256, 1]⟩
abbrev S4352x1024 : Shape := ⟨2, ![4352, 1024]⟩

abbrev nBuf : Space → Nat
  | .hbm => 62
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S1x1024, .f32⟩
  | .hbm, ⟨3, _⟩ => ⟨S2x3x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1x1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x1, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S1x1x1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1x1024, .f32⟩
  | .hbm, ⟨53, _⟩ => ⟨S256x1024, .f32⟩
  | .hbm, ⟨54, _⟩ => ⟨S256x1024, .f32⟩
  | .hbm, ⟨55, _⟩ => ⟨S1x1x1024, .f32⟩
  | .hbm, ⟨56, _⟩ => ⟨S1024, .f32⟩
  | .hbm, ⟨57, _⟩ => ⟨S1x1024, .f32⟩
  | .hbm, ⟨58, _⟩ => ⟨S256x1024, .f32⟩
  | .hbm, ⟨59, _⟩ => ⟨S256x1024, .f32⟩
  | .hbm, ⟨60, _⟩ => ⟨S4352x1024, .f32⟩
  | .hbm, ⟨61, _⟩ => ⟨S4352x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== AdMod.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdModIdeal.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdModRefIdeal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdIn.lean ====
abbrev S2048x640 : Shape := ⟨2, ![2048, 640]⟩
abbrev S512x640 : Shape := ⟨2, ![512, 640]⟩

abbrev nBuf : Space → Nat
  | .hbm => 7
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInIdeal.lean ====
abbrev S2048x640 : Shape := ⟨2, ![2048, 640]⟩
abbrev S512x640 : Shape := ⟨2, ![512, 640]⟩

abbrev nBuf : Space → Nat
  | .hbm => 7
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInRefIdeal.lean ====
abbrev S2048x640 : Shape := ⟨2, ![2048, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S_, .f32⟩
  | .hbm, ⟨5, _⟩ => ⟨S2048x640, .f32⟩
  | .hbm, ⟨6, _⟩ => ⟨S2048x640, .f32⟩
  | .hbm, ⟨7, _⟩ => ⟨S_, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S_, .f32⟩
  | .hbm, ⟨12, _⟩ => ⟨S2048x640, .f32⟩
  | .hbm, ⟨13, _⟩ => ⟨S2048x640, .f32⟩
  | .hbm, ⟨14, _⟩ => ⟨S2048x640, .f32⟩
  | .hbm, ⟨15, _⟩ => ⟨S_, .f32⟩
  | .hbm, ⟨16, _⟩ => ⟨S2048x640, .f32⟩
  | .hbm, ⟨17, _⟩ => ⟨S2048x640, .f32⟩
  | .hbm, ⟨18, _⟩ => ⟨S2048x640, .f32⟩
  | .hbm, ⟨19, _⟩ => ⟨S_, .f32⟩
  | .hbm, ⟨20, _⟩ => ⟨S2048x640, .f32⟩
  | .hbm, ⟨21, _⟩ => ⟨S2048x640, .f32⟩
  | .hbm, ⟨22, _⟩ => ⟨S_, .f32⟩
  | .hbm, ⟨23, _⟩ => ⟨S2048x640, .f32⟩
  | .hbm, ⟨24, _⟩ => ⟨S2048x640, .f32⟩
  | .hbm, ⟨25, _⟩ => ⟨S2048x640, .f32⟩
  | .hbm, ⟨26, _⟩ => ⟨S_, .f32⟩
  | .hbm, ⟨27, _⟩ => ⟨S2048x640, .f32⟩
  | .hbm, ⟨28, _⟩ => ⟨S2048x640, .f32⟩
  | .hbm, ⟨29, _⟩ => ⟨S2048x640, .f32⟩
  | .hbm, ⟨30, _⟩ => ⟨S_, .f32⟩
  | .hbm, ⟨31, _⟩ => ⟨S2048x640, .f32⟩
  | .hbm, ⟨32, _⟩ => ⟨S2048x640, .f32⟩
  | .hbm, ⟨33, _⟩ => ⟨S2048x640, .f32⟩
  | .hbm, ⟨34, _⟩ => ⟨S_, .f32⟩
  | .hbm, ⟨35, _⟩ => ⟨S2048x640, .f32⟩
  | .hbm, ⟨36, _⟩ => ⟨S2048x640, .f32⟩
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdOut.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdOutIdeal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdGlu.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdGluRefIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S4352x1024 : Shape := ⟨2, ![4352, 1024]⟩
abbrev S4096x1024 : Shape := ⟨2, ![4096, 1024]⟩
abbrev S1x1024 : Shape := ⟨2, ![1, 1024]⟩
abbrev S2x3x1024 : Shape := ⟨3, ![2, 3, 1024]⟩
abbrev S1x1 : Shape := ⟨2, ![1, 1]⟩
abbrev S2x1024 : Shape := ⟨2, ![2, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1x1024, .f32⟩
  | .hbm, ⟨3, _⟩ => ⟨S4352x1024, .f32⟩
  | .hbm, ⟨4, _⟩ => ⟨S2x3x1024, .f32⟩
  | .hbm, ⟨5, _⟩ => ⟨S1x1, .f32⟩
  | .hbm, ⟨6, _⟩ => ⟨S4352x1024, .f32⟩
  | .hbm, ⟨7, _⟩ => ⟨S1x1024, .f32⟩
  | .hbm, ⟨8, _⟩ => ⟨S4352x1024, .bf16⟩
  | .hbm, ⟨9, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S2x3x1024, .f32⟩
  | .local _ .vmem, ⟨8, _⟩ => ⟨S1x1, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S2x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4352x1024 : Shape := ⟨2, ![4352, 1024]⟩
abbrev S4096x1024 : Shape := ⟨2, ![4096, 1024]⟩
abbrev S1x1024 : Shape := ⟨2, ![1, 1024]⟩
abbrev S2x3x1024 : Shape := ⟨3, ![2, 3, 1024]⟩
abbrev S1x1x1024 : Shape := ⟨3, ![1, 1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1x1024, .f32⟩
  | .hbm, ⟨3, _⟩ => ⟨S4352x1024, .f32⟩
  | .hbm, ⟨4, _⟩ => ⟨S2x3x1024, .f32⟩
  | .hbm, ⟨5, _⟩ => ⟨S1x1x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x1, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Ada.lean ====
abbrev S8x1024 : Shape := ⟨2, ![8, 1024]⟩
abbrev S4x8x768 : Shape := ⟨3, ![4, 8, 768]⟩
abbrev S4x1024x768 : Shape := ⟨3, ![4, 1024, 768]⟩
abbrev S1x1024 : Shape := ⟨2, ![1, 1024]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩
abbrev S4x1024 : Shape := ⟨2, ![4, 1024]⟩
abbrev S1024 : Shape := ⟨1, ![1024]⟩

abbrev nBuf : Space → Nat
  | .hbm => 5
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S4x1024x768, .f32⟩
  | .hbm, ⟨3, _⟩ => ⟨S4x1024x768, .f32⟩
  | .hbm, ⟨4, _⟩ => ⟨S1x1024, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024, .f32⟩
  | .local _ .vmem, ⟨8, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v29 : BitVec 1 := Scalar.cmpi .eq arg0 c3_i32
  let v30 : BitVec 32 := Scalar.extui v29
  let c0_i32_19 : BitVec 32 := 0#32
  let v31 : BitVec 1 := Scalar.cmpi .ne v30 c0_i32_19
  v31

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AdaRefIdeal.lean ====
abbrev S8x1024 : Shape := ⟨2, ![8, 1024]⟩
abbrev S4x8x768 : Shape := ⟨3, ![4, 8, 768]⟩
abbrev S4x1024x768 : Shape := ⟨3, ![4, 1024, 768]⟩
abbrev S_ : Shape := ⟨0, ![]⟩
abbrev S4x768x8 : Shape := ⟨3, ![4, 768, 8]⟩
abbrev S4x768x1024 : Shape := ⟨3, ![4, 768, 1024]⟩
abbrev S4x1024 : Shape := ⟨2, ![4, 1024]⟩
abbrev S1024 : Shape := ⟨1, ![1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S4x1024x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S4x768x8, .f32⟩
  | .hbm, ⟨17, _⟩ => ⟨S4x8x768, .f32⟩
  | .hbm, ⟨18, _⟩ => ⟨S4x768x8, .f32⟩
  | .hbm, ⟨19, _⟩ => ⟨S8x1024, .f32⟩
  | .hbm, ⟨20, _⟩ => ⟨S4x768x1024, .f32⟩
  | .hbm, ⟨21, _⟩ => ⟨S4x1024x768, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S4x1024, .f32⟩
  | .hbm, ⟨27, _⟩ => ⟨S_, .f32⟩
  | .hbm, ⟨28, _⟩ => ⟨S1024, .f32⟩
  | .hbm, ⟨29, _⟩ => ⟨S1x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Res.lean ====
abbrev S4352x1024 : Shape := ⟨2, ![4352, 1024]⟩
abbrev S2x3x1024 : Shape := ⟨3, ![2, 3, 1024]⟩
abbrev S1x1024 : Shape := ⟨2, ![1, 1024]⟩
abbrev S1088x1024 : Shape := ⟨2, ![1088, 1024]⟩
abbrev S1088x1 : Shape := ⟨2, ![1088, 1]⟩
abbrev S1x1x1024 : Shape := ⟨3, ![1, 1, 1024]⟩
abbrev S1088 : Shape := ⟨1, ![1088]⟩

abbrev nBuf : Space → Nat
  | .hbm => 7
  | .vmem => 11
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x3x1024, .f32⟩
  | .hbm, ⟨3, _⟩ => ⟨S1x1024, .f32⟩
  | .hbm, ⟨4, _⟩ => ⟨S2x3x1024, .f32⟩
  | .hbm, ⟨5, _⟩ => ⟨S4352x1024, .f32⟩
  | .hbm, ⟨6, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S2x3x1024, .f32⟩
  | .local _ .vmem, ⟨5, _⟩ => ⟨S1x1024, .f32⟩
  | .local _ .vmem, ⟨6, _⟩ => ⟨S2x3x1024, .f32⟩
  | .local _ .vmem, ⟨7, _⟩ => ⟨S1088x1024, .f32⟩
  | .local _ .vmem, ⟨8, _⟩ => ⟨S1088x1024, .f32⟩
  | .local _ .vmem, ⟨9, _⟩ => ⟨S1088x1024, .bf16⟩
  | .local _ .vmem, ⟨10, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1088x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResRefIdeal.lean ====
abbrev S4352x1024 : Shape := ⟨2, ![4352, 1024]⟩
abbrev S2x3x1024 : Shape := ⟨3, ![2, 3, 1024]⟩
abbrev S1x1024 : Shape := ⟨2, ![1, 1024]⟩
abbrev S256x1024 : Shape := ⟨2, ![256, 1024]⟩
abbrev S1x1x1024 : Shape := ⟨3, ![1, 1, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩

abbrev nBuf : Space → Nat
  | .hbm => 80
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x3x1024, .f32⟩
  | .hbm, ⟨3, _⟩ => ⟨S1x1024, .f32⟩
  | .hbm, ⟨4, _⟩ => ⟨S2x3x1024, .f32⟩
  | .hbm, ⟨5, _⟩ => ⟨S256x1024, .f32⟩
  | .hbm, ⟨6, _⟩ => ⟨S1x1x1024, .f32⟩
  | .hbm, ⟨7, _⟩ => ⟨S1024, .f32⟩
  | .hbm, ⟨8, _⟩ => ⟨S256x1024, .f32⟩
  | .hbm, ⟨9, _⟩ => ⟨S1x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S4096x1024, .f32⟩
  | .hbm, ⟨14, _⟩ => ⟨S1x1x1024, .f32⟩
  | .hbm, ⟨15, _⟩ => ⟨S1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4352x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1x1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1x1024, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S256x1024, .f32⟩
  | .hbm, ⟨51, _⟩ => ⟨S_, .f32⟩
  | .hbm, ⟨52, _⟩ => ⟨S256, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S_, .f32⟩
  | .hbm, ⟨58, _⟩ => ⟨S256x1, .f32⟩
  | .hbm, ⟨59, _⟩ => ⟨S256x1, .f32⟩
  | .hbm, ⟨60, _⟩ => ⟨S256x1, .f32⟩
  | .hbm, ⟨61, _⟩ => ⟨S256x1024, .f32⟩
  | .hbm, ⟨62, _⟩ => ⟨S256x1024, .f32⟩
  | .hbm, ⟨63, _⟩ => ⟨S256x1024, .f32⟩
  | .hbm, ⟨64, _⟩ => ⟨S256x1024, .f32⟩
  | .hbm, ⟨65, _⟩ => ⟨S1x1x1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1x1024, .f32⟩
  | .hbm, ⟨71, _⟩ => ⟨S256x1024, .f32⟩
  | .hbm, ⟨72, _⟩ => ⟨S256x1024, .f32⟩
  | .hbm, ⟨73, _⟩ => ⟨S1x1x1024, .f32⟩
  | .hbm, ⟨74, _⟩ => ⟨S1024, .f32⟩
  | .hbm, ⟨75, _⟩ => ⟨S1x1024, .f32⟩
  | .hbm, ⟨76, _⟩ => ⟨S256x1024, .f32⟩
  | .hbm, ⟨77, _⟩ => ⟨S256x1024, .f32⟩
  | .hbm, ⟨78, _⟩ => ⟨S4352x1024, .f32⟩
  | .hbm, ⟨79, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩

abbrev nD : Nat := 1
abbrev τ : Topo := Topo.v7x

variable {F : FTy → Type} [FloatOps F]
-- ==== Mod.lean ====
abbrev S8x1024 : Shape := ⟨2, ![8, 1024]⟩
abbrev S4x1024x768 : Shape := ⟨3, ![4, 1024, 768]⟩
abbrev S4x1x768 : Shape := ⟨3, ![4, 1, 768]⟩
abbrev S4x8x768 : Shape := ⟨3, ![4, 8, 768]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x1x768, .f32⟩
  | .hbm, ⟨3, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S4x1024x768 : Shape := ⟨3, ![4, 1024, 768]⟩
abbrev S4x1x768 : Shape := ⟨3, ![4, 1, 768]⟩
abbrev S_ : Shape := ⟨0, ![]⟩
abbrev S4x768x8 : Shape := ⟨3, ![4, 768, 8]⟩
abbrev S4x8x768 : Shape := ⟨3, ![4, 8, 768]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x768x8, .f32⟩
  | .hbm, ⟨13, _⟩ => ⟨S4x8x768, .f32⟩
  | .hbm, ⟨14, _⟩ => ⟨S4x8x768, .f32⟩
  | .hbm, ⟨15, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Bias.lean ====
abbrev S4x3072 : Shape := ⟨2, ![4, 3072]⟩

abbrev nBuf : Space → Nat
  | .hbm => 3
  | .vmem => 3
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasRefIdeal.lean ====
abbrev S4x3072 : Shape := ⟨2, ![4, 3072]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S_, .f32⟩
  | .hbm, ⟨3, _⟩ => ⟨S4x3072, .f32⟩
  | .hbm, ⟨4, _⟩ => ⟨S4x3072, .f32⟩
  | _, _ => ⟨S4x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Words.lean ====
/-
  The payloads of the attention gradient's body at the extended reals, and the reading of a list of stores.
  `dk512`, `dv512`, `dqPart512` (and their 256-key forms) are the three products of one head and one chunk of keys;
  `Below b L G` says that a list of row stores `L` leaves `G` in the rows below `b`.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.WholeRead
public import Idealize.ShloMosaic.Lib.WritesUnit

@[expose] public section

set_option maxRecDepth 16384

noncomputable section

namespace Cert.KernelIdeal.Val

open Cert.KernelIdeal Cert.KernelIdeal.Gen Idealize.ShloMosaic Idealize.ShloMosaic.TcCoe Idealize.SL.Sem

/-! ## One query row and one key -/

/-- The gradient of the mix times the gate's SiLU, at one element. -/
def dO (g dm : Fin 128 → EReal) (d : Fin 128) : EReal := dm d * (g d * Ideal.div 1 (1 + Ideal.exp (0 - g d)))

/-- The attention weight of a query row and a key row, from the saved log-sum. -/
def pE (q : Fin 128 → EReal) (l : EReal) (k : Fin 128 → EReal) : EReal := Ideal.exp (∑ d, q d * k d - l)

/-- The gradient of the score of a query row and a key row. -/
def dS (g o dm : Fin 128 → EReal) (l : EReal) (q k v : Fin 128 → EReal) : EReal :=
  pE q l k * (∑ d, dO g dm d * v d - ∑ d, dO g dm d * o d)

/-- The gradient of the gate at one element. -/
def dG (g o dm : EReal) : EReal :=
  dm * o * (Ideal.div 1 (1 + Ideal.exp (0 - g)) * (1 + g * (1 - Ideal.div 1 (1 + Ideal.exp (0 - g)))))

/-! ## The payloads -/

section Payloads

variable (g o dm ls : Vec Ideal S256x128 .f32) (q : Vec Ideal S256x128 .bf16)

def dk512 (k v : Vec Ideal S512x128 .bf16) (p : Vec Ideal S512x128 .f32) : FVec Ideal S512x128 .f32 :=
  k0_pay64 (k0_pay55 g o dm) q (k0_pay57 ls) (k0_pay58 q k) (k0_pay59 g dm v) p

def dv512 (k : Vec Ideal S512x128 .bf16) (p : Vec Ideal S512x128 .f32) : FVec Ideal S512x128 .f32 :=
  k0_pay63 (k0_pay56 g dm) (k0_pay57 ls) (k0_pay58 q k) p

def dqPart512 (k v : Vec Ideal S512x128 .bf16) : FVec Ideal S256x128 .f32 :=
  k0_pay62 (k0_pay55 g o dm) (k0_pay57 ls) (k0_pay58 q k) (k0_pay59 g dm v) k

/-- The scores, and the products with the values, of a chunk of 256 keys. -/
def dots256 (q k : FVec Ideal S256x128 .bf16) : FVec Ideal S256x256 .f32 :=
  matmul dot_S256x128_S256x128_S256x256_1_1_0_0_n_n none q k (constant S256x256 .f32 0x00000000#32)

def dk256 (k v : Vec Ideal S256x128 .bf16) (p : Vec Ideal S256x128 .f32) : FVec Ideal S256x128 .f32 :=
  k0_pay121 (k0_pay55 g o dm) q (k0_pay57 ls) (dots256 q k) (dots256 (k0_pay56 g dm) v) p

def dv256 (k : Vec Ideal S256x128 .bf16) (p : Vec Ideal S256x128 .f32) : FVec Ideal S256x128 .f32 :=
  k0_pay120 (k0_pay56 g dm) (k0_pay57 ls) (dots256 q k) p

def dqPart256 (k v : Vec Ideal S256x128 .bf16) : FVec Ideal S256x128 .f32 :=
  matmul (φ₂ := .bf16) dot_S256x256_S256x128_S256x128_1_0_0_1_n_n none
    (k0_pay118 (k0_pay55 g o dm) (k0_pay57 ls) (dots256 q k) (dots256 (k0_pay56 g dm) v)) k (constant S256x128 .f32 0x00000000#32)

end Payloads

/-- Row `r` of a two-axis value. -/
abbrev row {n k : ℕ} {e : EltTy} (x : (⟨2, ![n, k]⟩ : Shape).Idx → Elt Ideal e) (r : Fin n) : Fin k → Elt Ideal e := fun d => x (ix2 r d)

section Read

variable (g o dm ls : Vec Ideal S256x128 .f32) (q : Vec Ideal S256x128 .bf16)

theorem dk512_apply (k v : Vec Ideal S512x128 .bf16) (p : Vec Ideal S512x128 .f32) (s : Fin 512) (d : Fin 128) :
    dk512 g o dm ls q k v p (ix2 s d)
      = (p (ix2 s d) : EReal) + ∑ r : Fin 256, dS (row g r) (row o r) (row dm r) (ls (ix2 r 0)) (row q r) (row k s) (row v s) * q (ix2 r d) := by
  pointwise [dk512, k0_pay64, k0_pay55, k0_pay57, k0_pay58, k0_pay59, k0_pay54, k0_pay51, k0_pay52, k0_pay56, k0_pay61, k0_pay60]
  rfl

theorem dv512_apply (k : Vec Ideal S512x128 .bf16) (p : Vec Ideal S512x128 .f32) (s : Fin 512) (d : Fin 128) :
    dv512 g dm ls q k p (ix2 s d)
      = (p (ix2 s d) : EReal) + ∑ r : Fin 256, pE (row q r) (ls (ix2 r 0)) (row k s) * dO (row g r) (row dm r) d := by
  pointwise [dv512, k0_pay63, k0_pay55, k0_pay57, k0_pay58, k0_pay59, k0_pay54, k0_pay51, k0_pay52, k0_pay56, k0_pay61, k0_pay60]
  rfl

theorem dqPart512_apply (k v : Vec Ideal S512x128 .bf16) (r : Fin 256) (d : Fin 128) :
    dqPart512 g o dm ls q k v (ix2 r d)
      = ∑ s : Fin 512, dS (row g r) (row o r) (row dm r) (ls (ix2 r 0)) (row q r) (row k s) (row v s) * k (ix2 s d) := by
  pointwise [dqPart512, k0_pay62, k0_pay55, k0_pay57, k0_pay58, k0_pay59, k0_pay54, k0_pay51, k0_pay52, k0_pay56, k0_pay61, k0_pay60]
  rfl

theorem dk256_apply (k v : Vec Ideal S256x128 .bf16) (p : Vec Ideal S256x128 .f32) (s : Fin 256) (d : Fin 128) :
    dk256 g o dm ls q k v p (ix2 s d)
      = (p (ix2 s d) : EReal) + ∑ r : Fin 256, dS (row g r) (row o r) (row dm r) (ls (ix2 r 0)) (row q r) (row k s) (row v s) * q (ix2 r d) := by
  pointwise [dk256, dots256, k0_pay121, k0_pay55, k0_pay57, k0_pay117, k0_pay118, k0_pay54, k0_pay51, k0_pay52, k0_pay56]
  rfl

theorem dv256_apply (k : Vec Ideal S256x128 .bf16) (p : Vec Ideal S256x128 .f32) (s : Fin 256) (d : Fin 128) :
    dv256 g dm ls q k p (ix2 s d)
      = (p (ix2 s d) : EReal) + ∑ r : Fin 256, pE (row q r) (ls (ix2 r 0)) (row k s) * dO (row g r) (row dm r) d := by
  pointwise [dv256, dots256, k0_pay120, k0_pay55, k0_pay57, k0_pay117, k0_pay118, k0_pay54, k0_pay51, k0_pay52, k0_pay56]
  rfl

theorem dqPart256_apply (k v : Vec Ideal S256x128 .bf16) (r : Fin 256) (d : Fin 128) :
    dqPart256 g o dm ls q k v (ix2 r d)
      = ∑ s : Fin 256, dS (row g r) (row o r) (row dm r) (ls (ix2 r 0)) (row q r) (row k s) (row v s) * k (ix2 s d) := by
  pointwise [dqPart256, dots256, k0_pay121, k0_pay55, k0_pay57, k0_pay117, k0_pay118, k0_pay54, k0_pay51, k0_pay52, k0_pay56]
  rfl

theorem dgate_apply (r : Fin 256) (d : Fin 128) :
    k0_pay53 g o dm (ix2 r d) = dG (g (ix2 r d)) (o (ix2 r d)) (dm (ix2 r d)) := by
  pointwise [k0_pay53, k0_pay54, k0_pay51, k0_pay52]
  rfl

end Read

/-! ## Loads of a block -/

section Loads

variable {e : EltTy}

/-- The load of the 128 columns from `o` of a block of 256 rows. -/
abbrev ldq (a : Memref sig .tc .vmem S256x512 e) (ha : a.IsWhole) (x : Vec Ideal S256x512 e) (o : ℕ)
    (inb : ∀ i, (![0, o] : Fin 2 → ℕ) i + S256x128.size i ≤ S256x512.size i) : Vec Ideal S256x128 e :=
  View.readAt (Elt Ideal) a.view (Rect.unit (s := S256x512) ![0, o] S256x128.size inb).toLoadRect (ha.unread x)

theorem ldq_apply (a : Memref sig .tc .vmem S256x512 e) (ha : a.IsWhole) (x : Vec Ideal S256x512 e) (o : ℕ)
    (inb : ∀ i, (![0, o] : Fin 2 → ℕ) i + S256x128.size i ≤ S256x512.size i) (r : Fin 256) (d : Fin 128) (h : o + d.val < 512) :
    ldq a ha x o inb (ix2 r d) = x (ix2 r ⟨o + d.val, h⟩) := by
  unfold ldq
  rw [ha.readAt_unread]
  congr 1
  funext i
  refine Fin.ext ?_
  fin_cases i
  · show 0 + 1 * r.val = r.val
    omega
  · show o + 1 * d.val = o + d.val
    omega

/-- The load of 512 rows from `o` of a block of keys, values or their gradients. -/
abbrev ldk (a : Memref sig .tc .vmem S4352x128 e) (ha : a.IsWhole) (x : Vec Ideal S4352x128 e) (o : ℕ)
    (inb : ∀ i, (![o, 0] : Fin 2 → ℕ) i + S512x128.size i ≤ S4352x128.size i) : Vec Ideal S512x128 e :=
  View.readAt (Elt Ideal) a.view (Rect.unit (s := S4352x128) ![o, 0] S512x128.size inb).toLoadRect (ha.unread x)

theorem ldk_apply (a : Memref sig .tc .vmem S4352x128 e) (ha : a.IsWhole) (x : Vec Ideal S4352x128 e) (o : ℕ)
    (inb : ∀ i, (![o, 0] : Fin 2 → ℕ) i + S512x128.size i ≤ S4352x128.size i) (r : Fin 512) (d : Fin 128) (h : o + r.val < 4352) :
    ldk a ha x o inb (ix2 r d) = x (ix2 ⟨o + r.val, h⟩ d) := by
  unfold ldk
  rw [ha.readAt_unread]
  congr 1
  funext i
  refine Fin.ext ?_
  fin_cases i
  · show o + 1 * r.val = o + r.val
    omega
  · show 0 + 1 * d.val = d.val
    omega

/-- The load of 256 rows. -/
abbrev ldk' (a : Memref sig .tc .vmem S4352x128 e) (ha : a.IsWhole) (x : Vec Ideal S4352x128 e) (o : ℕ)
    (inb : ∀ i, (![o, 0] : Fin 2 → ℕ) i + S256x128.size i ≤ S4352x128.size i) : Vec Ideal S256x128 e :=
  View.readAt (Elt Ideal) a.view (Rect.unit (s := S4352x128) ![o, 0] S256x128.size inb).toLoadRect (ha.unread x)

theorem ldk'_apply (a : Memref sig .tc .vmem S4352x128 e) (ha : a.IsWhole) (x : Vec Ideal S4352x128 e) (o : ℕ)
    (inb : ∀ i, (![o, 0] : Fin 2 → ℕ) i + S256x128.size i ≤ S4352x128.size i) (r : Fin 256) (d : Fin 128) (h : o + r.val < 4352) :
    ldk' a ha x o inb (ix2 r d) = x (ix2 ⟨o + r.val, h⟩ d) := by
  unfold ldk'
  rw [ha.readAt_unread]
  congr 1
  funext i
  refine Fin.ext ?_
  fin_cases i
  · show o + 1 * r.val = o + r.val
    omega
  · show 0 + 1 * d.val = d.val
    omega

end Loads

/-! ## What one head adds to a key's two gradients, from the blocks of one grid point -/

section Heads

variable (x0 : Vec Ideal S256x512 .bf16) (x1 x2 : Vec Ideal S4352x128 .bf16) (x3 x4 x5 x6 : Vec Ideal S256x512 .f32)

/-- Column `o + d` of a block row. -/
abbrev seg {e : EltTy} (x : Vec Ideal S256x512 e) (o : ℕ) (ho : o + 128 ≤ 512) (r : Fin 256) : Fin 128 → Elt Ideal e :=
  fun d => x (ix2 r ⟨o + d.val, Nat.lt_of_lt_of_le (Nat.add_lt_add_left d.isLt o) ho⟩)

/-- The score gradient of row `r` of the head at columns `o`, and key `s`. -/
def hS (o : ℕ) (ho : o + 128 ≤ 512) (r : Fin 256) (s : Fin 4352) : EReal :=
  dS (seg x3 o ho r) (seg x5 o ho r) (seg x4 o ho r) (seg x6 o ho r 0) (seg x0 o ho r) (row x1 s) (row x2 s)

/-- What the head adds to the gradient of key `s`. -/
def cK (o : ℕ) (ho : o + 128 ≤ 512) (s : Fin 4352) (d : Fin 128) : EReal :=
  ∑ r : Fin 256, hS x0 x1 x2 x3 x4 x5 x6 o ho r s * seg x0 o ho r d

/-- What the head adds to the gradient of value `s`. -/
def cV (o : ℕ) (ho : o + 128 ≤ 512) (s : Fin 4352) (d : Fin 128) : EReal :=
  ∑ r : Fin 256, pE (seg x0 o ho r) (seg x6 o ho r 0) (row x1 s) * dO (seg x3 o ho r) (seg x4 o ho r) d

end Heads

/-! ## Lists of row stores -/

/-- The list of stores leaves `G` in the rows below `b`, whatever the buffer held. -/
def Below (b : ℕ) (L : List (View.Piece (Elt Ideal) S4352x128 .f32)) (G : S4352x128.Idx → EReal) : Prop :=
  ∀ (κ : Kind) (sp : Space) (v : View sig κ sp S4352x128 .f32) (f : v.ty.Contents (Elt Ideal)) (s : Fin 4352) (d : Fin 128),
    s.val < b → v.read (Elt Ideal) (v.writes (Elt Ideal) f L) (ix2 s d) = G (ix2 s d)

theorem below_nil (G : S4352x128.Idx → EReal) : Below 0 [] G := fun _ _ _ _ s _ h => absurd h (Nat.not_lt_zero _)

/-- The rows below `b` hold `P + C`, the others `P`. -/
def St (P : S4352x128.Idx → EReal) (C : Fin 4352 → Fin 128 → EReal) (b : ℕ) : S4352x128.Idx → EReal :=
  fun y => if (y (0 : Fin 2)).val < b then P y + C (y (0 : Fin 2)) (y (1 : Fin 2)) else P y

theorem below_start {L : List (View.Piece (Elt Ideal) S4352x128 .f32)} {P : S4352x128.Idx → EReal} (C : Fin 4352 → Fin 128 → EReal)
    (h : Below 4352 L P) : Below 4352 L (St P C 0) := fun κ sp v f s d hs => by
  rw [h κ sp v f s d hs]
  exact (if_neg (Nat.not_lt_zero _)).symm

theorem below_done {L : List (View.Piece (Elt Ideal) S4352x128 .f32)} {P : S4352x128.Idx → EReal} {C : Fin 4352 → Fin 128 → EReal}
    (h : Below 4352 L (St P C 4352)) : Below 4352 L (fun y => P y + C (y (0 : Fin 2)) (y (1 : Fin 2))) := fun κ sp v f s d hs => by
  rw [h κ sp v f s d hs]
  exact if_pos s.isLt

/-- A store of rows `[o, o + W)` over a list that leaves `G` below `o`, in the new rows `G`. -/
theorem below_cons {o W : ℕ} {size : Fin 2 → ℕ} (hW : size 0 = W) (hD : size 1 = 128) (inb : ∀ a : Fin 2, (![o, 0] : Fin 2 → ℕ) a + size a ≤ S4352x128.size a)
    (w : (Rect.unit (s := S4352x128) ![o, 0] size inb).shape.Idx → Elt Ideal .f32) {L : List (View.Piece (Elt Ideal) S4352x128 .f32)}
    {G : S4352x128.Idx → EReal} (h : Below o L G)
    (hw : ∀ (x : (Rect.unit (s := S4352x128) ![o, 0] size inb).shape.Idx) (s : Fin 4352) (d : Fin 128), s.val = o + (x (0 : Fin 2)).val → d.val = (x (1 : Fin 2)).val →
      w x = G (ix2 s d)) :
    Below (o + W) ((⟨Rect.unit (s := S4352x128) ![o, 0] size inb, w⟩ : View.Piece (Elt Ideal) S4352x128 .f32) :: L) G := by
  intro κ sp v f s d hs
  rw [View.read_writes_cons_rows v f inb w L (ix2 s d) rfl hW hD]
  split_ifs with hc
  · refine hw _ s d ?_ ?_
    · rw [Rect.unitLocal_val]
      show s.val = o + (s.val - o)
      have : o ≤ s.val := hc.1
      omega
    · rw [Rect.unitLocal_val]
      show d.val = d.val - 0
      omega
  · refine h κ sp v f s d ?_
    have hc' : ¬(o ≤ s.val ∧ s.val < o + W) := hc
    omega

/-- A store of rows `[o, o + W)` that adds `C` there, over a list that leaves `St P C o`. -/
theorem below_add {o W : ℕ} {size : Fin 2 → ℕ} (hW : size 0 = W) (hD : size 1 = 128) (inb : ∀ a : Fin 2, (![o, 0] : Fin 2 → ℕ) a + size a ≤ S4352x128.size a)
    (w : (Rect.unit (s := S4352x128) ![o, 0] size inb).shape.Idx → Elt Ideal .f32) {L : List (View.Piece (Elt Ideal) S4352x128 .f32)}
    {P : S4352x128.Idx → EReal} {C : Fin 4352 → Fin 128 → EReal} (h : Below 4352 L (St P C o))
    (hw : ∀ (x : (Rect.unit (s := S4352x128) ![o, 0] size inb).shape.Idx) (s : Fin 4352) (d : Fin 128), s.val = o + (x (0 : Fin 2)).val → d.val = (x (1 : Fin 2)).val →
      w x = P (ix2 s d) + C s d) :
    Below 4352 ((⟨Rect.unit (s := S4352x128) ![o, 0] size inb, w⟩ : View.Piece (Elt Ideal) S4352x128 .f32) :: L) (St P C (o + W)) := by
  intro κ sp v f s d hs
  rw [View.read_writes_cons_rows v f inb w L (ix2 s d) rfl hW hD]
  split_ifs with hc
  · have hc' : o ≤ s.val ∧ s.val < o + W := hc
    refine (hw _ s d ?_ ?_).trans (if_pos (show s.val < o + W from hc'.2)).symm
    · rw [Rect.unitLocal_val]
      show s.val = o + (s.val - o)
      omega
    · rw [Rect.unitLocal_val]
      show d.val = d.val - 0
      omega
  · have hc' : ¬(o ≤ s.val ∧ s.val < o + W) := hc
    rw [h κ sp v f s d hs]
    unfold St
    by_cases h1 : s.val < o
    · rw [if_pos (show ((ix2 s d : S4352x128.Idx) (0 : Fin 2)).val < o from h1), if_pos (show ((ix2 s d : S4352x128.Idx) (0 : Fin 2)).val < o + W by show s.val < o + W; omega)]
    · rw [if_neg (show ¬((ix2 s d : S4352x128.Idx) (0 : Fin 2)).val < o from h1), if_neg (show ¬((ix2 s d : S4352x128.Idx) (0 : Fin 2)).val < o + W by show ¬ s.val < o + W; omega)]

/-- A covered load of 512 rows from `o` over such a list reads `P`. -/
theorem below_load512 {o : ℕ} (inb : ∀ i, (![o, 0] : Fin 2 → ℕ) i + S512x128.size i ≤ S4352x128.size i)
    {L : List (View.Piece (Elt Ideal) S4352x128 .f32)} {P : S4352x128.Idx → EReal} {C : Fin 4352 → Fin 128 → EReal} (h : Below 4352 L (St P C o))
    {κ : Kind} {sp : Space} (v : View sig κ sp S4352x128 .f32) (x : Fin 512) (d : Fin 128) (hx : o + x.val < 4352) :
    v.readCov L (Rect.unit (s := S4352x128) ![o, 0] S512x128.size inb).toLoadRect (ix2 x d) = P (ix2 ⟨o + x.val, hx⟩ d) := by
  have e : (Rect.unit (s := S4352x128) ![o, 0] S512x128.size inb).toLoadRect.idx (ix2 x d) = ix2 ⟨o + x.val, hx⟩ d := by
    funext i
    refine Fin.ext ?_
    fin_cases i
    · show o + 1 * x.val = o + x.val
      omega
    · show 0 + 1 * d.val = d.val
      omega
  show v.read (Elt Ideal) (v.writes (Elt Ideal) v.junk L) ((Rect.unit (s := S4352x128) ![o, 0] S512x128.size inb).toLoadRect.idx (ix2 x d)) = _
  rw [e, h κ sp v _ _ _ hx]
  exact if_neg (by show ¬ (o + x.val < o); omega)

theorem below_load256 {o : ℕ} (inb : ∀ i, (![o, 0] : Fin 2 → ℕ) i + S256x128.size i ≤ S4352x128.size i)
    {L : List (View.Piece (Elt Ideal) S4352x128 .f32)} {P : S4352x128.Idx → EReal} {C : Fin 4352 → Fin 128 → EReal} (h : Below 4352 L (St P C o))
    {κ : Kind} {sp : Space} (v : View sig κ sp S4352x128 .f32) (x : Fin 256) (d : Fin 128) (hx : o + x.val < 4352) :
    v.readCov L (Rect.unit (s := S4352x128) ![o, 0] S256x128.size inb).toLoadRect (ix2 x d) = P (ix2 ⟨o + x.val, hx⟩ d) := by
  have e : (Rect.unit (s := S4352x128) ![o, 0] S256x128.size inb).toLoadRect.idx (ix2 x d) = ix2 ⟨o + x.val, hx⟩ d := by
    funext i
    refine Fin.ext ?_
    fin_cases i
    · show o + 1 * x.val = o + x.val
      omega
    · show 0 + 1 * d.val = d.val
      omega
  show v.read (Elt Ideal) (v.writes (Elt Ideal) v.junk L) ((Rect.unit (s := S4352x128) ![o, 0] S256x128.size inb).toLoadRect.idx (ix2 x d)) = _
  rw [e, h κ sp v _ _ _ hx]
  exact if_neg (by show ¬ (o + x.val < o); omega)

/-! ## Lists of column stores -/

/-- The list of stores leaves `G` in the columns below `b`. -/
def ColBelow {e : EltTy} (b : ℕ) (L : List (View.Piece (Elt Ideal) S256x512 e)) (G : S256x512.Idx → Elt Ideal e) : Prop :=
  ∀ (κ : Kind) (sp : Space) (v : View sig κ sp S256x512 e) (f : v.ty.Contents (Elt Ideal)) (r : Fin 256) (d : Fin 512),
    d.val < b → v.read (Elt Ideal) (v.writes (Elt Ideal) f L) (ix2 r d) = G (ix2 r d)

theorem colBelow_nil {e : EltTy} (G : S256x512.Idx → Elt Ideal e) : ColBelow 0 [] G := fun _ _ _ _ _ _ h => absurd h (Nat.not_lt_zero _)

theorem colBelow_cons {e : EltTy} {o : ℕ} (inb : ∀ a : Fin 2, (![0, o] : Fin 2 → ℕ) a + S256x128.size a ≤ S256x512.size a)
    (w : Vec Ideal S256x128 e) {L : List (View.Piece (Elt Ideal) S256x512 e)} {G : S256x512.Idx → Elt Ideal e} (h : ColBelow o L G)
    (hw : ∀ (r : Fin 256) (d : Fin 128) (hd : o + d.val < 512), w (ix2 r d) = G (ix2 r ⟨o + d.val, hd⟩)) :
    ColBelow (o + 128) ((⟨Rect.unit (s := S256x512) ![0, o] S256x128.size inb, w⟩ : View.Piece (Elt Ideal) S256x512 e) :: L) G := by
  intro κ sp v f r d hd
  by_cases hc : d.val < o
  · rw [View.read_writes_cons_unit_of_not_mem v f inb w L (ix2 r d) rfl (1 : Fin 2) (Or.inl hc)]
    exact h κ sp v f r d hc
  · have hlt : d.val - o < 128 := by omega
    have hlt' : o + (d.val - o) < 512 := by have := d.isLt; omega
    rw [View.read_writes_cons_unit_of_mem v f inb w L (ix2 r d) (ix2 r ⟨d.val - o, hlt⟩) rfl
      (Fin.forall_fin_two.mpr ⟨by show r.val = 0 + r.val; omega, by show d.val = o + (d.val - o); omega⟩)]
    refine (hw r ⟨d.val - o, hlt⟩ hlt').trans ?_
    congr 2
    refine Fin.ext ?_
    show o + (d.val - o) = d.val
    omega

end Cert.KernelIdeal.Val
end
-- ==== Proof.Steps.lean ====
/-
  One store of the attention gradient's body into the gradient of the keys, or of the values: the rows it covers hold what
  they held and one head's contribution.
-/
module

public import proofs.«01_k».proof.Proof.Words

@[expose] public section

set_option maxRecDepth 16384

noncomputable section

namespace Cert.KernelIdeal.Val

open Cert.KernelIdeal Cert.KernelIdeal.Gen Idealize.ShloMosaic Idealize.ShloMosaic.TcCoe Idealize.SL.Sem

variable (arg2 : Memref sig .tc .vmem S256x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg11 : Memref sig .tc .vmem S4352x128 .f32) (harg11 : arg11.IsWhole)
  (x0 : Vec Ideal S256x512 .bf16) (x1 x2 : Vec Ideal S4352x128 .bf16) (x3 x4 x5 x6 : Vec Ideal S256x512 .f32) (xo : Vec Ideal S4352x128 .f32)

abbrev inbQ (u : ℕ) : Prop := ∀ i, (![0, u] : Fin 2 → ℕ) i + S256x128.size i ≤ S256x512.size i
abbrev inb512 (o : ℕ) : Prop := ∀ i, (![o, 0] : Fin 2 → ℕ) i + S512x128.size i ≤ S4352x128.size i
abbrev inb256 (o : ℕ) : Prop := ∀ i, (![o, 0] : Fin 2 → ℕ) i + S256x128.size i ≤ S4352x128.size i

theorem ldq_row {e : EltTy} (a : Memref sig .tc .vmem S256x512 e) (ha : a.IsWhole) (x : Vec Ideal S256x512 e) (u : ℕ) (hu : u + 128 ≤ 512) (inb : inbQ u) (r : Fin 256) :
    row (n := 256) (ldq a ha x u inb) r = seg x u hu r := funext fun d => ldq_apply a ha x u inb r d _

theorem ldk_row {e : EltTy} (a : Memref sig .tc .vmem S4352x128 e) (ha : a.IsWhole) (x : Vec Ideal S4352x128 e) (o : ℕ) (inb : inb512 o) (r : Fin 512) (h : o + r.val < 4352) :
    row (n := 512) (ldk a ha x o inb) r = row (n := 4352) x ⟨o + r.val, h⟩ := funext fun d => ldk_apply a ha x o inb r d h

theorem ldk'_row {e : EltTy} (a : Memref sig .tc .vmem S4352x128 e) (ha : a.IsWhole) (x : Vec Ideal S4352x128 e) (o : ℕ) (inb : inb256 o) (r : Fin 256) (h : o + r.val < 4352) :
    row (n := 256) (ldk' a ha x o inb) r = row (n := 4352) x ⟨o + r.val, h⟩ := funext fun d => ldk'_apply a ha x o inb r d h

theorem payK512 (u : ℕ) (hu : u + 128 ≤ 512) (o : ℕ) (q0 q3 q4 q5 q6 : inbQ u) (k1 k2 : inb512 o) (P : S4352x128.Idx → EReal) (p : Vec Ideal S512x128 .f32)
    (hp : ∀ (x : Fin 512) (d : Fin 128) (hx : o + x.val < 4352), p (ix2 x d) = P (ix2 ⟨o + x.val, hx⟩ d))
    (x : S512x128.Idx) (s : Fin 4352) (d : Fin 128) (hs : s.val = o + (x (0 : Fin 2)).val) (hd : d.val = (x (1 : Fin 2)).val) :
    dk512 (ldq arg5 harg5 x3 u q3) (ldq arg7 harg7 x5 u q5) (ldq arg6 harg6 x4 u q4) (ldq arg8 harg8 x6 u q6) (ldq arg2 harg2 x0 u q0) (ldk arg3 harg3 x1 o k1) (ldk arg4 harg4 x2 o k2) p x = P (ix2 s d) + cK x0 x1 x2 x3 x4 x5 x6 u hu s d := by
  obtain ⟨x0', x1', rfl⟩ : ∃ (a : Fin 512) (b : Fin 128), x = ix2 a b := ⟨x 0, x 1, eq_ix2 x⟩
  obtain rfl : d = x1' := Fin.ext hd
  have hx : o + x0'.val < 4352 := by have := s.isLt; have hs' : s.val = o + x0'.val := hs; omega
  obtain rfl : s = ⟨o + x0'.val, hx⟩ := Fin.ext hs
  rw [dk512_apply, hp x0' d hx]
  refine congrArg (P (ix2 ⟨o + x0'.val, hx⟩ d) + ·) (Finset.sum_congr rfl fun r _ => ?_)
  rw [ldq_row _ _ _ u hu, ldq_row _ _ _ u hu, ldq_row _ _ _ u hu, ldq_row _ _ _ u hu, ldk_row _ _ _ _ _ _ hx, ldk_row _ _ _ _ _ _ hx]
  rw [ldq_apply _ _ _ _ _ r 0 (by show u + 0 < 512; omega), ldq_apply _ _ _ _ _ r d (by have := d.isLt; omega)]
  rfl

theorem startK512 (u : ℕ) (hu : u + 128 ≤ 512) (o : ℕ) (q0 q3 q4 q5 q6 : inbQ u) (k1 k2 : inb512 o) (i1 i2 : inb512 o) {L : List (View.Piece (Elt Ideal) S4352x128 .f32)}
    (h : Below o L (fun y => xo y + cK x0 x1 x2 x3 x4 x5 x6 u hu (y (0 : Fin 2)) (y (1 : Fin 2)))) :
    Below (o + 512) ((⟨Rect.unit (s := S4352x128) ![o, 0] S512x128.size i1, dk512 (ldq arg5 harg5 x3 u q3) (ldq arg7 harg7 x5 u q5) (ldq arg6 harg6 x4 u q4) (ldq arg8 harg8 x6 u q6) (ldq arg2 harg2 x0 u q0) (ldk arg3 harg3 x1 o k1) (ldk arg4 harg4 x2 o k2) (ldk arg11 harg11 xo o i2)⟩ : View.Piece (Elt Ideal) S4352x128 .f32) :: L)
      (fun y => xo y + cK x0 x1 x2 x3 x4 x5 x6 u hu (y (0 : Fin 2)) (y (1 : Fin 2))) := by
  refine below_cons (W := 512) rfl rfl i1 _ h ?_
  exact payK512 arg2 harg2 arg3 harg3 arg4 harg4 arg5 harg5 arg6 harg6 arg7 harg7 arg8 harg8 x0 x1 x2 x3 x4 x5 x6 u hu o q0 q3 q4 q5 q6 k1 k2 xo _ (fun x d hx => ldk_apply arg11 harg11 xo o i2 x d hx)

theorem stepK512 (u : ℕ) (hu : u + 128 ≤ 512) (o : ℕ) (q0 q3 q4 q5 q6 : inbQ u) (k1 k2 : inb512 o) (i1 i2 : inb512 o) {L : List (View.Piece (Elt Ideal) S4352x128 .f32)} (P : S4352x128.Idx → EReal)
    (h : Below 4352 L (St P (cK x0 x1 x2 x3 x4 x5 x6 u hu) o)) :
    Below 4352 ((⟨Rect.unit (s := S4352x128) ![o, 0] S512x128.size i1, dk512 (ldq arg5 harg5 x3 u q3) (ldq arg7 harg7 x5 u q5) (ldq arg6 harg6 x4 u q4) (ldq arg8 harg8 x6 u q6) (ldq arg2 harg2 x0 u q0) (ldk arg3 harg3 x1 o k1) (ldk arg4 harg4 x2 o k2) (arg11.view.readCov L (Rect.unit (s := S4352x128) ![o, 0] S512x128.size i2).toLoadRect)⟩ : View.Piece (Elt Ideal) S4352x128 .f32) :: L)
      (St P (cK x0 x1 x2 x3 x4 x5 x6 u hu) (o + 512)) := by
  refine below_add (W := 512) rfl rfl i1 _ h ?_
  exact payK512 arg2 harg2 arg3 harg3 arg4 harg4 arg5 harg5 arg6 harg6 arg7 harg7 arg8 harg8 x0 x1 x2 x3 x4 x5 x6 u hu o q0 q3 q4 q5 q6 k1 k2 P _ (fun x d hx => below_load512 i2 h arg11.view x d hx)

theorem payV512 (u : ℕ) (hu : u + 128 ≤ 512) (o : ℕ) (q0 q3 q4 q6 : inbQ u) (k1 : inb512 o) (P : S4352x128.Idx → EReal) (p : Vec Ideal S512x128 .f32)
    (hp : ∀ (x : Fin 512) (d : Fin 128) (hx : o + x.val < 4352), p (ix2 x d) = P (ix2 ⟨o + x.val, hx⟩ d))
    (x : S512x128.Idx) (s : Fin 4352) (d : Fin 128) (hs : s.val = o + (x (0 : Fin 2)).val) (hd : d.val = (x (1 : Fin 2)).val) :
    dv512 (ldq arg5 harg5 x3 u q3) (ldq arg6 harg6 x4 u q4) (ldq arg8 harg8 x6 u q6) (ldq arg2 harg2 x0 u q0) (ldk arg3 harg3 x1 o k1) p x = P (ix2 s d) + cV x0 x1 x3 x4 x6 u hu s d := by
  obtain ⟨x0', x1', rfl⟩ : ∃ (a : Fin 512) (b : Fin 128), x = ix2 a b := ⟨x 0, x 1, eq_ix2 x⟩
  obtain rfl : d = x1' := Fin.ext hd
  have hx : o + x0'.val < 4352 := by have := s.isLt; have hs' : s.val = o + x0'.val := hs; omega
  obtain rfl : s = ⟨o + x0'.val, hx⟩ := Fin.ext hs
  rw [dv512_apply, hp x0' d hx]
  refine congrArg (P (ix2 ⟨o + x0'.val, hx⟩ d) + ·) (Finset.sum_congr rfl fun r _ => ?_)
  rw [ldq_row _ _ _ u hu, ldq_row _ _ _ u hu, ldq_row _ _ _ u hu, ldk_row _ _ _ _ _ _ hx]
  rw [ldq_apply _ _ _ _ _ r 0 (by show u + 0 < 512; omega)]

theorem startV512 (u : ℕ) (hu : u + 128 ≤ 512) (o : ℕ) (q0 q3 q4 q6 : inbQ u) (k1 : inb512 o) (i1 i2 : inb512 o) {L : List (View.Piece (Elt Ideal) S4352x128 .f32)}
    (h : Below o L (fun y => xo y + cV x0 x1 x3 x4 x6 u hu (y (0 : Fin 2)) (y (1 : Fin 2)))) :
    Below (o + 512) ((⟨Rect.unit (s := S4352x128) ![o, 0] S512x128.size i1, dv512 (ldq arg5 harg5 x3 u q3) (ldq arg6 harg6 x4 u q4) (ldq arg8 harg8 x6 u q6) (ldq arg2 harg2 x0 u q0) (ldk arg3 harg3 x1 o k1) (ldk arg11 harg11 xo o i2)⟩ : View.Piece (Elt Ideal) S4352x128 .f32) :: L)
      (fun y => xo y + cV x0 x1 x3 x4 x6 u hu (y (0 : Fin 2)) (y (1 : Fin 2))) := by
  refine below_cons (W := 512) rfl rfl i1 _ h ?_
  exact payV512 arg2 harg2 arg3 harg3 arg5 harg5 arg6 harg6 arg8 harg8 x0 x1 x3 x4 x6 u hu o q0 q3 q4 q6 k1 xo _ (fun x d hx => ldk_apply arg11 harg11 xo o i2 x d hx)

theorem stepV512 (u : ℕ) (hu : u + 128 ≤ 512) (o : ℕ) (q0 q3 q4 q6 : inbQ u) (k1 : inb512 o) (i1 i2 : inb512 o) {L : List (View.Piece (Elt Ideal) S4352x128 .f32)} (P : S4352x128.Idx → EReal)
    (h : Below 4352 L (St P (cV x0 x1 x3 x4 x6 u hu) o)) :
    Below 4352 ((⟨Rect.unit (s := S4352x128) ![o, 0] S512x128.size i1, dv512 (ldq arg5 harg5 x3 u q3) (ldq arg6 harg6 x4 u q4) (ldq arg8 harg8 x6 u q6) (ldq arg2 harg2 x0 u q0) (ldk arg3 harg3 x1 o k1) (arg11.view.readCov L (Rect.unit (s := S4352x128) ![o, 0] S512x128.size i2).toLoadRect)⟩ : View.Piece (Elt Ideal) S4352x128 .f32) :: L)
      (St P (cV x0 x1 x3 x4 x6 u hu) (o + 512)) := by
  refine below_add (W := 512) rfl rfl i1 _ h ?_
  exact payV512 arg2 harg2 arg3 harg3 arg5 harg5 arg6 harg6 arg8 harg8 x0 x1 x3 x4 x6 u hu o q0 q3 q4 q6 k1 P _ (fun x d hx => below_load512 i2 h arg11.view x d hx)

theorem payK256 (u : ℕ) (hu : u + 128 ≤ 512) (o : ℕ) (q0 q3 q4 q5 q6 : inbQ u) (k1 k2 : inb256 o) (P : S4352x128.Idx → EReal) (p : Vec Ideal S256x128 .f32)
    (hp : ∀ (x : Fin 256) (d : Fin 128) (hx : o + x.val < 4352), p (ix2 x d) = P (ix2 ⟨o + x.val, hx⟩ d))
    (x : S256x128.Idx) (s : Fin 4352) (d : Fin 128) (hs : s.val = o + (x (0 : Fin 2)).val) (hd : d.val = (x (1 : Fin 2)).val) :
    dk256 (ldq arg5 harg5 x3 u q3) (ldq arg7 harg7 x5 u q5) (ldq arg6 harg6 x4 u q4) (ldq arg8 harg8 x6 u q6) (ldq arg2 harg2 x0 u q0) (ldk' arg3 harg3 x1 o k1) (ldk' arg4 harg4 x2 o k2) p x = P (ix2 s d) + cK x0 x1 x2 x3 x4 x5 x6 u hu s d := by
  obtain ⟨x0', x1', rfl⟩ : ∃ (a : Fin 256) (b : Fin 128), x = ix2 a b := ⟨x 0, x 1, eq_ix2 x⟩
  obtain rfl : d = x1' := Fin.ext hd
  have hx : o + x0'.val < 4352 := by have := s.isLt; have hs' : s.val = o + x0'.val := hs; omega
  obtain rfl : s = ⟨o + x0'.val, hx⟩ := Fin.ext hs
  rw [dk256_apply, hp x0' d hx]
  refine congrArg (P (ix2 ⟨o + x0'.val, hx⟩ d) + ·) (Finset.sum_congr rfl fun r _ => ?_)
  rw [ldq_row _ _ _ u hu, ldq_row _ _ _ u hu, ldq_row _ _ _ u hu, ldq_row _ _ _ u hu, ldk'_row _ _ _ _ _ _ hx, ldk'_row _ _ _ _ _ _ hx]
  rw [ldq_apply _ _ _ _ _ r 0 (by show u + 0 < 512; omega), ldq_apply _ _ _ _ _ r d (by have := d.isLt; omega)]
  rfl

theorem startK256 (u : ℕ) (hu : u + 128 ≤ 512) (o : ℕ) (q0 q3 q4 q5 q6 : inbQ u) (k1 k2 : inb256 o) (i1 i2 : inb256 o) {L : List (View.Piece (Elt Ideal) S4352x128 .f32)}
    (h : Below o L (fun y => xo y + cK x0 x1 x2 x3 x4 x5 x6 u hu (y (0 : Fin 2)) (y (1 : Fin 2)))) :
    Below (o + 256) ((⟨Rect.unit (s := S4352x128) ![o, 0] S256x128.size i1, dk256 (ldq arg5 harg5 x3 u q3) (ldq arg7 harg7 x5 u q5) (ldq arg6 harg6 x4 u q4) (ldq arg8 harg8 x6 u q6) (ldq arg2 harg2 x0 u q0) (ldk' arg3 harg3 x1 o k1) (ldk' arg4 harg4 x2 o k2) (ldk' arg11 harg11 xo o i2)⟩ : View.Piece (Elt Ideal) S4352x128 .f32) :: L)
      (fun y => xo y + cK x0 x1 x2 x3 x4 x5 x6 u hu (y (0 : Fin 2)) (y (1 : Fin 2))) := by
  refine below_cons (W := 256) rfl rfl i1 _ h ?_
  exact payK256 arg2 harg2 arg3 harg3 arg4 harg4 arg5 harg5 arg6 harg6 arg7 harg7 arg8 harg8 x0 x1 x2 x3 x4 x5 x6 u hu o q0 q3 q4 q5 q6 k1 k2 xo _ (fun x d hx => ldk'_apply arg11 harg11 xo o i2 x d hx)

theorem stepK256 (u : ℕ) (hu : u + 128 ≤ 512) (o : ℕ) (q0 q3 q4 q5 q6 : inbQ u) (k1 k2 : inb256 o) (i1 i2 : inb256 o) {L : List (View.Piece (Elt Ideal) S4352x128 .f32)} (P : S4352x128.Idx → EReal)
    (h : Below 4352 L (St P (cK x0 x1 x2 x3 x4 x5 x6 u hu) o)) :
    Below 4352 ((⟨Rect.unit (s := S4352x128) ![o, 0] S256x128.size i1, dk256 (ldq arg5 harg5 x3 u q3) (ldq arg7 harg7 x5 u q5) (ldq arg6 harg6 x4 u q4) (ldq arg8 harg8 x6 u q6) (ldq arg2 harg2 x0 u q0) (ldk' arg3 harg3 x1 o k1) (ldk' arg4 harg4 x2 o k2) (arg11.view.readCov L (Rect.unit (s := S4352x128) ![o, 0] S256x128.size i2).toLoadRect)⟩ : View.Piece (Elt Ideal) S4352x128 .f32) :: L)
      (St P (cK x0 x1 x2 x3 x4 x5 x6 u hu) (o + 256)) := by
  refine below_add (W := 256) rfl rfl i1 _ h ?_
  exact payK256 arg2 harg2 arg3 harg3 arg4 harg4 arg5 harg5 arg6 harg6 arg7 harg7 arg8 harg8 x0 x1 x2 x3 x4 x5 x6 u hu o q0 q3 q4 q5 q6 k1 k2 P _ (fun x d hx => below_load256 i2 h arg11.view x d hx)

theorem payV256 (u : ℕ) (hu : u + 128 ≤ 512) (o : ℕ) (q0 q3 q4 q6 : inbQ u) (k1 : inb256 o) (P : S4352x128.Idx → EReal) (p : Vec Ideal S256x128 .f32)
    (hp : ∀ (x : Fin 256) (d : Fin 128) (hx : o + x.val < 4352), p (ix2 x d) = P (ix2 ⟨o + x.val, hx⟩ d))
    (x : S256x128.Idx) (s : Fin 4352) (d : Fin 128) (hs : s.val = o + (x (0 : Fin 2)).val) (hd : d.val = (x (1 : Fin 2)).val) :
    dv256 (ldq arg5 harg5 x3 u q3) (ldq arg6 harg6 x4 u q4) (ldq arg8 harg8 x6 u q6) (ldq arg2 harg2 x0 u q0) (ldk' arg3 harg3 x1 o k1) p x = P (ix2 s d) + cV x0 x1 x3 x4 x6 u hu s d := by
  obtain ⟨x0', x1', rfl⟩ : ∃ (a : Fin 256) (b : Fin 128), x = ix2 a b := ⟨x 0, x 1, eq_ix2 x⟩
  obtain rfl : d = x1' := Fin.ext hd
  have hx : o + x0'.val < 4352 := by have := s.isLt; have hs' : s.val = o + x0'.val := hs; omega
  obtain rfl : s = ⟨o + x0'.val, hx⟩ := Fin.ext hs
  rw [dv256_apply, hp x0' d hx]
  refine congrArg (P (ix2 ⟨o + x0'.val, hx⟩ d) + ·) (Finset.sum_congr rfl fun r _ => ?_)
  rw [ldq_row _ _ _ u hu, ldq_row _ _ _ u hu, ldq_row _ _ _ u hu, ldk'_row _ _ _ _ _ _ hx]
  rw [ldq_apply _ _ _ _ _ r 0 (by show u + 0 < 512; omega)]

theorem startV256 (u : ℕ) (hu : u + 128 ≤ 512) (o : ℕ) (q0 q3 q4 q6 : inbQ u) (k1 : inb256 o) (i1 i2 : inb256 o) {L : List (View.Piece (Elt Ideal) S4352x128 .f32)}
    (h : Below o L (fun y => xo y + cV x0 x1 x3 x4 x6 u hu (y (0 : Fin 2)) (y (1 : Fin 2)))) :
    Below (o + 256) ((⟨Rect.unit (s := S4352x128) ![o, 0] S256x128.size i1, dv256 (ldq arg5 harg5 x3 u q3) (ldq arg6 harg6 x4 u q4) (ldq arg8 harg8 x6 u q6) (ldq arg2 harg2 x0 u q0) (ldk' arg3 harg3 x1 o k1) (ldk' arg11 harg11 xo o i2)⟩ : View.Piece (Elt Ideal) S4352x128 .f32) :: L)
      (fun y => xo y + cV x0 x1 x3 x4 x6 u hu (y (0 : Fin 2)) (y (1 : Fin 2))) := by
  refine below_cons (W := 256) rfl rfl i1 _ h ?_
  exact payV256 arg2 harg2 arg3 harg3 arg5 harg5 arg6 harg6 arg8 harg8 x0 x1 x3 x4 x6 u hu o q0 q3 q4 q6 k1 xo _ (fun x d hx => ldk'_apply arg11 harg11 xo o i2 x d hx)

theorem stepV256 (u : ℕ) (hu : u + 128 ≤ 512) (o : ℕ) (q0 q3 q4 q6 : inbQ u) (k1 : inb256 o) (i1 i2 : inb256 o) {L : List (View.Piece (Elt Ideal) S4352x128 .f32)} (P : S4352x128.Idx → EReal)
    (h : Below 4352 L (St P (cV x0 x1 x3 x4 x6 u hu) o)) :
    Below 4352 ((⟨Rect.unit (s := S4352x128) ![o, 0] S256x128.size i1, dv256 (ldq arg5 harg5 x3 u q3) (ldq arg6 harg6 x4 u q4) (ldq arg8 harg8 x6 u q6) (ldq arg2 harg2 x0 u q0) (ldk' arg3 harg3 x1 o k1) (arg11.view.readCov L (Rect.unit (s := S4352x128) ![o, 0] S256x128.size i2).toLoadRect)⟩ : View.Piece (Elt Ideal) S4352x128 .f32) :: L)
      (St P (cV x0 x1 x3 x4 x6 u hu) (o + 256)) := by
  refine below_add (W := 256) rfl rfl i1 _ h ?_
  exact payV256 arg2 harg2 arg3 harg3 arg5 harg5 arg6 harg6 arg8 harg8 x0 x1 x3 x4 x6 u hu o q0 q3 q4 q6 k1 P _ (fun x d hx => below_load256 i2 h arg11.view x d hx)

end Cert.KernelIdeal.Val
end
-- ==== Proof.CaseK.lean ====
/-
  The stores of a grid point with all the keys into the gradient of the keys: each head adds its contribution to every row.
-/
module

public import proofs.«01_k».proof.Proof.Steps

@[expose] public section

set_option maxRecDepth 16384

noncomputable section

namespace Cert.KernelIdeal.Val

open Cert.KernelIdeal Cert.KernelIdeal.Gen Idealize.ShloMosaic Idealize.ShloMosaic.TcCoe Idealize.SL.Sem

variable (c : Dev nD) (arg2 : Memref sig .tc .vmem S256x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S4352x128 .f32) (harg11 : arg11.IsWhole) (arg12 : Memref sig .tc .vmem S4352x128 .f32) (harg12 : arg12.IsWhole)
  (x0 : Vec Ideal S256x512 .bf16) (x1 x2 : Vec Ideal S4352x128 .bf16) (x3 x4 x5 x6 : Vec Ideal S256x512 .f32) (xo9 xo10 : Vec Ideal S4352x128 .f32)

/-- The gradient's block after the first heads. -/
abbrev pK (xo : Vec Ideal S4352x128 .f32) : ℕ → S4352x128.Idx → EReal
  | 0 => xo
  | 1 => fun y => xo y + cK x0 x1 x2 x3 x4 x5 x6 0 (by decide) (y (0 : Fin 2)) (y (1 : Fin 2))
  | 2 => fun y => (xo y + cK x0 x1 x2 x3 x4 x5 x6 0 (by decide) (y (0 : Fin 2)) (y (1 : Fin 2))) + cK x0 x1 x2 x3 x4 x5 x6 128 (by decide) (y (0 : Fin 2)) (y (1 : Fin 2))
  | 3 => fun y => ((xo y + cK x0 x1 x2 x3 x4 x5 x6 0 (by decide) (y (0 : Fin 2)) (y (1 : Fin 2))) + cK x0 x1 x2 x3 x4 x5 x6 128 (by decide) (y (0 : Fin 2)) (y (1 : Fin 2))) + cK x0 x1 x2 x3 x4 x5 x6 256 (by decide) (y (0 : Fin 2)) (y (1 : Fin 2))
  | _ => fun y => (((xo y + cK x0 x1 x2 x3 x4 x5 x6 0 (by decide) (y (0 : Fin 2)) (y (1 : Fin 2))) + cK x0 x1 x2 x3 x4 x5 x6 128 (by decide) (y (0 : Fin 2)) (y (1 : Fin 2))) + cK x0 x1 x2 x3 x4 x5 x6 256 (by decide) (y (0 : Fin 2)) (y (1 : Fin 2))) + cK x0 x1 x2 x3 x4 x5 x6 384 (by decide) (y (0 : Fin 2)) (y (1 : Fin 2))

theorem bK_9 : Below 4352 (kernelRun0_B.sl.H9_9 (F := Ideal) c arg2 harg2 arg3 harg3 arg4 harg4 arg5 harg5 arg6 harg6 arg7 harg7 arg8 harg8 arg11 harg11 x0 x1 x2 x3 x4 x5 x6 xo9) (pK x0 x1 x2 x3 x4 x5 x6 xo9 1) :=
  (startK256 arg2 harg2 arg3 harg3 arg4 harg4 arg5 harg5 arg6 harg6 arg7 harg7 arg8 harg8 arg11 harg11 x0 x1 x2 x3 x4 x5 x6 xo9 0 (by decide) 4096 inb_S256x512_S256x128_0_0 inb_S256x512_S256x128_0_0 inb_S256x512_S256x128_0_0 inb_S256x512_S256x128_0_0 inb_S256x512_S256x128_0_0 inb_S4352x128_S256x128_4096_0 inb_S4352x128_S256x128_4096_0 inb_S4352x128_S256x128_4096_0 inb_S4352x128_S256x128_4096_0 (startK512 arg2 harg2 arg3 harg3 arg4 harg4 arg5 harg5 arg6 harg6 arg7 harg7 arg8 harg8 arg11 harg11 x0 x1 x2 x3 x4 x5 x6 xo9 0 (by decide) 3584 inb_S256x512_S256x128_0_0 inb_S256x512_S256x128_0_0 inb_S256x512_S256x128_0_0 inb_S256x512_S256x128_0_0 inb_S256x512_S256x128_0_0 inb_S4352x128_S512x128_3584_0 inb_S4352x128_S512x128_3584_0 inb_S4352x128_S512x128_3584_0 inb_S4352x128_S512x128_3584_0 (startK512 arg2 harg2 arg3 harg3 arg4 harg4 arg5 harg5 arg6 harg6 arg7 harg7 arg8 harg8 arg11 harg11 x0 x1 x2 x3 x4 x5 x6 xo9 0 (by decide) 3072 inb_S256x512_S256x128_0_0 inb_S256x512_S256x128_0_0 inb_S256x512_S256x128_0_0 inb_S256x512_S256x128_0_0 inb_S256x512_S256x128_0_0 inb_S4352x128_S512x128_3072_0 inb_S4352x128_S512x128_3072_0 inb_S4352x128_S512x128_3072_0 inb_S4352x128_S512x128_3072_0 (startK512 arg2 harg2 arg3 harg3 arg4 harg4 arg5 harg5 arg6 harg6 arg7 harg7 arg8 harg8 arg11 harg11 x0 x1 x2 x3 x4 x5 x6 xo9 0 (by decide) 2560 inb_S256x512_S256x128_0_0 inb_S256x512_S256x128_0_0 inb_S256x512_S256x128_0_0 inb_S256x512_S256x128_0_0 inb_S256x512_S256x128_0_0 inb_S4352x128_S512x128_2560_0 inb_S4352x128_S512x128_2560_0 inb_S4352x128_S512x128_2560_0 inb_S4352x128_S512x128_2560_0 (startK512 arg2 harg2 arg3 harg3 arg4 harg4 arg5 harg5 arg6 harg6 arg7 harg7 arg8 harg8 arg11 harg11 x0 x1 x2 x3 x4 x5 x6 xo9 0 (by decide) 2048 inb_S256x512_S256x128_0_0 inb_S256x512_S256x128_0_0 inb_S256x512_S256x128_0_0 inb_S256x512_S256x128_0_0 inb_S256x512_S256x128_0_0 inb_S4352x128_S512x128_2048_0 inb_S4352x128_S512x128_2048_0 inb_S4352x128_S512x128_2048_0 inb_S4352x128_S512x128_2048_0 (startK512 arg2 harg2 arg3 harg3 arg4 harg4 arg5 harg5 arg6 harg6 arg7 harg7 arg8 harg8 arg11 harg11 x0 x1 x2 x3 x4 x5 x6 xo9 0 (by decide) 1536 inb_S256x512_S256x128_0_0 inb_S256x512_S256x128_0_0 inb_S256x512_S256x128_0_0 inb_S256x512_S256x128_0_0 inb_S256x512_S256x128_0_0 inb_S4352x128_S512x128_1536_0 inb_S4352x128_S512x128_1536_0 inb_S4352x128_S512x128_1536_0 inb_S4352x128_S512x128_1536_0 (startK512 arg2 harg2 arg3 harg3 arg4 harg4 arg5 harg5 arg6 harg6 arg7 harg7 arg8 harg8 arg11 harg11 x0 x1 x2 x3 x4 x5 x6 xo9 0 (by decide) 1024 inb_S256x512_S256x128_0_0 inb_S256x512_S256x128_0_0 inb_S256x512_S256x128_0_0 inb_S256x512_S256x128_0_0 inb_S256x512_S256x128_0_0 inb_S4352x128_S512x128_1024_0 inb_S4352x128_S512x128_1024_0 inb_S4352x128_S512x128_1024_0 inb_S4352x128_S512x128_1024_0 (startK512 arg2 harg2 arg3 harg3 arg4 harg4 arg5 harg5 arg6 harg6 arg7 harg7 arg8 harg8 arg11 harg11 x0 x1 x2 x3 x4 x5 x6 xo9 0 (by decide) 512 inb_S256x512_S256x128_0_0 inb_S256x512_S256x128_0_0 inb_S256x512_S256x128_0_0 inb_S256x512_S256x128_0_0 inb_S256x512_S256x128_0_0 inb_S4352x128_S512x128_512_0 inb_S4352x128_S512x128_512_0 inb_S4352x128_S512x128_512_0 inb_S4352x128_S512x128_512_0 (startK512 arg2 harg2 arg3 harg3 arg4 harg4 arg5 harg5 arg6 harg6 arg7 harg7 arg8 harg8 arg11 harg11 x0 x1 x2 x3 x4 x5 x6 xo9 0 (by decide) 0 inb_S256x512_S256x128_0_0 inb_S256x512_S256x128_0_0 inb_S256x512_S256x128_0_0 inb_S256x512_S256x128_0_0 inb_S256x512_S256x128_0_0 inb_S4352x128_S512x128_0_0 inb_S4352x128_S512x128_0_0 inb_S4352x128_S512x128_0_0 inb_S4352x128_S512x128_0_0 (below_nil _))))))))))

theorem bK_10 : Below 4352 (kernelRun0_B.sl.H9_10 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 1) (cK x0 x1 x2 x3 x4 x5 x6 128 (by decide)) 512) :=
  stepK512 arg2 harg2 arg3 harg3 arg4 harg4 arg5 harg5 arg6 harg6 arg7 harg7 arg8 harg8 arg11 x0 x1 x2 x3 x4 x5 x6 128 (by decide) 0 inb_S256x512_S256x128_0_128 inb_S256x512_S256x128_0_128 inb_S256x512_S256x128_0_128 inb_S256x512_S256x128_0_128 inb_S256x512_S256x128_0_128 inb_S4352x128_S512x128_0_0 inb_S4352x128_S512x128_0_0 inb_S4352x128_S512x128_0_0 inb_S4352x128_S512x128_0_0 (pK x0 x1 x2 x3 x4 x5 x6 xo9 1) (below_start (cK x0 x1 x2 x3 x4 x5 x6 128 (by decide)) (bK_9 c arg2 harg2 arg3 harg3 arg4 harg4 arg5 harg5 arg6 harg6 arg7 harg7 arg8 harg8 arg11 harg11 x0 x1 x2 x3 x4 x5 x6 xo9))

theorem bK_11 : Below 4352 (kernelRun0_B.sl.H9_11 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 1) (cK x0 x1 x2 x3 x4 x5 x6 128 (by decide)) 1024) :=
  stepK512 arg2 harg2 arg3 harg3 arg4 harg4 arg5 harg5 arg6 harg6 arg7 harg7 arg8 harg8 arg11 x0 x1 x2 x3 x4 x5 x6 128 (by decide) 512 inb_S256x512_S256x128_0_128 inb_S256x512_S256x128_0_128 inb_S256x512_S256x128_0_128 inb_S256x512_S256x128_0_128 inb_S256x512_S256x128_0_128 inb_S4352x128_S512x128_512_0 inb_S4352x128_S512x128_512_0 inb_S4352x128_S512x128_512_0 inb_S4352x128_S512x128_512_0 (pK x0 x1 x2 x3 x4 x5 x6 xo9 1) (bK_10 c arg2 harg2 arg3 harg3 arg4 harg4 arg5 harg5 arg6 harg6 arg7 harg7 arg8 harg8 arg11 harg11 x0 x1 x2 x3 x4 x5 x6 xo9)

theorem bK_12 : Below 4352 (kernelRun0_B.sl.H9_12 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 1) (cK x0 x1 x2 x3 x4 x5 x6 128 (by decide)) 1536) :=
  stepK512 arg2 harg2 arg3 harg3 arg4 harg4 arg5 harg5 arg6 harg6 arg7 harg7 arg8 harg8 arg11 x0 x1 x2 x3 x4 x5 x6 128 (by decide) 1024 inb_S256x512_S256x128_0_128 inb_S256x512_S256x128_0_128 inb_S256x512_S256x128_0_128 inb_S256x512_S256x128_0_128 inb_S256x512_S256x128_0_128 inb_S4352x128_S512x128_1024_0 inb_S4352x128_S512x128_1024_0 inb_S4352x128_S512x128_1024_0 inb_S4352x128_S512x128_1024_0 (pK x0 x1 x2 x3 x4 x5 x6 xo9 1) (bK_11 c arg2 harg2 arg3 harg3 arg4 harg4 arg5 harg5 arg6 harg6 arg7 harg7 arg8 harg8 arg11 harg11 x0 x1 x2 x3 x4 x5 x6 xo9)

theorem bK_13 : Below 4352 (kernelRun0_B.sl.H9_13 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 1) (cK x0 x1 x2 x3 x4 x5 x6 128 (by decide)) 2048) :=
  stepK512 arg2 harg2 arg3 harg3 arg4 harg4 arg5 harg5 arg6 harg6 arg7 harg7 arg8 harg8 arg11 x0 x1 x2 x3 x4 x5 x6 128 (by decide) 1536 inb_S256x512_S256x128_0_128 inb_S256x512_S256x128_0_128 inb_S256x512_S256x128_0_128 inb_S256x512_S256x128_0_128 inb_S256x512_S256x128_0_128 inb_S4352x128_S512x128_1536_0 inb_S4352x128_S512x128_1536_0 inb_S4352x128_S512x128_1536_0 inb_S4352x128_S512x128_1536_0 (pK x0 x1 x2 x3 x4 x5 x6 xo9 1) (bK_12 c arg2 harg2 arg3 harg3 arg4 harg4 arg5 harg5 arg6 harg6 arg7 harg7 arg8 harg8 arg11 harg11 x0 x1 x2 x3 x4 x5 x6 xo9)

theorem bK_14 : Below 4352 (kernelRun0_B.sl.H9_14 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 1) (cK x0 x1 x2 x3 x4 x5 x6 128 (by decide)) 2560) :=
  stepK512 arg2 harg2 arg3 harg3 arg4 harg4 arg5 harg5 arg6 harg6 arg7 harg7 arg8 harg8 arg11 x0 x1 x2 x3 x4 x5 x6 128 (by decide) 2048 inb_S256x512_S256x128_0_128 inb_S256x512_S256x128_0_128 inb_S256x512_S256x128_0_128 inb_S256x512_S256x128_0_128 inb_S256x512_S256x128_0_128 inb_S4352x128_S512x128_2048_0 inb_S4352x128_S512x128_2048_0 inb_S4352x128_S512x128_2048_0 inb_S4352x128_S512x128_2048_0 (pK x0 x1 x2 x3 x4 x5 x6 xo9 1) (bK_13 c arg2 harg2 arg3 harg3 arg4 harg4 arg5 harg5 arg6 harg6 arg7 harg7 arg8 harg8 arg11 harg11 x0 x1 x2 x3 x4 x5 x6 xo9)

theorem bK_15 : Below 4352 (kernelRun0_B.sl.H9_15 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 1) (cK x0 x1 x2 x3 x4 x5 x6 128 (by decide)) 3072) :=
  stepK512 arg2 harg2 arg3 harg3 arg4 harg4 arg5 harg5 arg6 harg6 arg7 harg7 arg8 harg8 arg11 x0 x1 x2 x3 x4 x5 x6 128 (by decide) 2560 inb_S256x512_S256x128_0_128 inb_S256x512_S256x128_0_128 inb_S256x512_S256x128_0_128 inb_S256x512_S256x128_0_128 inb_S256x512_S256x128_0_128 inb_S4352x128_S512x128_2560_0 inb_S4352x128_S512x128_2560_0 inb_S4352x128_S512x128_2560_0 inb_S4352x128_S512x128_2560_0 (pK x0 x1 x2 x3 x4 x5 x6 xo9 1) (bK_14 c arg2 harg2 arg3 harg3 arg4 harg4 arg5 harg5 arg6 harg6 arg7 harg7 arg8 harg8 arg11 harg11 x0 x1 x2 x3 x4 x5 x6 xo9)

theorem bK_16 : Below 4352 (kernelRun0_B.sl.H9_16 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 1) (cK x0 x1 x2 x3 x4 x5 x6 128 (by decide)) 3584) :=
  stepK512 arg2 harg2 arg3 harg3 arg4 harg4 arg5 harg5 arg6 harg6 arg7 harg7 arg8 harg8 arg11 x0 x1 x2 x3 x4 x5 x6 128 (by decide) 3072 inb_S256x512_S256x128_0_128 inb_S256x512_S256x128_0_128 inb_S256x512_S256x128_0_128 inb_S256x512_S256x128_0_128 inb_S256x512_S256x128_0_128 inb_S4352x128_S512x128_3072_0 inb_S4352x128_S512x128_3072_0 inb_S4352x128_S512x128_3072_0 inb_S4352x128_S512x128_3072_0 (pK x0 x1 x2 x3 x4 x5 x6 xo9 1) (bK_15 c arg2 harg2 arg3 harg3 arg4 harg4 arg5 harg5 arg6 harg6 arg7 harg7 arg8 harg8 arg11 harg11 x0 x1 x2 x3 x4 x5 x6 xo9)

theorem bK_17 : Below 4352 (kernelRun0_B.sl.H9_17 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 1) (cK x0 x1 x2 x3 x4 x5 x6 128 (by decide)) 4096) :=
  stepK512 arg2 harg2 arg3 harg3 arg4 harg4 arg5 harg5 arg6 harg6 arg7 harg7 arg8 harg8 arg11 x0 x1 x2 x3 x4 x5 x6 128 (by decide) 3584 inb_S256x512_S256x128_0_128 inb_S256x512_S256x128_0_128 inb_S256x512_S256x128_0_128 inb_S256x512_S256x128_0_128 inb_S256x512_S256x128_0_128 inb_S4352x128_S512x128_3584_0 inb_S4352x128_S512x128_3584_0 inb_S4352x128_S512x128_3584_0 inb_S4352x128_S512x128_3584_0 (pK x0 x1 x2 x3 x4 x5 x6 xo9 1) (bK_16 c arg2 harg2 arg3 harg3 arg4 harg4 arg5 harg5 arg6 harg6 arg7 harg7 arg8 harg8 arg11 harg11 x0 x1 x2 x3 x4 x5 x6 xo9)

theorem bK_18 : Below 4352 (kernelRun0_B.sl.H9_18 (F := Ideal) c arg2 harg2 arg3 harg3 arg4 harg4 arg5 harg5 arg6 harg6 arg7 harg7 arg8 harg8 arg11 harg11 x0 x1 x2 x3 x4 x5 x6 xo9) (pK x0 x1 x2 x3 x4 x5 x6 xo9 2) :=
  below_done (stepK256 arg2 harg2 arg3 harg3 arg4 harg4 arg5 harg5 arg6 harg6 arg7 harg7 arg8 harg8 arg11 x0 x1 x2 x3 x4 x5 x6 128 (by decide) 4096 inb_S256x512_S256x128_0_128 inb_S256x512_S256x128_0_128 inb_S256x512_S256x128_0_128 inb_S256x512_S256x128_0_128 inb_S256x512_S256x128_0_128 inb_S4352x128_S256x128_4096_0 inb_S4352x128_S256x128_4096_0 inb_S4352x128_S256x128_4096_0 inb_S4352x128_S256x128_4096_0 (pK x0 x1 x2 x3 x4 x5 x6 xo9 1) (bK_17 c arg2 harg2 arg3 harg3 arg4 harg4 arg5 harg5 arg6 harg6 arg7 harg7 arg8 harg8 arg11 harg11 x0 x1 x2 x3 x4 x5 x6 xo9))

theorem bK_19 : Below 4352 (kernelRun0_B.sl.H9_19 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 2) (cK x0 x1 x2 x3 x4 x5 x6 256 (by decide)) 512) :=
  stepK512 arg2 harg2 arg3 harg3 arg4 harg4 arg5 harg5 arg6 harg6 arg7 harg7 arg8 harg8 arg11 x0 x1 x2 x3 x4 x5 x6 256 (by decide) 0 inb_S256x512_S256x128_0_256 inb_S256x512_S256x128_0_256 inb_S256x512_S256x128_0_256 inb_S256x512_S256x128_0_256 inb_S256x512_S256x128_0_256 inb_S4352x128_S512x128_0_0 inb_S4352x128_S512x128_0_0 inb_S4352x128_S512x128_0_0 inb_S4352x128_S512x128_0_0 (pK x0 x1 x2 x3 x4 x5 x6 xo9 2) (below_start (cK x0 x1 x2 x3 x4 x5 x6 256 (by decide)) (bK_18 c arg2 harg2 arg3 harg3 arg4 harg4 arg5 harg5 arg6 harg6 arg7 harg7 arg8 harg8 arg11 harg11 x0 x1 x2 x3 x4 x5 x6 xo9))

theorem bK_20 : Below 4352 (kernelRun0_B.sl.H9_20 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 2) (cK x0 x1 x2 x3 x4 x5 x6 256 (by decide)) 1024) :=
  stepK512 arg2 harg2 arg3 harg3 arg4 harg4 arg5 harg5 arg6 harg6 arg7 harg7 arg8 harg8 arg11 x0 x1 x2 x3 x4 x5 x6 256 (by decide) 512 inb_S256x512_S256x128_0_256 inb_S256x512_S256x128_0_256 inb_S256x512_S256x128_0_256 inb_S256x512_S256x128_0_256 inb_S256x512_S256x128_0_256 inb_S4352x128_S512x128_512_0 inb_S4352x128_S512x128_512_0 inb_S4352x128_S512x128_512_0 inb_S4352x128_S512x128_512_0 (pK x0 x1 x2 x3 x4 x5 x6 xo9 2) (bK_19 c arg2 harg2 arg3 harg3 arg4 harg4 arg5 harg5 arg6 harg6 arg7 harg7 arg8 harg8 arg11 harg11 x0 x1 x2 x3 x4 x5 x6 xo9)

theorem bK_21 : Below 4352 (kernelRun0_B.sl.H9_21 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 2) (cK x0 x1 x2 x3 x4 x5 x6 256 (by decide)) 1536) :=
  stepK512 arg2 harg2 arg3 harg3 arg4 harg4 arg5 harg5 arg6 harg6 arg7 harg7 arg8 harg8 arg11 x0 x1 x2 x3 x4 x5 x6 256 (by decide) 1024 inb_S256x512_S256x128_0_256 inb_S256x512_S256x128_0_256 inb_S256x512_S256x128_0_256 inb_S256x512_S256x128_0_256 inb_S256x512_S256x128_0_256 inb_S4352x128_S512x128_1024_0 inb_S4352x128_S512x128_1024_0 inb_S4352x128_S512x128_1024_0 inb_S4352x128_S512x128_1024_0 (pK x0 x1 x2 x3 x4 x5 x6 xo9 2) (bK_20 c arg2 harg2 arg3 harg3 arg4 harg4 arg5 harg5 arg6 harg6 arg7 harg7 arg8 harg8 arg11 harg11 x0 x1 x2 x3 x4 x5 x6 xo9)

theorem bK_22 : Below 4352 (kernelRun0_B.sl.H9_22 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 2) (cK x0 x1 x2 x3 x4 x5 x6 256 (by decide)) 2048) :=
  stepK512 arg2 harg2 arg3 harg3 arg4 harg4 arg5 harg5 arg6 harg6 arg7 harg7 arg8 harg8 arg11 x0 x1 x2 x3 x4 x5 x6 256 (by decide) 1536 inb_S256x512_S256x128_0_256 inb_S256x512_S256x128_0_256 inb_S256x512_S256x128_0_256 inb_S256x512_S256x128_0_256 inb_S256x512_S256x128_0_256 inb_S4352x128_S512x128_1536_0 inb_S4352x128_S512x128_1536_0 inb_S4352x128_S512x128_1536_0 inb_S4352x128_S512x128_1536_0 (pK x0 x1 x2 x3 x4 x5 x6 xo9 2) (bK_21 c arg2 harg2 arg3 harg3 arg4 harg4 arg5 harg5 arg6 harg6 arg7 harg7 arg8 harg8 arg11 harg11 x0 x1 x2 x3 x4 x5 x6 xo9)

theorem bK_23 : Below 4352 (kernelRun0_B.sl.H9_23 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 2) (cK x0 x1 x2 x3 x4 x5 x6 256 (by decide)) 2560) :=
  stepK512 arg2 harg2 arg3 harg3 arg4 harg4 arg5 harg5 arg6 harg6 arg7 harg7 arg8 harg8 arg11 x0 x1 x2 x3 x4 x5 x6 256 (by decide) 2048 inb_S256x512_S256x128_0_256 inb_S256x512_S256x128_0_256 inb_S256x512_S256x128_0_256 inb_S256x512_S256x128_0_256 inb_S256x512_S256x128_0_256 inb_S4352x128_S512x128_2048_0 inb_S4352x128_S512x128_2048_0 inb_S4352x128_S512x128_2048_0 inb_S4352x128_S512x128_2048_0 (pK x0 x1 x2 x3 x4 x5 x6 xo9 2) (bK_22 c arg2 harg2 arg3 harg3 arg4 harg4 arg5 harg5 arg6 harg6 arg7 harg7 arg8 harg8 arg11 harg11 x0 x1 x2 x3 x4 x5 x6 xo9)

theorem bK_24 : Below 4352 (kernelRun0_B.sl.H9_24 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 2) (cK x0 x1 x2 x3 x4 x5 x6 256 (by decide)) 3072) :=
  stepK512 arg2 harg2 arg3 harg3 arg4 harg4 arg5 harg5 arg6 harg6 arg7 harg7 arg8 harg8 arg11 x0 x1 x2 x3 x4 x5 x6 256 (by decide) 2560 inb_S256x512_S256x128_0_256 inb_S256x512_S256x128_0_256 inb_S256x512_S256x128_0_256 inb_S256x512_S256x128_0_256 inb_S256x512_S256x128_0_256 inb_S4352x128_S512x128_2560_0 inb_S4352x128_S512x128_2560_0 inb_S4352x128_S512x128_2560_0 inb_S4352x128_S512x128_2560_0 (pK x0 x1 x2 x3 x4 x5 x6 xo9 2) (bK_23 c arg2 harg2 arg3 harg3 arg4 harg4 arg5 harg5 arg6 harg6 arg7 harg7 arg8 harg8 arg11 harg11 x0 x1 x2 x3 x4 x5 x6 xo9)

theorem bK_25 : Below 4352 (kernelRun0_B.sl.H9_25 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 2) (cK x0 x1 x2 x3 x4 x5 x6 256 (by decide)) 3584) :=
  stepK512 arg2 harg2 arg3 harg3 arg4 harg4 arg5 harg5 arg6 harg6 arg7 harg7 arg8 harg8 arg11 x0 x1 x2 x3 x4 x5 x6 256 (by decide) 3072 inb_S256x512_S256x128_0_256 inb_S256x512_S256x128_0_256 inb_S256x512_S256x128_0_256 inb_S256x512_S256x128_0_256 inb_S256x512_S256x128_0_256 inb_S4352x128_S512x128_3072_0 inb_S4352x128_S512x128_3072_0 inb_S4352x128_S512x128_3072_0 inb_S4352x128_S512x128_3072_0 (pK x0 x1 x2 x3 x4 x5 x6 xo9 2) (bK_24 c arg2 harg2 arg3 harg3 arg4 harg4 arg5 harg5 arg6 harg6 arg7 harg7 arg8 harg8 arg11 harg11 x0 x1 x2 x3 x4 x5 x6 xo9)

theorem bK_26 : Below 4352 (kernelRun0_B.sl.H9_26 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 2) (cK x0 x1 x2 x3 x4 x5 x6 256 (by decide)) 4096) :=
  stepK512 arg2 harg2 arg3 harg3 arg4 harg4 arg5 harg5 arg6 harg6 arg7 harg7 arg8 harg8 arg11 x0 x1 x2 x3 x4 x5 x6 256 (by decide) 3584 inb_S256x512_S256x128_0_256 inb_S256x512_S256x128_0_256 inb_S256x512_S256x128_0_256 inb_S256x512_S256x128_0_256 inb_S256x512_S256x128_0_256 inb_S4352x128_S512x128_3584_0 inb_S4352x128_S512x128_3584_0 inb_S4352x128_S512x128_3584_0 inb_S4352x128_S512x128_3584_0 (pK x0 x1 x2 x3 x4 x5 x6 xo9 2) (bK_25 c arg2 harg2 arg3 harg3 arg4 harg4 arg5 harg5 arg6 harg6 arg7 harg7 arg8 harg8 arg11 harg11 x0 x1 x2 x3 x4 x5 x6 xo9)

theorem bK_27 : Below 4352 (kernelRun0_B.sl.H9_27 (F := Ideal) c arg2 harg2 arg3 harg3 arg4 harg4 arg5 harg5 arg6 harg6 arg7 harg7 arg8 harg8 arg11 harg11 x0 x1 x2 x3 x4 x5 x6 xo9) (pK x0 x1 x2 x3 x4 x5 x6 xo9 3) :=
  below_done (stepK256 arg2 harg2 arg3 harg3 arg4 harg4 arg5 harg5 arg6 harg6 arg7 harg7 arg8 harg8 arg11 x0 x1 x2 x3 x4 x5 x6 256 (by decide) 4096 inb_S256x512_S256x128_0_256 inb_S256x512_S256x128_0_256 inb_S256x512_S256x128_0_256 inb_S256x512_S256x128_0_256 inb_S256x512_S256x128_0_256 inb_S4352x128_S256x128_4096_0 inb_S4352x128_S256x128_4096_0 inb_S4352x128_S256x128_4096_0 inb_S4352x128_S256x128_4096_0 (pK x0 x1 x2 x3 x4 x5 x6 xo9 2) (bK_26 c arg2 harg2 arg3 harg3 arg4 harg4 arg5 harg5 arg6 harg6 arg7 harg7 arg8 harg8 arg11 harg11 x0 x1 x2 x3 x4 x5 x6 xo9))

theorem bK_28 : Below 4352 (kernelRun0_B.sl.H9_28 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 3) (cK x0 x1 x2 x3 x4 x5 x6 384 (by decide)) 512) :=
  stepK512 arg2 harg2 arg3 harg3 arg4 harg4 arg5 harg5 arg6 harg6 arg7 harg7 arg8 harg8 arg11 x0 x1 x2 x3 x4 x5 x6 384 (by decide) 0 inb_S256x512_S256x128_0_384 inb_S256x512_S256x128_0_384 inb_S256x512_S256x128_0_384 inb_S256x512_S256x128_0_384 inb_S256x512_S256x128_0_384 inb_S4352x128_S512x128_0_0 inb_S4352x128_S512x128_0_0 inb_S4352x128_S512x128_0_0 inb_S4352x128_S512x128_0_0 (pK x0 x1 x2 x3 x4 x5 x6 xo9 3) (below_start (cK x0 x1 x2 x3 x4 x5 x6 384 (by decide)) (bK_27 c arg2 harg2 arg3 harg3 arg4 harg4 arg5 harg5 arg6 harg6 arg7 harg7 arg8 harg8 arg11 harg11 x0 x1 x2 x3 x4 x5 x6 xo9))

theorem bK_29 : Below 4352 (kernelRun0_B.sl.H9_29 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 3) (cK x0 x1 x2 x3 x4 x5 x6 384 (by decide)) 1024) :=
  stepK512 arg2 harg2 arg3 harg3 arg4 harg4 arg5 harg5 arg6 harg6 arg7 harg7 arg8 harg8 arg11 x0 x1 x2 x3 x4 x5 x6 384 (by decide) 512 inb_S256x512_S256x128_0_384 inb_S256x512_S256x128_0_384 inb_S256x512_S256x128_0_384 inb_S256x512_S256x128_0_384 inb_S256x512_S256x128_0_384 inb_S4352x128_S512x128_512_0 inb_S4352x128_S512x128_512_0 inb_S4352x128_S512x128_512_0 inb_S4352x128_S512x128_512_0 (pK x0 x1 x2 x3 x4 x5 x6 xo9 3) (bK_28 c arg2 harg2 arg3 harg3 arg4 harg4 arg5 harg5 arg6 harg6 arg7 harg7 arg8 harg8 arg11 harg11 x0 x1 x2 x3 x4 x5 x6 xo9)

theorem bK_30 : Below 4352 (kernelRun0_B.sl.H9_30 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 3) (cK x0 x1 x2 x3 x4 x5 x6 384 (by decide)) 1536) :=
  stepK512 arg2 harg2 arg3 harg3 arg4 harg4 arg5 harg5 arg6 harg6 arg7 harg7 arg8 harg8 arg11 x0 x1 x2 x3 x4 x5 x6 384 (by decide) 1024 inb_S256x512_S256x128_0_384 inb_S256x512_S256x128_0_384 inb_S256x512_S256x128_0_384 inb_S256x512_S256x128_0_384 inb_S256x512_S256x128_0_384 inb_S4352x128_S512x128_1024_0 inb_S4352x128_S512x128_1024_0 inb_S4352x128_S512x128_1024_0 inb_S4352x128_S512x128_1024_0 (pK x0 x1 x2 x3 x4 x5 x6 xo9 3) (bK_29 c arg2 harg2 arg3 harg3 arg4 harg4 arg5 harg5 arg6 harg6 arg7 harg7 arg8 harg8 arg11 harg11 x0 x1 x2 x3 x4 x5 x6 xo9)

theorem bK_31 : Below 4352 (kernelRun0_B.sl.H9_31 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 3) (cK x0 x1 x2 x3 x4 x5 x6 384 (by decide)) 2048) :=
  stepK512 arg2 harg2 arg3 harg3 arg4 harg4 arg5 harg5 arg6 harg6 arg7 harg7 arg8 harg8 arg11 x0 x1 x2 x3 x4 x5 x6 384 (by decide) 1536 inb_S256x512_S256x128_0_384 inb_S256x512_S256x128_0_384 inb_S256x512_S256x128_0_384 inb_S256x512_S256x128_0_384 inb_S256x512_S256x128_0_384 inb_S4352x128_S512x128_1536_0 inb_S4352x128_S512x128_1536_0 inb_S4352x128_S512x128_1536_0 inb_S4352x128_S512x128_1536_0 (pK x0 x1 x2 x3 x4 x5 x6 xo9 3) (bK_30 c arg2 harg2 arg3 harg3 arg4 harg4 arg5 harg5 arg6 harg6 arg7 harg7 arg8 harg8 arg11 harg11 x0 x1 x2 x3 x4 x5 x6 xo9)

theorem bK_32 : Below 4352 (kernelRun0_B.sl.H9_32 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 3) (cK x0 x1 x2 x3 x4 x5 x6 384 (by decide)) 2560) :=
  stepK512 arg2 harg2 arg3 harg3 arg4 harg4 arg5 harg5 arg6 harg6 arg7 harg7 arg8 harg8 arg11 x0 x1 x2 x3 x4 x5 x6 384 (by decide) 2048 inb_S256x512_S256x128_0_384 inb_S256x512_S256x128_0_384 inb_S256x512_S256x128_0_384 inb_S256x512_S256x128_0_384 inb_S256x512_S256x128_0_384 inb_S4352x128_S512x128_2048_0 inb_S4352x128_S512x128_2048_0 inb_S4352x128_S512x128_2048_0 inb_S4352x128_S512x128_2048_0 (pK x0 x1 x2 x3 x4 x5 x6 xo9 3) (bK_31 c arg2 harg2 arg3 harg3 arg4 harg4 arg5 harg5 arg6 harg6 arg7 harg7 arg8 harg8 arg11 harg11 x0 x1 x2 x3 x4 x5 x6 xo9)

theorem bK_33 : Below 4352 (kernelRun0_B.sl.H9_33 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 3) (cK x0 x1 x2 x3 x4 x5 x6 384 (by decide)) 3072) :=
  stepK512 arg2 harg2 arg3 harg3 arg4 harg4 arg5 harg5 arg6 harg6 arg7 harg7 arg8 harg8 arg11 x0 x1 x2 x3 x4 x5 x6 384 (by decide) 2560 inb_S256x512_S256x128_0_384 inb_S256x512_S256x128_0_384 inb_S256x512_S256x128_0_384 inb_S256x512_S256x128_0_384 inb_S256x512_S256x128_0_384 inb_S4352x128_S512x128_2560_0 inb_S4352x128_S512x128_2560_0 inb_S4352x128_S512x128_2560_0 inb_S4352x128_S512x128_2560_0 (pK x0 x1 x2 x3 x4 x5 x6 xo9 3) (bK_32 c arg2 harg2 arg3 harg3 arg4 harg4 arg5 harg5 arg6 harg6 arg7 harg7 arg8 harg8 arg11 harg11 x0 x1 x2 x3 x4 x5 x6 xo9)

theorem bK_34 : Below 4352 (kernelRun0_B.sl.H9_34 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 3) (cK x0 x1 x2 x3 x4 x5 x6 384 (by decide)) 3584) :=
  stepK512 arg2 harg2 arg3 harg3 arg4 harg4 arg5 harg5 arg6 harg6 arg7 harg7 arg8 harg8 arg11 x0 x1 x2 x3 x4 x5 x6 384 (by decide) 3072 inb_S256x512_S256x128_0_384 inb_S256x512_S256x128_0_384 inb_S256x512_S256x128_0_384 inb_S256x512_S256x128_0_384 inb_S256x512_S256x128_0_384 inb_S4352x128_S512x128_3072_0 inb_S4352x128_S512x128_3072_0 inb_S4352x128_S512x128_3072_0 inb_S4352x128_S512x128_3072_0 (pK x0 x1 x2 x3 x4 x5 x6 xo9 3) (bK_33 c arg2 harg2 arg3 harg3 arg4 harg4 arg5 harg5 arg6 harg6 arg7 harg7 arg8 harg8 arg11 harg11 x0 x1 x2 x3 x4 x5 x6 xo9)

theorem bK_35 : Below 4352 (kernelRun0_B.sl.H9_35 (F := Ideal) c arg2 harg2 arg3 harg3 arg4 harg4 arg5 harg5 arg6 harg6 arg7 harg7 arg8 harg8 arg11 harg11 x0 x1 x2 x3 x4 x5 x6 xo9) (St (pK x0 x1 x2 x3 x4 x5 x6 xo9 3) (cK x0 x1 x2 x3 x4 x5 x6 384 (by decide)) 4096) :=
  stepK512 arg2 harg2 arg3 harg3 arg4 harg4 arg5 harg5 arg6 harg6 arg7 harg7 arg8 harg8 arg11 x0 x1 x2 x3 x4 x5 x6 384 (by decide) 3584 inb_S256x512_S256x128_0_384 inb_S256x512_S256x128_0_384 inb_S256x512_S256x128_0_384 inb_S256x512_S256x128_0_384 inb_S256x512_S256x128_0_384 inb_S4352x128_S512x128_3584_0 inb_S4352x128_S512x128_3584_0 inb_S4352x128_S512x128_3584_0 inb_S4352x128_S512x128_3584_0 (pK x0 x1 x2 x3 x4 x5 x6 xo9 3) (bK_34 c arg2 harg2 arg3 harg3 arg4 harg4 arg5 harg5 arg6 harg6 arg7 harg7 arg8 harg8 arg11 harg11 x0 x1 x2 x3 x4 x5 x6 xo9)

theorem outB9 (i : grid0.Coords) (hc0 : ¬cond0_0 i) (hc1 : ¬cond0_1 i) (hc2 : cond0_2 i) (s : Fin 4352) (d : Fin 128) :
    out0_B_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xo9 xo10 (ix2 s d) = pK x0 x1 x2 x3 x4 x5 x6 xo9 4 (ix2 s d) := by
  unfold out0_B_9 kernelRun0_B
  dsimp only
  exact below_done (stepK256 arg2 harg2 arg3 harg3 arg4 harg4 arg5 harg5 arg6 harg6 arg7 harg7 arg8 harg8 arg11 x0 x1 x2 x3 x4 x5 x6 384 (by decide) 4096 inb_S256x512_S256x128_0_384 inb_S256x512_S256x128_0_384 inb_S256x512_S256x128_0_384 inb_S256x512_S256x128_0_384 inb_S256x512_S256x128_0_384 inb_S4352x128_S256x128_4096_0 inb_S4352x128_S256x128_4096_0 inb_S4352x128_S256x128_4096_0 inb_S4352x128_S256x128_4096_0 (pK x0 x1 x2 x3 x4 x5 x6 xo9 3) (bK_35 c arg2 harg2 arg3 harg3 arg4 harg4 arg5 harg5 arg6 harg6 arg7 harg7 arg8 harg8 arg11 harg11 x0 x1 x2 x3 x4 x5 x6 xo9)) _ _ _ _ s d s.isLt

end Cert.KernelIdeal.Val
end
-- ==== Proof.CaseV.lean ====
/-
  The stores of a grid point with all the keys into the gradient of the values: each head adds its contribution to every row.
-/
module

public import proofs.«01_k».proof.Proof.Steps

@[expose] public section

set_option maxRecDepth 16384

noncomputable section

namespace Cert.KernelIdeal.Val

open Cert.KernelIdeal Cert.KernelIdeal.Gen Idealize.ShloMosaic Idealize.ShloMosaic.TcCoe Idealize.SL.Sem

variable (c : Dev nD) (arg2 : Memref sig .tc .vmem S256x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S4352x128 .f32) (harg11 : arg11.IsWhole) (arg12 : Memref sig .tc .vmem S4352x128 .f32) (harg12 : arg12.IsWhole)
  (x0 : Vec Ideal S256x512 .bf16) (x1 x2 : Vec Ideal S4352x128 .bf16) (x3 x4 x5 x6 : Vec Ideal S256x512 .f32) (xo9 xo10 : Vec Ideal S4352x128 .f32)

/-- The gradient's block after the first heads. -/
abbrev pV (xo : Vec Ideal S4352x128 .f32) : ℕ → S4352x128.Idx → EReal
  | 0 => xo
  | 1 => fun y => xo y + cV x0 x1 x3 x4 x6 0 (by decide) (y (0 : Fin 2)) (y (1 : Fin 2))
  | 2 => fun y => (xo y + cV x0 x1 x3 x4 x6 0 (by decide) (y (0 : Fin 2)) (y (1 : Fin 2))) + cV x0 x1 x3 x4 x6 128 (by decide) (y (0 : Fin 2)) (y (1 : Fin 2))
  | 3 => fun y => ((xo y + cV x0 x1 x3 x4 x6 0 (by decide) (y (0 : Fin 2)) (y (1 : Fin 2))) + cV x0 x1 x3 x4 x6 128 (by decide) (y (0 : Fin 2)) (y (1 : Fin 2))) + cV x0 x1 x3 x4 x6 256 (by decide) (y (0 : Fin 2)) (y (1 : Fin 2))
  | _ => fun y => (((xo y + cV x0 x1 x3 x4 x6 0 (by decide) (y (0 : Fin 2)) (y (1 : Fin 2))) + cV x0 x1 x3 x4 x6 128 (by decide) (y (0 : Fin 2)) (y (1 : Fin 2))) + cV x0 x1 x3 x4 x6 256 (by decide) (y (0 : Fin 2)) (y (1 : Fin 2))) + cV x0 x1 x3 x4 x6 384 (by decide) (y (0 : Fin 2)) (y (1 : Fin 2))

theorem bV_9 : Below 4352 (kernelRun0_B.sl.H10_9 (F := Ideal) c arg2 harg2 arg3 harg3 arg5 harg5 arg6 harg6 arg8 harg8 arg12 harg12 x0 x1 x3 x4 x6 xo10) (pV x0 x1 x3 x4 x6 xo10 1) :=
  (startV256 arg2 harg2 arg3 harg3 arg5 harg5 arg6 harg6 arg8 harg8 arg12 harg12 x0 x1 x3 x4 x6 xo10 0 (by decide) 4096 inb_S256x512_S256x128_0_0 inb_S256x512_S256x128_0_0 inb_S256x512_S256x128_0_0 inb_S256x512_S256x128_0_0 inb_S4352x128_S256x128_4096_0 inb_S4352x128_S256x128_4096_0 inb_S4352x128_S256x128_4096_0 (startV512 arg2 harg2 arg3 harg3 arg5 harg5 arg6 harg6 arg8 harg8 arg12 harg12 x0 x1 x3 x4 x6 xo10 0 (by decide) 3584 inb_S256x512_S256x128_0_0 inb_S256x512_S256x128_0_0 inb_S256x512_S256x128_0_0 inb_S256x512_S256x128_0_0 inb_S4352x128_S512x128_3584_0 inb_S4352x128_S512x128_3584_0 inb_S4352x128_S512x128_3584_0 (startV512 arg2 harg2 arg3 harg3 arg5 harg5 arg6 harg6 arg8 harg8 arg12 harg12 x0 x1 x3 x4 x6 xo10 0 (by decide) 3072 inb_S256x512_S256x128_0_0 inb_S256x512_S256x128_0_0 inb_S256x512_S256x128_0_0 inb_S256x512_S256x128_0_0 inb_S4352x128_S512x128_3072_0 inb_S4352x128_S512x128_3072_0 inb_S4352x128_S512x128_3072_0 (startV512 arg2 harg2 arg3 harg3 arg5 harg5 arg6 harg6 arg8 harg8 arg12 harg12 x0 x1 x3 x4 x6 xo10 0 (by decide) 2560 inb_S256x512_S256x128_0_0 inb_S256x512_S256x128_0_0 inb_S256x512_S256x128_0_0 inb_S256x512_S256x128_0_0 inb_S4352x128_S512x128_2560_0 inb_S4352x128_S512x128_2560_0 inb_S4352x128_S512x128_2560_0 (startV512 arg2 harg2 arg3 harg3 arg5 harg5 arg6 harg6 arg8 harg8 arg12 harg12 x0 x1 x3 x4 x6 xo10 0 (by decide) 2048 inb_S256x512_S256x128_0_0 inb_S256x512_S256x128_0_0 inb_S256x512_S256x128_0_0 inb_S256x512_S256x128_0_0 inb_S4352x128_S512x128_2048_0 inb_S4352x128_S512x128_2048_0 inb_S4352x128_S512x128_2048_0 (startV512 arg2 harg2 arg3 harg3 arg5 harg5 arg6 harg6 arg8 harg8 arg12 harg12 x0 x1 x3 x4 x6 xo10 0 (by decide) 1536 inb_S256x512_S256x128_0_0 inb_S256x512_S256x128_0_0 inb_S256x512_S256x128_0_0 inb_S256x512_S256x128_0_0 inb_S4352x128_S512x128_1536_0 inb_S4352x128_S512x128_1536_0 inb_S4352x128_S512x128_1536_0 (startV512 arg2 harg2 arg3 harg3 arg5 harg5 arg6 harg6 arg8 harg8 arg12 harg12 x0 x1 x3 x4 x6 xo10 0 (by decide) 1024 inb_S256x512_S256x128_0_0 inb_S256x512_S256x128_0_0 inb_S256x512_S256x128_0_0 inb_S256x512_S256x128_0_0 inb_S4352x128_S512x128_1024_0 inb_S4352x128_S512x128_1024_0 inb_S4352x128_S512x128_1024_0 (startV512 arg2 harg2 arg3 harg3 arg5 harg5 arg6 harg6 arg8 harg8 arg12 harg12 x0 x1 x3 x4 x6 xo10 0 (by decide) 512 inb_S256x512_S256x128_0_0 inb_S256x512_S256x128_0_0 inb_S256x512_S256x128_0_0 inb_S256x512_S256x128_0_0 inb_S4352x128_S512x128_512_0 inb_S4352x128_S512x128_512_0 inb_S4352x128_S512x128_512_0 (startV512 arg2 harg2 arg3 harg3 arg5 harg5 arg6 harg6 arg8 harg8 arg12 harg12 x0 x1 x3 x4 x6 xo10 0 (by decide) 0 inb_S256x512_S256x128_0_0 inb_S256x512_S256x128_0_0 inb_S256x512_S256x128_0_0 inb_S256x512_S256x128_0_0 inb_S4352x128_S512x128_0_0 inb_S4352x128_S512x128_0_0 inb_S4352x128_S512x128_0_0 (below_nil _))))))))))

theorem bV_10 : Below 4352 (kernelRun0_B.sl.H10_10 (F := Ideal) c arg2 harg2 arg3 harg3 arg5 harg5 arg6 harg6 arg8 harg8 arg12 harg12 x0 x1 x3 x4 x6 xo10) (St (pV x0 x1 x3 x4 x6 xo10 1) (cV x0 x1 x3 x4 x6 128 (by decide)) 512) :=
  stepV512 arg2 harg2 arg3 harg3 arg5 harg5 arg6 harg6 arg8 harg8 arg12 x0 x1 x3 x4 x6 128 (by decide) 0 inb_S256x512_S256x128_0_128 inb_S256x512_S256x128_0_128 inb_S256x512_S256x128_0_128 inb_S256x512_S256x128_0_128 inb_S4352x128_S512x128_0_0 inb_S4352x128_S512x128_0_0 inb_S4352x128_S512x128_0_0 (pV x0 x1 x3 x4 x6 xo10 1) (below_start (cV x0 x1 x3 x4 x6 128 (by decide)) (bV_9 c arg2 harg2 arg3 harg3 arg5 harg5 arg6 harg6 arg8 harg8 arg12 harg12 x0 x1 x3 x4 x6 xo10))

theorem bV_11 : Below 4352 (kernelRun0_B.sl.H10_11 (F := Ideal) c arg2 harg2 arg3 harg3 arg5 harg5 arg6 harg6 arg8 harg8 arg12 harg12 x0 x1 x3 x4 x6 xo10) (St (pV x0 x1 x3 x4 x6 xo10 1) (cV x0 x1 x3 x4 x6 128 (by decide)) 1024) :=
  stepV512 arg2 harg2 arg3 harg3 arg5 harg5 arg6 harg6 arg8 harg8 arg12 x0 x1 x3 x4 x6 128 (by decide) 512 inb_S256x512_S256x128_0_128 inb_S256x512_S256x128_0_128 inb_S256x512_S256x128_0_128 inb_S256x512_S256x128_0_128 inb_S4352x128_S512x128_512_0 inb_S4352x128_S512x128_512_0 inb_S4352x128_S512x128_512_0 (pV x0 x1 x3 x4 x6 xo10 1) (bV_10 c arg2 harg2 arg3 harg3 arg5 harg5 arg6 harg6 arg8 harg8 arg12 harg12 x0 x1 x3 x4 x6 xo10)

theorem bV_12 : Below 4352 (kernelRun0_B.sl.H10_12 (F := Ideal) c arg2 harg2 arg3 harg3 arg5 harg5 arg6 harg6 arg8 harg8 arg12 harg12 x0 x1 x3 x4 x6 xo10) (St (pV x0 x1 x3 x4 x6 xo10 1) (cV x0 x1 x3 x4 x6 128 (by decide)) 1536) :=
  stepV512 arg2 harg2 arg3 harg3 arg5 harg5 arg6 harg6 arg8 harg8 arg12 x0 x1 x3 x4 x6 128 (by decide) 1024 inb_S256x512_S256x128_0_128 inb_S256x512_S256x128_0_128 inb_S256x512_S256x128_0_128 inb_S256x512_S256x128_0_128 inb_S4352x128_S512x128_1024_0 inb_S4352x128_S512x128_1024_0 inb_S4352x128_S512x128_1024_0 (pV x0 x1 x3 x4 x6 xo10 1) (bV_11 c arg2 harg2 arg3 harg3 arg5 harg5 arg6 harg6 arg8 harg8 arg12 harg12 x0 x1 x3 x4 x6 xo10)

theorem bV_13 : Below 4352 (kernelRun0_B.sl.H10_13 (F := Ideal) c arg2 harg2 arg3 harg3 arg5 harg5 arg6 harg6 arg8 harg8 arg12 harg12 x0 x1 x3 x4 x6 xo10) (St (pV x0 x1 x3 x4 x6 xo10 1) (cV x0 x1 x3 x4 x6 128 (by decide)) 2048) :=
  stepV512 arg2 harg2 arg3 harg3 arg5 harg5 arg6 harg6 arg8 harg8 arg12 x0 x1 x3 x4 x6 128 (by decide) 1536 inb_S256x512_S256x128_0_128 inb_S256x512_S256x128_0_128 inb_S256x512_S256x128_0_128 inb_S256x512_S256x128_0_128 inb_S4352x128_S512x128_1536_0 inb_S4352x128_S512x128_1536_0 inb_S4352x128_S512x128_1536_0 (pV x0 x1 x3 x4 x6 xo10 1) (bV_12 c arg2 harg2 arg3 harg3 arg5 harg5 arg6 harg6 arg8 harg8 arg12 harg12 x0 x1 x3 x4 x6 xo10)

theorem bV_14 : Below 4352 (kernelRun0_B.sl.H10_14 (F := Ideal) c arg2 harg2 arg3 harg3 arg5 harg5 arg6 harg6 arg8 harg8 arg12 harg12 x0 x1 x3 x4 x6 xo10) (St (pV x0 x1 x3 x4 x6 xo10 1) (cV x0 x1 x3 x4 x6 128 (by decide)) 2560) :=
  stepV512 arg2 harg2 arg3 harg3 arg5 harg5 arg6 harg6 arg8 harg8 arg12 x0 x1 x3 x4 x6 128 (by decide) 2048 inb_S256x512_S256x128_0_128 inb_S256x512_S256x128_0_128 inb_S256x512_S256x128_0_128 inb_S256x512_S256x128_0_128 inb_S4352x128_S512x128_2048_0 inb_S4352x128_S512x128_2048_0 inb_S4352x128_S512x128_2048_0 (pV x0 x1 x3 x4 x6 xo10 1) (bV_13 c arg2 harg2 arg3 harg3 arg5 harg5 arg6 harg6 arg8 harg8 arg12 harg12 x0 x1 x3 x4 x6 xo10)

theorem bV_15 : Below 4352 (kernelRun0_B.sl.H10_15 (F := Ideal) c arg2 harg2 arg3 harg3 arg5 harg5 arg6 harg6 arg8 harg8 arg12 harg12 x0 x1 x3 x4 x6 xo10) (St (pV x0 x1 x3 x4 x6 xo10 1) (cV x0 x1 x3 x4 x6 128 (by decide)) 3072) :=
  stepV512 arg2 harg2 arg3 harg3 arg5 harg5 arg6 harg6 arg8 harg8 arg12 x0 x1 x3 x4 x6 128 (by decide) 2560 inb_S256x512_S256x128_0_128 inb_S256x512_S256x128_0_128 inb_S256x512_S256x128_0_128 inb_S256x512_S256x128_0_128 inb_S4352x128_S512x128_2560_0 inb_S4352x128_S512x128_2560_0 inb_S4352x128_S512x128_2560_0 (pV x0 x1 x3 x4 x6 xo10 1) (bV_14 c arg2 harg2 arg3 harg3 arg5 harg5 arg6 harg6 arg8 harg8 arg12 harg12 x0 x1 x3 x4 x6 xo10)

theorem bV_16 : Below 4352 (kernelRun0_B.sl.H10_16 (F := Ideal) c arg2 harg2 arg3 harg3 arg5 harg5 arg6 harg6 arg8 harg8 arg12 harg12 x0 x1 x3 x4 x6 xo10) (St (pV x0 x1 x3 x4 x6 xo10 1) (cV x0 x1 x3 x4 x6 128 (by decide)) 3584) :=
  stepV512 arg2 harg2 arg3 harg3 arg5 harg5 arg6 harg6 arg8 harg8 arg12 x0 x1 x3 x4 x6 128 (by decide) 3072 inb_S256x512_S256x128_0_128 inb_S256x512_S256x128_0_128 inb_S256x512_S256x128_0_128 inb_S256x512_S256x128_0_128 inb_S4352x128_S512x128_3072_0 inb_S4352x128_S512x128_3072_0 inb_S4352x128_S512x128_3072_0 (pV x0 x1 x3 x4 x6 xo10 1) (bV_15 c arg2 harg2 arg3 harg3 arg5 harg5 arg6 harg6 arg8 harg8 arg12 harg12 x0 x1 x3 x4 x6 xo10)

theorem bV_17 : Below 4352 (kernelRun0_B.sl.H10_17 (F := Ideal) c arg2 harg2 arg3 harg3 arg5 harg5 arg6 harg6 arg8 harg8 arg12 harg12 x0 x1 x3 x4 x6 xo10) (St (pV x0 x1 x3 x4 x6 xo10 1) (cV x0 x1 x3 x4 x6 128 (by decide)) 4096) :=
  stepV512 arg2 harg2 arg3 harg3 arg5 harg5 arg6 harg6 arg8 harg8 arg12 x0 x1 x3 x4 x6 128 (by decide) 3584 inb_S256x512_S256x128_0_128 inb_S256x512_S256x128_0_128 inb_S256x512_S256x128_0_128 inb_S256x512_S256x128_0_128 inb_S4352x128_S512x128_3584_0 inb_S4352x128_S512x128_3584_0 inb_S4352x128_S512x128_3584_0 (pV x0 x1 x3 x4 x6 xo10 1) (bV_16 c arg2 harg2 arg3 harg3 arg5 harg5 arg6 harg6 arg8 harg8 arg12 harg12 x0 x1 x3 x4 x6 xo10)

theorem bV_18 : Below 4352 (kernelRun0_B.sl.H10_18 (F := Ideal) c arg2 harg2 arg3 harg3 arg5 harg5 arg6 harg6 arg8 harg8 arg12 harg12 x0 x1 x3 x4 x6 xo10) (pV x0 x1 x3 x4 x6 xo10 2) :=
  below_done (stepV256 arg2 harg2 arg3 harg3 arg5 harg5 arg6 harg6 arg8 harg8 arg12 x0 x1 x3 x4 x6 128 (by decide) 4096 inb_S256x512_S256x128_0_128 inb_S256x512_S256x128_0_128 inb_S256x512_S256x128_0_128 inb_S256x512_S256x128_0_128 inb_S4352x128_S256x128_4096_0 inb_S4352x128_S256x128_4096_0 inb_S4352x128_S256x128_4096_0 (pV x0 x1 x3 x4 x6 xo10 1) (bV_17 c arg2 harg2 arg3 harg3 arg5 harg5 arg6 harg6 arg8 harg8 arg12 harg12 x0 x1 x3 x4 x6 xo10))

theorem bV_19 : Below 4352 (kernelRun0_B.sl.H10_19 (F := Ideal) c arg2 harg2 arg3 harg3 arg5 harg5 arg6 harg6 arg8 harg8 arg12 harg12 x0 x1 x3 x4 x6 xo10) (St (pV x0 x1 x3 x4 x6 xo10 2) (cV x0 x1 x3 x4 x6 256 (by decide)) 512) :=
  stepV512 arg2 harg2 arg3 harg3 arg5 harg5 arg6 harg6 arg8 harg8 arg12 x0 x1 x3 x4 x6 256 (by decide) 0 inb_S256x512_S256x128_0_256 inb_S256x512_S256x128_0_256 inb_S256x512_S256x128_0_256 inb_S256x512_S256x128_0_256 inb_S4352x128_S512x128_0_0 inb_S4352x128_S512x128_0_0 inb_S4352x128_S512x128_0_0 (pV x0 x1 x3 x4 x6 xo10 2) (below_start (cV x0 x1 x3 x4 x6 256 (by decide)) (bV_18 c arg2 harg2 arg3 harg3 arg5 harg5 arg6 harg6 arg8 harg8 arg12 harg12 x0 x1 x3 x4 x6 xo10))

theorem bV_20 : Below 4352 (kernelRun0_B.sl.H10_20 (F := Ideal) c arg2 harg2 arg3 harg3 arg5 harg5 arg6 harg6 arg8 harg8 arg12 harg12 x0 x1 x3 x4 x6 xo10) (St (pV x0 x1 x3 x4 x6 xo10 2) (cV x0 x1 x3 x4 x6 256 (by decide)) 1024) :=
  stepV512 arg2 harg2 arg3 harg3 arg5 harg5 arg6 harg6 arg8 harg8 arg12 x0 x1 x3 x4 x6 256 (by decide) 512 inb_S256x512_S256x128_0_256 inb_S256x512_S256x128_0_256 inb_S256x512_S256x128_0_256 inb_S256x512_S256x128_0_256 inb_S4352x128_S512x128_512_0 inb_S4352x128_S512x128_512_0 inb_S4352x128_S512x128_512_0 (pV x0 x1 x3 x4 x6 xo10 2) (bV_19 c arg2 harg2 arg3 harg3 arg5 harg5 arg6 harg6 arg8 harg8 arg12 harg12 x0 x1 x3 x4 x6 xo10)

theorem bV_21 : Below 4352 (kernelRun0_B.sl.H10_21 (F := Ideal) c arg2 harg2 arg3 harg3 arg5 harg5 arg6 harg6 arg8 harg8 arg12 harg12 x0 x1 x3 x4 x6 xo10) (St (pV x0 x1 x3 x4 x6 xo10 2) (cV x0 x1 x3 x4 x6 256 (by decide)) 1536) :=
  stepV512 arg2 harg2 arg3 harg3 arg5 harg5 arg6 harg6 arg8 harg8 arg12 x0 x1 x3 x4 x6 256 (by decide) 1024 inb_S256x512_S256x128_0_256 inb_S256x512_S256x128_0_256 inb_S256x512_S256x128_0_256 inb_S256x512_S256x128_0_256 inb_S4352x128_S512x128_1024_0 inb_S4352x128_S512x128_1024_0 inb_S4352x128_S512x128_1024_0 (pV x0 x1 x3 x4 x6 xo10 2) (bV_20 c arg2 harg2 arg3 harg3 arg5 harg5 arg6 harg6 arg8 harg8 arg12 harg12 x0 x1 x3 x4 x6 xo10)

theorem bV_22 : Below 4352 (kernelRun0_B.sl.H10_22 (F := Ideal) c arg2 harg2 arg3 harg3 arg5 harg5 arg6 harg6 arg8 harg8 arg12 harg12 x0 x1 x3 x4 x6 xo10) (St (pV x0 x1 x3 x4 x6 xo10 2) (cV x0 x1 x3 x4 x6 256 (by decide)) 2048) :=
  stepV512 arg2 harg2 arg3 harg3 arg5 harg5 arg6 harg6 arg8 harg8 arg12 x0 x1 x3 x4 x6 256 (by decide) 1536 inb_S256x512_S256x128_0_256 inb_S256x512_S256x128_0_256 inb_S256x512_S256x128_0_256 inb_S256x512_S256x128_0_256 inb_S4352x128_S512x128_1536_0 inb_S4352x128_S512x128_1536_0 inb_S4352x128_S512x128_1536_0 (pV x0 x1 x3 x4 x6 xo10 2) (bV_21 c arg2 harg2 arg3 harg3 arg5 harg5 arg6 harg6 arg8 harg8 arg12 harg12 x0 x1 x3 x4 x6 xo10)

theorem bV_23 : Below 4352 (kernelRun0_B.sl.H10_23 (F := Ideal) c arg2 harg2 arg3 harg3 arg5 harg5 arg6 harg6 arg8 harg8 arg12 harg12 x0 x1 x3 x4 x6 xo10) (St (pV x0 x1 x3 x4 x6 xo10 2) (cV x0 x1 x3 x4 x6 256 (by decide)) 2560) :=
  stepV512 arg2 harg2 arg3 harg3 arg5 harg5 arg6 harg6 arg8 harg8 arg12 x0 x1 x3 x4 x6 256 (by decide) 2048 inb_S256x512_S256x128_0_256 inb_S256x512_S256x128_0_256 inb_S256x512_S256x128_0_256 inb_S256x512_S256x128_0_256 inb_S4352x128_S512x128_2048_0 inb_S4352x128_S512x128_2048_0 inb_S4352x128_S512x128_2048_0 (pV x0 x1 x3 x4 x6 xo10 2) (bV_22 c arg2 harg2 arg3 harg3 arg5 harg5 arg6 harg6 arg8 harg8 arg12 harg12 x0 x1 x3 x4 x6 xo10)

theorem bV_24 : Below 4352 (kernelRun0_B.sl.H10_24 (F := Ideal) c arg2 harg2 arg3 harg3 arg5 harg5 arg6 harg6 arg8 harg8 arg12 harg12 x0 x1 x3 x4 x6 xo10) (St (pV x0 x1 x3 x4 x6 xo10 2) (cV x0 x1 x3 x4 x6 256 (by decide)) 3072) :=
  stepV512 arg2 harg2 arg3 harg3 arg5 harg5 arg6 harg6 arg8 harg8 arg12 x0 x1 x3 x4 x6 256 (by decide) 2560 inb_S256x512_S256x128_0_256 inb_S256x512_S256x128_0_256 inb_S256x512_S256x128_0_256 inb_S256x512_S256x128_0_256 inb_S4352x128_S512x128_2560_0 inb_S4352x128_S512x128_2560_0 inb_S4352x128_S512x128_2560_0 (pV x0 x1 x3 x4 x6 xo10 2) (bV_23 c arg2 harg2 arg3 harg3 arg5 harg5 arg6 harg6 arg8 harg8 arg12 harg12 x0 x1 x3 x4 x6 xo10)

theorem bV_25 : Below 4352 (kernelRun0_B.sl.H10_25 (F := Ideal) c arg2 harg2 arg3 harg3 arg5 harg5 arg6 harg6 arg8 harg8 arg12 harg12 x0 x1 x3 x4 x6 xo10) (St (pV x0 x1 x3 x4 x6 xo10 2) (cV x0 x1 x3 x4 x6 256 (by decide)) 3584) :=
  stepV512 arg2 harg2 arg3 harg3 arg5 harg5 arg6 harg6 arg8 harg8 arg12 x0 x1 x3 x4 x6 256 (by decide) 3072 inb_S256x512_S256x128_0_256 inb_S256x512_S256x128_0_256 inb_S256x512_S256x128_0_256 inb_S256x512_S256x128_0_256 inb_S4352x128_S512x128_3072_0 inb_S4352x128_S512x128_3072_0 inb_S4352x128_S512x128_3072_0 (pV x0 x1 x3 x4 x6 xo10 2) (bV_24 c arg2 harg2 arg3 harg3 arg5 harg5 arg6 harg6 arg8 harg8 arg12 harg12 x0 x1 x3 x4 x6 xo10)

theorem bV_26 : Below 4352 (kernelRun0_B.sl.H10_26 (F := Ideal) c arg2 harg2 arg3 harg3 arg5 harg5 arg6 harg6 arg8 harg8 arg12 harg12 x0 x1 x3 x4 x6 xo10) (St (pV x0 x1 x3 x4 x6 xo10 2) (cV x0 x1 x3 x4 x6 256 (by decide)) 4096) :=
  stepV512 arg2 harg2 arg3 harg3 arg5 harg5 arg6 harg6 arg8 harg8 arg12 x0 x1 x3 x4 x6 256 (by decide) 3584 inb_S256x512_S256x128_0_256 inb_S256x512_S256x128_0_256 inb_S256x512_S256x128_0_256 inb_S256x512_S256x128_0_256 inb_S4352x128_S512x128_3584_0 inb_S4352x128_S512x128_3584_0 inb_S4352x128_S512x128_3584_0 (pV x0 x1 x3 x4 x6 xo10 2) (bV_25 c arg2 harg2 arg3 harg3 arg5 harg5 arg6 harg6 arg8 harg8 arg12 harg12 x0 x1 x3 x4 x6 xo10)

theorem bV_27 : Below 4352 (kernelRun0_B.sl.H10_27 (F := Ideal) c arg2 harg2 arg3 harg3 arg5 harg5 arg6 harg6 arg8 harg8 arg12 harg12 x0 x1 x3 x4 x6 xo10) (pV x0 x1 x3 x4 x6 xo10 3) :=
  below_done (stepV256 arg2 harg2 arg3 harg3 arg5 harg5 arg6 harg6 arg8 harg8 arg12 x0 x1 x3 x4 x6 256 (by decide) 4096 inb_S256x512_S256x128_0_256 inb_S256x512_S256x128_0_256 inb_S256x512_S256x128_0_256 inb_S256x512_S256x128_0_256 inb_S4352x128_S256x128_4096_0 inb_S4352x128_S256x128_4096_0 inb_S4352x128_S256x128_4096_0 (pV x0 x1 x3 x4 x6 xo10 2) (bV_26 c arg2 harg2 arg3 harg3 arg5 harg5 arg6 harg6 arg8 harg8 arg12 harg12 x0 x1 x3 x4 x6 xo10))

theorem bV_28 : Below 4352 (kernelRun0_B.sl.H10_28 (F := Ideal) c arg2 harg2 arg3 harg3 arg5 harg5 arg6 harg6 arg8 harg8 arg12 harg12 x0 x1 x3 x4 x6 xo10) (St (pV x0 x1 x3 x4 x6 xo10 3) (cV x0 x1 x3 x4 x6 384 (by decide)) 512) :=
  stepV512 arg2 harg2 arg3 harg3 arg5 harg5 arg6 harg6 arg8 harg8 arg12 x0 x1 x3 x4 x6 384 (by decide) 0 inb_S256x512_S256x128_0_384 inb_S256x512_S256x128_0_384 inb_S256x512_S256x128_0_384 inb_S256x512_S256x128_0_384 inb_S4352x128_S512x128_0_0 inb_S4352x128_S512x128_0_0 inb_S4352x128_S512x128_0_0 (pV x0 x1 x3 x4 x6 xo10 3) (below_start (cV x0 x1 x3 x4 x6 384 (by decide)) (bV_27 c arg2 harg2 arg3 harg3 arg5 harg5 arg6 harg6 arg8 harg8 arg12 harg12 x0 x1 x3 x4 x6 xo10))

theorem bV_29 : Below 4352 (kernelRun0_B.sl.H10_29 (F := Ideal) c arg2 harg2 arg3 harg3 arg5 harg5 arg6 harg6 arg8 harg8 arg12 harg12 x0 x1 x3 x4 x6 xo10) (St (pV x0 x1 x3 x4 x6 xo10 3) (cV x0 x1 x3 x4 x6 384 (by decide)) 1024) :=
  stepV512 arg2 harg2 arg3 harg3 arg5 harg5 arg6 harg6 arg8 harg8 arg12 x0 x1 x3 x4 x6 384 (by decide) 512 inb_S256x512_S256x128_0_384 inb_S256x512_S256x128_0_384 inb_S256x512_S256x128_0_384 inb_S256x512_S256x128_0_384 inb_S4352x128_S512x128_512_0 inb_S4352x128_S512x128_512_0 inb_S4352x128_S512x128_512_0 (pV x0 x1 x3 x4 x6 xo10 3) (bV_28 c arg2 harg2 arg3 harg3 arg5 harg5 arg6 harg6 arg8 harg8 arg12 harg12 x0 x1 x3 x4 x6 xo10)

theorem bV_30 : Below 4352 (kernelRun0_B.sl.H10_30 (F := Ideal) c arg2 harg2 arg3 harg3 arg5 harg5 arg6 harg6 arg8 harg8 arg12 harg12 x0 x1 x3 x4 x6 xo10) (St (pV x0 x1 x3 x4 x6 xo10 3) (cV x0 x1 x3 x4 x6 384 (by decide)) 1536) :=
  stepV512 arg2 harg2 arg3 harg3 arg5 harg5 arg6 harg6 arg8 harg8 arg12 x0 x1 x3 x4 x6 384 (by decide) 1024 inb_S256x512_S256x128_0_384 inb_S256x512_S256x128_0_384 inb_S256x512_S256x128_0_384 inb_S256x512_S256x128_0_384 inb_S4352x128_S512x128_1024_0 inb_S4352x128_S512x128_1024_0 inb_S4352x128_S512x128_1024_0 (pV x0 x1 x3 x4 x6 xo10 3) (bV_29 c arg2 harg2 arg3 harg3 arg5 harg5 arg6 harg6 arg8 harg8 arg12 harg12 x0 x1 x3 x4 x6 xo10)

theorem bV_31 : Below 4352 (kernelRun0_B.sl.H10_31 (F := Ideal) c arg2 harg2 arg3 harg3 arg5 harg5 arg6 harg6 arg8 harg8 arg12 harg12 x0 x1 x3 x4 x6 xo10) (St (pV x0 x1 x3 x4 x6 xo10 3) (cV x0 x1 x3 x4 x6 384 (by decide)) 2048) :=
  stepV512 arg2 harg2 arg3 harg3 arg5 harg5 arg6 harg6 arg8 harg8 arg12 x0 x1 x3 x4 x6 384 (by decide) 1536 inb_S256x512_S256x128_0_384 inb_S256x512_S256x128_0_384 inb_S256x512_S256x128_0_384 inb_S256x512_S256x128_0_384 inb_S4352x128_S512x128_1536_0 inb_S4352x128_S512x128_1536_0 inb_S4352x128_S512x128_1536_0 (pV x0 x1 x3 x4 x6 xo10 3) (bV_30 c arg2 harg2 arg3 harg3 arg5 harg5 arg6 harg6 arg8 harg8 arg12 harg12 x0 x1 x3 x4 x6 xo10)

theorem bV_32 : Below 4352 (kernelRun0_B.sl.H10_32 (F := Ideal) c arg2 harg2 arg3 harg3 arg5 harg5 arg6 harg6 arg8 harg8 arg12 harg12 x0 x1 x3 x4 x6 xo10) (St (pV x0 x1 x3 x4 x6 xo10 3) (cV x0 x1 x3 x4 x6 384 (by decide)) 2560) :=
  stepV512 arg2 harg2 arg3 harg3 arg5 harg5 arg6 harg6 arg8 harg8 arg12 x0 x1 x3 x4 x6 384 (by decide) 2048 inb_S256x512_S256x128_0_384 inb_S256x512_S256x128_0_384 inb_S256x512_S256x128_0_384 inb_S256x512_S256x128_0_384 inb_S4352x128_S512x128_2048_0 inb_S4352x128_S512x128_2048_0 inb_S4352x128_S512x128_2048_0 (pV x0 x1 x3 x4 x6 xo10 3) (bV_31 c arg2 harg2 arg3 harg3 arg5 harg5 arg6 harg6 arg8 harg8 arg12 harg12 x0 x1 x3 x4 x6 xo10)

theorem bV_33 : Below 4352 (kernelRun0_B.sl.H10_33 (F := Ideal) c arg2 harg2 arg3 harg3 arg5 harg5 arg6 harg6 arg8 harg8 arg12 harg12 x0 x1 x3 x4 x6 xo10) (St (pV x0 x1 x3 x4 x6 xo10 3) (cV x0 x1 x3 x4 x6 384 (by decide)) 3072) :=
  stepV512 arg2 harg2 arg3 harg3 arg5 harg5 arg6 harg6 arg8 harg8 arg12 x0 x1 x3 x4 x6 384 (by decide) 2560 inb_S256x512_S256x128_0_384 inb_S256x512_S256x128_0_384 inb_S256x512_S256x128_0_384 inb_S256x512_S256x128_0_384 inb_S4352x128_S512x128_2560_0 inb_S4352x128_S512x128_2560_0 inb_S4352x128_S512x128_2560_0 (pV x0 x1 x3 x4 x6 xo10 3) (bV_32 c arg2 harg2 arg3 harg3 arg5 harg5 arg6 harg6 arg8 harg8 arg12 harg12 x0 x1 x3 x4 x6 xo10)

theorem bV_34 : Below 4352 (kernelRun0_B.sl.H10_34 (F := Ideal) c arg2 harg2 arg3 harg3 arg5 harg5 arg6 harg6 arg8 harg8 arg12 harg12 x0 x1 x3 x4 x6 xo10) (St (pV x0 x1 x3 x4 x6 xo10 3) (cV x0 x1 x3 x4 x6 384 (by decide)) 3584) :=
  stepV512 arg2 harg2 arg3 harg3 arg5 harg5 arg6 harg6 arg8 harg8 arg12 x0 x1 x3 x4 x6 384 (by decide) 3072 inb_S256x512_S256x128_0_384 inb_S256x512_S256x128_0_384 inb_S256x512_S256x128_0_384 inb_S256x512_S256x128_0_384 inb_S4352x128_S512x128_3072_0 inb_S4352x128_S512x128_3072_0 inb_S4352x128_S512x128_3072_0 (pV x0 x1 x3 x4 x6 xo10 3) (bV_33 c arg2 harg2 arg3 harg3 arg5 harg5 arg6 harg6 arg8 harg8 arg12 harg12 x0 x1 x3 x4 x6 xo10)

theorem bV_35 : Below 4352 (kernelRun0_B.sl.H10_35 (F := Ideal) c arg2 harg2 arg3 harg3 arg5 harg5 arg6 harg6 arg8 harg8 arg12 harg12 x0 x1 x3 x4 x6 xo10) (St (pV x0 x1 x3 x4 x6 xo10 3) (cV x0 x1 x3 x4 x6 384 (by decide)) 4096) :=
  stepV512 arg2 harg2 arg3 harg3 arg5 harg5 arg6 harg6 arg8 harg8 arg12 x0 x1 x3 x4 x6 384 (by decide) 3584 inb_S256x512_S256x128_0_384 inb_S256x512_S256x128_0_384 inb_S256x512_S256x128_0_384 inb_S256x512_S256x128_0_384 inb_S4352x128_S512x128_3584_0 inb_S4352x128_S512x128_3584_0 inb_S4352x128_S512x128_3584_0 (pV x0 x1 x3 x4 x6 xo10 3) (bV_34 c arg2 harg2 arg3 harg3 arg5 harg5 arg6 harg6 arg8 harg8 arg12 harg12 x0 x1 x3 x4 x6 xo10)

theorem outB10 (i : grid0.Coords) (hc0 : ¬cond0_0 i) (hc1 : ¬cond0_1 i) (hc2 : cond0_2 i) (s : Fin 4352) (d : Fin 128) :
    out0_B_10 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xo9 xo10 (ix2 s d) = pV x0 x1 x3 x4 x6 xo10 4 (ix2 s d) := by
  unfold out0_B_10 kernelRun0_B
  dsimp only
  exact below_done (stepV256 arg2 harg2 arg3 harg3 arg5 harg5 arg6 harg6 arg8 harg8 arg12 x0 x1 x3 x4 x6 384 (by decide) 4096 inb_S256x512_S256x128_0_384 inb_S256x512_S256x128_0_384 inb_S256x512_S256x128_0_384 inb_S256x512_S256x128_0_384 inb_S4352x128_S256x128_4096_0 inb_S4352x128_S256x128_4096_0 inb_S4352x128_S256x128_4096_0 (pV x0 x1 x3 x4 x6 xo10 3) (bV_35 c arg2 harg2 arg3 harg3 arg5 harg5 arg6 harg6 arg8 harg8 arg12 harg12 x0 x1 x3 x4 x6 xo10)) _ _ _ _ s d s.isLt

end Cert.KernelIdeal.Val
end
-- ==== Proof.CaseQ.lean ====
/-
  The stores of a grid point into the gradients of the queries and of the gate: each head fills its own 128 columns.
-/
module

public import proofs.«01_k».proof.Proof.Steps

@[expose] public section

set_option maxRecDepth 16384

noncomputable section

namespace Cert.KernelIdeal.Val

open Cert.KernelIdeal Cert.KernelIdeal.Gen Idealize.ShloMosaic Idealize.ShloMosaic.TcCoe Idealize.SL.Sem

variable (c : Dev nD) (arg2 : Memref sig .tc .vmem S256x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S4352x128 .f32) (harg11 : arg11.IsWhole) (arg12 : Memref sig .tc .vmem S4352x128 .f32) (harg12 : arg12.IsWhole)
  (x0 : Vec Ideal S256x512 .bf16) (x1 x2 : Vec Ideal S4352x128 .bf16) (x3 x4 x5 x6 : Vec Ideal S256x512 .f32) (xo9 xo10 : Vec Ideal S4352x128 .f32)

/-- A sum over the keys in the chunks the body takes them. -/
theorem sum_prefix (f : Fin 4352 → EReal) (a w : ℕ) (h : a + w ≤ 4352) :
    ∑ i : Fin (a + w), f ⟨i.val, Nat.lt_of_lt_of_le i.isLt h⟩
      = ∑ i : Fin a, f ⟨i.val, by have := i.isLt; omega⟩ + ∑ j : Fin w, f ⟨a + j.val, by have := j.isLt; omega⟩ :=
  Fin.sum_univ_add _

theorem sum_chunks (f : Fin 4352 → EReal) :
    (((((((((∑ j : Fin 512, f ⟨0 + j.val, by have := j.isLt; omega⟩) + ∑ j : Fin 512, f ⟨512 + j.val, by have := j.isLt; omega⟩) + ∑ j : Fin 512, f ⟨1024 + j.val, by have := j.isLt; omega⟩)
      + ∑ j : Fin 512, f ⟨1536 + j.val, by have := j.isLt; omega⟩) + ∑ j : Fin 512, f ⟨2048 + j.val, by have := j.isLt; omega⟩) + ∑ j : Fin 512, f ⟨2560 + j.val, by have := j.isLt; omega⟩)
      + ∑ j : Fin 512, f ⟨3072 + j.val, by have := j.isLt; omega⟩) + ∑ j : Fin 512, f ⟨3584 + j.val, by have := j.isLt; omega⟩) + ∑ j : Fin 256, f ⟨4096 + j.val, by have := j.isLt; omega⟩)
      = ∑ s, f s := by
  have e := sum_prefix f 4096 256 (by decide)
  rw [sum_prefix f 3584 512 (by decide), sum_prefix f 3072 512 (by decide), sum_prefix f 2560 512 (by decide), sum_prefix f 2048 512 (by decide),
    sum_prefix f 1536 512 (by decide), sum_prefix f 1024 512 (by decide), sum_prefix f 512 512 (by decide)] at e
  refine Eq.trans ?_ e.symm
  simp only [Nat.zero_add]

/-- The gradient of the query row `r` of the head at columns `u`, over all the keys. -/
def qS (u : ℕ) (hu : u + 128 ≤ 512) (r : Fin 256) (d : Fin 128) : EReal :=
  ∑ s : Fin 4352, hS x0 x1 x2 x3 x4 x5 x6 u hu r s * row x1 s d

/-- The same over the first 256 keys. -/
def qS' (u : ℕ) (hu : u + 128 ≤ 512) (r : Fin 256) (d : Fin 128) : EReal :=
  ∑ s : Fin 256, hS x0 x1 x2 x3 x4 x5 x6 u hu r ⟨0 + s.val, by have := s.isLt; omega⟩ * row (n := 4352) x1 ⟨0 + s.val, by have := s.isLt; omega⟩ d

theorem head_lt (col : Fin 512) : 128 * (col.val / 128) + 128 ≤ 512 := by have := col.isLt; omega

/-- A value given head by head, at a column of the block. -/
def byHead (f : ∀ u : ℕ, u + 128 ≤ 512 → Fin 256 → Fin 128 → EReal) : S256x512.Idx → EReal :=
  fun y => f (128 * ((y (1 : Fin 2)).val / 128)) (head_lt (y (1 : Fin 2))) (y (0 : Fin 2)) ⟨(y (1 : Fin 2)).val % 128, Nat.mod_lt _ (by decide)⟩

theorem byHead_eq (f : ∀ u : ℕ, u + 128 ≤ 512 → Fin 256 → Fin 128 → EReal) (r : Fin 256) (u : ℕ) (hu : u + 128 ≤ 512) (hm : u % 128 = 0) (d : Fin 128) (hd : u + d.val < 512) :
    byHead f (ix2 r ⟨u + d.val, hd⟩) = f u hu r d := by
  have key : ∀ (u' : ℕ) (hu' : u' + 128 ≤ 512) (d' : Fin 128), u' = u → d' = d → f u' hu' r d' = f u hu r d := by
    rintro u' hu' d' rfl rfl
    rfl
  refine key _ _ _ ?_ (Fin.ext ?_)
  · show 128 * ((u + d.val) / 128) = u
    have := d.isLt
    omega
  · show (u + d.val) % 128 = d.val
    have := d.isLt
    omega

variable (u : ℕ) (hu : u + 128 ≤ 512) (q0 q3 q4 q5 q6 : inbQ u)

def dqSum : FVec Ideal S256x128 .f32 :=
  (addf (addf (addf (addf (addf (addf (addf (addf (dqPart512 (ldq arg5 harg5 x3 u q3) (ldq arg7 harg7 x5 u q5) (ldq arg6 harg6 x4 u q4) (ldq arg8 harg8 x6 u q6) (ldq arg2 harg2 x0 u q0) (ldk arg3 harg3 x1 0 inb_S4352x128_S512x128_0_0) (ldk arg4 harg4 x2 0 inb_S4352x128_S512x128_0_0))
    (dqPart512 (ldq arg5 harg5 x3 u q3) (ldq arg7 harg7 x5 u q5) (ldq arg6 harg6 x4 u q4) (ldq arg8 harg8 x6 u q6) (ldq arg2 harg2 x0 u q0) (ldk arg3 harg3 x1 512 inb_S4352x128_S512x128_512_0) (ldk arg4 harg4 x2 512 inb_S4352x128_S512x128_512_0)))
    (dqPart512 (ldq arg5 harg5 x3 u q3) (ldq arg7 harg7 x5 u q5) (ldq arg6 harg6 x4 u q4) (ldq arg8 harg8 x6 u q6) (ldq arg2 harg2 x0 u q0) (ldk arg3 harg3 x1 1024 inb_S4352x128_S512x128_1024_0) (ldk arg4 harg4 x2 1024 inb_S4352x128_S512x128_1024_0)))
    (dqPart512 (ldq arg5 harg5 x3 u q3) (ldq arg7 harg7 x5 u q5) (ldq arg6 harg6 x4 u q4) (ldq arg8 harg8 x6 u q6) (ldq arg2 harg2 x0 u q0) (ldk arg3 harg3 x1 1536 inb_S4352x128_S512x128_1536_0) (ldk arg4 harg4 x2 1536 inb_S4352x128_S512x128_1536_0)))
    (dqPart512 (ldq arg5 harg5 x3 u q3) (ldq arg7 harg7 x5 u q5) (ldq arg6 harg6 x4 u q4) (ldq arg8 harg8 x6 u q6) (ldq arg2 harg2 x0 u q0) (ldk arg3 harg3 x1 2048 inb_S4352x128_S512x128_2048_0) (ldk arg4 harg4 x2 2048 inb_S4352x128_S512x128_2048_0)))
    (dqPart512 (ldq arg5 harg5 x3 u q3) (ldq arg7 harg7 x5 u q5) (ldq arg6 harg6 x4 u q4) (ldq arg8 harg8 x6 u q6) (ldq arg2 harg2 x0 u q0) (ldk arg3 harg3 x1 2560 inb_S4352x128_S512x128_2560_0) (ldk arg4 harg4 x2 2560 inb_S4352x128_S512x128_2560_0)))
    (dqPart512 (ldq arg5 harg5 x3 u q3) (ldq arg7 harg7 x5 u q5) (ldq arg6 harg6 x4 u q4) (ldq arg8 harg8 x6 u q6) (ldq arg2 harg2 x0 u q0) (ldk arg3 harg3 x1 3072 inb_S4352x128_S512x128_3072_0) (ldk arg4 harg4 x2 3072 inb_S4352x128_S512x128_3072_0)))
    (dqPart512 (ldq arg5 harg5 x3 u q3) (ldq arg7 harg7 x5 u q5) (ldq arg6 harg6 x4 u q4) (ldq arg8 harg8 x6 u q6) (ldq arg2 harg2 x0 u q0) (ldk arg3 harg3 x1 3584 inb_S4352x128_S512x128_3584_0) (ldk arg4 harg4 x2 3584 inb_S4352x128_S512x128_3584_0)))
    (dqPart256 (ldq arg5 harg5 x3 u q3) (ldq arg7 harg7 x5 u q5) (ldq arg6 harg6 x4 u q4) (ldq arg8 harg8 x6 u q6) (ldq arg2 harg2 x0 u q0) (ldk' arg3 harg3 x1 4096 inb_S4352x128_S256x128_4096_0) (ldk' arg4 harg4 x2 4096 inb_S4352x128_S256x128_4096_0)))

def dqSum' : FVec Ideal S256x128 .f32 :=
  dqPart256 (ldq arg5 harg5 x3 u q3) (ldq arg7 harg7 x5 u q5) (ldq arg6 harg6 x4 u q4) (ldq arg8 harg8 x6 u q6) (ldq arg2 harg2 x0 u q0) (ldk' arg3 harg3 x1 0 inb_S4352x128_S256x128_0_0) (ldk' arg4 harg4 x2 0 inb_S4352x128_S256x128_0_0)

theorem dqPart512_ld (o : ℕ) (ho : o + 512 ≤ 4352) (k1 k2 : inb512 o) (r : Fin 256) (d : Fin 128) :
    dqPart512 (ldq arg5 harg5 x3 u q3) (ldq arg7 harg7 x5 u q5) (ldq arg6 harg6 x4 u q4) (ldq arg8 harg8 x6 u q6) (ldq arg2 harg2 x0 u q0) (ldk arg3 harg3 x1 o k1) (ldk arg4 harg4 x2 o k2) (ix2 r d)
      = ∑ j : Fin 512, hS x0 x1 x2 x3 x4 x5 x6 u hu r ⟨o + j.val, by have := j.isLt; omega⟩ * row (n := 4352) x1 ⟨o + j.val, by have := j.isLt; omega⟩ d := by
  rw [dqPart512_apply]
  refine Finset.sum_congr rfl fun j _ => ?_
  have hx : o + j.val < 4352 := by have := j.isLt; omega
  rw [ldq_row _ _ _ u hu, ldq_row _ _ _ u hu, ldq_row _ _ _ u hu, ldq_row _ _ _ u hu, ldk_row _ _ _ _ _ _ hx, ldk_row _ _ _ _ _ _ hx]
  rw [ldq_apply _ _ _ _ _ r 0 (by show u + 0 < 512; omega), ldk_apply _ _ _ _ _ j d hx]
  rfl

theorem dqPart256_ld (o : ℕ) (ho : o + 256 ≤ 4352) (k1 k2 : inb256 o) (r : Fin 256) (d : Fin 128) :
    dqPart256 (ldq arg5 harg5 x3 u q3) (ldq arg7 harg7 x5 u q5) (ldq arg6 harg6 x4 u q4) (ldq arg8 harg8 x6 u q6) (ldq arg2 harg2 x0 u q0) (ldk' arg3 harg3 x1 o k1) (ldk' arg4 harg4 x2 o k2) (ix2 r d)
      = ∑ j : Fin 256, hS x0 x1 x2 x3 x4 x5 x6 u hu r ⟨o + j.val, by have := j.isLt; omega⟩ * row (n := 4352) x1 ⟨o + j.val, by have := j.isLt; omega⟩ d := by
  rw [dqPart256_apply]
  refine Finset.sum_congr rfl fun j _ => ?_
  have hx : o + j.val < 4352 := by have := j.isLt; omega
  rw [ldq_row _ _ _ u hu, ldq_row _ _ _ u hu, ldq_row _ _ _ u hu, ldq_row _ _ _ u hu, ldk'_row _ _ _ _ _ _ hx, ldk'_row _ _ _ _ _ _ hx]
  rw [ldq_apply _ _ _ _ _ r 0 (by show u + 0 < 512; omega), ldk'_apply _ _ _ _ _ j d hx]
  rfl

theorem dqSum_apply (r : Fin 256) (d : Fin 128) :
    dqSum arg2 harg2 arg3 harg3 arg4 harg4 arg5 harg5 arg6 harg6 arg7 harg7 arg8 harg8 x0 x1 x2 x3 x4 x5 x6 u q0 q3 q4 q5 q6 (ix2 r d) = qS x0 x1 x2 x3 x4 x5 x6 u hu r d := by
  unfold qS
  rw [← sum_chunks]
  unfold dqSum
  simp only [addf_apply]
  rw [dqPart512_ld arg2 harg2 arg3 harg3 arg4 harg4 arg5 harg5 arg6 harg6 arg7 harg7 arg8 harg8 x0 x1 x2 x3 x4 x5 x6 u hu q0 q3 q4 q5 q6 0 (by decide) inb_S4352x128_S512x128_0_0 inb_S4352x128_S512x128_0_0]
  rw [dqPart512_ld arg2 harg2 arg3 harg3 arg4 harg4 arg5 harg5 arg6 harg6 arg7 harg7 arg8 harg8 x0 x1 x2 x3 x4 x5 x6 u hu q0 q3 q4 q5 q6 512 (by decide) inb_S4352x128_S512x128_512_0 inb_S4352x128_S512x128_512_0]
  rw [dqPart512_ld arg2 harg2 arg3 harg3 arg4 harg4 arg5 harg5 arg6 harg6 arg7 harg7 arg8 harg8 x0 x1 x2 x3 x4 x5 x6 u hu q0 q3 q4 q5 q6 1024 (by decide) inb_S4352x128_S512x128_1024_0 inb_S4352x128_S512x128_1024_0]
  rw [dqPart512_ld arg2 harg2 arg3 harg3 arg4 harg4 arg5 harg5 arg6 harg6 arg7 harg7 arg8 harg8 x0 x1 x2 x3 x4 x5 x6 u hu q0 q3 q4 q5 q6 1536 (by decide) inb_S4352x128_S512x128_1536_0 inb_S4352x128_S512x128_1536_0]
  rw [dqPart512_ld arg2 harg2 arg3 harg3 arg4 harg4 arg5 harg5 arg6 harg6 arg7 harg7 arg8 harg8 x0 x1 x2 x3 x4 x5 x6 u hu q0 q3 q4 q5 q6 2048 (by decide) inb_S4352x128_S512x128_2048_0 inb_S4352x128_S512x128_2048_0]
  rw [dqPart512_ld arg2 harg2 arg3 harg3 arg4 harg4 arg5 harg5 arg6 harg6 arg7 harg7 arg8 harg8 x0 x1 x2 x3 x4 x5 x6 u hu q0 q3 q4 q5 q6 2560 (by decide) inb_S4352x128_S512x128_2560_0 inb_S4352x128_S512x128_2560_0]
  rw [dqPart512_ld arg2 harg2 arg3 harg3 arg4 harg4 arg5 harg5 arg6 harg6 arg7 harg7 arg8 harg8 x0 x1 x2 x3 x4 x5 x6 u hu q0 q3 q4 q5 q6 3072 (by decide) inb_S4352x128_S512x128_3072_0 inb_S4352x128_S512x128_3072_0]
  rw [dqPart512_ld arg2 harg2 arg3 harg3 arg4 harg4 arg5 harg5 arg6 harg6 arg7 harg7 arg8 harg8 x0 x1 x2 x3 x4 x5 x6 u hu q0 q3 q4 q5 q6 3584 (by decide) inb_S4352x128_S512x128_3584_0 inb_S4352x128_S512x128_3584_0]
  rw [dqPart256_ld arg2 harg2 arg3 harg3 arg4 harg4 arg5 harg5 arg6 harg6 arg7 harg7 arg8 harg8 x0 x1 x2 x3 x4 x5 x6 u hu q0 q3 q4 q5 q6 4096 (by decide) inb_S4352x128_S256x128_4096_0 inb_S4352x128_S256x128_4096_0]
  rfl

theorem dqSum'_apply (r : Fin 256) (d : Fin 128) :
    dqSum' arg2 harg2 arg3 harg3 arg4 harg4 arg5 harg5 arg6 harg6 arg7 harg7 arg8 harg8 x0 x1 x2 x3 x4 x5 x6 u q0 q3 q4 q5 q6 (ix2 r d) = qS' x0 x1 x2 x3 x4 x5 x6 u hu r d :=
  dqPart256_ld arg2 harg2 arg3 harg3 arg4 harg4 arg5 harg5 arg6 harg6 arg7 harg7 arg8 harg8 x0 x1 x2 x3 x4 x5 x6 u hu q0 q3 q4 q5 q6 0 (by decide) inb_S4352x128_S256x128_0_0 inb_S4352x128_S256x128_0_0 r d

include hu in
theorem stepQ (hm : u % 128 = 0) (i1 : inbQ u) {L : List (View.Piece (Elt Ideal) S256x512 .f32)} (h : ColBelow u L (byHead (qS x0 x1 x2 x3 x4 x5 x6))) :
    ColBelow (e := .f32) (u + 128) ((⟨Rect.unit (s := S256x512) ![0, u] S256x128.size i1, dqSum arg2 harg2 arg3 harg3 arg4 harg4 arg5 harg5 arg6 harg6 arg7 harg7 arg8 harg8 x0 x1 x2 x3 x4 x5 x6 u q0 q3 q4 q5 q6⟩ : View.Piece (Elt Ideal) S256x512 .f32) :: L)
      (byHead (qS x0 x1 x2 x3 x4 x5 x6)) := by
  refine colBelow_cons i1 _ h fun r d hd => ?_
  rw [byHead_eq _ r u hu hm d hd]
  exact dqSum_apply arg2 harg2 arg3 harg3 arg4 harg4 arg5 harg5 arg6 harg6 arg7 harg7 arg8 harg8 x0 x1 x2 x3 x4 x5 x6 u hu q0 q3 q4 q5 q6 r d

include hu in
theorem stepQ' (hm : u % 128 = 0) (i1 : inbQ u) {L : List (View.Piece (Elt Ideal) S256x512 .f32)} (h : ColBelow u L (byHead (qS' x0 x1 x2 x3 x4 x5 x6))) :
    ColBelow (e := .f32) (u + 128) ((⟨Rect.unit (s := S256x512) ![0, u] S256x128.size i1, dqSum' arg2 harg2 arg3 harg3 arg4 harg4 arg5 harg5 arg6 harg6 arg7 harg7 arg8 harg8 x0 x1 x2 x3 x4 x5 x6 u q0 q3 q4 q5 q6⟩ : View.Piece (Elt Ideal) S256x512 .f32) :: L)
      (byHead (qS' x0 x1 x2 x3 x4 x5 x6)) := by
  refine colBelow_cons i1 _ h fun r d hd => ?_
  rw [byHead_eq _ r u hu hm d hd]
  exact dqSum'_apply arg2 harg2 arg3 harg3 arg4 harg4 arg5 harg5 arg6 harg6 arg7 harg7 arg8 harg8 x0 x1 x2 x3 x4 x5 x6 u hu q0 q3 q4 q5 q6 r d

/-- The gradient of the gate, element by element. -/
def gS : S256x512.Idx → EReal := fun y => dG (x3 y) (x5 y) (x4 y)

theorem stepG (i1 : inbQ u) {L : List (View.Piece (Elt Ideal) S256x512 .bf16)} (h : ColBelow (e := .bf16) u L (gS x3 x4 x5)) :
    ColBelow (e := .bf16) (u + 128) ((⟨Rect.unit (s := S256x512) ![0, u] S256x128.size i1, k0_pay53 (ldq arg5 harg5 x3 u q3) (ldq arg7 harg7 x5 u q5) (ldq arg6 harg6 x4 u q4)⟩ : View.Piece (Elt Ideal) S256x512 .bf16) :: L)
      (gS x3 x4 x5) := by
  refine colBelow_cons i1 _ h fun r d hd => ?_
  rw [dgate_apply, ldq_apply _ _ _ _ _ r d hd, ldq_apply _ _ _ _ _ r d hd, ldq_apply _ _ _ _ _ r d hd]
  rfl

end Cert.KernelIdeal.Val
end
-- ==== Proof.CaseA.lean ====
/-
  What a grid point leaves in the four output blocks.
-/
module

public import proofs.«01_k».proof.Proof.CaseQ

@[expose] public section

set_option maxRecDepth 16384

noncomputable section

namespace Cert.KernelIdeal.Val

open Cert.KernelIdeal Cert.KernelIdeal.Gen Idealize.ShloMosaic Idealize.ShloMosaic.TcCoe Idealize.SL.Sem

variable (c : Dev nD) (arg2 : Memref sig .tc .vmem S256x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S4352x128 .f32) (harg11 : arg11.IsWhole) (arg12 : Memref sig .tc .vmem S4352x128 .f32) (harg12 : arg12.IsWhole)
  (x0 : Vec Ideal S256x512 .bf16) (x1 x2 : Vec Ideal S4352x128 .bf16) (x3 x4 x5 x6 : Vec Ideal S256x512 .f32) (xo9 xo10 : Vec Ideal S4352x128 .f32)

theorem outB7 (i : grid0.Coords) (hc0 : ¬cond0_0 i) (hc1 : ¬cond0_1 i) (hc2 : cond0_2 i) (r : Fin 256) (d : Fin 512) :
    out0_B_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xo9 xo10 (ix2 r d) = byHead (qS x0 x1 x2 x3 x4 x5 x6) (ix2 r d) := by
  unfold out0_B_7 kernelRun0_B
  dsimp only
  exact (stepQ arg2 harg2 arg3 harg3 arg4 harg4 arg5 harg5 arg6 harg6 arg7 harg7 arg8 harg8 x0 x1 x2 x3 x4 x5 x6 384 (by decide) inb_S256x512_S256x128_0_384 inb_S256x512_S256x128_0_384 inb_S256x512_S256x128_0_384 inb_S256x512_S256x128_0_384 inb_S256x512_S256x128_0_384 rfl inb_S256x512_S256x128_0_384 (stepQ arg2 harg2 arg3 harg3 arg4 harg4 arg5 harg5 arg6 harg6 arg7 harg7 arg8 harg8 x0 x1 x2 x3 x4 x5 x6 256 (by decide) inb_S256x512_S256x128_0_256 inb_S256x512_S256x128_0_256 inb_S256x512_S256x128_0_256 inb_S256x512_S256x128_0_256 inb_S256x512_S256x128_0_256 rfl inb_S256x512_S256x128_0_256 (stepQ arg2 harg2 arg3 harg3 arg4 harg4 arg5 harg5 arg6 harg6 arg7 harg7 arg8 harg8 x0 x1 x2 x3 x4 x5 x6 128 (by decide) inb_S256x512_S256x128_0_128 inb_S256x512_S256x128_0_128 inb_S256x512_S256x128_0_128 inb_S256x512_S256x128_0_128 inb_S256x512_S256x128_0_128 rfl inb_S256x512_S256x128_0_128 (stepQ arg2 harg2 arg3 harg3 arg4 harg4 arg5 harg5 arg6 harg6 arg7 harg7 arg8 harg8 x0 x1 x2 x3 x4 x5 x6 0 (by decide) inb_S256x512_S256x128_0_0 inb_S256x512_S256x128_0_0 inb_S256x512_S256x128_0_0 inb_S256x512_S256x128_0_0 inb_S256x512_S256x128_0_0 rfl inb_S256x512_S256x128_0_0 (colBelow_nil _))))) _ _ _ _ r d d.isLt

theorem outB8 (i : grid0.Coords) (hc0 : ¬cond0_0 i) (hc1 : ¬cond0_1 i) (hc2 : cond0_2 i) (r : Fin 256) (d : Fin 512) :
    out0_B_8 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xo9 xo10 (ix2 r d) = gS x3 x4 x5 (ix2 r d) := by
  unfold out0_B_8 kernelRun0_B
  dsimp only
  exact (stepG arg5 harg5 arg6 harg6 arg7 harg7 x3 x4 x5 384 inb_S256x512_S256x128_0_384 inb_S256x512_S256x128_0_384 inb_S256x512_S256x128_0_384 inb_S256x512_S256x128_0_384 (stepG arg5 harg5 arg6 harg6 arg7 harg7 x3 x4 x5 256 inb_S256x512_S256x128_0_256 inb_S256x512_S256x128_0_256 inb_S256x512_S256x128_0_256 inb_S256x512_S256x128_0_256 (stepG arg5 harg5 arg6 harg6 arg7 harg7 x3 x4 x5 128 inb_S256x512_S256x128_0_128 inb_S256x512_S256x128_0_128 inb_S256x512_S256x128_0_128 inb_S256x512_S256x128_0_128 (stepG arg5 harg5 arg6 harg6 arg7 harg7 x3 x4 x5 0 inb_S256x512_S256x128_0_0 inb_S256x512_S256x128_0_0 inb_S256x512_S256x128_0_0 inb_S256x512_S256x128_0_0 (colBelow_nil _))))) _ _ _ _ r d d.isLt

theorem outA7 (i : grid0.Coords) (hc0 : cond0_0 i) (hc1 : cond0_1 i) (hc2 : ¬cond0_2 i) (r : Fin 256) (d : Fin 512) :
    out0_A_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 r d) = byHead (qS' x0 x1 x2 x3 x4 x5 x6) (ix2 r d) := by
  unfold out0_A_7 kernelRun0_A
  dsimp only
  exact (stepQ' arg2 harg2 arg3 harg3 arg4 harg4 arg5 harg5 arg6 harg6 arg7 harg7 arg8 harg8 x0 x1 x2 x3 x4 x5 x6 384 (by decide) inb_S256x512_S256x128_0_384 inb_S256x512_S256x128_0_384 inb_S256x512_S256x128_0_384 inb_S256x512_S256x128_0_384 inb_S256x512_S256x128_0_384 rfl inb_S256x512_S256x128_0_384 (stepQ' arg2 harg2 arg3 harg3 arg4 harg4 arg5 harg5 arg6 harg6 arg7 harg7 arg8 harg8 x0 x1 x2 x3 x4 x5 x6 256 (by decide) inb_S256x512_S256x128_0_256 inb_S256x512_S256x128_0_256 inb_S256x512_S256x128_0_256 inb_S256x512_S256x128_0_256 inb_S256x512_S256x128_0_256 rfl inb_S256x512_S256x128_0_256 (stepQ' arg2 harg2 arg3 harg3 arg4 harg4 arg5 harg5 arg6 harg6 arg7 harg7 arg8 harg8 x0 x1 x2 x3 x4 x5 x6 128 (by decide) inb_S256x512_S256x128_0_128 inb_S256x512_S256x128_0_128 inb_S256x512_S256x128_0_128 inb_S256x512_S256x128_0_128 inb_S256x512_S256x128_0_128 rfl inb_S256x512_S256x128_0_128 (stepQ' arg2 harg2 arg3 harg3 arg4 harg4 arg5 harg5 arg6 harg6 arg7 harg7 arg8 harg8 x0 x1 x2 x3 x4 x5 x6 0 (by decide) inb_S256x512_S256x128_0_0 inb_S256x512_S256x128_0_0 inb_S256x512_S256x128_0_0 inb_S256x512_S256x128_0_0 inb_S256x512_S256x128_0_0 rfl inb_S256x512_S256x128_0_0 (colBelow_nil _))))) _ _ _ _ r d d.isLt

theorem outA8 (i : grid0.Coords) (hc0 : cond0_0 i) (hc1 : cond0_1 i) (hc2 : ¬cond0_2 i) (r : Fin 256) (d : Fin 512) :
    out0_A_8 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 r d) = gS x3 x4 x5 (ix2 r d) := by
  unfold out0_A_8 kernelRun0_A
  dsimp only
  exact (stepG arg5 harg5 arg6 harg6 arg7 harg7 x3 x4 x5 384 inb_S256x512_S256x128_0_384 inb_S256x512_S256x128_0_384 inb_S256x512_S256x128_0_384 inb_S256x512_S256x128_0_384 (stepG arg5 harg5 arg6 harg6 arg7 harg7 x3 x4 x5 256 inb_S256x512_S256x128_0_256 inb_S256x512_S256x128_0_256 inb_S256x512_S256x128_0_256 inb_S256x512_S256x128_0_256 (stepG arg5 harg5 arg6 harg6 arg7 harg7 x3 x4 x5 128 inb_S256x512_S256x128_0_128 inb_S256x512_S256x128_0_128 inb_S256x512_S256x128_0_128 inb_S256x512_S256x128_0_128 (stepG arg5 harg5 arg6 harg6 arg7 harg7 x3 x4 x5 0 inb_S256x512_S256x128_0_0 inb_S256x512_S256x128_0_0 inb_S256x512_S256x128_0_0 inb_S256x512_S256x128_0_0 (colBelow_nil _))))) _ _ _ _ r d d.isLt

theorem aK_1 : Below 4352 (kernelRun0_A.sl.H9_1 (F := Ideal) ) (fun _ => 0) := by
  refine below_cons (o := 0) (W := 4352) rfl rfl inb_S4352x128_S4352x128_0_0 (k0_pay1 (F := Ideal)) (below_nil _) fun x s d _ _ => ?_
  show k0_pay1 (F := Ideal) x = 0
  pointwise [k0_pay1]

theorem aK_2 : Below 4352 (kernelRun0_A.sl.H9_2 (F := Ideal) c arg2 harg2 arg3 harg3 arg4 harg4 arg5 harg5 arg6 harg6 arg7 harg7 arg8 harg8 arg11 x0 x1 x2 x3 x4 x5 x6) (St (fun _ => 0) (cK x0 x1 x2 x3 x4 x5 x6 0 (by decide)) 256) :=
  stepK256 arg2 harg2 arg3 harg3 arg4 harg4 arg5 harg5 arg6 harg6 arg7 harg7 arg8 harg8 arg11 x0 x1 x2 x3 x4 x5 x6 0 (by decide) 0 inb_S256x512_S256x128_0_0 inb_S256x512_S256x128_0_0 inb_S256x512_S256x128_0_0 inb_S256x512_S256x128_0_0 inb_S256x512_S256x128_0_0 inb_S4352x128_S256x128_0_0 inb_S4352x128_S256x128_0_0 inb_S4352x128_S256x128_0_0 inb_S4352x128_S256x128_0_0 (fun _ => 0) (below_start (cK x0 x1 x2 x3 x4 x5 x6 0 (by decide)) (aK_1 ))

theorem aK_3 : Below 4352 (kernelRun0_A.sl.H9_3 (F := Ideal) c arg2 harg2 arg3 harg3 arg4 harg4 arg5 harg5 arg6 harg6 arg7 harg7 arg8 harg8 arg11 x0 x1 x2 x3 x4 x5 x6) (St (St (fun _ => 0) (cK x0 x1 x2 x3 x4 x5 x6 0 (by decide)) 256) (cK x0 x1 x2 x3 x4 x5 x6 128 (by decide)) 256) :=
  stepK256 arg2 harg2 arg3 harg3 arg4 harg4 arg5 harg5 arg6 harg6 arg7 harg7 arg8 harg8 arg11 x0 x1 x2 x3 x4 x5 x6 128 (by decide) 0 inb_S256x512_S256x128_0_128 inb_S256x512_S256x128_0_128 inb_S256x512_S256x128_0_128 inb_S256x512_S256x128_0_128 inb_S256x512_S256x128_0_128 inb_S4352x128_S256x128_0_0 inb_S4352x128_S256x128_0_0 inb_S4352x128_S256x128_0_0 inb_S4352x128_S256x128_0_0 (St (fun _ => 0) (cK x0 x1 x2 x3 x4 x5 x6 0 (by decide)) 256) (below_start (cK x0 x1 x2 x3 x4 x5 x6 128 (by decide)) (aK_2 c arg2 harg2 arg3 harg3 arg4 harg4 arg5 harg5 arg6 harg6 arg7 harg7 arg8 harg8 arg11 x0 x1 x2 x3 x4 x5 x6))

theorem aK_4 : Below 4352 (kernelRun0_A.sl.H9_4 (F := Ideal) c arg2 harg2 arg3 harg3 arg4 harg4 arg5 harg5 arg6 harg6 arg7 harg7 arg8 harg8 arg11 x0 x1 x2 x3 x4 x5 x6) (St (St (St (fun _ => 0) (cK x0 x1 x2 x3 x4 x5 x6 0 (by decide)) 256) (cK x0 x1 x2 x3 x4 x5 x6 128 (by decide)) 256) (cK x0 x1 x2 x3 x4 x5 x6 256 (by decide)) 256) :=
  stepK256 arg2 harg2 arg3 harg3 arg4 harg4 arg5 harg5 arg6 harg6 arg7 harg7 arg8 harg8 arg11 x0 x1 x2 x3 x4 x5 x6 256 (by decide) 0 inb_S256x512_S256x128_0_256 inb_S256x512_S256x128_0_256 inb_S256x512_S256x128_0_256 inb_S256x512_S256x128_0_256 inb_S256x512_S256x128_0_256 inb_S4352x128_S256x128_0_0 inb_S4352x128_S256x128_0_0 inb_S4352x128_S256x128_0_0 inb_S4352x128_S256x128_0_0 (St (St (fun _ => 0) (cK x0 x1 x2 x3 x4 x5 x6 0 (by decide)) 256) (cK x0 x1 x2 x3 x4 x5 x6 128 (by decide)) 256) (below_start (cK x0 x1 x2 x3 x4 x5 x6 256 (by decide)) (aK_3 c arg2 harg2 arg3 harg3 arg4 harg4 arg5 harg5 arg6 harg6 arg7 harg7 arg8 harg8 arg11 x0 x1 x2 x3 x4 x5 x6))

theorem outA9 (i : grid0.Coords) (hc0 : cond0_0 i) (hc1 : cond0_1 i) (hc2 : ¬cond0_2 i) (s : Fin 4352) (d : Fin 128) :
    out0_A_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 s d) = (St (St (St (St (fun _ => 0) (cK x0 x1 x2 x3 x4 x5 x6 0 (by decide)) 256) (cK x0 x1 x2 x3 x4 x5 x6 128 (by decide)) 256) (cK x0 x1 x2 x3 x4 x5 x6 256 (by decide)) 256) (cK x0 x1 x2 x3 x4 x5 x6 384 (by decide)) 256) (ix2 s d) := by
  unfold out0_A_9 kernelRun0_A
  dsimp only
  exact stepK256 arg2 harg2 arg3 harg3 arg4 harg4 arg5 harg5 arg6 harg6 arg7 harg7 arg8 harg8 arg11 x0 x1 x2 x3 x4 x5 x6 384 (by decide) 0 inb_S256x512_S256x128_0_384 inb_S256x512_S256x128_0_384 inb_S256x512_S256x128_0_384 inb_S256x512_S256x128_0_384 inb_S256x512_S256x128_0_384 inb_S4352x128_S256x128_0_0 inb_S4352x128_S256x128_0_0 inb_S4352x128_S256x128_0_0 inb_S4352x128_S256x128_0_0 (St (St (St (fun _ => 0) (cK x0 x1 x2 x3 x4 x5 x6 0 (by decide)) 256) (cK x0 x1 x2 x3 x4 x5 x6 128 (by decide)) 256) (cK x0 x1 x2 x3 x4 x5 x6 256 (by decide)) 256) (below_start (cK x0 x1 x2 x3 x4 x5 x6 384 (by decide)) (aK_4 c arg2 harg2 arg3 harg3 arg4 harg4 arg5 harg5 arg6 harg6 arg7 harg7 arg8 harg8 arg11 x0 x1 x2 x3 x4 x5 x6)) _ _ _ _ s d s.isLt

theorem aV_1 : Below 4352 (kernelRun0_A.sl.H10_1 (F := Ideal) ) (fun _ => 0) := by
  refine below_cons (o := 0) (W := 4352) rfl rfl inb_S4352x128_S4352x128_0_0 (k0_pay2 (F := Ideal)) (below_nil _) fun x s d _ _ => ?_
  show k0_pay2 (F := Ideal) x = 0
  pointwise [k0_pay2]

theorem aV_2 : Below 4352 (kernelRun0_A.sl.H10_2 (F := Ideal) c arg2 harg2 arg3 harg3 arg5 harg5 arg6 harg6 arg8 harg8 arg12 x0 x1 x3 x4 x6) (St (fun _ => 0) (cV x0 x1 x3 x4 x6 0 (by decide)) 256) :=
  stepV256 arg2 harg2 arg3 harg3 arg5 harg5 arg6 harg6 arg8 harg8 arg12 x0 x1 x3 x4 x6 0 (by decide) 0 inb_S256x512_S256x128_0_0 inb_S256x512_S256x128_0_0 inb_S256x512_S256x128_0_0 inb_S256x512_S256x128_0_0 inb_S4352x128_S256x128_0_0 inb_S4352x128_S256x128_0_0 inb_S4352x128_S256x128_0_0 (fun _ => 0) (below_start (cV x0 x1 x3 x4 x6 0 (by decide)) (aV_1 ))

theorem aV_3 : Below 4352 (kernelRun0_A.sl.H10_3 (F := Ideal) c arg2 harg2 arg3 harg3 arg5 harg5 arg6 harg6 arg8 harg8 arg12 x0 x1 x3 x4 x6) (St (St (fun _ => 0) (cV x0 x1 x3 x4 x6 0 (by decide)) 256) (cV x0 x1 x3 x4 x6 128 (by decide)) 256) :=
  stepV256 arg2 harg2 arg3 harg3 arg5 harg5 arg6 harg6 arg8 harg8 arg12 x0 x1 x3 x4 x6 128 (by decide) 0 inb_S256x512_S256x128_0_128 inb_S256x512_S256x128_0_128 inb_S256x512_S256x128_0_128 inb_S256x512_S256x128_0_128 inb_S4352x128_S256x128_0_0 inb_S4352x128_S256x128_0_0 inb_S4352x128_S256x128_0_0 (St (fun _ => 0) (cV x0 x1 x3 x4 x6 0 (by decide)) 256) (below_start (cV x0 x1 x3 x4 x6 128 (by decide)) (aV_2 c arg2 harg2 arg3 harg3 arg5 harg5 arg6 harg6 arg8 harg8 arg12 x0 x1 x3 x4 x6))

theorem aV_4 : Below 4352 (kernelRun0_A.sl.H10_4 (F := Ideal) c arg2 harg2 arg3 harg3 arg5 harg5 arg6 harg6 arg8 harg8 arg12 x0 x1 x3 x4 x6) (St (St (St (fun _ => 0) (cV x0 x1 x3 x4 x6 0 (by decide)) 256) (cV x0 x1 x3 x4 x6 128 (by decide)) 256) (cV x0 x1 x3 x4 x6 256 (by decide)) 256) :=
  stepV256 arg2 harg2 arg3 harg3 arg5 harg5 arg6 harg6 arg8 harg8 arg12 x0 x1 x3 x4 x6 256 (by decide) 0 inb_S256x512_S256x128_0_256 inb_S256x512_S256x128_0_256 inb_S256x512_S256x128_0_256 inb_S256x512_S256x128_0_256 inb_S4352x128_S256x128_0_0 inb_S4352x128_S256x128_0_0 inb_S4352x128_S256x128_0_0 (St (St (fun _ => 0) (cV x0 x1 x3 x4 x6 0 (by decide)) 256) (cV x0 x1 x3 x4 x6 128 (by decide)) 256) (below_start (cV x0 x1 x3 x4 x6 256 (by decide)) (aV_3 c arg2 harg2 arg3 harg3 arg5 harg5 arg6 harg6 arg8 harg8 arg12 x0 x1 x3 x4 x6))

theorem outA10 (i : grid0.Coords) (hc0 : cond0_0 i) (hc1 : cond0_1 i) (hc2 : ¬cond0_2 i) (s : Fin 4352) (d : Fin 128) :
    out0_A_10 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 s d) = (St (St (St (St (fun _ => 0) (cV x0 x1 x3 x4 x6 0 (by decide)) 256) (cV x0 x1 x3 x4 x6 128 (by decide)) 256) (cV x0 x1 x3 x4 x6 256 (by decide)) 256) (cV x0 x1 x3 x4 x6 384 (by decide)) 256) (ix2 s d) := by
  unfold out0_A_10 kernelRun0_A
  dsimp only
  exact stepV256 arg2 harg2 arg3 harg3 arg5 harg5 arg6 harg6 arg8 harg8 arg12 x0 x1 x3 x4 x6 384 (by decide) 0 inb_S256x512_S256x128_0_384 inb_S256x512_S256x128_0_384 inb_S256x512_S256x128_0_384 inb_S256x512_S256x128_0_384 inb_S4352x128_S256x128_0_0 inb_S4352x128_S256x128_0_0 inb_S4352x128_S256x128_0_0 (St (St (St (fun _ => 0) (cV x0 x1 x3 x4 x6 0 (by decide)) 256) (cV x0 x1 x3 x4 x6 128 (by decide)) 256) (cV x0 x1 x3 x4 x6 256 (by decide)) 256) (below_start (cV x0 x1 x3 x4 x6 384 (by decide)) (aV_4 c arg2 harg2 arg3 harg3 arg5 harg5 arg6 harg6 arg8 harg8 arg12 x0 x1 x3 x4 x6)) _ _ _ _ s d s.isLt

end Cert.KernelIdeal.Val
end
-- ==== Proof.Arrays.lean ====
/-
  The blocks of a grid point as parts of the arrays, and the four result arrays after the run.
-/
module

public import proofs.«01_k».proof.Proof.CaseK
public import proofs.«01_k».proof.Proof.CaseV
public import proofs.«01_k».proof.Proof.CaseA

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 17, t.val / 17] ∧ win0_1.index t = ![0, 8 + t.val / 17] ∧ win0_2.index t = ![0, 10 + t.val / 17]
    ∧ win0_3.index t = ![t.val % 17, 3 + t.val / 17] ∧ win0_4.index t = ![t.val % 17, t.val / 17] ∧ win0_5.index t = ![t.val % 17, t.val / 17]
    ∧ win0_6.index t = ![t.val % 17, t.val / 17] ∧ win0_7.index t = ![t.val % 17, t.val / 17] ∧ win0_8.index t = ![t.val % 17, 3 + t.val / 17]
    ∧ win0_9.index t = ![0, t.val / 17] ∧ win0_10.index t = ![0, t.val / 17] :=
  (by decide +kernel : ∀ t : Fin grid0.N, _)

/-! ## The input blocks -/

theorem pt_lt (t : Fin cfg0.N) : t.val < 34 := t.isLt

theorem rd0 (c : Dev nD) (t : Fin cfg0.N) (r : Fin 256) (d : Fin 512) (a : Fin 4352) (b : Fin 1536) (ha : a.val = 256 * (t.val % 17) + r.val) (hb : b.val = 512 * (t.val / 17) + d.val) :
    (show Vec Ideal S256x512 .bf16 from iblk m c 0 t) (ix2 r d) = (V m c main_arg0 : S4352x1536.Idx → Elt Ideal .bf16) (ix2 a b) := by
  blk_ext [iblk, idx t]

theorem rd1 (c : Dev nD) (t : Fin cfg0.N) (s : Fin 4352) (d : Fin 128) (b : Fin 1536) (hb : b.val = 1024 + 128 * (t.val / 17) + d.val) :
    (show Vec Ideal S4352x128 .bf16 from iblk m c 1 t) (ix2 s d) = (V m c main_arg0 : S4352x1536.Idx → Elt Ideal .bf16) (ix2 s b) := by
  blk_ext [iblk, idx t]

theorem rd2 (c : Dev nD) (t : Fin cfg0.N) (s : Fin 4352) (d : Fin 128) (b : Fin 1536) (hb : b.val = 1280 + 128 * (t.val / 17) + d.val) :
    (show Vec Ideal S4352x128 .bf16 from iblk m c 2 t) (ix2 s d) = (V m c main_arg0 : S4352x1536.Idx → Elt Ideal .bf16) (ix2 s b) := by
  blk_ext [iblk, idx t]

theorem rd3 (c : Dev nD) (t : Fin cfg0.N) (r : Fin 256) (d : Fin 512) (a : Fin 4352) (b : Fin 2560) (ha : a.val = 256 * (t.val % 17) + r.val) (hb : b.val = 1536 + 512 * (t.val / 17) + d.val) :
    (show Vec Ideal S256x512 .f32 from iblk m c 3 t) (ix2 r d) = (V m c main_arg1 : S4352x2560.Idx → Elt Ideal .f32) (ix2 a b) := by
  blk_ext [iblk, idx t]

theorem rd4 (c : Dev nD) (t : Fin cfg0.N) (r : Fin 256) (d : Fin 512) (a : Fin 4352) (b : Fin 1024) (ha : a.val = 256 * (t.val % 17) + r.val) (hb : b.val = 512 * (t.val / 17) + d.val) :
    (show Vec Ideal S256x512 .f32 from iblk m c 4 t) (ix2 r d) = (V m c main_arg2 : S4352x1024.Idx → Elt Ideal .f32) (ix2 a b) := by
  blk_ext [iblk, idx t]

theorem rd5 (c : Dev nD) (t : Fin cfg0.N) (r : Fin 256) (d : Fin 512) (a : Fin 4352) (b : Fin 1024) (ha : a.val = 256 * (t.val % 17) + r.val) (hb : b.val = 512 * (t.val / 17) + d.val) :
    (show Vec Ideal S256x512 .f32 from iblk m c 5 t) (ix2 r d) = (V m c main_v43 : S4352x1024.Idx → Elt Ideal .f32) (ix2 a b) := by
  blk_ext [iblk, idx t]

theorem rd6 (c : Dev nD) (t : Fin cfg0.N) (r : Fin 256) (d : Fin 512) (a : Fin 4352) (b : Fin 1024) (ha : a.val = 256 * (t.val % 17) + r.val) (hb : b.val = 512 * (t.val / 17) + d.val) :
    (show Vec Ideal S256x512 .f32 from iblk m c 6 t) (ix2 r d) = (V m c main_v75 : S4352x1024.Idx → Elt Ideal .f32) (ix2 a b) := by
  blk_ext [iblk, idx t]

end Cert.KernelIdeal.Val
end
-- ==== Proof.Cols.lean ====
/-
  The columns of the arrays, lane by lane, and which keys a query row reads.
-/
module

public import Mathlib.Data.EReal.Operations
public import Mathlib.Algebra.BigOperators.Fin

@[expose] public section

namespace Cert.Attn

/-- Lane `d` of query head `g` of group `kv`, as a column of the mix. -/
def cQ (kv : Fin 2) (g : Fin 4) (d : Fin 128) : Fin 1024 := ⟨512 * kv.val + 128 * g.val + d.val, by omega⟩
/-- The same lane as a column of `qkv`. -/
def cQ' (kv : Fin 2) (g : Fin 4) (d : Fin 128) : Fin 1536 := ⟨512 * kv.val + 128 * g.val + d.val, by omega⟩
/-- Lane `d` of the keys of group `kv`. -/
def cKey (kv : Fin 2) (d : Fin 128) : Fin 1536 := ⟨1024 + 128 * kv.val + d.val, by omega⟩
/-- Lane `d` of the values of group `kv`. -/
def cVal (kv : Fin 2) (d : Fin 128) : Fin 1536 := ⟨1280 + 128 * kv.val + d.val, by omega⟩
/-- The gate's column of a lane. -/
def cGate (kv : Fin 2) (g : Fin 4) (d : Fin 128) : Fin 2560 := ⟨1536 + (512 * kv.val + 128 * g.val + d.val), by omega⟩
/-- Lane `d` of group `kv` as a column of the keys' gradient. -/
def cOut (kv : Fin 2) (d : Fin 128) : Fin 256 := ⟨128 * kv.val + d.val, by omega⟩

/-- Query row `a` sees key `s`: the context rows see the context only. -/
def sees (a s : Fin 4352) : Prop := a.val < 256 → s.val < 256
instance (a s : Fin 4352) : Decidable (sees a s) := inferInstanceAs (Decidable (_ → _))

end Cert.Attn

end
-- ==== Proof.Result.lean ====
/-
  The four result arrays after the run, entry by entry, as sums over the arrays the region finds.
-/
module

public import proofs.«01_k».proof.Proof.Arrays
public import proofs.«01_k».proof.Proof.Cols

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.Attn

/-! ## Score gradients and weights over whole arrays -/

section Global

variable (Q : S4352x1536.Idx → EReal) (G : S4352x2560.Idx → EReal) (D O L : S4352x1024.Idx → EReal)

/-- The gradient of the score of query row `t` and key `s`, head `g` of group `kv`. -/
def aS (kv : Fin 2) (g : Fin 4) (t s : Fin 4352) : EReal :=
  dS (fun d => G (ix2 t (cGate kv g d))) (fun d => O (ix2 t (cQ kv g d))) (fun d => D (ix2 t (cQ kv g d))) (L (ix2 t (cQ kv g 0)))
    (fun d => Q (ix2 t (cQ' kv g d))) (fun d => Q (ix2 s (cKey kv d))) (fun d => Q (ix2 s (cVal kv d)))

/-- The attention weight of query row `t` and key `s`. -/
def aP (kv : Fin 2) (g : Fin 4) (t s : Fin 4352) : EReal :=
  pE (fun d => Q (ix2 t (cQ' kv g d))) (L (ix2 t (cQ kv g 0))) (fun d => Q (ix2 s (cKey kv d)))

/-- The gradient of the attention's output. -/
def aO (kv : Fin 2) (g : Fin 4) (t : Fin 4352) (d : Fin 128) : EReal :=
  dO (fun d => G (ix2 t (cGate kv g d))) (fun d => D (ix2 t (cQ kv g d))) d

end Global

variable (m : (ℓ : Loc nD τ sig) → Buf (Elt Ideal) ℓ)

/-- The arrays the region finds: `qkv`, the projection, the mix's gradient, the attention's output and the log-sums. -/
abbrev rQ (c : Dev nD) : S4352x1536.Idx → EReal := V m c main_arg0
abbrev rG (c : Dev nD) : S4352x2560.Idx → EReal := V m c main_arg1
abbrev rD (c : Dev nD) : S4352x1024.Idx → EReal := V m c main_arg2
abbrev rO (c : Dev nD) : S4352x1024.Idx → EReal := V m c main_v43
abbrev rL (c : Dev nD) : S4352x1024.Idx → EReal := V m c main_v75

abbrev kvOf (t : Fin cfg0.N) : Fin 2 := ⟨t.val / 17, by have := pt_lt t; omega⟩
abbrev rowOf (t : Fin cfg0.N) (r : Fin 256) : Fin 4352 := ⟨256 * (t.val % 17) + r.val, by have := r.isLt; omega⟩

theorem hg (g : Fin 4) : 128 * g.val + 128 ≤ 512 := by omega

variable (c : Dev nD) (t : Fin cfg0.N)

theorem hS_eq (g : Fin 4) (r : Fin 256) (s : Fin 4352) :
    hS (iblk m c 0 t) (iblk m c 1 t) (iblk m c 2 t) (iblk m c 3 t) (iblk m c 4 t) (iblk m c 5 t) (iblk m c 6 t) (128 * g.val) (hg g) r s
      = aS (rQ m c) (rG m c) (rD m c) (rO m c) (rL m c) (kvOf t) g (rowOf t r) s := by
  have h3 : seg (iblk m c 3 t) (128 * g.val) (hg g) r = fun d => rG m c (ix2 (rowOf t r) (cGate (kvOf t) g d)) := funext fun d =>
    rd3 m c t r _ _ _ rfl (by show 1536 + (512 * (t.val / 17) + 128 * g.val + d.val) = 1536 + 512 * (t.val / 17) + (128 * g.val + d.val); omega)
  have h5 : seg (iblk m c 5 t) (128 * g.val) (hg g) r = fun d => rO m c (ix2 (rowOf t r) (cQ (kvOf t) g d)) := funext fun d =>
    rd5 m c t r _ _ _ rfl (by show 512 * (t.val / 17) + 128 * g.val + d.val = 512 * (t.val / 17) + (128 * g.val + d.val); omega)
  have h4 : seg (iblk m c 4 t) (128 * g.val) (hg g) r = fun d => rD m c (ix2 (rowOf t r) (cQ (kvOf t) g d)) := funext fun d =>
    rd4 m c t r _ _ _ rfl (by show 512 * (t.val / 17) + 128 * g.val + d.val = 512 * (t.val / 17) + (128 * g.val + d.val); omega)
  have h6 : seg (iblk m c 6 t) (128 * g.val) (hg g) r 0 = rL m c (ix2 (rowOf t r) (cQ (kvOf t) g 0)) :=
    rd6 m c t r _ _ _ rfl (by show 512 * (t.val / 17) + 128 * g.val + 0 = 512 * (t.val / 17) + (128 * g.val + 0); omega)
  have h0 : seg (iblk m c 0 t) (128 * g.val) (hg g) r = fun d => rQ m c (ix2 (rowOf t r) (cQ' (kvOf t) g d)) := funext fun d =>
    rd0 m c t r _ _ _ rfl (by show 512 * (t.val / 17) + 128 * g.val + d.val = 512 * (t.val / 17) + (128 * g.val + d.val); omega)
  have h1 : row (n := 4352) (k := 128) (e := .bf16) (iblk m c 1 t) s = fun d => rQ m c (ix2 s (cKey (kvOf t) d)) := funext fun d => rd1 m c t s d _ rfl
  have h2 : row (n := 4352) (k := 128) (e := .bf16) (iblk m c 2 t) s = fun d => rQ m c (ix2 s (cVal (kvOf t) d)) := funext fun d => rd2 m c t s d _ rfl
  unfold hS aS
  rw [h0, h1, h2, h3, h4, h5, h6]

theorem pE_eq (g : Fin 4) (r : Fin 256) (s : Fin 4352) :
    pE (seg (iblk m c 0 t) (128 * g.val) (hg g) r) (seg (iblk m c 6 t) (128 * g.val) (hg g) r 0) (row (n := 4352) (k := 128) (e := .bf16) (iblk m c 1 t) s)
      = aP (rQ m c) (rL m c) (kvOf t) g (rowOf t r) s := by
  have h6 : seg (iblk m c 6 t) (128 * g.val) (hg g) r 0 = rL m c (ix2 (rowOf t r) (cQ (kvOf t) g 0)) :=
    rd6 m c t r _ _ _ rfl (by show 512 * (t.val / 17) + 128 * g.val + 0 = 512 * (t.val / 17) + (128 * g.val + 0); omega)
  have h0 : seg (iblk m c 0 t) (128 * g.val) (hg g) r = fun d => rQ m c (ix2 (rowOf t r) (cQ' (kvOf t) g d)) := funext fun d =>
    rd0 m c t r _ _ _ rfl (by show 512 * (t.val / 17) + 128 * g.val + d.val = 512 * (t.val / 17) + (128 * g.val + d.val); omega)
  have h1 : row (n := 4352) (k := 128) (e := .bf16) (iblk m c 1 t) s = fun d => rQ m c (ix2 s (cKey (kvOf t) d)) := funext fun d => rd1 m c t s d _ rfl
  unfold aP
  rw [h0, h1, h6]

theorem dO_eq (g : Fin 4) (r : Fin 256) (d : Fin 128) :
    dO (seg (iblk m c 3 t) (128 * g.val) (hg g) r) (seg (iblk m c 4 t) (128 * g.val) (hg g) r) d = aO (rG m c) (rD m c) (kvOf t) g (rowOf t r) d := by
  have h3 : seg (iblk m c 3 t) (128 * g.val) (hg g) r = fun d => rG m c (ix2 (rowOf t r) (cGate (kvOf t) g d)) := funext fun d =>
    rd3 m c t r _ _ _ rfl (by show 1536 + (512 * (t.val / 17) + 128 * g.val + d.val) = 1536 + 512 * (t.val / 17) + (128 * g.val + d.val); omega)
  have h4 : seg (iblk m c 4 t) (128 * g.val) (hg g) r = fun d => rD m c (ix2 (rowOf t r) (cQ (kvOf t) g d)) := funext fun d =>
    rd4 m c t r _ _ _ rfl (by show 512 * (t.val / 17) + 128 * g.val + d.val = 512 * (t.val / 17) + (128 * g.val + d.val); omega)
  unfold aO
  rw [h3, h4]

/-- What a grid point's head adds to the gradient of key `s`. -/
def tK (s : Fin 4352) (d : Fin 128) : EReal :=
  ∑ g : Fin 4, ∑ r : Fin 256, aS (rQ m c) (rG m c) (rD m c) (rO m c) (rL m c) (kvOf t) g (rowOf t r) s * rQ m c (ix2 (rowOf t r) (cQ' (kvOf t) g d))

def tV (s : Fin 4352) (d : Fin 128) : EReal :=
  ∑ g : Fin 4, ∑ r : Fin 256, aP (rQ m c) (rL m c) (kvOf t) g (rowOf t r) s * aO (rG m c) (rD m c) (kvOf t) g (rowOf t r) d

theorem cK_eq (g : Fin 4) (s : Fin 4352) (d : Fin 128) :
    cK (iblk m c 0 t) (iblk m c 1 t) (iblk m c 2 t) (iblk m c 3 t) (iblk m c 4 t) (iblk m c 5 t) (iblk m c 6 t) (128 * g.val) (hg g) s d
      = ∑ r : Fin 256, aS (rQ m c) (rG m c) (rD m c) (rO m c) (rL m c) (kvOf t) g (rowOf t r) s * rQ m c (ix2 (rowOf t r) (cQ' (kvOf t) g d)) := by
  unfold cK
  refine Finset.sum_congr rfl fun r _ => ?_
  rw [hS_eq]
  refine congrArg (aS (rQ m c) (rG m c) (rD m c) (rO m c) (rL m c) (kvOf t) g (rowOf t r) s * ·) ?_
  exact rd0 m c t r _ _ _ rfl (by show 512 * (t.val / 17) + 128 * g.val + d.val = 512 * (t.val / 17) + (128 * g.val + d.val); omega)

theorem cV_eq (g : Fin 4) (s : Fin 4352) (d : Fin 128) :
    cV (iblk m c 0 t) (iblk m c 1 t) (iblk m c 3 t) (iblk m c 4 t) (iblk m c 6 t) (128 * g.val) (hg g) s d
      = ∑ r : Fin 256, aP (rQ m c) (rL m c) (kvOf t) g (rowOf t r) s * aO (rG m c) (rD m c) (kvOf t) g (rowOf t r) d := by
  unfold cV
  refine Finset.sum_congr rfl fun r _ => ?_
  rw [pE_eq, dO_eq]

/-- Rows below 256 only. -/
def low (f : Fin 4352 → Fin 128 → EReal) (s : Fin 4352) (d : Fin 128) : EReal := if s.val < 256 then f s d else 0

theorem St4_low (f0 f1 f2 f3 F : Fin 4352 → Fin 128 → EReal) (s : Fin 4352) (d : Fin 128) (h : F s d = f0 s d + f1 s d + f2 s d + f3 s d) :
    St (St (St (St (fun _ => 0) f0 256) f1 256) f2 256) f3 256 (ix2 s d) = 0 + low F s d := by
  unfold St low
  by_cases hs : s.val < 256
  · have hs' : ((ix2 s d : S4352x128.Idx) (0 : Fin 2)).val < 256 := hs
    simp only [if_pos hs', if_pos hs, h]
    show 0 + f0 s d + f1 s d + f2 s d + f3 s d = _
    simp only [zero_add]
  · have hs' : ¬((ix2 s d : S4352x128.Idx) (0 : Fin 2)).val < 256 := hs
    simp only [if_neg hs', if_neg hs, zero_add]

theorem acc9_A (h : t.val % 17 = 0) (s : Fin 4352) (d : Fin 128) :
    ((outsAt0 m c t.val t.isLt).2.2.1 : S4352x128.Idx → EReal) (ix2 s d) = 0 + low (tK m c t) s d := by
  rw [outsAt0_A m c t h h (by omega)]
  dsimp only
  refine (outA9 c _ _ _ _ _ _ _ _ _ _ _ _ _ _ _ _ _ _ _ _ _ _ _ _ _ _ _ _ _ _ _ _ _ s d).trans (St4_low _ _ _ _ _ s d ?_)
  unfold tK
  rw [Fin.sum_univ_four, ← cK_eq, ← cK_eq, ← cK_eq, ← cK_eq]
  rfl

theorem acc9_B (h : ¬t.val % 17 = 0) (s : Fin 4352) (d : Fin 128) :
    ((outsAt0 m c t.val t.isLt).2.2.1 : S4352x128.Idx → EReal) (ix2 s d)
      = ((outsAt0 m c (t.val - 1) (Nat.lt_of_le_of_lt (Nat.sub_le _ _) t.isLt)).2.2.1 : S4352x128.Idx → EReal) (ix2 s d) + tK m c t s d := by
  rw [outsAt0_B m c t h h (by omega)]
  dsimp only
  refine (outB9 c _ _ _ _ _ _ _ _ _ _ _ _ _ _ _ _ _ _ _ _ _ _ _ _ _ _ _ _ _ _ _ _ _ _ _ s d).trans ?_
  unfold tK
  rw [Fin.sum_univ_four, ← cK_eq, ← cK_eq, ← cK_eq, ← cK_eq]
  simp only [← add_assoc]
  rfl

theorem acc10_A (h : t.val % 17 = 0) (s : Fin 4352) (d : Fin 128) :
    ((outsAt0 m c t.val t.isLt).2.2.2 : S4352x128.Idx → EReal) (ix2 s d) = 0 + low (tV m c t) s d := by
  rw [outsAt0_A m c t h h (by omega)]
  dsimp only
  refine (outA10 c _ _ _ _ _ _ _ _ _ _ _ _ _ _ _ _ _ _ _ _ _ _ _ _ _ _ _ _ _ _ _ _ _ s d).trans (St4_low _ _ _ _ _ s d ?_)
  unfold tV
  rw [Fin.sum_univ_four, ← cV_eq, ← cV_eq, ← cV_eq, ← cV_eq]
  rfl

theorem acc10_B (h : ¬t.val % 17 = 0) (s : Fin 4352) (d : Fin 128) :
    ((outsAt0 m c t.val t.isLt).2.2.2 : S4352x128.Idx → EReal) (ix2 s d)
      = ((outsAt0 m c (t.val - 1) (Nat.lt_of_le_of_lt (Nat.sub_le _ _) t.isLt)).2.2.2 : S4352x128.Idx → EReal) (ix2 s d) + tV m c t s d := by
  rw [outsAt0_B m c t h h (by omega)]
  dsimp only
  refine (outB10 c _ _ _ _ _ _ _ _ _ _ _ _ _ _ _ _ _ _ _ _ _ _ _ _ _ _ _ _ _ _ _ _ _ _ _ s d).trans ?_
  unfold tV
  rw [Fin.sum_univ_four, ← cV_eq, ← cV_eq, ← cV_eq, ← cV_eq]
  simp only [← add_assoc]
  rfl

end Cert.KernelIdeal.Val
end
-- ==== Proof.Final.lean ====
/-
  Each result array, read at an entry, is what the grid point that wrote the entry back left there.
-/
module

public import proofs.«01_k».proof.Proof.Result
public import proofs.«01_k».proof.Proof.Gen.KernelIdeal.Value

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.Attn
open Cert.KernelIdeal.Value (blocks7 blocks8 flushed7 flushed8 flushed9 flushed10)

variable (m : (ℓ : Loc nD τ sig) → Buf (Elt Ideal) ℓ)
variable (c : Dev nD) (t : Fin cfg0.N)

/-- The four result arrays after the run. -/
def res7 (c : Dev nD) : S4352x1024.Idx → EReal := (dats m 0 c).arrAt 7 cfg0.N
def res8 (c : Dev nD) : S4352x2560.Idx → EReal := (dats m 0 c).arrAt 8 cfg0.N
def res9 (c : Dev nD) : S4352x256.Idx → EReal := (dats m 0 c).arrAt 9 cfg0.N
def res10 (c : Dev nD) : S4352x256.Idx → EReal := (dats m 0 c).arrAt 10 cfg0.N

theorem pl7 (r : Fin 256) (d : Fin 512) (a : Fin 4352) (b : Fin 1024) (ha : a.val = 256 * (t.val % 17) + r.val) (hb : b.val = 512 * (t.val / 17) + d.val) :
    res7 m c (ix2 a b) = ((outsAt0 m c t.val t.isLt).1 : S256x512.Idx → EReal) (ix2 r d) := by
  have h := congrFun (blocks7 m c t (flush0_7 t)) (ix2 r d)
  rw [flushed7] at h
  refine Eq.trans ?_ (h.trans ?_)
  · refine congrArg (res7 m c) ?_
    blk_ext [idx t]
  · blk_ext [idx t]

theorem pl8 (r : Fin 256) (d : Fin 512) (a : Fin 4352) (b : Fin 2560) (ha : a.val = 256 * (t.val % 17) + r.val) (hb : b.val = 1536 + 512 * (t.val / 17) + d.val) :
    res8 m c (ix2 a b) = ((outsAt0 m c t.val t.isLt).2.1 : S256x512.Idx → EReal) (ix2 r d) := by
  have h := congrFun (blocks8 m c t (flush0_8 t)) (ix2 r d)
  rw [flushed8] at h
  refine Eq.trans ?_ (h.trans ?_)
  · refine congrArg (res8 m c) ?_
    blk_ext [idx t]
  · blk_ext [idx t]

theorem last9 : ∀ t t' : Fin cfg0.N, (cfg0.win 9).flush t = true → (cfg0.win 9).flush t' = true → t ≠ t' →
    Disjoint ((cfg0.win 9).blk t).view.set ((cfg0.win 9).blk t').view.set := by
  intro t t' h h' hne
  refine (cfg0.win 9).disjoint_blk fun e => hne (Fin.ext ?_)
  have h1 := (flush0_9 t).mp h
  have h2 := (flush0_9 t').mp h'
  have e' : win0_9.index t = win0_9.index t' := e
  rw [(idx t).2.2.2.2.2.2.2.2.2.1, (idx t').2.2.2.2.2.2.2.2.2.1] at e'
  have e2 : t.val / 17 = t'.val / 17 := congrFun e' 1
  omega

theorem last10 : ∀ t t' : Fin cfg0.N, (cfg0.win 10).flush t = true → (cfg0.win 10).flush t' = true → t ≠ t' →
    Disjoint ((cfg0.win 10).blk t).view.set ((cfg0.win 10).blk t').view.set := by
  intro t t' h h' hne
  refine (cfg0.win 10).disjoint_blk fun e => hne (Fin.ext ?_)
  have h1 := (flush0_10 t).mp h
  have h2 := (flush0_10 t').mp h'
  have e' : win0_10.index t = win0_10.index t' := e
  rw [(idx t).2.2.2.2.2.2.2.2.2.2, (idx t').2.2.2.2.2.2.2.2.2.2] at e'
  have e2 : t.val / 17 = t'.val / 17 := congrFun e' 1
  omega

theorem pl9 (h16 : t.val % 17 = 16) (s : Fin 4352) (d : Fin 128) (b : Fin 256) (hb : b.val = 128 * (t.val / 17) + d.val) :
    res9 m c (ix2 s b) = ((outsAt0 m c t.val t.isLt).2.2.1 : S4352x128.Idx → EReal) (ix2 s d) := by
  have h := congrFun ((dats m 0 c).read_blk_arrAt_eq_flushed 9 last9 cfg0.N t t.isLt ((flush0_9 t).mpr h16)) (ix2 s d)
  rw [flushed9] at h
  refine Eq.trans ?_ (h.trans ?_)
  · refine congrArg (res9 m c) ?_
    blk_ext [idx t]
  · blk_ext [idx t]

theorem pl10 (h16 : t.val % 17 = 16) (s : Fin 4352) (d : Fin 128) (b : Fin 256) (hb : b.val = 128 * (t.val / 17) + d.val) :
    res10 m c (ix2 s b) = ((outsAt0 m c t.val t.isLt).2.2.2 : S4352x128.Idx → EReal) (ix2 s d) := by
  have h := congrFun ((dats m 0 c).read_blk_arrAt_eq_flushed 10 last10 cfg0.N t t.isLt ((flush0_10 t).mpr h16)) (ix2 s d)
  rw [flushed10] at h
  refine Eq.trans ?_ (h.trans ?_)
  · refine congrArg (res10 m c) ?_
    blk_ext [idx t]
  · blk_ext [idx t]

/-- The point of group `kv` and row block `i`. -/
def pt (kv : Fin 2) (i : Fin 17) : Fin cfg0.N := ⟨17 * kv.val + i.val, by show 17 * kv.val + i.val < 34; omega⟩

theorem pt_mod (kv : Fin 2) (i : Fin 17) : (pt kv i).val % 17 = i.val := by show (17 * kv.val + i.val) % 17 = i.val; omega
theorem pt_div (kv : Fin 2) (i : Fin 17) : (pt kv i).val / 17 = kv.val := by show (17 * kv.val + i.val) / 17 = kv.val; omega

/-- Rows of 17 blocks of 256 are all rows. -/
theorem sum_blocks (f : Fin 4352 → EReal) :
    ∑ i : Fin 17, ∑ r : Fin 256, f ⟨256 * i.val + r.val, by have := i.isLt; have := r.isLt; omega⟩ = ∑ a, f a := by
  rw [← Fintype.sum_prod_type' (f := fun (i : Fin 17) (r : Fin 256) => f ⟨256 * i.val + r.val, by have := i.isLt; have := r.isLt; omega⟩)]
  refine Fintype.sum_equiv (finProdFinEquiv (m := 17) (n := 256)) _ _ fun x => congrArg f (Fin.ext ?_)
  show 256 * x.1.val + x.2.val = x.2.val + 256 * x.1.val
  omega

theorem kvOf_pt (kv : Fin 2) (i : Fin 17) : kvOf (pt kv i) = kv := Fin.ext (pt_div kv i)
theorem rowOf_pt (kv : Fin 2) (i : Fin 17) (r : Fin 256) : rowOf (pt kv i) r = ⟨256 * i.val + r.val, by have := i.isLt; have := r.isLt; omega⟩ :=
  Fin.ext (by show 256 * ((pt kv i).val % 17) + r.val = _; rw [pt_mod])

/-- The sum over the row blocks of a masked-at-the-first-block term, as one sum over the rows. -/
theorem blocks_masked (F : Fin 4 → Fin 4352 → EReal) (s : Fin 4352) :
    ∑ i : Fin 17, (if i.val = 0 then (if s.val < 256 then ∑ g, ∑ r : Fin 256, F g ⟨256 * i.val + r.val, by have := i.isLt; have := r.isLt; omega⟩ else 0)
        else ∑ g, ∑ r : Fin 256, F g ⟨256 * i.val + r.val, by have := i.isLt; have := r.isLt; omega⟩)
      = ∑ g, ∑ a, if sees a s then F g a else 0 := by
  simp only [← sum_blocks (fun a => if sees a s then _ else 0)]
  rw [Finset.sum_comm]
  refine Finset.sum_congr rfl fun i _ => ?_
  by_cases hi : i.val = 0
  · rw [if_pos hi]
    by_cases hs : s.val < 256
    · rw [if_pos hs]
      refine Finset.sum_congr rfl fun g _ => Finset.sum_congr rfl fun r _ => ?_
      rw [if_pos (show sees _ s from fun _ => hs)]
    · rw [if_neg hs]
      refine (Finset.sum_eq_zero fun g _ => Finset.sum_eq_zero fun r _ => if_neg fun h => hs (h ?_)).symm
      show 256 * i.val + r.val < 256
      have := r.isLt
      omega
  · rw [if_neg hi]
    refine Finset.sum_congr rfl fun g _ => Finset.sum_congr rfl fun r _ => (if_pos fun h => absurd ?_ hi).symm
    have h' : 256 * i.val + r.val < 256 := h
    omega

theorem acc_total (f : (n : ℕ) → n < cfg0.N → S4352x128.Idx → EReal) (T : Fin cfg0.N → Fin 4352 → Fin 128 → EReal)
    (hA : ∀ t : Fin cfg0.N, t.val % 17 = 0 → ∀ s d, f t.val t.isLt (ix2 s d) = 0 + low (T t) s d)
    (hB : ∀ t : Fin cfg0.N, ¬t.val % 17 = 0 → ∀ s d,
      f t.val t.isLt (ix2 s d) = f (t.val - 1) (Nat.lt_of_le_of_lt (Nat.sub_le _ _) t.isLt) (ix2 s d) + T t s d)
    (kv : Fin 2) (s : Fin 4352) (d : Fin 128) :
    f (pt kv 16).val (pt kv 16).isLt (ix2 s d) = ∑ i : Fin 17, if i.val = 0 then low (T (pt kv i)) s d else T (pt kv i) s d := by
  have key := Pipeline.eq_sum_fin_of_reset_step_apply_of_flush f 17 (fun _ => 0)
    (fun t y => if t.val % 17 = 0 then low (T t) (y (0 : Fin 2)) (y (1 : Fin 2)) else T t (y (0 : Fin 2)) (y (1 : Fin 2)))
    (fun t h y => by rw [if_pos h, eq_ix2 y]; exact hA t h _ _)
    (fun t h y => by rw [if_neg h, eq_ix2 y]; exact hB t h _ _)
    (pt kv 16) (pt_mod kv 16) (ix2 s d)
  rw [key, zero_add]
  refine Finset.sum_congr rfl fun i _ => ?_
  have e : (⟨17 * ((pt kv 16).val / 17) + i.val, Pipeline.run_point_lt_of_flush (pt kv 16) (pt_mod kv 16) i⟩ : Fin cfg0.N) = pt kv i := Fin.ext (by
    show 17 * ((pt kv 16).val / 17) + i.val = 17 * kv.val + i.val
    rw [pt_div])
  rw [e, pt_mod]
  rfl

theorem fin9 (kv : Fin 2) (s : Fin 4352) (d : Fin 128) :
    res9 m c (ix2 s (cOut kv d))
      = ∑ g : Fin 4, ∑ a, if sees a s then aS (rQ m c) (rG m c) (rD m c) (rO m c) (rL m c) kv g a s * rQ m c (ix2 a (cQ' kv g d)) else 0 := by
  rw [pl9 m c (pt kv 16) (pt_mod kv 16) s d (cOut kv d) (by rw [pt_div]; rfl),
    acc_total (fun n h => (outsAt0 m c n h).2.2.1) (tK m c) (acc9_A m c) (acc9_B m c) kv s d,
    ← blocks_masked (fun g a => aS (rQ m c) (rG m c) (rD m c) (rO m c) (rL m c) kv g a s * rQ m c (ix2 a (cQ' kv g d))) s]
  refine Finset.sum_congr rfl fun i _ => ?_
  unfold low tK
  simp only [kvOf_pt, rowOf_pt]

theorem fin10 (kv : Fin 2) (s : Fin 4352) (d : Fin 128) :
    res10 m c (ix2 s (cOut kv d))
      = ∑ g : Fin 4, ∑ a, if sees a s then aP (rQ m c) (rL m c) kv g a s * aO (rG m c) (rD m c) kv g a d else 0 := by
  rw [pl10 m c (pt kv 16) (pt_mod kv 16) s d (cOut kv d) (by rw [pt_div]; rfl),
    acc_total (fun n h => (outsAt0 m c n h).2.2.2) (tV m c) (acc10_A m c) (acc10_B m c) kv s d,
    ← blocks_masked (fun g a => aP (rQ m c) (rL m c) kv g a s * aO (rG m c) (rD m c) kv g a d) s]
  refine Finset.sum_congr rfl fun i _ => ?_
  unfold low tV
  simp only [kvOf_pt, rowOf_pt]

/-- The row block of a row, and the row in it. -/
def blkOf (a : Fin 4352) : Fin 17 := ⟨a.val / 256, by omega⟩
def inBlk (a : Fin 4352) : Fin 256 := ⟨a.val % 256, Nat.mod_lt _ (by decide)⟩
theorem rowOf_blk (kv : Fin 2) (a : Fin 4352) : rowOf (pt kv (blkOf a)) (inBlk a) = a :=
  (rowOf_pt _ _ _).trans (Fin.ext (by show 256 * (a.val / 256) + a.val % 256 = a.val; omega))
theorem at_blk (kv : Fin 2) (a : Fin 4352) : a.val = 256 * ((pt kv (blkOf a)).val % 17) + (inBlk a).val := by
  rw [pt_mod]; show a.val = 256 * (a.val / 256) + a.val % 256; omega

/-- The sum over the keys a context row sees. -/
theorem sum_low (f : Fin 4352 → EReal) (a : Fin 4352) (ha : a.val < 256) :
    ∑ s : Fin 256, f ⟨0 + s.val, by have := s.isLt; omega⟩ = ∑ s, if sees a s then f s else 0 := by
  have e := sum_prefix (fun s => if sees a s then f s else 0) 256 4096 (by decide)
  refine Eq.trans ?_ e.symm
  rw [Finset.sum_eq_zero (s := (Finset.univ : Finset (Fin 4096))) (fun j _ => if_neg fun h => by
    have := h ha
    have h' : 256 + j.val < 256 := this
    omega), add_zero]
  refine Finset.sum_congr rfl fun s _ => ?_
  rw [if_pos (show sees a _ from fun _ => s.isLt)]
  exact congrArg f (Fin.ext (Nat.zero_add _))

theorem fin7 (kv : Fin 2) (g : Fin 4) (a : Fin 4352) (d : Fin 128) :
    res7 m c (ix2 a (cQ kv g d))
      = ∑ s, if sees a s then aS (rQ m c) (rG m c) (rD m c) (rO m c) (rL m c) kv g a s * rQ m c (ix2 s (cKey kv d)) else 0 := by
  have hd : 128 * g.val + d.val < 512 := by omega
  rw [pl7 m c (pt kv (blkOf a)) (inBlk a) ⟨128 * g.val + d.val, hd⟩ a (cQ kv g d) (at_blk kv a)
    (by rw [pt_div]; show 512 * kv.val + 128 * g.val + d.val = 512 * kv.val + (128 * g.val + d.val); omega)]
  by_cases h : (pt kv (blkOf a)).val % 17 = 0
  · rw [outsAt0_A m c _ h h (by omega)]
    dsimp only
    have ha : a.val < 256 := by
      rw [pt_mod] at h
      have h' : a.val / 256 = 0 := h
      omega
    refine (outA7 c _ _ _ _ _ _ _ _ _ _ _ _ _ _ _ _ _ _ _ _ _ _ _ _ _ _ _ _ _ _ _ _ _ (inBlk a) ⟨128 * g.val + d.val, hd⟩).trans ?_
    rw [byHead_eq _ _ (128 * g.val) (hg g) (by omega) d hd]
    unfold qS'
    rw [← sum_low _ a ha]
    refine Finset.sum_congr rfl fun s _ => ?_
    rw [hS_eq, rowOf_blk, kvOf_pt]
    refine congrArg (aS (rQ m c) (rG m c) (rD m c) (rO m c) (rL m c) kv g a _ * ·) ?_
    exact rd1 m c _ _ d _ (by rw [pt_div]; rfl)
  · rw [outsAt0_B m c _ h h (by omega)]
    dsimp only
    have ha : ¬a.val < 256 := fun ha => h (by
      rw [pt_mod]
      show a.val / 256 = 0
      omega)
    refine (outB7 c _ _ _ _ _ _ _ _ _ _ _ _ _ _ _ _ _ _ _ _ _ _ _ _ _ _ _ _ _ _ _ _ _ _ _ (inBlk a) ⟨128 * g.val + d.val, hd⟩).trans ?_
    rw [byHead_eq _ _ (128 * g.val) (hg g) (by omega) d hd]
    unfold qS
    refine Finset.sum_congr rfl fun s _ => ?_
    rw [if_pos (show sees a s from fun h => absurd h ha), hS_eq, rowOf_blk, kvOf_pt]
    refine congrArg (aS (rQ m c) (rG m c) (rD m c) (rO m c) (rL m c) kv g a _ * ·) ?_
    exact rd1 m c _ _ d _ (by rw [pt_div]; rfl)

theorem gS_eq (t : Fin cfg0.N) (r : Fin 256) (d : Fin 512) (a : Fin 4352) (b : Fin 1024) (b' : Fin 2560) (ha : a.val = 256 * (t.val % 17) + r.val)
    (hb : b.val = 512 * (t.val / 17) + d.val) (hb' : b'.val = 1536 + 512 * (t.val / 17) + d.val) :
    gS (iblk m c 3 t) (iblk m c 4 t) (iblk m c 5 t) (ix2 r d) = dG (rG m c (ix2 a b')) (rO m c (ix2 a b)) (rD m c (ix2 a b)) := by
  have h3 := rd3 m c t r d a b' ha hb'
  have h4 := rd4 m c t r d a b ha hb
  have h5 := rd5 m c t r d a b ha hb
  unfold gS
  exact congr (congr (congrArg dG h3) h5) h4

theorem fin8 (a : Fin 4352) (b : Fin 1024) (b' : Fin 2560) (hb' : b'.val = 1536 + b.val) :
    res8 m c (ix2 a b') = dG (rG m c (ix2 a b')) (rO m c (ix2 a b)) (rD m c (ix2 a b)) := by
  obtain ⟨kv, d, hd⟩ : ∃ (kv : Fin 2) (d : Fin 512), b.val = 512 * kv.val + d.val :=
    ⟨⟨b.val / 512, by omega⟩, ⟨b.val % 512, Nat.mod_lt _ (by decide)⟩, by show b.val = 512 * (b.val / 512) + b.val % 512; omega⟩
  have e1 : b.val = 512 * ((pt kv (blkOf a)).val / 17) + d.val := by rw [pt_div]; exact hd
  have e2 : b'.val = 1536 + 512 * ((pt kv (blkOf a)).val / 17) + d.val := by omega
  rw [pl8 m c (pt kv (blkOf a)) (inBlk a) d a b' (at_blk kv a) e2]
  by_cases h : (pt kv (blkOf a)).val % 17 = 0
  · rw [outsAt0_A m c _ h h (by omega)]
    dsimp only
    refine (outA8 c _ _ _ _ _ _ _ _ _ _ _ _ _ _ _ _ _ _ _ _ _ _ _ _ _ _ _ _ _ _ _ _ _ (inBlk a) d).trans ?_
    exact gS_eq m c _ _ _ _ _ _ (at_blk kv a) e1 e2
  · rw [outsAt0_B m c _ h h (by omega)]
    dsimp only
    refine (outB8 c _ _ _ _ _ _ _ _ _ _ _ _ _ _ _ _ _ _ _ _ _ _ _ _ _ _ _ _ _ _ _ _ _ _ _ (inBlk a) d).trans ?_
    exact gS_eq m c _ _ _ _ _ _ (at_blk kv a) e1 e2

end Cert.KernelIdeal.Val
end
-- ==== Proof.Prelude.lean ====
/-
  What the host computes before the region: the scores, the softmax, the attention's output and the log-sums, over the latent
  rows (all keys) and over the context rows (the context's keys), each operation's group read at an index.
-/
module

public import proofs.«01_k».proof.Proof.Result
public import Idealize.ShloMosaic.Lib.StableHlo.RunRead
public import Idealize.ShloMosaic.Lib.StableHlo.ReadAt

@[expose] public section

set_option maxRecDepth 16384

noncomputable section

namespace Cert.KernelIdeal.Val

open Cert.KernelIdeal Cert.KernelIdeal.Gen Idealize.ShloMosaic Idealize.ShloMosaic.TcCoe Idealize.SL.Sem
open Cert.KernelIdeal.Facts
open Cert.Attn

/-- Queries, keys and values of `qkv`, head by head. -/
def qf (x : FVec Ideal S4352x1536 .bf16) : FVec Ideal S4352x2x4x128 .f32 :=
  shapeCast S4352x2x4x128 (extractStridedSlice S4352x1024 ![0, 0] (extf .f32 x bitsLt_bf16_f32) slices_S4352x1536_S4352x1024_0_0) shapeCasts_S4352x1024_S4352x2x4x128
def kf (x : FVec Ideal S4352x1536 .bf16) : FVec Ideal S4352x2x128 .f32 :=
  shapeCast S4352x2x128 (extractStridedSlice S4352x256 ![0, 1024] (extf .f32 x bitsLt_bf16_f32) slices_S4352x1536_S4352x256_0_1024) shapeCasts_S4352x256_S4352x2x128
def vf (x : FVec Ideal S4352x1536 .bf16) : FVec Ideal S4352x2x128 .f32 :=
  shapeCast S4352x2x128 (extractStridedSlice S4352x256 ![0, 1280] (extf .f32 x bitsLt_bf16_f32) slices_S4352x1536_S4352x256_0_1280) shapeCasts_S4352x256_S4352x2x128

theorem qf_apply (x : FVec Ideal S4352x1536 .bf16) (a : Fin 4352) (kv : Fin 2) (g : Fin 4) (d : Fin 128) : qf x (ix4 a kv g d) = x (ix2 a (cQ' kv g d)) := by
  pointwise [qf, cQ']
  exact congrArg (fun i => x (ix2 _ i)) (Fin.ext (by show _ = _; dsimp only; omega))
theorem kf_apply (x : FVec Ideal S4352x1536 .bf16) (s : Fin 4352) (kv : Fin 2) (d : Fin 128) : kf x (ix3 s kv d) = x (ix2 s (cKey kv d)) := by
  pointwise [kf, cKey]
  exact congrArg (fun i => x (ix2 _ i)) (Fin.ext (by show _ = _; dsimp only; omega))
theorem vf_apply (x : FVec Ideal S4352x1536 .bf16) (s : Fin 4352) (kv : Fin 2) (d : Fin 128) : vf x (ix3 s kv d) = x (ix2 s (cVal kv d)) := by
  pointwise [vf, cVal]
  exact congrArg (fun i => x (ix2 _ i)) (Fin.ext (by show _ = _; dsimp only; omega))

/-- The keys' and the values' context rows. -/
def lowRows (y : FVec Ideal S4352x2x128 .f32) : FVec Ideal S256x2x128 .f32 := extractStridedSlice S256x2x128 ![0, 0, 0] y slices_S4352x2x128_S256x2x128_0_0_0
theorem lowRows_apply (y : FVec Ideal S4352x2x128 .f32) (s : Fin 256) (kv : Fin 2) (d : Fin 128) : lowRows y (ix3 s kv d) = y (ix3 ⟨s.val, by omega⟩ kv d) := by
  pointwise [lowRows]

/-! ## The latent rows -/

def qrowL (y : FVec Ideal S4352x2x4x128 .f32) : FVec Ideal S4096x2x4x128 .f32 := extractStridedSlice S4096x2x4x128 ![256, 0, 0, 0] y slices_S4352x2x4x128_S4096x2x4x128_256_0_0_0
def scoreL (k : FVec Ideal S4352x2x128 .f32) (q : FVec Ideal S4096x2x4x128 .f32) : FVec Ideal S2x4x4096x4352 .f32 :=
  transpose S2x4x4096x4352 [0, 3, 2, 1] (Host.dotGeneral dot_S4352x2x128_S4096x2x4x128_S2x4352x4096x4_2_3_0_02_1_1 none k q) transposes_S2x4352x4096x4_S2x4x4096x4352_0_3_2_1
def topL (s : FVec Ideal S2x4x4096x4352 .f32) : FVec Ideal S2x4x4096 .f32 :=
  Host.reduce FloatOps.maximumf s (constant S_ .f32 0xFF800000#32) reducesTo_S2x4x4096x4352_S2x4x4096_d3 h_S_
def top'L (s : FVec Ideal S2x4x4096x4352 .f32) : FVec Ideal S2x4x4096 .f32 :=
  maximumf (broadcastInDim S2x4x4096 ![] bcast_S_S2x4x4096 (constant S_ .f32 0xFF800000#32)) (topL s)
def exL (s : FVec Ideal S2x4x4096x4352 .f32) (t : FVec Ideal S2x4x4096 .f32) : FVec Ideal S2x4x4096x4352 .f32 :=
  Host.exp (subf s (broadcastInDim S2x4x4096x4352 ![0, 1, 2, 3] bcast_S2x4x4096x1_S2x4x4096x4352_0_1_2_3 (broadcastInDim S2x4x4096x1 ![0, 1, 2] bcast_S2x4x4096_S2x4x4096x1_0_1_2 t)))
def totL (e : FVec Ideal S2x4x4096x4352 .f32) : FVec Ideal S2x4x4096 .f32 :=
  Host.reduceAdd e (constant S_ .f32 0x00000000#32) reducesTo_S2x4x4096x4352_S2x4x4096_d3 h_S_
def attL (e : FVec Ideal S2x4x4096x4352 .f32) (z : FVec Ideal S2x4x4096 .f32) : FVec Ideal S2x4x4096x4352 .f32 :=
  Host.divf e (broadcastInDim S2x4x4096x4352 ![0, 1, 2, 3] bcast_S2x4x4096x1_S2x4x4096x4352_0_1_2_3 (broadcastInDim S2x4x4096x1 ![0, 1, 2] bcast_S2x4x4096_S2x4x4096x1_0_1_2 z))
def mixL (v : FVec Ideal S4352x2x128 .f32) (p : FVec Ideal S2x4x4096x4352 .f32) : FVec Ideal S4096x1024 .f32 :=
  shapeCast S4096x1024 (transpose S4096x2x4x128 [3, 0, 2, 1] (Host.dotGeneral dot_S4352x2x128_S2x4x4096x4352_S2x128x4x4096_0_3_2_12_1_0 none v p) transposes_S2x128x4x4096_S4096x2x4x128_3_0_2_1) shapeCasts_S4096x2x4x128_S4096x1024
def lseL (z t : FVec Ideal S2x4x4096 .f32) : FVec Ideal S4096x1024 .f32 :=
  shapeCast S4096x1024 (broadcastInDim S4096x2x4x128 ![0, 1, 2, 3] bcast_S4096x2x4x1_S4096x2x4x128_0_1_2_3 (broadcastInDim S4096x2x4x1 ![0, 1, 2] bcast_S4096x2x4_S4096x2x4x1_0_1_2
    (transpose S4096x2x4 [2, 0, 1] (addf (Host.log z) t) transposes_S2x4x4096_S4096x2x4_2_0_1))) shapeCasts_S4096x2x4x128_S4096x1024

theorem qrowL_apply (y : FVec Ideal S4352x2x4x128 .f32) (a : Fin 4096) (kv : Fin 2) (g : Fin 4) (d : Fin 128) : qrowL y (ix4 a kv g d) = y (ix4 ⟨256 + a.val, by omega⟩ kv g d) := by
  pointwise [qrowL]
theorem scoreL_apply (k : FVec Ideal S4352x2x128 .f32) (q : FVec Ideal S4096x2x4x128 .f32) (kv : Fin 2) (g : Fin 4) (a : Fin 4096) (s : Fin 4352) :
    scoreL k q (ix4 kv g a s) = ∑ d : Fin 128, k (ix3 s kv d) * q (ix4 a kv g d) := by
  pointwise [scoreL]
theorem exL_apply (s : FVec Ideal S2x4x4096x4352 .f32) (t : FVec Ideal S2x4x4096 .f32) (kv : Fin 2) (g : Fin 4) (a : Fin 4096) (b : Fin 4352) :
    exL s t (ix4 kv g a b) = Ideal.exp (s (ix4 kv g a b) - t (ix3 kv g a)) := by
  pointwise [exL]
theorem totL_apply (e : FVec Ideal S2x4x4096x4352 .f32) (kv : Fin 2) (g : Fin 4) (a : Fin 4096) :
    totL e (ix3 kv g a) = ∑ b : Fin 4352, e (ix4 kv g a b) := by
  pointwise [totL]
theorem attL_apply (e : FVec Ideal S2x4x4096x4352 .f32) (z : FVec Ideal S2x4x4096 .f32) (kv : Fin 2) (g : Fin 4) (a : Fin 4096) (b : Fin 4352) :
    attL e z (ix4 kv g a b) = Ideal.div (e (ix4 kv g a b)) (z (ix3 kv g a)) := by
  pointwise [attL]
theorem mixL_apply (v : FVec Ideal S4352x2x128 .f32) (p : FVec Ideal S2x4x4096x4352 .f32) (kv : Fin 2) (g : Fin 4) (a : Fin 4096) (d : Fin 128) :
    mixL v p (ix2 a (cQ kv g d)) = ∑ b : Fin 4352, v (ix3 b kv d) * p (ix4 kv g a b) := by
  pointwise [mixL, cQ]
theorem lseL_apply (z t : FVec Ideal S2x4x4096 .f32) (kv : Fin 2) (g : Fin 4) (a : Fin 4096) (d : Fin 128) :
    lseL z t (ix2 a (cQ kv g d)) = Ideal.log (z (ix3 kv g a)) + t (ix3 kv g a) := by
  pointwise [lseL, cQ]

/-! ## The context rows -/

def qrowC (y : FVec Ideal S4352x2x4x128 .f32) : FVec Ideal S256x2x4x128 .f32 := extractStridedSlice S256x2x4x128 ![0, 0, 0, 0] y slices_S4352x2x4x128_S256x2x4x128_0_0_0_0
def scoreC (k : FVec Ideal S256x2x128 .f32) (q : FVec Ideal S256x2x4x128 .f32) : FVec Ideal S2x4x256x256 .f32 :=
  transpose S2x4x256x256 [0, 3, 2, 1] (Host.dotGeneral dot_S256x2x128_S256x2x4x128_S2x256x256x4_2_3_0_02_1_1 none k q) transposes_S2x256x256x4_S2x4x256x256_0_3_2_1
def topC (s : FVec Ideal S2x4x256x256 .f32) : FVec Ideal S2x4x256 .f32 :=
  Host.reduce FloatOps.maximumf s (constant S_ .f32 0xFF800000#32) reducesTo_S2x4x256x256_S2x4x256_d3 h_S_
def top'C (s : FVec Ideal S2x4x256x256 .f32) : FVec Ideal S2x4x256 .f32 :=
  maximumf (broadcastInDim S2x4x256 ![] bcast_S_S2x4x256 (constant S_ .f32 0xFF800000#32)) (topC s)
def exC (s : FVec Ideal S2x4x256x256 .f32) (t : FVec Ideal S2x4x256 .f32) : FVec Ideal S2x4x256x256 .f32 :=
  Host.exp (subf s (broadcastInDim S2x4x256x256 ![0, 1, 2, 3] bcast_S2x4x256x1_S2x4x256x256_0_1_2_3 (broadcastInDim S2x4x256x1 ![0, 1, 2] bcast_S2x4x256_S2x4x256x1_0_1_2 t)))
def totC (e : FVec Ideal S2x4x256x256 .f32) : FVec Ideal S2x4x256 .f32 :=
  Host.reduceAdd e (constant S_ .f32 0x00000000#32) reducesTo_S2x4x256x256_S2x4x256_d3 h_S_
def attC (e : FVec Ideal S2x4x256x256 .f32) (z : FVec Ideal S2x4x256 .f32) : FVec Ideal S2x4x256x256 .f32 :=
  Host.divf e (broadcastInDim S2x4x256x256 ![0, 1, 2, 3] bcast_S2x4x256x1_S2x4x256x256_0_1_2_3 (broadcastInDim S2x4x256x1 ![0, 1, 2] bcast_S2x4x256_S2x4x256x1_0_1_2 z))
def mixC (v : FVec Ideal S256x2x128 .f32) (p : FVec Ideal S2x4x256x256 .f32) : FVec Ideal S256x1024 .f32 :=
  shapeCast S256x1024 (transpose S256x2x4x128 [3, 0, 2, 1] (Host.dotGeneral dot_S256x2x128_S2x4x256x256_S2x128x4x256_0_3_2_12_1_0 none v p) transposes_S2x128x4x256_S256x2x4x128_3_0_2_1) shapeCasts_S256x2x4x128_S256x1024
def lseC (z t : FVec Ideal S2x4x256 .f32) : FVec Ideal S256x1024 .f32 :=
  shapeCast S256x1024 (broadcastInDim S256x2x4x128 ![0, 1, 2, 3] bcast_S256x2x4x1_S256x2x4x128_0_1_2_3 (broadcastInDim S256x2x4x1 ![0, 1, 2] bcast_S256x2x4_S256x2x4x1_0_1_2
    (transpose S256x2x4 [2, 0, 1] (addf (Host.log z) t) transposes_S2x4x256_S256x2x4_2_0_1))) shapeCasts_S256x2x4x128_S256x1024

theorem qrowC_apply (y : FVec Ideal S4352x2x4x128 .f32) (a : Fin 256) (kv : Fin 2) (g : Fin 4) (d : Fin 128) : qrowC y (ix4 a kv g d) = y (ix4 ⟨0 + a.val, by omega⟩ kv g d) := by
  pointwise [qrowC]
theorem scoreC_apply (k : FVec Ideal S256x2x128 .f32) (q : FVec Ideal S256x2x4x128 .f32) (kv : Fin 2) (g : Fin 4) (a : Fin 256) (s : Fin 256) :
    scoreC k q (ix4 kv g a s) = ∑ d : Fin 128, k (ix3 s kv d) * q (ix4 a kv g d) := by
  pointwise [scoreC]
theorem exC_apply (s : FVec Ideal S2x4x256x256 .f32) (t : FVec Ideal S2x4x256 .f32) (kv : Fin 2) (g : Fin 4) (a : Fin 256) (b : Fin 256) :
    exC s t (ix4 kv g a b) = Ideal.exp (s (ix4 kv g a b) - t (ix3 kv g a)) := by
  pointwise [exC]
theorem totC_apply (e : FVec Ideal S2x4x256x256 .f32) (kv : Fin 2) (g : Fin 4) (a : Fin 256) :
    totC e (ix3 kv g a) = ∑ b : Fin 256, e (ix4 kv g a b) := by
  pointwise [totC]
theorem attC_apply (e : FVec Ideal S2x4x256x256 .f32) (z : FVec Ideal S2x4x256 .f32) (kv : Fin 2) (g : Fin 4) (a : Fin 256) (b : Fin 256) :
    attC e z (ix4 kv g a b) = Ideal.div (e (ix4 kv g a b)) (z (ix3 kv g a)) := by
  pointwise [attC]
theorem mixC_apply (v : FVec Ideal S256x2x128 .f32) (p : FVec Ideal S2x4x256x256 .f32) (kv : Fin 2) (g : Fin 4) (a : Fin 256) (d : Fin 128) :
    mixC v p (ix2 a (cQ kv g d)) = ∑ b : Fin 256, v (ix3 b kv d) * p (ix4 kv g a b) := by
  pointwise [mixC, cQ]
theorem lseC_apply (z t : FVec Ideal S2x4x256 .f32) (kv : Fin 2) (g : Fin 4) (a : Fin 256) (d : Fin 128) :
    lseC z t (ix2 a (cQ kv g d)) = Ideal.log (z (ix3 kv g a)) + t (ix3 kv g a) := by
  pointwise [lseC, cQ]

/-! ## The two arrays the region reads -/

def exp' (x : FVec Ideal S2x4x4096x4352 .f32) := exL x (top'L x)
def expC' (x : FVec Ideal S2x4x256x256 .f32) := exC x (top'C x)
def oL (x : FVec Ideal S4352x1536 .bf16) : FVec Ideal S4096x1024 .f32 := mixL (vf x) (attL (exp' (scoreL (kf x) (qrowL (qf x)))) (totL (exp' (scoreL (kf x) (qrowL (qf x))))))
def oC (x : FVec Ideal S4352x1536 .bf16) : FVec Ideal S256x1024 .f32 :=
  mixC (lowRows (vf x)) (attC (expC' (scoreC (lowRows (kf x)) (qrowC (qf x)))) (totC (expC' (scoreC (lowRows (kf x)) (qrowC (qf x))))))
def lL' (s : FVec Ideal S2x4x4096x4352 .f32) : FVec Ideal S4096x1024 .f32 := lseL (totL (exL s (topL s))) (topL s)
def lC' (s : FVec Ideal S2x4x256x256 .f32) : FVec Ideal S256x1024 .f32 := lseC (totC (exC s (topC s))) (topC s)
def stack (a : FVec Ideal S256x1024 .f32) (b : FVec Ideal S4096x1024 .f32) : FVec Ideal S4352x1024 .f32 :=
  concatenate S4352x1024 0 [⟨S256x1024, a⟩, ⟨S4096x1024, b⟩] concatenates_S256x1024_S4096x1024_S4352x1024_d0

theorem stack_low' (a : FVec Ideal S256x1024 .f32) (b : FVec Ideal S4096x1024 .f32) (r : Fin 256) (d : Fin 1024) :
    stack a b (ix2 ⟨r.val, by omega⟩ d) = a (ix2 r d) := by
  pointwise [stack]
theorem stack_high' (a : FVec Ideal S256x1024 .f32) (b : FVec Ideal S4096x1024 .f32) (r : Fin 4096) (d : Fin 1024) :
    stack a b (ix2 ⟨256 + r.val, by omega⟩ d) = b (ix2 r d) := by
  pointwise [stack]

variable (m : (ℓ : Loc nD τ sig) → Buf (Elt Ideal) ℓ)

theorem V_o (c : Dev nD) : V m c main_v43 = stack (oC (m ((c : Thread nD τ).loc main_arg0))) (oL (m ((c : Thread nD τ).loc main_arg0))) := by
  unfold V
  after_reads_simp
  refine congrArg₂ stack ?_ ?_
  · after_reads_simp
    rfl
  · after_reads_simp
    rfl

theorem V_l (c : Dev nD) : V m c main_v75
    = stack (lC' (scoreC (lowRows (kf (m ((c : Thread nD τ).loc main_arg0)))) (qrowC (qf (m ((c : Thread nD τ).loc main_arg0))))))
        (lL' (scoreL (kf (m ((c : Thread nD τ).loc main_arg0))) (qrowL (qf (m ((c : Thread nD τ).loc main_arg0)))))) := by
  unfold V
  after_reads_simp
  refine congrArg₂ stack ?_ ?_
  · after_reads_simp
    rfl
  · after_reads_simp
    rfl

end Cert.KernelIdeal.Val
end
-- ==== Proof.Rows.lean ====
/-
  Rows of the attention over finite entries: every weight, its logarithm's form and its gradient are real numbers, and the two forms agree.
-/
module

public import proofs.«01_k».proof.Proof.Cols
public import Idealize.ShloMosaic.PureOps.Ideal.Laws
public import Idealize.ShloMosaic.PureOps.Reduce

@[expose] public section

noncomputable section

namespace Cert.Attn

open Idealize.ShloMosaic

/-- An extended real that is a real number. -/
def Fin' (x : EReal) : Prop := ∃ r : ℝ, x = (r : EReal)

theorem Fin'.coe (r : ℝ) : Fin' (r : EReal) := ⟨r, rfl⟩
theorem Fin'.add {x y : EReal} : Fin' x → Fin' y → Fin' (x + y)
  | ⟨a, ha⟩, ⟨b, hb⟩ => ⟨a + b, by rw [ha, hb, EReal.coe_add]⟩
theorem Fin'.mul {x y : EReal} : Fin' x → Fin' y → Fin' (x * y)
  | ⟨a, ha⟩, ⟨b, hb⟩ => ⟨a * b, by rw [ha, hb, EReal.coe_mul]⟩
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]
theorem Fin'.sum {ι : Type*} [Fintype ι] {f : ι → EReal} (h : ∀ i, Fin' (f i)) : Fin' (∑ i, f i) := by
  choose r hr using h
  exact ⟨∑ i, r i, by rw [coe_sum]; exact Finset.sum_congr rfl fun i _ => hr i⟩

/-- The greatest of real numbers is a real number. -/
theorem Fin'.top {ι : Type*} [Fintype ι] [Nonempty ι] (f : ι → EReal) (h : ∀ i, Fin' (f i)) :
    Fin' ((Finset.univ : Finset ι).fold max ⊥ f) := by
  obtain ⟨i, _, hi⟩ := Finset.exists_mem_eq_sup (Finset.univ : Finset ι) Finset.univ_nonempty f
  obtain ⟨r, hr⟩ := h i
  exact ⟨r, (show (Finset.univ : Finset ι).fold max ⊥ f = f i from hi).trans hr⟩

theorem neg_word : FloatOps.ofBits (F := Ideal) .f32 0xFF800000#32 = (⊥ : EReal) := by
  show Ideal.ofBits .f32 0xFF800000#32 = ⊥
  simp [Ideal.ofBits, Ideal.ieee]

theorem Fin'.reduce {s t u : Shape} {a : Fin s.rank} (f : s.Idx → EReal) (hf : ∀ i, Fin' (f i)) (init : u.Idx → EReal)
    (hi : ∀ i, init i = ⊥) (h' : s.ReducesTo [a] t) (h : s.Reduces [a] t) (hu : 0 < u.numel) (hn : 0 < s.size a) (j : t.Idx) :
    Fin' (Host.reduce (FloatOps.maximumf (F := Ideal) (φ := .f32)) f init h' hu j) := by
  rw [Host.reduce_eq_fold_single _ f init h' h hu j, hi]
  haveI : Nonempty (Fin (s.size a)) := ⟨⟨0, hn⟩⟩
  exact Fin'.top _ fun i => hf _

theorem div_real (a b : ℝ) (h : b ≠ 0) : Ideal.div (a : EReal) (b : EReal) = ((a / b : ℝ) : EReal) := by
  rw [Ideal.div_coe h, ← EReal.coe_mul, mul_one_div]

section Row

variable {ι : Type*} [Fintype ι] [Nonempty ι]

/-- The weight of key `j` among scores `s`. -/
def soft (s : ι → ℝ) (j : ι) : ℝ := Real.exp (s j) / ∑ i, Real.exp (s i)

theorem exp_sum_pos (s : ι → ℝ) (m : ℝ) : 0 < ∑ i, Real.exp (s i - m) :=
  Finset.sum_pos (fun i _ => Real.exp_pos _) Finset.univ_nonempty

theorem exp_shift (s m : ℝ) : Ideal.exp ((s : EReal) - (m : EReal)) = ((Real.exp (s - m) : ℝ) : EReal) := by
  rw [← EReal.coe_sub, Ideal.exp_coe]

theorem exp_shift_sum (s : ι → ℝ) (m : ℝ) :
    ∑ i, Ideal.exp ((s i : EReal) - (m : EReal)) = ((∑ i, Real.exp (s i - m) : ℝ) : EReal) := by
  rw [coe_sum]; exact Finset.sum_congr rfl fun i _ => exp_shift _ _

theorem soft_shift (s : ι → ℝ) (m : ℝ) (j : ι) : Real.exp (s j - m) / ∑ i, Real.exp (s i - m) = soft s j := by
  have h : ∑ i, Real.exp (s i - m) = (∑ i, Real.exp (s i)) / Real.exp m := by
    rw [Finset.sum_div]; exact Finset.sum_congr rfl fun i _ => Real.exp_sub _ _
  rw [h, Real.exp_sub, soft, div_div_div_cancel_right₀ (Real.exp_pos m).ne']

/-- The weight as quotient of a shifted exponential by the sum of them. -/
theorem weight (s : ι → ℝ) (m : ℝ) (j : ι) :
    Ideal.div (Ideal.exp ((s j : EReal) - (m : EReal))) (∑ i, Ideal.exp ((s i : EReal) - (m : EReal))) = ((soft s j : ℝ) : EReal) := by
  rw [exp_shift, exp_shift_sum, div_real _ _ (exp_sum_pos s m).ne', soft_shift]

/-- The weight from the logarithm of the sum. -/
theorem weight_log (s : ι → ℝ) (m : ℝ) (j : ι) :
    Ideal.exp ((s j : EReal) - (Ideal.log (∑ i, Ideal.exp ((s i : EReal) - (m : EReal))) + (m : EReal))) = ((soft s j : ℝ) : EReal) := by
  have h := exp_sum_pos s m
  rw [exp_shift_sum, Ideal.log_coe, if_neg (not_le.2 h), ← EReal.coe_add, exp_shift, ← soft_shift s m j, ← sub_sub, sub_right_comm,
    Real.exp_sub (s j - m), Real.exp_log h]

theorem soft_sum_mul (s : ι → ℝ) (m : ℝ) (b : ι → ℝ) :
    ∑ i, b i * (1 / ((∑ i, Real.exp (s i - m)) * (∑ i, Real.exp (s i - m)))) * Real.exp (s i - m)
      = (∑ i, soft s i * b i) / ∑ i, Real.exp (s i - m) := by
  rw [Finset.sum_div]
  refine Finset.sum_congr rfl fun i _ => ?_
  rw [← soft_shift s m i]
  have h := (exp_sum_pos s m).ne'
  field_simp

/-- The gradient of the scores, as differentiation of the quotient gives it. -/
theorem grad (s : ι → ℝ) (m : ℝ) (b : ι → ℝ) (j : ι) :
    (Ideal.div (b j : EReal) (∑ i, Ideal.exp ((s i : EReal) - (m : EReal)))
        + - ∑ i, (b i : EReal) * Ideal.div 1 ((∑ i, Ideal.exp ((s i : EReal) - (m : EReal))) * (∑ i, Ideal.exp ((s i : EReal) - (m : EReal))))
            * Ideal.exp ((s i : EReal) - (m : EReal))) * Ideal.exp ((s j : EReal) - (m : EReal))
      = ((soft s j * (b j - ∑ i, soft s i * b i) : ℝ) : EReal) := by
  have h := exp_sum_pos s m
  have h2 : (∑ i, Real.exp (s i - m)) * (∑ i, Real.exp (s i - m)) ≠ 0 := mul_ne_zero h.ne' h.ne'
  rw [exp_shift_sum, div_real _ _ h.ne', ← EReal.coe_mul, ← EReal.coe_one, div_real _ _ h2, exp_shift]
  have e : ∑ i, (b i : EReal) * ((1 / ((∑ i, Real.exp (s i - m)) * (∑ i, Real.exp (s i - m))) : ℝ) : EReal)
        * Ideal.exp ((s i : EReal) - (m : EReal)) = (((∑ i, soft s i * b i) / ∑ i, Real.exp (s i - m) : ℝ) : EReal) := by
    rw [← soft_sum_mul s m b, coe_sum]
    refine Finset.sum_congr rfl fun i _ => ?_
    rw [exp_shift, EReal.coe_mul, EReal.coe_mul]
  rw [e, ← EReal.coe_neg, ← EReal.coe_add, ← EReal.coe_mul, ← soft_shift s m j]
  congr 1
  have := h.ne'
  field_simp
  ring

/-- The gradient of the scores from the output: the sum over the lanes of the output times its gradient is the weighted mean of
    the gradients of the weights. -/
theorem mean {κ : Type*} [Fintype κ] (a : ι → ℝ) (o : κ → ℝ) (v : ι → κ → ℝ) :
    ∑ d, o d * ∑ i, v i d * a i = ∑ i, a i * ∑ d, o d * v i d := by
  simp only [Finset.mul_sum]
  rw [Finset.sum_comm]
  exact Finset.sum_congr rfl fun i _ => Finset.sum_congr rfl fun d _ => by ring

/-! The same over extended reals that are real numbers. -/

variable {s : ι → EReal} {m m' n : EReal}

theorem weight_eq (hs : ∀ i, Fin' (s i)) (hm : Fin' m) (hn : Fin' n) (j : ι) :
    Ideal.exp (s j - (Ideal.log (∑ i, Ideal.exp (s i - m)) + m)) = Ideal.div (Ideal.exp (s j - n)) (∑ i, Ideal.exp (s i - n)) := by
  choose s' hs using hs
  obtain ⟨m', rfl⟩ := hm
  obtain ⟨n', rfl⟩ := hn
  obtain rfl : s = fun i => (s' i : EReal) := funext hs
  exact (weight_log s' m' j).trans (weight s' n' j).symm

theorem weight_fin (hs : ∀ i, Fin' (s i)) (hm : Fin' m) (j : ι) : Fin' (Ideal.div (Ideal.exp (s j - m)) (∑ i, Ideal.exp (s i - m))) := by
  choose s' hs using hs
  obtain ⟨m', rfl⟩ := hm
  obtain rfl : s = fun i => (s' i : EReal) := funext hs
  exact ⟨_, weight s' m' j⟩

/-- The gradient of a row's scores: the form with the output and the logarithm, and the form that differentiates the quotient. -/
theorem grad_eq {κ : Type*} [Fintype κ] {w : κ → EReal} {v : ι → κ → EReal} {n' : EReal} (hs : ∀ i, Fin' (s i)) (hm : Fin' m) (hn : Fin' n) (hn' : Fin' n')
    (hw : ∀ d, Fin' (w d)) (hv : ∀ i d, Fin' (v i d)) (j : ι) :
    Ideal.exp (s j - (Ideal.log (∑ i, Ideal.exp (s i - m)) + m))
        * (∑ d, w d * v j d - ∑ d, w d * ∑ i, v i d * Ideal.div (Ideal.exp (s i - n')) (∑ i, Ideal.exp (s i - n')))
      = (Ideal.div (∑ d, w d * v j d) (∑ i, Ideal.exp (s i - n))
        + - ∑ i, (∑ d, w d * v i d) * Ideal.div 1 ((∑ i, Ideal.exp (s i - n)) * (∑ i, Ideal.exp (s i - n))) * Ideal.exp (s i - n)) * Ideal.exp (s j - n) := by
  choose s' hs using hs
  choose w' hw using hw
  choose v' hv using hv
  obtain ⟨m', rfl⟩ := hm
  obtain ⟨n0, rfl⟩ := hn
  obtain ⟨n1, rfl⟩ := hn'
  obtain rfl : s = fun i => (s' i : EReal) := funext hs
  obtain rfl : w = fun i => (w' i : EReal) := funext hw
  obtain rfl : v = fun i d => (v' i d : EReal) := funext fun i => funext fun d => hv i d
  have hb : ∀ i, ∑ d, (w' d : EReal) * (v' i d : EReal) = ((∑ d, w' d * v' i d : ℝ) : EReal) := fun i => by
    rw [coe_sum]; exact Finset.sum_congr rfl fun d _ => (EReal.coe_mul _ _).symm
  have ho : ∑ d, (w' d : EReal) * ∑ i, (v' i d : EReal) * Ideal.div (Ideal.exp ((s' i : EReal) - (n1 : EReal))) (∑ i, Ideal.exp ((s' i : EReal) - (n1 : EReal)))
      = ((∑ i, soft s' i * ∑ d, w' d * v' i d : ℝ) : EReal) := by
    rw [← mean (soft s') w' v', coe_sum]
    refine Finset.sum_congr rfl fun d _ => ?_
    rw [EReal.coe_mul, coe_sum]
    refine congrArg (fun t => (w' d : EReal) * t) (Finset.sum_congr rfl fun i _ => ?_)
    rw [weight s' n1 i, EReal.coe_mul]
  dsimp only
  simp only [hb]
  rw [ho, weight_log s' m' j, grad s' n0 (fun i => ∑ d, w' d * v' i d) j, ← EReal.coe_sub, ← EReal.coe_mul]

end Row

/-! ## The gate -/

/-- The logistic function of a real number, as a quotient. -/
theorem sig_coe (g : ℝ) : Ideal.div 1 (1 + Ideal.exp (-(g : EReal))) = ((1 / (1 + Real.exp (-g)) : ℝ) : EReal) := by
  rw [← EReal.coe_neg, Ideal.exp_coe, ← EReal.coe_one, ← EReal.coe_add, div_real _ _ (by positivity)]

/-- The gate's gradient, in its two forms. -/
theorem gate_eq {g o w : EReal} (hg : Fin' g) (ho : Fin' o) (hw : Fin' w) :
    w * o * (Ideal.div 1 (1 + Ideal.exp (0 - g)) * (1 + g * (1 - Ideal.div 1 (1 + Ideal.exp (0 - g)))))
      = o * w * Ideal.div 1 (1 + Ideal.exp (-g))
        + g * (o * w) * (Ideal.div 1 (1 + Ideal.exp (-g)) * (1 - Ideal.div 1 (1 + Ideal.exp (-g)))) := by
  obtain ⟨g, rfl⟩ := hg
  obtain ⟨o, rfl⟩ := ho
  obtain ⟨w, rfl⟩ := hw
  rw [zero_sub, sig_coe, ← EReal.coe_one]
  simp only [← EReal.coe_sub, ← EReal.coe_mul, ← EReal.coe_add]
  congr 1
  ring

theorem silu_fin {g w : EReal} (hg : Fin' g) (hw : Fin' w) : Fin' (w * (g * Ideal.div 1 (1 + Ideal.exp (-g)))) := by
  obtain ⟨g, rfl⟩ := hg
  rw [sig_coe]
  exact hw.mul ((Fin'.coe g).mul (Fin'.coe _))

/-- A finite word's absolute value is below `⊤` only for a real number. -/
theorem Fin'.of_abs {x : EReal} (h : max x (-x) < ⊤) : Fin' x := by
  induction x with
  | bot => simp at h
  | top => simp at h
  | coe r => exact ⟨r, rfl⟩

end Cert.Attn

end
-- ==== Proof.Ref.lean ====
/-
  The reference's stages read at an index: the forward pass of each part, its gradient, and the four results.
-/
module

public import proofs.«01_k».proof.Proof.Cols
public import proofs.«01_k».proof.Proof.Gen.ReferenceIdeal.Read
public import Idealize.ShloMosaic.Lib.Claim
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.ReferenceIdeal.Read
open Cert.Attn

variable (x : FVec Ideal S4352x1536 .bf16) (p : FVec Ideal S4352x2560 .f32) (w : FVec Ideal S4352x1024 .f32)

theorem q_apply (a : Fin 4352) (kv : Fin 2) (g : Fin 4) (d : Fin 128) : val_main_v5 (F := Ideal) x (ix4 a kv g d) = x (ix2 a (cQ' kv g d)) := by
  pointwise [val_main_v5, val_main_v2, val_main_v1, cQ']
  exact congrArg (fun i => x (ix2 _ i)) (Fin.ext (by show _ = _; dsimp only; omega))
theorem k_apply (s : Fin 4352) (kv : Fin 2) (d : Fin 128) : val_main_v6 (F := Ideal) x (ix3 s kv d) = x (ix2 s (cKey kv d)) := by
  pointwise [val_main_v6, val_main_v3, val_main_v1, cKey]
  exact congrArg (fun i => x (ix2 _ i)) (Fin.ext (by show _ = _; dsimp only; omega))
theorem v_apply (s : Fin 4352) (kv : Fin 2) (d : Fin 128) : val_main_v7 (F := Ideal) x (ix3 s kv d) = x (ix2 s (cVal kv d)) := by
  pointwise [val_main_v7, val_main_v4, val_main_v1, cVal]
  exact congrArg (fun i => x (ix2 _ i)) (Fin.ext (by show _ = _; dsimp only; omega))

/-- The gradient of the attention's output. -/
theorem dO_apply (a : Fin 4352) (kv : Fin 2) (g : Fin 4) (d : Fin 128) :
    val_main_v82 (F := Ideal) p w (ix2 a (cQ kv g d)) = w (ix2 a (cQ kv g d)) * val_main_v79_0 (F := Ideal) p (ix2 a (cQ kv g d)) := by
  pointwise [val_main_v82]

/-! ## The latent rows -/

theorem qrowL (a : Fin 4096) (kv : Fin 2) (g : Fin 4) (d : Fin 128) : val_main_v8 (F := Ideal) x (ix4 a kv g d) = val_main_v5 (F := Ideal) x (ix4 ⟨256 + a.val, by omega⟩ kv g d) := by
  pointwise [val_main_v8]
theorem scoreL (kv : Fin 2) (g : Fin 4) (a : Fin 4096) (s : Fin 4352) :
    val_main_v10 (F := Ideal) x (ix4 kv g a s) = ∑ d : Fin 128, val_main_v6 (F := Ideal) x (ix3 s kv d) * val_main_v8 (F := Ideal) x (ix4 a kv g d) := by
  pointwise [val_main_v10, val_main_v9]
theorem exL (kv : Fin 2) (g : Fin 4) (a : Fin 4096) (s : Fin 4352) :
    val_main_v31 (F := Ideal) x (ix4 kv g a s) = Ideal.exp (val_main_v10 (F := Ideal) x (ix4 kv g a s) - val_main_v18 (F := Ideal) x (ix3 kv g a)) := by
  pointwise [val_main_v31, val_main_v30, val_main_v29, val_main_v28]
theorem totL (kv : Fin 2) (g : Fin 4) (a : Fin 4096) :
    val_main_v32 (F := Ideal) x (ix3 kv g a) = ∑ s : Fin 4352, val_main_v31 (F := Ideal) x (ix4 kv g a s) := by
  pointwise [val_main_v32, val_main_cst_7]
theorem attL (kv : Fin 2) (g : Fin 4) (a : Fin 4096) (s : Fin 4352) :
    val_main_v35 (F := Ideal) x (ix4 kv g a s) = Ideal.div (val_main_v31 (F := Ideal) x (ix4 kv g a s)) (val_main_v32 (F := Ideal) x (ix3 kv g a)) := by
  pointwise [val_main_v35, val_main_v34, val_main_v33]
theorem mixL (kv : Fin 2) (g : Fin 4) (a : Fin 4096) (d : Fin 128) :
    val_main_v41 (F := Ideal) x (ix2 a (cQ kv g d)) = ∑ s : Fin 4352, val_main_v7 (F := Ideal) x (ix3 s kv d) * val_main_v35 (F := Ideal) x (ix4 kv g a s) := by
  pointwise [val_main_v41, val_main_v40, val_main_v39, cQ]
theorem dPL (kv : Fin 2) (g : Fin 4) (a : Fin 4096) (s : Fin 4352) :
    val_main_v113 (F := Ideal) x p w (ix4 kv g a s) = ∑ d : Fin 128, val_main_v82 (F := Ideal) p w (ix2 ⟨256 + a.val, by omega⟩ (cQ kv g d)) * val_main_v7 (F := Ideal) x (ix3 s kv d) := by
  pointwise [val_main_v113, val_main_v112, val_main_v111, val_main_v85, cQ]
  simp only [Nat.mul_comm]
theorem dVL (kv : Fin 2) (s : Fin 4352) (d : Fin 128) :
    val_main_v115 (F := Ideal) x p w (ix3 s kv d) = ∑ g : Fin 4, ∑ a : Fin 4096, val_main_v82 (F := Ideal) p w (ix2 ⟨256 + a.val, by omega⟩ (cQ kv g d)) * val_main_v35 (F := Ideal) x (ix4 kv g a s) := by
  pointwise [val_main_v115, val_main_v114, val_main_v112, val_main_v111, val_main_v85, cQ]
  simp only [Nat.mul_comm]
theorem remL (kv : Fin 2) (g : Fin 4) (a : Fin 4096) :
    val_main_v125 (F := Ideal) x p w (ix3 kv g a) = - ∑ s : Fin 4352, val_main_v113 (F := Ideal) x p w (ix4 kv g a s) * (Ideal.div 1 (val_main_v32 (F := Ideal) x (ix3 kv g a) * val_main_v32 (F := Ideal) x (ix3 kv g a))) * val_main_v31 (F := Ideal) x (ix4 kv g a s) := by
  pointwise [val_main_v125, val_main_cst_25, val_main_v122, val_main_v121, val_main_v120, val_main_cst_24, val_main_v119, val_main_v118, val_main_v117, val_main_v38, val_main_v37, val_main_cst_8, val_main_v36, val_main_v33]
  simp only [Finset.univ_unique, Finset.sum_singleton]
theorem dSL (kv : Fin 2) (g : Fin 4) (a : Fin 4096) (s : Fin 4352) :
    val_main_v128 (F := Ideal) x p w (ix4 kv g a s) = (Ideal.div (val_main_v113 (F := Ideal) x p w (ix4 kv g a s)) (val_main_v32 (F := Ideal) x (ix3 kv g a)) + val_main_v125 (F := Ideal) x p w (ix3 kv g a)) * val_main_v31 (F := Ideal) x (ix4 kv g a s) := by
  pointwise [val_main_v128, val_main_v127, val_main_v126, val_main_v124, val_main_v123, val_main_v33]
theorem dQL (a : Fin 4096) (kv : Fin 2) (g : Fin 4) (d : Fin 128) :
    val_main_v131 (F := Ideal) x p w (ix4 a kv g d) = ∑ s : Fin 4352, val_main_v128 (F := Ideal) x p w (ix4 kv g a s) * val_main_v6 (F := Ideal) x (ix3 s kv d) := by
  pointwise [val_main_v131, val_main_v130, val_main_v129]
theorem dKL (s : Fin 4352) (kv : Fin 2) (d : Fin 128) :
    val_main_v133 (F := Ideal) x p w (ix3 s kv d) = ∑ g : Fin 4, ∑ a : Fin 4096, val_main_v128 (F := Ideal) x p w (ix4 kv g a s) * val_main_v8 (F := Ideal) x (ix4 a kv g d) := by
  pointwise [val_main_v133, val_main_v132, val_main_v129]
  exact Finset.sum_comm

/-! ## The context rows -/

theorem qrowC (a : Fin 256) (kv : Fin 2) (g : Fin 4) (d : Fin 128) : val_main_v42 (F := Ideal) x (ix4 a kv g d) = val_main_v5 (F := Ideal) x (ix4 ⟨0 + a.val, by omega⟩ kv g d) := by
  pointwise [val_main_v42]
theorem scoreC (kv : Fin 2) (g : Fin 4) (a : Fin 256) (s : Fin 256) :
    val_main_v46 (F := Ideal) x (ix4 kv g a s) = ∑ d : Fin 128, val_main_v43 (F := Ideal) x (ix3 s kv d) * val_main_v42 (F := Ideal) x (ix4 a kv g d) := by
  pointwise [val_main_v46, val_main_v45]
theorem exC (kv : Fin 2) (g : Fin 4) (a : Fin 256) (s : Fin 256) :
    val_main_v67 (F := Ideal) x (ix4 kv g a s) = Ideal.exp (val_main_v46 (F := Ideal) x (ix4 kv g a s) - val_main_v54 (F := Ideal) x (ix3 kv g a)) := by
  pointwise [val_main_v67, val_main_v66, val_main_v65, val_main_v64]
theorem totC (kv : Fin 2) (g : Fin 4) (a : Fin 256) :
    val_main_v68 (F := Ideal) x (ix3 kv g a) = ∑ s : Fin 256, val_main_v67 (F := Ideal) x (ix4 kv g a s) := by
  pointwise [val_main_v68, val_main_cst_17]
theorem attC (kv : Fin 2) (g : Fin 4) (a : Fin 256) (s : Fin 256) :
    val_main_v71 (F := Ideal) x (ix4 kv g a s) = Ideal.div (val_main_v67 (F := Ideal) x (ix4 kv g a s)) (val_main_v68 (F := Ideal) x (ix3 kv g a)) := by
  pointwise [val_main_v71, val_main_v70, val_main_v69]
theorem mixC (kv : Fin 2) (g : Fin 4) (a : Fin 256) (d : Fin 128) :
    val_main_v77 (F := Ideal) x (ix2 a (cQ kv g d)) = ∑ s : Fin 256, val_main_v44 (F := Ideal) x (ix3 s kv d) * val_main_v71 (F := Ideal) x (ix4 kv g a s) := by
  pointwise [val_main_v77, val_main_v76, val_main_v75, cQ]
theorem dPC (kv : Fin 2) (g : Fin 4) (a : Fin 256) (s : Fin 256) :
    val_main_v88 (F := Ideal) x p w (ix4 kv g a s) = ∑ d : Fin 128, val_main_v82 (F := Ideal) p w (ix2 ⟨0 + a.val, by omega⟩ (cQ kv g d)) * val_main_v44 (F := Ideal) x (ix3 s kv d) := by
  pointwise [val_main_v88, val_main_v87, val_main_v86, val_main_v84, cQ]
  simp only [Nat.mul_comm]
theorem dVC (kv : Fin 2) (s : Fin 256) (d : Fin 128) :
    val_main_v90 (F := Ideal) x p w (ix3 s kv d) = ∑ g : Fin 4, ∑ a : Fin 256, val_main_v82 (F := Ideal) p w (ix2 ⟨0 + a.val, by omega⟩ (cQ kv g d)) * val_main_v71 (F := Ideal) x (ix4 kv g a s) := by
  pointwise [val_main_v90, val_main_v89, val_main_v87, val_main_v86, val_main_v84, cQ]
  simp only [Nat.mul_comm]
theorem remC (kv : Fin 2) (g : Fin 4) (a : Fin 256) :
    val_main_v99 (F := Ideal) x p w (ix3 kv g a) = - ∑ s : Fin 256, val_main_v88 (F := Ideal) x p w (ix4 kv g a s) * (Ideal.div 1 (val_main_v68 (F := Ideal) x (ix3 kv g a) * val_main_v68 (F := Ideal) x (ix3 kv g a))) * val_main_v67 (F := Ideal) x (ix4 kv g a s) := by
  pointwise [val_main_v99, val_main_cst_20, val_main_v96, val_main_v95, val_main_v94, val_main_cst_19, val_main_v93, val_main_v92, val_main_v91, val_main_v74, val_main_v73, val_main_cst_18, val_main_v72, val_main_v69]
  simp only [Finset.univ_unique, Finset.sum_singleton]
theorem dSC (kv : Fin 2) (g : Fin 4) (a : Fin 256) (s : Fin 256) :
    val_main_v102 (F := Ideal) x p w (ix4 kv g a s) = (Ideal.div (val_main_v88 (F := Ideal) x p w (ix4 kv g a s)) (val_main_v68 (F := Ideal) x (ix3 kv g a)) + val_main_v99 (F := Ideal) x p w (ix3 kv g a)) * val_main_v67 (F := Ideal) x (ix4 kv g a s) := by
  pointwise [val_main_v102, val_main_v101, val_main_v100, val_main_v98, val_main_v97, val_main_v69]
theorem dQC (a : Fin 256) (kv : Fin 2) (g : Fin 4) (d : Fin 128) :
    val_main_v105 (F := Ideal) x p w (ix4 a kv g d) = ∑ s : Fin 256, val_main_v102 (F := Ideal) x p w (ix4 kv g a s) * val_main_v43 (F := Ideal) x (ix3 s kv d) := by
  pointwise [val_main_v105, val_main_v104, val_main_v103]
theorem dKC (s : Fin 256) (kv : Fin 2) (d : Fin 128) :
    val_main_v107 (F := Ideal) x p w (ix3 s kv d) = ∑ g : Fin 4, ∑ a : Fin 256, val_main_v102 (F := Ideal) x p w (ix4 kv g a s) * val_main_v42 (F := Ideal) x (ix4 a kv g d) := by
  pointwise [val_main_v107, val_main_v106, val_main_v103]
  exact Finset.sum_comm

/-! ## The results -/

theorem dq_low (r : Fin 256) (kv : Fin 2) (g : Fin 4) (d : Fin 128) :
    val_main_v140 (F := Ideal) x p w (ix2 ⟨r.val, by omega⟩ (cQ kv g d)) = val_main_v105 (F := Ideal) x p w (ix4 r kv g d) := by
  pointwise [val_main_v140, val_main_v136, val_main_v135, val_main_v110, val_main_cst_26, cQ]
  rw [dif_neg (fun h => h.1), add_zero]
theorem dq_high (r : Fin 4096) (kv : Fin 2) (g : Fin 4) (d : Fin 128) :
    val_main_v140 (F := Ideal) x p w (ix2 ⟨256 + r.val, by omega⟩ (cQ kv g d)) = val_main_v131 (F := Ideal) x p w (ix4 r kv g d) := by
  pointwise [val_main_v140, val_main_v136, val_main_v135, val_main_v110, val_main_cst_23, cQ]
theorem dk_low (r : Fin 256) (kv : Fin 2) (d : Fin 128) :
    val_main_v141 (F := Ideal) x p w (ix2 ⟨r.val, by omega⟩ (cOut kv d)) = val_main_v107 (F := Ideal) x p w (ix3 r kv d) + val_main_v133 (F := Ideal) x p w (ix3 ⟨r.val, by omega⟩ kv d) := by
  pointwise [val_main_v141, val_main_v134, val_main_v109, cOut]
theorem dk_high (r : Fin 4096) (kv : Fin 2) (d : Fin 128) :
    val_main_v141 (F := Ideal) x p w (ix2 ⟨256 + r.val, by omega⟩ (cOut kv d)) = val_main_v133 (F := Ideal) x p w (ix3 ⟨256 + r.val, by omega⟩ kv d) := by
  pointwise [val_main_v141, val_main_v134, val_main_v109, val_main_cst_22, cOut]
theorem dv_low (r : Fin 256) (kv : Fin 2) (d : Fin 128) :
    val_main_v142 (F := Ideal) x p w (ix2 ⟨r.val, by omega⟩ (cOut kv d)) = val_main_v90 (F := Ideal) x p w (ix3 r kv d) + val_main_v115 (F := Ideal) x p w (ix3 ⟨r.val, by omega⟩ kv d) := by
  pointwise [val_main_v142, val_main_v116, val_main_v108, cOut]
theorem dv_high (r : Fin 4096) (kv : Fin 2) (d : Fin 128) :
    val_main_v142 (F := Ideal) x p w (ix2 ⟨256 + r.val, by omega⟩ (cOut kv d)) = val_main_v115 (F := Ideal) x p w (ix3 ⟨256 + r.val, by omega⟩ kv d) := by
  pointwise [val_main_v142, val_main_v116, val_main_v108, val_main_cst_21, cOut]
theorem dg_right (a : Fin 4352) (b : Fin 1024) :
    val_main_v139 (F := Ideal) x p w (ix2 a ⟨1536 + b.val, by omega⟩) = val_main_v83 (F := Ideal) x p w (ix2 a b) := by
  pointwise [val_main_v139, val_main_v138, val_main_v137]
theorem silu_apply (a : Fin 4352) (b : Fin 1024) :
    val_main_v79_0 (F := Ideal) p (ix2 a b)
      = p (ix2 a ⟨1536 + b.val, by omega⟩) * Ideal.div 1 (1 + Ideal.exp (-p (ix2 a ⟨1536 + b.val, by omega⟩))) := by
  pointwise [val_main_v79_0, val_main_v79_2, val_main_v0, val_main_call0_v0, val_main_call0_v1, val_main_call0_cst, val_main_call0_v2, val_main_call0_v3, val_main_call0_cst_0, val_main_call0_v4]
theorem gate_apply (a : Fin 4352) (b : Fin 1024) :
    val_main_v83 (F := Ideal) x p w (ix2 a b)
      = val_main_v78 (F := Ideal) x (ix2 a b) * w (ix2 a b) * Ideal.div 1 (1 + Ideal.exp (-p (ix2 a ⟨1536 + b.val, by omega⟩)))
        + p (ix2 a ⟨1536 + b.val, by omega⟩) * (val_main_v78 (F := Ideal) x (ix2 a b) * w (ix2 a b)) * (Ideal.div 1 (1 + Ideal.exp (-p (ix2 a ⟨1536 + b.val, by omega⟩))) * (1 - Ideal.div 1 (1 + Ideal.exp (-p (ix2 a ⟨1536 + b.val, by omega⟩))))) := by
  pointwise [val_main_v83, val_main_v79_1, val_main_v79_2, val_main_v81, val_main_v0, val_main_call1_v0, val_main_call1_v1, val_main_call1_v2, val_main_call0_v0, val_main_call0_v1, val_main_call0_cst, val_main_call0_v2, val_main_call0_v3, val_main_call0_cst_0, val_main_call0_v4, val_main_call0_cst_1, val_main_call0_v6, val_main_call0_v7]
theorem out_low (r : Fin 256) (b : Fin 1024) :
    val_main_v78 (F := Ideal) x (ix2 ⟨r.val, by omega⟩ b) = val_main_v77 (F := Ideal) x (ix2 r b) := by
  pointwise [val_main_v78]
theorem out_high (r : Fin 4096) (b : Fin 1024) :
    val_main_v78 (F := Ideal) x (ix2 ⟨256 + r.val, by omega⟩ b) = val_main_v41 (F := Ideal) x (ix2 r b) := by
  pointwise [val_main_v78]
theorem kC_apply (s : Fin 256) (kv : Fin 2) (d : Fin 128) : val_main_v43 (F := Ideal) x (ix3 s kv d) = x (ix2 ⟨s.val, by omega⟩ (cKey kv d)) := by
  refine Eq.trans ?_ (k_apply x _ kv d)
  pointwise [val_main_v43]
theorem vC_apply (s : Fin 256) (kv : Fin 2) (d : Fin 128) : val_main_v44 (F := Ideal) x (ix3 s kv d) = x (ix2 ⟨s.val, by omega⟩ (cVal kv d)) := by
  refine Eq.trans ?_ (v_apply x _ kv d)
  pointwise [val_main_v44]

end Cert.ReferenceIdeal.Val
end
-- ==== Proof.Agree.lean ====
/-
  The kernel's terms are the reference's: the output, the weights and the score gradients of each part, over real arguments.
-/
module

public import proofs.«01_k».proof.Proof.Final
public import proofs.«01_k».proof.Proof.Prelude
public import proofs.«01_k».proof.Proof.Rows
public import proofs.«01_k».proof.Proof.Ref

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.Read
open Cert.Attn

variable (x : FVec Ideal S4352x1536 .bf16) (p : FVec Ideal S4352x2560 .f32) (w : FVec Ideal S4352x1024 .f32)

/-- The attention's output, by the same operations on both sides. -/
theorem o_eq : stack (oC x) (oL x) = val_main_v78 (F := Ideal) x := rfl

/-- The gradient of the attention's output. -/
theorem aO_eq (kv : Fin 2) (g : Fin 4) (t : Fin 4352) (d : Fin 128) : aO p w kv g t d = val_main_v82 (F := Ideal) p w (ix2 t (cQ kv g d)) := by
  rw [Cert.ReferenceIdeal.Val.dO_apply, Cert.ReferenceIdeal.Val.silu_apply]
  unfold aO dO
  rw [zero_sub]
  rfl

theorem v82_fin (hp : ∀ i, Fin' (p i)) (hw : ∀ i, Fin' (w i)) (t : Fin 4352) (kv : Fin 2) (g : Fin 4) (d : Fin 128) :
    Fin' (val_main_v82 (F := Ideal) p w (ix2 t (cQ kv g d))) := by
  rw [Cert.ReferenceIdeal.Val.dO_apply, Cert.ReferenceIdeal.Val.silu_apply]
  exact silu_fin (hp _) (hw _)

/-- The logarithms of the row sums. -/
abbrev lse : FVec Ideal S4352x1024 .f32 :=
  stack (lC' (scoreC (lowRows (kf x)) (qrowC (qf x)))) (lL' (scoreL (kf x) (qrowL (qf x))))

/-! ## The latent rows -/

theorem rowLogL (r : Fin 4096) (kv : Fin 2) (g : Fin 4) (d : Fin 128) :
    lse x (ix2 ⟨256 + r.val, by omega⟩ (cQ kv g d))
      = Ideal.log (∑ s : Fin 4352, Ideal.exp (val_main_v10 (F := Ideal) x (ix4 kv g r s) - val_main_v11 (F := Ideal) x (ix3 kv g r))) + val_main_v11 (F := Ideal) x (ix3 kv g r) := by
  refine (stack_high' _ _ r (cQ kv g d)).trans ?_
  refine (lseL_apply _ _ kv g r d).trans ?_
  refine congrArg₂ (fun a b => Ideal.log a + b) ((totL_apply _ kv g r).trans (Finset.sum_congr rfl fun s _ => exL_apply _ _ kv g r s)) rfl

theorem scoreL_eq (kv : Fin 2) (g : Fin 4) (r : Fin 4096) (s : Fin 4352) :
    ∑ d, x (ix2 ⟨256 + r.val, by omega⟩ (cQ' kv g d)) * x (ix2 s (cKey kv d)) = val_main_v10 (F := Ideal) x (ix4 kv g r s) := by
  rw [Cert.ReferenceIdeal.Val.scoreL]
  refine Finset.sum_congr rfl fun d _ => ?_
  rw [Cert.ReferenceIdeal.Val.k_apply, Cert.ReferenceIdeal.Val.qrowL, Cert.ReferenceIdeal.Val.q_apply, mul_comm]

theorem scoreL_fin (hx : ∀ i, Fin' (x i)) (kv : Fin 2) (g : Fin 4) (r : Fin 4096) (s : Fin 4352) : Fin' (val_main_v10 (F := Ideal) x (ix4 kv g r s)) := by
  rw [← scoreL_eq]
  exact Fin'.sum fun d => (hx _).mul (hx _)

theorem topL_fin (hx : ∀ i, Fin' (x i)) (kv : Fin 2) (g : Fin 4) (r : Fin 4096) : Fin' (val_main_v11 (F := Ideal) x (ix3 kv g r)) := by
  have h : S2x4x4096x4352.Reduces [3] S2x4x4096 := by decide
  have hf : ∀ i, Fin' (val_main_v10 (F := Ideal) x i) := fun i => by
    obtain ⟨kv, g, r, s, rfl⟩ : ∃ kv g r s, i = ix4 kv g r s := ⟨i 0, i 1, i 2, i 3, by
      funext d; match d with | ⟨0, _⟩ => rfl | ⟨1, _⟩ => rfl | ⟨2, _⟩ => rfl | ⟨3, _⟩ => rfl⟩
    exact scoreL_fin x hx kv g r s
  unfold val_main_v11
  generalize val_main_v10 (F := Ideal) x = y at hf
  exact Fin'.reduce y hf _ (fun _ => neg_word) _ h _ (Nat.succ_pos _) _

theorem maxL_eq (kv : Fin 2) (g : Fin 4) (r : Fin 4096) : val_main_v18 (F := Ideal) x (ix3 kv g r) = val_main_v11 (F := Ideal) x (ix3 kv g r) := by
  rw [val_main_v18_apply, val_main_v17_apply, val_main_cst_1_apply, neg_word]
  generalize val_main_v11 (F := Ideal) x (ix3 kv g r) = y
  exact max_eq_right bot_le

theorem maxL_fin (hx : ∀ i, Fin' (x i)) (kv : Fin 2) (g : Fin 4) (r : Fin 4096) : Fin' (val_main_v18 (F := Ideal) x (ix3 kv g r)) := by
  rw [maxL_eq]; exact topL_fin x hx kv g r

theorem totL_sum (kv : Fin 2) (g : Fin 4) (r : Fin 4096) :
    val_main_v32 (F := Ideal) x (ix3 kv g r) = ∑ s : Fin 4352, Ideal.exp (val_main_v10 (F := Ideal) x (ix4 kv g r s) - val_main_v18 (F := Ideal) x (ix3 kv g r)) :=
  (Cert.ReferenceIdeal.Val.totL x kv g r).trans (Finset.sum_congr rfl fun s _ => Cert.ReferenceIdeal.Val.exL x kv g r s)

theorem attL_quot (kv : Fin 2) (g : Fin 4) (r : Fin 4096) (s : Fin 4352) :
    val_main_v35 (F := Ideal) x (ix4 kv g r s)
      = Ideal.div (Ideal.exp (val_main_v10 (F := Ideal) x (ix4 kv g r s) - val_main_v18 (F := Ideal) x (ix3 kv g r)))
          (∑ s : Fin 4352, Ideal.exp (val_main_v10 (F := Ideal) x (ix4 kv g r s) - val_main_v18 (F := Ideal) x (ix3 kv g r))) := by
  rw [Cert.ReferenceIdeal.Val.attL, totL_sum, Cert.ReferenceIdeal.Val.exL]

theorem attL_fin (hx : ∀ i, Fin' (x i)) (kv : Fin 2) (g : Fin 4) (r : Fin 4096) (s : Fin 4352) : Fin' (val_main_v35 (F := Ideal) x (ix4 kv g r s)) := by
  rw [attL_quot]
  exact weight_fin (fun s => scoreL_fin x hx kv g r s) (maxL_fin x hx kv g r) s

/-- The weights. -/
theorem aPL (hx : ∀ i, Fin' (x i)) (kv : Fin 2) (g : Fin 4) (r : Fin 4096) (s : Fin 4352) :
    aP x (lse x) kv g ⟨256 + r.val, by omega⟩ s = val_main_v35 (F := Ideal) x (ix4 kv g r s) := by
  unfold aP pE
  rw [rowLogL, scoreL_eq, attL_quot]
  exact weight_eq (s := fun s => val_main_v10 (F := Ideal) x (ix4 kv g r s)) (fun s => scoreL_fin x hx kv g r s) (topL_fin x hx kv g r) (maxL_fin x hx kv g r) s

/-- The output, lane by lane. -/
theorem outL_sum (kv : Fin 2) (g : Fin 4) (r : Fin 4096) (d : Fin 128) :
    val_main_v78 (F := Ideal) x (ix2 ⟨256 + r.val, by omega⟩ (cQ kv g d))
      = ∑ s : Fin 4352, x (ix2 s (cVal kv d)) * Ideal.div (Ideal.exp (val_main_v10 (F := Ideal) x (ix4 kv g r s) - val_main_v18 (F := Ideal) x (ix3 kv g r)))
          (∑ s : Fin 4352, Ideal.exp (val_main_v10 (F := Ideal) x (ix4 kv g r s) - val_main_v18 (F := Ideal) x (ix3 kv g r))) := by
  rw [Cert.ReferenceIdeal.Val.out_high, Cert.ReferenceIdeal.Val.mixL]
  refine Finset.sum_congr rfl fun s _ => ?_
  rw [Cert.ReferenceIdeal.Val.v_apply, attL_quot]

theorem outL_fin (hx : ∀ i, Fin' (x i)) (kv : Fin 2) (g : Fin 4) (r : Fin 4096) (d : Fin 128) :
    Fin' (val_main_v78 (F := Ideal) x (ix2 ⟨256 + r.val, by omega⟩ (cQ kv g d))) := by
  rw [outL_sum]
  refine Fin'.sum fun s => (hx _).mul ?_
  exact weight_fin (s := fun s => val_main_v10 (F := Ideal) x (ix4 kv g r s)) (fun s => scoreL_fin x hx kv g r s) (maxL_fin x hx kv g r) s

theorem dPL_sum (kv : Fin 2) (g : Fin 4) (r : Fin 4096) (s : Fin 4352) :
    val_main_v113 (F := Ideal) x p w (ix4 kv g r s) = ∑ d : Fin 128, val_main_v82 (F := Ideal) p w (ix2 ⟨256 + r.val, by omega⟩ (cQ kv g d)) * x (ix2 s (cVal kv d)) := by
  rw [Cert.ReferenceIdeal.Val.dPL]
  refine Finset.sum_congr rfl fun d _ => ?_
  rw [Cert.ReferenceIdeal.Val.v_apply]

/-- The gradients of the scores. -/
theorem aSL (hx : ∀ i, Fin' (x i)) (hp : ∀ i, Fin' (p i)) (hw : ∀ i, Fin' (w i)) (kv : Fin 2) (g : Fin 4) (r : Fin 4096) (s : Fin 4352) :
    aS x p w (val_main_v78 (F := Ideal) x) (lse x) kv g ⟨256 + r.val, by omega⟩ s = val_main_v128 (F := Ideal) x p w (ix4 kv g r s) := by
  have e := grad_eq (s := fun s => val_main_v10 (F := Ideal) x (ix4 kv g r s)) (w := fun d => val_main_v82 (F := Ideal) p w (ix2 ⟨256 + r.val, by omega⟩ (cQ kv g d)))
    (v := fun (s : Fin 4352) d => x (ix2 s (cVal kv d)))
    (fun s => scoreL_fin x hx kv g r s) (topL_fin x hx kv g r) (maxL_fin x hx kv g r) (maxL_fin x hx kv g r)
    (fun d => v82_fin p w hp hw _ kv g d) (fun s d => hx _) s
  refine Eq.trans ?_ (e.trans ?_)
  · unfold aS dS pE
    rw [rowLogL, scoreL_eq]
    refine congrArg₂ (fun a b => Ideal.exp (val_main_v10 (F := Ideal) x (ix4 kv g r s) - _) * (a - b)) (Finset.sum_congr rfl fun d _ => ?_) (Finset.sum_congr rfl fun d _ => ?_)
    · exact congrArg (fun a => a * _) (aO_eq p w kv g _ d)
    · exact congrArg₂ (fun a b => a * b) (aO_eq p w kv g _ d) (outL_sum x kv g r d)
  · rw [Cert.ReferenceIdeal.Val.dSL, Cert.ReferenceIdeal.Val.remL, totL_sum, Cert.ReferenceIdeal.Val.exL, dPL_sum]
    refine congrArg (fun a => (Ideal.div _ _ + - a) * _) (Finset.sum_congr rfl fun i _ => ?_)
    rw [dPL_sum, Cert.ReferenceIdeal.Val.exL]

/-! ## The context rows -/

theorem rowLogC (r : Fin 256) (kv : Fin 2) (g : Fin 4) (d : Fin 128) :
    lse x (ix2 ⟨r.val, by omega⟩ (cQ kv g d))
      = Ideal.log (∑ s : Fin 256, Ideal.exp (val_main_v46 (F := Ideal) x (ix4 kv g r s) - val_main_v47 (F := Ideal) x (ix3 kv g r))) + val_main_v47 (F := Ideal) x (ix3 kv g r) := by
  refine (stack_low' _ _ r (cQ kv g d)).trans ?_
  refine (lseC_apply _ _ kv g r d).trans ?_
  refine congrArg₂ (fun a b => Ideal.log a + b) ((totC_apply _ kv g r).trans (Finset.sum_congr rfl fun s _ => exC_apply _ _ kv g r s)) rfl

theorem scoreC_eq (kv : Fin 2) (g : Fin 4) (r : Fin 256) (s : Fin 256) :
    ∑ d, x (ix2 ⟨r.val, by omega⟩ (cQ' kv g d)) * x (ix2 ⟨s.val, by omega⟩ (cKey kv d)) = val_main_v46 (F := Ideal) x (ix4 kv g r s) := by
  rw [Cert.ReferenceIdeal.Val.scoreC]
  refine Finset.sum_congr rfl fun d _ => ?_
  rw [Cert.ReferenceIdeal.Val.kC_apply, Cert.ReferenceIdeal.Val.qrowC, Cert.ReferenceIdeal.Val.q_apply, mul_comm]
  simp only [Nat.zero_add]

theorem scoreC_fin (hx : ∀ i, Fin' (x i)) (kv : Fin 2) (g : Fin 4) (r : Fin 256) (s : Fin 256) : Fin' (val_main_v46 (F := Ideal) x (ix4 kv g r s)) := by
  rw [← scoreC_eq]
  exact Fin'.sum fun d => (hx _).mul (hx _)

theorem topC_fin (hx : ∀ i, Fin' (x i)) (kv : Fin 2) (g : Fin 4) (r : Fin 256) : Fin' (val_main_v47 (F := Ideal) x (ix3 kv g r)) := by
  have h : S2x4x256x256.Reduces [3] S2x4x256 := by decide
  have hf : ∀ i, Fin' (val_main_v46 (F := Ideal) x i) := fun i => by
    obtain ⟨kv, g, r, s, rfl⟩ : ∃ kv g r s, i = ix4 kv g r s := ⟨i 0, i 1, i 2, i 3, by
      funext d; match d with | ⟨0, _⟩ => rfl | ⟨1, _⟩ => rfl | ⟨2, _⟩ => rfl | ⟨3, _⟩ => rfl⟩
    exact scoreC_fin x hx kv g r s
  unfold val_main_v47
  generalize val_main_v46 (F := Ideal) x = y at hf
  exact Fin'.reduce y hf _ (fun _ => neg_word) _ h _ (Nat.succ_pos _) _

theorem maxC_eq (kv : Fin 2) (g : Fin 4) (r : Fin 256) : val_main_v54 (F := Ideal) x (ix3 kv g r) = val_main_v47 (F := Ideal) x (ix3 kv g r) := by
  rw [val_main_v54_apply, val_main_v53_apply, val_main_cst_11_apply, neg_word]
  generalize val_main_v47 (F := Ideal) x (ix3 kv g r) = y
  exact max_eq_right bot_le

theorem maxC_fin (hx : ∀ i, Fin' (x i)) (kv : Fin 2) (g : Fin 4) (r : Fin 256) : Fin' (val_main_v54 (F := Ideal) x (ix3 kv g r)) := by
  rw [maxC_eq]; exact topC_fin x hx kv g r

theorem totC_sum (kv : Fin 2) (g : Fin 4) (r : Fin 256) :
    val_main_v68 (F := Ideal) x (ix3 kv g r) = ∑ s : Fin 256, Ideal.exp (val_main_v46 (F := Ideal) x (ix4 kv g r s) - val_main_v54 (F := Ideal) x (ix3 kv g r)) :=
  (Cert.ReferenceIdeal.Val.totC x kv g r).trans (Finset.sum_congr rfl fun s _ => Cert.ReferenceIdeal.Val.exC x kv g r s)

theorem attC_quot (kv : Fin 2) (g : Fin 4) (r : Fin 256) (s : Fin 256) :
    val_main_v71 (F := Ideal) x (ix4 kv g r s)
      = Ideal.div (Ideal.exp (val_main_v46 (F := Ideal) x (ix4 kv g r s) - val_main_v54 (F := Ideal) x (ix3 kv g r)))
          (∑ s : Fin 256, Ideal.exp (val_main_v46 (F := Ideal) x (ix4 kv g r s) - val_main_v54 (F := Ideal) x (ix3 kv g r))) := by
  rw [Cert.ReferenceIdeal.Val.attC, totC_sum, Cert.ReferenceIdeal.Val.exC]

theorem attC_fin (hx : ∀ i, Fin' (x i)) (kv : Fin 2) (g : Fin 4) (r : Fin 256) (s : Fin 256) : Fin' (val_main_v71 (F := Ideal) x (ix4 kv g r s)) := by
  rw [attC_quot]
  exact weight_fin (fun s => scoreC_fin x hx kv g r s) (maxC_fin x hx kv g r) s

/-- The weights. -/
theorem aPC (hx : ∀ i, Fin' (x i)) (kv : Fin 2) (g : Fin 4) (r : Fin 256) (s : Fin 256) :
    aP x (lse x) kv g ⟨r.val, by omega⟩ ⟨s.val, by omega⟩ = val_main_v71 (F := Ideal) x (ix4 kv g r s) := by
  unfold aP pE
  rw [rowLogC, scoreC_eq, attC_quot]
  exact weight_eq (s := fun s => val_main_v46 (F := Ideal) x (ix4 kv g r s)) (fun s => scoreC_fin x hx kv g r s) (topC_fin x hx kv g r) (maxC_fin x hx kv g r) s

/-- The output, lane by lane. -/
theorem outC_sum (kv : Fin 2) (g : Fin 4) (r : Fin 256) (d : Fin 128) :
    val_main_v78 (F := Ideal) x (ix2 ⟨r.val, by omega⟩ (cQ kv g d))
      = ∑ s : Fin 256, x (ix2 ⟨s.val, by omega⟩ (cVal kv d)) * Ideal.div (Ideal.exp (val_main_v46 (F := Ideal) x (ix4 kv g r s) - val_main_v54 (F := Ideal) x (ix3 kv g r)))
          (∑ s : Fin 256, Ideal.exp (val_main_v46 (F := Ideal) x (ix4 kv g r s) - val_main_v54 (F := Ideal) x (ix3 kv g r))) := by
  rw [Cert.ReferenceIdeal.Val.out_low, Cert.ReferenceIdeal.Val.mixC]
  refine Finset.sum_congr rfl fun s _ => ?_
  rw [Cert.ReferenceIdeal.Val.vC_apply, attC_quot]

theorem outC_fin (hx : ∀ i, Fin' (x i)) (kv : Fin 2) (g : Fin 4) (r : Fin 256) (d : Fin 128) :
    Fin' (val_main_v78 (F := Ideal) x (ix2 ⟨r.val, by omega⟩ (cQ kv g d))) := by
  rw [outC_sum]
  refine Fin'.sum fun s => (hx _).mul ?_
  exact weight_fin (s := fun s => val_main_v46 (F := Ideal) x (ix4 kv g r s)) (fun s => scoreC_fin x hx kv g r s) (maxC_fin x hx kv g r) s

theorem dPC_sum (kv : Fin 2) (g : Fin 4) (r : Fin 256) (s : Fin 256) :
    val_main_v88 (F := Ideal) x p w (ix4 kv g r s) = ∑ d : Fin 128, val_main_v82 (F := Ideal) p w (ix2 ⟨r.val, by omega⟩ (cQ kv g d)) * x (ix2 ⟨s.val, by omega⟩ (cVal kv d)) := by
  rw [Cert.ReferenceIdeal.Val.dPC]
  refine Finset.sum_congr rfl fun d _ => ?_
  rw [Cert.ReferenceIdeal.Val.vC_apply]
  simp only [Nat.zero_add]

/-- The gradients of the scores. -/
theorem aSC (hx : ∀ i, Fin' (x i)) (hp : ∀ i, Fin' (p i)) (hw : ∀ i, Fin' (w i)) (kv : Fin 2) (g : Fin 4) (r : Fin 256) (s : Fin 256) :
    aS x p w (val_main_v78 (F := Ideal) x) (lse x) kv g ⟨r.val, by omega⟩ ⟨s.val, by omega⟩ = val_main_v102 (F := Ideal) x p w (ix4 kv g r s) := by
  have e := grad_eq (s := fun s => val_main_v46 (F := Ideal) x (ix4 kv g r s)) (w := fun d => val_main_v82 (F := Ideal) p w (ix2 ⟨r.val, by omega⟩ (cQ kv g d)))
    (v := fun (s : Fin 256) d => x (ix2 ⟨s.val, by omega⟩ (cVal kv d)))
    (fun s => scoreC_fin x hx kv g r s) (topC_fin x hx kv g r) (maxC_fin x hx kv g r) (maxC_fin x hx kv g r)
    (fun d => v82_fin p w hp hw _ kv g d) (fun s d => hx _) s
  refine Eq.trans ?_ (e.trans ?_)
  · unfold aS dS pE
    rw [rowLogC, scoreC_eq]
    refine congrArg₂ (fun a b => Ideal.exp (val_main_v46 (F := Ideal) x (ix4 kv g r s) - _) * (a - b)) (Finset.sum_congr rfl fun d _ => ?_) (Finset.sum_congr rfl fun d _ => ?_)
    · exact congrArg (fun a => a * _) (aO_eq p w kv g _ d)
    · exact congrArg₂ (fun a b => a * b) (aO_eq p w kv g _ d) (outC_sum x kv g r d)
  · rw [Cert.ReferenceIdeal.Val.dSC, Cert.ReferenceIdeal.Val.remC, totC_sum, Cert.ReferenceIdeal.Val.exC, dPC_sum]
    refine congrArg (fun a => (Ideal.div _ _ + - a) * _) (Finset.sum_congr rfl fun i _ => ?_)
    rw [dPC_sum, Cert.ReferenceIdeal.Val.exC]

end Cert.KernelIdeal.Val
end
-- ==== Proof.Equal.lean ====
/-
  The kernel's four result arrays are the reference's, over real arguments.
-/
module

public import proofs.«01_k».proof.Proof.Agree
public import Idealize.ShloMosaic.Lib.StableHlo.RunRead

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.Read
open Cert.Attn

theorem sum_split (f : Fin 4352 → EReal) :
    ∑ a, f a = ∑ r : Fin 256, f ⟨r.val, by omega⟩ + ∑ r : Fin 4096, f ⟨256 + r.val, by omega⟩ :=
  Fin.sum_univ_add (M := EReal) (a := 256) (b := 4096) f

/-- A sum over the keys a latent row sees. -/
theorem seen_high (f : Fin 4352 → EReal) (r : Fin 4096) : (∑ s, if sees ⟨256 + r.val, by omega⟩ s then f s else 0) = ∑ s, f s :=
  Finset.sum_congr rfl fun s _ => if_pos (show sees _ s from fun h => by have h' : 256 + r.val < 256 := h; omega)

/-- A sum over the keys a context row sees. -/
theorem seen_low (f : Fin 4352 → EReal) (r : Fin 256) : (∑ s, if sees ⟨r.val, by omega⟩ s then f s else 0) = ∑ s : Fin 256, f ⟨s.val, by omega⟩ := by
  rw [← sum_low f ⟨r.val, by omega⟩ r.isLt]
  exact Finset.sum_congr rfl fun s _ => congrArg f (Fin.ext (Nat.zero_add _))

/-- A sum over the query rows that see a context key. -/
theorem rows_low (f : Fin 4352 → EReal) (s : Fin 256) :
    (∑ a, if sees a ⟨s.val, by omega⟩ then f a else 0) = ∑ r : Fin 256, f ⟨r.val, by omega⟩ + ∑ r : Fin 4096, f ⟨256 + r.val, by omega⟩ := by
  rw [← sum_split]
  exact Finset.sum_congr rfl fun a _ => if_pos (show sees a _ from fun _ => s.isLt)

/-- A sum over the query rows that see a latent key. -/
theorem rows_high (f : Fin 4352 → EReal) (s : Fin 4096) :
    (∑ a, if sees a ⟨256 + s.val, by omega⟩ then f a else 0) = ∑ r : Fin 4096, f ⟨256 + r.val, by omega⟩ := by
  rw [sum_split, Finset.sum_eq_zero fun r _ => if_neg fun h => by
    have h' : 256 + s.val < 256 := h r.isLt
    omega, zero_add]
  exact Finset.sum_congr rfl fun r _ => if_pos (show sees _ _ from fun h => by have h' : 256 + r.val < 256 := h; omega)

theorem row_cases (a : Fin 4352) : (∃ r : Fin 256, a = ⟨r.val, by omega⟩) ∨ ∃ r : Fin 4096, a = ⟨256 + r.val, by omega⟩ := by
  by_cases h : a.val < 256
  · exact .inl ⟨⟨a.val, h⟩, rfl⟩
  · exact .inr ⟨⟨a.val - 256, by omega⟩, Fin.ext (by show a.val = 256 + (a.val - 256); omega)⟩

theorem col_cases (b : Fin 1024) : ∃ kv g d, b = cQ kv g d :=
  ⟨⟨b.val / 512, by omega⟩, ⟨b.val % 512 / 128, by omega⟩, ⟨b.val % 128, by omega⟩, Fin.ext (by
    show b.val = 512 * (b.val / 512) + 128 * (b.val % 512 / 128) + b.val % 128; omega)⟩

theorem out_cases (b : Fin 256) : ∃ kv d, b = cOut kv d :=
  ⟨⟨b.val / 128, by omega⟩, ⟨b.val % 128, by omega⟩, Fin.ext (by show b.val = 128 * (b.val / 128) + b.val % 128; omega)⟩

section Args

variable (m : (ℓ : Loc nD τ sig) → Buf (Elt Ideal) ℓ) (c : Dev nD)

/-- The arguments' contents. -/
abbrev xA : FVec Ideal S4352x1536 .bf16 := m ((c : Thread nD τ).loc main_arg0)
abbrev pA : FVec Ideal S4352x2560 .f32 := m ((c : Thread nD τ).loc main_arg1)
abbrev wA : FVec Ideal S4352x1024 .f32 := m ((c : Thread nD τ).loc main_arg2)

theorem rQ_eq : rQ m c = xA m c := by
  unfold rQ V
  after_reads_simp
theorem rG_eq : rG m c = pA m c := by
  unfold rG V
  after_reads_simp
theorem rD_eq : rD m c = wA m c := by
  unfold rD V
  after_reads_simp
theorem rO_eq : rO m c = val_main_v78 (F := Ideal) (xA m c) := (V_o m c).trans (o_eq _)
theorem rL_eq : rL m c = lse (xA m c) := V_l m c

variable (hx : ∀ i, Fin' (xA m c i)) (hp : ∀ i, Fin' (pA m c i)) (hw : ∀ i, Fin' (wA m c i))

include hx hp hw in
/-- The queries' gradient. -/
theorem dq_eq (i : S4352x1024.Idx) : res7 m c i = val_main_v140 (F := Ideal) (xA m c) (pA m c) (wA m c) i := by
  obtain ⟨a, b, rfl⟩ : ∃ a b, i = ix2 a b := ⟨i 0, i 1, eq_ix2 i⟩
  obtain ⟨kv, g, d, rfl⟩ := col_cases b
  rw [fin7, rQ_eq, rG_eq, rD_eq, rO_eq, rL_eq]
  rcases row_cases a with ⟨r, rfl⟩ | ⟨r, rfl⟩
  · rw [seen_low, Cert.ReferenceIdeal.Val.dq_low, Cert.ReferenceIdeal.Val.dQC]
    refine Finset.sum_congr rfl fun s _ => ?_
    rw [aSC _ _ _ hx hp hw, Cert.ReferenceIdeal.Val.kC_apply]
  · rw [seen_high, Cert.ReferenceIdeal.Val.dq_high, Cert.ReferenceIdeal.Val.dQL]
    refine Finset.sum_congr rfl fun s _ => ?_
    rw [aSL _ _ _ hx hp hw, Cert.ReferenceIdeal.Val.k_apply]

include hx hp hw in
/-- The gate's gradient. -/
theorem dg_eq (a : Fin 4352) (b : Fin 2560) (hb : 1536 ≤ b.val) :
    res8 m c (ix2 a b) = val_main_v139 (F := Ideal) (xA m c) (pA m c) (wA m c) (ix2 a b) := by
  obtain ⟨b, rfl⟩ : ∃ b' : Fin 1024, b = ⟨1536 + b'.val, by clear hb; omega⟩ := ⟨⟨b.val - 1536, by omega⟩, Fin.ext (by show b.val = 1536 + (b.val - 1536); omega)⟩
  rw [fin8 m c a b _ rfl, rG_eq, rD_eq, rO_eq, Cert.ReferenceIdeal.Val.dg_right, Cert.ReferenceIdeal.Val.gate_apply]
  refine gate_eq (hp _) ?_ (hw _)
  obtain ⟨kv, g, d, rfl⟩ := col_cases b
  rcases row_cases a with ⟨r, rfl⟩ | ⟨r, rfl⟩
  · exact outC_fin _ hx kv g r d
  · exact outL_fin _ hx kv g r d

include hx hp hw in
/-- The keys' gradient. -/
theorem dk_eq (i : S4352x256.Idx) : res9 m c i = val_main_v141 (F := Ideal) (xA m c) (pA m c) (wA m c) i := by
  obtain ⟨s, b, rfl⟩ : ∃ a b, i = ix2 a b := ⟨i 0, i 1, eq_ix2 i⟩
  obtain ⟨kv, d, rfl⟩ := out_cases b
  rw [fin9, rQ_eq, rG_eq, rD_eq, rO_eq, rL_eq]
  rcases row_cases s with ⟨s, rfl⟩ | ⟨s, rfl⟩
  · rw [Cert.ReferenceIdeal.Val.dk_low, Cert.ReferenceIdeal.Val.dKC, Cert.ReferenceIdeal.Val.dKL, ← Finset.sum_add_distrib]
    refine Finset.sum_congr rfl fun g _ => ?_
    rw [rows_low]
    refine congrArg₂ (fun a b => a + b) (Finset.sum_congr rfl fun r _ => ?_) (Finset.sum_congr rfl fun r _ => ?_)
    · rw [aSC _ _ _ hx hp hw, Cert.ReferenceIdeal.Val.qrowC, Cert.ReferenceIdeal.Val.q_apply]
      simp only [Nat.zero_add]
    · rw [aSL _ _ _ hx hp hw, Cert.ReferenceIdeal.Val.qrowL, Cert.ReferenceIdeal.Val.q_apply]
  · rw [Cert.ReferenceIdeal.Val.dk_high, Cert.ReferenceIdeal.Val.dKL]
    refine Finset.sum_congr rfl fun g _ => ?_
    rw [rows_high]
    refine Finset.sum_congr rfl fun r _ => ?_
    rw [aSL _ _ _ hx hp hw, Cert.ReferenceIdeal.Val.qrowL, Cert.ReferenceIdeal.Val.q_apply]

include hx in
/-- The values' gradient. -/
theorem dv_eq (i : S4352x256.Idx) : res10 m c i = val_main_v142 (F := Ideal) (xA m c) (pA m c) (wA m c) i := by
  obtain ⟨s, b, rfl⟩ : ∃ a b, i = ix2 a b := ⟨i 0, i 1, eq_ix2 i⟩
  obtain ⟨kv, d, rfl⟩ := out_cases b
  rw [fin10, rQ_eq, rG_eq, rD_eq, rL_eq]
  rcases row_cases s with ⟨s, rfl⟩ | ⟨s, rfl⟩
  · rw [Cert.ReferenceIdeal.Val.dv_low, Cert.ReferenceIdeal.Val.dVC, Cert.ReferenceIdeal.Val.dVL, ← Finset.sum_add_distrib]
    refine Finset.sum_congr rfl fun g _ => ?_
    rw [rows_low]
    refine congrArg₂ (fun a b => a + b) (Finset.sum_congr rfl fun r _ => ?_) (Finset.sum_congr rfl fun r _ => ?_)
    · rw [aPC _ hx, aO_eq, mul_comm]
      simp only [Nat.zero_add]
    · rw [aPL _ hx, aO_eq, mul_comm]
  · rw [Cert.ReferenceIdeal.Val.dv_high, Cert.ReferenceIdeal.Val.dVL]
    refine Finset.sum_congr rfl fun g _ => ?_
    rw [rows_high]
    refine Finset.sum_congr rfl fun r _ => ?_
    rw [aPL _ hx, aO_eq, mul_comm]

end Args

end Cert.KernelIdeal.Val
end
-- ==== Proof.Masks.lean ====
/-
  What the precondition and the mask say: every argument is a real number, and the columns compared are the gate's.
-/
module

public import proofs.«01_k».proof.Proof.Equal
public import proofs.«01_k».proof.Pre_finite
public import proofs.«01_k».proof.On_gate_columns
public import Idealize.ShloMosaic.Lib.ReduceAll

@[expose] public section

set_option maxRecDepth 16384

noncomputable section

namespace Cert.Attn

open Idealize.ShloMosaic

theorem pre_facts : Cert.Pre_finite.Facts where
  bitsLt_bf16_f32 := by decide
  bcast_S_S4352x1536 := by decide
  reducesTo_S4352x1536_S_d0_1 := by decide
  h_S_ := by decide
  bcast_S_S4352x2560 := by decide
  reducesTo_S4352x2560_S_d0_1 := by decide
  bcast_S_S4352x1024 := by decide
  reducesTo_S4352x1024_S_d0_1 := by decide

theorem on_facts : Cert.On_gate_columns.Facts where
  bcast_S_S4352x1024 := by decide
  bcast_S_S4352x2560 := by decide
  bcast_S_S4352x256 := by decide

theorem pos_word : Ideal.ofBits .f32 0x7F800000#32 = ⊤ := by simp [Ideal.ofBits, Ideal.ieee]

/-- An element whose absolute value compares below the word of `⊤` is a real number. -/
theorem Fin'.of_cmp {y : EReal} (h : Ideal.cmp .olt (max y (-y)) (Ideal.ofBits .f32 0x7F800000#32) = 1#1) : Fin' y := by
  rw [pos_word] at h
  refine Fin'.of_abs ?_
  by_contra hn
  simp [Ideal.cmp, hn] at h

attribute [local instance] pre_facts in
theorem pre_fin (x : FVec Ideal Cert.Pre_finite.S4352x1536 .bf16) (p : FVec Ideal Cert.Pre_finite.S4352x2560 .f32) (w : FVec Ideal Cert.Pre_finite.S4352x1024 .f32)
    (h : ∀ j, Cert.Pre_finite.fn (F := Ideal) x p w j = 1#1) : (∀ i, Fin' (x i)) ∧ (∀ i, Fin' (p i)) ∧ ∀ i, Fin' (w i) := by
  haveI : Subsingleton Cert.Pre_finite.S_.Idx := ⟨fun a b => funext fun d => d.elim0⟩
  have h0 := h (fun a => a.elim0)
  unfold Cert.Pre_finite.fn at h0
  dsimp only at h0
  obtain ⟨h1, h3⟩ := IntOp.andi_eq_one.1 h0
  obtain ⟨h1, h2⟩ := IntOp.andi_eq_one.1 h1
  exact ⟨fun i => Fin'.of_cmp (Host.reduce_andi_all _ _ _ _ _ h1 i), fun i => Fin'.of_cmp (Host.reduce_andi_all _ _ _ _ _ h2 i),
    fun i => Fin'.of_cmp (Host.reduce_andi_all _ _ _ _ _ h3 i)⟩

attribute [local instance] on_facts in
theorem on_gate (x : FVec Ideal Cert.Pre_finite.S4352x1536 .bf16) (p : FVec Ideal Cert.Pre_finite.S4352x2560 .f32) (w : FVec Ideal Cert.Pre_finite.S4352x1024 .f32)
    (a : Fin 4352) (b : Fin 2560) (h : (Cert.On_gate_columns.fn (F := Ideal) x p w).2.1 (ix2 a b) = 1#1) : 1536 ≤ b.val := by
  unfold Cert.On_gate_columns.fn at h
  dsimp only at h
  have h' : (1536#32).toInt ≤ (BitVec.ofNat 32 b.val).toInt := IntOp.cmpi_sge.1 h
  have e : (BitVec.ofNat 32 b.val).toInt = b.val := by
    have hb := b.isLt
    rw [BitVec.toInt_eq_toNat_cond, BitVec.toNat_ofNat, Nat.mod_eq_of_lt (by omega), if_pos (by omega)]
  rw [e] at h'
  have h1 : (1536#32).toInt = 1536 := rfl
  omega

end Cert.Attn

end
-- ==== Proof.InVal.lean ====
/- The in-projection: the array that the call leaves is the reference's product. -/
module

public import proofs.«01_k».proof.Proof.Gen.InIdeal.Value
public import proofs.«01_k».proof.Proof.Gen.InRefIdeal.Read
public import Idealize.ShloMosaic.Lib.Pipeline.ValueKit
public import Idealize.ShloMosaic.Lib.StableHlo.RunRead

@[expose] public section

set_option maxRecDepth 16384

noncomputable section

namespace Cert.InIdeal.Val

open Cert.InIdeal Cert.InIdeal.Gen Idealize.ShloMosaic Idealize.ShloMosaic.TcCoe Idealize.SL.Sem
open Idealize.ShloMosaic.Pipeline (Dat)

variable (m : (ℓ : Loc nD τ sig) → Buf (Elt Ideal) ℓ)

/-- The activations and the weights of both layers. -/
def xA (c : Dev nD) : FVec Ideal S4352x1024 .bf16 := m ((c : Thread nD τ).loc main_arg0)
def wA (c : Dev nD) : FVec Ideal S2x1024x2560 .f32 := m ((c : Thread nD τ).loc main_arg1)

/-- One entry of the product with the second layer's weights. -/
def prod (x : FVec Ideal S4352x1024 .bf16) (w : FVec Ideal S2x1024x2560 .f32) (r : Fin 4352) (n : Fin 2560) : EReal :=
  ∑ k : Fin 1024, x (ix2 r k) * w (ix3 (1 : Fin 2) k n)

theorem idx : ∀ t : Fin cfg0.N, win0_0.index t = ![t.val % 2, 0] ∧ win0_1.index t = ![1, t.val / 2, 0, 0]
    ∧ win0_2.index t = ![t.val % 2, t.val / 2] :=
  (by decide +kernel : ∀ t : Fin grid0.N, _)

theorem x_blk (c : Dev nD) (t : Fin cfg0.N) (r : Fin 2176) (k : Fin 1024) (h : t.val % 2 * 2176 + r.val < 4352) :
    (iblk m c 0 t : FVec Ideal S2176x1024 .bf16) (ix2 r k) = xA m c (ix2 ⟨t.val % 2 * 2176 + r.val, h⟩ k) := by
  unfold xA
  blk_ext [iblk, V, idx t]

theorem w_arr (c : Dev nD) (l : Fin 2) (j : Fin 4) (k : Fin 1024) (n : Fin 640) (h : j.val * 640 + n.val < 2560) :
    (V m c main_v2 : FVec Ideal S2x4x1024x640 .bf16) (ix4 l j k n) = wA m c (ix3 l k ⟨j.val * 640 + n.val, h⟩) := by
  unfold V
  after_reads_simp
  unfold wA
  pointwise

theorem w_blk (c : Dev nD) (t : Fin cfg0.N) (k : Fin 1024) (n : Fin 640) (h : t.val / 2 < 4) :
    (iblk m c 1 t : FVec Ideal S1x1x1024x640 .bf16) (ix4 (0 : Fin 1) (0 : Fin 1) k n)
      = (V m c main_v2 : FVec Ideal S2x4x1024x640 .bf16) (ix4 (1 : Fin 2) ⟨t.val / 2, h⟩ k n) := by
  blk_ext [iblk, idx t]

theorem pay (a : FVec Ideal S2176x1024 .bf16) (b : FVec Ideal S1x1x1024x640 .bf16) (r : Fin 2176) (n : Fin 640) :
    k0_pay1 (F := Ideal) a b (ix2 r n) = ∑ k : Fin 1024, a (ix2 r k) * b (ix4 (0 : Fin 1) (0 : Fin 1) k n) := by
  pointwise [k0_pay1]

/-- The result of the call, entry by entry. -/
theorem final (c : Dev nD) : (dats m 0 c).arrAt 2 (cfgs 0).N
    = (fun i => prod (xA m c) (wA m c) (i 0) (i 1) : FVec Ideal S4352x2560 .f32) := by
  refine (dats m 0 c).arrAt_eq_of_covers 2 _ (by decide +kernel) fun t _ y => ?_
  blk_simp
  rw [after0_2]
  frame_out
  obtain ⟨r, n, rfl⟩ : ∃ r n, y = ix2 r n := ⟨y 0, y 1, eq_ix2 y⟩
  have ht : t.val < 8 := lt_of_lt_of_eq t.isLt N_0
  have hr := r.isLt
  have hn := n.isLt
  refine (pay _ _ r n).trans ?_
  unfold prod
  refine Finset.sum_congr rfl fun k _ => ?_
  have h1 : t.val % 2 * 2176 + r.val < 4352 := by clear hn; omega
  have h2 : t.val / 2 < 4 := by omega
  have h3 : t.val / 2 * 640 + n.val < 2560 := by clear hr; omega
  refine congrArg₂ (· * ·) ((x_blk m c t r k h1).trans ?_) (((w_blk m c t k n h2).trans (w_arr m c 1 ⟨t.val / 2, h2⟩ k n h3)).trans ?_)
  · blk_ext [idx t]
  · blk_ext [idx t]

/-- The reference's product, entry by entry. -/
theorem ref_eq (x : FVec Ideal S4352x1024 .bf16) (w : FVec Ideal S2x1024x2560 .f32) :
    Cert.InRefIdeal.Read.val_main_v3 (F := Ideal) x w = fun i => prod x w (i 0) (i 1) := by
  funext i
  obtain ⟨r, n, rfl⟩ : ∃ r n, i = ix2 r n := ⟨i 0, i 1, eq_ix2 i⟩
  rw [Cert.InRefIdeal.Read.val_main_v3_apply]
  unfold prod
  refine Finset.sum_congr rfl fun k _ => congrArg₂ (· * ·) ?_ ?_
  · refine congrArg x (funext fun a => Fin.ext ?_)
    match a with
    | ⟨0, _⟩ => rfl
    | ⟨1, _⟩ => rfl
  · rw [Cert.InRefIdeal.Read.val_main_v2_apply, Cert.InRefIdeal.Read.val_main_v1_apply]
    have hn := n.isLt
    have hk := k.isLt
    refine congrArg w (funext fun a => Fin.ext ?_)
    match a with
    | ⟨0, _⟩ => rfl
    | ⟨1, _⟩ => show (k.val * 2560 + n.val) / 2560 % 1024 = k.val; omega
    | ⟨2, _⟩ => show (k.val * 2560 + n.val) % 2560 = n.val; omega

end Cert.InIdeal.Val

end
-- ==== Proof.InDVal.lean ====
/- The in-projection's input gradient: the array that the call leaves is the reference's. -/
module

public import proofs.«01_k».proof.Proof.Gen.InDIdeal.Value
public import proofs.«01_k».proof.Proof.Gen.InDRefIdeal.Read
public import Idealize.ShloMosaic.Lib.Pipeline.ValueKit
public import Idealize.ShloMosaic.Lib.StableHlo.RunRead

@[expose] public section

set_option maxRecDepth 16384

noncomputable section

namespace Cert.InDIdeal.Val

open Cert.InDIdeal Cert.InDIdeal.Gen Idealize.ShloMosaic Idealize.ShloMosaic.TcCoe Idealize.SL.Sem
open Idealize.ShloMosaic.Pipeline (Dat)

variable (m : (ℓ : Loc nD τ sig) → Buf (Elt Ideal) ℓ)

/-- The gradient of the result and the weights of both layers. -/
def xA (c : Dev nD) : FVec Ideal S4352x2560 .bf16 := m ((c : Thread nD τ).loc main_arg0)
def wA (c : Dev nD) : FVec Ideal S2x1024x2560 .f32 := m ((c : Thread nD τ).loc main_arg1)

/-- One entry of the product with the second layer's weights, transposed. -/
def prod (x : FVec Ideal S4352x2560 .bf16) (w : FVec Ideal S2x1024x2560 .f32) (r : Fin 4352) (n : Fin 1024) : EReal :=
  ∑ k : Fin 2560, x (ix2 r k) * w (ix3 (1 : Fin 2) n k)

theorem idx : ∀ t : Fin cfg0.N, win0_0.index t = ![t.val, 0] ∧ win0_1.index t = ![1, 0, 0, 0]
    ∧ win0_2.index t = ![t.val, 0] :=
  (by decide +kernel : ∀ t : Fin grid0.N, _)

theorem x_blk (c : Dev nD) (t : Fin cfg0.N) (r : Fin 1088) (k : Fin 2560) (h : t.val * 1088 + r.val < 4352) :
    (iblk m c 0 t : FVec Ideal S1088x2560 .bf16) (ix2 r k) = xA m c (ix2 ⟨t.val * 1088 + r.val, h⟩ k) := by
  unfold xA
  blk_ext [iblk, V, idx t]

theorem w_arr (c : Dev nD) (l : Fin 2) (j : Fin 4) (k : Fin 1024) (n : Fin 640) (h : j.val * 640 + n.val < 2560) :
    (V m c main_v2 : FVec Ideal S2x4x1024x640 .bf16) (ix4 l j k n) = wA m c (ix3 l k ⟨j.val * 640 + n.val, h⟩) := by
  unfold V
  after_reads_simp
  unfold wA
  pointwise

theorem w_blk (c : Dev nD) (t : Fin cfg0.N) (j : Fin 4) (k : Fin 1024) (n : Fin 640) :
    (iblk m c 1 t : FVec Ideal S1x4x1024x640 .bf16) (ix4 (0 : Fin 1) j k n)
      = (V m c main_v2 : FVec Ideal S2x4x1024x640 .bf16) (ix4 (1 : Fin 2) j k n) := by
  blk_ext [iblk, idx t]

theorem pay (x : FVec Ideal S1088x2560 .bf16) (w : FVec Ideal S1x4x1024x640 .bf16) (r : Fin 1088) (n : Fin 1024) :
    out0_2 (F := Ideal) x w (ix2 r n)
      = (∑ k : Fin 640, x (ix2 r ⟨k.val, by have := k.isLt; omega⟩) * w (ix4 (0 : Fin 1) (0 : Fin 4) n k))
        + (∑ k : Fin 640, x (ix2 r ⟨640 + k.val, by have := k.isLt; omega⟩) * w (ix4 (0 : Fin 1) (1 : Fin 4) n k))
        + (∑ k : Fin 640, x (ix2 r ⟨1280 + k.val, by have := k.isLt; omega⟩) * w (ix4 (0 : Fin 1) (2 : Fin 4) n k))
        + (∑ k : Fin 640, x (ix2 r ⟨1920 + k.val, by have := k.isLt; omega⟩) * w (ix4 (0 : Fin 1) (3 : Fin 4) n k)) := by
  unfold out0_2
  frame_out
  pointwise [k0_pay1]

/-- A sum over 2560 columns in four blocks of 640. -/
theorem sum_blocks (f : Fin 2560 → EReal) :
    (∑ k : Fin 640, f ⟨k.val, by have := k.isLt; omega⟩) + (∑ k : Fin 640, f ⟨640 + k.val, by have := k.isLt; omega⟩)
      + (∑ k : Fin 640, f ⟨1280 + k.val, by have := k.isLt; omega⟩) + (∑ k : Fin 640, f ⟨1920 + k.val, by have := k.isLt; omega⟩)
      = ∑ k, f k := by
  rw [Fin.sum_univ_add (a := 1920) (b := 640) f, Fin.sum_univ_add (a := 1280) (b := 640), Fin.sum_univ_add (a := 640) (b := 640)]
  rfl

theorem w_at (c : Dev nD) (t : Fin cfg0.N) (j : Fin 4) (k : Fin 1024) (n : Fin 640) (p : Fin 2560) (h : p.val = j.val * 640 + n.val) :
    (iblk m c 1 t : FVec Ideal S1x4x1024x640 .bf16) (ix4 (0 : Fin 1) j k n) = wA m c (ix3 (1 : Fin 2) k p) := by
  rw [show p = ⟨j.val * 640 + n.val, h ▸ p.isLt⟩ from Fin.ext h, w_blk, w_arr]

/-- One entry of a block of rows. -/
theorem rows (c : Dev nD) (t : Fin cfg0.N) (r : Fin 1088) (n : Fin 1024) (h : t.val * 1088 + r.val < 4352) :
    out0_2 (F := Ideal) (iblk m c 0 t) (iblk m c 1 t) (ix2 r n) = prod (xA m c) (wA m c) ⟨t.val * 1088 + r.val, h⟩ n := by
  rw [pay]
  unfold prod
  rw [← sum_blocks]
  refine congrArg₂ (· + ·) (congrArg₂ (· + ·) (congrArg₂ (· + ·) ?_ ?_) ?_) ?_
  · exact Finset.sum_congr rfl fun k _ => congrArg₂ (· * ·) (x_blk m c t r _ h) (w_at m c t 0 n k _ (by show k.val = 0 * 640 + k.val; omega))
  · exact Finset.sum_congr rfl fun k _ => congrArg₂ (· * ·) (x_blk m c t r _ h) (w_at m c t 1 n k _ (by show 640 + k.val = 1 * 640 + k.val; omega))
  · exact Finset.sum_congr rfl fun k _ => congrArg₂ (· * ·) (x_blk m c t r _ h) (w_at m c t 2 n k _ (by show 1280 + k.val = 2 * 640 + k.val; omega))
  · exact Finset.sum_congr rfl fun k _ => congrArg₂ (· * ·) (x_blk m c t r _ h) (w_at m c t 3 n k _ (by show 1920 + k.val = 3 * 640 + k.val; omega))

/-- The result of the call, entry by entry. -/
def res (c : Dev nD) : FVec Ideal S4352x1024 .f32 := fun i => prod (xA m c) (wA m c) (i 0) (i 1)

theorem final (c : Dev nD) : (dats m 0 c).arrAt 2 (cfgs 0).N = res m c := by
  refine (dats m 0 c).arrAt_eq_of_covers 2 _ (by decide +kernel) fun t _ y => ?_
  blk_simp
  rw [after0_2]
  obtain ⟨r, n, rfl⟩ : ∃ r n, y = ix2 r n := ⟨y 0, y 1, eq_ix2 y⟩
  have ht : t.val < 4 := lt_of_lt_of_eq t.isLt N_0
  have hr := r.isLt
  have h : t.val * 1088 + r.val < 4352 := by omega
  refine (rows m c t r n h).trans (?_ : res m c (ix2 ⟨t.val * 1088 + r.val, h⟩ n) = _)
  blk_ext [idx t]

/-- The reference's product, entry by entry. -/
theorem ref_eq (x : FVec Ideal S4352x2560 .bf16) (w : FVec Ideal S2x1024x2560 .f32) :
    Cert.InDRefIdeal.Read.val_main_v5 (F := Ideal) x w = fun i => prod x w (i 0) (i 1) := by
  funext i
  obtain ⟨r, n, rfl⟩ : ∃ r n, i = ix2 r n := ⟨i 0, i 1, eq_ix2 i⟩
  rw [Cert.InDRefIdeal.Read.val_main_v5_apply]
  unfold prod
  refine Finset.sum_congr rfl fun k _ => congrArg₂ (· * ·) ?_ ?_
  · refine congrArg x (funext fun a => Fin.ext ?_)
    match a with
    | ⟨0, _⟩ => rfl
    | ⟨1, _⟩ => rfl
  · rw [Cert.InDRefIdeal.Read.val_main_v2_apply, Cert.InDRefIdeal.Read.val_main_v1_apply]
    have hn := n.isLt
    have hk := k.isLt
    refine congrArg w (funext fun a => Fin.ext ?_)
    match a with
    | ⟨0, _⟩ => rfl
    | ⟨1, _⟩ => show (n.val * 2560 + k.val) / 2560 % 1024 = n.val; omega
    | ⟨2, _⟩ => show (n.val * 2560 + k.val) % 2560 = k.val; omega

end Cert.InDIdeal.Val

end
-- ==== Proof.InWVal.lean ====
/- The in-projection's weight gradient: the second layer's slot of the array is the reference's. -/
module

public import proofs.«01_k».proof.Proof.Gen.InWIdeal.Value
public import proofs.«01_k».proof.Proof.Gen.InWRefIdeal.Read
public import proofs.«01_k».proof.On_in_layer
public import Idealize.ShloMosaic.Lib.Pipeline.ValueKit

@[expose] public section

set_option maxRecDepth 16384

noncomputable section

namespace Cert.InWIdeal.Val

open Cert.InWIdeal Cert.InWIdeal.Gen Cert.InWIdeal.Value Idealize.ShloMosaic Idealize.ShloMosaic.TcCoe Idealize.SL.Sem

variable (m : (ℓ : Loc nD τ sig) → Buf (Elt Ideal) ℓ)

/-- The activations and the gradient of the result. -/
def xA (c : Dev nD) : FVec Ideal S4352x1024 .bf16 := m ((c : Thread nD τ).loc main_arg0)
def dA (c : Dev nD) : FVec Ideal S4352x2560 .bf16 := m ((c : Thread nD τ).loc main_arg1)

/-- One entry of the weights' gradient, at row `k` and column `n`. -/
def prod (x : FVec Ideal S4352x1024 .bf16) (d : FVec Ideal S4352x2560 .bf16) (k : Fin 1024) (n : Fin 2560) : EReal :=
  ∑ r : Fin 4352, x (ix2 r k) * d (ix2 r n)

theorem idx : ∀ t : Fin cfg0.N, win0_0.index t = ![t.val % 2, 0] ∧ win0_1.index t = ![t.val % 2, t.val / 2] :=
  (by decide +kernel : ∀ t : Fin grid0.N, _)

theorem x_blk (c : Dev nD) (t : Fin cfg0.N) (r : Fin 2176) (k : Fin 1024) (q : Fin 4352) (h : q.val = t.val % 2 * 2176 + r.val) :
    (iblk m c 0 t : FVec Ideal S2176x1024 .bf16) (ix2 r k) = xA m c (ix2 q k) := by
  rw [show q = ⟨t.val % 2 * 2176 + r.val, h ▸ q.isLt⟩ from Fin.ext h]
  unfold xA
  blk_ext [iblk, V, idx t]

theorem d_blk (c : Dev nD) (t : Fin cfg0.N) (r : Fin 2176) (n : Fin 640) (q : Fin 4352) (p : Fin 2560) (h : q.val = t.val % 2 * 2176 + r.val)
    (h' : p.val = t.val / 2 * 640 + n.val) :
    (iblk m c 1 t : FVec Ideal S2176x640 .bf16) (ix2 r n) = dA m c (ix2 q p) := by
  rw [show q = ⟨t.val % 2 * 2176 + r.val, h ▸ q.isLt⟩ from Fin.ext h]
  rw [show p = ⟨t.val / 2 * 640 + n.val, h' ▸ p.isLt⟩ from Fin.ext h']
  unfold dA
  blk_ext [iblk, V, idx t]

/-- What the two row blocks of one run leave: the sum of their products. -/
theorem pay (a a' : FVec Ideal S2176x1024 .bf16) (b b' : FVec Ideal S2176x640 .bf16) (k : Fin 1024) (n : Fin 640) :
    k0_pay2 (F := Ideal) (k0_pay2 (F := Ideal) (k0_pay1 (F := Ideal)) a b) a' b' (ix4 (0 : Fin 1) (0 : Fin 1) k n)
      = (∑ r : Fin 2176, a (ix2 r k) * b (ix2 r n)) + ∑ r : Fin 2176, a' (ix2 r k) * b' (ix2 r n) := by
  pointwise [k0_pay1, k0_pay2]

/-- The second layer's slot of the array that the call leaves, entry by entry. -/
theorem final (c : Dev nD) (j : Fin 4) (k : Fin 1024) (n : Fin 640) (h : j.val * 640 + n.val < 2560) :
    G2 m c (ix4 (1 : Fin 2) j k n) = prod (xA m c) (dA m c) k ⟨j.val * 640 + n.val, h⟩ := by
  have hj := j.isLt
  have hn := n.isLt
  have hk := k.isLt
  have hr : run2Of (ix4 (1 : Fin 2) j k n) = j.val := by
    show 4 * (1 / 1 - 1) + 1 * (j.val / 1 - 0) + 1 * (k.val / 1024 - 0) + 1 * (n.val / 640 - 0) = j.val
    omega
  have hl : loc2Of (ix4 (1 : Fin 2) j k n) = ix4 (0 : Fin 1) (0 : Fin 1) k n := by
    funext a
    refine Fin.ext ?_
    match a with
    | ⟨0, _⟩ => exact Nat.mod_one _
    | ⟨1, _⟩ => show j.val % 1 = 0; omega
    | ⟨2, _⟩ => show k.val % 1024 = k.val; omega
    | ⟨3, _⟩ => show n.val % 640 = n.val; omega
  have hN : cfg0.N = 8 := N_0
  have h2 : 2 * run2Of (ix4 (1 : Fin 2) j k n) + 1 < cfg0.N := by rw [hr, hN]; omega
  unfold G2
  rw [dif_pos h2, hl]
  refine (pay _ _ _ _ k n).trans ?_
  unfold prod
  rw [Fin.sum_univ_add (a := 2176) (b := 2176)]
  refine congrArg₂ (· + ·) (Finset.sum_congr rfl fun r _ => congrArg₂ (· * ·) (x_blk m c _ r k _ ?_) (d_blk m c _ r n _ _ ?_ ?_))
    (Finset.sum_congr rfl fun r _ => congrArg₂ (· * ·) (x_blk m c _ r k _ ?_) (d_blk m c _ r n _ _ ?_ ?_))
  · show r.val = 2 * run2Of (ix4 (1 : Fin 2) j k n) % 2 * 2176 + r.val
    omega
  · show r.val = 2 * run2Of (ix4 (1 : Fin 2) j k n) % 2 * 2176 + r.val
    omega
  · show j.val * 640 + n.val = 2 * run2Of (ix4 (1 : Fin 2) j k n) / 2 * 640 + n.val
    rw [hr]; omega
  · show 2176 + r.val = (2 * run2Of (ix4 (1 : Fin 2) j k n) + 1) % 2 * 2176 + r.val
    omega
  · show 2176 + r.val = (2 * run2Of (ix4 (1 : Fin 2) j k n) + 1) % 2 * 2176 + r.val
    omega
  · show j.val * 640 + n.val = (2 * run2Of (ix4 (1 : Fin 2) j k n) + 1) / 2 * 640 + n.val
    rw [hr]; omega

/-- The column of the gradient that a tile's column is. -/
theorem col_lt (j : Fin 4) (n : Fin 640) : j.val * 640 + n.val < 2560 := by
  have hj := j.isLt
  have hn := n.isLt
  omega

theorem slot (c : Dev nD) (j : Fin 4) (k : Fin 1024) (n : Fin 640) :
    ((dats m 0 c).arrAt 2 cfg0.N : FVec Ideal S2x4x1024x640 .f32) (ix4 (1 : Fin 2) j k n)
      = prod (xA m c) (dA m c) k ⟨j.val * 640 + n.val, col_lt j n⟩ :=
  (congrFun (final2 m c) (ix4 (1 : Fin 2) j k n)).trans
    ((if_pos ⟨le_refl 1, Nat.lt_succ_self 1, Nat.zero_le _, j.isLt, Nat.zero_le _, k.isLt, Nat.zero_le _, n.isLt⟩).trans (final m c j k n _))

/-- The reference's gradient, entry by entry. -/
theorem ref_eq (x : FVec Ideal S4352x1024 .bf16) (d : FVec Ideal S4352x2560 .bf16) (l : Fin 2) (j : Fin 4) (k : Fin 1024) (n : Fin 640)
    (h : j.val * 640 + n.val < 2560) :
    Cert.InWRefIdeal.Read.val_main_v8 (F := Ideal) x d (ix4 l j k n) = prod x d k ⟨j.val * 640 + n.val, h⟩ := by
  rw [Cert.InWRefIdeal.Read.val_main_v8_apply, Cert.InWRefIdeal.Read.val_main_v7_apply, Cert.InWRefIdeal.Read.val_main_v6_apply, Cert.InWRefIdeal.Read.val_main_v5_apply, Cert.InWRefIdeal.Read.val_main_v4_apply]
  have hj := j.isLt
  have hn := n.isLt
  have hk := k.isLt
  unfold prod
  refine Finset.sum_congr rfl fun r _ => (mul_comm _ _).trans (congrArg₂ (· * ·) ?_ ?_)
  · refine congrArg x (funext fun a => Fin.ext ?_)
    match a with
    | ⟨0, _⟩ => rfl
    | ⟨1, _⟩ => show ((k.val * 4 + j.val) * 640 + n.val) / 2560 = k.val; omega
  · refine congrArg d (funext fun a => Fin.ext ?_)
    match a with
    | ⟨0, _⟩ => rfl
    | ⟨1, _⟩ => show ((k.val * 4 + j.val) * 640 + n.val) % 2560 = j.val * 640 + n.val; omega

theorem on_facts : Cert.On_in_layer.Facts where
  bcast_S_S2x4x1024x640 := by decide

attribute [local instance] on_facts in
/-- The mask compares the second layer's slot. -/
theorem on_layer (x : FVec Ideal S4352x1024 .bf16) (d : FVec Ideal S4352x2560 .bf16) (l : Fin 2) (j : Fin 4) (k : Fin 1024) (n : Fin 640)
    (h : Cert.On_in_layer.fn (F := Ideal) x d (ix4 l j k n) = 1#1) : l = 1 := by
  unfold Cert.On_in_layer.fn at h
  dsimp only at h
  have h' : BitVec.ofNat 32 l.val = 1#32 := IntOp.cmpi_eq.1 h
  fin_cases l
  · exact absurd h' (by decide)
  · rfl

end Cert.InWIdeal.Val

end
-- ==== Proof.OutVal.lean ====
/- The out-projection: the array that the call leaves is the reference's product. -/
module

public import proofs.«01_k».proof.Proof.Gen.OutIdeal.Value
public import proofs.«01_k».proof.Proof.Gen.OutRefIdeal.Read
public import Idealize.ShloMosaic.Lib.Pipeline.ValueKit
public import Idealize.ShloMosaic.Lib.StableHlo.RunRead

@[expose] public section

set_option maxRecDepth 16384

noncomputable section

namespace Cert.OutIdeal.Val

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The mix and the weights of both layers. -/
def xA (c : Dev nD) : FVec Ideal S4352x1024 .bf16 := m ((c : Thread nD τ).loc main_arg0)
def wA (c : Dev nD) : FVec Ideal S2x1024x1024 .f32 := m ((c : Thread nD τ).loc main_arg1)

/-- One entry of the product with the second layer's weights. -/
def prod (x : FVec Ideal S4352x1024 .bf16) (w : FVec Ideal S2x1024x1024 .f32) (r : Fin 4352) (n : Fin 1024) : EReal :=
  ∑ k : Fin 1024, x (ix2 r k) * w (ix3 (1 : Fin 2) k n)

theorem idx : ∀ t : Fin cfg0.N, win0_0.index t = ![t.val, 0] ∧ win0_1.index t = ![1, 0, 0, 0]
    ∧ win0_2.index t = ![t.val, 0] :=
  (by decide +kernel : ∀ t : Fin grid0.N, _)

theorem x_blk (c : Dev nD) (t : Fin cfg0.N) (r : Fin 2176) (k : Fin 1024) (h : t.val * 2176 + r.val < 4352) :
    (iblk m c 0 t : FVec Ideal S2176x1024 .bf16) (ix2 r k) = xA m c (ix2 ⟨t.val * 2176 + r.val, h⟩ k) := by
  unfold xA
  blk_ext [iblk, V, idx t]

theorem w_arr (c : Dev nD) (l : Fin 2) (k n : Fin 1024) :
    (V m c main_v1 : FVec Ideal S2x1x1024x1024 .bf16) (ix4 l (0 : Fin 1) k n) = wA m c (ix3 l k n) := by
  unfold V
  after_reads_simp
  unfold wA
  pointwise

theorem w_blk (c : Dev nD) (t : Fin cfg0.N) (k n : Fin 1024) :
    (iblk m c 1 t : FVec Ideal S1x1x1024x1024 .bf16) (ix4 (0 : Fin 1) (0 : Fin 1) k n)
      = (V m c main_v1 : FVec Ideal S2x1x1024x1024 .bf16) (ix4 (1 : Fin 2) (0 : Fin 1) k n) := by
  blk_ext [iblk, idx t]

theorem pay (a : FVec Ideal S2176x1024 .bf16) (b : FVec Ideal S1x1x1024x1024 .bf16) (r : Fin 2176) (n : Fin 1024) :
    k0_pay1 (F := Ideal) a b (ix2 r n) = ∑ k : Fin 1024, a (ix2 r k) * b (ix4 (0 : Fin 1) (0 : Fin 1) k n) := by
  pointwise [k0_pay1]

/-- The result of the call, entry by entry. -/
theorem final (c : Dev nD) : (dats m 0 c).arrAt 2 (cfgs 0).N
    = (fun i => prod (xA m c) (wA m c) (i 0) (i 1) : FVec Ideal S4352x1024 .f32) := by
  refine (dats m 0 c).arrAt_eq_of_covers 2 _ (by decide +kernel) fun t _ y => ?_
  blk_simp
  rw [after0_2]
  frame_out
  obtain ⟨r, n, rfl⟩ : ∃ r n, y = ix2 r n := ⟨y 0, y 1, eq_ix2 y⟩
  have ht : t.val < 2 := lt_of_lt_of_eq t.isLt N_0
  have hr := r.isLt
  have hn := n.isLt
  refine (pay _ _ r n).trans ?_
  unfold prod
  refine Finset.sum_congr rfl fun k _ => ?_
  have h1 : t.val * 2176 + r.val < 4352 := by clear hn; omega
  refine congrArg₂ (· * ·) ((x_blk m c t r k h1).trans ?_) (((w_blk m c t k n).trans (w_arr m c 1 k n)).trans ?_)
  · blk_ext [idx t]
  · blk_ext [idx t]

/-- The reference's product, entry by entry. -/
theorem ref_eq (x : FVec Ideal S4352x1024 .bf16) (w : FVec Ideal S2x1024x1024 .f32) :
    Cert.OutRefIdeal.Read.val_main_v3 (F := Ideal) x w = fun i => prod x w (i 0) (i 1) := by
  funext i
  obtain ⟨r, n, rfl⟩ : ∃ r n, i = ix2 r n := ⟨i 0, i 1, eq_ix2 i⟩
  rw [Cert.OutRefIdeal.Read.val_main_v3_apply]
  unfold prod
  refine Finset.sum_congr rfl fun k _ => congrArg₂ (· * ·) ?_ ?_
  · refine congrArg x (funext fun a => Fin.ext ?_)
    match a with
    | ⟨0, _⟩ => rfl
    | ⟨1, _⟩ => rfl
  · rw [Cert.OutRefIdeal.Read.val_main_v2_apply, Cert.OutRefIdeal.Read.val_main_v1_apply]
    have hn := n.isLt
    have hk := k.isLt
    refine congrArg w (funext fun a => Fin.ext ?_)
    match a with
    | ⟨0, _⟩ => rfl
    | ⟨1, _⟩ => show (k.val * 1024 + n.val) / 1024 % 1024 = k.val; omega
    | ⟨2, _⟩ => show (k.val * 1024 + n.val) % 1024 = n.val; omega

end Cert.OutIdeal.Val

end
-- ==== Proof.OutDVal.lean ====
/- The out-projection's input gradient: the array that the call leaves is the reference's. -/
module

public import proofs.«01_k».proof.Proof.Gen.OutDIdeal.Value
public import proofs.«01_k».proof.Proof.Gen.OutDRefIdeal.Read
public import Idealize.ShloMosaic.Lib.Pipeline.ValueKit
public import Idealize.ShloMosaic.Lib.StableHlo.RunRead

@[expose] public section

set_option maxRecDepth 16384

noncomputable section

namespace Cert.OutDIdeal.Val

open Cert.OutDIdeal Cert.OutDIdeal.Gen Idealize.ShloMosaic Idealize.ShloMosaic.TcCoe Idealize.SL.Sem
open Idealize.ShloMosaic.Pipeline (Dat)

variable (m : (ℓ : Loc nD τ sig) → Buf (Elt Ideal) ℓ)

/-- The gradient of the result and the weights of both layers. -/
def xA (c : Dev nD) : FVec Ideal S4352x1024 .bf16 := m ((c : Thread nD τ).loc main_arg0)
def wA (c : Dev nD) : FVec Ideal S2x1024x1024 .f32 := m ((c : Thread nD τ).loc main_arg1)

/-- One entry of the product with the second layer's weights, transposed. -/
def prod (x : FVec Ideal S4352x1024 .bf16) (w : FVec Ideal S2x1024x1024 .f32) (r : Fin 4352) (n : Fin 1024) : EReal :=
  ∑ k : Fin 1024, x (ix2 r k) * w (ix3 (1 : Fin 2) n k)

theorem idx : ∀ t : Fin cfg0.N, win0_0.index t = ![t.val, 0] ∧ win0_1.index t = ![1, 0, 0, 0]
    ∧ win0_2.index t = ![t.val, 0] :=
  (by decide +kernel : ∀ t : Fin grid0.N, _)

theorem x_blk (c : Dev nD) (t : Fin cfg0.N) (r : Fin 2176) (k : Fin 1024) (h : t.val * 2176 + r.val < 4352) :
    (iblk m c 0 t : FVec Ideal S2176x1024 .bf16) (ix2 r k) = xA m c (ix2 ⟨t.val * 2176 + r.val, h⟩ k) := by
  unfold xA
  blk_ext [iblk, V, idx t]

theorem w_arr (c : Dev nD) (l : Fin 2) (k n : Fin 1024) :
    (V m c main_v1 : FVec Ideal S2x1x1024x1024 .bf16) (ix4 l (0 : Fin 1) k n) = wA m c (ix3 l k n) := by
  unfold V
  after_reads_simp
  unfold wA
  pointwise

theorem w_blk (c : Dev nD) (t : Fin cfg0.N) (k n : Fin 1024) :
    (iblk m c 1 t : FVec Ideal S1x1x1024x1024 .bf16) (ix4 (0 : Fin 1) (0 : Fin 1) k n)
      = (V m c main_v1 : FVec Ideal S2x1x1024x1024 .bf16) (ix4 (1 : Fin 2) (0 : Fin 1) k n) := by
  blk_ext [iblk, idx t]

theorem pay (a : FVec Ideal S2176x1024 .bf16) (b : FVec Ideal S1x1x1024x1024 .bf16) (r : Fin 2176) (n : Fin 1024) :
    k0_pay1 (F := Ideal) a b (ix2 r n) = ∑ k : Fin 1024, a (ix2 r k) * b (ix4 (0 : Fin 1) (0 : Fin 1) n k) := by
  pointwise [k0_pay1]

/-- The result of the call, entry by entry. -/
theorem final (c : Dev nD) : (dats m 0 c).arrAt 2 (cfgs 0).N
    = (fun i => prod (xA m c) (wA m c) (i 0) (i 1) : FVec Ideal S4352x1024 .f32) := by
  refine (dats m 0 c).arrAt_eq_of_covers 2 _ (by decide +kernel) fun t _ y => ?_
  blk_simp
  rw [after0_2]
  frame_out
  obtain ⟨r, n, rfl⟩ : ∃ r n, y = ix2 r n := ⟨y 0, y 1, eq_ix2 y⟩
  have ht : t.val < 2 := lt_of_lt_of_eq t.isLt N_0
  have hr := r.isLt
  have hn := n.isLt
  refine (pay _ _ r n).trans ?_
  unfold prod
  refine Finset.sum_congr rfl fun k _ => ?_
  have h1 : t.val * 2176 + r.val < 4352 := by clear hn; omega
  refine congrArg₂ (· * ·) ((x_blk m c t r k h1).trans ?_) (((w_blk m c t n k).trans (w_arr m c 1 n k)).trans ?_)
  · blk_ext [idx t]
  · blk_ext [idx t]

/-- The reference's product, entry by entry. -/
theorem ref_eq (x : FVec Ideal S4352x1024 .bf16) (w : FVec Ideal S2x1024x1024 .f32) :
    Cert.OutDRefIdeal.Read.val_main_v5 (F := Ideal) x w = fun i => prod x w (i 0) (i 1) := by
  funext i
  obtain ⟨r, n, rfl⟩ : ∃ r n, i = ix2 r n := ⟨i 0, i 1, eq_ix2 i⟩
  rw [Cert.OutDRefIdeal.Read.val_main_v5_apply]
  unfold prod
  refine Finset.sum_congr rfl fun k _ => congrArg₂ (· * ·) ?_ ?_
  · refine congrArg x (funext fun a => Fin.ext ?_)
    match a with
    | ⟨0, _⟩ => rfl
    | ⟨1, _⟩ => rfl
  · rw [Cert.OutDRefIdeal.Read.val_main_v2_apply, Cert.OutDRefIdeal.Read.val_main_v1_apply]
    have hn := n.isLt
    have hk := k.isLt
    refine congrArg w (funext fun a => Fin.ext ?_)
    match a with
    | ⟨0, _⟩ => rfl
    | ⟨1, _⟩ => show (n.val * 1024 + k.val) / 1024 % 1024 = n.val; omega
    | ⟨2, _⟩ => show (n.val * 1024 + k.val) % 1024 = k.val; omega

end Cert.OutDIdeal.Val

end
-- ==== Proof.OutWVal.lean ====
/- The out-projection's weight gradient: the second layer's slot of the array is the reference's. -/
module

public import proofs.«01_k».proof.Proof.Gen.OutWIdeal.Value
public import proofs.«01_k».proof.Proof.Gen.OutWRefIdeal.Read
public import proofs.«01_k».proof.On_out_layer
public import Idealize.ShloMosaic.Lib.Pipeline.ValueKit

@[expose] public section

set_option maxRecDepth 16384

noncomputable section

namespace Cert.OutWIdeal.Val

open Cert.OutWIdeal Cert.OutWIdeal.Gen Cert.OutWIdeal.Value Idealize.ShloMosaic Idealize.ShloMosaic.TcCoe Idealize.SL.Sem

variable (m : (ℓ : Loc nD τ sig) → Buf (Elt Ideal) ℓ)

/-- The activations and the gradient of the result. -/
def xA (c : Dev nD) : FVec Ideal S4352x1024 .bf16 := m ((c : Thread nD τ).loc main_arg0)
def dA (c : Dev nD) : FVec Ideal S4352x1024 .bf16 := m ((c : Thread nD τ).loc main_arg1)

/-- One entry of the weights' gradient, at row `k` and column `n`. -/
def prod (x : FVec Ideal S4352x1024 .bf16) (d : FVec Ideal S4352x1024 .bf16) (k : Fin 1024) (n : Fin 1024) : EReal :=
  ∑ r : Fin 4352, x (ix2 r k) * d (ix2 r n)

theorem idx : ∀ t : Fin cfg0.N, win0_0.index t = ![t.val % 2, 0] ∧ win0_1.index t = ![t.val % 2, t.val / 2] :=
  (by decide +kernel : ∀ t : Fin grid0.N, _)

theorem x_blk (c : Dev nD) (t : Fin cfg0.N) (r : Fin 2176) (k : Fin 1024) (q : Fin 4352) (h : q.val = t.val % 2 * 2176 + r.val) :
    (iblk m c 0 t : FVec Ideal S2176x1024 .bf16) (ix2 r k) = xA m c (ix2 q k) := by
  rw [show q = ⟨t.val % 2 * 2176 + r.val, h ▸ q.isLt⟩ from Fin.ext h]
  unfold xA
  blk_ext [iblk, V, idx t]

theorem d_blk (c : Dev nD) (t : Fin cfg0.N) (r : Fin 2176) (n : Fin 1024) (q : Fin 4352) (p : Fin 1024) (h : q.val = t.val % 2 * 2176 + r.val)
    (h' : p.val = t.val / 2 * 1024 + n.val) :
    (iblk m c 1 t : FVec Ideal S2176x1024 .bf16) (ix2 r n) = dA m c (ix2 q p) := by
  rw [show q = ⟨t.val % 2 * 2176 + r.val, h ▸ q.isLt⟩ from Fin.ext h]
  rw [show p = ⟨t.val / 2 * 1024 + n.val, h' ▸ p.isLt⟩ from Fin.ext h']
  unfold dA
  blk_ext [iblk, V, idx t]

/-- What the two row blocks of one run leave: the sum of their products. -/
theorem pay (a a' : FVec Ideal S2176x1024 .bf16) (b b' : FVec Ideal S2176x1024 .bf16) (k : Fin 1024) (n : Fin 1024) :
    k0_pay2 (F := Ideal) (k0_pay2 (F := Ideal) (k0_pay1 (F := Ideal)) a b) a' b' (ix4 (0 : Fin 1) (0 : Fin 1) k n)
      = (∑ r : Fin 2176, a (ix2 r k) * b (ix2 r n)) + ∑ r : Fin 2176, a' (ix2 r k) * b' (ix2 r n) := by
  pointwise [k0_pay1, k0_pay2]

/-- The second layer's slot of the array that the call leaves, entry by entry. -/
theorem final (c : Dev nD) (j : Fin 1) (k : Fin 1024) (n : Fin 1024) (h : j.val * 1024 + n.val < 1024) :
    G2 m c (ix4 (1 : Fin 2) j k n) = prod (xA m c) (dA m c) k ⟨j.val * 1024 + n.val, h⟩ := by
  have hj := j.isLt
  have hn := n.isLt
  have hk := k.isLt
  have hr : run2Of (ix4 (1 : Fin 2) j k n) = j.val := by
    show 1 * (1 / 1 - 1) + 1 * (j.val / 1 - 0) + 1 * (k.val / 1024 - 0) + 1 * (n.val / 1024 - 0) = j.val
    omega
  have hl : loc2Of (ix4 (1 : Fin 2) j k n) = ix4 (0 : Fin 1) (0 : Fin 1) k n := by
    funext a
    refine Fin.ext ?_
    match a with
    | ⟨0, _⟩ => exact Nat.mod_one _
    | ⟨1, _⟩ => show j.val % 1 = 0; omega
    | ⟨2, _⟩ => show k.val % 1024 = k.val; omega
    | ⟨3, _⟩ => show n.val % 1024 = n.val; omega
  have hN : cfg0.N = 2 := N_0
  have h2 : 2 * run2Of (ix4 (1 : Fin 2) j k n) + 1 < cfg0.N := by rw [hr, hN]; omega
  unfold G2
  rw [dif_pos h2, hl]
  refine (pay _ _ _ _ k n).trans ?_
  unfold prod
  rw [Fin.sum_univ_add (a := 2176) (b := 2176)]
  refine congrArg₂ (· + ·) (Finset.sum_congr rfl fun r _ => congrArg₂ (· * ·) (x_blk m c _ r k _ ?_) (d_blk m c _ r n _ _ ?_ ?_))
    (Finset.sum_congr rfl fun r _ => congrArg₂ (· * ·) (x_blk m c _ r k _ ?_) (d_blk m c _ r n _ _ ?_ ?_))
  · show r.val = 2 * run2Of (ix4 (1 : Fin 2) j k n) % 2 * 2176 + r.val
    omega
  · show r.val = 2 * run2Of (ix4 (1 : Fin 2) j k n) % 2 * 2176 + r.val
    omega
  · show j.val * 1024 + n.val = 2 * run2Of (ix4 (1 : Fin 2) j k n) / 2 * 1024 + n.val
    rw [hr]; omega
  · show 2176 + r.val = (2 * run2Of (ix4 (1 : Fin 2) j k n) + 1) % 2 * 2176 + r.val
    omega
  · show 2176 + r.val = (2 * run2Of (ix4 (1 : Fin 2) j k n) + 1) % 2 * 2176 + r.val
    omega
  · show j.val * 1024 + n.val = (2 * run2Of (ix4 (1 : Fin 2) j k n) + 1) / 2 * 1024 + n.val
    rw [hr]; omega

/-- The column of the gradient that a tile's column is. -/
theorem col_lt (j : Fin 1) (n : Fin 1024) : j.val * 1024 + n.val < 1024 := by
  have hj := j.isLt
  have hn := n.isLt
  omega

theorem slot (c : Dev nD) (j : Fin 1) (k : Fin 1024) (n : Fin 1024) :
    ((dats m 0 c).arrAt 2 cfg0.N : FVec Ideal S2x1x1024x1024 .f32) (ix4 (1 : Fin 2) j k n)
      = prod (xA m c) (dA m c) k ⟨j.val * 1024 + n.val, col_lt j n⟩ :=
  (congrFun (final2 m c) (ix4 (1 : Fin 2) j k n)).trans
    ((if_pos ⟨le_refl 1, Nat.lt_succ_self 1, Nat.zero_le _, j.isLt, Nat.zero_le _, k.isLt, Nat.zero_le _, n.isLt⟩).trans (final m c j k n _))

/-- The reference's gradient, entry by entry. -/
theorem ref_eq (x : FVec Ideal S4352x1024 .bf16) (d : FVec Ideal S4352x1024 .bf16) (l : Fin 2) (j : Fin 1) (k : Fin 1024) (n : Fin 1024)
    (h : j.val * 1024 + n.val < 1024) :
    Cert.OutWRefIdeal.Read.val_main_v6 (F := Ideal) x d (ix4 l j k n) = prod x d k ⟨j.val * 1024 + n.val, h⟩ := by
  rw [Cert.OutWRefIdeal.Read.val_main_v6_apply, Cert.OutWRefIdeal.Read.val_main_v5_apply, Cert.OutWRefIdeal.Read.val_main_v4_apply]
  have hj := j.isLt
  have hn := n.isLt
  have hk := k.isLt
  unfold prod
  refine Finset.sum_congr rfl fun r _ => (mul_comm _ _).trans (congrArg₂ (· * ·) ?_ ?_)
  · refine congrArg x (funext fun a => Fin.ext ?_)
    match a with
    | ⟨0, _⟩ => rfl
    | ⟨1, _⟩ => rfl
  · refine congrArg d (funext fun a => Fin.ext ?_)
    match a with
    | ⟨0, _⟩ => rfl
    | ⟨1, _⟩ => show n.val = j.val * 1024 + n.val; omega

theorem on_facts : Cert.On_out_layer.Facts where
  bcast_S_S2x1x1024x1024 := by decide

attribute [local instance] on_facts in
/-- The mask compares the second layer's slot. -/
theorem on_layer (x : FVec Ideal S4352x1024 .bf16) (d : FVec Ideal S4352x1024 .bf16) (l : Fin 2) (j : Fin 1) (k : Fin 1024) (n : Fin 1024)
    (h : Cert.On_out_layer.fn (F := Ideal) x d (ix4 l j k n) = 1#1) : l = 1 := by
  unfold Cert.On_out_layer.fn at h
  dsimp only at h
  have h' : BitVec.ofNat 32 l.val = 1#32 := IntOp.cmpi_eq.1 h
  fin_cases l
  · exact absurd h' (by decide)
  · rfl

end Cert.OutWIdeal.Val

end
-- ==== Proof.FwdSoft.lean ====
/-
  A row of the attention taken chunk by chunk: with any running reference point the sums so far, rescaled at each chunk,
  are the sums over all the keys so far, and the quotient and the logarithm do not depend on the reference points.
-/
module

public import proofs.«01_k».proof.Proof.Rows

@[expose] public section

noncomputable section

namespace Cert.Attn

open Idealize.ShloMosaic
open Finset (range)

theorem Fin'.max {x y : EReal} (hx : Fin' x) (hy : Fin' y) : Fin' (max x y) := by
  rcases max_choice x y with h | h <;> rw [h] <;> assumption

theorem Fin'.real {x : EReal} (h : Fin' x) : x = ((x.toReal : ℝ) : EReal) := by
  obtain ⟨r, rfl⟩ := h
  rw [EReal.toReal_coe]

/-- The weighted mean of the values of the first `n` keys. -/
def outR (n : ℕ) (s v : ℕ → EReal) : EReal :=
  (((∑ i ∈ range n, Real.exp (s i).toReal * (v i).toReal) / ∑ i ∈ range n, Real.exp (s i).toReal : ℝ) : EReal)

/-- The logarithm of the sum of the exponentials of the first `n` scores. -/
def lseR (n : ℕ) (s : ℕ → EReal) : EReal := ((Real.log (∑ i ∈ range n, Real.exp (s i).toReal) : ℝ) : EReal)

/-- The sums over the first `n` keys, with scores taken from a reference point `m`. -/
def Inv (s v : ℕ → EReal) (n : ℕ) (m l a : EReal) : Prop :=
  ∃ M : ℝ, m = (M : EReal) ∧ l = ((∑ i ∈ range n, Real.exp ((s i).toReal - M) : ℝ) : EReal)
    ∧ a = ((∑ i ∈ range n, Real.exp ((s i).toReal - M) * (v i).toReal : ℝ) : EReal)

variable {s v : ℕ → EReal}

theorem chunk_l (hs : ∀ i, Fin' (s i)) (n w : ℕ) (M : ℝ) :
    ∑ j : Fin w, Ideal.exp (s (n + j.val) - (M : EReal)) = ((∑ i ∈ range w, Real.exp ((s (n + i)).toReal - M) : ℝ) : EReal) := by
  rw [Finset.sum_range, coe_sum]
  refine Finset.sum_congr rfl fun j _ => ?_
  rw [← exp_shift, ← (hs _).real]

theorem chunk_a (hs : ∀ i, Fin' (s i)) (hv : ∀ i, Fin' (v i)) (n w : ℕ) (M : ℝ) :
    ∑ j : Fin w, Ideal.exp (s (n + j.val) - (M : EReal)) * v (n + j.val)
      = ((∑ i ∈ range w, Real.exp ((s (n + i)).toReal - M) * (v (n + i)).toReal : ℝ) : EReal) := by
  rw [Finset.sum_range, coe_sum]
  refine Finset.sum_congr rfl fun j _ => ?_
  rw [EReal.coe_mul, ← exp_shift, ← (hs _).real, ← (hv _).real]

theorem inv_start (hs : ∀ i, Fin' (s i)) (hv : ∀ i, Fin' (v i)) (w : ℕ) {m l a : EReal} (hm : Fin' m)
    (hl : l = ∑ j : Fin w, Ideal.exp (s (0 + j.val) - m)) (ha : a = ∑ j : Fin w, Ideal.exp (s (0 + j.val) - m) * v (0 + j.val)) :
    Inv s v w m l a := by
  obtain ⟨M, rfl⟩ := hm
  refine ⟨M, rfl, ?_, ?_⟩
  · rw [hl, chunk_l hs]; simp only [Nat.zero_add]
  · rw [ha, chunk_a hs hv]; simp only [Nat.zero_add]

theorem inv_step (hs : ∀ i, Fin' (s i)) (hv : ∀ i, Fin' (v i)) {n : ℕ} (w : ℕ) {m l a m' l' a' : EReal} (h : Inv s v n m l a) (hm : Fin' m')
    (hl : l' = Ideal.exp (m - m') * l + ∑ j : Fin w, Ideal.exp (s (n + j.val) - m'))
    (ha : a' = Ideal.exp (m - m') * a + ∑ j : Fin w, Ideal.exp (s (n + j.val) - m') * v (n + j.val)) :
    Inv s v (n + w) m' l' a' := by
  obtain ⟨M', rfl⟩ := hm
  obtain ⟨M, rfl, rfl, rfl⟩ := h
  have e : ∀ x : ℝ, Real.exp (M - M') * Real.exp (x - M) = Real.exp (x - M') := fun x => by
    rw [← Real.exp_add]; congr 1; ring
  refine ⟨M', rfl, ?_, ?_⟩
  · rw [hl, chunk_l hs, exp_shift, ← EReal.coe_mul, ← EReal.coe_add, Finset.sum_range_add, Finset.mul_sum]
    simp only [e]
  · rw [ha, chunk_a hs hv, exp_shift, ← EReal.coe_mul, ← EReal.coe_add, Finset.sum_range_add, Finset.mul_sum]
    simp only [← mul_assoc, e]

theorem sum_pos' (s : ℕ → EReal) {n : ℕ} (hn : 0 < n) (M : ℝ) : 0 < ∑ i ∈ range n, Real.exp ((s i).toReal - M) :=
  Finset.sum_pos (fun i _ => Real.exp_pos _) ⟨0, Finset.mem_range.2 hn⟩

theorem inv_fin {n : ℕ} {m l a : EReal} (h : Inv s v n m l a) : Fin' m := by
  obtain ⟨M, h, _, _⟩ := h
  exact ⟨M, h⟩

theorem sum_shift (s : ℕ → EReal) (n : ℕ) (M : ℝ) :
    ∑ i ∈ range n, Real.exp ((s i).toReal - M) = (∑ i ∈ range n, Real.exp (s i).toReal) / Real.exp M := by
  rw [Finset.sum_div]; exact Finset.sum_congr rfl fun i _ => Real.exp_sub _ _

theorem sum_shift_mul (s v : ℕ → EReal) (n : ℕ) (M : ℝ) :
    ∑ i ∈ range n, Real.exp ((s i).toReal - M) * (v i).toReal = (∑ i ∈ range n, Real.exp (s i).toReal * (v i).toReal) / Real.exp M := by
  rw [Finset.sum_div]; exact Finset.sum_congr rfl fun i _ => by rw [Real.exp_sub]; ring

theorem inv_out {n : ℕ} (hn : 0 < n) {m l a : EReal} (h : Inv s v n m l a) : Ideal.div a l = outR n s v := by
  obtain ⟨M, rfl, rfl, rfl⟩ := h
  rw [div_real _ _ (sum_pos' s hn M).ne', sum_shift, sum_shift_mul, div_div_div_cancel_right₀ (Real.exp_pos M).ne']
  rfl

theorem inv_lse {n : ℕ} (hn : 0 < n) {m l a : EReal} (h : Inv s v n m l a) : m + Ideal.log l = lseR n s := by
  obtain ⟨M, rfl, rfl, rfl⟩ := h
  have hp := sum_pos' s hn M
  have h0 : 0 < ∑ i ∈ range n, Real.exp (s i).toReal := by simpa using sum_pos' s hn 0
  rw [Ideal.log_coe, if_neg (not_le.2 hp), ← EReal.coe_add, sum_shift, Real.log_div h0.ne' (Real.exp_pos M).ne', Real.log_exp, lseR]
  congr 1
  ring

/-! The same from all the keys at once. -/

theorem all_inv (hs : ∀ i, Fin' (s i)) (hv : ∀ i, Fin' (v i)) (n : ℕ) {m : EReal} (hm : Fin' m) :
    Inv s v n m (∑ j : Fin n, Ideal.exp (s j.val - m)) (∑ j : Fin n, Ideal.exp (s j.val - m) * v j.val) :=
  inv_start hs hv n hm (by simp only [Nat.zero_add]) (by simp only [Nat.zero_add])

theorem all_out (hs : ∀ i, Fin' (s i)) (hv : ∀ i, Fin' (v i)) {n : ℕ} (hn : 0 < n) {m : EReal} (hm : Fin' m) :
    ∑ i : Fin n, v i.val * Ideal.div (Ideal.exp (s i.val - m)) (∑ j : Fin n, Ideal.exp (s j.val - m)) = outR n s v := by
  obtain ⟨M, rfl⟩ := hm
  have hl := chunk_l hs 0 n M
  simp only [Nat.zero_add] at hl
  have hp := sum_pos' s hn M
  rw [hl]
  have e : ∀ i : Fin n, v i.val * Ideal.div (Ideal.exp (s i.val - (M : EReal))) ((∑ i ∈ range n, Real.exp ((s i).toReal - M) : ℝ) : EReal)
      = ((Real.exp ((s i.val).toReal - M) * (v i.val).toReal / ∑ i ∈ range n, Real.exp ((s i).toReal - M) : ℝ) : EReal) := fun i => by
    have e1 : Ideal.exp (s i.val - (M : EReal)) = ((Real.exp ((s i.val).toReal - M) : ℝ) : EReal) := by
      rw [← exp_shift, ← (hs _).real]
    rw [e1, div_real _ _ hp.ne', (hv i.val).real, ← EReal.coe_mul, EReal.toReal_coe]
    congr 1
    ring
  rw [Finset.sum_congr rfl fun i _ => e i, ← coe_sum, ← Finset.sum_div,
    ← Finset.sum_range (fun i => Real.exp ((s i).toReal - M) * (v i).toReal), sum_shift, sum_shift_mul, div_div_div_cancel_right₀ (Real.exp_pos M).ne']
  rfl

theorem all_lse (hs : ∀ i, Fin' (s i)) {n : ℕ} (hn : 0 < n) {m : EReal} (hm : Fin' m) :
    Ideal.log (∑ j : Fin n, Ideal.exp (s j.val - m)) + m = lseR n s := by
  rw [add_comm]
  exact inv_lse hn (all_inv (v := fun _ => 0) hs (fun _ => ⟨0, rfl⟩) n hm)

end Cert.Attn
end
-- ==== Proof.FwdWords.lean ====
/-
  The steps of one head of the attention over a chunk of keys, at the extended reals, and the loads of a block.
-/
module

public import proofs.«01_k».proof.Proof.FwdSoft
public import proofs.«01_k».proof.Proof.Gen.FwdIdeal.Value
public import Idealize.ShloMosaic.Lib.Pipeline.ValueKit
public import Idealize.ShloMosaic.Lib.Pipeline.ReadBack
public import Idealize.ShloMosaic.Lib.Pointwise
public import Idealize.ShloMosaic.Lib.WholeRead
public import Idealize.ShloMosaic.Lib.WritesUnit

@[expose] public section

set_option maxRecDepth 16384

noncomputable section

namespace Cert.FwdIdeal.Val

open Cert.FwdIdeal Cert.FwdIdeal.Gen Idealize.ShloMosaic Idealize.ShloMosaic.TcCoe Idealize.SL.Sem
open Cert.Attn

section Words

variable (q : FVec Ideal S256x128 .bf16) (m m' l : FVec Ideal S256x1 .f32) (a : FVec Ideal S256x128 .f32)

/-! ## A chunk of 1024 keys -/

def sc1 (k : FVec Ideal S1024x128 .bf16) : FVec Ideal S256x1024 .f32 :=
  matmul dot_S256x128_S1024x128_S256x1024_1_1_0_0_n_n none q k (constant S256x1024 .f32 0x00000000#32)
def mx1 (s : FVec Ideal S256x1024 .f32) : FVec Ideal S256x1 .f32 :=
  shapeCast S256x1 (multiReduction .maximumf [1] S256 s 0xFF800000#32 reduces_S256x1024_S256 (.inl rfl) rfl) shapeCasts_S256_S256x1
def ex1 (s : FVec Ideal S256x1024 .f32) : FVec Ideal S256x1024 .f32 := exp (subf s (broadcastTo S256x1024 m broadcasts_S256x1_S256x1024))
def ls1 (s : FVec Ideal S256x1024 .f32) : FVec Ideal S256x1 .f32 :=
  shapeCast S256x1 (multiReduction .add [1] S256 (ex1 m s) 0x00000000#32 reduces_S256x1024_S256 (.inl rfl) rfl) shapeCasts_S256_S256x1
def pv1 (s : FVec Ideal S256x1024 .f32) (v : FVec Ideal S1024x128 .bf16) : FVec Ideal S256x128 .f32 :=
  matmul (φ₂ := .bf16) dot_S256x1024_S1024x128_S256x128_1_0_0_1_n_n none (truncf .bf16 (ex1 m s) bitsLt_bf16_f32) v (constant S256x128 .f32 0x00000000#32)
def mN1 (s : FVec Ideal S256x1024 .f32) : FVec Ideal S256x1 .f32 := maximumf m (mx1 s)
def lN1 (s : FVec Ideal S256x1024 .f32) : FVec Ideal S256x1 .f32 := addf (mulf (exp (subf m m')) l) (ls1 m' s)
def aN1 (s : FVec Ideal S256x1024 .f32) (v : FVec Ideal S1024x128 .bf16) : FVec Ideal S256x128 .f32 :=
  addf (mulf (broadcastTo S256x128 (exp (subf m m')) broadcasts_S256x1_S256x128) a) (pv1 m' s v)

/-! ## A chunk of 256 keys -/

def sc2 (k : FVec Ideal S256x128 .bf16) : FVec Ideal S256x256 .f32 :=
  matmul dot_S256x128_S256x128_S256x256_1_1_0_0_n_n none q k (constant S256x256 .f32 0x00000000#32)
def mx2 (s : FVec Ideal S256x256 .f32) : FVec Ideal S256x1 .f32 :=
  shapeCast S256x1 (multiReduction .maximumf [1] S256 s 0xFF800000#32 reduces_S256x256_S256 (.inl rfl) rfl) shapeCasts_S256_S256x1
def ex2 (s : FVec Ideal S256x256 .f32) : FVec Ideal S256x256 .f32 := exp (subf s (broadcastTo S256x256 m broadcasts_S256x1_S256x256))
def ls2 (s : FVec Ideal S256x256 .f32) : FVec Ideal S256x1 .f32 :=
  shapeCast S256x1 (multiReduction .add [1] S256 (ex2 m s) 0x00000000#32 reduces_S256x256_S256 (.inl rfl) rfl) shapeCasts_S256_S256x1
def pv2 (s : FVec Ideal S256x256 .f32) (v : FVec Ideal S256x128 .bf16) : FVec Ideal S256x128 .f32 :=
  matmul (φ₂ := .bf16) dot_S256x256_S256x128_S256x128_1_0_0_1_n_n none (truncf .bf16 (ex2 m s) bitsLt_bf16_f32) v (constant S256x128 .f32 0x00000000#32)
def mN2 (s : FVec Ideal S256x256 .f32) : FVec Ideal S256x1 .f32 := maximumf m (mx2 s)
def lN2 (s : FVec Ideal S256x256 .f32) : FVec Ideal S256x1 .f32 := addf (mulf (exp (subf m m')) l) (ls2 m' s)
def aN2 (s : FVec Ideal S256x256 .f32) (v : FVec Ideal S256x128 .bf16) : FVec Ideal S256x128 .f32 :=
  addf (mulf (broadcastTo S256x128 (exp (subf m m')) broadcasts_S256x1_S256x128) a) (pv2 m' s v)

/-! ## What is stored -/

def oW : FVec Ideal S256x128 .f32 := divf a (broadcastTo S256x128 l broadcasts_S256x1_S256x128)
def siluW (g : FVec Ideal S256x128 .f32) : FVec Ideal S256x128 .f32 :=
  mulf g (divf (broadcast S256x128 (Scalar.ofBits .f32 0x3F800000#32))
    (addf (broadcast S256x128 (Scalar.ofBits .f32 0x3F800000#32)) (exp (subf (broadcast S256x128 (Scalar.ofBits .f32 0x00000000#32)) g))))
def mixW (g : FVec Ideal S256x128 .f32) : FVec Ideal S256x128 .bf16 := truncf .bf16 (mulf (oW l a) (siluW g)) bitsLt_bf16_f32
def lseW : FVec Ideal S256x128 .f32 :=
  broadcastTo S256x128 (shapeCast S256x1 (addf m (log l)) shapeCasts_S256x1_S256x1) broadcasts_S256x1_S256x128

/-! ## Their entries -/

variable (r : Fin 256) (d : Fin 128)

theorem sc1_apply (k : FVec Ideal S1024x128 .bf16) (j : Fin 1024) : sc1 q k (ix2 r j) = (∑ d : Fin 128, q (ix2 r d) * k (ix2 j d) : EReal) := by
  pointwise [sc1]
theorem sc2_apply (k : FVec Ideal S256x128 .bf16) (j : Fin 256) : sc2 q k (ix2 r j) = (∑ d : Fin 128, q (ix2 r d) * k (ix2 j d) : EReal) := by
  pointwise [sc2]

theorem ls1_apply (s : FVec Ideal S256x1024 .f32) : ls1 m s (ix2 r 0) = (∑ j : Fin 1024, Ideal.exp (s (ix2 r j) - m (ix2 r 0)) : EReal) := by
  pointwise [ls1, ex1]
theorem ls2_apply (s : FVec Ideal S256x256 .f32) : ls2 m s (ix2 r 0) = (∑ j : Fin 256, Ideal.exp (s (ix2 r j) - m (ix2 r 0)) : EReal) := by
  pointwise [ls2, ex2]

theorem pv1_apply (s : FVec Ideal S256x1024 .f32) (v : FVec Ideal S1024x128 .bf16) :
    pv1 m s v (ix2 r d) = (∑ j : Fin 1024, Ideal.exp (s (ix2 r j) - m (ix2 r 0)) * v (ix2 j d) : EReal) := by
  pointwise [pv1, ex1]
theorem pv2_apply (s : FVec Ideal S256x256 .f32) (v : FVec Ideal S256x128 .bf16) :
    pv2 m s v (ix2 r d) = (∑ j : Fin 256, Ideal.exp (s (ix2 r j) - m (ix2 r 0)) * v (ix2 j d) : EReal) := by
  pointwise [pv2, ex2]

theorem lN1_apply (s : FVec Ideal S256x1024 .f32) :
    lN1 m m' l s (ix2 r 0) = (Ideal.exp (m (ix2 r 0) - m' (ix2 r 0)) * l (ix2 r 0) + ∑ j : Fin 1024, Ideal.exp (s (ix2 r j) - m' (ix2 r 0)) : EReal) := by
  pointwise [lN1, ls1, ex1]
theorem lN2_apply (s : FVec Ideal S256x256 .f32) :
    lN2 m m' l s (ix2 r 0) = (Ideal.exp (m (ix2 r 0) - m' (ix2 r 0)) * l (ix2 r 0) + ∑ j : Fin 256, Ideal.exp (s (ix2 r j) - m' (ix2 r 0)) : EReal) := by
  pointwise [lN2, ls2, ex2]

theorem aN1_apply (s : FVec Ideal S256x1024 .f32) (v : FVec Ideal S1024x128 .bf16) :
    aN1 m m' a s v (ix2 r d) = (Ideal.exp (m (ix2 r 0) - m' (ix2 r 0)) * a (ix2 r d) + ∑ j : Fin 1024, Ideal.exp (s (ix2 r j) - m' (ix2 r 0)) * v (ix2 j d) : EReal) := by
  pointwise [aN1, pv1, ex1]
theorem aN2_apply (s : FVec Ideal S256x256 .f32) (v : FVec Ideal S256x128 .bf16) :
    aN2 m m' a s v (ix2 r d) = (Ideal.exp (m (ix2 r 0) - m' (ix2 r 0)) * a (ix2 r d) + ∑ j : Fin 256, Ideal.exp (s (ix2 r j) - m' (ix2 r 0)) * v (ix2 j d) : EReal) := by
  pointwise [aN2, pv2, ex2]

theorem oW_apply : oW l a (ix2 r d) = Ideal.div (a (ix2 r d)) (l (ix2 r 0)) := by
  pointwise [oW]
theorem mixW_apply (g : FVec Ideal S256x128 .f32) :
    mixW l a g (ix2 r d) = (Ideal.div (a (ix2 r d)) (l (ix2 r 0)) * (g (ix2 r d) * Ideal.div 1 (1 + Ideal.exp (0 - g (ix2 r d)))) : EReal) := by
  pointwise [mixW, siluW, oW]
theorem lseW_apply : lseW m l (ix2 r d) = (m (ix2 r 0) + Ideal.log (l (ix2 r 0)) : EReal) := by
  pointwise [lseW]

theorem mx1_apply (s : FVec Ideal S256x1024 .f32) : mx1 s (ix2 r 0) = (Finset.univ : Finset (Fin 1024)).fold max ⊥ (fun j => (s (ix2 r j) : EReal)) := by
  pointwise [mx1]
  rw [show Ideal.ofBits .f32 0xFF800000#32 = ⊥ from neg_word]
theorem mx2_apply (s : FVec Ideal S256x256 .f32) : mx2 s (ix2 r 0) = (Finset.univ : Finset (Fin 256)).fold max ⊥ (fun j => (s (ix2 r j) : EReal)) := by
  pointwise [mx2]
  rw [show Ideal.ofBits .f32 0xFF800000#32 = ⊥ from neg_word]

theorem mx1_fin {s : FVec Ideal S256x1024 .f32} (h : ∀ j, Fin' (s (ix2 r j))) : Fin' (mx1 s (ix2 r 0)) := by
  rw [mx1_apply]
  exact Fin'.top _ h
theorem mx2_fin {s : FVec Ideal S256x256 .f32} (h : ∀ j, Fin' (s (ix2 r j))) : Fin' (mx2 s (ix2 r 0)) := by
  rw [mx2_apply]
  exact Fin'.top _ h
theorem mN1_fin {s : FVec Ideal S256x1024 .f32} (hm : Fin' (m (ix2 r 0))) (h : ∀ j, Fin' (s (ix2 r j))) : Fin' (mN1 m s (ix2 r 0)) := by
  have e : mN1 m s (ix2 r 0) = max (m (ix2 r 0)) (mx1 s (ix2 r 0)) := rfl
  rw [e]
  exact hm.max (mx1_fin r h)
theorem mN2_fin {s : FVec Ideal S256x256 .f32} (hm : Fin' (m (ix2 r 0))) (h : ∀ j, Fin' (s (ix2 r j))) : Fin' (mN2 m s (ix2 r 0)) := by
  have e : mN2 m s (ix2 r 0) = max (m (ix2 r 0)) (mx2 s (ix2 r 0)) := rfl
  rw [e]
  exact hm.max (mx2_fin r h)

end Words

/-! ## One head over all the keys, and over the first 256 -/

section Heads

variable (q : FVec Ideal S256x128 .bf16) (k0 k1 k2 k3 : FVec Ideal S1024x128 .bf16) (k4 : FVec Ideal S256x128 .bf16)
  (v0 v1 v2 v3 : FVec Ideal S1024x128 .bf16) (v4 : FVec Ideal S256x128 .bf16)

def m0 : FVec Ideal S256x1 .f32 := mx1 (sc1 q k0)
def m1 : FVec Ideal S256x1 .f32 := mN1 (m0 q k0) (sc1 q k1)
def m2 : FVec Ideal S256x1 .f32 := mN1 (m1 q k0 k1) (sc1 q k2)
def m3 : FVec Ideal S256x1 .f32 := mN1 (m2 q k0 k1 k2) (sc1 q k3)
def m4 : FVec Ideal S256x1 .f32 := mN2 (m3 q k0 k1 k2 k3) (sc2 q k4)
def l0 : FVec Ideal S256x1 .f32 := ls1 (m0 q k0) (sc1 q k0)
def l1 : FVec Ideal S256x1 .f32 := lN1 (m0 q k0) (m1 q k0 k1) (l0 q k0) (sc1 q k1)
def l2 : FVec Ideal S256x1 .f32 := lN1 (m1 q k0 k1) (m2 q k0 k1 k2) (l1 q k0 k1) (sc1 q k2)
def l3 : FVec Ideal S256x1 .f32 := lN1 (m2 q k0 k1 k2) (m3 q k0 k1 k2 k3) (l2 q k0 k1 k2) (sc1 q k3)
def l4 : FVec Ideal S256x1 .f32 := lN2 (m3 q k0 k1 k2 k3) (m4 q k0 k1 k2 k3 k4) (l3 q k0 k1 k2 k3) (sc2 q k4)
def a0 : FVec Ideal S256x128 .f32 := pv1 (m0 q k0) (sc1 q k0) v0
def a1 : FVec Ideal S256x128 .f32 := aN1 (m0 q k0) (m1 q k0 k1) (a0 q k0 v0) (sc1 q k1) v1
def a2 : FVec Ideal S256x128 .f32 := aN1 (m1 q k0 k1) (m2 q k0 k1 k2) (a1 q k0 k1 v0 v1) (sc1 q k2) v2
def a3 : FVec Ideal S256x128 .f32 := aN1 (m2 q k0 k1 k2) (m3 q k0 k1 k2 k3) (a2 q k0 k1 k2 v0 v1 v2) (sc1 q k3) v3
def a4 : FVec Ideal S256x128 .f32 := aN2 (m3 q k0 k1 k2 k3) (m4 q k0 k1 k2 k3 k4) (a3 q k0 k1 k2 k3 v0 v1 v2 v3) (sc2 q k4) v4

variable (r : Fin 256) (d : Fin 128) {s v : ℕ → EReal}

theorem headB (hs : ∀ i, Fin' (s i)) (hv : ∀ i, Fin' (v i))
    (e0 : ∀ j : Fin 1024, sc1 q k0 (ix2 r j) = s (0 + j.val)) (e1 : ∀ j : Fin 1024, sc1 q k1 (ix2 r j) = s (1024 + j.val))
    (e2 : ∀ j : Fin 1024, sc1 q k2 (ix2 r j) = s (2048 + j.val)) (e3 : ∀ j : Fin 1024, sc1 q k3 (ix2 r j) = s (3072 + j.val))
    (e4 : ∀ j : Fin 256, sc2 q k4 (ix2 r j) = s (4096 + j.val))
    (w0 : ∀ j : Fin 1024, v0 (ix2 j d) = v (0 + j.val)) (w1 : ∀ j : Fin 1024, v1 (ix2 j d) = v (1024 + j.val))
    (w2 : ∀ j : Fin 1024, v2 (ix2 j d) = v (2048 + j.val)) (w3 : ∀ j : Fin 1024, v3 (ix2 j d) = v (3072 + j.val))
    (w4 : ∀ j : Fin 256, v4 (ix2 j d) = v (4096 + j.val)) :
    Inv s v 4352 (m4 q k0 k1 k2 k3 k4 (ix2 r 0)) (l4 q k0 k1 k2 k3 k4 (ix2 r 0)) (a4 q k0 k1 k2 k3 k4 v0 v1 v2 v3 v4 (ix2 r d)) := by
  have f0 : ∀ j, Fin' (sc1 q k0 (ix2 r j)) := fun j => by rw [e0]; exact hs _
  have f1 : ∀ j, Fin' (sc1 q k1 (ix2 r j)) := fun j => by rw [e1]; exact hs _
  have f2 : ∀ j, Fin' (sc1 q k2 (ix2 r j)) := fun j => by rw [e2]; exact hs _
  have f3 : ∀ j, Fin' (sc1 q k3 (ix2 r j)) := fun j => by rw [e3]; exact hs _
  have f4 : ∀ j, Fin' (sc2 q k4 (ix2 r j)) := fun j => by rw [e4]; exact hs _
  have i0 : Inv s v 1024 (m0 q k0 (ix2 r 0)) (l0 q k0 (ix2 r 0)) (a0 q k0 v0 (ix2 r d)) :=
    inv_start hs hv 1024 (mx1_fin r f0) ((ls1_apply _ r _).trans (by simp only [e0])) ((pv1_apply _ r d _ _).trans (by simp only [e0, w0]))
  have i1 : Inv s v 2048 (m1 q k0 k1 (ix2 r 0)) (l1 q k0 k1 (ix2 r 0)) (a1 q k0 k1 v0 v1 (ix2 r d)) :=
    inv_step hs hv 1024 i0 (mN1_fin _ r (inv_fin i0) f1) ((lN1_apply _ _ _ r _).trans (by simp only [e1])) ((aN1_apply _ _ _ r d _ _).trans (by simp only [e1, w1]))
  have i2 : Inv s v 3072 (m2 q k0 k1 k2 (ix2 r 0)) (l2 q k0 k1 k2 (ix2 r 0)) (a2 q k0 k1 k2 v0 v1 v2 (ix2 r d)) :=
    inv_step hs hv 1024 i1 (mN1_fin _ r (inv_fin i1) f2) ((lN1_apply _ _ _ r _).trans (by simp only [e2])) ((aN1_apply _ _ _ r d _ _).trans (by simp only [e2, w2]))
  have i3 : Inv s v 4096 (m3 q k0 k1 k2 k3 (ix2 r 0)) (l3 q k0 k1 k2 k3 (ix2 r 0)) (a3 q k0 k1 k2 k3 v0 v1 v2 v3 (ix2 r d)) :=
    inv_step hs hv 1024 i2 (mN1_fin _ r (inv_fin i2) f3) ((lN1_apply _ _ _ r _).trans (by simp only [e3])) ((aN1_apply _ _ _ r d _ _).trans (by simp only [e3, w3]))
  exact inv_step hs hv 256 i3 (mN2_fin _ r (inv_fin i3) f4) ((lN2_apply _ _ _ r _).trans (by simp only [e4])) ((aN2_apply _ _ _ r d _ _).trans (by simp only [e4, w4]))

theorem headA (hs : ∀ i, Fin' (s i)) (hv : ∀ i, Fin' (v i))
    (e4 : ∀ j : Fin 256, sc2 q k4 (ix2 r j) = s (0 + j.val)) (w4 : ∀ j : Fin 256, v4 (ix2 j d) = v (0 + j.val)) :
    Inv s v 256 (mx2 (sc2 q k4) (ix2 r 0)) (ls2 (mx2 (sc2 q k4)) (sc2 q k4) (ix2 r 0)) (pv2 (mx2 (sc2 q k4)) (sc2 q k4) v4 (ix2 r d)) :=
  inv_start hs hv 256 (mx2_fin r fun j => by rw [e4]; exact hs _) ((ls2_apply _ r _).trans (by simp only [e4])) ((pv2_apply _ r d _ _).trans (by simp only [e4, w4]))

end Heads

end Cert.FwdIdeal.Val
end
-- ==== Proof.FwdCase.lean ====
/-
  What a grid point of the attention leaves in its three output blocks: each head fills its own 128 columns.
-/
module

public import proofs.«01_k».proof.Proof.FwdWords

@[expose] public section

set_option maxRecDepth 16384

noncomputable section

namespace Cert.FwdIdeal.Val

open Cert.FwdIdeal Cert.FwdIdeal.Gen Idealize.ShloMosaic Idealize.ShloMosaic.TcCoe Idealize.SL.Sem
open Cert.Attn

/-! ## Loads and column stores -/

abbrev inbC (u : ℕ) : Prop := ∀ i, (![0, u] : Fin 2 → ℕ) i + S256x128.size i ≤ S256x512.size i
abbrev inbK (o : ℕ) : Prop := ∀ i, (![o, 0] : Fin 2 → ℕ) i + S1024x128.size i ≤ S4352x128.size i
abbrev inbL (o : ℕ) : Prop := ∀ i, (![o, 0] : Fin 2 → ℕ) i + S256x128.size i ≤ S4352x128.size i

section Loads

variable {e : EltTy}

/-- The 128 columns from `u` of a block of 256 rows. -/
abbrev colL (a : Memref sig .tc .vmem S256x512 e) (ha : a.IsWhole) (x : Vec Ideal S256x512 e) (u : ℕ) (inb : inbC u) : Vec Ideal S256x128 e :=
  View.readAt (Elt Ideal) a.view (Rect.unit (s := S256x512) ![0, u] S256x128.size inb).toLoadRect (ha.unread x)

/-- The 1024 rows from `o` of the keys or values. -/
abbrev rowL (a : Memref sig .tc .vmem S4352x128 e) (ha : a.IsWhole) (x : Vec Ideal S4352x128 e) (o : ℕ) (inb : inbK o) : Vec Ideal S1024x128 e :=
  View.readAt (Elt Ideal) a.view (Rect.unit (s := S4352x128) ![o, 0] S1024x128.size inb).toLoadRect (ha.unread x)

/-- The 256 rows from `o`. -/
abbrev rowS (a : Memref sig .tc .vmem S4352x128 e) (ha : a.IsWhole) (x : Vec Ideal S4352x128 e) (o : ℕ) (inb : inbL o) : Vec Ideal S256x128 e :=
  View.readAt (Elt Ideal) a.view (Rect.unit (s := S4352x128) ![o, 0] S256x128.size inb).toLoadRect (ha.unread x)

theorem colL_apply (a : Memref sig .tc .vmem S256x512 e) (ha : a.IsWhole) (x : Vec Ideal S256x512 e) (u : ℕ) (inb : inbC u) (r : Fin 256) (d : Fin 128) (h : u + d.val < 512) :
    colL a ha x u inb (ix2 r d) = x (ix2 r ⟨u + d.val, h⟩) := by
  unfold colL
  rw [ha.readAt_unread]
  refine congrArg x (funext fun i => Fin.ext ?_)
  match i with
  | ⟨0, _⟩ => show 0 + 1 * r.val = r.val; omega
  | ⟨1, _⟩ => show u + 1 * d.val = u + d.val; omega

theorem rowL_apply (a : Memref sig .tc .vmem S4352x128 e) (ha : a.IsWhole) (x : Vec Ideal S4352x128 e) (o : ℕ) (inb : inbK o) (j : Fin 1024) (d : Fin 128) (h : o + j.val < 4352) :
    rowL a ha x o inb (ix2 j d) = x (ix2 ⟨o + j.val, h⟩ d) := by
  unfold rowL
  rw [ha.readAt_unread]
  refine congrArg x (funext fun i => Fin.ext ?_)
  match i with
  | ⟨0, _⟩ => show o + 1 * j.val = o + j.val; omega
  | ⟨1, _⟩ => show 0 + 1 * d.val = d.val; omega

theorem rowS_apply (a : Memref sig .tc .vmem S4352x128 e) (ha : a.IsWhole) (x : Vec Ideal S4352x128 e) (o : ℕ) (inb : inbL o) (j : Fin 256) (d : Fin 128) (h : o + j.val < 4352) :
    rowS a ha x o inb (ix2 j d) = x (ix2 ⟨o + j.val, h⟩ d) := by
  unfold rowS
  rw [ha.readAt_unread]
  refine congrArg x (funext fun i => Fin.ext ?_)
  match i with
  | ⟨0, _⟩ => show o + 1 * j.val = o + j.val; omega
  | ⟨1, _⟩ => show 0 + 1 * d.val = d.val; omega

end Loads

/-- The stores `L` leave `G` in the columns below `b`, whatever the buffer held. -/
def ColsTo {e : EltTy} (b : ℕ) (L : List (View.Piece (Elt Ideal) S256x512 e)) (G : S256x512.Idx → Elt Ideal e) : Prop :=
  ∀ (κ : Kind) (sp : Space) (v : View sig κ sp S256x512 e) (f : v.ty.Contents (Elt Ideal)) (r : Fin 256) (d : Fin 512),
    d.val < b → v.read (Elt Ideal) (v.writes (Elt Ideal) f L) (ix2 r d) = G (ix2 r d)

theorem colsTo_nil {e : EltTy} (G : S256x512.Idx → Elt Ideal e) : ColsTo 0 [] G := fun _ _ _ _ _ _ h => absurd h (Nat.not_lt_zero _)

theorem colsTo_cons {e : EltTy} {u : ℕ} (inb : inbC u) (w : Vec Ideal S256x128 e) {L : List (View.Piece (Elt Ideal) S256x512 e)} {G : S256x512.Idx → Elt Ideal e}
    (h : ColsTo u L G) (hw : ∀ (r : Fin 256) (d : Fin 128) (hd : u + d.val < 512), w (ix2 r d) = G (ix2 r ⟨u + d.val, hd⟩)) :
    ColsTo (u + 128) ((⟨Rect.unit (s := S256x512) ![0, u] S256x128.size inb, w⟩ : View.Piece (Elt Ideal) S256x512 e) :: L) G := by
  intro κ sp v f r d hd
  rcases Nat.lt_or_ge d.val u with hc | hc
  · rw [View.read_writes_cons_unit_of_not_mem v f inb w L (ix2 r d) rfl (1 : Fin 2) (Or.inl hc)]
    exact h κ sp v f r d hc
  · obtain ⟨z, hz⟩ := Nat.exists_eq_add_of_le hc
    have hlt : z < 128 := by omega
    have hlt' : u + z < 512 := by have := d.isLt; omega
    obtain rfl : d = ⟨u + z, hlt'⟩ := Fin.ext hz
    rw [View.read_writes_cons_unit_of_mem v f inb w L (ix2 r ⟨u + z, hlt'⟩) (ix2 r ⟨z, hlt⟩) rfl
      (Fin.forall_fin_two.mpr ⟨by show r.val = 0 + r.val; omega, rfl⟩)]
    exact hw r ⟨z, hlt⟩ hlt'

/-! ## The values of a head -/

section Values

variable (x0 : Vec Ideal S256x512 .bf16) (x1 x2 : Vec Ideal S4352x128 .bf16) (x3 : Vec Ideal S256x512 .f32)

/-- Column `u + d` of a block row. -/
abbrev colN {e : EltTy} (x : Vec Ideal S256x512 e) (u : ℕ) (hu : u + 128 ≤ 512) (r : Fin 256) (d : Fin 128) : Elt Ideal e :=
  x (ix2 r ⟨u + d.val, Nat.lt_of_lt_of_le (Nat.add_lt_add_left d.isLt u) hu⟩)

/-- The score of row `r` of the head at columns `u`, and key `i`. -/
def sN (u : ℕ) (hu : u + 128 ≤ 512) (r : Fin 256) (i : ℕ) : EReal :=
  if h : i < 4352 then ∑ d : Fin 128, (colN x0 u hu r d * x1 (ix2 ⟨i, h⟩ d) : EReal) else 0

/-- Lane `d` of the value of key `i`. -/
def vN (d : Fin 128) (i : ℕ) : EReal := if h : i < 4352 then x2 (ix2 ⟨i, h⟩ d) else 0

def gN (u : ℕ) (hu : u + 128 ≤ 512) (r : Fin 256) (d : Fin 128) : EReal :=
  colN x3 u hu r d * Ideal.div 1 (1 + Ideal.exp (0 - colN x3 u hu r d))

def oN (n : ℕ) (u : ℕ) (hu : u + 128 ≤ 512) (r : Fin 256) (d : Fin 128) : EReal := outR n (sN x0 x1 u hu r) (vN x2 d)
def mixN (n : ℕ) (u : ℕ) (hu : u + 128 ≤ 512) (r : Fin 256) (d : Fin 128) : EReal := oN x0 x1 x2 n u hu r d * gN x3 u hu r d
def lseN (n : ℕ) (u : ℕ) (hu : u + 128 ≤ 512) (r : Fin 256) (_d : Fin 128) : EReal := lseR n (sN x0 x1 u hu r)

theorem head_le (col : Fin 512) : 128 * (col.val / 128) + 128 ≤ 512 := by have := col.isLt; omega

/-- A value given head by head, at a column of the block. -/
def heads (f : ∀ u : ℕ, u + 128 ≤ 512 → Fin 256 → Fin 128 → EReal) : S256x512.Idx → EReal :=
  fun y => f (128 * ((y (1 : Fin 2)).val / 128)) (head_le (y (1 : Fin 2))) (y (0 : Fin 2)) ⟨(y (1 : Fin 2)).val % 128, Nat.mod_lt _ (by decide)⟩

theorem heads_eq (f : ∀ u : ℕ, u + 128 ≤ 512 → Fin 256 → Fin 128 → EReal) (r : Fin 256) (u : ℕ) (hu : u + 128 ≤ 512) (hm : u % 128 = 0) (d : Fin 128) (hd : u + d.val < 512) :
    heads f (ix2 r ⟨u + d.val, hd⟩) = f u hu r d := by
  have key : ∀ (u' : ℕ) (hu' : u' + 128 ≤ 512) (d' : Fin 128), u' = u → d' = d → f u' hu' r d' = f u hu r d := by
    rintro u' hu' d' rfl rfl
    rfl
  refine key _ _ _ ?_ (Fin.ext ?_)
  · show 128 * ((u + d.val) / 128) = u
    have := d.isLt
    omega
  · show (u + d.val) % 128 = d.val
    have := d.isLt
    omega

variable {x0 x1 x2}

theorem sN_fin (h0 : ∀ y, Fin' (x0 y)) (h1 : ∀ y, Fin' (x1 y)) (u : ℕ) (hu : u + 128 ≤ 512) (r : Fin 256) (i : ℕ) : Fin' (sN x0 x1 u hu r i) := by
  unfold sN
  split
  · exact Fin'.sum fun d => (h0 _).mul (h1 _)
  · exact ⟨0, rfl⟩

theorem vN_fin (h2 : ∀ y, Fin' (x2 y)) (d : Fin 128) (i : ℕ) : Fin' (vN x2 d i) := by
  unfold vN
  split
  · exact h2 _
  · exact ⟨0, rfl⟩

end Values

/-! ## The three stores of a head -/

variable (arg2 : Memref sig .tc .vmem S256x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x512 .f32) (harg5 : arg5.IsWhole)
  (x0 : Vec Ideal S256x512 .bf16) (x1 x2 : Vec Ideal S4352x128 .bf16) (x3 : Vec Ideal S256x512 .f32)

theorem sc1_load (u : ℕ) (hu : u + 128 ≤ 512) (iq : inbC u) (o : ℕ) (ik : inbK o) (r : Fin 256) (j : Fin 1024) (ho : o + 1024 ≤ 4352) :
    sc1 (colL arg2 harg2 x0 u iq) (rowL arg3 harg3 x1 o ik) (ix2 r j) = sN x0 x1 u hu r (o + j.val) := by
  have hx : o + j.val < 4352 := by have := j.isLt; omega
  rw [sc1_apply, sN, dif_pos hx]
  refine Finset.sum_congr rfl fun d _ => ?_
  rw [colL_apply _ _ _ _ _ _ _ (by have := d.isLt; omega), rowL_apply _ _ _ _ _ _ _ hx]

theorem sc2_load (u : ℕ) (hu : u + 128 ≤ 512) (iq : inbC u) (o : ℕ) (ik : inbL o) (r : Fin 256) (j : Fin 256) (ho : o + 256 ≤ 4352) :
    sc2 (colL arg2 harg2 x0 u iq) (rowS arg3 harg3 x1 o ik) (ix2 r j) = sN x0 x1 u hu r (o + j.val) := by
  have hx : o + j.val < 4352 := by have := j.isLt; omega
  rw [sc2_apply, sN, dif_pos hx]
  refine Finset.sum_congr rfl fun d _ => ?_
  rw [colL_apply _ _ _ _ _ _ _ (by have := d.isLt; omega), rowS_apply _ _ _ _ _ _ _ hx]

theorem v1_load (o : ℕ) (ik : inbK o) (j : Fin 1024) (d : Fin 128) (ho : o + 1024 ≤ 4352) : rowL arg4 harg4 x2 o ik (ix2 j d) = vN x2 d (o + j.val) := by
  have hx : o + j.val < 4352 := by have := j.isLt; omega
  rw [vN, dif_pos hx, rowL_apply _ _ _ _ _ _ _ hx]

theorem v2_load (o : ℕ) (ik : inbL o) (j : Fin 256) (d : Fin 128) (ho : o + 256 ≤ 4352) : rowS arg4 harg4 x2 o ik (ix2 j d) = vN x2 d (o + j.val) := by
  have hx : o + j.val < 4352 := by have := j.isLt; omega
  rw [vN, dif_pos hx, rowS_apply _ _ _ _ _ _ _ hx]

/-- Over all the keys: the maximum, the sum and the weighted values of a head. -/
abbrev mB (u : ℕ) (iq : inbC u) : FVec Ideal S256x1 .f32 :=
  m4 (colL arg2 harg2 x0 u iq) (rowL arg3 harg3 x1 0 inb_S4352x128_S1024x128_0_0) (rowL arg3 harg3 x1 1024 inb_S4352x128_S1024x128_1024_0) (rowL arg3 harg3 x1 2048 inb_S4352x128_S1024x128_2048_0) (rowL arg3 harg3 x1 3072 inb_S4352x128_S1024x128_3072_0) (rowS arg3 harg3 x1 4096 inb_S4352x128_S256x128_4096_0)
abbrev lB (u : ℕ) (iq : inbC u) : FVec Ideal S256x1 .f32 :=
  l4 (colL arg2 harg2 x0 u iq) (rowL arg3 harg3 x1 0 inb_S4352x128_S1024x128_0_0) (rowL arg3 harg3 x1 1024 inb_S4352x128_S1024x128_1024_0) (rowL arg3 harg3 x1 2048 inb_S4352x128_S1024x128_2048_0) (rowL arg3 harg3 x1 3072 inb_S4352x128_S1024x128_3072_0) (rowS arg3 harg3 x1 4096 inb_S4352x128_S256x128_4096_0)
abbrev aB (u : ℕ) (iq : inbC u) : FVec Ideal S256x128 .f32 :=
  a4 (colL arg2 harg2 x0 u iq) (rowL arg3 harg3 x1 0 inb_S4352x128_S1024x128_0_0) (rowL arg3 harg3 x1 1024 inb_S4352x128_S1024x128_1024_0) (rowL arg3 harg3 x1 2048 inb_S4352x128_S1024x128_2048_0) (rowL arg3 harg3 x1 3072 inb_S4352x128_S1024x128_3072_0) (rowS arg3 harg3 x1 4096 inb_S4352x128_S256x128_4096_0)
    (rowL arg4 harg4 x2 0 inb_S4352x128_S1024x128_0_0) (rowL arg4 harg4 x2 1024 inb_S4352x128_S1024x128_1024_0) (rowL arg4 harg4 x2 2048 inb_S4352x128_S1024x128_2048_0) (rowL arg4 harg4 x2 3072 inb_S4352x128_S1024x128_3072_0) (rowS arg4 harg4 x2 4096 inb_S4352x128_S256x128_4096_0)

/-- Over the first 256 keys. -/
abbrev sA (u : ℕ) (iq : inbC u) : FVec Ideal S256x256 .f32 := sc2 (colL arg2 harg2 x0 u iq) (rowS arg3 harg3 x1 0 inb_S4352x128_S256x128_0_0)
abbrev mA (u : ℕ) (iq : inbC u) : FVec Ideal S256x1 .f32 := mx2 (sA arg2 harg2 arg3 harg3 x0 x1 u iq)
abbrev lA (u : ℕ) (iq : inbC u) : FVec Ideal S256x1 .f32 := ls2 (mA arg2 harg2 arg3 harg3 x0 x1 u iq) (sA arg2 harg2 arg3 harg3 x0 x1 u iq)
abbrev aA (u : ℕ) (iq : inbC u) : FVec Ideal S256x128 .f32 :=
  pv2 (mA arg2 harg2 arg3 harg3 x0 x1 u iq) (sA arg2 harg2 arg3 harg3 x0 x1 u iq) (rowS arg4 harg4 x2 0 inb_S4352x128_S256x128_0_0)

variable {x0 x1 x2} (h0 : ∀ y, Fin' (x0 y)) (h1 : ∀ y, Fin' (x1 y)) (h2 : ∀ y, Fin' (x2 y))

include h0 h1 h2

theorem invB (u : ℕ) (hu : u + 128 ≤ 512) (iq : inbC u) (r : Fin 256) (d : Fin 128) :
    Inv (sN x0 x1 u hu r) (vN x2 d) 4352 (mB arg2 harg2 arg3 harg3 x0 x1 u iq (ix2 r 0)) (lB arg2 harg2 arg3 harg3 x0 x1 u iq (ix2 r 0)) (aB arg2 harg2 arg3 harg3 arg4 harg4 x0 x1 x2 u iq (ix2 r d)) :=
  headB _ _ _ _ _ _ _ _ _ _ _ r d (sN_fin h0 h1 u hu r) (vN_fin h2 d)
    (fun j => sc1_load arg2 harg2 arg3 harg3 x0 x1 u hu iq 0 _ r j (by decide)) (fun j => sc1_load arg2 harg2 arg3 harg3 x0 x1 u hu iq 1024 _ r j (by decide))
    (fun j => sc1_load arg2 harg2 arg3 harg3 x0 x1 u hu iq 2048 _ r j (by decide)) (fun j => sc1_load arg2 harg2 arg3 harg3 x0 x1 u hu iq 3072 _ r j (by decide))
    (fun j => sc2_load arg2 harg2 arg3 harg3 x0 x1 u hu iq 4096 _ r j (by decide))
    (fun j => v1_load arg4 harg4 x2 0 _ j d (by decide)) (fun j => v1_load arg4 harg4 x2 1024 _ j d (by decide)) (fun j => v1_load arg4 harg4 x2 2048 _ j d (by decide))
    (fun j => v1_load arg4 harg4 x2 3072 _ j d (by decide)) (fun j => v2_load arg4 harg4 x2 4096 _ j d (by decide))

theorem invA (u : ℕ) (hu : u + 128 ≤ 512) (iq : inbC u) (r : Fin 256) (d : Fin 128) :
    Inv (sN x0 x1 u hu r) (vN x2 d) 256 (mA arg2 harg2 arg3 harg3 x0 x1 u iq (ix2 r 0)) (lA arg2 harg2 arg3 harg3 x0 x1 u iq (ix2 r 0)) (aA arg2 harg2 arg3 harg3 arg4 harg4 x0 x1 x2 u iq (ix2 r d)) :=
  headA _ _ _ r d (sN_fin h0 h1 u hu r) (vN_fin h2 d)
    (fun j => sc2_load arg2 harg2 arg3 harg3 x0 x1 u hu iq 0 _ r j (by decide)) (fun j => v2_load arg4 harg4 x2 0 _ j d (by decide))

theorem stepOB (u : ℕ) (hu : u + 128 ≤ 512) (hm : u % 128 = 0) (iq i1 : inbC u) {L : List (View.Piece (Elt Ideal) S256x512 .f32)} (h : ColsTo (e := .f32) u L (heads (oN x0 x1 x2 4352))) :
    ColsTo (e := .f32) (u + 128) ((⟨Rect.unit (s := S256x512) ![0, u] S256x128.size i1, oW (lB arg2 harg2 arg3 harg3 x0 x1 u iq) (aB arg2 harg2 arg3 harg3 arg4 harg4 x0 x1 x2 u iq)⟩ : View.Piece (Elt Ideal) S256x512 .f32) :: L) (heads (oN x0 x1 x2 4352)) := by
  refine colsTo_cons i1 _ h fun r d hd => ?_
  rw [heads_eq _ r u hu hm d hd, oW_apply]
  exact inv_out (by decide) (invB arg2 harg2 arg3 harg3 arg4 harg4 h0 h1 h2 u hu iq r d)

theorem stepMB (u : ℕ) (hu : u + 128 ≤ 512) (hm : u % 128 = 0) (iq ig i1 : inbC u) {L : List (View.Piece (Elt Ideal) S256x512 .bf16)} (h : ColsTo (e := .bf16) u L (heads (mixN x0 x1 x2 x3 4352))) :
    ColsTo (e := .bf16) (u + 128) ((⟨Rect.unit (s := S256x512) ![0, u] S256x128.size i1, mixW (lB arg2 harg2 arg3 harg3 x0 x1 u iq) (aB arg2 harg2 arg3 harg3 arg4 harg4 x0 x1 x2 u iq) (colL arg5 harg5 x3 u ig)⟩ : View.Piece (Elt Ideal) S256x512 .bf16) :: L) (heads (mixN x0 x1 x2 x3 4352)) := by
  refine colsTo_cons i1 _ h fun r d hd => ?_
  rw [heads_eq _ r u hu hm d hd, mixW_apply, colL_apply _ _ _ _ _ r d hd, inv_out (by decide) (invB arg2 harg2 arg3 harg3 arg4 harg4 h0 h1 h2 u hu iq r d)]
  rfl

include arg4 harg4 in
theorem stepLB (u : ℕ) (hu : u + 128 ≤ 512) (hm : u % 128 = 0) (iq i1 : inbC u) {L : List (View.Piece (Elt Ideal) S256x512 .f32)} (h : ColsTo (e := .f32) u L (heads (lseN x0 x1 4352))) :
    ColsTo (e := .f32) (u + 128) ((⟨Rect.unit (s := S256x512) ![0, u] S256x128.size i1, lseW (mB arg2 harg2 arg3 harg3 x0 x1 u iq) (lB arg2 harg2 arg3 harg3 x0 x1 u iq)⟩ : View.Piece (Elt Ideal) S256x512 .f32) :: L) (heads (lseN x0 x1 4352)) := by
  refine colsTo_cons i1 _ h fun r d hd => ?_
  rw [heads_eq _ r u hu hm d hd, lseW_apply]
  exact inv_lse (by decide) (invB arg2 harg2 arg3 harg3 arg4 harg4 h0 h1 h2 u hu iq r d)

theorem stepOA (u : ℕ) (hu : u + 128 ≤ 512) (hm : u % 128 = 0) (iq i1 : inbC u) {L : List (View.Piece (Elt Ideal) S256x512 .f32)} (h : ColsTo (e := .f32) u L (heads (oN x0 x1 x2 256))) :
    ColsTo (e := .f32) (u + 128) ((⟨Rect.unit (s := S256x512) ![0, u] S256x128.size i1, oW (lA arg2 harg2 arg3 harg3 x0 x1 u iq) (aA arg2 harg2 arg3 harg3 arg4 harg4 x0 x1 x2 u iq)⟩ : View.Piece (Elt Ideal) S256x512 .f32) :: L) (heads (oN x0 x1 x2 256)) := by
  refine colsTo_cons i1 _ h fun r d hd => ?_
  rw [heads_eq _ r u hu hm d hd, oW_apply]
  exact inv_out (by decide) (invA arg2 harg2 arg3 harg3 arg4 harg4 h0 h1 h2 u hu iq r d)

theorem stepMA (u : ℕ) (hu : u + 128 ≤ 512) (hm : u % 128 = 0) (iq ig i1 : inbC u) {L : List (View.Piece (Elt Ideal) S256x512 .bf16)} (h : ColsTo (e := .bf16) u L (heads (mixN x0 x1 x2 x3 256))) :
    ColsTo (e := .bf16) (u + 128) ((⟨Rect.unit (s := S256x512) ![0, u] S256x128.size i1, mixW (lA arg2 harg2 arg3 harg3 x0 x1 u iq) (aA arg2 harg2 arg3 harg3 arg4 harg4 x0 x1 x2 u iq) (colL arg5 harg5 x3 u ig)⟩ : View.Piece (Elt Ideal) S256x512 .bf16) :: L) (heads (mixN x0 x1 x2 x3 256)) := by
  refine colsTo_cons i1 _ h fun r d hd => ?_
  rw [heads_eq _ r u hu hm d hd, mixW_apply, colL_apply _ _ _ _ _ r d hd, inv_out (by decide) (invA arg2 harg2 arg3 harg3 arg4 harg4 h0 h1 h2 u hu iq r d)]
  rfl

include arg4 harg4 in
theorem stepLA (u : ℕ) (hu : u + 128 ≤ 512) (hm : u % 128 = 0) (iq i1 : inbC u) {L : List (View.Piece (Elt Ideal) S256x512 .f32)} (h : ColsTo (e := .f32) u L (heads (lseN x0 x1 256))) :
    ColsTo (e := .f32) (u + 128) ((⟨Rect.unit (s := S256x512) ![0, u] S256x128.size i1, lseW (mA arg2 harg2 arg3 harg3 x0 x1 u iq) (lA arg2 harg2 arg3 harg3 x0 x1 u iq)⟩ : View.Piece (Elt Ideal) S256x512 .f32) :: L) (heads (lseN x0 x1 256)) := by
  refine colsTo_cons i1 _ h fun r d hd => ?_
  rw [heads_eq _ r u hu hm d hd, lseW_apply]
  exact inv_lse (by decide) (invA arg2 harg2 arg3 harg3 arg4 harg4 h0 h1 h2 u hu iq r d)

end Cert.FwdIdeal.Val
end
-- ==== Proof.FwdOut.lean ====
/-
  The three output blocks of a grid point, column by column.
-/
module

public import proofs.«01_k».proof.Proof.FwdCase

@[expose] public section

set_option maxRecDepth 16384

noncomputable section

namespace Cert.FwdIdeal.Val

open Cert.FwdIdeal Cert.FwdIdeal.Gen Idealize.ShloMosaic Idealize.ShloMosaic.TcCoe Idealize.SL.Sem
open Cert.Attn

variable (c : Dev nD) (arg2 : Memref sig .tc .vmem S256x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .f32) (harg8 : arg8.IsWhole)
  {x0 : Vec Ideal S256x512 .bf16} {x1 x2 : Vec Ideal S4352x128 .bf16} (x3 : Vec Ideal S256x512 .f32)
  (h0 : ∀ y, Fin' (x0 y)) (h1 : ∀ y, Fin' (x1 y)) (h2 : ∀ y, Fin' (x2 y))

include h0 h1 h2

theorem outA4 (i : grid0.Coords) (hc0 : cond0_0 i) (hc1 : ¬cond0_1 i) (r : Fin 256) (d : Fin 512) :
    out0_A_4 (F := Ideal) c i arg2 harg2 arg3 harg3 arg4 harg4 arg5 harg5 arg6 harg6 arg7 harg7 arg8 harg8 hc0 hc1 x0 x1 x2 x3 (ix2 r d) = heads (oN x0 x1 x2 256) (ix2 r d) := by
  unfold out0_A_4 kernelRun0_A
  dsimp only
  exact (stepOA arg2 harg2 arg3 harg3 arg4 harg4 h0 h1 h2 384 (by decide) rfl inb_S256x512_S256x128_0_384 inb_S256x512_S256x128_0_384 (stepOA arg2 harg2 arg3 harg3 arg4 harg4 h0 h1 h2 256 (by decide) rfl inb_S256x512_S256x128_0_256 inb_S256x512_S256x128_0_256 (stepOA arg2 harg2 arg3 harg3 arg4 harg4 h0 h1 h2 128 (by decide) rfl inb_S256x512_S256x128_0_128 inb_S256x512_S256x128_0_128 (stepOA arg2 harg2 arg3 harg3 arg4 harg4 h0 h1 h2 0 (by decide) rfl inb_S256x512_S256x128_0_0 inb_S256x512_S256x128_0_0 (colsTo_nil _))))) _ _ _ _ r d d.isLt

theorem outA5 (i : grid0.Coords) (hc0 : cond0_0 i) (hc1 : ¬cond0_1 i) (r : Fin 256) (d : Fin 512) :
    out0_A_5 (F := Ideal) c i arg2 harg2 arg3 harg3 arg4 harg4 arg5 harg5 arg6 harg6 arg7 harg7 arg8 harg8 hc0 hc1 x0 x1 x2 x3 (ix2 r d) = heads (mixN x0 x1 x2 x3 256) (ix2 r d) := by
  unfold out0_A_5 kernelRun0_A
  dsimp only
  exact (stepMA arg2 harg2 arg3 harg3 arg4 harg4 arg5 harg5 x3 h0 h1 h2 384 (by decide) rfl inb_S256x512_S256x128_0_384 inb_S256x512_S256x128_0_384 inb_S256x512_S256x128_0_384 (stepMA arg2 harg2 arg3 harg3 arg4 harg4 arg5 harg5 x3 h0 h1 h2 256 (by decide) rfl inb_S256x512_S256x128_0_256 inb_S256x512_S256x128_0_256 inb_S256x512_S256x128_0_256 (stepMA arg2 harg2 arg3 harg3 arg4 harg4 arg5 harg5 x3 h0 h1 h2 128 (by decide) rfl inb_S256x512_S256x128_0_128 inb_S256x512_S256x128_0_128 inb_S256x512_S256x128_0_128 (stepMA arg2 harg2 arg3 harg3 arg4 harg4 arg5 harg5 x3 h0 h1 h2 0 (by decide) rfl inb_S256x512_S256x128_0_0 inb_S256x512_S256x128_0_0 inb_S256x512_S256x128_0_0 (colsTo_nil _))))) _ _ _ _ r d d.isLt

theorem outA6 (i : grid0.Coords) (hc0 : cond0_0 i) (hc1 : ¬cond0_1 i) (r : Fin 256) (d : Fin 512) :
    out0_A_6 (F := Ideal) c i arg2 harg2 arg3 harg3 arg4 harg4 arg5 harg5 arg6 harg6 arg7 harg7 arg8 harg8 hc0 hc1 x0 x1 x2 x3 (ix2 r d) = heads (lseN x0 x1 256) (ix2 r d) := by
  unfold out0_A_6 kernelRun0_A
  dsimp only
  exact (stepLA arg2 harg2 arg3 harg3 arg4 harg4 h0 h1 h2 384 (by decide) rfl inb_S256x512_S256x128_0_384 inb_S256x512_S256x128_0_384 (stepLA arg2 harg2 arg3 harg3 arg4 harg4 h0 h1 h2 256 (by decide) rfl inb_S256x512_S256x128_0_256 inb_S256x512_S256x128_0_256 (stepLA arg2 harg2 arg3 harg3 arg4 harg4 h0 h1 h2 128 (by decide) rfl inb_S256x512_S256x128_0_128 inb_S256x512_S256x128_0_128 (stepLA arg2 harg2 arg3 harg3 arg4 harg4 h0 h1 h2 0 (by decide) rfl inb_S256x512_S256x128_0_0 inb_S256x512_S256x128_0_0 (colsTo_nil _))))) _ _ _ _ r d d.isLt

theorem outB4 (i : grid0.Coords) (hc0 : ¬cond0_0 i) (hc1 : cond0_1 i) (r : Fin 256) (d : Fin 512) :
    out0_B_4 (F := Ideal) c i arg2 harg2 arg3 harg3 arg4 harg4 arg5 harg5 arg6 harg6 arg7 harg7 arg8 harg8 hc0 hc1 x0 x1 x2 x3 (ix2 r d) = heads (oN x0 x1 x2 4352) (ix2 r d) := by
  unfold out0_B_4 kernelRun0_B
  dsimp only
  exact (stepOB arg2 harg2 arg3 harg3 arg4 harg4 h0 h1 h2 384 (by decide) rfl inb_S256x512_S256x128_0_384 inb_S256x512_S256x128_0_384 (stepOB arg2 harg2 arg3 harg3 arg4 harg4 h0 h1 h2 256 (by decide) rfl inb_S256x512_S256x128_0_256 inb_S256x512_S256x128_0_256 (stepOB arg2 harg2 arg3 harg3 arg4 harg4 h0 h1 h2 128 (by decide) rfl inb_S256x512_S256x128_0_128 inb_S256x512_S256x128_0_128 (stepOB arg2 harg2 arg3 harg3 arg4 harg4 h0 h1 h2 0 (by decide) rfl inb_S256x512_S256x128_0_0 inb_S256x512_S256x128_0_0 (colsTo_nil _))))) _ _ _ _ r d d.isLt

theorem outB5 (i : grid0.Coords) (hc0 : ¬cond0_0 i) (hc1 : cond0_1 i) (r : Fin 256) (d : Fin 512) :
    out0_B_5 (F := Ideal) c i arg2 harg2 arg3 harg3 arg4 harg4 arg5 harg5 arg6 harg6 arg7 harg7 arg8 harg8 hc0 hc1 x0 x1 x2 x3 (ix2 r d) = heads (mixN x0 x1 x2 x3 4352) (ix2 r d) := by
  unfold out0_B_5 kernelRun0_B
  dsimp only
  exact (stepMB arg2 harg2 arg3 harg3 arg4 harg4 arg5 harg5 x3 h0 h1 h2 384 (by decide) rfl inb_S256x512_S256x128_0_384 inb_S256x512_S256x128_0_384 inb_S256x512_S256x128_0_384 (stepMB arg2 harg2 arg3 harg3 arg4 harg4 arg5 harg5 x3 h0 h1 h2 256 (by decide) rfl inb_S256x512_S256x128_0_256 inb_S256x512_S256x128_0_256 inb_S256x512_S256x128_0_256 (stepMB arg2 harg2 arg3 harg3 arg4 harg4 arg5 harg5 x3 h0 h1 h2 128 (by decide) rfl inb_S256x512_S256x128_0_128 inb_S256x512_S256x128_0_128 inb_S256x512_S256x128_0_128 (stepMB arg2 harg2 arg3 harg3 arg4 harg4 arg5 harg5 x3 h0 h1 h2 0 (by decide) rfl inb_S256x512_S256x128_0_0 inb_S256x512_S256x128_0_0 inb_S256x512_S256x128_0_0 (colsTo_nil _))))) _ _ _ _ r d d.isLt

theorem outB6 (i : grid0.Coords) (hc0 : ¬cond0_0 i) (hc1 : cond0_1 i) (r : Fin 256) (d : Fin 512) :
    out0_B_6 (F := Ideal) c i arg2 harg2 arg3 harg3 arg4 harg4 arg5 harg5 arg6 harg6 arg7 harg7 arg8 harg8 hc0 hc1 x0 x1 x2 x3 (ix2 r d) = heads (lseN x0 x1 4352) (ix2 r d) := by
  unfold out0_B_6 kernelRun0_B
  dsimp only
  exact (stepLB arg2 harg2 arg3 harg3 arg4 harg4 h0 h1 h2 384 (by decide) rfl inb_S256x512_S256x128_0_384 inb_S256x512_S256x128_0_384 (stepLB arg2 harg2 arg3 harg3 arg4 harg4 h0 h1 h2 256 (by decide) rfl inb_S256x512_S256x128_0_256 inb_S256x512_S256x128_0_256 (stepLB arg2 harg2 arg3 harg3 arg4 harg4 h0 h1 h2 128 (by decide) rfl inb_S256x512_S256x128_0_128 inb_S256x512_S256x128_0_128 (stepLB arg2 harg2 arg3 harg3 arg4 harg4 h0 h1 h2 0 (by decide) rfl inb_S256x512_S256x128_0_0 inb_S256x512_S256x128_0_0 (colsTo_nil _))))) _ _ _ _ r d d.isLt

end Cert.FwdIdeal.Val
end
-- ==== Proof.FwdArr.lean ====
/-
  The attention's three result arrays after the run, entry by entry, over real arguments.
-/
module

public import proofs.«01_k».proof.Proof.FwdOut
public import proofs.«01_k».proof.Proof.Cols

@[expose] public section

set_option maxRecDepth 16384

noncomputable section

namespace Cert.FwdIdeal.Val

open Cert.FwdIdeal Cert.FwdIdeal.Gen Idealize.ShloMosaic Idealize.ShloMosaic.TcCoe Idealize.SL.Sem
open Idealize.ShloMosaic.Pipeline (Dat)
open Cert.Attn
open Cert.FwdIdeal.Value (blocks4 blocks5 blocks6 flushed4_A flushed4_B flushed5_A flushed5_B flushed6_A flushed6_B)

/-! ## Scores and values over whole arrays -/

section Global

variable (Q : S4352x1536.Idx → EReal) (G : S4352x2560.Idx → EReal)

/-- The score of query row `a` and key `i`, head `g` of group `kv`. -/
def scoreN (kv : Fin 2) (g : Fin 4) (a : Fin 4352) (i : ℕ) : EReal :=
  if h : i < 4352 then ∑ d : Fin 128, Q (ix2 a (cQ' kv g d)) * Q (ix2 ⟨i, h⟩ (cKey kv d)) else 0

/-- Lane `d` of the value of key `i`. -/
def valueN (kv : Fin 2) (d : Fin 128) (i : ℕ) : EReal := if h : i < 4352 then Q (ix2 ⟨i, h⟩ (cVal kv d)) else 0

/-- The number of keys a row attends to: the context rows see the context only. -/
def keys (a : Fin 4352) : ℕ := if a.val < 256 then 256 else 4352

def attO (kv : Fin 2) (g : Fin 4) (a : Fin 4352) (d : Fin 128) : EReal := outR (keys a) (scoreN Q kv g a) (valueN Q kv d)
def attL (kv : Fin 2) (g : Fin 4) (a : Fin 4352) : EReal := lseR (keys a) (scoreN Q kv g a)
def attM (kv : Fin 2) (g : Fin 4) (a : Fin 4352) (d : Fin 128) : EReal :=
  attO Q kv g a d * (G (ix2 a (cGate kv g d)) * Ideal.div 1 (1 + Ideal.exp (0 - G (ix2 a (cGate kv g d)))))

end Global

variable (m : (ℓ : Loc nD τ sig) → Buf (Elt Ideal) ℓ) (c : Dev nD) (t : Fin cfg0.N)

abbrev rQ : S4352x1536.Idx → EReal := V m c main_arg0
abbrev rG : S4352x2560.Idx → EReal := V m c main_arg1

theorem idx : ∀ t : Fin cfg0.N, win0_0.index t = ![t.val % 17, t.val / 17] ∧ win0_1.index t = ![0, 8 + t.val / 17] ∧ win0_2.index t = ![0, 10 + t.val / 17]
    ∧ win0_3.index t = ![t.val % 17, 3 + t.val / 17] ∧ win0_4.index t = ![t.val % 17, t.val / 17] ∧ win0_5.index t = ![t.val % 17, t.val / 17]
    ∧ win0_6.index t = ![t.val % 17, t.val / 17] :=
  (by decide +kernel : ∀ t : Fin grid0.N, _)

theorem rd0 (r : Fin 256) (d : Fin 512) (a : Fin 4352) (b : Fin 1536) (ha : a.val = 256 * (t.val % 17) + r.val) (hb : b.val = 512 * (t.val / 17) + d.val) :
    (show Vec Ideal S256x512 .bf16 from iblk m c 0 t) (ix2 r d) = rQ m c (ix2 a b) := by
  blk_ext [iblk, idx t]

theorem rd1 (s : Fin 4352) (d : Fin 128) (b : Fin 1536) (hb : b.val = 1024 + 128 * (t.val / 17) + d.val) :
    (show Vec Ideal S4352x128 .bf16 from iblk m c 1 t) (ix2 s d) = rQ m c (ix2 s b) := by
  blk_ext [iblk, idx t]

theorem rd2 (s : Fin 4352) (d : Fin 128) (b : Fin 1536) (hb : b.val = 1280 + 128 * (t.val / 17) + d.val) :
    (show Vec Ideal S4352x128 .bf16 from iblk m c 2 t) (ix2 s d) = rQ m c (ix2 s b) := by
  blk_ext [iblk, idx t]

theorem rd3 (r : Fin 256) (d : Fin 512) (a : Fin 4352) (b : Fin 2560) (ha : a.val = 256 * (t.val % 17) + r.val) (hb : b.val = 1536 + 512 * (t.val / 17) + d.val) :
    (show Vec Ideal S256x512 .f32 from iblk m c 3 t) (ix2 r d) = rG m c (ix2 a b) := by
  blk_ext [iblk, idx t]

theorem pt_lt : t.val < 34 := t.isLt

section Finite

variable {m c} (hx : ∀ i, Fin' (rQ m c i))
include hx

theorem fin0 (y : S256x512.Idx) : Fin' ((show Vec Ideal S256x512 .bf16 from iblk m c 0 t) y) := by
  obtain ⟨r, d, rfl⟩ : ∃ r d, y = ix2 r d := ⟨y 0, y 1, eq_ix2 y⟩
  have := pt_lt t
  rw [rd0 m c t r d ⟨256 * (t.val % 17) + r.val, by omega⟩ ⟨512 * (t.val / 17) + d.val, by omega⟩ rfl rfl]
  exact hx _
theorem fin1 (y : S4352x128.Idx) : Fin' ((show Vec Ideal S4352x128 .bf16 from iblk m c 1 t) y) := by
  obtain ⟨r, d, rfl⟩ : ∃ r d, y = ix2 r d := ⟨y 0, y 1, eq_ix2 y⟩
  have := pt_lt t
  rw [rd1 m c t r d ⟨1024 + 128 * (t.val / 17) + d.val, by omega⟩ rfl]
  exact hx _
theorem fin2 (y : S4352x128.Idx) : Fin' ((show Vec Ideal S4352x128 .bf16 from iblk m c 2 t) y) := by
  obtain ⟨r, d, rfl⟩ : ∃ r d, y = ix2 r d := ⟨y 0, y 1, eq_ix2 y⟩
  have := pt_lt t
  rw [rd2 m c t r d ⟨1280 + 128 * (t.val / 17) + d.val, by omega⟩ rfl]
  exact hx _

end Finite

theorem hg (g : Fin 4) : 128 * g.val + 128 ≤ 512 := by omega

section Block

variable (kv : Fin 2) (g : Fin 4) (r : Fin 256) (a : Fin 4352) (d : Fin 128) (ha : a.val = 256 * (t.val % 17) + r.val) (hk : kv.val = t.val / 17)
include hk

theorem value_blk : vN (show Vec Ideal S4352x128 .bf16 from iblk m c 2 t) d = valueN (rQ m c) kv d := by
  funext i
  unfold vN valueN
  split
  · exact rd2 m c t _ d _ (by rw [← hk]; rfl)
  · rfl

include ha

theorem score_blk : sN (show Vec Ideal S256x512 .bf16 from iblk m c 0 t) (show Vec Ideal S4352x128 .bf16 from iblk m c 1 t) (128 * g.val) (hg g) r = scoreN (rQ m c) kv g a := by
  funext i
  unfold sN scoreN
  split
  · refine Finset.sum_congr rfl fun d _ => congrArg₂ (fun x y : EReal => x * y) ?_ ?_
    · exact rd0 m c t r _ a _ ha (by rw [← hk]; show 512 * kv.val + 128 * g.val + d.val = 512 * kv.val + (128 * g.val + d.val); omega)
    · exact rd1 m c t _ d _ (by rw [← hk]; rfl)
  · rfl

theorem gate_blk : gN (show Vec Ideal S256x512 .f32 from iblk m c 3 t) (128 * g.val) (hg g) r d
    = rG m c (ix2 a (cGate kv g d)) * Ideal.div 1 (1 + Ideal.exp (0 - rG m c (ix2 a (cGate kv g d)))) := by
  have e : colN (show Vec Ideal S256x512 .f32 from iblk m c 3 t) (128 * g.val) (hg g) r d = rG m c (ix2 a (cGate kv g d)) :=
    rd3 m c t r _ a _ ha (by rw [← hk]; show 1536 + (512 * kv.val + 128 * g.val + d.val) = 1536 + 512 * kv.val + (128 * g.val + d.val); omega)
  unfold gN
  rw [e]

end Block

/-! ## The result arrays -/

def res4 : S4352x1024.Idx → EReal := (dats m 0 c).arrAt 4 cfg0.N
def res5 : S4352x1024.Idx → EReal := (dats m 0 c).arrAt 5 cfg0.N
def res6 : S4352x1024.Idx → EReal := (dats m 0 c).arrAt 6 cfg0.N

theorem pl4 (r : Fin 256) (d : Fin 512) (a : Fin 4352) (b : Fin 1024) (ha : a.val = 256 * (t.val % 17) + r.val) (hb : b.val = 512 * (t.val / 17) + d.val) :
    res4 m c (ix2 a b) = ((outsAt0 m c t.val t.isLt).1 : S256x512.Idx → EReal) (ix2 r d) := by
  have h := congrFun (blocks4 m c t (flush0_4 t)) (ix2 r d)
  rw [Cert.FwdIdeal.Value.flushed4] at h
  refine Eq.trans ?_ (h.trans ?_)
  · refine congrArg (res4 m c) ?_
    blk_ext [idx t]
  · blk_ext [idx t]

theorem pl5 (r : Fin 256) (d : Fin 512) (a : Fin 4352) (b : Fin 1024) (ha : a.val = 256 * (t.val % 17) + r.val) (hb : b.val = 512 * (t.val / 17) + d.val) :
    res5 m c (ix2 a b) = ((outsAt0 m c t.val t.isLt).2.1 : S256x512.Idx → EReal) (ix2 r d) := by
  have h := congrFun (blocks5 m c t (flush0_5 t)) (ix2 r d)
  rw [Cert.FwdIdeal.Value.flushed5] at h
  refine Eq.trans ?_ (h.trans ?_)
  · refine congrArg (res5 m c) ?_
    blk_ext [idx t]
  · blk_ext [idx t]

theorem pl6 (r : Fin 256) (d : Fin 512) (a : Fin 4352) (b : Fin 1024) (ha : a.val = 256 * (t.val % 17) + r.val) (hb : b.val = 512 * (t.val / 17) + d.val) :
    res6 m c (ix2 a b) = ((outsAt0 m c t.val t.isLt).2.2 : S256x512.Idx → EReal) (ix2 r d) := by
  have h := congrFun (blocks6 m c t (flush0_6 t)) (ix2 r d)
  rw [Cert.FwdIdeal.Value.flushed6] at h
  refine Eq.trans ?_ (h.trans ?_)
  · refine congrArg (res6 m c) ?_
    blk_ext [idx t]
  · blk_ext [idx t]

/-- The point of group `kv` and of the block of row `a`. -/
def ptOf (kv : Fin 2) (a : Fin 4352) : Fin cfg0.N := ⟨17 * kv.val + a.val / 256, by show 17 * kv.val + a.val / 256 < 34; omega⟩
def inBlk (a : Fin 4352) : Fin 256 := ⟨a.val % 256, Nat.mod_lt _ (by decide)⟩
theorem pt_div (kv : Fin 2) (a : Fin 4352) : kv.val = (ptOf kv a).val / 17 := by show kv.val = (17 * kv.val + a.val / 256) / 17; omega
theorem pt_mod (kv : Fin 2) (a : Fin 4352) : (ptOf kv a).val % 17 = a.val / 256 := by show (17 * kv.val + a.val / 256) % 17 = a.val / 256; omega
theorem at_blk (kv : Fin 2) (a : Fin 4352) : a.val = 256 * ((ptOf kv a).val % 17) + (inBlk a).val := by
  rw [pt_mod]; show a.val = 256 * (a.val / 256) + a.val % 256; omega
theorem col_blk (kv : Fin 2) (g : Fin 4) (a : Fin 4352) (d : Fin 128) (hd : 128 * g.val + d.val < 512) :
    (cQ kv g d).val = 512 * ((ptOf kv a).val / 17) + (⟨128 * g.val + d.val, hd⟩ : Fin 512).val := by
  rw [← pt_div]; show 512 * kv.val + 128 * g.val + d.val = 512 * kv.val + (128 * g.val + d.val); omega

variable (hx : ∀ i, Fin' (rQ m c i)) (kv : Fin 2) (g : Fin 4) (a : Fin 4352) (d : Fin 128)
include hx

theorem val4 : res4 m c (ix2 a (cQ kv g d)) = attO (rQ m c) kv g a d := by
  have hd : 128 * g.val + d.val < 512 := by omega
  rw [pl4 m c (ptOf kv a) (inBlk a) ⟨128 * g.val + d.val, hd⟩ a (cQ kv g d) (at_blk kv a) (col_blk kv g a d hd)]
  unfold attO keys
  by_cases h : (ptOf kv a).val % 17 = 0
  · rw [outsAt0_A m c _ h (by omega), if_pos (by rw [pt_mod] at h; omega)]
    dsimp only
    refine (outA4 c _ _ _ _ _ _ _ _ _ _ _ _ _ _ _ (fin0 _ hx) (fin1 _ hx) (fin2 _ hx) _ _ _ (inBlk a) ⟨128 * g.val + d.val, hd⟩).trans ?_
    rw [heads_eq _ _ (128 * g.val) (hg g) (by omega) d hd, oN, score_blk m c _ kv g _ a (at_blk kv a) (pt_div kv a), value_blk m c _ kv d (pt_div kv a)]
  · rw [outsAt0_B m c _ h (by omega), if_neg (by rw [pt_mod] at h; omega)]
    dsimp only
    refine (outB4 c _ _ _ _ _ _ _ _ _ _ _ _ _ _ _ (fin0 _ hx) (fin1 _ hx) (fin2 _ hx) _ _ _ (inBlk a) ⟨128 * g.val + d.val, hd⟩).trans ?_
    rw [heads_eq _ _ (128 * g.val) (hg g) (by omega) d hd, oN, score_blk m c _ kv g _ a (at_blk kv a) (pt_div kv a), value_blk m c _ kv d (pt_div kv a)]

theorem val5 : res5 m c (ix2 a (cQ kv g d)) = attM (rQ m c) (rG m c) kv g a d := by
  have hd : 128 * g.val + d.val < 512 := by omega
  rw [pl5 m c (ptOf kv a) (inBlk a) ⟨128 * g.val + d.val, hd⟩ a (cQ kv g d) (at_blk kv a) (col_blk kv g a d hd)]
  unfold attM attO keys
  by_cases h : (ptOf kv a).val % 17 = 0
  · rw [outsAt0_A m c _ h (by omega), if_pos (by rw [pt_mod] at h; omega)]
    dsimp only
    refine (outA5 c _ _ _ _ _ _ _ _ _ _ _ _ _ _ _ (fin0 _ hx) (fin1 _ hx) (fin2 _ hx) _ _ _ (inBlk a) ⟨128 * g.val + d.val, hd⟩).trans ?_
    rw [heads_eq _ _ (128 * g.val) (hg g) (by omega) d hd, mixN, oN, score_blk m c _ kv g _ a (at_blk kv a) (pt_div kv a), value_blk m c _ kv d (pt_div kv a),
      gate_blk m c _ kv g _ a d (at_blk kv a) (pt_div kv a)]
  · rw [outsAt0_B m c _ h (by omega), if_neg (by rw [pt_mod] at h; omega)]
    dsimp only
    refine (outB5 c _ _ _ _ _ _ _ _ _ _ _ _ _ _ _ (fin0 _ hx) (fin1 _ hx) (fin2 _ hx) _ _ _ (inBlk a) ⟨128 * g.val + d.val, hd⟩).trans ?_
    rw [heads_eq _ _ (128 * g.val) (hg g) (by omega) d hd, mixN, oN, score_blk m c _ kv g _ a (at_blk kv a) (pt_div kv a), value_blk m c _ kv d (pt_div kv a),
      gate_blk m c _ kv g _ a d (at_blk kv a) (pt_div kv a)]

theorem val6 : res6 m c (ix2 a (cQ kv g d)) = attL (rQ m c) kv g a := by
  have hd : 128 * g.val + d.val < 512 := by omega
  rw [pl6 m c (ptOf kv a) (inBlk a) ⟨128 * g.val + d.val, hd⟩ a (cQ kv g d) (at_blk kv a) (col_blk kv g a d hd)]
  unfold attL keys
  by_cases h : (ptOf kv a).val % 17 = 0
  · rw [outsAt0_A m c _ h (by omega), if_pos (by rw [pt_mod] at h; omega)]
    dsimp only
    refine (outA6 c _ _ _ _ _ _ _ _ _ _ _ _ _ _ _ (fin0 _ hx) (fin1 _ hx) (fin2 _ hx) _ _ _ (inBlk a) ⟨128 * g.val + d.val, hd⟩).trans ?_
    rw [heads_eq _ _ (128 * g.val) (hg g) (by omega) d hd, lseN, score_blk m c _ kv g _ a (at_blk kv a) (pt_div kv a)]
  · rw [outsAt0_B m c _ h (by omega), if_neg (by rw [pt_mod] at h; omega)]
    dsimp only
    refine (outB6 c _ _ _ _ _ _ _ _ _ _ _ _ _ _ _ (fin0 _ hx) (fin1 _ hx) (fin2 _ hx) _ _ _ (inBlk a) ⟨128 * g.val + d.val, hd⟩).trans ?_
    rw [heads_eq _ _ (128 * g.val) (hg g) (by omega) d hd, lseN, score_blk m c _ kv g _ a (at_blk kv a) (pt_div kv a)]

end Cert.FwdIdeal.Val
end
-- ==== Proof.FwdRef.lean ====
/-
  The attention's reference, entry by entry: whole rows of scores, their exponentials over their sum, and the row's logarithm.
-/
module

public import proofs.«01_k».proof.Proof.FwdArr
public import proofs.«01_k».proof.Proof.Gen.FwdRefIdeal.Read

@[expose] public section

set_option maxRecDepth 16384

noncomputable section

namespace Cert.FwdRefIdeal.Val

open Cert.FwdRefIdeal Cert.FwdRefIdeal.Gen Idealize.ShloMosaic Idealize.ShloMosaic.TcCoe Idealize.SL.Sem
open Cert.FwdRefIdeal.Read
open Cert.Attn
open Cert.FwdIdeal.Val (scoreN valueN keys attO attL attM)

variable (x : FVec Ideal S4352x1536 .bf16) (p : FVec Ideal S4352x2560 .f32)

theorem scoreN_fin (hx : ∀ i, Fin' (x i)) (kv : Fin 2) (g : Fin 4) (a : Fin 4352) (i : ℕ) : Fin' (scoreN x kv g a i) := by
  unfold scoreN
  split
  · exact Fin'.sum fun d => (hx _).mul (hx _)
  · exact ⟨0, rfl⟩
theorem valueN_fin (hx : ∀ i, Fin' (x i)) (kv : Fin 2) (d : Fin 128) (i : ℕ) : Fin' (valueN x kv d i) := by
  unfold valueN
  split
  · exact hx _
  · exact ⟨0, rfl⟩

theorem scoreN_at (kv : Fin 2) (g : Fin 4) (a s : Fin 4352) (n : ℕ) (h : n = s.val) :
    scoreN x kv g a n = ∑ d : Fin 128, x (ix2 s (cKey kv d)) * x (ix2 a (cQ' kv g d)) := by
  subst h
  unfold scoreN
  rw [dif_pos s.isLt]
  exact Finset.sum_congr rfl fun d _ => mul_comm _ _
theorem valueN_at (kv : Fin 2) (d : Fin 128) (s : Fin 4352) (n : ℕ) (h : n = s.val) : valueN x kv d n = x (ix2 s (cVal kv d)) := by
  subst h
  unfold valueN
  rw [dif_pos s.isLt]

theorem q_apply (a : Fin 4352) (kv : Fin 2) (g : Fin 4) (d : Fin 128) : val_main_v4 (F := Ideal) x (ix4 a kv g d) = x (ix2 a (cQ' kv g d)) := by
  pointwise [val_main_v4, val_main_v1, val_main_v0, cQ']
  exact congrArg (fun i => x (ix2 _ i)) (Fin.ext (by show _ = _; dsimp only; omega))
theorem k_apply (s : Fin 4352) (kv : Fin 2) (d : Fin 128) : val_main_v5 (F := Ideal) x (ix3 s kv d) = x (ix2 s (cKey kv d)) := by
  pointwise [val_main_v5, val_main_v2, val_main_v0, cKey]
  exact congrArg (fun i => x (ix2 _ i)) (Fin.ext (by show _ = _; dsimp only; omega))
theorem v_apply (s : Fin 4352) (kv : Fin 2) (d : Fin 128) : val_main_v6 (F := Ideal) x (ix3 s kv d) = x (ix2 s (cVal kv d)) := by
  pointwise [val_main_v6, val_main_v3, val_main_v0, cVal]
  exact congrArg (fun i => x (ix2 _ i)) (Fin.ext (by show _ = _; dsimp only; omega))
theorem k25_apply (s : Fin 256) (kv : Fin 2) (d : Fin 128) : val_main_v25 (F := Ideal) x (ix3 s kv d) = x (ix2 ⟨s.val, by omega⟩ (cKey kv d)) := by
  refine Eq.trans ?_ (k_apply x _ kv d)
  pointwise [val_main_v25]
theorem k45_apply (s : Fin 256) (kv : Fin 2) (d : Fin 128) : val_main_v45 (F := Ideal) x (ix3 s kv d) = x (ix2 ⟨s.val, by omega⟩ (cKey kv d)) := by
  refine Eq.trans ?_ (k_apply x _ kv d)
  pointwise [val_main_v45]
theorem v26_apply (s : Fin 256) (kv : Fin 2) (d : Fin 128) : val_main_v26 (F := Ideal) x (ix3 s kv d) = x (ix2 ⟨s.val, by omega⟩ (cVal kv d)) := by
  refine Eq.trans ?_ (v_apply x _ kv d)
  pointwise [val_main_v26]

/-! ## The latent rows' output -/

theorem qrowL (a : Fin 4096) (kv : Fin 2) (g : Fin 4) (d : Fin 128) : val_main_v7 (F := Ideal) x (ix4 a kv g d) = x (ix2 ⟨256 + a.val, by omega⟩ (cQ' kv g d)) := by
  refine Eq.trans ?_ (q_apply x _ kv g d)
  pointwise [val_main_v7]
theorem scoreL' (kv : Fin 2) (g : Fin 4) (a : Fin 4096) (s : Fin 4352) :
    val_main_v9 (F := Ideal) x (ix4 kv g a s) = ∑ d : Fin 128, val_main_v5 (F := Ideal) x (ix3 s kv d) * val_main_v7 (F := Ideal) x (ix4 a kv g d) := by
  pointwise [val_main_v9, val_main_v8]
theorem scoreL (kv : Fin 2) (g : Fin 4) (a : Fin 4096) (s : Fin 4352) : val_main_v9 (F := Ideal) x (ix4 kv g a s) = scoreN x kv g ⟨256 + a.val, by omega⟩ s.val := by
  rw [scoreL', scoreN_at x kv g _ ⟨s.val, by omega⟩ _ rfl]
  refine Finset.sum_congr rfl fun d _ => ?_
  rw [k_apply, qrowL]
theorem topL (hx : ∀ i, Fin' (x i)) (kv : Fin 2) (g : Fin 4) (a : Fin 4096) : Fin' (val_main_v10 (F := Ideal) x (ix3 kv g a)) := by
  have h : S2x4x4096x4352.Reduces [3] S2x4x4096 := by decide
  have hf : ∀ i, Fin' (val_main_v9 (F := Ideal) x i) := fun i => by
    obtain ⟨kv, g, a, s, rfl⟩ : ∃ kv g a s, i = ix4 kv g a s := ⟨i 0, i 1, i 2, i 3, eq_ix4 i⟩
    rw [scoreL]
    exact scoreN_fin x hx kv g _ _
  unfold val_main_v10
  generalize val_main_v9 (F := Ideal) x = y at hf
  exact Fin'.reduce y hf _ (fun _ => neg_word) _ h _ (Nat.succ_pos _) _
theorem maxL (hx : ∀ i, Fin' (x i)) (kv : Fin 2) (g : Fin 4) (a : Fin 4096) : Fin' (val_main_v12 (F := Ideal) x (ix3 kv g a)) := by
  have h := topL x hx kv g a
  rw [val_main_v12_apply, val_main_v11_apply, val_main_cst_0_apply, neg_word]
  generalize val_main_v10 (F := Ideal) x (ix3 kv g a) = y at h
  rw [show FloatOps.maximumf (F := Ideal) (φ := .f32) ⊥ y = y from max_eq_right bot_le]
  exact h
theorem exL (kv : Fin 2) (g : Fin 4) (a : Fin 4096) (s : Fin 4352) :
    val_main_v16 (F := Ideal) x (ix4 kv g a s) = Ideal.exp (val_main_v9 (F := Ideal) x (ix4 kv g a s) - val_main_v12 (F := Ideal) x (ix3 kv g a)) := by
  pointwise [val_main_v16, val_main_v15, val_main_v14, val_main_v13]
theorem totL (kv : Fin 2) (g : Fin 4) (a : Fin 4096) : val_main_v17 (F := Ideal) x (ix3 kv g a) = ∑ s : Fin 4352, val_main_v16 (F := Ideal) x (ix4 kv g a s) := by
  pointwise [val_main_v17, val_main_cst_1]
theorem weightL (kv : Fin 2) (g : Fin 4) (a : Fin 4096) (s : Fin 4352) :
    val_main_v20 (F := Ideal) x (ix4 kv g a s) = Ideal.div (val_main_v16 (F := Ideal) x (ix4 kv g a s)) (val_main_v17 (F := Ideal) x (ix3 kv g a)) := by
  pointwise [val_main_v20, val_main_v19, val_main_v18]
theorem mixL (kv : Fin 2) (g : Fin 4) (a : Fin 4096) (d : Fin 128) :
    val_main_v23 (F := Ideal) x (ix2 a (cQ kv g d)) = ∑ s : Fin 4352, val_main_v6 (F := Ideal) x (ix3 s kv d) * val_main_v20 (F := Ideal) x (ix4 kv g a s) := by
  pointwise [val_main_v23, val_main_v22, val_main_v21, cQ]
theorem outL (hx : ∀ i, Fin' (x i)) (kv : Fin 2) (g : Fin 4) (a : Fin 4096) (d : Fin 128) :
    val_main_v23 (F := Ideal) x (ix2 a (cQ kv g d)) = outR 4352 (scoreN x kv g ⟨256 + a.val, by omega⟩) (valueN x kv d) := by
  rw [mixL, ← all_out (scoreN_fin x hx kv g _) (valueN_fin x hx kv d) (by decide : 0 < 4352) (maxL x hx kv g a)]
  refine Finset.sum_congr rfl fun s _ => congrArg₂ (fun a b : EReal => a * b) ?_ ?_
  · rw [v_apply, valueN_at x kv d ⟨s.val, by omega⟩ _ rfl]
  · rw [weightL, totL, exL, scoreL]
    refine congrArg (Ideal.div _) (Finset.sum_congr rfl fun j _ => ?_)
    rw [exL, scoreL]

/-! ## The context rows' output -/

theorem qrowC (a : Fin 256) (kv : Fin 2) (g : Fin 4) (d : Fin 128) : val_main_v24 (F := Ideal) x (ix4 a kv g d) = x (ix2 ⟨0 + a.val, by omega⟩ (cQ' kv g d)) := by
  refine Eq.trans ?_ (q_apply x _ kv g d)
  pointwise [val_main_v24]
theorem scoreC' (kv : Fin 2) (g : Fin 4) (a : Fin 256) (s : Fin 256) :
    val_main_v28 (F := Ideal) x (ix4 kv g a s) = ∑ d : Fin 128, val_main_v25 (F := Ideal) x (ix3 s kv d) * val_main_v24 (F := Ideal) x (ix4 a kv g d) := by
  pointwise [val_main_v28, val_main_v27]
theorem scoreC (kv : Fin 2) (g : Fin 4) (a : Fin 256) (s : Fin 256) : val_main_v28 (F := Ideal) x (ix4 kv g a s) = scoreN x kv g ⟨0 + a.val, by omega⟩ s.val := by
  rw [scoreC', scoreN_at x kv g _ ⟨s.val, by omega⟩ _ rfl]
  refine Finset.sum_congr rfl fun d _ => ?_
  rw [k25_apply, qrowC]
theorem topC (hx : ∀ i, Fin' (x i)) (kv : Fin 2) (g : Fin 4) (a : Fin 256) : Fin' (val_main_v29 (F := Ideal) x (ix3 kv g a)) := by
  have h : S2x4x256x256.Reduces [3] S2x4x256 := by decide
  have hf : ∀ i, Fin' (val_main_v28 (F := Ideal) x i) := fun i => by
    obtain ⟨kv, g, a, s, rfl⟩ : ∃ kv g a s, i = ix4 kv g a s := ⟨i 0, i 1, i 2, i 3, eq_ix4 i⟩
    rw [scoreC]
    exact scoreN_fin x hx kv g _ _
  unfold val_main_v29
  generalize val_main_v28 (F := Ideal) x = y at hf
  exact Fin'.reduce y hf _ (fun _ => neg_word) _ h _ (Nat.succ_pos _) _
theorem maxC (hx : ∀ i, Fin' (x i)) (kv : Fin 2) (g : Fin 4) (a : Fin 256) : Fin' (val_main_v31 (F := Ideal) x (ix3 kv g a)) := by
  have h := topC x hx kv g a
  rw [val_main_v31_apply, val_main_v30_apply, val_main_cst_3_apply, neg_word]
  generalize val_main_v29 (F := Ideal) x (ix3 kv g a) = y at h
  rw [show FloatOps.maximumf (F := Ideal) (φ := .f32) ⊥ y = y from max_eq_right bot_le]
  exact h
theorem exC (kv : Fin 2) (g : Fin 4) (a : Fin 256) (s : Fin 256) :
    val_main_v35 (F := Ideal) x (ix4 kv g a s) = Ideal.exp (val_main_v28 (F := Ideal) x (ix4 kv g a s) - val_main_v31 (F := Ideal) x (ix3 kv g a)) := by
  pointwise [val_main_v35, val_main_v34, val_main_v33, val_main_v32]
theorem totC (kv : Fin 2) (g : Fin 4) (a : Fin 256) : val_main_v36 (F := Ideal) x (ix3 kv g a) = ∑ s : Fin 256, val_main_v35 (F := Ideal) x (ix4 kv g a s) := by
  pointwise [val_main_v36, val_main_cst_4]
theorem weightC (kv : Fin 2) (g : Fin 4) (a : Fin 256) (s : Fin 256) :
    val_main_v39 (F := Ideal) x (ix4 kv g a s) = Ideal.div (val_main_v35 (F := Ideal) x (ix4 kv g a s)) (val_main_v36 (F := Ideal) x (ix3 kv g a)) := by
  pointwise [val_main_v39, val_main_v38, val_main_v37]
theorem mixC (kv : Fin 2) (g : Fin 4) (a : Fin 256) (d : Fin 128) :
    val_main_v42 (F := Ideal) x (ix2 a (cQ kv g d)) = ∑ s : Fin 256, val_main_v26 (F := Ideal) x (ix3 s kv d) * val_main_v39 (F := Ideal) x (ix4 kv g a s) := by
  pointwise [val_main_v42, val_main_v41, val_main_v40, cQ]
theorem outC (hx : ∀ i, Fin' (x i)) (kv : Fin 2) (g : Fin 4) (a : Fin 256) (d : Fin 128) :
    val_main_v42 (F := Ideal) x (ix2 a (cQ kv g d)) = outR 256 (scoreN x kv g ⟨0 + a.val, by omega⟩) (valueN x kv d) := by
  rw [mixC, ← all_out (scoreN_fin x hx kv g _) (valueN_fin x hx kv d) (by decide : 0 < 256) (maxC x hx kv g a)]
  refine Finset.sum_congr rfl fun s _ => congrArg₂ (fun a b : EReal => a * b) ?_ ?_
  · rw [v26_apply, valueN_at x kv d ⟨s.val, by omega⟩ _ rfl]
  · rw [weightC, totC, exC, scoreC]
    refine congrArg (Ideal.div _) (Finset.sum_congr rfl fun j _ => ?_)
    rw [exC, scoreC]

/-! ## The context rows' logarithms -/

theorem qrowC2 (a : Fin 256) (kv : Fin 2) (g : Fin 4) (d : Fin 128) : val_main_v44 (F := Ideal) x (ix4 a kv g d) = x (ix2 ⟨0 + a.val, by omega⟩ (cQ' kv g d)) := by
  refine Eq.trans ?_ (q_apply x _ kv g d)
  pointwise [val_main_v44]
theorem scoreC2' (kv : Fin 2) (g : Fin 4) (a : Fin 256) (s : Fin 256) :
    val_main_v47 (F := Ideal) x (ix4 kv g a s) = ∑ d : Fin 128, val_main_v45 (F := Ideal) x (ix3 s kv d) * val_main_v44 (F := Ideal) x (ix4 a kv g d) := by
  pointwise [val_main_v47, val_main_v46]
theorem scoreC2 (kv : Fin 2) (g : Fin 4) (a : Fin 256) (s : Fin 256) : val_main_v47 (F := Ideal) x (ix4 kv g a s) = scoreN x kv g ⟨0 + a.val, by omega⟩ s.val := by
  rw [scoreC2', scoreN_at x kv g _ ⟨s.val, by omega⟩ _ rfl]
  refine Finset.sum_congr rfl fun d _ => ?_
  rw [k45_apply, qrowC2]
theorem topC2 (hx : ∀ i, Fin' (x i)) (kv : Fin 2) (g : Fin 4) (a : Fin 256) : Fin' (val_main_v48 (F := Ideal) x (ix3 kv g a)) := by
  have h : S2x4x256x256.Reduces [3] S2x4x256 := by decide
  have hf : ∀ i, Fin' (val_main_v47 (F := Ideal) x i) := fun i => by
    obtain ⟨kv, g, a, s, rfl⟩ : ∃ kv g a s, i = ix4 kv g a s := ⟨i 0, i 1, i 2, i 3, eq_ix4 i⟩
    rw [scoreC2]
    exact scoreN_fin x hx kv g _ _
  unfold val_main_v48
  generalize val_main_v47 (F := Ideal) x = y at hf
  exact Fin'.reduce y hf _ (fun _ => neg_word) _ h _ (Nat.succ_pos _) _
theorem exC2 (kv : Fin 2) (g : Fin 4) (a : Fin 256) (s : Fin 256) :
    val_main_v52 (F := Ideal) x (ix4 kv g a s) = Ideal.exp (val_main_v47 (F := Ideal) x (ix4 kv g a s) - val_main_v48 (F := Ideal) x (ix3 kv g a)) := by
  pointwise [val_main_v52, val_main_v51, val_main_v50, val_main_v49]
theorem totC2 (kv : Fin 2) (g : Fin 4) (a : Fin 256) : val_main_v53 (F := Ideal) x (ix3 kv g a) = ∑ s : Fin 256, val_main_v52 (F := Ideal) x (ix4 kv g a s) := by
  pointwise [val_main_v53, val_main_cst_6]
theorem logC2 (kv : Fin 2) (g : Fin 4) (a : Fin 256) (d : Fin 128) :
    val_main_v59 (F := Ideal) x (ix2 a (cQ kv g d)) = Ideal.log (val_main_v53 (F := Ideal) x (ix3 kv g a)) + val_main_v48 (F := Ideal) x (ix3 kv g a) := by
  pointwise [val_main_v59, val_main_v58, val_main_v57, val_main_v56, val_main_v55, val_main_v54, cQ]
theorem lseC2 (hx : ∀ i, Fin' (x i)) (kv : Fin 2) (g : Fin 4) (a : Fin 256) (d : Fin 128) :
    val_main_v59 (F := Ideal) x (ix2 a (cQ kv g d)) = lseR 256 (scoreN x kv g ⟨0 + a.val, by omega⟩) := by
  rw [logC2, totC2]
  refine Eq.trans ?_ (all_lse (scoreN_fin x hx kv g _) (by decide : 0 < 256) (topC2 x hx kv g a))
  refine congrArg (fun z => Ideal.log z + val_main_v48 (F := Ideal) x (ix3 kv g a)) (Finset.sum_congr rfl fun s _ => ?_)
  rw [exC2, scoreC2]

/-! ## The latent rows' logarithms -/

theorem qrowL2 (a : Fin 4096) (kv : Fin 2) (g : Fin 4) (d : Fin 128) : val_main_v60 (F := Ideal) x (ix4 a kv g d) = x (ix2 ⟨256 + a.val, by omega⟩ (cQ' kv g d)) := by
  refine Eq.trans ?_ (q_apply x _ kv g d)
  pointwise [val_main_v60]
theorem scoreL2' (kv : Fin 2) (g : Fin 4) (a : Fin 4096) (s : Fin 4352) :
    val_main_v62 (F := Ideal) x (ix4 kv g a s) = ∑ d : Fin 128, val_main_v5 (F := Ideal) x (ix3 s kv d) * val_main_v60 (F := Ideal) x (ix4 a kv g d) := by
  pointwise [val_main_v62, val_main_v61]
theorem scoreL2 (kv : Fin 2) (g : Fin 4) (a : Fin 4096) (s : Fin 4352) : val_main_v62 (F := Ideal) x (ix4 kv g a s) = scoreN x kv g ⟨256 + a.val, by omega⟩ s.val := by
  rw [scoreL2', scoreN_at x kv g _ ⟨s.val, by omega⟩ _ rfl]
  refine Finset.sum_congr rfl fun d _ => ?_
  rw [k_apply, qrowL2]
theorem topL2 (hx : ∀ i, Fin' (x i)) (kv : Fin 2) (g : Fin 4) (a : Fin 4096) : Fin' (val_main_v63 (F := Ideal) x (ix3 kv g a)) := by
  have h : S2x4x4096x4352.Reduces [3] S2x4x4096 := by decide
  have hf : ∀ i, Fin' (val_main_v62 (F := Ideal) x i) := fun i => by
    obtain ⟨kv, g, a, s, rfl⟩ : ∃ kv g a s, i = ix4 kv g a s := ⟨i 0, i 1, i 2, i 3, eq_ix4 i⟩
    rw [scoreL2]
    exact scoreN_fin x hx kv g _ _
  unfold val_main_v63
  generalize val_main_v62 (F := Ideal) x = y at hf
  exact Fin'.reduce y hf _ (fun _ => neg_word) _ h _ (Nat.succ_pos _) _
theorem exL2 (kv : Fin 2) (g : Fin 4) (a : Fin 4096) (s : Fin 4352) :
    val_main_v67 (F := Ideal) x (ix4 kv g a s) = Ideal.exp (val_main_v62 (F := Ideal) x (ix4 kv g a s) - val_main_v63 (F := Ideal) x (ix3 kv g a)) := by
  pointwise [val_main_v67, val_main_v66, val_main_v65, val_main_v64]
theorem totL2 (kv : Fin 2) (g : Fin 4) (a : Fin 4096) : val_main_v68 (F := Ideal) x (ix3 kv g a) = ∑ s : Fin 4352, val_main_v67 (F := Ideal) x (ix4 kv g a s) := by
  pointwise [val_main_v68, val_main_cst_8]
theorem logL2 (kv : Fin 2) (g : Fin 4) (a : Fin 4096) (d : Fin 128) :
    val_main_v74 (F := Ideal) x (ix2 a (cQ kv g d)) = Ideal.log (val_main_v68 (F := Ideal) x (ix3 kv g a)) + val_main_v63 (F := Ideal) x (ix3 kv g a) := by
  pointwise [val_main_v74, val_main_v73, val_main_v72, val_main_v71, val_main_v70, val_main_v69, cQ]
theorem lseL2 (hx : ∀ i, Fin' (x i)) (kv : Fin 2) (g : Fin 4) (a : Fin 4096) (d : Fin 128) :
    val_main_v74 (F := Ideal) x (ix2 a (cQ kv g d)) = lseR 4352 (scoreN x kv g ⟨256 + a.val, by omega⟩) := by
  rw [logL2, totL2]
  refine Eq.trans ?_ (all_lse (scoreN_fin x hx kv g _) (by decide : 0 < 4352) (topL2 x hx kv g a))
  refine congrArg (fun z => Ideal.log z + val_main_v63 (F := Ideal) x (ix3 kv g a)) (Finset.sum_congr rfl fun s _ => ?_)
  rw [exL2, scoreL2]

/-! ## The results -/

theorem o_low (r : Fin 256) (b : Fin 1024) : val_main_v43 (F := Ideal) x (ix2 ⟨0 + r.val, by omega⟩ b) = val_main_v42 (F := Ideal) x (ix2 r b) := by
  pointwise [val_main_v43]
theorem o_high (r : Fin 4096) (b : Fin 1024) : val_main_v43 (F := Ideal) x (ix2 ⟨256 + r.val, by omega⟩ b) = val_main_v23 (F := Ideal) x (ix2 r b) := by
  pointwise [val_main_v43]
theorem l_low (r : Fin 256) (b : Fin 1024) : val_main_v75 (F := Ideal) x (ix2 ⟨0 + r.val, by omega⟩ b) = val_main_v59 (F := Ideal) x (ix2 r b) := by
  pointwise [val_main_v75]
theorem l_high (r : Fin 4096) (b : Fin 1024) : val_main_v75 (F := Ideal) x (ix2 ⟨256 + r.val, by omega⟩ b) = val_main_v74 (F := Ideal) x (ix2 r b) := by
  pointwise [val_main_v75]
theorem m_apply (a : Fin 4352) (b : Fin 1024) :
    val_main_v79 (F := Ideal) x p (ix2 a b) = val_main_v43 (F := Ideal) x (ix2 a b)
      * (p (ix2 a ⟨1536 + b.val, by omega⟩) * Ideal.div 1 (1 + Ideal.exp (-p (ix2 a ⟨1536 + b.val, by omega⟩)))) := by
  pointwise [val_main_v79, val_main_v78, val_main_v77, val_main_v76, val_main_call0_v0, val_main_call0_v1, val_main_call0_cst, val_main_call0_v2, val_main_call0_v3, val_main_call0_cst_0, val_main_call0_v4, val_main_call0_v5]

/-- A row is a context row or a latent one. -/
theorem split_row (a : Fin 4352) : (∃ r : Fin 256, a = ⟨0 + r.val, by omega⟩ ∧ keys a = 256) ∨ ∃ r : Fin 4096, a = ⟨256 + r.val, by omega⟩ ∧ keys a = 4352 := by
  by_cases h : a.val < 256
  · exact .inl ⟨⟨a.val, h⟩, Fin.ext (Nat.zero_add _).symm, if_pos h⟩
  · exact .inr ⟨⟨a.val - 256, by omega⟩, Fin.ext (by show a.val = 256 + (a.val - 256); omega), if_neg h⟩

variable (hx : ∀ i, Fin' (x i)) (kv : Fin 2) (g : Fin 4) (a : Fin 4352) (d : Fin 128)
include hx

theorem ref_o : val_main_v43 (F := Ideal) x (ix2 a (cQ kv g d)) = attO x kv g a d := by
  unfold attO
  rcases split_row a with ⟨r, rfl, e⟩ | ⟨r, rfl, e⟩
  · rw [e, o_low, outC x hx]
  · rw [e, o_high, outL x hx]
theorem ref_l : val_main_v75 (F := Ideal) x (ix2 a (cQ kv g d)) = attL x kv g a := by
  unfold attL
  rcases split_row a with ⟨r, rfl, e⟩ | ⟨r, rfl, e⟩
  · rw [e, l_low, lseC2 x hx]
  · rw [e, l_high, lseL2 x hx]
theorem ref_m : val_main_v79 (F := Ideal) x p (ix2 a (cQ kv g d)) = attM x p kv g a d := by
  rw [m_apply, ref_o x hx]
  unfold attM
  have e : (⟨1536 + (cQ kv g d).val, by have := (cQ kv g d).isLt; omega⟩ : Fin 2560) = cGate kv g d :=
    rfl
  rw [e, zero_sub]

end Cert.FwdRefIdeal.Val
end
-- ==== Proof.FwdEnd.lean ====
/-
  The attention's three results against its reference, and what the precondition says.
-/
module

public import proofs.«01_k».proof.Proof.FwdRef
public import proofs.«01_k».proof.Proof.Masks
public import proofs.«01_k».proof.Pre_finite_qkv

@[expose] public section

set_option maxRecDepth 16384

noncomputable section

namespace Cert.Attn

open Idealize.ShloMosaic

theorem pre_qkv_facts : Cert.Pre_finite_qkv.Facts where
  bitsLt_bf16_f32 := by decide
  bcast_S_S4352x1536 := by decide
  reducesTo_S4352x1536_S_d0_1 := by decide
  h_S_ := by decide

attribute [local instance] pre_qkv_facts in
theorem pre_qkv_fin (x : FVec Ideal Cert.Pre_finite_qkv.S4352x1536 .bf16) (p : FVec Ideal Cert.Pre_finite_qkv.S4352x2560 .f32)
    (h : ∀ j, Cert.Pre_finite_qkv.fn (F := Ideal) x p j = 1#1) : ∀ i, Fin' (x i) := by
  haveI : Subsingleton Cert.Pre_finite_qkv.S_.Idx := ⟨fun a b => funext fun d => d.elim0⟩
  have h0 := h (fun a => a.elim0)
  unfold Cert.Pre_finite_qkv.fn at h0
  dsimp only at h0
  exact fun i => Fin'.of_cmp (Host.reduce_andi_all _ _ _ _ _ h0 i)

end Cert.Attn

namespace Cert.FwdIdeal.Val

open Cert.FwdIdeal Cert.FwdIdeal.Gen Idealize.ShloMosaic Idealize.ShloMosaic.TcCoe Idealize.SL.Sem
open Cert.Attn

variable (m : (ℓ : Loc nD τ sig) → Buf (Elt Ideal) ℓ) (c : Dev nD)

abbrev xA : S4352x1536.Idx → EReal := m ((c : Thread nD τ).loc main_arg0)
abbrev pA : S4352x2560.Idx → EReal := m ((c : Thread nD τ).loc main_arg1)

theorem rQ_eq : rQ m c = xA m c := V_main_arg0 m c
theorem rG_eq : rG m c = pA m c := V_main_arg1 m c

theorem lane_of (b : Fin 1024) : ∃ kv g d, cQ kv g d = b :=
  ⟨⟨b.val / 512, by omega⟩, ⟨b.val % 512 / 128, by omega⟩, ⟨b.val % 128, by omega⟩, Fin.ext (by
    show 512 * (b.val / 512) + 128 * (b.val % 512 / 128) + b.val % 128 = b.val; omega)⟩

variable {m c} (hx : ∀ i, Fin' (xA m c i)) (i : S4352x1024.Idx)
include hx

theorem o_eq : Cert.FwdRefIdeal.Read.val_main_v43 (F := Ideal) (xA m c) i = res4 m c i := by
  obtain ⟨a, b, rfl⟩ : ∃ a b, i = ix2 a b := ⟨i 0, i 1, eq_ix2 i⟩
  obtain ⟨kv, g, d, rfl⟩ := lane_of b
  rw [val4 m c (by rw [rQ_eq]; exact hx), rQ_eq]
  exact Cert.FwdRefIdeal.Val.ref_o _ hx kv g a d
theorem m_eq : Cert.FwdRefIdeal.Read.val_main_v79 (F := Ideal) (xA m c) (pA m c) i = res5 m c i := by
  obtain ⟨a, b, rfl⟩ : ∃ a b, i = ix2 a b := ⟨i 0, i 1, eq_ix2 i⟩
  obtain ⟨kv, g, d, rfl⟩ := lane_of b
  rw [val5 m c (by rw [rQ_eq]; exact hx), rQ_eq, rG_eq]
  exact Cert.FwdRefIdeal.Val.ref_m _ _ hx kv g a d
theorem l_eq : Cert.FwdRefIdeal.Read.val_main_v75 (F := Ideal) (xA m c) i = res6 m c i := by
  obtain ⟨a, b, rfl⟩ : ∃ a b, i = ix2 a b := ⟨i 0, i 1, eq_ix2 i⟩
  obtain ⟨kv, g, d, rfl⟩ := lane_of b
  rw [val6 m c (by rw [rQ_eq]; exact hx), rQ_eq]
  exact Cert.FwdRefIdeal.Val.ref_l _ hx kv g a d

end Cert.FwdIdeal.Val
end
-- ==== Proof.InW0Val.lean ====
/- The in-projection's weight gradient, first layer: the call fills the first layer's slot of the array it is given and keeps the second's. -/
module

public import proofs.«01_k».proof.Proof.Gen.InW0Ideal.Value
public import proofs.«01_k».proof.Proof.Gen.InW0RefIdeal.Read
public import Idealize.ShloMosaic.Lib.Pipeline.ValueKit
public import Idealize.ShloMosaic.Lib.StableHlo.RunRead

@[expose] public section

set_option maxRecDepth 16384

noncomputable section

namespace Cert.InW0Ideal.Val

open Cert.InW0Ideal Cert.InW0Ideal.Gen Idealize.ShloMosaic Idealize.ShloMosaic.TcCoe Idealize.SL.Sem

variable (m : (ℓ : Loc nD τ sig) → Buf (Elt Ideal) ℓ)

/-- The activations, the gradient of the result, and the array of weight gradients so far. -/
def xA (c : Dev nD) : FVec Ideal S4352x1024 .bf16 := m ((c : Thread nD τ).loc main_arg0)
def dA (c : Dev nD) : FVec Ideal S4352x2560 .bf16 := m ((c : Thread nD τ).loc main_arg1)
def gA (c : Dev nD) : FVec Ideal S2x4x1024x640 .f32 := m ((c : Thread nD τ).loc main_arg2)

/-- One entry of the weights' gradient, at row `k` and column `n`. -/
def prod (x : FVec Ideal S4352x1024 .bf16) (d : FVec Ideal S4352x2560 .bf16) (k : Fin 1024) (n : Fin 2560) : EReal :=
  ∑ r : Fin 4352, x (ix2 r k) * d (ix2 r n)

/-- The column of the gradient that a tile's column is. -/
theorem col_lt (j : Fin 4) (n : Fin 640) : j.val * 640 + n.val < 2560 := by
  have hj := j.isLt
  have hn := n.isLt
  omega

/-- The gradient laid out in column tiles, the same in both slots. -/
def tiles (x : FVec Ideal S4352x1024 .bf16) (d : FVec Ideal S4352x2560 .bf16) : FVec Ideal S2x4x1024x640 .f32 :=
  fun i => prod x d (i 2) ⟨(i 1 : Fin 4).val * 640 + (i 3 : Fin 640).val, col_lt (i 1) (i 3)⟩

theorem idx : ∀ t : Fin cfg0.N, win0_0.index t = ![t.val % 2, 0] ∧ win0_1.index t = ![t.val % 2, t.val / 2] ∧ win0_2.index t = ![0, t.val / 2, 0, 0] :=
  (by decide +kernel : ∀ t : Fin grid0.N, _)

theorem x_blk (c : Dev nD) (t : Fin cfg0.N) (r : Fin 2176) (k : Fin 1024) (q : Fin 4352) (h : q.val = t.val % 2 * 2176 + r.val) :
    (iblk m c 0 t : FVec Ideal S2176x1024 .bf16) (ix2 r k) = xA m c (ix2 q k) := by
  have e : V m c main_arg0 = xA m c := V_main_arg0 m c
  rw [show q = ⟨t.val % 2 * 2176 + r.val, h ▸ q.isLt⟩ from Fin.ext h, ← e]
  blk_ext [iblk, idx t]

theorem d_blk (c : Dev nD) (t : Fin cfg0.N) (r : Fin 2176) (n : Fin 640) (q : Fin 4352) (p : Fin 2560) (h : q.val = t.val % 2 * 2176 + r.val)
    (h' : p.val = t.val / 2 * 640 + n.val) :
    (iblk m c 1 t : FVec Ideal S2176x640 .bf16) (ix2 r n) = dA m c (ix2 q p) := by
  have e : V m c main_arg1 = dA m c := V_main_arg1 m c
  rw [show q = ⟨t.val % 2 * 2176 + r.val, h ▸ q.isLt⟩ from Fin.ext h, ← e]
  rw [show p = ⟨t.val / 2 * 640 + n.val, h' ▸ p.isLt⟩ from Fin.ext h']
  blk_ext [iblk, idx t]

/-- The array that the call fills holds the given one to begin with. -/
theorem entry (c : Dev nD) : V m c main_v0 = gA m c := by
  unfold V gA
  after_reads_simp
  rfl

/-- What the two row blocks of one run leave: the sum of their products. -/
theorem pay (a a' : FVec Ideal S2176x1024 .bf16) (b b' : FVec Ideal S2176x640 .bf16) (k : Fin 1024) (n : Fin 640) :
    k0_pay2 (F := Ideal) (k0_pay2 (F := Ideal) (k0_pay1 (F := Ideal)) a b) a' b' (ix4 (0 : Fin 1) (0 : Fin 1) k n)
      = (∑ r : Fin 2176, a (ix2 r k) * b (ix2 r n)) + ∑ r : Fin 2176, a' (ix2 r k) * b' (ix2 r n) := by
  pointwise [k0_pay1, k0_pay2]

/-- What stands in the block when its second point is done. -/
theorem outs_two (c : Dev nD) (t : Fin cfg0.N) (h : t.val % 2 = 1) :
    outsAt0 m c t.val t.isLt
      = k0_pay2 (F := Ideal) (k0_pay2 (F := Ideal) (k0_pay1 (F := Ideal)) (iblk m c 0 ⟨t.val - 1, Nat.lt_of_le_of_lt (Nat.sub_le _ _) t.isLt⟩)
          (iblk m c 1 ⟨t.val - 1, Nat.lt_of_le_of_lt (Nat.sub_le _ _) t.isLt⟩)) (iblk m c 0 t) (iblk m c 1 t) := by
  have hp := outsAt0_A m c ⟨t.val - 1, Nat.lt_of_le_of_lt (Nat.sub_le _ _) t.isLt⟩ (by show (t.val - 1) % 2 = 0; omega)
  dsimp only at hp
  rw [outsAt0_B m c t (by omega), hp]
  frame_out

/-- Both row blocks together are the whole sum over the rows. -/
theorem block (c : Dev nD) (t : Fin cfg0.N) (h : t.val % 2 = 1) (k : Fin 1024) (n : Fin 640) (p : Fin 2560) (hp : p.val = t.val / 2 * 640 + n.val) :
    outsAt0 m c t.val t.isLt (ix4 (0 : Fin 1) (0 : Fin 1) k n) = prod (xA m c) (dA m c) k p := by
  rw [outs_two m c t h]
  refine (pay _ _ _ _ k n).trans ?_
  unfold prod
  rw [Fin.sum_univ_add (a := 2176) (b := 2176)]
  refine congrArg₂ (· + ·) (Finset.sum_congr rfl fun r _ => congrArg₂ (· * ·) (x_blk m c _ r k _ ?_) (d_blk m c _ r n _ _ ?_ ?_))
    (Finset.sum_congr rfl fun r _ => congrArg₂ (· * ·) (x_blk m c _ r k _ ?_) (d_blk m c _ r n _ _ ?_ ?_))
  · show r.val = (t.val - 1) % 2 * 2176 + r.val
    omega
  · show r.val = (t.val - 1) % 2 * 2176 + r.val
    omega
  · show p.val = (t.val - 1) / 2 * 640 + n.val
    omega
  · show 2176 + r.val = t.val % 2 * 2176 + r.val
    omega
  · show 2176 + r.val = t.val % 2 * 2176 + r.val
    omega
  · exact hp

/-- The array after the call: the gradient in the first layer's slot, what was given elsewhere. -/
theorem final (c : Dev nD) : (dats m 0 c).arrAt 2 cfg0.N
    = fun i => if ((i 0 : Fin 2) : ℕ) = 0 then tiles (xA m c) (dA m c) i else V m c main_v0 i := by
  refine (dats m 0 c).arrAt_eq_of_coversWhere 2 _ (fun β => β (0 : Fin 4) = 0) (by decide +kernel) (fun t hf y => ?_)
    (fun j => by
      blk_simp [Pipeline.Window.cell_apply]
      exact iff_of_eq (congrArg (· = 0) (Nat.div_one _).symm))
  have hodd := (flush0_2 t).mp hf
  obtain ⟨a, b, k, n, rfl⟩ : ∃ (a b : Fin 1) (k : Fin 1024) (n : Fin 640), y = ix4 a b k n := ⟨y 0, y 1, y 2, y 3, eq_ix4 y⟩
  obtain rfl := Subsingleton.elim a 0
  obtain rfl := Subsingleton.elim b 0
  have ht : t.val < 8 := lt_of_lt_of_eq t.isLt N_0
  have hn := n.isLt
  refine (congrFun (after0_2 m c t) _).trans ((block m c t hodd k n ⟨t.val / 2 * 640 + n.val, by omega⟩ rfl).trans ?_)
  unfold tiles
  refine congrArg₂ (prod _ _) (Fin.ext ?_) (Fin.ext ?_)
  · blk_simp [idx t]
  · blk_simp [idx t]
    rfl

/-- The reference's product, entry by entry. -/
theorem ref_prod (x : FVec Ideal S4352x1024 .bf16) (d : FVec Ideal S4352x2560 .bf16) (l : Fin 2) (j : Fin 4) (k : Fin 1024) (n : Fin 640)
    (h : j.val * 640 + n.val < 2560) :
    Cert.InW0RefIdeal.Read.val_main_v8 (F := Ideal) x d (ix4 l j k n) = prod x d k ⟨j.val * 640 + n.val, h⟩ := by
  rw [Cert.InW0RefIdeal.Read.val_main_v8_apply, Cert.InW0RefIdeal.Read.val_main_v7_apply, Cert.InW0RefIdeal.Read.val_main_v6_apply, Cert.InW0RefIdeal.Read.val_main_v5_apply, Cert.InW0RefIdeal.Read.val_main_v4_apply]
  have hj := j.isLt
  have hn := n.isLt
  have hk := k.isLt
  unfold prod
  refine Finset.sum_congr rfl fun r _ => (mul_comm _ _).trans (congrArg₂ (· * ·) ?_ ?_)
  · refine congrArg x (funext fun a => Fin.ext ?_)
    match a with
    | ⟨0, _⟩ => rfl
    | ⟨1, _⟩ => show ((k.val * 4 + j.val) * 640 + n.val) / 2560 = k.val; omega
  · refine congrArg d (funext fun a => Fin.ext ?_)
    match a with
    | ⟨0, _⟩ => rfl
    | ⟨1, _⟩ => show ((k.val * 4 + j.val) * 640 + n.val) % 2560 = j.val * 640 + n.val; omega

/-- The reference's array: the product in the first slot, the given array's second slot kept. -/
theorem ref_first (x : FVec Ideal S4352x1024 .bf16) (d : FVec Ideal S4352x2560 .bf16) (g : FVec Ideal S2x4x1024x640 .f32) (j : Fin 4) (k : Fin 1024) (n : Fin 640) :
    Cert.InW0RefIdeal.Read.val_main_v11 (F := Ideal) x d g (ix4 (0 : Fin 2) j k n) = prod x d k ⟨j.val * 640 + n.val, col_lt j n⟩ := by
  unfold Cert.InW0RefIdeal.Read.val_main_v11
  refine (concatenate_pair_apply_left (t := Cert.InW0RefIdeal.S2x4x1024x640) (s₁ := Cert.InW0RefIdeal.S1x4x1024x640) (s₂ := Cert.InW0RefIdeal.S1x4x1024x640)
    (0 : Fin 4) _ _ _ _ rfl (ix4 (0 : Fin 1) j k n) fun b => ?_).trans ?_
  · match b with
    | ⟨0, _⟩ | ⟨1, _⟩ | ⟨2, _⟩ | ⟨3, _⟩ => rfl
  · rw [Cert.InW0RefIdeal.Read.val_main_v9_apply]
    refine Eq.trans (congrArg _ (funext fun a => Fin.ext ?_)) (ref_prod x d (0 : Fin 2) j k n _)
    match a with
    | ⟨0, _⟩ | ⟨1, _⟩ | ⟨2, _⟩ | ⟨3, _⟩ => rfl

theorem ref_second (x : FVec Ideal S4352x1024 .bf16) (d : FVec Ideal S4352x2560 .bf16) (g : FVec Ideal S2x4x1024x640 .f32) (j : Fin 4) (k : Fin 1024) (n : Fin 640) :
    Cert.InW0RefIdeal.Read.val_main_v11 (F := Ideal) x d g (ix4 (1 : Fin 2) j k n) = g (ix4 (1 : Fin 2) j k n) := by
  unfold Cert.InW0RefIdeal.Read.val_main_v11
  refine (concatenate_pair_apply_right (t := Cert.InW0RefIdeal.S2x4x1024x640) (s₁ := Cert.InW0RefIdeal.S1x4x1024x640) (s₂ := Cert.InW0RefIdeal.S1x4x1024x640)
    (0 : Fin 4) _ _ _ _ rfl rfl (ix4 (0 : Fin 1) j k n) (fun b hb => ?_) ?_).trans ?_
  · match b with
    | ⟨0, _⟩ => exact absurd rfl hb
    | ⟨1, _⟩ | ⟨2, _⟩ | ⟨3, _⟩ => rfl
  · rfl
  · rw [Cert.InW0RefIdeal.Read.val_main_v10_apply]
    refine congrArg g (funext fun a => Fin.ext ?_)
    match a with
    | ⟨0, _⟩ | ⟨1, _⟩ | ⟨2, _⟩ | ⟨3, _⟩ => rfl

/-- The call's array is the reference's. -/
theorem whole (c : Dev nD) : (dats m 0 c).arrAt 2 cfg0.N = Cert.InW0RefIdeal.Read.val_main_v11 (F := Ideal) (xA m c) (dA m c) (gA m c) := by
  rw [final m c]
  funext i
  obtain ⟨l, j, k, n, rfl⟩ : ∃ (l : Fin 2) (j : Fin 4) (k : Fin 1024) (n : Fin 640), i = ix4 l j k n := ⟨i 0, i 1, i 2, i 3, eq_ix4 i⟩
  match l with
  | ⟨0, _⟩ => exact (if_pos rfl).trans (ref_first _ _ _ j k n).symm
  | ⟨1, _⟩ => exact (if_neg Nat.one_ne_zero).trans ((congrFun (entry m c) _).trans (ref_second _ _ _ j k n).symm)

end Cert.InW0Ideal.Val

end
-- ==== Proof.OutW0Val.lean ====
/- The out-projection's weight gradient, first layer: the call fills the first layer's slot of the array it is given and keeps the second's. -/
module

public import proofs.«01_k».proof.Proof.Gen.OutW0Ideal.Value
public import proofs.«01_k».proof.Proof.Gen.OutW0RefIdeal.Read
public import Idealize.ShloMosaic.Lib.Pipeline.ValueKit
public import Idealize.ShloMosaic.Lib.StableHlo.RunRead

@[expose] public section

set_option maxRecDepth 16384

noncomputable section

namespace Cert.OutW0Ideal.Val

open Cert.OutW0Ideal Cert.OutW0Ideal.Gen Idealize.ShloMosaic Idealize.ShloMosaic.TcCoe Idealize.SL.Sem

variable (m : (ℓ : Loc nD τ sig) → Buf (Elt Ideal) ℓ)

/-- The activations, the gradient of the result, and the array of weight gradients so far. -/
def xA (c : Dev nD) : FVec Ideal S4352x1024 .bf16 := m ((c : Thread nD τ).loc main_arg0)
def dA (c : Dev nD) : FVec Ideal S4352x1024 .bf16 := m ((c : Thread nD τ).loc main_arg1)
def gA (c : Dev nD) : FVec Ideal S2x1x1024x1024 .f32 := m ((c : Thread nD τ).loc main_arg2)

/-- One entry of the weights' gradient, at row `k` and column `n`. -/
def prod (x : FVec Ideal S4352x1024 .bf16) (d : FVec Ideal S4352x1024 .bf16) (k : Fin 1024) (n : Fin 1024) : EReal :=
  ∑ r : Fin 4352, x (ix2 r k) * d (ix2 r n)

/-- The column of the gradient that a tile's column is. -/
theorem col_lt (j : Fin 1) (n : Fin 1024) : j.val * 1024 + n.val < 1024 := by
  have hj := j.isLt
  have hn := n.isLt
  omega

/-- The gradient laid out in column tiles, the same in both slots. -/
def tiles (x : FVec Ideal S4352x1024 .bf16) (d : FVec Ideal S4352x1024 .bf16) : FVec Ideal S2x1x1024x1024 .f32 :=
  fun i => prod x d (i 2) ⟨(i 1 : Fin 1).val * 1024 + (i 3 : Fin 1024).val, col_lt (i 1) (i 3)⟩

theorem idx : ∀ t : Fin cfg0.N, win0_0.index t = ![t.val % 2, 0] ∧ win0_1.index t = ![t.val % 2, t.val / 2] ∧ win0_2.index t = ![0, t.val / 2, 0, 0] :=
  (by decide +kernel : ∀ t : Fin grid0.N, _)

theorem x_blk (c : Dev nD) (t : Fin cfg0.N) (r : Fin 2176) (k : Fin 1024) (q : Fin 4352) (h : q.val = t.val % 2 * 2176 + r.val) :
    (iblk m c 0 t : FVec Ideal S2176x1024 .bf16) (ix2 r k) = xA m c (ix2 q k) := by
  have e : V m c main_arg0 = xA m c := V_main_arg0 m c
  rw [show q = ⟨t.val % 2 * 2176 + r.val, h ▸ q.isLt⟩ from Fin.ext h, ← e]
  blk_ext [iblk, idx t]

theorem d_blk (c : Dev nD) (t : Fin cfg0.N) (r : Fin 2176) (n : Fin 1024) (q : Fin 4352) (p : Fin 1024) (h : q.val = t.val % 2 * 2176 + r.val)
    (h' : p.val = t.val / 2 * 1024 + n.val) :
    (iblk m c 1 t : FVec Ideal S2176x1024 .bf16) (ix2 r n) = dA m c (ix2 q p) := by
  have e : V m c main_arg1 = dA m c := V_main_arg1 m c
  rw [show q = ⟨t.val % 2 * 2176 + r.val, h ▸ q.isLt⟩ from Fin.ext h, ← e]
  rw [show p = ⟨t.val / 2 * 1024 + n.val, h' ▸ p.isLt⟩ from Fin.ext h']
  blk_ext [iblk, idx t]

/-- The array that the call fills holds the given one to begin with. -/
theorem entry (c : Dev nD) : V m c main_v0 = gA m c := by
  unfold V gA
  after_reads_simp
  rfl

/-- What the two row blocks of one run leave: the sum of their products. -/
theorem pay (a a' : FVec Ideal S2176x1024 .bf16) (b b' : FVec Ideal S2176x1024 .bf16) (k : Fin 1024) (n : Fin 1024) :
    k0_pay2 (F := Ideal) (k0_pay2 (F := Ideal) (k0_pay1 (F := Ideal)) a b) a' b' (ix4 (0 : Fin 1) (0 : Fin 1) k n)
      = (∑ r : Fin 2176, a (ix2 r k) * b (ix2 r n)) + ∑ r : Fin 2176, a' (ix2 r k) * b' (ix2 r n) := by
  pointwise [k0_pay1, k0_pay2]

/-- What stands in the block when its second point is done. -/
theorem outs_two (c : Dev nD) (t : Fin cfg0.N) (h : t.val % 2 = 1) :
    outsAt0 m c t.val t.isLt
      = k0_pay2 (F := Ideal) (k0_pay2 (F := Ideal) (k0_pay1 (F := Ideal)) (iblk m c 0 ⟨t.val - 1, Nat.lt_of_le_of_lt (Nat.sub_le _ _) t.isLt⟩)
          (iblk m c 1 ⟨t.val - 1, Nat.lt_of_le_of_lt (Nat.sub_le _ _) t.isLt⟩)) (iblk m c 0 t) (iblk m c 1 t) := by
  have hp := outsAt0_A m c ⟨t.val - 1, Nat.lt_of_le_of_lt (Nat.sub_le _ _) t.isLt⟩ (by show (t.val - 1) % 2 = 0; omega)
  dsimp only at hp
  rw [outsAt0_B m c t (by omega), hp]
  frame_out

/-- Both row blocks together are the whole sum over the rows. -/
theorem block (c : Dev nD) (t : Fin cfg0.N) (h : t.val % 2 = 1) (k : Fin 1024) (n : Fin 1024) (p : Fin 1024) (hp : p.val = t.val / 2 * 1024 + n.val) :
    outsAt0 m c t.val t.isLt (ix4 (0 : Fin 1) (0 : Fin 1) k n) = prod (xA m c) (dA m c) k p := by
  rw [outs_two m c t h]
  refine (pay _ _ _ _ k n).trans ?_
  unfold prod
  rw [Fin.sum_univ_add (a := 2176) (b := 2176)]
  refine congrArg₂ (· + ·) (Finset.sum_congr rfl fun r _ => congrArg₂ (· * ·) (x_blk m c _ r k _ ?_) (d_blk m c _ r n _ _ ?_ ?_))
    (Finset.sum_congr rfl fun r _ => congrArg₂ (· * ·) (x_blk m c _ r k _ ?_) (d_blk m c _ r n _ _ ?_ ?_))
  · show r.val = (t.val - 1) % 2 * 2176 + r.val
    omega
  · show r.val = (t.val - 1) % 2 * 2176 + r.val
    omega
  · show p.val = (t.val - 1) / 2 * 1024 + n.val
    omega
  · show 2176 + r.val = t.val % 2 * 2176 + r.val
    omega
  · show 2176 + r.val = t.val % 2 * 2176 + r.val
    omega
  · exact hp

/-- The array after the call: the gradient in the first layer's slot, what was given elsewhere. -/
theorem final (c : Dev nD) : (dats m 0 c).arrAt 2 cfg0.N
    = fun i => if ((i 0 : Fin 2) : ℕ) = 0 then tiles (xA m c) (dA m c) i else V m c main_v0 i := by
  refine (dats m 0 c).arrAt_eq_of_coversWhere 2 _ (fun β => β (0 : Fin 4) = 0) (by decide +kernel) (fun t hf y => ?_)
    (fun j => by
      blk_simp [Pipeline.Window.cell_apply]
      exact iff_of_eq (congrArg (· = 0) (Nat.div_one _).symm))
  have hodd := (flush0_2 t).mp hf
  obtain ⟨a, b, k, n, rfl⟩ : ∃ (a b : Fin 1) (k : Fin 1024) (n : Fin 1024), y = ix4 a b k n := ⟨y 0, y 1, y 2, y 3, eq_ix4 y⟩
  obtain rfl := Subsingleton.elim a 0
  obtain rfl := Subsingleton.elim b 0
  have ht : t.val < 2 := lt_of_lt_of_eq t.isLt N_0
  have hn := n.isLt
  refine (congrFun (after0_2 m c t) _).trans ((block m c t hodd k n ⟨t.val / 2 * 1024 + n.val, by omega⟩ rfl).trans ?_)
  unfold tiles
  refine congrArg₂ (prod _ _) (Fin.ext ?_) (Fin.ext ?_)
  · blk_simp [idx t]
  · blk_simp [idx t]
    rfl

/-- The reference's product, entry by entry. -/
theorem ref_prod (x : FVec Ideal S4352x1024 .bf16) (d : FVec Ideal S4352x1024 .bf16) (l : Fin 2) (j : Fin 1) (k : Fin 1024) (n : Fin 1024)
    (h : j.val * 1024 + n.val < 1024) :
    Cert.OutW0RefIdeal.Read.val_main_v6 (F := Ideal) x d (ix4 l j k n) = prod x d k ⟨j.val * 1024 + n.val, h⟩ := by
  rw [Cert.OutW0RefIdeal.Read.val_main_v6_apply, Cert.OutW0RefIdeal.Read.val_main_v5_apply, Cert.OutW0RefIdeal.Read.val_main_v4_apply]
  have hj := j.isLt
  have hn := n.isLt
  have hk := k.isLt
  unfold prod
  refine Finset.sum_congr rfl fun r _ => (mul_comm _ _).trans (congrArg₂ (· * ·) ?_ ?_)
  · refine congrArg x (funext fun a => Fin.ext ?_)
    match a with
    | ⟨0, _⟩ => rfl
    | ⟨1, _⟩ => rfl
  · refine congrArg d (funext fun a => Fin.ext ?_)
    match a with
    | ⟨0, _⟩ => rfl
    | ⟨1, _⟩ => show n.val = j.val * 1024 + n.val; omega

/-- The reference's array: the product in the first slot, the given array's second slot kept. -/
theorem ref_first (x : FVec Ideal S4352x1024 .bf16) (d : FVec Ideal S4352x1024 .bf16) (g : FVec Ideal S2x1x1024x1024 .f32) (j : Fin 1) (k : Fin 1024) (n : Fin 1024) :
    Cert.OutW0RefIdeal.Read.val_main_v9 (F := Ideal) x d g (ix4 (0 : Fin 2) j k n) = prod x d k ⟨j.val * 1024 + n.val, col_lt j n⟩ := by
  unfold Cert.OutW0RefIdeal.Read.val_main_v9
  refine (concatenate_pair_apply_left (t := Cert.OutW0RefIdeal.S2x1x1024x1024) (s₁ := Cert.OutW0RefIdeal.S1x1x1024x1024) (s₂ := Cert.OutW0RefIdeal.S1x1x1024x1024)
    (0 : Fin 4) _ _ _ _ rfl (ix4 (0 : Fin 1) j k n) fun b => ?_).trans ?_
  · match b with
    | ⟨0, _⟩ | ⟨1, _⟩ | ⟨2, _⟩ | ⟨3, _⟩ => rfl
  · rw [Cert.OutW0RefIdeal.Read.val_main_v7_apply]
    refine Eq.trans (congrArg _ (funext fun a => Fin.ext ?_)) (ref_prod x d (0 : Fin 2) j k n _)
    match a with
    | ⟨0, _⟩ | ⟨1, _⟩ | ⟨2, _⟩ | ⟨3, _⟩ => rfl

theorem ref_second (x : FVec Ideal S4352x1024 .bf16) (d : FVec Ideal S4352x1024 .bf16) (g : FVec Ideal S2x1x1024x1024 .f32) (j : Fin 1) (k : Fin 1024) (n : Fin 1024) :
    Cert.OutW0RefIdeal.Read.val_main_v9 (F := Ideal) x d g (ix4 (1 : Fin 2) j k n) = g (ix4 (1 : Fin 2) j k n) := by
  unfold Cert.OutW0RefIdeal.Read.val_main_v9
  refine (concatenate_pair_apply_right (t := Cert.OutW0RefIdeal.S2x1x1024x1024) (s₁ := Cert.OutW0RefIdeal.S1x1x1024x1024) (s₂ := Cert.OutW0RefIdeal.S1x1x1024x1024)
    (0 : Fin 4) _ _ _ _ rfl rfl (ix4 (0 : Fin 1) j k n) (fun b hb => ?_) ?_).trans ?_
  · match b with
    | ⟨0, _⟩ => exact absurd rfl hb
    | ⟨1, _⟩ | ⟨2, _⟩ | ⟨3, _⟩ => rfl
  · rfl
  · rw [Cert.OutW0RefIdeal.Read.val_main_v8_apply]
    refine congrArg g (funext fun a => Fin.ext ?_)
    match a with
    | ⟨0, _⟩ | ⟨1, _⟩ | ⟨2, _⟩ | ⟨3, _⟩ => rfl

/-- The call's array is the reference's. -/
theorem whole (c : Dev nD) : (dats m 0 c).arrAt 2 cfg0.N = Cert.OutW0RefIdeal.Read.val_main_v9 (F := Ideal) (xA m c) (dA m c) (gA m c) := by
  rw [final m c]
  funext i
  obtain ⟨l, j, k, n, rfl⟩ : ∃ (l : Fin 2) (j : Fin 1) (k : Fin 1024) (n : Fin 1024), i = ix4 l j k n := ⟨i 0, i 1, i 2, i 3, eq_ix4 i⟩
  match l with
  | ⟨0, _⟩ => exact (if_pos rfl).trans (ref_first _ _ _ j k n).symm
  | ⟨1, _⟩ => exact (if_neg Nat.one_ne_zero).trans ((congrFun (entry m c) _).trans (ref_second _ _ _ j k n).symm)

end Cert.OutW0Ideal.Val

end
-- ==== Proof.NormVal.lean ====
/- The modulated norm of the tokens: the first tile of the result is the context's rows, the other tiles are the latents'. -/
module

public import proofs.«01_k».proof.Proof.Gen.NormIdeal.Value
public import proofs.«01_k».proof.Proof.Gen.NormRefIdeal.Read
public import Idealize.ShloMosaic.Lib.Pipeline.ValueKit
public import Idealize.ShloMosaic.Lib.StableHlo.RunRead

@[expose] public section

set_option maxRecDepth 16384

noncomputable section

namespace Cert.NormIdeal.Val

open Cert.NormIdeal Cert.NormIdeal.Gen Idealize.ShloMosaic Idealize.ShloMosaic.TcCoe Idealize.SL.Sem

variable (m : (ℓ : Loc nD τ sig) → Buf (Elt Ideal) ℓ)

/-- The context's rows, the latents, the norm's weights, and the two streams' shift, scale and gate. -/
def cA (c : Dev nD) : FVec Ideal S256x1024 .f32 := m ((c : Thread nD τ).loc main_arg0)
def lA (c : Dev nD) : FVec Ideal S4096x1024 .f32 := m ((c : Thread nD τ).loc main_arg1)
def gA (c : Dev nD) : FVec Ideal S1x1024 .f32 := m ((c : Thread nD τ).loc main_arg2)
def mA (c : Dev nD) : FVec Ideal S2x3x1024 .f32 := m ((c : Thread nD τ).loc main_arg3)

/-- One entry of a row after the norm, the weight, the scale and the shift. -/
def entry (x : Fin 1024 → EReal) (k : Fin 1024) (g sc sh : EReal) : EReal :=
  x k * Ideal.rsqrt (Ideal.div (∑ j, x j * x j) (Ideal.ofBits .f32 0x44800000#32) + Ideal.ofBits .f32 0x358637BD#32) * g
    * (1 + sc) + sh

/-- The same entry of a whole stream: its rows `x`, and its part `s` of the modulation. -/
def stream (x : Fin 1024 → EReal) (g : FVec Ideal S1x1024 .f32) (d : FVec Ideal S2x3x1024 .f32) (l : Fin 2) (k : Fin 1024) : EReal :=
  entry x k (g (ix2 (0 : Fin 1) k)) (d (ix3 l (1 : Fin 3) k)) (d (ix3 l (0 : Fin 3) k))

theorem first_tile (i : grid0.Coords) (h : (i 0).val = 0) : Scalar.cmpi .eq (BitVec.ofNat 32 (i 0).val) 0#32 = 1#1 := by
  rw [h]; rfl

theorem other_tile (i : grid0.Coords) (h : (i 0).val ≠ 0) : Scalar.cmpi .eq (BitVec.ofNat 32 (i 0).val) 0#32 = 0#1 := by
  revert i
  decide +kernel

theorem pay_first (i : grid0.Coords) (h : (i 0).val = 0) (s s' w w' : FVec Ideal S1x1x1024 .f32) (x x' : FVec Ideal S256x1024 .f32) (g : FVec Ideal S1x1024 .f32)
    (r : Fin 256) (k : Fin 1024) : k0_pay1 (F := Ideal) i s s' w w' x x' g (ix2 r k)
      = entry (fun j => x (ix2 r j)) k (g (ix2 (0 : Fin 1) k)) (w (ix3 (0 : Fin 1) (0 : Fin 1) k)) (s (ix3 (0 : Fin 1) (0 : Fin 1) k)) := by
  unfold k0_pay1 entry
  dsimp only
  rw [first_tile i h]
  simp only [Scalar.select, if_pos (show (1#1 : BitVec 1) = 1 from rfl)]
  pointwise

theorem pay_other (i : grid0.Coords) (h : (i 0).val ≠ 0) (s s' w w' : FVec Ideal S1x1x1024 .f32) (x x' : FVec Ideal S256x1024 .f32) (g : FVec Ideal S1x1024 .f32)
    (r : Fin 256) (k : Fin 1024) : k0_pay1 (F := Ideal) i s s' w w' x x' g (ix2 r k)
      = entry (fun j => x' (ix2 r j)) k (g (ix2 (0 : Fin 1) k)) (w' (ix3 (0 : Fin 1) (0 : Fin 1) k)) (s' (ix3 (0 : Fin 1) (0 : Fin 1) k)) := by
  unfold k0_pay1 entry
  dsimp only
  rw [other_tile i h]
  simp only [Scalar.select, if_neg (show ¬ (0#1 : BitVec 1) = 1 by decide)]
  pointwise

theorem idx : ∀ t : Fin cfg0.N, win0_0.index t = ![0, 0] ∧ win0_1.index t = ![t.val - 1, 0] ∧ win0_2.index t = ![0, 0] ∧ win0_3.index t = ![0, 0, 0]
    ∧ win0_4.index t = ![t.val, 0] :=
  (by decide +kernel : ∀ t : Fin grid0.N, _)

theorem point : ∀ t : Fin cfg0.N, (grid0.coords t 0).val = t.val := (by decide +kernel : ∀ t : Fin grid0.N, _)

theorem c_blk (c : Dev nD) (t : Fin cfg0.N) (r : Fin 256) (k : Fin 1024) :
    (iblk m c 0 t : FVec Ideal S256x1024 .f32) (ix2 r k) = cA m c (ix2 r k) := by
  have e : V m c main_arg0 = cA m c := V_main_arg0 m c
  rw [← e]
  blk_ext [iblk, idx t]

theorem l_blk (c : Dev nD) (t : Fin cfg0.N) (r : Fin 256) (k : Fin 1024) (q : Fin 4096) (h : q.val = (t.val - 1) * 256 + r.val) :
    (iblk m c 1 t : FVec Ideal S256x1024 .f32) (ix2 r k) = lA m c (ix2 q k) := by
  have e : V m c main_arg1 = lA m c := V_main_arg1 m c
  rw [show q = ⟨(t.val - 1) * 256 + r.val, h ▸ q.isLt⟩ from Fin.ext h, ← e]
  blk_ext [iblk, idx t]

theorem g_blk (c : Dev nD) (t : Fin cfg0.N) (k : Fin 1024) :
    (iblk m c 2 t : FVec Ideal S1x1024 .f32) (ix2 (0 : Fin 1) k) = gA m c (ix2 (0 : Fin 1) k) := by
  have e : V m c main_arg2 = gA m c := V_main_arg2 m c
  rw [← e]
  blk_ext [iblk, idx t]

theorem m_blk (c : Dev nD) (t : Fin cfg0.N) (l : Fin 2) (u : Fin 3) (k : Fin 1024) :
    (iblk m c 3 t : FVec Ideal S2x3x1024 .f32) (ix3 l u k) = mA m c (ix3 l u k) := by
  have e : V m c main_arg3 = mA m c := V_main_arg3 m c
  rw [← e]
  blk_ext [iblk, idx t]

/-- The four rows that a point reads of the modulation. -/
theorem ld_shift0 (d : FVec Ideal S2x3x1024 .f32) (k : Fin 1024) : View.ld (Val := Elt Ideal) (e' := .f32) d r0_0 (ix3 (0 : Fin 1) (0 : Fin 1) k) = d (ix3 (0 : Fin 2) (0 : Fin 3) k) := by
  refine View.ld_unit_apply_of (Val := Elt Ideal) (e := .f32) d _ _ _ _ _ fun a => ?_
  match a with
  | ⟨0, _⟩ | ⟨1, _⟩ | ⟨2, _⟩ => simp
theorem ld_shift1 (d : FVec Ideal S2x3x1024 .f32) (k : Fin 1024) : View.ld (Val := Elt Ideal) (e' := .f32) d r0_1 (ix3 (0 : Fin 1) (0 : Fin 1) k) = d (ix3 (1 : Fin 2) (0 : Fin 3) k) := by
  refine View.ld_unit_apply_of (Val := Elt Ideal) (e := .f32) d _ _ _ _ _ fun a => ?_
  match a with
  | ⟨0, _⟩ | ⟨1, _⟩ | ⟨2, _⟩ => simp
theorem ld_scale0 (d : FVec Ideal S2x3x1024 .f32) (k : Fin 1024) : View.ld (Val := Elt Ideal) (e' := .f32) d r0_2 (ix3 (0 : Fin 1) (0 : Fin 1) k) = d (ix3 (0 : Fin 2) (1 : Fin 3) k) := by
  refine View.ld_unit_apply_of (Val := Elt Ideal) (e := .f32) d _ _ _ _ _ fun a => ?_
  match a with
  | ⟨0, _⟩ | ⟨1, _⟩ | ⟨2, _⟩ => simp
theorem ld_scale1 (d : FVec Ideal S2x3x1024 .f32) (k : Fin 1024) : View.ld (Val := Elt Ideal) (e' := .f32) d r0_3 (ix3 (0 : Fin 1) (0 : Fin 1) k) = d (ix3 (1 : Fin 2) (1 : Fin 3) k) := by
  refine View.ld_unit_apply_of (Val := Elt Ideal) (e := .f32) d _ _ _ _ _ fun a => ?_
  match a with
  | ⟨0, _⟩ | ⟨1, _⟩ | ⟨2, _⟩ => simp

/-- The result, entry by entry. -/
def out (x : FVec Ideal S256x1024 .f32) (y : FVec Ideal S4096x1024 .f32) (g : FVec Ideal S1x1024 .f32) (d : FVec Ideal S2x3x1024 .f32)
    (r : Fin 4352) (k : Fin 1024) : EReal :=
  if h : r.val < 256 then stream (fun j => x (ix2 ⟨r.val, h⟩ j)) g d 0 k
  else stream (fun j => y (ix2 ⟨r.val - 256, by have := r.isLt; omega⟩ j)) g d 1 k

theorem out_ctx (x : FVec Ideal S256x1024 .f32) (y : FVec Ideal S4096x1024 .f32) (g : FVec Ideal S1x1024 .f32) (d : FVec Ideal S2x3x1024 .f32)
    (r : Fin 4352) (k : Fin 1024) (q : Fin 256) (h : r.val = q.val) : out x y g d r k = stream (fun j => x (ix2 q j)) g d 0 k := by
  have hq := q.isLt
  have e : (⟨r.val, by omega⟩ : Fin 256) = q := Fin.ext h
  unfold out
  rw [dif_pos (by omega), e]

theorem out_lat (x : FVec Ideal S256x1024 .f32) (y : FVec Ideal S4096x1024 .f32) (g : FVec Ideal S1x1024 .f32) (d : FVec Ideal S2x3x1024 .f32)
    (r : Fin 4352) (k : Fin 1024) (q : Fin 4096) (h : r.val = 256 + q.val) : out x y g d r k = stream (fun j => y (ix2 q j)) g d 1 k := by
  have hq := q.isLt
  have e : (⟨r.val - 256, by omega⟩ : Fin 4096) = q := Fin.ext (by show r.val - 256 = q.val; omega)
  unfold out
  rw [dif_neg (by omega), e]

theorem final (c : Dev nD) : (dats m 0 c).arrAt 4 (cfgs 0).N
    = (fun i => out (cA m c) (lA m c) (gA m c) (mA m c) (i 0) (i 1) : FVec Ideal S4352x1024 .bf16) := by
  refine (dats m 0 c).arrAt_eq_of_covers 4 _ (by decide +kernel) fun t _ y => ?_
  blk_simp
  rw [after0_4]
  frame_out
  obtain ⟨r, k, rfl⟩ : ∃ r k, y = ix2 r k := ⟨y 0, y 1, eq_ix2 y⟩
  have ht : t.val < 17 := lt_of_lt_of_eq t.isLt N_0
  have hr := r.isLt
  have e0 : (((View.whole main_v0).slice (win0_4.rect t)).emb (ix2 r k) 0).val = t.val * 256 + r.val := by blk_simp [idx t]
  have e1 : ((View.whole main_v0).slice (win0_4.rect t)).emb (ix2 r k) 1 = k := Fin.ext (by blk_simp [idx t])
  by_cases h0 : t.val = 0
  · refine (pay_first _ ((point t).trans h0) _ _ _ _ _ _ _ r k).trans (Eq.trans ?_ (out_ctx _ _ _ _ _ _ r ?_).symm)
    · rw [e1, ld_scale0, ld_shift0, g_blk m c t k, m_blk m c t, m_blk m c t, show (fun j => iblk m c 0 t (ix2 r j)) = fun j => cA m c (ix2 r j) from funext fun j => c_blk m c t r j]
      rfl
    · rw [e0, h0]
      omega
  · refine (pay_other _ (by rw [point t]; exact h0) _ _ _ _ _ _ _ r k).trans
      (Eq.trans ?_ (out_lat _ _ _ _ _ _ (⟨(t.val - 1) * 256 + r.val, by omega⟩ : Fin 4096) ?_).symm)
    · rw [e1, ld_scale1, ld_shift1, g_blk m c t k, m_blk m c t, m_blk m c t,
        show (fun j => iblk m c 1 t (ix2 r j)) = fun j => lA m c (ix2 (⟨(t.val - 1) * 256 + r.val, by omega⟩ : Fin 4096) j) from funext fun j => l_blk m c t r j _ rfl]
      rfl
    · rw [e0]
      show t.val * 256 + r.val = 256 + ((t.val - 1) * 256 + r.val)
      omega

/-- The reference's two streams. -/
theorem ref_lat (y : FVec Ideal S4096x1024 .f32) (g : FVec Ideal S1x1024 .f32) (d : FVec Ideal S2x3x1024 .f32) (r : Fin 4096) (k : Fin 1024) :
    Cert.NormRefIdeal.Read.val_main_v23 (F := Ideal) y g d (ix2 r k) = stream (fun j => y (ix2 r j)) g d 1 k := by
  unfold stream entry
  pointwise [Cert.NormRefIdeal.Read.val_main_v0, Cert.NormRefIdeal.Read.val_main_v1, Cert.NormRefIdeal.Read.val_main_v2, Cert.NormRefIdeal.Read.val_main_v3, Cert.NormRefIdeal.Read.val_main_v4, Cert.NormRefIdeal.Read.val_main_v5, Cert.NormRefIdeal.Read.val_main_v6, Cert.NormRefIdeal.Read.val_main_v7, Cert.NormRefIdeal.Read.val_main_v8, Cert.NormRefIdeal.Read.val_main_v9, Cert.NormRefIdeal.Read.val_main_v10, Cert.NormRefIdeal.Read.val_main_v11, Cert.NormRefIdeal.Read.val_main_v12, Cert.NormRefIdeal.Read.val_main_v13, Cert.NormRefIdeal.Read.val_main_v14, Cert.NormRefIdeal.Read.val_main_v15, Cert.NormRefIdeal.Read.val_main_v16, Cert.NormRefIdeal.Read.val_main_v17, Cert.NormRefIdeal.Read.val_main_v18, Cert.NormRefIdeal.Read.val_main_v19, Cert.NormRefIdeal.Read.val_main_v20, Cert.NormRefIdeal.Read.val_main_v21, Cert.NormRefIdeal.Read.val_main_v22, Cert.NormRefIdeal.Read.val_main_v23, Cert.NormRefIdeal.Read.val_main_cst, Cert.NormRefIdeal.Read.val_main_cst_0, Cert.NormRefIdeal.Read.val_main_cst_1, Cert.NormRefIdeal.Read.val_main_cst_2]

theorem ref_ctx (x : FVec Ideal S256x1024 .f32) (g : FVec Ideal S1x1024 .f32) (d : FVec Ideal S2x3x1024 .f32) (r : Fin 256) (k : Fin 1024) :
    Cert.NormRefIdeal.Read.val_main_v47 (F := Ideal) x g d (ix2 r k) = stream (fun j => x (ix2 r j)) g d 0 k := by
  unfold stream entry
  pointwise [Cert.NormRefIdeal.Read.val_main_v24, Cert.NormRefIdeal.Read.val_main_v25, Cert.NormRefIdeal.Read.val_main_v26, Cert.NormRefIdeal.Read.val_main_v27, Cert.NormRefIdeal.Read.val_main_v28, Cert.NormRefIdeal.Read.val_main_v29, Cert.NormRefIdeal.Read.val_main_v30, Cert.NormRefIdeal.Read.val_main_v31, Cert.NormRefIdeal.Read.val_main_v32, Cert.NormRefIdeal.Read.val_main_v33, Cert.NormRefIdeal.Read.val_main_v34, Cert.NormRefIdeal.Read.val_main_v35, Cert.NormRefIdeal.Read.val_main_v36, Cert.NormRefIdeal.Read.val_main_v37, Cert.NormRefIdeal.Read.val_main_v38, Cert.NormRefIdeal.Read.val_main_v39, Cert.NormRefIdeal.Read.val_main_v40, Cert.NormRefIdeal.Read.val_main_v41, Cert.NormRefIdeal.Read.val_main_v42, Cert.NormRefIdeal.Read.val_main_v43, Cert.NormRefIdeal.Read.val_main_v44, Cert.NormRefIdeal.Read.val_main_v45, Cert.NormRefIdeal.Read.val_main_v46, Cert.NormRefIdeal.Read.val_main_v47, Cert.NormRefIdeal.Read.val_main_cst_3, Cert.NormRefIdeal.Read.val_main_cst_4, Cert.NormRefIdeal.Read.val_main_cst_5, Cert.NormRefIdeal.Read.val_main_cst_6]

/-- The call's array is the reference's. -/
theorem whole (c : Dev nD) : (dats m 0 c).arrAt 4 cfg0.N = Cert.NormRefIdeal.Read.val_main_v49 (F := Ideal) (cA m c) (lA m c) (gA m c) (mA m c) := by
  refine (final m c).trans (funext fun i => ?_)
  obtain ⟨r, k, rfl⟩ : ∃ (r : Fin 4352) (k : Fin 1024), i = ix2 r k := ⟨i 0, i 1, eq_ix2 i⟩
  rw [Cert.NormRefIdeal.Read.val_main_v49_apply]
  show out _ _ _ _ r k = Cert.NormRefIdeal.Read.val_main_v48 (F := Ideal) _ _ _ _ _
  unfold Cert.NormRefIdeal.Read.val_main_v48
  have hr := r.isLt
  by_cases h : r.val < 256
  · refine (out_ctx _ _ _ _ r k ⟨r.val, h⟩ rfl).trans (Eq.trans (ref_ctx _ _ _ _ _).symm (concatenate_pair_apply_left (t := Cert.NormRefIdeal.S4352x1024)
      (s₁ := Cert.NormRefIdeal.S256x1024) (s₂ := Cert.NormRefIdeal.S4096x1024) (0 : Fin 2) _ _ _ _ rfl (ix2 (⟨r.val, h⟩ : Fin 256) k) fun b => ?_).symm)
    match b with
    | ⟨0, _⟩ | ⟨1, _⟩ => rfl
  · refine (out_lat _ _ _ _ r k ⟨r.val - 256, by omega⟩ (by show r.val = 256 + (r.val - 256); omega)).trans (Eq.trans (ref_lat _ _ _ _ _).symm
      (concatenate_pair_apply_right (t := Cert.NormRefIdeal.S4352x1024) (s₁ := Cert.NormRefIdeal.S256x1024) (s₂ := Cert.NormRefIdeal.S4096x1024) (0 : Fin 2) _ _ _ _
        rfl rfl (ix2 (⟨r.val - 256, by omega⟩ : Fin 4096) k) (fun b hb => ?_) ?_).symm)
    · match b with
      | ⟨0, _⟩ => exact absurd rfl hb
      | ⟨1, _⟩ => rfl
    · show r.val - 256 + 256 = r.val
      omega

end Cert.NormIdeal.Val

end
-- ==== Proof.AdModVal.lean ====
/- The optimiser's step on a matrix of 4096 rows and 768 columns: the three results are the reference's. -/
module

public import proofs.«01_k».proof.Proof.Gen.AdModIdeal.Value
public import proofs.«01_k».proof.Proof.Gen.AdModRefIdeal.Read
public import Idealize.ShloMosaic.Lib.Pipeline.ValueKit

@[expose] public section

set_option maxRecDepth 16384

noncomputable section

namespace Cert.AdModIdeal.Val

open Cert.AdModIdeal Cert.AdModIdeal.Gen Cert.AdModIdeal.Value Idealize.ShloMosaic

variable (w g m v : FVec Ideal S4096x768 .f32)

/-- The step to add to the weights. -/
theorem step_eq : Cert.AdModRefIdeal.Read.val_main_v23 (F := Ideal) w g m v = G4 (F := Ideal) g m v w := rfl

/-- The two moments. -/
theorem mean_eq : Cert.AdModRefIdeal.Read.val_main_v4 (F := Ideal) g m = G5 (F := Ideal) g m := rfl
theorem square_eq : Cert.AdModRefIdeal.Read.val_main_v10 (F := Ideal) g v = G6 (F := Ideal) g v := rfl

end Cert.AdModIdeal.Val

end
-- ==== Proof.AdInVal.lean ====
/- The optimiser's step on a matrix of 2048 rows and 640 columns: the three results are the reference's. -/
module

public import proofs.«01_k».proof.Proof.Gen.AdInIdeal.Value
public import proofs.«01_k».proof.Proof.Gen.AdInRefIdeal.Read
public import Idealize.ShloMosaic.Lib.Pipeline.ValueKit

@[expose] public section

set_option maxRecDepth 16384

noncomputable section

namespace Cert.AdInIdeal.Val

open Cert.AdInIdeal Cert.AdInIdeal.Gen Cert.AdInIdeal.Value Idealize.ShloMosaic

variable (w g m v : FVec Ideal S2048x640 .f32)

/-- The step to add to the weights. -/
theorem step_eq : Cert.AdInRefIdeal.Read.val_main_v23 (F := Ideal) w g m v = G4 (F := Ideal) g m v w := rfl

/-- The two moments. -/
theorem mean_eq : Cert.AdInRefIdeal.Read.val_main_v4 (F := Ideal) g m = G5 (F := Ideal) g m := rfl
theorem square_eq : Cert.AdInRefIdeal.Read.val_main_v10 (F := Ideal) g v = G6 (F := Ideal) g v := rfl

end Cert.AdInIdeal.Val

end
-- ==== Proof.AdOutVal.lean ====
/- The optimiser's step on a matrix of 512 rows and 1024 columns: the three results are the reference's. -/
module

public import proofs.«01_k».proof.Proof.Gen.AdOutIdeal.Value
public import proofs.«01_k».proof.Proof.Gen.AdOutRefIdeal.Read
public import Idealize.ShloMosaic.Lib.Pipeline.ValueKit

@[expose] public section

set_option maxRecDepth 16384

noncomputable section

namespace Cert.AdOutIdeal.Val

open Cert.AdOutIdeal Cert.AdOutIdeal.Gen Cert.AdOutIdeal.Value Idealize.ShloMosaic

variable (w g m v : FVec Ideal S512x1024 .f32)

/-- The step to add to the weights. -/
theorem step_eq : Cert.AdOutRefIdeal.Read.val_main_v23 (F := Ideal) w g m v = G4 (F := Ideal) g m v w := rfl

/-- The two moments. -/
theorem mean_eq : Cert.AdOutRefIdeal.Read.val_main_v4 (F := Ideal) g m = G5 (F := Ideal) g m := rfl
theorem square_eq : Cert.AdOutRefIdeal.Read.val_main_v10 (F := Ideal) g v = G6 (F := Ideal) g v := rfl

end Cert.AdOutIdeal.Val

end
-- ==== Proof.AdGluVal.lean ====
/- The optimiser's step on a matrix of 256 rows and 512 columns: the three results are the reference's. -/
module

public import proofs.«01_k».proof.Proof.Gen.AdGluIdeal.Value
public import proofs.«01_k».proof.Proof.Gen.AdGluRefIdeal.Read
public import Idealize.ShloMosaic.Lib.Pipeline.ValueKit

@[expose] public section

set_option maxRecDepth 16384

noncomputable section

namespace Cert.AdGluIdeal.Val

open Cert.AdGluIdeal Cert.AdGluIdeal.Gen Cert.AdGluIdeal.Value Idealize.ShloMosaic

variable (w g m v : FVec Ideal S256x512 .f32)

/-- The step to add to the weights. -/
theorem step_eq : Cert.AdGluRefIdeal.Read.val_main_v23 (F := Ideal) w g m v = G4 (F := Ideal) g m v w := rfl

/-- The two moments. -/
theorem mean_eq : Cert.AdGluRefIdeal.Read.val_main_v4 (F := Ideal) g m = G5 (F := Ideal) g m := rfl
theorem square_eq : Cert.AdGluRefIdeal.Read.val_main_v10 (F := Ideal) g v = G6 (F := Ideal) g v := rfl

end Cert.AdGluIdeal.Val

end
-- ==== Proof.LossVal.lean ====
/- The loss and the last norm's gradient: the points add up what the tiles of latents' rows give. -/
module

public import proofs.«01_k».proof.Proof.Gen.LossIdeal.Value
public import proofs.«01_k».proof.Proof.Gen.LossRefIdeal.Read
public import Idealize.ShloMosaic.Lib.Pipeline.ValueKit
public import Idealize.ShloMosaic.Lib.StableHlo.RunRead

@[expose] public section

set_option maxRecDepth 16384

noncomputable section

namespace Cert.LossIdeal.Val

open Cert.LossIdeal Cert.LossIdeal.Gen Idealize.ShloMosaic Idealize.ShloMosaic.TcCoe Idealize.SL.Sem

variable (m : (ℓ : Loc nD τ sig) → Buf (Elt Ideal) ℓ)

/-- The tokens' rows, the target, the norm's weights, the last block's output and the modulation. -/
def xA (c : Dev nD) : FVec Ideal S4352x1024 .f32 := m ((c : Thread nD τ).loc main_arg0)
def yA (c : Dev nD) : FVec Ideal S4096x1024 .f32 := m ((c : Thread nD τ).loc main_arg1)
def gA (c : Dev nD) : FVec Ideal S1x1024 .f32 := m ((c : Thread nD τ).loc main_arg2)
def oA (c : Dev nD) : FVec Ideal S4352x1024 .f32 := m ((c : Thread nD τ).loc main_arg3)
def mA (c : Dev nD) : FVec Ideal S2x3x1024 .f32 := m ((c : Thread nD τ).loc main_arg4)

/-- One entry of a row after the gated output is added. -/
def row (x o w : Fin 1024 → EReal) (k : Fin 1024) : EReal := x k + w k * o k

/-- One entry of a row after the norm. -/
def nrm (x : Fin 1024 → EReal) (k : Fin 1024) : EReal :=
  x k * Ideal.rsqrt (Ideal.div (∑ j, x j * x j) (Ideal.ofBits .f32 0x44800000#32) + Ideal.ofBits .f32 0x358637BD#32)

/-- One entry of a row's distance from its target. -/
def err (x g y : Fin 1024 → EReal) (k : Fin 1024) : EReal := nrm x k * g k - y k

theorem pay_norm (x : FVec Ideal S256x1024 .f32) (w : FVec Ideal S1x1x1024 .f32) (o : FVec Ideal S256x1024 .f32) (r : Fin 256) (k : Fin 1024) :
    k0_pay12 (F := Ideal) x w o (ix2 r k)
      = nrm (row (fun j => x (ix2 r j)) (fun j => o (ix2 r j)) fun j => w (ix3 (0 : Fin 1) (0 : Fin 1) j)) k := by
  unfold nrm row
  pointwise [k0_pay10, k0_pay11, k0_pay12]

theorem pay_err (x : FVec Ideal S256x1024 .f32) (w : FVec Ideal S1x1x1024 .f32) (o : FVec Ideal S256x1024 .f32) (g : FVec Ideal S1x1024 .f32)
    (y : FVec Ideal S256x1024 .f32) (r : Fin 256) (k : Fin 1024) :
    k0_pay13 (F := Ideal) x w o g y (ix2 r k)
      = err (row (fun j => x (ix2 r j)) (fun j => o (ix2 r j)) fun j => w (ix3 (0 : Fin 1) (0 : Fin 1) j)) (fun j => g (ix2 (0 : Fin 1) j)) (fun j => y (ix2 r j)) k := by
  unfold err
  rw [← pay_norm]
  unfold k0_pay13
  generalize k0_pay12 (F := Ideal) x w o = n
  pointwise

/-- What a tile adds to the loss. -/
theorem pay_loss (x : FVec Ideal S256x1024 .f32) (w : FVec Ideal S1x1x1024 .f32) (o : FVec Ideal S256x1024 .f32) (g : FVec Ideal S1x1024 .f32)
    (y : FVec Ideal S256x1024 .f32) (p : FVec Ideal S1x1 .f32) :
    k0_pay14 (F := Ideal) x w o g y p (ix2 (0 : Fin 1) (0 : Fin 1))
      = p (ix2 (0 : Fin 1) (0 : Fin 1)) + Ideal.ofBits .f32 0x3A000000#32
        * ∑ r : Fin 256, ∑ k : Fin 1024, k0_pay13 (F := Ideal) x w o g y (ix2 r k) * k0_pay13 (F := Ideal) x w o g y (ix2 r k) := by
  unfold k0_pay14
  generalize k0_pay13 (F := Ideal) x w o g y = n
  pointwise

/-- What a tile adds to the gradient of the norm's weights. -/
theorem pay_grad (n e : FVec Ideal S256x1024 .f32) (p : FVec Ideal S1x1024 .f32) (k : Fin 1024) :
    k0_pay6 (F := Ideal) n e p (ix2 (0 : Fin 1) k) = p (ix2 (0 : Fin 1) k) + ∑ r : Fin 256, e (ix2 r k) * n (ix2 r k) := by
  pointwise [k0_pay6]

theorem pay_scaled (x : FVec Ideal S256x1024 .f32) (w : FVec Ideal S1x1x1024 .f32) (o : FVec Ideal S256x1024 .f32) (g : FVec Ideal S1x1024 .f32)
    (y : FVec Ideal S256x1024 .f32) (r : Fin 256) (k : Fin 1024) :
    k0_pay15 (F := Ideal) x w o g y (ix2 r k) = k0_pay13 (F := Ideal) x w o g y (ix2 r k) * Ideal.ofBits .f32 0x3A800000#32 := by
  unfold k0_pay15
  generalize k0_pay13 (F := Ideal) x w o g y = n
  pointwise

theorem idx : ∀ t : Fin cfg0.N, win0_0.index t = ![t.val, 0] ∧ win0_1.index t = ![t.val - 1, 0] ∧ win0_2.index t = ![0, 0] ∧ win0_3.index t = ![t.val, 0]
    ∧ win0_4.index t = ![0, 0, 0] ∧ win0_5.index t = ![0, 0] ∧ win0_7.index t = ![0, 0] :=
  (by decide +kernel : ∀ t : Fin grid0.N, _)

theorem x_blk (c : Dev nD) (t : Fin cfg0.N) (r : Fin 256) (k : Fin 1024) (q : Fin 4352) (h : q.val = t.val * 256 + r.val) :
    (iblk m c 0 t : FVec Ideal S256x1024 .f32) (ix2 r k) = xA m c (ix2 q k) := by
  have e : V m c main_arg0 = xA m c := V_main_arg0 m c
  rw [show q = ⟨t.val * 256 + r.val, h ▸ q.isLt⟩ from Fin.ext h, ← e]
  blk_ext [iblk, idx t]

theorem y_blk (c : Dev nD) (t : Fin cfg0.N) (r : Fin 256) (k : Fin 1024) (q : Fin 4096) (h : q.val = (t.val - 1) * 256 + r.val) :
    (iblk m c 1 t : FVec Ideal S256x1024 .f32) (ix2 r k) = yA m c (ix2 q k) := by
  have e : V m c main_arg1 = yA m c := V_main_arg1 m c
  rw [show q = ⟨(t.val - 1) * 256 + r.val, h ▸ q.isLt⟩ from Fin.ext h, ← e]
  blk_ext [iblk, idx t]

theorem g_blk (c : Dev nD) (t : Fin cfg0.N) (k : Fin 1024) :
    (iblk m c 2 t : FVec Ideal S1x1024 .f32) (ix2 (0 : Fin 1) k) = gA m c (ix2 (0 : Fin 1) k) := by
  have e : V m c main_arg2 = gA m c := V_main_arg2 m c
  rw [← e]
  blk_ext [iblk, idx t]

theorem o_blk (c : Dev nD) (t : Fin cfg0.N) (r : Fin 256) (k : Fin 1024) (q : Fin 4352) (h : q.val = t.val * 256 + r.val) :
    (iblk m c 3 t : FVec Ideal S256x1024 .f32) (ix2 r k) = oA m c (ix2 q k) := by
  have e : V m c main_arg3 = oA m c := V_main_arg3 m c
  rw [show q = ⟨t.val * 256 + r.val, h ▸ q.isLt⟩ from Fin.ext h, ← e]
  blk_ext [iblk, idx t]

theorem m_blk (c : Dev nD) (t : Fin cfg0.N) (l : Fin 2) (u : Fin 3) (k : Fin 1024) :
    (iblk m c 4 t : FVec Ideal S2x3x1024 .f32) (ix3 l u k) = mA m c (ix3 l u k) := by
  have e : V m c main_arg4 = mA m c := V_main_arg4 m c
  rw [← e]
  blk_ext [iblk, idx t]

theorem first (c : Dev nD) (t : Fin cfg0.N) (h : t.val = 0) :
    (outsAt0 m c t.val t.isLt).1 = k0_pay1 (F := Ideal) ∧ (outsAt0 m c t.val t.isLt).2.2.1 = k0_pay2 (F := Ideal) := by
  rw [outsAt0_A m c t (by omega) (by omega)]
  constructor
  · frame_out
  · frame_out

/-- The row of the modulation that a point reads. -/
abbrev gate (d : FVec Ideal S2x3x1024 .f32) : FVec Ideal S1x1x1024 .f32 :=
  View.ld (Val := Elt Ideal) (e' := .f32) d (Rect.unit (s := S2x3x1024) ![1, 2, 0] S1x1x1024.size inb_S2x3x1024_S1x1x1024_1_2_0)

theorem next (c : Dev nD) (t : Fin cfg0.N) (h : t.val ≠ 0) :
    (outsAt0 m c t.val t.isLt).1 = k0_pay14 (F := Ideal) (iblk m c 0 t) (gate (iblk m c 4 t)) (iblk m c 3 t) (iblk m c 2 t) (iblk m c 1 t)
        (outsAt0 m c (t.val - 1) (Nat.lt_of_le_of_lt (Nat.sub_le _ _) t.isLt)).1
    ∧ (outsAt0 m c t.val t.isLt).2.2.1 = k0_pay6 (F := Ideal) (k0_pay12 (F := Ideal) (iblk m c 0 t) (gate (iblk m c 4 t)) (iblk m c 3 t))
        (k0_pay15 (F := Ideal) (iblk m c 0 t) (gate (iblk m c 4 t)) (iblk m c 3 t) (iblk m c 2 t) (iblk m c 1 t))
        (outsAt0 m c (t.val - 1) (Nat.lt_of_le_of_lt (Nat.sub_le _ _) t.isLt)).2.2.1 := by
  have ht : t.val < 17 := lt_of_lt_of_eq t.isLt N_0
  rw [outsAt0_B m c t (by omega) (by omega)]
  constructor
  · frame_out
  · frame_out

theorem ld_gate (d : FVec Ideal S2x3x1024 .f32) (k : Fin 1024) : gate d (ix3 (0 : Fin 1) (0 : Fin 1) k) = d (ix3 (1 : Fin 2) (2 : Fin 3) k) := by
  refine View.ld_unit_apply_of (Val := Elt Ideal) (e := .f32) d _ _ _ _ _ fun a => ?_
  match a with
  | ⟨0, _⟩ | ⟨1, _⟩ | ⟨2, _⟩ => simp

/-- The latents' row `q` after the gated output is added. -/
def lat (x o : FVec Ideal S4352x1024 .f32) (d : FVec Ideal S2x3x1024 .f32) (q : Fin 4096) : Fin 1024 → EReal :=
  row (fun j => x (ix2 ⟨256 + q.val, Nat.add_lt_add_left q.isLt 256⟩ j)) (fun j => o (ix2 ⟨256 + q.val, Nat.add_lt_add_left q.isLt 256⟩ j))
    fun j => d (ix3 (1 : Fin 2) (2 : Fin 3) j)

/-- Its distance from the target. -/
def dist (x : FVec Ideal S4352x1024 .f32) (y : FVec Ideal S4096x1024 .f32) (g : FVec Ideal S1x1024 .f32) (o : FVec Ideal S4352x1024 .f32)
    (d : FVec Ideal S2x3x1024 .f32) (q : Fin 4096) : Fin 1024 → EReal :=
  err (lat x o d q) (fun j => g (ix2 (0 : Fin 1) j)) fun j => y (ix2 q j)

/-- What row `q` gives to the loss, and what it gives to the gradient's entry `k`. -/
def lossRow (x : FVec Ideal S4352x1024 .f32) (y : FVec Ideal S4096x1024 .f32) (g : FVec Ideal S1x1024 .f32) (o : FVec Ideal S4352x1024 .f32)
    (d : FVec Ideal S2x3x1024 .f32) (q : ℕ) : EReal :=
  if h : q < 4096 then ∑ k, dist x y g o d ⟨q, h⟩ k * dist x y g o d ⟨q, h⟩ k else 0

def gradRow (x : FVec Ideal S4352x1024 .f32) (y : FVec Ideal S4096x1024 .f32) (g : FVec Ideal S1x1024 .f32) (o : FVec Ideal S4352x1024 .f32)
    (d : FVec Ideal S2x3x1024 .f32) (k : Fin 1024) (q : ℕ) : EReal :=
  if h : q < 4096 then dist x y g o d ⟨q, h⟩ k * Ideal.ofBits .f32 0x3A800000#32 * nrm (lat x o d ⟨q, h⟩) k else 0

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem lossRow_nonneg (x : FVec Ideal S4352x1024 .f32) (y : FVec Ideal S4096x1024 .f32) (g : FVec Ideal S1x1024 .f32) (o : FVec Ideal S4352x1024 .f32)
    (d : FVec Ideal S2x3x1024 .f32) (q : ℕ) : 0 ≤ lossRow x y g o d q := by
  unfold lossRow
  split
  · exact Finset.sum_nonneg fun k _ => square_nonneg _
  · exact le_refl 0

/-- A tile's rows at point `t`. -/
theorem row_blk (c : Dev nD) (t : Fin cfg0.N) (h : t.val ≠ 0) (r : Fin 256) (q : Fin 4096) (hq : q.val = (t.val - 1) * 256 + r.val) :
    row (fun j => (iblk m c 0 t : FVec Ideal S256x1024 .f32) (ix2 r j)) (fun j => (iblk m c 3 t : FVec Ideal S256x1024 .f32) (ix2 r j))
      (fun j => gate (iblk m c 4 t) (ix3 (0 : Fin 1) (0 : Fin 1) j)) = lat (xA m c) (oA m c) (mA m c) q := by
  have e : 256 + q.val = t.val * 256 + r.val := by omega
  unfold lat
  exact congr (congrArg₂ row (funext fun j => x_blk m c t r j _ e) (funext fun j => o_blk m c t r j _ e))
    (funext fun j => (ld_gate _ j).trans (m_blk m c t _ _ j))

theorem err_blk (c : Dev nD) (t : Fin cfg0.N) (h : t.val ≠ 0) (r : Fin 256) (k : Fin 1024) (q : Fin 4096) (hq : q.val = (t.val - 1) * 256 + r.val) :
    k0_pay13 (F := Ideal) (iblk m c 0 t) (gate (iblk m c 4 t)) (iblk m c 3 t) (iblk m c 2 t) (iblk m c 1 t) (ix2 r k)
      = dist (xA m c) (yA m c) (gA m c) (oA m c) (mA m c) q k := by
  refine (pay_err _ _ _ _ _ r k).trans ?_
  unfold dist
  exact congrFun (congr (congrArg₂ err (row_blk m c t h r q hq) (funext fun j => g_blk m c t j)) (funext fun j => y_blk m c t r j q hq)) k

theorem norm_blk (c : Dev nD) (t : Fin cfg0.N) (h : t.val ≠ 0) (r : Fin 256) (k : Fin 1024) (q : Fin 4096) (hq : q.val = (t.val - 1) * 256 + r.val) :
    k0_pay12 (F := Ideal) (iblk m c 0 t) (gate (iblk m c 4 t)) (iblk m c 3 t) (ix2 r k) = nrm (lat (xA m c) (oA m c) (mA m c) q) k :=
  (pay_norm _ _ _ r k).trans (congrArg (nrm · k) (row_blk m c t h r q hq))

theorem row_lt (c : Dev nD) (t : Fin cfg0.N) (h : t.val ≠ 0) (r : Fin 256) : (t.val - 1) * 256 + r.val < 4096 := by
  have ht : t.val < 17 := lt_of_lt_of_eq t.isLt N_0
  have hr := r.isLt
  omega

theorem tile_loss (c : Dev nD) (t : Fin cfg0.N) (h : t.val ≠ 0) :
    (outsAt0 m c t.val t.isLt).1 (ix2 (0 : Fin 1) (0 : Fin 1))
      = (outsAt0 m c (t.val - 1) (Nat.lt_of_le_of_lt (Nat.sub_le _ _) t.isLt)).1 (ix2 (0 : Fin 1) (0 : Fin 1)) + Ideal.ofBits .f32 0x3A000000#32
        * ∑ r ∈ Finset.range 256, lossRow (xA m c) (yA m c) (gA m c) (oA m c) (mA m c) ((t.val - 1) * 256 + r) := by
  rw [(next m c t h).1]
  refine (pay_loss _ _ _ _ _ _).trans (congrArg₂ (· + ·) rfl (congrArg₂ (· * ·) rfl ?_))
  rw [Finset.sum_range]
  refine Finset.sum_congr rfl fun r _ => ?_
  unfold lossRow
  rw [dif_pos (row_lt c t h r)]
  exact Finset.sum_congr rfl fun k _ => congrArg₂ (· * ·) (err_blk m c t h r k _ rfl) (err_blk m c t h r k _ rfl)

theorem tile_grad (c : Dev nD) (t : Fin cfg0.N) (h : t.val ≠ 0) (k : Fin 1024) :
    (outsAt0 m c t.val t.isLt).2.2.1 (ix2 (0 : Fin 1) k)
      = (outsAt0 m c (t.val - 1) (Nat.lt_of_le_of_lt (Nat.sub_le _ _) t.isLt)).2.2.1 (ix2 (0 : Fin 1) k)
        + ∑ r ∈ Finset.range 256, gradRow (xA m c) (yA m c) (gA m c) (oA m c) (mA m c) k ((t.val - 1) * 256 + r) := by
  rw [(next m c t h).2]
  refine (pay_grad _ _ _ k).trans (congrArg (_ + ·) ?_)
  rw [Finset.sum_range]
  refine Finset.sum_congr rfl fun r _ => ?_
  unfold gradRow
  rw [dif_pos (row_lt c t h r)]
  exact congrArg₂ (· * ·) ((pay_scaled _ _ _ _ _ r k).trans (congrArg (· * _) (err_blk m c t h r k _ rfl))) (norm_blk m c t h r k _ rfl)

/-- After point `n` the loss and the gradient hold what the first `256 * n` rows give. -/
theorem acc_loss (c : Dev nD) : ∀ (n : ℕ) (hn : n < cfg0.N), (outsAt0 m c n hn).1 (ix2 (0 : Fin 1) (0 : Fin 1))
    = Ideal.ofBits .f32 0x3A000000#32 * ∑ q ∈ Finset.range (n * 256), lossRow (xA m c) (yA m c) (gA m c) (oA m c) (mA m c) q
  | 0, hn => by
      rw [(first m c ⟨0, hn⟩ rfl).1]
      rw [Nat.zero_mul, Finset.range_zero, Finset.sum_empty, mul_zero]
      pointwise [k0_pay1]
  | n + 1, hn => by
      refine (tile_loss m c ⟨n + 1, hn⟩ (Nat.succ_ne_zero n)).trans ?_
      show (outsAt0 m c n _).1 (ix2 (0 : Fin 1) (0 : Fin 1)) + _ * ∑ r ∈ Finset.range 256, lossRow _ _ _ _ _ (n * 256 + r) = _
      rw [acc_loss c n, Nat.succ_mul, Finset.sum_range_add, EReal.left_distrib_of_nonneg
        (Finset.sum_nonneg fun q _ => lossRow_nonneg _ _ _ _ _ _) (Finset.sum_nonneg fun q _ => lossRow_nonneg _ _ _ _ _ _)]

theorem acc_grad (c : Dev nD) (k : Fin 1024) : ∀ (n : ℕ) (hn : n < cfg0.N), (outsAt0 m c n hn).2.2.1 (ix2 (0 : Fin 1) k)
    = ∑ q ∈ Finset.range (n * 256), gradRow (xA m c) (yA m c) (gA m c) (oA m c) (mA m c) k q
  | 0, hn => by
      rw [(first m c ⟨0, hn⟩ rfl).2]
      rw [Nat.zero_mul, Finset.range_zero, Finset.sum_empty]
      pointwise [k0_pay2]
  | n + 1, hn => by
      refine (tile_grad m c ⟨n + 1, hn⟩ (Nat.succ_ne_zero n) k).trans ?_
      show (outsAt0 m c n _).2.2.1 (ix2 (0 : Fin 1) k) + ∑ r ∈ Finset.range 256, gradRow _ _ _ _ _ k (n * 256 + r) = _
      rw [acc_grad c k n, Nat.succ_mul, Finset.sum_range_add]

theorem final_loss (c : Dev nD) : (dats m 0 c).arrAt 5 cfg0.N = fun _ =>
    Ideal.ofBits .f32 0x3A000000#32 * ∑ q ∈ Finset.range 4096, lossRow (xA m c) (yA m c) (gA m c) (oA m c) (mA m c) q := by
  refine (dats m 0 c).arrAt_eq_of_covers 5 _ (by decide +kernel) fun t hf y => ?_
  have ht : t.val < 17 := lt_of_lt_of_eq t.isLt N_0
  have hl : t.val = 16 := by have := (flush0_5 t).mp hf; omega
  obtain ⟨a, b, rfl⟩ : ∃ a b : Fin 1, y = ix2 a b := ⟨y 0, y 1, eq_ix2 y⟩
  obtain rfl := Subsingleton.elim a 0
  obtain rfl := Subsingleton.elim b 0
  refine (congrFun (after0_5 m c t) _).trans ((acc_loss m c t.val t.isLt).trans ?_)
  rw [hl]

theorem final_grad (c : Dev nD) : (dats m 0 c).arrAt 7 cfg0.N = (fun i =>
    ∑ q ∈ Finset.range 4096, gradRow (xA m c) (yA m c) (gA m c) (oA m c) (mA m c) (i 1) q : FVec Ideal S1x1024 .f32) := by
  refine (dats m 0 c).arrAt_eq_of_covers 7 _ (by decide +kernel) fun t hf y => ?_
  have ht : t.val < 17 := lt_of_lt_of_eq t.isLt N_0
  have hl : t.val = 16 := by have := (flush0_7 t).mp hf; omega
  obtain ⟨a, k, rfl⟩ : ∃ (a : Fin 1) (k : Fin 1024), y = ix2 a k := ⟨y 0, y 1, eq_ix2 y⟩
  obtain rfl := Subsingleton.elim a 0
  have e1 : ((View.whole main_v0_2).slice (win0_7.rect t)).emb (ix2 (0 : Fin 1) k) 1 = k := Fin.ext (by blk_simp [idx t])
  refine (congrFun (after0_7 m c t) _).trans ((acc_grad m c k t.val t.isLt).trans ?_)
  rw [hl]
  exact (congrArg (fun j => ∑ q ∈ Finset.range 4096, gradRow (xA m c) (yA m c) (gA m c) (oA m c) (mA m c) j q) e1).symm

theorem half_word : Ideal.ofBits .f32 0x3F000000#32 = ((1 / 2 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem width_word : Ideal.ofBits .f32 0x44800000#32 = ((1024 : ℝ) : EReal) := by
  simp [Ideal.ofBits, Ideal.ieee, -EReal.coe_mul]; norm_num
theorem mean_word : Ideal.ofBits .f32 0x3A800000#32 = ((1 / 1024 : ℝ) : EReal) := by
  simp [Ideal.ofBits, Ideal.ieee, -EReal.coe_mul]; norm_num
theorem mean_half_word : Ideal.ofBits .f32 0x3A000000#32 = ((1 / 2048 : ℝ) : EReal) := by
  simp [Ideal.ofBits, Ideal.ieee, -EReal.coe_mul]; norm_num

/-- The reference's norm and distance, entry by entry. -/
theorem ref_norm (x o : FVec Ideal S4352x1024 .f32) (d : FVec Ideal S2x3x1024 .f32) (q : Fin 4096) (k : Fin 1024) :
    Cert.LossRefIdeal.Read.val_main_v17 (F := Ideal) x o d (ix2 q k) = nrm (lat x o d q) k := by
  unfold nrm lat row
  pointwise [Cert.LossRefIdeal.Read.val_main_v0, Cert.LossRefIdeal.Read.val_main_v1, Cert.LossRefIdeal.Read.val_main_v2, Cert.LossRefIdeal.Read.val_main_v3, Cert.LossRefIdeal.Read.val_main_v4, Cert.LossRefIdeal.Read.val_main_v5, Cert.LossRefIdeal.Read.val_main_v6, Cert.LossRefIdeal.Read.val_main_v7, Cert.LossRefIdeal.Read.val_main_v8, Cert.LossRefIdeal.Read.val_main_v9, Cert.LossRefIdeal.Read.val_main_v10, Cert.LossRefIdeal.Read.val_main_v11, Cert.LossRefIdeal.Read.val_main_v12, Cert.LossRefIdeal.Read.val_main_v13, Cert.LossRefIdeal.Read.val_main_v14, Cert.LossRefIdeal.Read.val_main_v15, Cert.LossRefIdeal.Read.val_main_v16, Cert.LossRefIdeal.Read.val_main_v17, Cert.LossRefIdeal.Read.val_main_cst, Cert.LossRefIdeal.Read.val_main_cst_0, Cert.LossRefIdeal.Read.val_main_cst_1]

theorem ref_err (x : FVec Ideal S4352x1024 .f32) (y : FVec Ideal S4096x1024 .f32) (g : FVec Ideal S1x1024 .f32) (o : FVec Ideal S4352x1024 .f32)
    (d : FVec Ideal S2x3x1024 .f32) (q : Fin 4096) (k : Fin 1024) :
    Cert.LossRefIdeal.Read.val_main_v20 (F := Ideal) x y g o d (ix2 q k) = dist x y g o d q k := by
  unfold dist err
  rw [← ref_norm]
  unfold Cert.LossRefIdeal.Read.val_main_v20 Cert.LossRefIdeal.Read.val_main_v19 Cert.LossRefIdeal.Read.val_main_v18
  generalize Cert.LossRefIdeal.Read.val_main_v17 (F := Ideal) x o d = n
  pointwise

/-- The mean over a row's squares, halved, is the row's part of the loss. -/
theorem half_mean (s : EReal) : Ideal.ofBits .f32 0x3F000000#32 * Ideal.div s (Ideal.ofBits .f32 0x44800000#32) = Ideal.ofBits .f32 0x3A000000#32 * s := by
  rw [width_word, Ideal.div_coe (by norm_num), half_word, mean_half_word, mul_comm s, ← mul_assoc, ← EReal.coe_mul]
  norm_num

theorem mul_sum_nonneg (a : EReal) {n : ℕ} (f : ℕ → EReal) (h : ∀ q, 0 ≤ f q) : a * ∑ q ∈ Finset.range n, f q = ∑ q ∈ Finset.range n, a * f q := by
  induction n with
  | zero => rw [Finset.range_zero, Finset.sum_empty, Finset.sum_empty, mul_zero]
  | succ n ih => rw [Finset.sum_range_succ, Finset.sum_range_succ, EReal.left_distrib_of_nonneg (Finset.sum_nonneg fun q _ => h q) (h n), ih]

theorem ref_mean (x : FVec Ideal S4352x1024 .f32) (y : FVec Ideal S4096x1024 .f32) (g : FVec Ideal S1x1024 .f32) (o : FVec Ideal S4352x1024 .f32)
    (d : FVec Ideal S2x3x1024 .f32) (q : Fin 4096) :
    Cert.LossRefIdeal.Read.val_main_v26 (F := Ideal) x y g o d (ix1 q) = Ideal.div (lossRow x y g o d q.val) (Ideal.ofBits .f32 0x44800000#32) := by
  unfold lossRow
  rw [dif_pos q.isLt]
  simp only [← ref_err]
  unfold Cert.LossRefIdeal.Read.val_main_v26 Cert.LossRefIdeal.Read.val_main_v24 Cert.LossRefIdeal.Read.val_main_v21
  generalize Cert.LossRefIdeal.Read.val_main_v20 (F := Ideal) x y g o d = n
  pointwise [Cert.LossRefIdeal.Read.val_main_v25, Cert.LossRefIdeal.Read.val_main_cst_3, Cert.LossRefIdeal.Read.val_main_cst_4]

/-- The loss that the call gives is the reference's. -/
theorem whole_loss (c : Dev nD) : (dats m 0 c).arrAt 5 cfg0.N
    = Cert.LossRefIdeal.Read.val_main_v38 (F := Ideal) (xA m c) (yA m c) (gA m c) (oA m c) (mA m c) := by
  refine (final_loss m c).trans (funext fun i => ?_)
  have hv : Cert.LossRefIdeal.Read.val_main_v38 (F := Ideal) (xA m c) (yA m c) (gA m c) (oA m c) (mA m c) i
      = Ideal.ofBits .f32 0x3F000000#32 * ∑ q : Fin 4096, Cert.LossRefIdeal.Read.val_main_v26 (F := Ideal) (xA m c) (yA m c) (gA m c) (oA m c) (mA m c) (ix1 q) := by
    unfold Cert.LossRefIdeal.Read.val_main_v38 Cert.LossRefIdeal.Read.val_main_v28 Cert.LossRefIdeal.Read.val_main_v27
    generalize Cert.LossRefIdeal.Read.val_main_v26 (F := Ideal) (xA m c) (yA m c) (gA m c) (oA m c) (mA m c) = v
    obtain ⟨a, b, rfl⟩ : ∃ a b : Fin 1, i = ix2 a b := ⟨i 0, i 1, eq_ix2 i⟩
    obtain rfl := Subsingleton.elim a 0
    obtain rfl := Subsingleton.elim b 0
    pointwise [Cert.LossRefIdeal.Read.val_main_cst_5, Cert.LossRefIdeal.Read.val_main_cst_6]
  rw [hv]
  simp only [ref_mean]
  rw [← Finset.sum_range (fun q => Ideal.div (lossRow (xA m c) (yA m c) (gA m c) (oA m c) (mA m c) q) (Ideal.ofBits .f32 0x44800000#32)),
    mul_sum_nonneg _ _ fun q => lossRow_nonneg _ _ _ _ _ q, mul_sum_nonneg _ _ fun q => ?_]
  · exact Finset.sum_congr rfl fun q _ => (half_mean _).symm
  · rw [width_word, Ideal.div_coe (by norm_num)]
    exact mul_nonneg (lossRow_nonneg _ _ _ _ _ q) (by norm_num)

/-- The derivative of the halved mean of squares, as the reference forms it. -/
theorem scale_two (n e : EReal) : n * (Ideal.div (Ideal.ofBits .f32 0x3F000000#32) (Ideal.ofBits .f32 0x44800000#32) * (Ideal.ofBits .f32 0x40000000#32 * e))
    = e * Ideal.ofBits .f32 0x3A800000#32 * n := by
  rw [width_word, Ideal.div_coe (by norm_num), half_word, two_word, mean_word, ← mul_assoc ((_ : EReal) * _) _ e, ← EReal.coe_mul, ← EReal.coe_mul, mul_comm, mul_comm e]
  norm_num

/-- The gradient that the call gives is the reference's. -/
theorem whole_grad (c : Dev nD) : (dats m 0 c).arrAt 7 cfg0.N
    = Cert.LossRefIdeal.Read.val_main_v37 (F := Ideal) (xA m c) (yA m c) (gA m c) (oA m c) (mA m c) := by
  refine (final_grad m c).trans (funext fun i => ?_)
  obtain ⟨a, k, rfl⟩ : ∃ (a : Fin 1) (k : Fin 1024), i = ix2 a k := ⟨i 0, i 1, eq_ix2 i⟩
  obtain rfl := Subsingleton.elim a 0
  show ∑ q ∈ Finset.range 4096, gradRow _ _ _ _ _ k q = _
  have hv : Cert.LossRefIdeal.Read.val_main_v37 (F := Ideal) (xA m c) (yA m c) (gA m c) (oA m c) (mA m c) (ix2 (0 : Fin 1) k)
      = ∑ q : Fin 4096, Cert.LossRefIdeal.Read.val_main_v17 (F := Ideal) (xA m c) (oA m c) (mA m c) (ix2 q k)
        * (Ideal.div (Ideal.ofBits .f32 0x3F000000#32) (Ideal.ofBits .f32 0x44800000#32)
          * (Ideal.ofBits .f32 0x40000000#32 * Cert.LossRefIdeal.Read.val_main_v20 (F := Ideal) (xA m c) (yA m c) (gA m c) (oA m c) (mA m c) (ix2 q k))) := by
    unfold Cert.LossRefIdeal.Read.val_main_v37 Cert.LossRefIdeal.Read.val_main_v36 Cert.LossRefIdeal.Read.val_main_v35 Cert.LossRefIdeal.Read.val_main_v34 Cert.LossRefIdeal.Read.val_main_v23
    generalize Cert.LossRefIdeal.Read.val_main_v17 (F := Ideal) (xA m c) (oA m c) (mA m c) = n
    generalize Cert.LossRefIdeal.Read.val_main_v20 (F := Ideal) (xA m c) (yA m c) (gA m c) (oA m c) (mA m c) = e
    pointwise [Cert.LossRefIdeal.Read.val_main_v22, Cert.LossRefIdeal.Read.val_main_v29, Cert.LossRefIdeal.Read.val_main_v30, Cert.LossRefIdeal.Read.val_main_v31, Cert.LossRefIdeal.Read.val_main_v32, Cert.LossRefIdeal.Read.val_main_v33, Cert.LossRefIdeal.Read.val_main_cst_2, Cert.LossRefIdeal.Read.val_main_cst_7, Cert.LossRefIdeal.Read.val_main_cst_8, Cert.LossRefIdeal.Read.val_main_cst_9, Cert.LossRefIdeal.Read.val_main_cst_10]
  rw [hv, Finset.sum_range]
  refine Finset.sum_congr rfl fun q _ => ?_
  rw [ref_norm, ref_err, scale_two]
  unfold gradRow
  exact dif_pos q.isLt

end Cert.LossIdeal.Val

end
-- ==== Proof.AdaVal.lean ====
/- The modulation's gradient: the weights' gradient layer by layer, and the context vector's, added up over the layers. -/
module

public import proofs.«01_k».proof.Proof.Gen.AdaIdeal.Value
public import proofs.«01_k».proof.Proof.Gen.AdaRefIdeal.Read
public import proofs.«01_k».proof.Proof.Masks
public import proofs.«01_k».proof.Pre_finite_ada
public import Idealize.ShloMosaic.Lib.Pipeline.ValueKit
public import Idealize.ShloMosaic.Lib.StableHlo.RunRead
public import Idealize.ShloMosaic.Lib.TwoAxisContraction
public import Idealize.ShloMosaic.Lib.ReduceAll
public import Idealize.ShloMosaic.Lib.Pipeline.ReadBack

@[expose] public section

set_option maxRecDepth 16384

noncomputable section

namespace Cert.AdaIdeal.Val

open Cert.AdaIdeal Cert.AdaIdeal.Gen Idealize.ShloMosaic Idealize.ShloMosaic.TcCoe Idealize.SL.Sem Cert.Attn

variable (m : (ℓ : Loc nD τ sig) → Buf (Elt Ideal) ℓ)

/-- The conditioning vectors, the gradient of the modulation and the weights. -/
def cA (c : Dev nD) : FVec Ideal S8x1024 .f32 := m ((c : Thread nD τ).loc main_arg0)
def dA (c : Dev nD) : FVec Ideal S4x8x768 .f32 := m ((c : Thread nD τ).loc main_arg1)
def wA (c : Dev nD) : FVec Ideal S4x1024x768 .f32 := m ((c : Thread nD τ).loc main_arg2)

/-- The logistic function. -/
def sg (x : EReal) : EReal := Ideal.div 1 (1 + Ideal.exp (-x))

theorem one_word : Ideal.ofBits .f32 0x3F800000#32 = 1 := by
  have h : Ideal.ofBits .f32 0x3F800000#32 = ((1 : ℝ) : EReal) := by
    simp [Ideal.ofBits, Ideal.ieee, -EReal.coe_mul]; norm_num
  exact h.trans EReal.coe_one

theorem pay_sig (v : FVec Ideal S8x1024 .f32) (r : Fin 8) (k : Fin 1024) : k0_pay3 (F := Ideal) v (ix2 r k) = sg (v (ix2 r k)) := by
  have h : k0_pay3 (F := Ideal) v (ix2 r k)
      = Ideal.div (Ideal.ofBits .f32 0x3F800000#32) (Ideal.ofBits .f32 0x3F800000#32 + Ideal.exp (0 - v (ix2 r k))) := by
    pointwise [k0_pay3]
  rw [h, one_word, zero_sub]
  rfl

theorem pay_weight (v : FVec Ideal S8x1024 .f32) (d : FVec Ideal S1x8x768 .f32) (k : Fin 1024) (n : Fin 768) :
    k0_pay5 (F := Ideal) v d (ix3 (0 : Fin 1) k n) = ∑ r : Fin 8, v (ix2 r k) * sg (v (ix2 r k)) * d (ix3 (0 : Fin 1) r n) := by
  simp only [← pay_sig]
  unfold k0_pay5 k0_pay4
  generalize k0_pay3 (F := Ideal) v = s
  pointwise

theorem pay_add (d : FVec Ideal S1x8x768 .f32) (p : FVec Ideal S8x1024 .f32) (w : FVec Ideal S1x1024x768 .f32) (r : Fin 8) (k : Fin 1024) :
    k0_pay6 (F := Ideal) d p w (ix2 r k) = p (ix2 r k) + ∑ n : Fin 768, d (ix3 (0 : Fin 1) r n) * w (ix3 (0 : Fin 1) k n) := by
  pointwise [k0_pay4, k0_pay6]

theorem pay_last (v s a : FVec Ideal S8x1024 .f32) (k : Fin 1024) :
    k0_pay1 (F := Ideal) v s a (ix2 (0 : Fin 1) k) = ∑ j : Fin 4, a (ix2 (Fin.natAdd 4 j) k) * (s (ix2 (Fin.natAdd 4 j) k)
      * (Ideal.ofBits .f32 0x3F800000#32 + v (ix2 (Fin.natAdd 4 j) k) * (Ideal.ofBits .f32 0x3F800000#32 - s (ix2 (Fin.natAdd 4 j) k)))) := by
  pointwise [k0_pay1]
  rfl

theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![0, 0] :=
  (by decide +kernel : ∀ t : Fin grid0.N, _)

theorem c_blk (c : Dev nD) (t : Fin cfg0.N) (r : Fin 8) (k : Fin 1024) :
    (iblk m c 0 t : FVec Ideal S8x1024 .f32) (ix2 r k) = cA m c (ix2 r k) := by
  have e : V m c main_arg0 = cA m c := V_main_arg0 m c
  rw [← e]
  blk_ext [iblk, idx t]

theorem d_blk (c : Dev nD) (t : Fin cfg0.N) (r : Fin 8) (n : Fin 768) (l : Fin 4) (h : l.val = t.val) :
    (iblk m c 1 t : FVec Ideal S1x8x768 .f32) (ix3 (0 : Fin 1) r n) = dA m c (ix3 l r n) := by
  have e : V m c main_arg1 = dA m c := V_main_arg1 m c
  rw [show l = ⟨t.val, h ▸ l.isLt⟩ from Fin.ext h, ← e]
  blk_ext [iblk, idx t]

theorem w_blk (c : Dev nD) (t : Fin cfg0.N) (k : Fin 1024) (n : Fin 768) (l : Fin 4) (h : l.val = t.val) :
    (iblk m c 2 t : FVec Ideal S1x1024x768 .f32) (ix3 (0 : Fin 1) k n) = wA m c (ix3 l k n) := by
  have e : V m c main_arg2 = wA m c := V_main_arg2 m c
  rw [show l = ⟨t.val, h ▸ l.isLt⟩ from Fin.ext h, ← e]
  blk_ext [iblk, idx t]

/-- The first layer's point: the weights' gradient, and the sum over the layers begun. -/
theorem first (c : Dev nD) (t : Fin cfg0.N) (h : t.val = 0) :
    (outsAt0 m c t.val t.isLt).1 = k0_pay5 (F := Ideal) (iblk m c 0 t) (iblk m c 1 t)
    ∧ (outsAt0 m c t.val t.isLt).2.2 = k0_pay6 (F := Ideal) (iblk m c 1 t) (k0_pay2 (F := Ideal)) (iblk m c 2 t) := by
  rw [outsAt0_A m c t (by omega) (by omega)]
  constructor
  · frame_out
  · frame_out

/-- A later layer's point: the sum continued. -/
theorem next (c : Dev nD) (t : Fin cfg0.N) (h : t.val ≠ 0) :
    (outsAt0 m c t.val t.isLt).1 = k0_pay5 (F := Ideal) (iblk m c 0 t) (iblk m c 1 t)
    ∧ (outsAt0 m c t.val t.isLt).2.2 = k0_pay6 (F := Ideal) (iblk m c 1 t)
        (outsAt0 m c (t.val - 1) (Nat.lt_of_le_of_lt (Nat.sub_le _ _) t.isLt)).2.2 (iblk m c 2 t) := by
  have ht : t.val < 4 := lt_of_lt_of_eq t.isLt N_0
  by_cases hl : t.val % 4 = 3
  · rw [outsAt0_C m c t (by omega) hl]
    constructor
    · frame_out
    · frame_out
      exact congrArg (fun p => k0_pay6 (F := Ideal) (iblk m c 1 t) p (iblk m c 2 t)) (read_unread_whole cc0_scratch0 _ _)
  · rw [outsAt0_B m c t (by omega) hl]
    constructor
    · frame_out
    · frame_out
      exact congrArg (fun p => k0_pay6 (F := Ideal) (iblk m c 1 t) p (iblk m c 2 t)) (read_unread_whole cc0_scratch0 _ _)

/-- The last layer's point: the derivative of `silu` at the sum. -/
theorem last (c : Dev nD) (t : Fin cfg0.N) (h : t.val % 4 = 3) :
    (outsAt0 m c t.val t.isLt).2.1 = k0_pay1 (F := Ideal) (iblk m c 0 t) (k0_pay3 (F := Ideal) (iblk m c 0 t)) (outsAt0 m c t.val t.isLt).2.2 := by
  rw [outsAt0_C m c t (by omega) h]
  frame_out

/-- What layer `l` gives to the gradient of entry `k` of vector `r`. -/
def term (d : FVec Ideal S4x8x768 .f32) (w : FVec Ideal S4x1024x768 .f32) (r : Fin 8) (k : Fin 1024) (l : ℕ) : EReal :=
  if h : l < 4 then ∑ n : Fin 768, d (ix3 ⟨l, h⟩ r n) * w (ix3 ⟨l, h⟩ k n) else 0

theorem pay_term (c : Dev nD) (t : Fin cfg0.N) (p : FVec Ideal S8x1024 .f32) (r : Fin 8) (k : Fin 1024) :
    k0_pay6 (F := Ideal) (iblk m c 1 t) p (iblk m c 2 t) (ix2 r k) = p (ix2 r k) + term (dA m c) (wA m c) r k t.val := by
  have ht : t.val < 4 := lt_of_lt_of_eq t.isLt N_0
  refine (pay_add _ _ _ r k).trans (congrArg₂ (· + ·) rfl ?_)
  unfold term
  rw [dif_pos ht]
  exact Finset.sum_congr rfl fun n _ => congrArg₂ (· * ·) (d_blk m c t r n ⟨t.val, ht⟩ rfl) (w_blk m c t k n ⟨t.val, ht⟩ rfl)

theorem acc (c : Dev nD) (r : Fin 8) (k : Fin 1024) : ∀ (n : ℕ) (hn : n < cfg0.N), (outsAt0 m c n hn).2.2 (ix2 r k)
    = ∑ l ∈ Finset.range (n + 1), term (dA m c) (wA m c) r k l
  | 0, hn => by
      rw [(first m c ⟨0, hn⟩ rfl).2, pay_term, Finset.sum_range_one]
      have h0 : k0_pay2 (F := Ideal) (ix2 r k) = 0 := by pointwise [k0_pay2]
      rw [h0, zero_add]
  | n + 1, hn => by
      rw [(next m c ⟨n + 1, hn⟩ (Nat.succ_ne_zero n)).2, pay_term, Finset.sum_range_succ]
      exact congrArg₂ (· + ·) (acc c r k n _) rfl

/-- The gradient of entry `k` of vector `r` before `silu`. -/
def total (d : FVec Ideal S4x8x768 .f32) (w : FVec Ideal S4x1024x768 .f32) (r : Fin 8) (k : Fin 1024) : EReal :=
  ∑ l : Fin 4, ∑ n : Fin 768, d (ix3 l r n) * w (ix3 l k n)

theorem acc_last (c : Dev nD) (r : Fin 8) (k : Fin 1024) (t : Fin cfg0.N) (h : t.val % 4 = 3) :
    (outsAt0 m c t.val t.isLt).2.2 (ix2 r k) = total (dA m c) (wA m c) r k := by
  have ht : t.val < 4 := lt_of_lt_of_eq t.isLt N_0
  have h3 : t.val + 1 = 4 := by omega
  rw [acc, h3, Finset.sum_range]
  refine Finset.sum_congr rfl fun l _ => ?_
  unfold term
  rw [dif_pos l.isLt]

theorem final_weight (c : Dev nD) : (dats m 0 c).arrAt 3 cfg0.N = (fun i =>
    ∑ r : Fin 8, cA m c (ix2 r (i 1)) * sg (cA m c (ix2 r (i 1))) * dA m c (ix3 (i 0) r (i 2)) : FVec Ideal S4x1024x768 .f32) := by
  refine (dats m 0 c).arrAt_eq_of_covers 3 _ (by decide +kernel) fun t hf y => ?_
  have ht : t.val < 4 := lt_of_lt_of_eq t.isLt N_0
  obtain ⟨a, k, n, rfl⟩ : ∃ (a : Fin 1) (k : Fin 1024) (n : Fin 768), y = ix3 a k n := ⟨y 0, y 1, y 2, eq_ix3 y⟩
  obtain rfl := Subsingleton.elim a 0
  have e0 : ((View.whole main_v0_0).slice (win0_3.rect t)).emb (ix3 (0 : Fin 1) k n) 0 = (⟨t.val, ht⟩ : Fin 4) := Fin.ext (by blk_simp [idx t]; rfl)
  have e1 : ((View.whole main_v0_0).slice (win0_3.rect t)).emb (ix3 (0 : Fin 1) k n) 1 = k := Fin.ext (by blk_simp [idx t])
  have e2 : ((View.whole main_v0_0).slice (win0_3.rect t)).emb (ix3 (0 : Fin 1) k n) 2 = n := Fin.ext (by blk_simp [idx t])
  have hp : (outsAt0 m c t.val t.isLt).1 = k0_pay5 (F := Ideal) (iblk m c 0 t) (iblk m c 1 t) := by
    by_cases h : t.val = 0
    · exact (first m c t h).1
    · exact (next m c t h).1
  refine (congrFun ((after0_3 m c t).trans hp) _).trans ((pay_weight _ _ k n).trans ?_)
  refine Finset.sum_congr rfl fun r _ => ?_
  let b0 : FVec Ideal S8x1024 .f32 := iblk m c 0 t
  let b1 : FVec Ideal S1x8x768 .f32 := iblk m c 1 t
  have h0 : b0 (ix2 r k) = cA m c (ix2 r k) := c_blk m c t r k
  have h1 : b1 (ix3 (0 : Fin 1) r n) = dA m c (ix3 ⟨t.val, ht⟩ r n) := d_blk m c t r n ⟨t.val, ht⟩ rfl
  have g : ∀ (l : Fin 4) (j : Fin 1024) (q : Fin 768), l = ⟨t.val, ht⟩ → j = k → q = n →
      (b0 (ix2 r k) * sg (b0 (ix2 r k)) * b1 (ix3 (0 : Fin 1) r n) : EReal)
        = cA m c (ix2 r j) * sg (cA m c (ix2 r j)) * dA m c (ix3 l r q) := by
    rintro l j q rfl rfl rfl
    rw [h0, h1]
  exact g _ _ _ e0 e1 e2

/-- What one vector's entry gets: the derivative of `silu`, as the kernel forms it. -/
def back (a x : EReal) : EReal := a * (sg x * (1 + x * (1 - sg x)))

theorem final_cond (c : Dev nD) : (dats m 0 c).arrAt 4 cfg0.N = (fun i =>
    ∑ j : Fin 4, back (total (dA m c) (wA m c) (Fin.natAdd 4 j) (i 1)) (cA m c (ix2 (Fin.natAdd 4 j) (i 1))) : FVec Ideal S1x1024 .f32) := by
  refine (dats m 0 c).arrAt_eq_of_covers 4 _ (by decide +kernel) fun t hf y => ?_
  have hl : t.val % 4 = 3 := (flush0_4 t).mp hf
  obtain ⟨a, k, rfl⟩ : ∃ (a : Fin 1) (k : Fin 1024), y = ix2 a k := ⟨y 0, y 1, eq_ix2 y⟩
  obtain rfl := Subsingleton.elim a 0
  have e1 : ((View.whole main_v0_1).slice (win0_4.rect t)).emb (ix2 (0 : Fin 1) k) 1 = k := Fin.ext (by blk_simp [idx t])
  refine (congrFun ((after0_4 m c t).trans (last m c t hl)) _).trans ((pay_last _ _ _ k).trans ?_)
  refine Eq.trans ?_ (congrArg (fun q => ∑ j : Fin 4, back (total (dA m c) (wA m c) (Fin.natAdd 4 j) q) (cA m c (ix2 (Fin.natAdd 4 j) q))) e1).symm
  refine Finset.sum_congr rfl fun j _ => ?_
  unfold back
  rw [acc_last m c _ k t hl, pay_sig, c_blk, one_word]

/-! ## The reference -/

theorem ref_sig (x : FVec Ideal S8x1024 .f32) (r : Fin 8) (k : Fin 1024) :
    Cert.AdaRefIdeal.Read.val_main_v0_2 (F := Ideal) x (ix2 r k) = sg (x (ix2 r k)) := by
  have h : Cert.AdaRefIdeal.Read.val_main_v0_2 (F := Ideal) x (ix2 r k)
      = Ideal.div (Ideal.ofBits .f32 0x3F800000#32) (Ideal.ofBits .f32 0x3F800000#32 + Ideal.exp (-x (ix2 r k))) := by
    pointwise [Cert.AdaRefIdeal.Read.val_main_v0_2, Cert.AdaRefIdeal.Read.val_main_call0_v0, Cert.AdaRefIdeal.Read.val_main_call0_v1, Cert.AdaRefIdeal.Read.val_main_call0_v2, Cert.AdaRefIdeal.Read.val_main_call0_v3, Cert.AdaRefIdeal.Read.val_main_call0_v4, Cert.AdaRefIdeal.Read.val_main_call0_cst, Cert.AdaRefIdeal.Read.val_main_call0_cst_0]
  rw [h, one_word]
  rfl

theorem ref_weight (x : FVec Ideal S8x1024 .f32) (d : FVec Ideal S4x8x768 .f32) (l : Fin 4) (k : Fin 1024) (n : Fin 768) :
    Cert.AdaRefIdeal.Read.val_main_v6 (F := Ideal) x d (ix3 l k n) = ∑ r : Fin 8, d (ix3 l r n) * (x (ix2 r k) * sg (x (ix2 r k))) := by
  simp only [← ref_sig]
  unfold Cert.AdaRefIdeal.Read.val_main_v6 Cert.AdaRefIdeal.Read.val_main_v5 Cert.AdaRefIdeal.Read.val_main_v3 Cert.AdaRefIdeal.Read.val_main_v0_0
  generalize Cert.AdaRefIdeal.Read.val_main_v0_2 (F := Ideal) x = s
  pointwise

theorem ref_total (d : FVec Ideal S4x8x768 .f32) (w : FVec Ideal S4x1024x768 .f32) (r : Fin 8) (k : Fin 1024) :
    Cert.AdaRefIdeal.Read.val_main_v4 (F := Ideal) d w (ix2 r k) = total d w r k := by
  unfold total
  pointwise [Cert.AdaRefIdeal.Read.val_main_v4, Cert.AdaRefIdeal.Read.val_main_v3]

theorem ref_cond (x : FVec Ideal S8x1024 .f32) (d : FVec Ideal S4x8x768 .f32) (w : FVec Ideal S4x1024x768 .f32) (k : Fin 1024) :
    Cert.AdaRefIdeal.Read.val_main_v10 (F := Ideal) x d w (ix2 (0 : Fin 1) k) = ∑ j : Fin 4,
      (total d w (Fin.natAdd 4 j) k * sg (x (ix2 (Fin.natAdd 4 j) k))
        + x (ix2 (Fin.natAdd 4 j) k) * total d w (Fin.natAdd 4 j) k
          * (sg (x (ix2 (Fin.natAdd 4 j) k)) * (1 - sg (x (ix2 (Fin.natAdd 4 j) k))))) := by
  rw [← one_word]
  simp only [← ref_total, ← ref_sig]
  unfold Cert.AdaRefIdeal.Read.val_main_v10 Cert.AdaRefIdeal.Read.val_main_v9 Cert.AdaRefIdeal.Read.val_main_v8 Cert.AdaRefIdeal.Read.val_main_v7 Cert.AdaRefIdeal.Read.val_main_call1_v2 Cert.AdaRefIdeal.Read.val_main_call1_v1 Cert.AdaRefIdeal.Read.val_main_call1_v0 Cert.AdaRefIdeal.Read.val_main_v0_1 Cert.AdaRefIdeal.Read.val_main_call0_v7
  generalize Cert.AdaRefIdeal.Read.val_main_v0_2 (F := Ideal) x = s
  generalize Cert.AdaRefIdeal.Read.val_main_v4 (F := Ideal) d w = a
  pointwise [Cert.AdaRefIdeal.Read.val_main_call0_v6, Cert.AdaRefIdeal.Read.val_main_call0_cst_1, Cert.AdaRefIdeal.Read.val_main_cst]
  rfl

/-! ## The equation -/

/-- The two forms of the derivative of `silu` agree where the gradient is a real number. -/
theorem back_eq {a x : EReal} (ha : Fin' a) : back a x = a * sg x + x * a * (sg x * (1 - sg x)) := by
  obtain ⟨a, rfl⟩ := ha
  unfold back
  induction x with
  | bot =>
    have e : sg ⊥ = 0 := by
      have h : (1 : EReal) + ⊤ = ⊤ := by rw [← EReal.coe_one, EReal.coe_add_top]
      simp [sg, h, Ideal.div]
    rw [e]
    simp
  | top =>
    have e : sg ⊤ = 1 := by
      have h : Ideal.div 1 1 = 1 := by rw [← EReal.coe_one, div_real _ _ one_ne_zero, div_one]
      simp [sg, h]
    have z : (1 : EReal) - 1 = 0 := by rw [← EReal.coe_one, ← EReal.coe_sub, sub_self, EReal.coe_zero]
    rw [e, z]
    simp
  | coe x =>
    have e : sg (x : EReal) = ((1 / (1 + Real.exp (-x)) : ℝ) : EReal) := sig_coe x
    rw [e, ← EReal.coe_one]
    simp only [← EReal.coe_sub, ← EReal.coe_mul, ← EReal.coe_add]
    congr 1
    ring

theorem total_fin {d : FVec Ideal S4x8x768 .f32} {w : FVec Ideal S4x1024x768 .f32} (hd : ∀ i, Fin' (d i)) (hw : ∀ i, Fin' (w i))
    (r : Fin 8) (k : Fin 1024) : Fin' (total d w r k) :=
  Fin'.sum fun _ => Fin'.sum fun _ => (hd _).mul (hw _)

/-- The weights' gradient that the call gives is the reference's. -/
theorem whole_weight (c : Dev nD) : (dats m 0 c).arrAt 3 cfg0.N = Cert.AdaRefIdeal.Read.val_main_v6 (F := Ideal) (cA m c) (dA m c) := by
  refine (final_weight m c).trans (funext fun i => ?_)
  obtain ⟨l, k, n, rfl⟩ : ∃ (l : Fin 4) (k : Fin 1024) (n : Fin 768), i = ix3 l k n := ⟨i 0, i 1, i 2, eq_ix3 i⟩
  rw [ref_weight]
  exact Finset.sum_congr rfl fun r _ => mul_comm _ _

/-- The context vector's gradient that the call gives is the reference's. -/
theorem whole_cond (c : Dev nD) (hd : ∀ i, Fin' (dA m c i)) (hw : ∀ i, Fin' (wA m c i)) :
    (dats m 0 c).arrAt 4 cfg0.N = Cert.AdaRefIdeal.Read.val_main_v10 (F := Ideal) (cA m c) (dA m c) (wA m c) := by
  refine (final_cond m c).trans (funext fun i => ?_)
  obtain ⟨a, k, rfl⟩ : ∃ (a : Fin 1) (k : Fin 1024), i = ix2 a k := ⟨i 0, i 1, eq_ix2 i⟩
  obtain rfl := Subsingleton.elim a 0
  rw [ref_cond]
  exact Finset.sum_congr rfl fun j _ => back_eq (total_fin hd hw _ _)

/-! ## The precondition -/

theorem pre_facts : Cert.Pre_finite_ada.Facts where
  bcast_S_S4x8x768 := by decide
  reducesTo_S4x8x768_S_d0_1_2 := by decide
  h_S_ := by decide
  bcast_S_S4x1024x768 := by decide
  reducesTo_S4x1024x768_S_d0_1_2 := by decide

attribute [local instance] pre_facts in
theorem pre_fin (x : FVec Ideal Cert.Pre_finite_ada.S8x1024 .f32) (d : FVec Ideal Cert.Pre_finite_ada.S4x8x768 .f32) (w : FVec Ideal Cert.Pre_finite_ada.S4x1024x768 .f32)
    (h : ∀ j, Cert.Pre_finite_ada.fn (F := Ideal) x d w j = 1#1) : (∀ i, Fin' (d i)) ∧ ∀ i, Fin' (w i) := by
  haveI : Subsingleton Cert.Pre_finite_ada.S_.Idx := ⟨fun a b => funext fun d => d.elim0⟩
  have h0 := h (fun a => a.elim0)
  unfold Cert.Pre_finite_ada.fn at h0
  dsimp only at h0
  obtain ⟨h1, h2⟩ := IntOp.andi_eq_one.1 h0
  exact ⟨fun i => Fin'.of_cmp (Host.reduce_andi_all _ _ _ _ _ h1 i), fun i => Fin'.of_cmp (Host.reduce_andi_all _ _ _ _ _ h2 i)⟩

end Cert.AdaIdeal.Val

end
-- ==== Proof.ResVal.lean ====
/- The residual of both streams with the next norm and its modulation. -/
module

public import proofs.«01_k».proof.Proof.Gen.ResIdeal.Value
public import proofs.«01_k».proof.Proof.Gen.ResRefIdeal.Read
public import Idealize.ShloMosaic.Lib.Pipeline.ValueKit
public import Idealize.ShloMosaic.Lib.StableHlo.RunRead

@[expose] public section

set_option maxRecDepth 16384

noncomputable section

namespace Cert.ResIdeal.Val

open Cert.ResIdeal Cert.ResIdeal.Gen Idealize.ShloMosaic Idealize.ShloMosaic.TcCoe Idealize.SL.Sem

variable (m : (ℓ : Loc nD τ sig) → Buf (Elt Ideal) ℓ)

/-- The rows, the layer's output, its modulation, the next norm's weights and the next layer's modulation. -/
def xA (c : Dev nD) : FVec Ideal S4352x1024 .f32 := m ((c : Thread nD τ).loc main_arg0)
def oA (c : Dev nD) : FVec Ideal S4352x1024 .f32 := m ((c : Thread nD τ).loc main_arg1)
def dA (c : Dev nD) : FVec Ideal S2x3x1024 .f32 := m ((c : Thread nD τ).loc main_arg2)
def gA (c : Dev nD) : FVec Ideal S1x1024 .f32 := m ((c : Thread nD τ).loc main_arg3)
def nA (c : Dev nD) : FVec Ideal S2x3x1024 .f32 := m ((c : Thread nD τ).loc main_arg4)

theorem idx : ∀ t : Fin cfg0.N, win0_0.index t = ![t.val, 0] ∧ win0_1.index t = ![t.val, 0] ∧ win0_2.index t = ![0, 0, 0] ∧ win0_3.index t = ![0, 0]
    ∧ win0_4.index t = ![0, 0, 0] ∧ win0_5.index t = ![t.val, 0] ∧ win0_6.index t = ![t.val, 0] :=
  (by decide +kernel : ∀ t : Fin grid0.N, _)

theorem point : ∀ t : Fin cfg0.N, (grid0.coords t 0).val = t.val := (by decide +kernel : ∀ t : Fin grid0.N, _)

theorem pay_mask (i : grid0.Coords) (r : Fin 1088) :
    k0_pay3 i (ix2 r (0 : Fin 1)) = if (i 0).val * 1088 + r.val < 256 then 1#1 else 0#1 := by
  have h : k0_pay3 i (ix2 r (0 : Fin 1))
      = IntOp.cmpi CmpIPredicate.slt (IntOp.addi (Scalar.muli (BitVec.ofNat 32 (i 0).val) 1088#32) (BitVec.ofNat 32 r.val)) 256#32 := by
    pointwise [k0_pay3]
  exact h.trans ((by decide +kernel : ∀ (a : Fin 4) (r : Fin 1088),
    IntOp.cmpi CmpIPredicate.slt (IntOp.addi (Scalar.muli (BitVec.ofNat 32 a.val) 1088#32) (BitVec.ofNat 32 r.val)) 256#32
      = if a.val * 1088 + r.val < 256 then 1#1 else 0#1) (i 0) r)

theorem pay_res (i : grid0.Coords) (s s' : FVec Ideal S1x1x1024 .f32) (x o : FVec Ideal S1088x1024 .f32) (r : Fin 1088) (k : Fin 1024) :
    k0_pay2 (F := Ideal) i s s' x o (ix2 r k) = x (ix2 r k)
      + Scalar.select (k0_pay3 i (ix2 r (0 : Fin 1))) (s (ix3 (0 : Fin 1) (0 : Fin 1) k)) (s' (ix3 (0 : Fin 1) (0 : Fin 1) k)) * o (ix2 r k) := by
  pointwise [k0_pay2, k0_pay3]

/-- One entry of a row after the norm, the weight, the scale and the shift. -/
def entry (x : Fin 1024 → EReal) (k : Fin 1024) (g sc sh : EReal) : EReal :=
  x k * Ideal.rsqrt (Ideal.div (∑ j, x j * x j) (Ideal.ofBits .f32 0x44800000#32) + Ideal.ofBits .f32 0x358637BD#32) * g
    * (1 + sc) + sh

theorem pay_norm (x : FVec Ideal S1088x1024 .f32) (b : IVec S1088x1 1) (h1 : FVec Ideal S1x1024 .f32) (b' : IVec S1088x1024 1)
    (h0 : FVec Ideal S1088x1024 .f32) (w w' : FVec Ideal S1x1x1024 .f32) (g : FVec Ideal S1x1024 .f32) (r : Fin 1088) (k : Fin 1024) :
    k0_pay1 (F := Ideal) x b h1 b' h0 w w' g (ix2 r k) = entry (fun j => x (ix2 r j)) k (g (ix2 (0 : Fin 1) k))
      (Scalar.select (b (ix2 r (0 : Fin 1))) (w (ix3 (0 : Fin 1) (0 : Fin 1) k)) (w' (ix3 (0 : Fin 1) (0 : Fin 1) k)))
      (Scalar.select (b' (ix2 r k)) (h0 (ix2 r k)) (h1 (ix2 (0 : Fin 1) k))) := by
  unfold entry
  pointwise [k0_pay1]

theorem pay_shift1 (s : FVec Ideal S1x1x1024 .f32) (k : Fin 1024) :
    k0_pay4 (F := Ideal) s (ix2 (0 : Fin 1) k) = s (ix3 (0 : Fin 1) (0 : Fin 1) k) := by
  pointwise [k0_pay4]

theorem pay_shift0 (s : FVec Ideal S1x1x1024 .f32) (r : Fin 1088) (k : Fin 1024) :
    k0_pay6 (F := Ideal) s (ix2 r k) = s (ix3 (0 : Fin 1) (0 : Fin 1) k) := by
  pointwise [k0_pay6]

theorem pay_mask_row (i : grid0.Coords) (r : Fin 1088) (k : Fin 1024) : k0_pay5 i (ix2 r k) = k0_pay3 i (ix2 r (0 : Fin 1)) := by
  unfold k0_pay5
  generalize k0_pay3 i = b
  pointwise

theorem x_blk (c : Dev nD) (t : Fin cfg0.N) (r : Fin 1088) (k : Fin 1024) (q : Fin 4352) (h : q.val = t.val * 1088 + r.val) :
    (iblk m c 0 t : FVec Ideal S1088x1024 .f32) (ix2 r k) = xA m c (ix2 q k) := by
  have e : V m c main_arg0 = xA m c := V_main_arg0 m c
  rw [show q = ⟨t.val * 1088 + r.val, h ▸ q.isLt⟩ from Fin.ext h, ← e]
  blk_ext [iblk, idx t]

theorem o_blk (c : Dev nD) (t : Fin cfg0.N) (r : Fin 1088) (k : Fin 1024) (q : Fin 4352) (h : q.val = t.val * 1088 + r.val) :
    (iblk m c 1 t : FVec Ideal S1088x1024 .f32) (ix2 r k) = oA m c (ix2 q k) := by
  have e : V m c main_arg1 = oA m c := V_main_arg1 m c
  rw [show q = ⟨t.val * 1088 + r.val, h ▸ q.isLt⟩ from Fin.ext h, ← e]
  blk_ext [iblk, idx t]

theorem d_blk (c : Dev nD) (t : Fin cfg0.N) (l : Fin 2) (u : Fin 3) (k : Fin 1024) :
    (iblk m c 2 t : FVec Ideal S2x3x1024 .f32) (ix3 l u k) = dA m c (ix3 l u k) := by
  have e : V m c main_arg2 = dA m c := V_main_arg2 m c
  rw [← e]
  blk_ext [iblk, idx t]

theorem n_blk (c : Dev nD) (t : Fin cfg0.N) (l : Fin 2) (u : Fin 3) (k : Fin 1024) :
    (iblk m c 4 t : FVec Ideal S2x3x1024 .f32) (ix3 l u k) = nA m c (ix3 l u k) := by
  have e : V m c main_arg4 = nA m c := V_main_arg4 m c
  rw [← e]
  blk_ext [iblk, idx t]

theorem g_blk (c : Dev nD) (t : Fin cfg0.N) (k : Fin 1024) :
    (iblk m c 3 t : FVec Ideal S1x1024 .f32) (ix2 (0 : Fin 1) k) = gA m c (ix2 (0 : Fin 1) k) := by
  have e : V m c main_arg3 = gA m c := V_main_arg3 m c
  rw [← e]
  blk_ext [iblk, idx t]

/-- The rows that a point reads of the two modulations. -/
theorem ld_gate0 (d : FVec Ideal S2x3x1024 .f32) (k : Fin 1024) : View.ld (Val := Elt Ideal) (e' := .f32) d r0_0 (ix3 (0 : Fin 1) (0 : Fin 1) k) = d (ix3 (0 : Fin 2) (2 : Fin 3) k) := by
  refine View.ld_unit_apply_of (Val := Elt Ideal) (e := .f32) d _ _ _ _ _ fun a => ?_
  match a with
  | ⟨0, _⟩ | ⟨1, _⟩ | ⟨2, _⟩ => simp
theorem ld_gate1 (d : FVec Ideal S2x3x1024 .f32) (k : Fin 1024) : View.ld (Val := Elt Ideal) (e' := .f32) d r0_1 (ix3 (0 : Fin 1) (0 : Fin 1) k) = d (ix3 (1 : Fin 2) (2 : Fin 3) k) := by
  refine View.ld_unit_apply_of (Val := Elt Ideal) (e := .f32) d _ _ _ _ _ fun a => ?_
  match a with
  | ⟨0, _⟩ | ⟨1, _⟩ | ⟨2, _⟩ => simp
theorem ld_shift0 (d : FVec Ideal S2x3x1024 .f32) (k : Fin 1024) : View.ld (Val := Elt Ideal) (e' := .f32) d r0_3 (ix3 (0 : Fin 1) (0 : Fin 1) k) = d (ix3 (0 : Fin 2) (0 : Fin 3) k) := by
  refine View.ld_unit_apply_of (Val := Elt Ideal) (e := .f32) d _ _ _ _ _ fun a => ?_
  match a with
  | ⟨0, _⟩ | ⟨1, _⟩ | ⟨2, _⟩ => simp
theorem ld_shift1 (d : FVec Ideal S2x3x1024 .f32) (k : Fin 1024) : View.ld (Val := Elt Ideal) (e' := .f32) d r0_4 (ix3 (0 : Fin 1) (0 : Fin 1) k) = d (ix3 (1 : Fin 2) (0 : Fin 3) k) := by
  refine View.ld_unit_apply_of (Val := Elt Ideal) (e := .f32) d _ _ _ _ _ fun a => ?_
  match a with
  | ⟨0, _⟩ | ⟨1, _⟩ | ⟨2, _⟩ => simp
theorem ld_scale0 (d : FVec Ideal S2x3x1024 .f32) (k : Fin 1024) : View.ld (Val := Elt Ideal) (e' := .f32) d r0_5 (ix3 (0 : Fin 1) (0 : Fin 1) k) = d (ix3 (0 : Fin 2) (1 : Fin 3) k) := by
  refine View.ld_unit_apply_of (Val := Elt Ideal) (e := .f32) d _ _ _ _ _ fun a => ?_
  match a with
  | ⟨0, _⟩ | ⟨1, _⟩ | ⟨2, _⟩ => simp
theorem ld_scale1 (d : FVec Ideal S2x3x1024 .f32) (k : Fin 1024) : View.ld (Val := Elt Ideal) (e' := .f32) d r0_6 (ix3 (0 : Fin 1) (0 : Fin 1) k) = d (ix3 (1 : Fin 2) (1 : Fin 3) k) := by
  refine View.ld_unit_apply_of (Val := Elt Ideal) (e := .f32) d _ _ _ _ _ fun a => ?_
  match a with
  | ⟨0, _⟩ | ⟨1, _⟩ | ⟨2, _⟩ => simp

/-- The stream that a row belongs to. -/
def stm (r : Fin 4352) : Fin 2 := if r.val < 256 then 0 else 1

/-- The rows after the layer's residual. -/
def res (x o : FVec Ideal S4352x1024 .f32) (d : FVec Ideal S2x3x1024 .f32) (r : Fin 4352) (k : Fin 1024) : EReal :=
  x (ix2 r k) + d (ix3 (stm r) (2 : Fin 3) k) * o (ix2 r k)

/-- The rows after the next norm. -/
def nrm (x o : FVec Ideal S4352x1024 .f32) (d : FVec Ideal S2x3x1024 .f32) (g : FVec Ideal S1x1024 .f32) (n : FVec Ideal S2x3x1024 .f32)
    (r : Fin 4352) (k : Fin 1024) : EReal :=
  entry (fun j => res x o d r j) k (g (ix2 (0 : Fin 1) k)) (n (ix3 (stm r) (1 : Fin 3) k)) (n (ix3 (stm r) (0 : Fin 3) k))

/-- A choice by the mask is a choice by the row's stream. -/
theorem sel (t : Fin cfg0.N) (r : Fin 1088) (q : Fin 4352) (h : q.val = t.val * 1088 + r.val) (f : Fin 2 → EReal) :
    Scalar.select (k0_pay3 (grid0.coords t) (ix2 r (0 : Fin 1))) (f 0) (f 1) = f (stm q) := by
  rw [pay_mask, point t, ← h]
  unfold stm
  by_cases hq : q.val < 256
  · simp only [if_pos hq]
    rfl
  · simp only [if_neg hq]
    rfl

/-- The first result at one point. -/
def pay (c : Dev nD) (t : Fin cfg0.N) : FVec Ideal S1088x1024 .f32 :=
  k0_pay2 (F := Ideal) (grid0.coords t) (View.ld (Val := Elt Ideal) (e' := .f32) (iblk m c 2 t : FVec Ideal S2x3x1024 .f32) r0_0)
    (View.ld (Val := Elt Ideal) (e' := .f32) (iblk m c 2 t : FVec Ideal S2x3x1024 .f32) r0_1) (iblk m c 0 t) (iblk m c 1 t)

theorem pay_eq (c : Dev nD) (t : Fin cfg0.N) (r : Fin 1088) (k : Fin 1024) (q : Fin 4352) (h : q.val = t.val * 1088 + r.val) :
    pay m c t (ix2 r k) = res (xA m c) (oA m c) (dA m c) q k := by
  unfold pay
  refine (pay_res _ _ _ _ _ r k).trans ?_
  rw [ld_gate0, ld_gate1, x_blk m c t r k q h, o_blk m c t r k q h, d_blk, d_blk, sel t r q h fun l => dA m c (ix3 l (2 : Fin 3) k)]
  rfl

theorem final_res (c : Dev nD) : (dats m 0 c).arrAt 5 cfg0.N = (fun i => res (xA m c) (oA m c) (dA m c) (i 0) (i 1) : FVec Ideal S4352x1024 .f32) := by
  refine (dats m 0 c).arrAt_eq_of_covers 5 _ (by decide +kernel) fun t _ y => ?_
  blk_simp
  rw [after0_5]
  frame_out
  obtain ⟨r, k, rfl⟩ : ∃ r k, y = ix2 r k := ⟨y 0, y 1, eq_ix2 y⟩
  have e0 : (((View.whole main_v0_0).slice (win0_5.rect t)).emb (ix2 r k) 0).val = t.val * 1088 + r.val := by blk_simp [idx t]
  have e1 : ((View.whole main_v0_0).slice (win0_5.rect t)).emb (ix2 r k) 1 = k := Fin.ext (by blk_simp [idx t])
  refine (pay_eq m c t r k _ e0).trans ?_
  rw [e1]

theorem final_nrm (c : Dev nD) : (dats m 0 c).arrAt 6 cfg0.N
    = (fun i => nrm (xA m c) (oA m c) (dA m c) (gA m c) (nA m c) (i 0) (i 1) : FVec Ideal S4352x1024 .bf16) := by
  refine (dats m 0 c).arrAt_eq_of_covers 6 _ (by decide +kernel) fun t _ y => ?_
  blk_simp
  rw [after0_6]
  frame_out
  obtain ⟨r, k, rfl⟩ : ∃ r k, y = ix2 r k := ⟨y 0, y 1, eq_ix2 y⟩
  have e0 : (((View.whole main_v0_1).slice (win0_6.rect t)).emb (ix2 r k) 0).val = t.val * 1088 + r.val := by blk_simp [idx t]
  have e1 : ((View.whole main_v0_1).slice (win0_6.rect t)).emb (ix2 r k) 1 = k := Fin.ext (by blk_simp [idx t])
  generalize ((View.whole main_v0_1).slice (win0_6.rect t)).emb (ix2 r k) 0 = q at e0 ⊢
  rw [e1]
  refine (pay_norm (pay m c t) _ _ _ _ _ _ _ r k).trans ?_
  rw [pay_mask_row, pay_shift0, pay_shift1, ld_shift0, ld_shift1, ld_scale0, ld_scale1, g_blk, n_blk, n_blk, n_blk, n_blk,
    sel t r q e0 fun l => nA m c (ix3 l (1 : Fin 3) k), sel t r q e0 fun l => nA m c (ix3 l (0 : Fin 3) k),
    show (fun j => pay m c t (ix2 r j)) = fun j => res (xA m c) (oA m c) (dA m c) q j from funext fun j => pay_eq m c t r j q e0]
  rfl

/-! ## The reference -/

theorem stm_ctx (r : Fin 256) (q : Fin 4352) (h : q.val = r.val) : stm q = 0 := by
  have := r.isLt
  exact if_pos (by omega)

theorem stm_lat (r : Fin 4096) (q : Fin 4352) (h : q.val = 256 + r.val) : stm q = 1 := if_neg (by omega)

theorem ref_ctx (x o : FVec Ideal S4352x1024 .f32) (d : FVec Ideal S2x3x1024 .f32) (r : Fin 256) (k : Fin 1024) (q : Fin 4352) (h : q.val = r.val) :
    Cert.ResRefIdeal.Read.val_main_v7 (F := Ideal) x o d (ix2 r k) = res x o d q k := by
  unfold res
  rw [stm_ctx r q h, show q = ⟨r.val, h ▸ q.isLt⟩ from Fin.ext h]
  pointwise [Cert.ResRefIdeal.Read.val_main_v0, Cert.ResRefIdeal.Read.val_main_v1, Cert.ResRefIdeal.Read.val_main_v2, Cert.ResRefIdeal.Read.val_main_v3, Cert.ResRefIdeal.Read.val_main_v4, Cert.ResRefIdeal.Read.val_main_v5, Cert.ResRefIdeal.Read.val_main_v6, Cert.ResRefIdeal.Read.val_main_v7]

theorem ref_lat (x o : FVec Ideal S4352x1024 .f32) (d : FVec Ideal S2x3x1024 .f32) (r : Fin 4096) (k : Fin 1024) (q : Fin 4352) (h : q.val = 256 + r.val) :
    Cert.ResRefIdeal.Read.val_main_v15 (F := Ideal) x o d (ix2 r k) = res x o d q k := by
  unfold res
  rw [stm_lat r q h, show q = ⟨256 + r.val, h ▸ q.isLt⟩ from Fin.ext h]
  pointwise [Cert.ResRefIdeal.Read.val_main_v8, Cert.ResRefIdeal.Read.val_main_v9, Cert.ResRefIdeal.Read.val_main_v10, Cert.ResRefIdeal.Read.val_main_v11, Cert.ResRefIdeal.Read.val_main_v12, Cert.ResRefIdeal.Read.val_main_v13, Cert.ResRefIdeal.Read.val_main_v14, Cert.ResRefIdeal.Read.val_main_v15]

theorem ref_ctx_nrm (x o : FVec Ideal S4352x1024 .f32) (d : FVec Ideal S2x3x1024 .f32) (g : FVec Ideal S1x1024 .f32) (n : FVec Ideal S2x3x1024 .f32) (r : Fin 256) (k : Fin 1024) (q : Fin 4352) (h : q.val = r.val) :
    Cert.ResRefIdeal.Read.val_main_v64 (F := Ideal) x o d g n (ix2 r k) = nrm x o d g n q k := by
  unfold nrm entry
  rw [stm_ctx r q h]
  simp only [← ref_ctx x o d r _ q h]
  unfold Cert.ResRefIdeal.Read.val_main_v64 Cert.ResRefIdeal.Read.val_main_v59 Cert.ResRefIdeal.Read.val_main_v52 Cert.ResRefIdeal.Read.val_main_v50 Cert.ResRefIdeal.Read.val_main_v49 Cert.ResRefIdeal.Read.val_main_v48 Cert.ResRefIdeal.Read.val_main_v47 Cert.ResRefIdeal.Read.val_main_v45 Cert.ResRefIdeal.Read.val_main_v43 Cert.ResRefIdeal.Read.val_main_v42 Cert.ResRefIdeal.Read.val_main_v41
  generalize Cert.ResRefIdeal.Read.val_main_v7 (F := Ideal) x o d = y
  pointwise [Cert.ResRefIdeal.Read.val_main_v44, Cert.ResRefIdeal.Read.val_main_v46, Cert.ResRefIdeal.Read.val_main_cst_3, Cert.ResRefIdeal.Read.val_main_cst_4, Cert.ResRefIdeal.Read.val_main_cst_5, Cert.ResRefIdeal.Read.val_main_cst_6, Cert.ResRefIdeal.Read.val_main_v51, Cert.ResRefIdeal.Read.val_main_v53, Cert.ResRefIdeal.Read.val_main_v54, Cert.ResRefIdeal.Read.val_main_v55, Cert.ResRefIdeal.Read.val_main_v56, Cert.ResRefIdeal.Read.val_main_v57, Cert.ResRefIdeal.Read.val_main_v58, Cert.ResRefIdeal.Read.val_main_v60, Cert.ResRefIdeal.Read.val_main_v61, Cert.ResRefIdeal.Read.val_main_v62, Cert.ResRefIdeal.Read.val_main_v63]

theorem ref_lat_nrm (x o : FVec Ideal S4352x1024 .f32) (d : FVec Ideal S2x3x1024 .f32) (g : FVec Ideal S1x1024 .f32) (n : FVec Ideal S2x3x1024 .f32) (r : Fin 4096) (k : Fin 1024) (q : Fin 4352) (h : q.val = 256 + r.val) :
    Cert.ResRefIdeal.Read.val_main_v40 (F := Ideal) x o d g n (ix2 r k) = nrm x o d g n q k := by
  unfold nrm entry
  rw [stm_lat r q h]
  simp only [← ref_lat x o d r _ q h]
  unfold Cert.ResRefIdeal.Read.val_main_v40 Cert.ResRefIdeal.Read.val_main_v35 Cert.ResRefIdeal.Read.val_main_v28 Cert.ResRefIdeal.Read.val_main_v26 Cert.ResRefIdeal.Read.val_main_v25 Cert.ResRefIdeal.Read.val_main_v24 Cert.ResRefIdeal.Read.val_main_v23 Cert.ResRefIdeal.Read.val_main_v21 Cert.ResRefIdeal.Read.val_main_v19 Cert.ResRefIdeal.Read.val_main_v18 Cert.ResRefIdeal.Read.val_main_v17
  generalize Cert.ResRefIdeal.Read.val_main_v15 (F := Ideal) x o d = y
  pointwise [Cert.ResRefIdeal.Read.val_main_v20, Cert.ResRefIdeal.Read.val_main_v22, Cert.ResRefIdeal.Read.val_main_cst, Cert.ResRefIdeal.Read.val_main_cst_0, Cert.ResRefIdeal.Read.val_main_cst_1, Cert.ResRefIdeal.Read.val_main_cst_2, Cert.ResRefIdeal.Read.val_main_v27, Cert.ResRefIdeal.Read.val_main_v29, Cert.ResRefIdeal.Read.val_main_v30, Cert.ResRefIdeal.Read.val_main_v31, Cert.ResRefIdeal.Read.val_main_v32, Cert.ResRefIdeal.Read.val_main_v33, Cert.ResRefIdeal.Read.val_main_v34, Cert.ResRefIdeal.Read.val_main_v36, Cert.ResRefIdeal.Read.val_main_v37, Cert.ResRefIdeal.Read.val_main_v38, Cert.ResRefIdeal.Read.val_main_v39]

/-- Two streams joined, at a row. -/
theorem joined (a : FVec Ideal Cert.ResRefIdeal.S256x1024 .f32) (b : FVec Ideal Cert.ResRefIdeal.S4096x1024 .f32) (f : Fin 4352 → Fin 1024 → EReal)
    (ha : ∀ (r : Fin 256) (k : Fin 1024) (q : Fin 4352), q.val = r.val → a (ix2 r k) = f q k)
    (hb : ∀ (r : Fin 4096) (k : Fin 1024) (q : Fin 4352), q.val = 256 + r.val → b (ix2 r k) = f q k) (r : Fin 4352) (k : Fin 1024) :
    concatenate Cert.ResRefIdeal.S4352x1024 0 [⟨Cert.ResRefIdeal.S256x1024, a⟩, ⟨Cert.ResRefIdeal.S4096x1024, b⟩]
      Cert.ResRefIdeal.Gen.concatenates_S256x1024_S4096x1024_S4352x1024_d0 (ix2 r k) = f r k := by
  have hr := r.isLt
  by_cases h : r.val < 256
  · refine (concatenate_pair_apply_left (t := Cert.ResRefIdeal.S4352x1024)
      (s₁ := Cert.ResRefIdeal.S256x1024) (s₂ := Cert.ResRefIdeal.S4096x1024) (0 : Fin 2) _ _ _ _ rfl (ix2 (⟨r.val, h⟩ : Fin 256) k) fun b => ?_).trans (ha _ _ _ rfl)
    match b with
    | ⟨0, _⟩ | ⟨1, _⟩ => rfl
  · refine (concatenate_pair_apply_right (t := Cert.ResRefIdeal.S4352x1024) (s₁ := Cert.ResRefIdeal.S256x1024) (s₂ := Cert.ResRefIdeal.S4096x1024) (0 : Fin 2) _ _ _ _
        rfl rfl (ix2 (⟨r.val - 256, by omega⟩ : Fin 4096) k) (fun b hb => ?_) ?_).trans (hb _ _ _ (by show r.val = 256 + (r.val - 256); omega))
    · match b with
      | ⟨0, _⟩ => exact absurd rfl hb
      | ⟨1, _⟩ => rfl
    · show r.val - 256 + 256 = r.val
      omega

/-- The rows that the call gives are the reference's. -/
theorem whole_res (c : Dev nD) : (dats m 0 c).arrAt 5 cfg0.N = Cert.ResRefIdeal.Read.val_main_v16 (F := Ideal) (xA m c) (oA m c) (dA m c) := by
  refine (final_res m c).trans (funext fun i => ?_)
  obtain ⟨r, k, rfl⟩ : ∃ (r : Fin 4352) (k : Fin 1024), i = ix2 r k := ⟨i 0, i 1, eq_ix2 i⟩
  exact (joined _ _ _ (fun r k q => ref_ctx _ _ _ r k q) (fun r k q => ref_lat _ _ _ r k q) r k).symm

/-- The next layer's input that the call gives is the reference's. -/
theorem whole_nrm (c : Dev nD) : (dats m 0 c).arrAt 6 cfg0.N = Cert.ResRefIdeal.Read.val_main_v66 (F := Ideal) (xA m c) (oA m c) (dA m c) (gA m c) (nA m c) := by
  refine (final_nrm m c).trans (funext fun i => ?_)
  obtain ⟨r, k, rfl⟩ : ∃ (r : Fin 4352) (k : Fin 1024), i = ix2 r k := ⟨i 0, i 1, eq_ix2 i⟩
  rw [Cert.ResRefIdeal.Read.val_main_v66_apply]
  exact (joined _ _ _ (fun r k q => ref_ctx_nrm _ _ _ _ _ r k q) (fun r k q => ref_lat_nrm _ _ _ _ _ r k q) r k).symm

end Cert.ResIdeal.Val

end
-- ==== Proof.ModVal.lean ====
/- The modulation of each layer: a product with `silu` of the conditioning vectors, and the bias. -/
module

public import proofs.«01_k».proof.Proof.Gen.ModIdeal.Value
public import proofs.«01_k».proof.Proof.Gen.ModRefIdeal.Read
public import Idealize.ShloMosaic.Lib.Pipeline.ValueKit
public import Idealize.ShloMosaic.Lib.StableHlo.RunRead

@[expose] public section

set_option maxRecDepth 16384

noncomputable section

namespace Cert.ModIdeal.Val

open Cert.ModIdeal Cert.ModIdeal.Gen Idealize.ShloMosaic Idealize.ShloMosaic.TcCoe Idealize.SL.Sem

variable (m : (ℓ : Loc nD τ sig) → Buf (Elt Ideal) ℓ)

/-- The conditioning vectors, the weights and the biases. -/
def cA (c : Dev nD) : FVec Ideal S8x1024 .f32 := m ((c : Thread nD τ).loc main_arg0)
def wA (c : Dev nD) : FVec Ideal S4x1024x768 .f32 := m ((c : Thread nD τ).loc main_arg1)
def bA (c : Dev nD) : FVec Ideal S4x1x768 .f32 := m ((c : Thread nD τ).loc main_arg2)

/-- `silu`. -/
def silu (x : EReal) : EReal := x * Ideal.div (Ideal.ofBits .f32 0x3F800000#32) (Ideal.ofBits .f32 0x3F800000#32 + Ideal.exp (-x))

/-- One entry of a layer's modulation. -/
def out (x : FVec Ideal S8x1024 .f32) (w : FVec Ideal S4x1024x768 .f32) (b : FVec Ideal S4x1x768 .f32) (l : Fin 4) (r : Fin 8) (n : Fin 768) : EReal :=
  (∑ k : Fin 1024, silu (x (ix2 r k)) * w (ix3 l k n)) + b (ix3 l (0 : Fin 1) n)

theorem pay_mod (x : FVec Ideal S8x1024 .f32) (w : FVec Ideal S1x1024x768 .f32) (b : FVec Ideal S1x1x768 .f32) (r : Fin 8) (n : Fin 768) :
    k0_pay1 (F := Ideal) x w b (ix3 (0 : Fin 1) r n)
      = (∑ k : Fin 1024, silu (x (ix2 r k)) * w (ix3 (0 : Fin 1) k n)) + b (ix3 (0 : Fin 1) (0 : Fin 1) n) := by
  unfold silu
  simp only [← zero_sub]
  pointwise [k0_pay1]

theorem idx : ∀ t : Fin cfg0.N, win0_0.index t = ![0, 0] ∧ win0_1.index t = ![t.val, 0, 0] ∧ win0_2.index t = ![t.val, 0, 0] ∧ win0_3.index t = ![t.val, 0, 0] :=
  (by decide +kernel : ∀ t : Fin grid0.N, _)

theorem c_blk (c : Dev nD) (t : Fin cfg0.N) (r : Fin 8) (k : Fin 1024) :
    (iblk m c 0 t : FVec Ideal S8x1024 .f32) (ix2 r k) = cA m c (ix2 r k) := by
  have e : V m c main_arg0 = cA m c := V_main_arg0 m c
  rw [← e]
  blk_ext [iblk, idx t]

theorem w_blk (c : Dev nD) (t : Fin cfg0.N) (k : Fin 1024) (n : Fin 768) (l : Fin 4) (h : l.val = t.val) :
    (iblk m c 1 t : FVec Ideal S1x1024x768 .f32) (ix3 (0 : Fin 1) k n) = wA m c (ix3 l k n) := by
  have e : V m c main_arg1 = wA m c := V_main_arg1 m c
  rw [show l = ⟨t.val, h ▸ l.isLt⟩ from Fin.ext h, ← e]
  blk_ext [iblk, idx t]

theorem b_blk (c : Dev nD) (t : Fin cfg0.N) (n : Fin 768) (l : Fin 4) (h : l.val = t.val) :
    (iblk m c 2 t : FVec Ideal S1x1x768 .f32) (ix3 (0 : Fin 1) (0 : Fin 1) n) = bA m c (ix3 l (0 : Fin 1) n) := by
  have e : V m c main_arg2 = bA m c := V_main_arg2 m c
  rw [show l = ⟨t.val, h ▸ l.isLt⟩ from Fin.ext h, ← e]
  blk_ext [iblk, idx t]

theorem final (c : Dev nD) : (dats m 0 c).arrAt 3 cfg0.N = (fun i => out (cA m c) (wA m c) (bA m c) (i 0) (i 1) (i 2) : FVec Ideal S4x8x768 .f32) := by
  refine (dats m 0 c).arrAt_eq_of_covers 3 _ (by decide +kernel) fun t _ y => ?_
  blk_simp
  rw [after0_3]
  frame_out
  have ht : t.val < 4 := lt_of_lt_of_eq t.isLt N_0
  obtain ⟨a, r, n, rfl⟩ : ∃ (a : Fin 1) (r : Fin 8) (n : Fin 768), y = ix3 a r n := ⟨y 0, y 1, y 2, eq_ix3 y⟩
  obtain rfl := Subsingleton.elim a 0
  have e0 : ((View.whole main_v0).slice (win0_3.rect t)).emb (ix3 (0 : Fin 1) r n) 0 = (⟨t.val, ht⟩ : Fin 4) := Fin.ext (by blk_simp [idx t]; rfl)
  have e1 : ((View.whole main_v0).slice (win0_3.rect t)).emb (ix3 (0 : Fin 1) r n) 1 = r := Fin.ext (by blk_simp [idx t])
  have e2 : ((View.whole main_v0).slice (win0_3.rect t)).emb (ix3 (0 : Fin 1) r n) 2 = n := Fin.ext (by blk_simp [idx t])
  rw [e0, e1, e2]
  refine (pay_mod _ _ _ r n).trans ?_
  unfold out
  refine congrArg₂ (· + ·) (Finset.sum_congr rfl fun k _ => ?_) (b_blk m c t n ⟨t.val, ht⟩ rfl)
  exact congrArg₂ (· * ·) (congrArg silu (c_blk m c t r k)) (w_blk m c t k n ⟨t.val, ht⟩ rfl)

theorem ref_silu (x : FVec Ideal S8x1024 .f32) (r : Fin 8) (k : Fin 1024) : Cert.ModRefIdeal.Read.val_main_v0 (F := Ideal) x (ix2 r k) = silu (x (ix2 r k)) := by
  unfold silu
  pointwise [Cert.ModRefIdeal.Read.val_main_v0, Cert.ModRefIdeal.Read.val_main_call0_v0, Cert.ModRefIdeal.Read.val_main_call0_v1, Cert.ModRefIdeal.Read.val_main_call0_v2, Cert.ModRefIdeal.Read.val_main_call0_v3, Cert.ModRefIdeal.Read.val_main_call0_v4, Cert.ModRefIdeal.Read.val_main_call0_v5, Cert.ModRefIdeal.Read.val_main_call0_cst, Cert.ModRefIdeal.Read.val_main_call0_cst_0]

/-- The call's array is the reference's. -/
theorem whole (c : Dev nD) : (dats m 0 c).arrAt 3 cfg0.N = Cert.ModRefIdeal.Read.val_main_v4 (F := Ideal) (cA m c) (wA m c) (bA m c) := by
  refine (final m c).trans (funext fun i => ?_)
  obtain ⟨l, r, n, rfl⟩ : ∃ (l : Fin 4) (r : Fin 8) (n : Fin 768), i = ix3 l r n := ⟨i 0, i 1, i 2, eq_ix3 i⟩
  show out _ _ _ l r n = _
  unfold out
  have h : Cert.ModRefIdeal.Read.val_main_v4 (F := Ideal) (cA m c) (wA m c) (bA m c) (ix3 l r n)
      = (∑ k : Fin 1024, wA m c (ix3 l k n) * Cert.ModRefIdeal.Read.val_main_v0 (F := Ideal) (cA m c) (ix2 r k)) + bA m c (ix3 l (0 : Fin 1) n) := by
    unfold Cert.ModRefIdeal.Read.val_main_v4 Cert.ModRefIdeal.Read.val_main_v2 Cert.ModRefIdeal.Read.val_main_v1
    generalize Cert.ModRefIdeal.Read.val_main_v0 (F := Ideal) (cA m c) = s
    pointwise [Cert.ModRefIdeal.Read.val_main_v3]
  rw [h]
  refine congrArg₂ (· + ·) (Finset.sum_congr rfl fun k _ => ?_) rfl
  rw [ref_silu, mul_comm]

end Cert.ModIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.InD
public import proofs.«01_k».proof.Proof.Gen.InD.Skeleton
public import proofs.«01_k».proof.Proof.Gen.InD.Launch
public import proofs.«01_k».proof.Proof.Gen.InD.Points
public import proofs.«01_k».proof.Proof.Gen.InD.Frame
public import proofs.«01_k».proof.Proof.Gen.InDIdeal
public import proofs.«01_k».proof.Proof.Gen.InDIdeal.Skeleton
public import proofs.«01_k».proof.Proof.Gen.InDIdeal.Launch
public import proofs.«01_k».proof.Proof.Gen.InDIdeal.Points
public import proofs.«01_k».proof.Proof.Gen.InDIdeal.Frame
public import proofs.«01_k».proof.Proof.Gen.InDIdeal.Value
public import proofs.«01_k».proof.Proof.Gen.InDRefIdeal
public import proofs.«01_k».proof.Proof.Gen.InDRefIdeal.Run
public import proofs.«01_k».proof.Proof.Gen.InDRefIdeal.Read
public import proofs.«01_k».proof.Proof.Gen.InW
public import proofs.«01_k».proof.Proof.Gen.InW.Skeleton
public import proofs.«01_k».proof.Proof.Gen.InW.Launch
public import proofs.«01_k».proof.Proof.Gen.InW.Points
public import proofs.«01_k».proof.Proof.Gen.InW.Frame
public import proofs.«01_k».proof.Proof.Gen.InWIdeal
public import proofs.«01_k».proof.Proof.Gen.InWIdeal.Skeleton
public import proofs.«01_k».proof.Proof.Gen.InWIdeal.Launch
public import proofs.«01_k».proof.Proof.Gen.InWIdeal.Points
public import proofs.«01_k».proof.Proof.Gen.InWIdeal.Frame
public import proofs.«01_k».proof.Proof.Gen.InWIdeal.Value
public import proofs.«01_k».proof.Proof.Gen.InWRefIdeal
public import proofs.«01_k».proof.Proof.Gen.InWRefIdeal.Run
public import proofs.«01_k».proof.Proof.Gen.InWRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.OutD
public import proofs.«01_k».proof.Proof.Gen.OutD.Skeleton
public import proofs.«01_k».proof.Proof.Gen.OutD.Launch
public import proofs.«01_k».proof.Proof.Gen.OutD.Points
public import proofs.«01_k».proof.Proof.Gen.OutD.Frame
public import proofs.«01_k».proof.Proof.Gen.OutDIdeal
public import proofs.«01_k».proof.Proof.Gen.OutDIdeal.Skeleton
public import proofs.«01_k».proof.Proof.Gen.OutDIdeal.Launch
public import proofs.«01_k».proof.Proof.Gen.OutDIdeal.Points
public import proofs.«01_k».proof.Proof.Gen.OutDIdeal.Frame
public import proofs.«01_k».proof.Proof.Gen.OutDIdeal.Value
public import proofs.«01_k».proof.Proof.Gen.OutDRefIdeal
public import proofs.«01_k».proof.Proof.Gen.OutDRefIdeal.Run
public import proofs.«01_k».proof.Proof.Gen.OutDRefIdeal.Read
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWIdeal.Value
public import proofs.«01_k».proof.Proof.Gen.OutWRefIdeal
public import proofs.«01_k».proof.Proof.Gen.OutWRefIdeal.Run
public import proofs.«01_k».proof.Proof.Gen.OutWRefIdeal.Read
public import proofs.«01_k».proof.Proof.Gen.InW0
public import proofs.«01_k».proof.Proof.Gen.InW0.Skeleton
public import proofs.«01_k».proof.Proof.Gen.InW0.Launch
public import proofs.«01_k».proof.Proof.Gen.InW0.Points
public import proofs.«01_k».proof.Proof.Gen.InW0.Frame
public import proofs.«01_k».proof.Proof.Gen.InW0Ideal
public import proofs.«01_k».proof.Proof.Gen.InW0Ideal.Skeleton
public import proofs.«01_k».proof.Proof.Gen.InW0Ideal.Launch
public import proofs.«01_k».proof.Proof.Gen.InW0Ideal.Points
public import proofs.«01_k».proof.Proof.Gen.InW0Ideal.Frame
public import proofs.«01_k».proof.Proof.Gen.InW0Ideal.Value
public import proofs.«01_k».proof.Proof.Gen.InW0RefIdeal
public import proofs.«01_k».proof.Proof.Gen.InW0RefIdeal.Run
public import proofs.«01_k».proof.Proof.Gen.InW0RefIdeal.Read
public import proofs.«01_k».proof.Proof.Gen.OutW0
public import proofs.«01_k».proof.Proof.Gen.OutW0.Skeleton
public import proofs.«01_k».proof.Proof.Gen.OutW0.Launch
public import proofs.«01_k».proof.Proof.Gen.OutW0.Points
public import proofs.«01_k».proof.Proof.Gen.OutW0.Frame
public import proofs.«01_k».proof.Proof.Gen.OutW0Ideal
public import proofs.«01_k».proof.Proof.Gen.OutW0Ideal.Skeleton
public import proofs.«01_k».proof.Proof.Gen.OutW0Ideal.Launch
public import proofs.«01_k».proof.Proof.Gen.OutW0Ideal.Points
public import proofs.«01_k».proof.Proof.Gen.OutW0Ideal.Frame
public import proofs.«01_k».proof.Proof.Gen.OutW0Ideal.Value
public import proofs.«01_k».proof.Proof.Gen.OutW0RefIdeal
public import proofs.«01_k».proof.Proof.Gen.OutW0RefIdeal.Run
public import proofs.«01_k».proof.Proof.Gen.OutW0RefIdeal.Read
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.Masks
public import proofs.«01_k».proof.Proof.InVal
public import proofs.«01_k».proof.Proof.InDVal
public import proofs.«01_k».proof.Proof.InWVal
public import proofs.«01_k».proof.Proof.OutVal
public import proofs.«01_k».proof.Proof.OutDVal
public import proofs.«01_k».proof.Proof.OutWVal
public import proofs.«01_k».proof.Proof.FwdEnd
public import proofs.«01_k».proof.Proof.Gen.NormIdeal.Value
public import proofs.«01_k».proof.Proof.Gen.Norm.Frame
public import proofs.«01_k».proof.Proof.Gen.NormRefIdeal.Read
public import proofs.«01_k».proof.Proof.Gen.AdModIdeal.Value
public import proofs.«01_k».proof.Proof.Gen.AdMod.Frame
public import proofs.«01_k».proof.Proof.Gen.AdModRefIdeal.Read
public import proofs.«01_k».proof.Proof.Gen.AdInIdeal.Value
public import proofs.«01_k».proof.Proof.Gen.AdIn.Frame
public import proofs.«01_k».proof.Proof.Gen.AdInRefIdeal.Read
public import proofs.«01_k».proof.Proof.Gen.AdOutIdeal.Value
public import proofs.«01_k».proof.Proof.Gen.AdOut.Frame
public import proofs.«01_k».proof.Proof.Gen.AdOutRefIdeal.Read
public import proofs.«01_k».proof.Proof.Gen.AdGluIdeal.Value
public import proofs.«01_k».proof.Proof.Gen.AdGlu.Frame
public import proofs.«01_k».proof.Proof.Gen.AdGluRefIdeal.Read
public import proofs.«01_k».proof.Proof.InW0Val
public import proofs.«01_k».proof.Proof.OutW0Val
public import proofs.«01_k».proof.Proof.Gen.LossIdeal.Value
public import proofs.«01_k».proof.Proof.Gen.Loss.Frame
public import proofs.«01_k».proof.Proof.Gen.LossRefIdeal.Read
public import proofs.«01_k».proof.Proof.NormVal
public import proofs.«01_k».proof.Proof.AdModVal
public import proofs.«01_k».proof.Proof.AdInVal
public import proofs.«01_k».proof.Proof.AdOutVal
public import proofs.«01_k».proof.Proof.AdGluVal
public import proofs.«01_k».proof.Proof.LossVal
public import proofs.«01_k».proof.Proof.AdaVal
public import proofs.«01_k».proof.Proof.ResVal
public import proofs.«01_k».proof.Proof.ModVal
public import Idealize.ShloMosaic.Lib.Quiescent
public import Idealize.ShloMosaic.Adequacy
public import Idealize.ShloMosaic.Init
public import proofs.«01_k».proof.Proof.Gen.AdaIdeal.Value
public import proofs.«01_k».proof.Proof.Gen.Ada.Frame
public import proofs.«01_k».proof.Proof.Gen.AdaRefIdeal.Read
public import proofs.«01_k».proof.Proof.Gen.ResIdeal.Value
public import proofs.«01_k».proof.Proof.Gen.Res.Frame
public import proofs.«01_k».proof.Proof.Gen.ResRefIdeal.Read
public import proofs.«01_k».proof.Proof.Gen.ModIdeal.Value
public import proofs.«01_k».proof.Proof.Gen.Mod.Frame
public import proofs.«01_k».proof.Proof.Gen.ModRefIdeal.Read
public import proofs.«01_k».proof.Proof.Gen.BiasIdeal.Value
public import proofs.«01_k».proof.Proof.Gen.Bias.Frame
public import proofs.«01_k».proof.Proof.Gen.BiasRefIdeal.Read

@[expose] public section

noncomputable section

namespace Cert.Proof

open Idealize.ShloMosaic Idealize.ShloMosaic.TcCoe Idealize.SL.Sem

/-- The reference's frame: it has no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems rfl r.2⟩)
    (Cert.ReferenceIdeal.Value.run (F := Ideal) m ρ)

theorem values : Cert.algebraic_KernelIdeal_ReferenceIdeal_on_gate_columns_pre_finite (hKernelIdeal := Cert.KernelIdeal.Gen.facts)
    (hReferenceIdeal := Cert.ReferenceIdeal.Gen.facts) (hPre_finite := Cert.Attn.pre_facts) (hOn_gate_columns := Cert.Attn.on_facts) := by
  intro m ρ m' ρ' hpre hargs
  have hfin := fun c => Cert.Attn.pre_fin _ _ _ fun j => congrFun (hpre c) j
  refine ⟨fun c => Cert.KernelIdeal.Val.res7 m c, fun c => Cert.KernelIdeal.Val.res8 m c, fun c => Cert.KernelIdeal.Val.res9 m c,
    fun c => Cert.KernelIdeal.Val.res10 m c, ?_, ?_⟩
  · refine (θ_run Cert.KernelIdeal.defs _ _).mono (fun r h c => ?_) (Cert.KernelIdeal.Value.run_blocks (F := Ideal) m ρ)
    obtain ⟨h7, h8, h9, h10, ha⟩ := h c
    exact ⟨fun i _ => congrFun h7 i, fun i _ => congrFun h8 i, fun i _ => congrFun h9 i, fun i _ => congrFun h10 i, ha⟩
  · refine (θ_run Cert.ReferenceIdeal.defs _ _).mono (fun r h c => ?_) (Cert.ReferenceIdeal.Value.run (F := Ideal) m' ρ')
    obtain ⟨h7, h8, h9, h10, ha⟩ := h c
    obtain ⟨hx, hp, hw⟩ := hfin c
    obtain ⟨a0, a1, a2⟩ := hargs c
    have e0 : StableHlo.launchContents m' c (Proc.devRef .tc Cert.ReferenceIdeal.main_arg0) = Cert.KernelIdeal.Val.xA m c := a0
    have e1 : StableHlo.launchContents m' c (Proc.devRef .tc Cert.ReferenceIdeal.main_arg1) = Cert.KernelIdeal.Val.pA m c := a1
    have e2 : StableHlo.launchContents m' c (Proc.devRef .tc Cert.ReferenceIdeal.main_arg2) = Cert.KernelIdeal.Val.wA m c := a2
    refine ⟨fun i _ => ?_, fun i hi => ?_, fun i _ => ?_, fun i _ => ?_, ha⟩
    · refine (congrFun (h7.trans (Cert.ReferenceIdeal.Read.val_main_v140_eq (F := Ideal) _)) i).trans ?_
      rw [e0, e1, e2]
      exact (Cert.KernelIdeal.Val.dq_eq m c hx hp hw i).symm
    · refine (congrFun (h8.trans (Cert.ReferenceIdeal.Read.val_main_v139_eq (F := Ideal) _)) i).trans ?_
      rw [e0, e1, e2]
      obtain ⟨a, b, rfl⟩ : ∃ a b, i = ix2 a b := ⟨i 0, i 1, eq_ix2 i⟩
      exact (Cert.KernelIdeal.Val.dg_eq m c hx hp hw a b (Cert.Attn.on_gate _ _ _ a b hi)).symm
    · refine (congrFun (h9.trans (Cert.ReferenceIdeal.Read.val_main_v141_eq (F := Ideal) _)) i).trans ?_
      rw [e0, e1, e2]
      exact (Cert.KernelIdeal.Val.dk_eq m c hx hp hw i).symm
    · refine (congrFun (h10.trans (Cert.ReferenceIdeal.Read.val_main_v142_eq (F := Ideal) _)) i).trans ?_
      rw [e0, e1, e2]
      exact (Cert.KernelIdeal.Val.dv_eq m c hx i).symm

theorem frame_InRef : Cert.quiescent_InRefIdeal (hInRefIdeal := Cert.InRefIdeal.Gen.facts) := fun m ρ _ =>
  (θ_run Cert.InRefIdeal.defs _ _).mono (fun r h => ⟨fun c => (h c).2, sem_eq_zero_of_no_sems rfl r.2⟩)
    (Cert.InRefIdeal.Value.run (F := Ideal) m ρ)

theorem values_In : Cert.algebraic_InIdeal_InRefIdeal (hInIdeal := Cert.InIdeal.Gen.facts)
    (hInRefIdeal := Cert.InRefIdeal.Gen.facts) := by
  intro m ρ m' ρ' _ hargs
  refine ⟨fun c => fun i => Cert.InIdeal.Val.prod (Cert.InIdeal.Val.xA m c) (Cert.InIdeal.Val.wA m c) (i 0) (i 1), ?_, ?_⟩
  · refine (θ_run Cert.InIdeal.defs _ _).mono (fun r h c => ?_) (Cert.InIdeal.Value.run_blocks (F := Ideal) m ρ)
    exact ⟨(h c).1.trans (Cert.InIdeal.Val.final m c), (h c).2⟩
  · refine (θ_run Cert.InRefIdeal.defs _ _).mono (fun r h c => ?_) (Cert.InRefIdeal.Value.run (F := Ideal) m' ρ')
    obtain ⟨h3, ha⟩ := h c
    obtain ⟨a0, a1⟩ := hargs c
    refine ⟨(h3.trans (Cert.InRefIdeal.Read.val_main_v3_eq (F := Ideal) _ _)).trans ?_, ha⟩
    rw [a0, a1]
    exact Cert.InIdeal.Val.ref_eq _ _

theorem frame_InDRef : Cert.quiescent_InDRefIdeal (hInDRefIdeal := Cert.InDRefIdeal.Gen.facts) := fun m ρ _ =>
  (θ_run Cert.InDRefIdeal.defs _ _).mono (fun r h => ⟨fun c => (h c).2, sem_eq_zero_of_no_sems rfl r.2⟩)
    (Cert.InDRefIdeal.Value.run (F := Ideal) m ρ)

theorem values_InD : Cert.algebraic_InDIdeal_InDRefIdeal (hInDIdeal := Cert.InDIdeal.Gen.facts)
    (hInDRefIdeal := Cert.InDRefIdeal.Gen.facts) := by
  intro m ρ m' ρ' _ hargs
  refine ⟨fun c => Cert.InDIdeal.Val.res m c, ?_, ?_⟩
  · refine (θ_run Cert.InDIdeal.defs _ _).mono (fun r h c => ?_) (Cert.InDIdeal.Value.run_blocks (F := Ideal) m ρ)
    exact ⟨(h c).1.trans (Cert.InDIdeal.Val.final m c), (h c).2⟩
  · refine (θ_run Cert.InDRefIdeal.defs _ _).mono (fun r h c => ?_) (Cert.InDRefIdeal.Value.run (F := Ideal) m' ρ')
    obtain ⟨h3, ha⟩ := h c
    obtain ⟨a0, a1⟩ := hargs c
    refine ⟨(h3.trans (Cert.InDRefIdeal.Read.val_main_v5_eq (F := Ideal) _ _)).trans ?_, ha⟩
    rw [a0, a1]
    exact Cert.InDIdeal.Val.ref_eq _ _

theorem frame_InWRef : Cert.quiescent_InWRefIdeal (hInWRefIdeal := Cert.InWRefIdeal.Gen.facts) := fun m ρ _ =>
  (θ_run Cert.InWRefIdeal.defs _ _).mono (fun r h => ⟨fun c => (h c).2, sem_eq_zero_of_no_sems rfl r.2⟩)
    (Cert.InWRefIdeal.Value.run (F := Ideal) m ρ)

theorem values_InW : Cert.algebraic_InWIdeal_InWRefIdeal_on_in_layer (hInWIdeal := Cert.InWIdeal.Gen.facts)
    (hInWRefIdeal := Cert.InWRefIdeal.Gen.facts) (hOn_in_layer := Cert.InWIdeal.Val.on_facts) := by
  intro m ρ m' ρ' _ hargs
  refine ⟨fun c => (Cert.InWIdeal.Gen.dats m 0 c).arrAt 2 Cert.InWIdeal.cfg0.N, ?_, ?_⟩
  · refine (θ_run Cert.InWIdeal.defs _ _).mono (fun r h c => ?_) (Cert.InWIdeal.Value.run_blocks (F := Ideal) m ρ)
    exact ⟨fun i _ => congrFun (h c).1 i, (h c).2⟩
  · refine (θ_run Cert.InWRefIdeal.defs _ _).mono (fun r h c => ?_) (Cert.InWRefIdeal.Value.run (F := Ideal) m' ρ')
    obtain ⟨h3, ha⟩ := h c
    obtain ⟨a0, a1⟩ := hargs c
    refine ⟨fun i hi => ?_, ha⟩
    obtain ⟨l, j, k, n, rfl⟩ : ∃ l j k n, i = ix4 l j k n := ⟨i 0, i 1, i 2, i 3, eq_ix4 i⟩
    obtain rfl : l = 1 := Cert.InWIdeal.Val.on_layer _ _ l j k n hi
    refine (congrFun (h3.trans (Cert.InWRefIdeal.Read.val_main_v8_eq (F := Ideal) _ _)) _).trans ?_
    rw [a0, a1]
    exact (Cert.InWIdeal.Val.ref_eq _ _ 1 j k n _).trans (Cert.InWIdeal.Val.slot m c j k n).symm

theorem frame_OutRef : Cert.quiescent_OutRefIdeal (hOutRefIdeal := Cert.OutRefIdeal.Gen.facts) := fun m ρ _ =>
  (θ_run Cert.OutRefIdeal.defs _ _).mono (fun r h => ⟨fun c => (h c).2, sem_eq_zero_of_no_sems rfl r.2⟩)
    (Cert.OutRefIdeal.Value.run (F := Ideal) m ρ)

theorem values_Out : Cert.algebraic_OutIdeal_OutRefIdeal (hOutIdeal := Cert.OutIdeal.Gen.facts)
    (hOutRefIdeal := Cert.OutRefIdeal.Gen.facts) := by
  intro m ρ m' ρ' _ hargs
  refine ⟨fun c => fun i => Cert.OutIdeal.Val.prod (Cert.OutIdeal.Val.xA m c) (Cert.OutIdeal.Val.wA m c) (i 0) (i 1), ?_, ?_⟩
  · refine (θ_run Cert.OutIdeal.defs _ _).mono (fun r h c => ?_) (Cert.OutIdeal.Value.run_blocks (F := Ideal) m ρ)
    exact ⟨(h c).1.trans (Cert.OutIdeal.Val.final m c), (h c).2⟩
  · refine (θ_run Cert.OutRefIdeal.defs _ _).mono (fun r h c => ?_) (Cert.OutRefIdeal.Value.run (F := Ideal) m' ρ')
    obtain ⟨h3, ha⟩ := h c
    obtain ⟨a0, a1⟩ := hargs c
    refine ⟨(h3.trans (Cert.OutRefIdeal.Read.val_main_v3_eq (F := Ideal) _ _)).trans ?_, ha⟩
    rw [a0, a1]
    exact Cert.OutIdeal.Val.ref_eq _ _

theorem frame_OutDRef : Cert.quiescent_OutDRefIdeal (hOutDRefIdeal := Cert.OutDRefIdeal.Gen.facts) := fun m ρ _ =>
  (θ_run Cert.OutDRefIdeal.defs _ _).mono (fun r h => ⟨fun c => (h c).2, sem_eq_zero_of_no_sems rfl r.2⟩)
    (Cert.OutDRefIdeal.Value.run (F := Ideal) m ρ)

theorem values_OutD : Cert.algebraic_OutDIdeal_OutDRefIdeal (hOutDIdeal := Cert.OutDIdeal.Gen.facts)
    (hOutDRefIdeal := Cert.OutDRefIdeal.Gen.facts) := by
  intro m ρ m' ρ' _ hargs
  refine ⟨fun c => fun i => Cert.OutDIdeal.Val.prod (Cert.OutDIdeal.Val.xA m c) (Cert.OutDIdeal.Val.wA m c) (i 0) (i 1), ?_, ?_⟩
  · refine (θ_run Cert.OutDIdeal.defs _ _).mono (fun r h c => ?_) (Cert.OutDIdeal.Value.run_blocks (F := Ideal) m ρ)
    exact ⟨(h c).1.trans (Cert.OutDIdeal.Val.final m c), (h c).2⟩
  · refine (θ_run Cert.OutDRefIdeal.defs _ _).mono (fun r h c => ?_) (Cert.OutDRefIdeal.Value.run (F := Ideal) m' ρ')
    obtain ⟨h3, ha⟩ := h c
    obtain ⟨a0, a1⟩ := hargs c
    refine ⟨(h3.trans (Cert.OutDRefIdeal.Read.val_main_v5_eq (F := Ideal) _ _)).trans ?_, ha⟩
    rw [a0, a1]
    exact Cert.OutDIdeal.Val.ref_eq _ _

theorem frame_OutWRef : Cert.quiescent_OutWRefIdeal (hOutWRefIdeal := Cert.OutWRefIdeal.Gen.facts) := fun m ρ _ =>
  (θ_run Cert.OutWRefIdeal.defs _ _).mono (fun r h => ⟨fun c => (h c).2, sem_eq_zero_of_no_sems rfl r.2⟩)
    (Cert.OutWRefIdeal.Value.run (F := Ideal) m ρ)

theorem values_OutW : Cert.algebraic_OutWIdeal_OutWRefIdeal_on_out_layer (hOutWIdeal := Cert.OutWIdeal.Gen.facts)
    (hOutWRefIdeal := Cert.OutWRefIdeal.Gen.facts) (hOn_out_layer := Cert.OutWIdeal.Val.on_facts) := by
  intro m ρ m' ρ' _ hargs
  refine ⟨fun c => (Cert.OutWIdeal.Gen.dats m 0 c).arrAt 2 Cert.OutWIdeal.cfg0.N, ?_, ?_⟩
  · refine (θ_run Cert.OutWIdeal.defs _ _).mono (fun r h c => ?_) (Cert.OutWIdeal.Value.run_blocks (F := Ideal) m ρ)
    exact ⟨fun i _ => congrFun (h c).1 i, (h c).2⟩
  · refine (θ_run Cert.OutWRefIdeal.defs _ _).mono (fun r h c => ?_) (Cert.OutWRefIdeal.Value.run (F := Ideal) m' ρ')
    obtain ⟨h3, ha⟩ := h c
    obtain ⟨a0, a1⟩ := hargs c
    refine ⟨fun i hi => ?_, ha⟩
    obtain ⟨l, j, k, n, rfl⟩ : ∃ l j k n, i = ix4 l j k n := ⟨i 0, i 1, i 2, i 3, eq_ix4 i⟩
    obtain rfl : l = 1 := Cert.OutWIdeal.Val.on_layer _ _ l j k n hi
    refine (congrFun (h3.trans (Cert.OutWRefIdeal.Read.val_main_v6_eq (F := Ideal) _ _)) _).trans ?_
    rw [a0, a1]
    exact (Cert.OutWIdeal.Val.ref_eq _ _ 1 j k n _).trans (Cert.OutWIdeal.Val.slot m c j k n).symm

theorem frame_FwdRef : Cert.quiescent_FwdRefIdeal (hFwdRefIdeal := Cert.FwdRefIdeal.Gen.facts) := fun m ρ _ =>
  (θ_run Cert.FwdRefIdeal.defs _ _).mono (fun r h => ⟨fun c => (h c).2.2.2, sem_eq_zero_of_no_sems rfl r.2⟩)
    (Cert.FwdRefIdeal.Value.run (F := Ideal) m ρ)

theorem values_Fwd : Cert.algebraic_FwdIdeal_FwdRefIdeal_pre_finite_qkv (hFwdIdeal := Cert.FwdIdeal.Gen.facts)
    (hFwdRefIdeal := Cert.FwdRefIdeal.Gen.facts) (hPre_finite_qkv := Cert.Attn.pre_qkv_facts) := by
  intro m ρ m' ρ' hpre hargs
  have hfin := fun c => Cert.Attn.pre_qkv_fin _ _ fun j => congrFun (hpre c) j
  refine ⟨fun c => Cert.FwdIdeal.Val.res4 m c, fun c => Cert.FwdIdeal.Val.res5 m c, fun c => Cert.FwdIdeal.Val.res6 m c, ?_, ?_⟩
  · exact (θ_run Cert.FwdIdeal.defs _ _).mono (fun r h c => h c) (Cert.FwdIdeal.Value.run_blocks (F := Ideal) m ρ)
  · refine (θ_run Cert.FwdRefIdeal.defs _ _).mono (fun r h c => ?_) (Cert.FwdRefIdeal.Value.run (F := Ideal) m' ρ')
    obtain ⟨ho, hm, hl, ha⟩ := h c
    have hx := hfin c
    obtain ⟨a0, a1⟩ := hargs c
    have e0 : m' ((c.tc : Thread Cert.FwdRefIdeal.nD Cert.FwdRefIdeal.τ).loc Cert.FwdRefIdeal.main_arg0) = Cert.FwdIdeal.Val.xA m c := a0
    have e1 : m' ((c.tc : Thread Cert.FwdRefIdeal.nD Cert.FwdRefIdeal.τ).loc Cert.FwdRefIdeal.main_arg1) = Cert.FwdIdeal.Val.pA m c := a1
    refine ⟨(ho.trans (Cert.FwdRefIdeal.Read.val_main_v43_eq (F := Ideal) _ _)).trans ?_,
      (hm.trans (Cert.FwdRefIdeal.Read.val_main_v79_eq (F := Ideal) _ _)).trans ?_,
      (hl.trans (Cert.FwdRefIdeal.Read.val_main_v75_eq (F := Ideal) _ _)).trans ?_, ha⟩
    · rw [e0]
      exact funext fun i => Cert.FwdIdeal.Val.o_eq hx i
    · rw [e0, e1]
      exact funext fun i => Cert.FwdIdeal.Val.m_eq hx i
    · rw [e0]
      exact funext fun i => Cert.FwdIdeal.Val.l_eq hx i

theorem frame_InW0Ref : Cert.quiescent_InW0RefIdeal (hInW0RefIdeal := Cert.InW0RefIdeal.Gen.facts) := fun m ρ _ =>
  (θ_run Cert.InW0RefIdeal.defs _ _).mono (fun r h => ⟨fun c => (h c).2, sem_eq_zero_of_no_sems rfl r.2⟩)
    (Cert.InW0RefIdeal.Value.run (F := Ideal) m ρ)

theorem values_InW0 : Cert.algebraic_InW0Ideal_InW0RefIdeal (hInW0Ideal := Cert.InW0Ideal.Gen.facts) (hInW0RefIdeal := Cert.InW0RefIdeal.Gen.facts) := by
  intro m ρ m' ρ' _ hargs
  refine ⟨fun c => (Cert.InW0Ideal.Gen.dats m 0 c).arrAt 2 Cert.InW0Ideal.cfg0.N, ?_, ?_⟩
  · exact (θ_run Cert.InW0Ideal.defs _ _).mono (fun r h c => h c) (Cert.InW0Ideal.Value.run_blocks (F := Ideal) m ρ)
  · refine (θ_run Cert.InW0RefIdeal.defs _ _).mono (fun r h c => ?_) (Cert.InW0RefIdeal.Value.run (F := Ideal) m' ρ')
    obtain ⟨h3, ha⟩ := h c
    obtain ⟨a0, a1, a2⟩ := hargs c
    refine ⟨(h3.trans (Cert.InW0RefIdeal.Read.val_main_v11_eq (F := Ideal) _ _ _)).trans ?_, ha⟩
    rw [a0, a1, a2]
    exact (Cert.InW0Ideal.Val.whole m c).symm

theorem frame_OutW0Ref : Cert.quiescent_OutW0RefIdeal (hOutW0RefIdeal := Cert.OutW0RefIdeal.Gen.facts) := fun m ρ _ =>
  (θ_run Cert.OutW0RefIdeal.defs _ _).mono (fun r h => ⟨fun c => (h c).2, sem_eq_zero_of_no_sems rfl r.2⟩)
    (Cert.OutW0RefIdeal.Value.run (F := Ideal) m ρ)

theorem values_OutW0 : Cert.algebraic_OutW0Ideal_OutW0RefIdeal (hOutW0Ideal := Cert.OutW0Ideal.Gen.facts) (hOutW0RefIdeal := Cert.OutW0RefIdeal.Gen.facts) := by
  intro m ρ m' ρ' _ hargs
  refine ⟨fun c => (Cert.OutW0Ideal.Gen.dats m 0 c).arrAt 2 Cert.OutW0Ideal.cfg0.N, ?_, ?_⟩
  · exact (θ_run Cert.OutW0Ideal.defs _ _).mono (fun r h c => h c) (Cert.OutW0Ideal.Value.run_blocks (F := Ideal) m ρ)
  · refine (θ_run Cert.OutW0RefIdeal.defs _ _).mono (fun r h c => ?_) (Cert.OutW0RefIdeal.Value.run (F := Ideal) m' ρ')
    obtain ⟨h3, ha⟩ := h c
    obtain ⟨a0, a1, a2⟩ := hargs c
    refine ⟨(h3.trans (Cert.OutW0RefIdeal.Read.val_main_v9_eq (F := Ideal) _ _ _)).trans ?_, ha⟩
    rw [a0, a1, a2]
    exact (Cert.OutW0Ideal.Val.whole m c).symm

theorem frame_NormRef : Cert.quiescent_NormRefIdeal (hNormRefIdeal := Cert.NormRefIdeal.Gen.facts) := fun m ρ _ =>
  (θ_run Cert.NormRefIdeal.defs _ _).mono (fun r h => ⟨fun c => (h c).2, sem_eq_zero_of_no_sems rfl r.2⟩)
    (Cert.NormRefIdeal.Value.run (F := Ideal) m ρ)

theorem values_Norm : Cert.algebraic_NormIdeal_NormRefIdeal (hNormIdeal := Cert.NormIdeal.Gen.facts) (hNormRefIdeal := Cert.NormRefIdeal.Gen.facts) := by
  intro m ρ m' ρ' _ hargs
  refine ⟨fun c => (Cert.NormIdeal.Gen.dats m 0 c).arrAt 4 Cert.NormIdeal.cfg0.N, ?_, ?_⟩
  · exact (θ_run Cert.NormIdeal.defs _ _).mono (fun r h c => h c) (Cert.NormIdeal.Value.run_blocks (F := Ideal) m ρ)
  · refine (θ_run Cert.NormRefIdeal.defs _ _).mono (fun r h c => ?_) (Cert.NormRefIdeal.Value.run (F := Ideal) m' ρ')
    obtain ⟨h4, ha⟩ := h c
    obtain ⟨a0, a1, a2, a3⟩ := hargs c
    refine ⟨(h4.trans (Cert.NormRefIdeal.Read.val_main_v49_eq (F := Ideal) _ _ _ _)).trans ?_, ha⟩
    rw [a0, a1, a2, a3]
    exact (Cert.NormIdeal.Val.whole m c).symm

theorem frame_AdModRef : Cert.quiescent_AdModRefIdeal (hAdModRefIdeal := Cert.AdModRefIdeal.Gen.facts) := fun m ρ _ =>
  (θ_run Cert.AdModRefIdeal.defs _ _).mono (fun r h => ⟨fun c => (h c).2.2.2, sem_eq_zero_of_no_sems rfl r.2⟩)
    (Cert.AdModRefIdeal.Value.run (F := Ideal) m ρ)

theorem values_AdMod : Cert.algebraic_AdModIdeal_AdModRefIdeal (hAdModIdeal := Cert.AdModIdeal.Gen.facts) (hAdModRefIdeal := Cert.AdModRefIdeal.Gen.facts) := by
  intro m ρ m' ρ' _ hargs
  refine ⟨_, _, _, (θ_run Cert.AdModIdeal.defs _ _).mono (fun r h c => h c) (Cert.AdModIdeal.Value.run (F := Ideal) m ρ), ?_⟩
  refine (θ_run Cert.AdModRefIdeal.defs _ _).mono (fun r h c => ?_) (Cert.AdModRefIdeal.Value.run (F := Ideal) m' ρ')
  obtain ⟨hd, hm, hv, ha⟩ := h c
  obtain ⟨a0, a1, a2, a3⟩ := hargs c
  refine ⟨(hd.trans (Cert.AdModRefIdeal.Read.val_main_v23_eq (F := Ideal) _ _ _ _)).trans ?_,
    (hm.trans (Cert.AdModRefIdeal.Read.val_main_v4_eq (F := Ideal) _ _)).trans ?_,
    (hv.trans (Cert.AdModRefIdeal.Read.val_main_v10_eq (F := Ideal) _ _)).trans ?_, ha⟩
  · rw [a0, a1, a2, a3]
    exact Cert.AdModIdeal.Val.step_eq _ _ _ _
  · rw [a1, a2]
    exact Cert.AdModIdeal.Val.mean_eq _ _
  · rw [a1, a3]
    exact Cert.AdModIdeal.Val.square_eq _ _

theorem frame_AdInRef : Cert.quiescent_AdInRefIdeal (hAdInRefIdeal := Cert.AdInRefIdeal.Gen.facts) := fun m ρ _ =>
  (θ_run Cert.AdInRefIdeal.defs _ _).mono (fun r h => ⟨fun c => (h c).2.2.2, sem_eq_zero_of_no_sems rfl r.2⟩)
    (Cert.AdInRefIdeal.Value.run (F := Ideal) m ρ)

theorem values_AdIn : Cert.algebraic_AdInIdeal_AdInRefIdeal (hAdInIdeal := Cert.AdInIdeal.Gen.facts) (hAdInRefIdeal := Cert.AdInRefIdeal.Gen.facts) := by
  intro m ρ m' ρ' _ hargs
  refine ⟨_, _, _, (θ_run Cert.AdInIdeal.defs _ _).mono (fun r h c => h c) (Cert.AdInIdeal.Value.run (F := Ideal) m ρ), ?_⟩
  refine (θ_run Cert.AdInRefIdeal.defs _ _).mono (fun r h c => ?_) (Cert.AdInRefIdeal.Value.run (F := Ideal) m' ρ')
  obtain ⟨hd, hm, hv, ha⟩ := h c
  obtain ⟨a0, a1, a2, a3⟩ := hargs c
  refine ⟨(hd.trans (Cert.AdInRefIdeal.Read.val_main_v23_eq (F := Ideal) _ _ _ _)).trans ?_,
    (hm.trans (Cert.AdInRefIdeal.Read.val_main_v4_eq (F := Ideal) _ _)).trans ?_,
    (hv.trans (Cert.AdInRefIdeal.Read.val_main_v10_eq (F := Ideal) _ _)).trans ?_, ha⟩
  · rw [a0, a1, a2, a3]
    exact Cert.AdInIdeal.Val.step_eq _ _ _ _
  · rw [a1, a2]
    exact Cert.AdInIdeal.Val.mean_eq _ _
  · rw [a1, a3]
    exact Cert.AdInIdeal.Val.square_eq _ _

theorem frame_AdOutRef : Cert.quiescent_AdOutRefIdeal (hAdOutRefIdeal := Cert.AdOutRefIdeal.Gen.facts) := fun m ρ _ =>
  (θ_run Cert.AdOutRefIdeal.defs _ _).mono (fun r h => ⟨fun c => (h c).2.2.2, sem_eq_zero_of_no_sems rfl r.2⟩)
    (Cert.AdOutRefIdeal.Value.run (F := Ideal) m ρ)

theorem values_AdOut : Cert.algebraic_AdOutIdeal_AdOutRefIdeal (hAdOutIdeal := Cert.AdOutIdeal.Gen.facts) (hAdOutRefIdeal := Cert.AdOutRefIdeal.Gen.facts) := by
  intro m ρ m' ρ' _ hargs
  refine ⟨_, _, _, (θ_run Cert.AdOutIdeal.defs _ _).mono (fun r h c => h c) (Cert.AdOutIdeal.Value.run (F := Ideal) m ρ), ?_⟩
  refine (θ_run Cert.AdOutRefIdeal.defs _ _).mono (fun r h c => ?_) (Cert.AdOutRefIdeal.Value.run (F := Ideal) m' ρ')
  obtain ⟨hd, hm, hv, ha⟩ := h c
  obtain ⟨a0, a1, a2, a3⟩ := hargs c
  refine ⟨(hd.trans (Cert.AdOutRefIdeal.Read.val_main_v23_eq (F := Ideal) _ _ _ _)).trans ?_,
    (hm.trans (Cert.AdOutRefIdeal.Read.val_main_v4_eq (F := Ideal) _ _)).trans ?_,
    (hv.trans (Cert.AdOutRefIdeal.Read.val_main_v10_eq (F := Ideal) _ _)).trans ?_, ha⟩
  · rw [a0, a1, a2, a3]
    exact Cert.AdOutIdeal.Val.step_eq _ _ _ _
  · rw [a1, a2]
    exact Cert.AdOutIdeal.Val.mean_eq _ _
  · rw [a1, a3]
    exact Cert.AdOutIdeal.Val.square_eq _ _

theorem frame_AdGluRef : Cert.quiescent_AdGluRefIdeal (hAdGluRefIdeal := Cert.AdGluRefIdeal.Gen.facts) := fun m ρ _ =>
  (θ_run Cert.AdGluRefIdeal.defs _ _).mono (fun r h => ⟨fun c => (h c).2.2.2, sem_eq_zero_of_no_sems rfl r.2⟩)
    (Cert.AdGluRefIdeal.Value.run (F := Ideal) m ρ)

theorem values_AdGlu : Cert.algebraic_AdGluIdeal_AdGluRefIdeal (hAdGluIdeal := Cert.AdGluIdeal.Gen.facts) (hAdGluRefIdeal := Cert.AdGluRefIdeal.Gen.facts) := by
  intro m ρ m' ρ' _ hargs
  refine ⟨_, _, _, (θ_run Cert.AdGluIdeal.defs _ _).mono (fun r h c => h c) (Cert.AdGluIdeal.Value.run (F := Ideal) m ρ), ?_⟩
  refine (θ_run Cert.AdGluRefIdeal.defs _ _).mono (fun r h c => ?_) (Cert.AdGluRefIdeal.Value.run (F := Ideal) m' ρ')
  obtain ⟨hd, hm, hv, ha⟩ := h c
  obtain ⟨a0, a1, a2, a3⟩ := hargs c
  refine ⟨(hd.trans (Cert.AdGluRefIdeal.Read.val_main_v23_eq (F := Ideal) _ _ _ _)).trans ?_,
    (hm.trans (Cert.AdGluRefIdeal.Read.val_main_v4_eq (F := Ideal) _ _)).trans ?_,
    (hv.trans (Cert.AdGluRefIdeal.Read.val_main_v10_eq (F := Ideal) _ _)).trans ?_, ha⟩
  · rw [a0, a1, a2, a3]
    exact Cert.AdGluIdeal.Val.step_eq _ _ _ _
  · rw [a1, a2]
    exact Cert.AdGluIdeal.Val.mean_eq _ _
  · rw [a1, a3]
    exact Cert.AdGluIdeal.Val.square_eq _ _

theorem frame_LossRef : Cert.quiescent_LossRefIdeal (hLossRefIdeal := Cert.LossRefIdeal.Gen.facts) := fun m ρ _ =>
  (θ_run Cert.LossRefIdeal.defs _ _).mono (fun r h => ⟨fun c => (h c).2.2, sem_eq_zero_of_no_sems rfl r.2⟩)
    (Cert.LossRefIdeal.Value.run (F := Ideal) m ρ)

theorem values_Loss : Cert.algebraic_LossIdeal_LossRefIdeal (hLossIdeal := Cert.LossIdeal.Gen.facts) (hLossRefIdeal := Cert.LossRefIdeal.Gen.facts) := by
  intro m ρ m' ρ' _ hargs
  refine ⟨fun c => (Cert.LossIdeal.Gen.dats m 0 c).arrAt 5 Cert.LossIdeal.cfg0.N, fun c => (Cert.LossIdeal.Gen.dats m 0 c).arrAt 7 Cert.LossIdeal.cfg0.N, ?_, ?_⟩
  · refine (θ_run Cert.LossIdeal.defs _ _).mono (fun r h c => ?_) (Cert.LossIdeal.Value.run_blocks (F := Ideal) m ρ)
    obtain ⟨hl, _, hg, _, _, ha⟩ := h c
    exact ⟨hl, hg, ha⟩
  · refine (θ_run Cert.LossRefIdeal.defs _ _).mono (fun r h c => ?_) (Cert.LossRefIdeal.Value.run (F := Ideal) m' ρ')
    obtain ⟨hl, hg, ha⟩ := h c
    obtain ⟨a0, a1, a2, a3, a4⟩ := hargs c
    refine ⟨(hl.trans (Cert.LossRefIdeal.Read.val_main_v38_eq (F := Ideal) m' c)).trans ?_,
      (hg.trans (Cert.LossRefIdeal.Read.val_main_v37_eq (F := Ideal) m' c)).trans ?_, ha⟩
    · rw [a0, a1, a2, a3, a4]
      exact (Cert.LossIdeal.Val.whole_loss m c).symm
    · rw [a0, a1, a2, a3, a4]
      exact (Cert.LossIdeal.Val.whole_grad m c).symm

theorem frame_AdaRef : Cert.quiescent_AdaRefIdeal (hAdaRefIdeal := Cert.AdaRefIdeal.Gen.facts) := fun m ρ _ =>
  (θ_run Cert.AdaRefIdeal.defs _ _).mono (fun r h => ⟨fun c => (h c).2.2, sem_eq_zero_of_no_sems rfl r.2⟩)
    (Cert.AdaRefIdeal.Value.run (F := Ideal) m ρ)

theorem values_Ada : Cert.algebraic_AdaIdeal_AdaRefIdeal_pre_finite_ada (hAdaIdeal := Cert.AdaIdeal.Gen.facts)
    (hAdaRefIdeal := Cert.AdaRefIdeal.Gen.facts) (hPre_finite_ada := Cert.AdaIdeal.Val.pre_facts) := by
  intro m ρ m' ρ' hpre hargs
  have hfin := fun c => Cert.AdaIdeal.Val.pre_fin _ _ _ fun j => congrFun (hpre c) j
  refine ⟨fun c => (Cert.AdaIdeal.Gen.dats m 0 c).arrAt 3 Cert.AdaIdeal.cfg0.N, fun c => (Cert.AdaIdeal.Gen.dats m 0 c).arrAt 4 Cert.AdaIdeal.cfg0.N, ?_, ?_⟩
  · exact (θ_run Cert.AdaIdeal.defs _ _).mono (fun r h c => h c) (Cert.AdaIdeal.Value.run_blocks (F := Ideal) m ρ)
  · refine (θ_run Cert.AdaRefIdeal.defs _ _).mono (fun r h c => ?_) (Cert.AdaRefIdeal.Value.run (F := Ideal) m' ρ')
    obtain ⟨hw, hc, ha⟩ := h c
    obtain ⟨a0, a1, a2⟩ := hargs c
    refine ⟨(hw.trans (Cert.AdaRefIdeal.Read.val_main_v6_eq (F := Ideal) _ _)).trans ?_,
      (hc.trans (Cert.AdaRefIdeal.Read.val_main_v10_eq (F := Ideal) _ _ _)).trans ?_, ha⟩
    · rw [a0, a1]
      exact (Cert.AdaIdeal.Val.whole_weight m c).symm
    · rw [a0, a1, a2]
      exact (Cert.AdaIdeal.Val.whole_cond m c (hfin c).1 (hfin c).2).symm

theorem frame_ResRef : Cert.quiescent_ResRefIdeal (hResRefIdeal := Cert.ResRefIdeal.Gen.facts) := fun m ρ _ =>
  (θ_run Cert.ResRefIdeal.defs _ _).mono (fun r h => ⟨fun c => (h c).2.2, sem_eq_zero_of_no_sems rfl r.2⟩)
    (Cert.ResRefIdeal.Value.run (F := Ideal) m ρ)

theorem values_Res : Cert.algebraic_ResIdeal_ResRefIdeal (hResIdeal := Cert.ResIdeal.Gen.facts) (hResRefIdeal := Cert.ResRefIdeal.Gen.facts) := by
  intro m ρ m' ρ' _ hargs
  refine ⟨fun c => (Cert.ResIdeal.Gen.dats m 0 c).arrAt 5 Cert.ResIdeal.cfg0.N, fun c => (Cert.ResIdeal.Gen.dats m 0 c).arrAt 6 Cert.ResIdeal.cfg0.N, ?_, ?_⟩
  · exact (θ_run Cert.ResIdeal.defs _ _).mono (fun r h c => h c) (Cert.ResIdeal.Value.run_blocks (F := Ideal) m ρ)
  · refine (θ_run Cert.ResRefIdeal.defs _ _).mono (fun r h c => ?_) (Cert.ResRefIdeal.Value.run (F := Ideal) m' ρ')
    obtain ⟨hr, hn, ha⟩ := h c
    obtain ⟨a0, a1, a2, a3, a4⟩ := hargs c
    refine ⟨(hr.trans (Cert.ResRefIdeal.Read.val_main_v16_eq (F := Ideal) _ _ _)).trans ?_,
      (hn.trans (Cert.ResRefIdeal.Read.val_main_v66_eq (F := Ideal) m' c)).trans ?_, ha⟩
    · rw [a0, a1, a2]
      exact (Cert.ResIdeal.Val.whole_res m c).symm
    · rw [a0, a1, a2, a3, a4]
      exact (Cert.ResIdeal.Val.whole_nrm m c).symm

theorem frame_ModRef : Cert.quiescent_ModRefIdeal (hModRefIdeal := Cert.ModRefIdeal.Gen.facts) := fun m ρ _ =>
  (θ_run Cert.ModRefIdeal.defs _ _).mono (fun r h => ⟨fun c => (h c).2, sem_eq_zero_of_no_sems rfl r.2⟩)
    (Cert.ModRefIdeal.Value.run (F := Ideal) m ρ)

theorem values_Mod : Cert.algebraic_ModIdeal_ModRefIdeal (hModIdeal := Cert.ModIdeal.Gen.facts) (hModRefIdeal := Cert.ModRefIdeal.Gen.facts) := by
  intro m ρ m' ρ' _ hargs
  refine ⟨fun c => (Cert.ModIdeal.Gen.dats m 0 c).arrAt 3 Cert.ModIdeal.cfg0.N, ?_, ?_⟩
  · exact (θ_run Cert.ModIdeal.defs _ _).mono (fun r h c => h c) (Cert.ModIdeal.Value.run_blocks (F := Ideal) m ρ)
  · refine (θ_run Cert.ModRefIdeal.defs _ _).mono (fun r h c => ?_) (Cert.ModRefIdeal.Value.run (F := Ideal) m' ρ')
    obtain ⟨h4, ha⟩ := h c
    obtain ⟨a0, a1, a2⟩ := hargs c
    refine ⟨(h4.trans (Cert.ModRefIdeal.Read.val_main_v4_eq (F := Ideal) _ _ _)).trans ?_, ha⟩
    rw [a0, a1, a2]
    exact (Cert.ModIdeal.Val.whole m c).symm

theorem frame_BiasRef : Cert.quiescent_BiasRefIdeal (hBiasRefIdeal := Cert.BiasRefIdeal.Gen.facts) := fun m ρ _ =>
  (θ_run Cert.BiasRefIdeal.defs _ _).mono (fun r h => ⟨fun c => (h c).2, sem_eq_zero_of_no_sems rfl r.2⟩)
    (Cert.BiasRefIdeal.Value.run (F := Ideal) m ρ)

theorem values_Bias : Cert.algebraic_BiasIdeal_BiasRefIdeal (hBiasIdeal := Cert.BiasIdeal.Gen.facts) (hBiasRefIdeal := Cert.BiasRefIdeal.Gen.facts) := by
  intro m ρ m' ρ' _ hargs
  refine ⟨_, (θ_run Cert.BiasIdeal.defs _ _).mono (fun r h c => h c) (Cert.BiasIdeal.Value.run (F := Ideal) m ρ), ?_⟩
  refine (θ_run Cert.BiasRefIdeal.defs _ _).mono (fun r h c => ?_) (Cert.BiasRefIdeal.Value.run (F := Ideal) m' ρ')
  obtain ⟨h1, ha⟩ := h c
  obtain ⟨a0, a1⟩ := hargs c
  refine ⟨(h1.trans (Cert.BiasRefIdeal.Read.val_main_v1_eq (F := Ideal) _ _)).trans ?_, ha⟩
  rw [a0, a1]
  rfl

theorem claim : Cert.Claim :=
  ⟨Cert.Kernel.Gen.facts, Cert.KernelIdeal.Gen.facts, Cert.ReferenceIdeal.Gen.facts, Cert.In.Gen.facts, Cert.InIdeal.Gen.facts, Cert.InRefIdeal.Gen.facts, Cert.InD.Gen.facts, Cert.InDIdeal.Gen.facts, Cert.InDRefIdeal.Gen.facts, Cert.InW.Gen.facts, Cert.InWIdeal.Gen.facts, Cert.InWRefIdeal.Gen.facts, Cert.Out.Gen.facts, Cert.OutIdeal.Gen.facts, Cert.OutRefIdeal.Gen.facts, Cert.OutD.Gen.facts, Cert.OutDIdeal.Gen.facts, Cert.OutDRefIdeal.Gen.facts, Cert.OutW.Gen.facts, Cert.OutWIdeal.Gen.facts, Cert.OutWRefIdeal.Gen.facts, Cert.Fwd.Gen.facts, Cert.FwdIdeal.Gen.facts, Cert.FwdRefIdeal.Gen.facts, Cert.InW0.Gen.facts, Cert.InW0Ideal.Gen.facts, Cert.InW0RefIdeal.Gen.facts, Cert.OutW0.Gen.facts, Cert.OutW0Ideal.Gen.facts, Cert.OutW0RefIdeal.Gen.facts,
    Cert.Norm.Gen.facts, Cert.NormIdeal.Gen.facts, Cert.NormRefIdeal.Gen.facts,
    Cert.AdMod.Gen.facts, Cert.AdModIdeal.Gen.facts, Cert.AdModRefIdeal.Gen.facts,
    Cert.AdIn.Gen.facts, Cert.AdInIdeal.Gen.facts, Cert.AdInRefIdeal.Gen.facts,
    Cert.AdOut.Gen.facts, Cert.AdOutIdeal.Gen.facts, Cert.AdOutRefIdeal.Gen.facts,
    Cert.AdGlu.Gen.facts, Cert.AdGluIdeal.Gen.facts, Cert.AdGluRefIdeal.Gen.facts,
    Cert.Loss.Gen.facts, Cert.LossIdeal.Gen.facts, Cert.LossRefIdeal.Gen.facts,
    Cert.Ada.Gen.facts, Cert.AdaIdeal.Gen.facts, Cert.AdaRefIdeal.Gen.facts,
    Cert.Res.Gen.facts, Cert.ResIdeal.Gen.facts, Cert.ResRefIdeal.Gen.facts,
    Cert.Mod.Gen.facts, Cert.ModIdeal.Gen.facts, Cert.ModRefIdeal.Gen.facts,
    Cert.Bias.Gen.facts, Cert.BiasIdeal.Gen.facts, Cert.BiasRefIdeal.Gen.facts,
    Cert.Attn.pre_facts, Cert.Attn.pre_qkv_facts, Cert.AdaIdeal.Val.pre_facts, Cert.Attn.on_facts, Cert.InWIdeal.Val.on_facts, Cert.OutWIdeal.Val.on_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.In.Gen.frame m ρ, fun m ρ _ => Cert.InIdeal.Gen.frame m ρ, frame_InRef,
    fun m ρ _ => Cert.InD.Gen.frame m ρ, fun m ρ _ => Cert.InDIdeal.Gen.frame m ρ, frame_InDRef,
    fun m ρ _ => Cert.InW.Gen.frame m ρ, fun m ρ _ => Cert.InWIdeal.Gen.frame m ρ, frame_InWRef,
    fun m ρ _ => Cert.Out.Gen.frame m ρ, fun m ρ _ => Cert.OutIdeal.Gen.frame m ρ, frame_OutRef,
    fun m ρ _ => Cert.OutD.Gen.frame m ρ, fun m ρ _ => Cert.OutDIdeal.Gen.frame m ρ, frame_OutDRef,
    fun m ρ _ => Cert.OutW.Gen.frame m ρ, fun m ρ _ => Cert.OutWIdeal.Gen.frame m ρ, frame_OutWRef,
    fun m ρ _ => Cert.Fwd.Gen.frame m ρ, fun m ρ _ => Cert.FwdIdeal.Gen.frame m ρ, fun m ρ _ => Cert.FwdIdeal.Gen.frame m ρ,
    frame_FwdRef, fun m ρ _ => frame_FwdRef m ρ trivial,
    fun m ρ _ => Cert.InW0.Gen.frame m ρ, fun m ρ _ => Cert.InW0Ideal.Gen.frame m ρ, frame_InW0Ref,
    fun m ρ _ => Cert.OutW0.Gen.frame m ρ, fun m ρ _ => Cert.OutW0Ideal.Gen.frame m ρ, frame_OutW0Ref,
    fun m ρ _ => Cert.Norm.Gen.frame m ρ, fun m ρ _ => Cert.NormIdeal.Gen.frame m ρ, frame_NormRef,
    fun m ρ _ => Cert.AdMod.Gen.frame m ρ, fun m ρ _ => Cert.AdModIdeal.Gen.frame m ρ, frame_AdModRef,
    fun m ρ _ => Cert.AdIn.Gen.frame m ρ, fun m ρ _ => Cert.AdInIdeal.Gen.frame m ρ, frame_AdInRef,
    fun m ρ _ => Cert.AdOut.Gen.frame m ρ, fun m ρ _ => Cert.AdOutIdeal.Gen.frame m ρ, frame_AdOutRef,
    fun m ρ _ => Cert.AdGlu.Gen.frame m ρ, fun m ρ _ => Cert.AdGluIdeal.Gen.frame m ρ, frame_AdGluRef,
    fun m ρ _ => Cert.Loss.Gen.frame m ρ, fun m ρ _ => Cert.LossIdeal.Gen.frame m ρ, frame_LossRef,
    fun m ρ _ => Cert.Ada.Gen.frame m ρ, fun m ρ _ => Cert.AdaIdeal.Gen.frame m ρ, fun m ρ _ => Cert.AdaIdeal.Gen.frame m ρ,
    frame_AdaRef, fun m ρ _ => frame_AdaRef m ρ trivial,
    fun m ρ _ => Cert.Res.Gen.frame m ρ, fun m ρ _ => Cert.ResIdeal.Gen.frame m ρ, frame_ResRef,
    fun m ρ _ => Cert.Mod.Gen.frame m ρ, fun m ρ _ => Cert.ModIdeal.Gen.frame m ρ, frame_ModRef,
    fun m ρ _ => Cert.Bias.Gen.frame m ρ, fun m ρ _ => Cert.BiasIdeal.Gen.frame m ρ, frame_BiasRef,
    trivial, values, trivial, values_In, trivial, values_InD, trivial, values_InW, trivial, values_Out, trivial, values_OutD, trivial, values_OutW, trivial, values_Fwd, trivial, values_InW0, trivial, values_OutW0,
    trivial, values_Norm, trivial, values_AdMod, trivial, values_AdIn, trivial, values_AdOut, trivial, values_AdGlu, trivial, values_Loss, trivial, values_Ada, trivial, values_Res, trivial, values_Mod, trivial, values_Bias⟩

end Cert.Proof

end
